-- ==== Defs.lean ====
def Pre_Kernel [hPre_fits : Cert.Pre_fits.Facts] (m : (ℓ : Loc Cert.Kernel.nD Cert.Kernel.τ Cert.Kernel.sig) → Buf (Elt Bits) ℓ) : Prop :=
  ∀ c : Dev Cert.Kernel.nD,
    (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesIdeal_sized [hPre_sized : Cert.Pre_sized.Facts] (m : (ℓ : Loc Cert.ScalesIdeal.nD Cert.ScalesIdeal.τ Cert.ScalesIdeal.sig) → Buf (Elt Ideal) ℓ) : Prop :=
  ∀ c : Dev Cert.ScalesIdeal.nD,
    (Cert.Pre_sized.fn (F := Ideal) (m ((c.tc : Thread Cert.ScalesIdeal.nD Cert.ScalesIdeal.τ).loc Cert.ScalesIdeal.main_arg0)) (m ((c.tc : Thread Cert.ScalesIdeal.nD Cert.ScalesIdeal.τ).loc Cert.ScalesIdeal.main_arg1)) (m ((c.tc : Thread Cert.ScalesIdeal.nD Cert.ScalesIdeal.τ).loc Cert.ScalesIdeal.main_arg2))) = (fun _ => 1#1)

def Pre_ScalesReferenceIdeal (m : (ℓ : Loc Cert.ScalesReferenceIdeal.nD Cert.ScalesReferenceIdeal.τ Cert.ScalesReferenceIdeal.sig) → Buf (Elt Ideal) ℓ) : Prop :=
  True

def Pre_ScalesReferenceIdeal_sized [hPre_sized : Cert.Pre_sized.Facts] (m : (ℓ : Loc Cert.ScalesReferenceIdeal.nD Cert.ScalesReferenceIdeal.τ Cert.ScalesReferenceIdeal.sig) → Buf (Elt Ideal) ℓ) : Prop :=
  ∀ c : Dev Cert.ScalesReferenceIdeal.nD,
    (Cert.Pre_sized.fn (F := Ideal) (m ((c.tc : Thread Cert.ScalesReferenceIdeal.nD Cert.ScalesReferenceIdeal.τ).loc Cert.ScalesReferenceIdeal.main_arg0)) (m ((c.tc : Thread Cert.ScalesReferenceIdeal.nD Cert.ScalesReferenceIdeal.τ).loc Cert.ScalesReferenceIdeal.main_arg1)) (m ((c.tc : Thread Cert.ScalesReferenceIdeal.nD Cert.ScalesReferenceIdeal.τ).loc Cert.ScalesReferenceIdeal.main_arg2))) = (fun _ => 1#1)

def quiescent_Kernel [hKernel : Cert.Kernel.Facts] [hPre_fits : Cert.Pre_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ r.2.sem = fun _ => 0)

def quiescent_ScalesIdeal_pre_sized [hScalesIdeal : Cert.ScalesIdeal.Facts] [hPre_sized : Cert.Pre_sized.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal_sized m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ r.2.sem = fun _ => 0)

def quiescent_ScalesReferenceIdeal [hScalesReferenceIdeal : Cert.ScalesReferenceIdeal.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2))
      ∧ r.2.sem = fun _ => 0)

def quiescent_ScalesReferenceIdeal_pre_sized [hScalesReferenceIdeal : Cert.ScalesReferenceIdeal.Facts] [hPre_sized : Cert.Pre_sized.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal_sized m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2))
      ∧ r.2.sem = fun _ => 0)

def preserves_Kernel_KernelIdeal : Prop :=
  IdealRules.bf16_pair.Statement Cert.KernelIdeal.S256x256 Cert.KernelIdeal.S128x256
  ∧ IdealRules.bf16_pair.SelectZeroStatement Cert.KernelIdeal.S128x256
  ∧ IdealRules.bf16_pair.Statement Cert.KernelIdeal.S512x256 Cert.KernelIdeal.S256x256
  ∧ IdealRules.bf16_pair.SelectZeroStatement Cert.KernelIdeal.S256x256
  ∧ IdealRules.bf16_pair.Statement Cert.KernelIdeal.S768x256 Cert.KernelIdeal.S384x256
  ∧ IdealRules.bf16_pair.SelectZeroStatement Cert.KernelIdeal.S384x256

def algebraic_KernelIdeal_ReferenceIdeal [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Scales_ScalesIdeal : Prop :=
  True

def algebraic_ScalesIdeal_ScalesReferenceIdeal_pre_sized [hScalesIdeal : Cert.ScalesIdeal.Facts] [hScalesReferenceIdeal : Cert.ScalesReferenceIdeal.Facts] [hPre_sized : Cert.Pre_sized.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesReferenceIdeal.nD Cert.ScalesReferenceIdeal.τ Cert.ScalesReferenceIdeal.sig) → Buf (Elt Ideal) ℓ) (g' : Dev Cert.ScalesReferenceIdeal.nD → PrngReg), Pre_ScalesIdeal_sized m →
    (∀ c : Dev Cert.ScalesIdeal.nD,
      m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)
      ∧ m' ((c.tc : Thread Cert.ScalesReferenceIdeal.nD Cert.ScalesReferenceIdeal.τ).loc Cert.ScalesReferenceIdeal.main_arg1) = m ((c.tc : Thread Cert.ScalesIdeal.nD Cert.ScalesIdeal.τ).loc Cert.ScalesIdeal.main_arg1)
      ∧ m' ((c.tc : Thread Cert.ScalesReferenceIdeal.nD Cert.ScalesReferenceIdeal.τ).loc Cert.ScalesReferenceIdeal.main_arg2) = m ((c.tc : Thread Cert.ScalesIdeal.nD Cert.ScalesIdeal.τ).loc Cert.ScalesIdeal.main_arg2)) →
    ∃ (v0 : (c : Dev Cert.ScalesIdeal.nD) → Buf (Elt Ideal) ((c.tc : Thread Cert.ScalesIdeal.nD Cert.ScalesIdeal.τ).loc Cert.ScalesIdeal.main_v0_0)) (v1 : (c : Dev Cert.ScalesIdeal.nD) → Buf (Elt Ideal) ((c.tc : Thread Cert.ScalesIdeal.nD Cert.ScalesIdeal.τ).loc Cert.ScalesIdeal.main_v0_1)) (v2 : (c : Dev Cert.ScalesIdeal.nD) → Buf (Elt Ideal) ((c.tc : Thread Cert.ScalesIdeal.nD Cert.ScalesIdeal.τ).loc Cert.ScalesIdeal.main_v0_2)) (v3 : (c : Dev Cert.ScalesIdeal.nD) → Buf (Elt Ideal) ((c.tc : Thread Cert.ScalesIdeal.nD Cert.ScalesIdeal.τ).loc Cert.ScalesIdeal.main_v0_3)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v0_0) = v0 c
          ∧ r.2.mem ((c.tc : Thread Cert.ScalesIdeal.nD Cert.ScalesIdeal.τ).loc Cert.ScalesIdeal.main_v0_1) = v1 c
          ∧ r.2.mem ((c.tc : Thread Cert.ScalesIdeal.nD Cert.ScalesIdeal.τ).loc Cert.ScalesIdeal.main_v0_2) = v2 c
          ∧ r.2.mem ((c.tc : Thread Cert.ScalesIdeal.nD Cert.ScalesIdeal.τ).loc Cert.ScalesIdeal.main_v0_3) = v3 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
          ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ θ_run (Cert.ScalesReferenceIdeal.defs (F := Ideal)) (onTc (τ := Cert.ScalesReferenceIdeal.τ) (Cert.ScalesReferenceIdeal.main (F := Ideal))) ⟨m', fun _ => 0, g'⟩ (fun r => ∀ c : Dev Cert.ScalesReferenceIdeal.nD,
          r.2.mem ((c.tc : Thread Cert.ScalesReferenceIdeal.nD Cert.ScalesReferenceIdeal.τ).loc Cert.ScalesReferenceIdeal.main_v54) = v0 c
          ∧ r.2.mem ((c.tc : Thread Cert.ScalesReferenceIdeal.nD Cert.ScalesReferenceIdeal.τ).loc Cert.ScalesReferenceIdeal.main_v26) = v1 c
          ∧ r.2.mem ((c.tc : Thread Cert.ScalesReferenceIdeal.nD Cert.ScalesReferenceIdeal.τ).loc Cert.ScalesReferenceIdeal.main_v92) = v2 c
          ∧ r.2.mem ((c.tc : Thread Cert.ScalesReferenceIdeal.nD Cert.ScalesReferenceIdeal.τ).loc Cert.ScalesReferenceIdeal.main_v64) = v3 c
          ∧ r.2.mem ((c.tc : Thread Cert.ScalesReferenceIdeal.nD Cert.ScalesReferenceIdeal.τ).loc Cert.ScalesReferenceIdeal.main_arg0) = m' ((c.tc : Thread Cert.ScalesReferenceIdeal.nD Cert.ScalesReferenceIdeal.τ).loc Cert.ScalesReferenceIdeal.main_arg0)
          ∧ r.2.mem ((c.tc : Thread Cert.ScalesReferenceIdeal.nD Cert.ScalesReferenceIdeal.τ).loc Cert.ScalesReferenceIdeal.main_arg1) = m' ((c.tc : Thread Cert.ScalesReferenceIdeal.nD Cert.ScalesReferenceIdeal.τ).loc Cert.ScalesReferenceIdeal.main_arg1)
          ∧ r.2.mem ((c.tc : Thread Cert.ScalesReferenceIdeal.nD Cert.ScalesReferenceIdeal.τ).loc Cert.ScalesReferenceIdeal.main_arg2) = m' ((c.tc : Thread Cert.ScalesReferenceIdeal.nD Cert.ScalesReferenceIdeal.τ).loc Cert.ScalesReferenceIdeal.main_arg2))

def Claim : Prop :=
  ∃ (hKernel : Cert.Kernel.Facts) (hKernelIdeal : Cert.KernelIdeal.Facts) (hReferenceIdeal : Cert.ReferenceIdeal.Facts) (hScales : Cert.Scales.Facts) (hScalesIdeal : Cert.ScalesIdeal.Facts) (hScalesReferenceIdeal : Cert.ScalesReferenceIdeal.Facts) (hPre_fits : Cert.Pre_fits.Facts) (hPre_sized : Cert.Pre_sized.Facts),
    quiescent_Kernel (hKernel := hKernel) (hPre_fits := hPre_fits)
    ∧ quiescent_KernelIdeal (hKernelIdeal := hKernelIdeal) (hPre_fits := hPre_fits)
    ∧ quiescent_ReferenceIdeal (hReferenceIdeal := hReferenceIdeal) (hPre_fits := hPre_fits)
    ∧ quiescent_Scales (hScales := hScales)
    ∧ quiescent_ScalesIdeal (hScalesIdeal := hScalesIdeal)
    ∧ quiescent_ScalesIdeal_pre_sized (hScalesIdeal := hScalesIdeal) (hPre_sized := hPre_sized)
    ∧ quiescent_ScalesReferenceIdeal (hScalesReferenceIdeal := hScalesReferenceIdeal)
    ∧ quiescent_ScalesReferenceIdeal_pre_sized (hScalesReferenceIdeal := hScalesReferenceIdeal) (hPre_sized := hPre_sized)
    ∧ preserves_Kernel_KernelIdeal
    ∧ algebraic_KernelIdeal_ReferenceIdeal (hKernelIdeal := hKernelIdeal) (hReferenceIdeal := hReferenceIdeal) (hPre_fits := hPre_fits)
    ∧ preserves_Scales_ScalesIdeal
    ∧ algebraic_ScalesIdeal_ScalesReferenceIdeal_pre_sized (hScalesIdeal := hScalesIdeal) (hScalesReferenceIdeal := hScalesReferenceIdeal) (hPre_sized := hPre_sized)
-- ==== Pre_fits.lean ====
abbrev S4 : Shape := ⟨1, ![4]⟩
abbrev S1088x3072 : Shape := ⟨2, ![1088, 3072]⟩
abbrev S1088x5760 : Shape := ⟨2, ![1088, 5760]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : IVec S4 32) (main_arg1 : FVec F S4 .f32) (main_arg2 : FVec F S4 .f32) (main_arg3 : FVec F S1088x3072 .bf16) (main_arg4 : FVec F S1088x5760 .bf16) : IVec S_ 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 1 := constantI S_ 1 1#1
  let main_v2 : IVec S_ 1 := (fun x v => Host.reduce IntOp.andi x v reducesTo_S4_S_d0 h_S_) main_v1 main_c_0
  let main_c_1 : IVec S_ 32 := constantI S_ 32 768#32
  let main_v3 : IVec S4 32 := broadcastInDim S4 ![] bcast_S_S4 main_c_1
  let main_v4 : IVec S4 1 := cmpi .sle main_arg0 main_v3
  let main_c_2 : IVec S_ 1 := constantI S_ 1 1#1
  let main_v5 : IVec S_ 1 := (fun x v => Host.reduce IntOp.andi x v reducesTo_S4_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S4_S_d0 h_S_) main_arg0 main_c_3
  let main_c_4 : IVec S_ 32 := constantI S_ 32 768#32
  let main_v8 : IVec S_ 1 := cmpi .sle main_v7 main_c_4
  let main_v9 : IVec S_ 1 := andi main_v6 main_v8
  main_v9
-- ==== Pre_sized.lean ====
abbrev S4 : Shape := ⟨1, ![4]⟩
abbrev S56x2880 : Shape := ⟨2, ![56, 2880]⟩
abbrev S56x5760 : Shape := ⟨2, ![56, 5760]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : IVec S4 32) (main_arg1 : FVec F S56x2880 .f32) (main_arg2 : FVec F S56x5760 .f32) : IVec S_ 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 1 := constantI S_ 1 1#1
  let main_v2 : IVec S_ 1 := (fun x v => Host.reduce IntOp.andi x v reducesTo_S4_S_d0 h_S_) main_v1 main_c_0
  let main_c_1 : IVec S_ 32 := constantI S_ 32 768#32
  let main_v3 : IVec S4 32 := broadcastInDim S4 ![] bcast_S_S4 main_c_1
  let main_v4 : IVec S4 1 := cmpi .sle main_arg0 main_v3
  let main_c_2 : IVec S_ 1 := constantI S_ 1 1#1
  let main_v5 : IVec S_ 1 := (fun x v => Host.reduce IntOp.andi x v reducesTo_S4_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S4_S_d0 h_S_) main_arg0 main_c_3
  let main_c_4 : IVec S_ 32 := constantI S_ 32 768#32
  let main_v8 : IVec S_ 1 := cmpi .sle main_v7 main_c_4
  let main_v9 : IVec S_ 1 := andi main_v6 main_v8
  main_v9
-- ==== Kernel.lean ====
abbrev S4 : Shape := ⟨1, ![4]⟩
abbrev S1088x3072 : Shape := ⟨2, ![1088, 3072]⟩
abbrev S1088x5760 : Shape := ⟨2, ![1088, 5760]⟩
abbrev S4x2880x5760 : Shape := ⟨3, ![4, 2880, 5760]⟩
abbrev S256x768 : Shape := ⟨2, ![256, 768]⟩
abbrev S96x5760 : Shape := ⟨2, ![96, 5760]⟩
abbrev S_ : Shape := ⟨0, ![]⟩
abbrev S5 : Shape := ⟨1, ![5]⟩
abbrev S1 : Shape := ⟨1, ![1]⟩
abbrev S1x96x5760 : Shape := ⟨3, ![1, 96, 5760]⟩
abbrev S5x256x5760 : Shape := ⟨3, ![5, 256, 5760]⟩
abbrev S1x256x5760 : Shape := ⟨3, ![1, 256, 5760]⟩
abbrev S256x5760 : Shape := ⟨2, ![256, 5760]⟩
abbrev S1x64x5760 : Shape := ⟨3, ![1, 64, 5760]⟩
abbrev S64x5760 : Shape := ⟨2, ![64, 5760]⟩
abbrev S256x256 : Shape := ⟨2, ![256, 256]⟩
abbrev S128x256 : Shape := ⟨2, ![128, 256]⟩
abbrev S256x512 : Shape := ⟨2, ![256, 512]⟩
abbrev S1x256x512 : Shape := ⟨3, ![1, 256, 512]⟩
abbrev S256x128 : Shape := ⟨2, ![256, 128]⟩
abbrev S1x256x128 : Shape := ⟨3, ![1, 256, 128]⟩
abbrev S512x256 : Shape := ⟨2, ![512, 256]⟩
abbrev S512x512 : Shape := ⟨2, ![512, 512]⟩
abbrev S512x128 : Shape := ⟨2, ![512, 128]⟩
abbrev S768x256 : Shape := ⟨2, ![768, 256]⟩
abbrev S384x256 : Shape := ⟨2, ![384, 256]⟩
abbrev S768x512 : Shape := ⟨2, ![768, 512]⟩
abbrev S768x128 : Shape := ⟨2, ![768, 128]⟩

abbrev nBuf : Space → Nat
  | .hbm => 6
  | .vmem => 5
  | .smem => 4
  | _ => 0

abbrev bufTy : (tb : Table) → Fin (tcTables nBuf tb) → BufTy
  | .hbm, ⟨0, _⟩ => ⟨S4, .i32⟩
  | .hbm, ⟨1, _⟩ => ⟨S4, .f32⟩
  | .hbm, ⟨2, _⟩ => ⟨S4, .f32⟩
  | .hbm, ⟨3, _⟩ => ⟨S1088x3072, .bf16⟩
  | .hbm, ⟨4, _⟩ => ⟨S1088x5760, .bf16⟩
  | .hbm, ⟨5, _⟩ => ⟨S4x2880x5760, .f32⟩
  | .local _ .vmem, ⟨0, _⟩ => ⟨S1088x3072, .bf16⟩
  | .local _ .vmem, ⟨1, _⟩ => ⟨S1088x5760, .bf16⟩
  | .local _ .vmem, ⟨2, _⟩ => ⟨S256x768, .bf16⟩
  | .local _ .vmem, ⟨3, _⟩ => ⟨S96x5760, .f32⟩
  | .local _ .vmem, ⟨4, _⟩ => ⟨S5x256x5760, .f32⟩
  | .local _ .smem, ⟨0, _⟩ => ⟨S4, .i32⟩
  | .local _ .smem, ⟨1, _⟩ => ⟨S4, .f32⟩
  | .local _ .smem, ⟨2, _⟩ => ⟨S4, .f32⟩
  | .local _ .smem, ⟨3, _⟩ => ⟨S4, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg3_0 : Ref sig .tc := ⟨.vmem, 0, rfl⟩
abbrev cc0_stg4_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scoped0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_scratch2 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

@[reducible] def k0_t1_loop : Scf.Loop 32 :=
  let c0_i32_39 : BitVec 32 := 0#32
  let c30_i32 : BitVec 32 := 30#32
  let v62 : BitVec 32 := Scalar.addi c0_i32_39 c30_i32
  let c1_i32_40 : BitVec 32 := 1#32
  ⟨c0_i32_39, v62, c1_i32_40⟩
def k0_off1 (k0_t1 : Fin k0_t1_loop.trips) : Fin 3 → Nat :=
  let c0_i32_44 : BitVec 32 := 0#32
  let c0_i32_43 : BitVec 32 := 0#32
  let c0_i32_39 : BitVec 32 := 0#32
  let c1_i32_40 : BitVec 32 := 1#32
  let arg11 : BitVec 32 := Scf.iv c0_i32_39 c1_i32_40 k0_t1
  let c1_i32_42 : BitVec 32 := 1#32
  let v63 : BitVec 32 := Scalar.muli arg11 c1_i32_42
  let v64 : BitVec 32 := Scalar.addi c0_i32_43 v63
  let c96_i32 : BitVec 32 := 96#32
  let v65 : BitVec 32 := Scalar.muli v64 c96_i32
  let c0_i32_45 : BitVec 32 := 0#32
  ![0, v65.toNat, 0]
@[reducible] def k0_t2_loop : Scf.Loop 32 :=
  let c0_i32_39 : BitVec 32 := 0#32
  let c30_i32 : BitVec 32 := 30#32
  let v62 : BitVec 32 := Scalar.addi c0_i32_39 c30_i32
  let c1_i32_40 : BitVec 32 := 1#32
  ⟨c0_i32_39, v62, c1_i32_40⟩
def k0_off2 (k0_t2 : Fin k0_t2_loop.trips) : Fin 3 → Nat :=
  let c1_i32_44 : BitVec 32 := 1#32
  let c0_i32_43 : BitVec 32 := 0#32
  let c0_i32_39 : BitVec 32 := 0#32
  let c1_i32_40 : BitVec 32 := 1#32
  let arg11 : BitVec 32 := Scf.iv c0_i32_39 c1_i32_40 k0_t2
  let c1_i32_42 : BitVec 32 := 1#32
  let v63 : BitVec 32 := Scalar.muli arg11 c1_i32_42
  let v64 : BitVec 32 := Scalar.addi c0_i32_43 v63
  let c96_i32 : BitVec 32 := 96#32
  let v65 : BitVec 32 := Scalar.muli v64 c96_i32
  let c0_i32_45 : BitVec 32 := 0#32
  ![1, v65.toNat, 0]
@[reducible] def k0_t3_loop : Scf.Loop 32 :=
  let c0_i32_39 : BitVec 32 := 0#32
  let c30_i32 : BitVec 32 := 30#32
  let v62 : BitVec 32 := Scalar.addi c0_i32_39 c30_i32
  let c1_i32_40 : BitVec 32 := 1#32
  ⟨c0_i32_39, v62, c1_i32_40⟩
def k0_off3 (k0_t3 : Fin k0_t3_loop.trips) : Fin 3 → Nat :=
  let c2_i32_44 : BitVec 32 := 2#32
  let c0_i32_43 : BitVec 32 := 0#32
  let c0_i32_39 : BitVec 32 := 0#32
  let c1_i32_40 : BitVec 32 := 1#32
  let arg11 : BitVec 32 := Scf.iv c0_i32_39 c1_i32_40 k0_t3
  let c1_i32_42 : BitVec 32 := 1#32
  let v63 : BitVec 32 := Scalar.muli arg11 c1_i32_42
  let v64 : BitVec 32 := Scalar.addi c0_i32_43 v63
  let c96_i32 : BitVec 32 := 96#32
  let v65 : BitVec 32 := Scalar.muli v64 c96_i32
  let c0_i32_45 : BitVec 32 := 0#32
  ![2, v65.toNat, 0]
@[reducible] def k0_t4_loop : Scf.Loop 32 :=
  let c0_i32_39 : BitVec 32 := 0#32
  let c30_i32 : BitVec 32 := 30#32
  let v62 : BitVec 32 := Scalar.addi c0_i32_39 c30_i32
  let c1_i32_40 : BitVec 32 := 1#32
  ⟨c0_i32_39, v62, c1_i32_40⟩
def k0_off4 (k0_t4 : Fin k0_t4_loop.trips) : Fin 3 → Nat :=
  let c3_i32_44 : BitVec 32 := 3#32
  let c0_i32_43 : BitVec 32 := 0#32
  let c0_i32_39 : BitVec 32 := 0#32
  let c1_i32_40 : BitVec 32 := 1#32
  let arg11 : BitVec 32 := Scf.iv c0_i32_39 c1_i32_40 k0_t4
  let c1_i32_42 : BitVec 32 := 1#32
  let v63 : BitVec 32 := Scalar.muli arg11 c1_i32_42
  let v64 : BitVec 32 := Scalar.addi c0_i32_43 v63
  let c96_i32 : BitVec 32 := 96#32
  let v65 : BitVec 32 := Scalar.muli v64 c96_i32
  let c0_i32_45 : BitVec 32 := 0#32
  ![3, v65.toNat, 0]
def k0_off5 (v0 : BitVec 32) : Fin 1 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let v35 : Index := Scalar.indexCast v34
  ![v35.toNat]

def k0_chk1 (v0 : BitVec 32) : Prop :=
  (∀ a, (k0_off5 v0) a + S1.size a ≤ S4.size a)
theorem k0_off5_inb : ∀ (v0 : BitVec 32) (k0_hw1 : k0_chk1 v0), ∀ a, (k0_off5 v0) a + S1.size a ≤ S4.size a := fun v0 k0_hw1 => k0_hw1

def k0_off6 (v0 : BitVec 32) (v1 : BitVec 32) : Fin 1 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let v40 : Index := Scalar.indexCast v39
  ![v40.toNat]

def k0_chk2 (v0 : BitVec 32) (v1 : BitVec 32) : Prop :=
  (∀ a, (k0_off6 v0 v1) a + S1.size a ≤ S4.size a)
theorem k0_off6_inb : ∀ (v0 : BitVec 32) (v1 : BitVec 32) (k0_hw2 : k0_chk2 v0 v1), ∀ a, (k0_off6 v0 v1) a + S1.size a ≤ S4.size a := fun v0 v1 k0_hw2 => k0_hw2

def k0_off7 (v0 : BitVec 32) (v1 : BitVec 32) (v2 : BitVec 32) : Fin 1 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let v45 : Index := Scalar.indexCast v44
  ![v45.toNat]

def k0_chk3 (v0 : BitVec 32) (v1 : BitVec 32) (v2 : BitVec 32) : Prop :=
  (∀ a, (k0_off7 v0 v1 v2) a + S1.size a ≤ S4.size a)
theorem k0_off7_inb : ∀ (v0 : BitVec 32) (v1 : BitVec 32) (v2 : BitVec 32) (k0_hw3 : k0_chk3 v0 v1 v2), ∀ a, (k0_off7 v0 v1 v2) a + S1.size a ≤ S4.size a := fun v0 v1 v2 k0_hw3 => k0_hw3

@[reducible] def k0_t5_loop (v0 : BitVec 32) (v1 : BitVec 32) (v2 : BitVec 32) (v3 : BitVec 32) : Scf.Loop 32 :=
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_47_r0 : BitVec 32 := 1#32
  ⟨c0_i32_45_r0, v71_r0, c1_i32_47_r0⟩

def k0_off8 (v0 : BitVec 32) (v1 : BitVec 32) (v2 : BitVec 32) (v3 : BitVec 32) (k0_t5 : Fin (k0_t5_loop v0 v1 v2 v3).trips) : Fin 1 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_59_r0 : BitVec 32 := 12#32
  let v86_r0 : BitVec 32 := Scalar.divsi v85_r0 c12_i32_59_r0
  let v87_r0 : Index := Scalar.indexCast v86_r0
  ![v87_r0.toNat]
def k0_cond5 (v0 : BitVec 32) (v1 : BitVec 32) (v2 : BitVec 32) (v3 : BitVec 32) (k0_t5 : Fin (k0_t5_loop v0 v1 v2 v3).trips) : BitVec 1 :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_62_r0 : BitVec 32 := 5#32
  let v91_r0 : BitVec 1 := Scalar.cmpi .sge v85_r0 c5_i32_62_r0
  let v92_r0 : BitVec 32 := Scalar.extui v91_r0
  let c0_i32_63_r0 : BitVec 32 := 0#32
  let v93_r0 : BitVec 1 := Scalar.cmpi .ne v92_r0 c0_i32_63_r0
  v93_r0

def k0_cond6 (v0 : BitVec 32) (v1 : BitVec 32) (v2 : BitVec 32) (v3 : BitVec 32) (k0_t5 : Fin (k0_t5_loop v0 v1 v2 v3).trips) : BitVec 1 :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c12_i32_88_r0 : BitVec 32 := 12#32
  let v143_r0 : BitVec 32 := Scalar.remsi v142_r0 c12_i32_88_r0
  let c11_i32_89_r0 : BitVec 32 := 11#32
  let v144_r0 : BitVec 1 := Scalar.cmpi .ne v143_r0 c11_i32_89_r0
  let v145_r0 : BitVec 32 := Scalar.extui v144_r0
  let c0_i32_90_r0 : BitVec 32 := 0#32
  let v146_r0 : BitVec 1 := Scalar.cmpi .ne v145_r0 c0_i32_90_r0
  v146_r0

def k0_off9 (v0 : BitVec 32) (v1 : BitVec 32) (v2 : BitVec 32) (v3 : BitVec 32) (k0_t5 : Fin (k0_t5_loop v0 v1 v2 v3).trips) : Fin 1 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c5_i32_93_r0 : BitVec 32 := 5#32
  let v150_r0 : BitVec 32 := Scalar.remsi v142_r0 c5_i32_93_r0
  ![v150_r0.toNat]
def k0_off10 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c5_i32_93_r0 : BitVec 32 := 5#32
  let v150_r0 : BitVec 32 := Scalar.remsi v142_r0 c5_i32_93_r0
  let c0_i32_97_r0 : BitVec 32 := 0#32
  let c0_i32_98_r0 : BitVec 32 := 0#32
  ![v150_r0.toNat, 0, 0]
def k0_cond7 (v0 : BitVec 32) (v1 : BitVec 32) (v2 : BitVec 32) (v3 : BitVec 32) (k0_t5 : Fin (k0_t5_loop v0 v1 v2 v3).trips) : BitVec 1 :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c12_i32_88_r0 : BitVec 32 := 12#32
  let v143_r0 : BitVec 32 := Scalar.remsi v142_r0 c12_i32_88_r0
  let c11_i32_91_r0 : BitVec 32 := 11#32
  let v147_r0 : BitVec 1 := Scalar.cmpi .eq v143_r0 c11_i32_91_r0
  let v148_r0 : BitVec 32 := Scalar.extui v147_r0
  let c0_i32_92_r0 : BitVec 32 := 0#32
  let v149_r0 : BitVec 1 := Scalar.cmpi .ne v148_r0 c0_i32_92_r0
  v149_r0

def k0_off11 (v0 : BitVec 32) (v1 : BitVec 32) (v2 : BitVec 32) (v3 : BitVec 32) (k0_t5 : Fin (k0_t5_loop v0 v1 v2 v3).trips) : Fin 1 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c5_i32_93_r0 : BitVec 32 := 5#32
  let v150_r0 : BitVec 32 := Scalar.remsi v142_r0 c5_i32_93_r0
  ![v150_r0.toNat]
def k0_off12 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c5_i32_93_r0 : BitVec 32 := 5#32
  let v150_r0 : BitVec 32 := Scalar.remsi v142_r0 c5_i32_93_r0
  let c0_i32_97_r0 : BitVec 32 := 0#32
  let c0_i32_98_r0 : BitVec 32 := 0#32
  ![v150_r0.toNat, 0, 0]
def k0_mult1 (v0 : BitVec 32) (v1 : BitVec 32) (v2 : BitVec 32) (v88_r0 : BitVec 32) : BitVec 32 :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  v110_r0

def k0_off13 (v88_r0 : BitVec 32) : Fin 1 → Nat :=
  let v114_r0 : Index := Scalar.indexCast v88_r0
  ![v114_r0.toNat]
def k0_mult2 (v0 : BitVec 32) (v1 : BitVec 32) (v2 : BitVec 32) (v3 : BitVec 32) (k0_t5 : Fin (k0_t5_loop v0 v1 v2 v3).trips) : BitVec 32 :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_r0 : BitVec 32 := 256#32
  let v119_r0 : BitVec 32 := Scalar.muli v89_r0 c256_i32_r0
  v119_r0
def k0_off14 (v0 : BitVec 32) (v1 : BitVec 32) (v2 : BitVec 32) (v3 : BitVec 32) (k0_t5 : Fin (k0_t5_loop v0 v1 v2 v3).trips) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v142_r0 : Index := Scalar.indexCast v113_r0
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_r0 : BitVec 32 := 256#32
  let v119_r0 : BitVec 32 := Scalar.muli v89_r0 c256_i32_r0
  let v120_r0 : BitVec 32 := v119_r0
  let v143_r0 : Index := Scalar.indexCast v120_r0
  ![v142_r0.toNat, v143_r0.toNat]
def k0_cond8 (v0 : BitVec 32) (v1 : BitVec 32) (v2 : BitVec 32) (v3 : BitVec 32) (v88_r0 : BitVec 32) : BitVec 1 :=
  let c3_i32_76_r0 : BitVec 32 := 3#32
  let v111_r0 : BitVec 1 := Scalar.cmpi .eq v88_r0 c3_i32_76_r0
  let c15_i32_4 : BitVec 32 := 15#32
  let v10 : BitVec 32 := Scalar.addi v3 c15_i32_4
  let c4_i32_5 : BitVec 32 := 4#32
  let v11 : BitVec 32 := Scalar.shrui v10 c4_i32_5
  let c2_i32_73_r0 : BitVec 32 := 2#32
  let v106_r0 : BitVec 1 := Scalar.cmpi .eq v88_r0 c2_i32_73_r0
  let c15_i32_2 : BitVec 32 := 15#32
  let v8 : BitVec 32 := Scalar.addi v2 c15_i32_2
  let c4_i32_3 : BitVec 32 := 4#32
  let v9 : BitVec 32 := Scalar.shrui v8 c4_i32_3
  let c1_i32_70_r0 : BitVec 32 := 1#32
  let v101_r0 : BitVec 1 := Scalar.cmpi .eq v88_r0 c1_i32_70_r0
  let c15_i32_0 : BitVec 32 := 15#32
  let v6 : BitVec 32 := Scalar.addi v1 c15_i32_0
  let c4_i32_1 : BitVec 32 := 4#32
  let v7 : BitVec 32 := Scalar.shrui v6 c4_i32_1
  let c0_i32_67_r0 : BitVec 32 := 0#32
  let v96_r0 : BitVec 1 := Scalar.cmpi .eq v88_r0 c0_i32_67_r0
  let c15_i32 : BitVec 32 := 15#32
  let v4 : BitVec 32 := Scalar.addi v0 c15_i32
  let c4_i32 : BitVec 32 := 4#32
  let v5 : BitVec 32 := Scalar.shrui v4 c4_i32
  let c0_i32_68_r0 : BitVec 32 := 0#32
  let v97_r0 : BitVec 32 := Scalar.select v96_r0 v5 c0_i32_68_r0
  let v102_r0 : BitVec 32 := Scalar.select v101_r0 v7 v97_r0
  let v107_r0 : BitVec 32 := Scalar.select v106_r0 v9 v102_r0
  let v112_r0 : BitVec 32 := Scalar.select v111_r0 v11 v107_r0
  let c0_i32_77_r0 : BitVec 32 := 0#32
  let v121_r0 : BitVec 1 := Scalar.cmpi .sgt v112_r0 c0_i32_77_r0
  let c16_i32_78_r0 : BitVec 32 := 16#32
  let v122_r0 : BitVec 1 := Scalar.cmpi .sle v112_r0 c16_i32_78_r0
  let v123_r0 : BitVec 1 := Scalar.andi v121_r0 v122_r0
  let v124_r0 : BitVec 32 := Scalar.extui v123_r0
  let c0_i32_79_r0 : BitVec 32 := 0#32
  let v125_r0 : BitVec 1 := Scalar.cmpi .ne v124_r0 c0_i32_79_r0
  v125_r0

def k0_off15 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v158_r0 : Index := Scalar.indexCast v113_r0
  let c0_92_r0 : Index := 0#32
  ![v158_r0.toNat, 0]
def k0_off16 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v163_r0 : Index := Scalar.indexCast v90_r0
  let c0_94_r0 : Index := 0#32
  let c0_95_r0 : Index := 0#32
  ![v163_r0.toNat, 0, 0]
def k0_off17 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v168_r0 : Index := Scalar.indexCast v113_r0
  let c512_r0 : Index := 512#32
  ![v168_r0.toNat, 512]
def k0_off18 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v173_r0 : Index := Scalar.indexCast v90_r0
  let c0_99_r0 : Index := 0#32
  let c512_100_r0 : Index := 512#32
  ![v173_r0.toNat, 0, 512]
def k0_off19 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v178_r0 : Index := Scalar.indexCast v113_r0
  let c1024_r0 : Index := 1024#32
  ![v178_r0.toNat, 1024]
def k0_off20 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v183_r0 : Index := Scalar.indexCast v90_r0
  let c0_104_r0 : Index := 0#32
  let c1024_105_r0 : Index := 1024#32
  ![v183_r0.toNat, 0, 1024]
def k0_off21 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v188_r0 : Index := Scalar.indexCast v113_r0
  let c1536_r0 : Index := 1536#32
  ![v188_r0.toNat, 1536]
def k0_off22 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v193_r0 : Index := Scalar.indexCast v90_r0
  let c0_109_r0 : Index := 0#32
  let c1536_110_r0 : Index := 1536#32
  ![v193_r0.toNat, 0, 1536]
def k0_off23 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v198_r0 : Index := Scalar.indexCast v113_r0
  let c2048_r0 : Index := 2048#32
  ![v198_r0.toNat, 2048]
def k0_off24 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v203_r0 : Index := Scalar.indexCast v90_r0
  let c0_114_r0 : Index := 0#32
  let c2048_115_r0 : Index := 2048#32
  ![v203_r0.toNat, 0, 2048]
def k0_off25 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v208_r0 : Index := Scalar.indexCast v113_r0
  let c2560_r0 : Index := 2560#32
  ![v208_r0.toNat, 2560]
def k0_off26 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v213_r0 : Index := Scalar.indexCast v90_r0
  let c0_119_r0 : Index := 0#32
  let c2560_120_r0 : Index := 2560#32
  ![v213_r0.toNat, 0, 2560]
def k0_off27 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v218_r0 : Index := Scalar.indexCast v113_r0
  let c3072_r0 : Index := 3072#32
  ![v218_r0.toNat, 3072]
def k0_off28 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v223_r0 : Index := Scalar.indexCast v90_r0
  let c0_124_r0 : Index := 0#32
  let c3072_125_r0 : Index := 3072#32
  ![v223_r0.toNat, 0, 3072]
def k0_off29 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v228_r0 : Index := Scalar.indexCast v113_r0
  let c3584_r0 : Index := 3584#32
  ![v228_r0.toNat, 3584]
def k0_off30 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v233_r0 : Index := Scalar.indexCast v90_r0
  let c0_129_r0 : Index := 0#32
  let c3584_130_r0 : Index := 3584#32
  ![v233_r0.toNat, 0, 3584]
def k0_off31 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v238_r0 : Index := Scalar.indexCast v113_r0
  let c4096_r0 : Index := 4096#32
  ![v238_r0.toNat, 4096]
def k0_off32 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v243_r0 : Index := Scalar.indexCast v90_r0
  let c0_134_r0 : Index := 0#32
  let c4096_135_r0 : Index := 4096#32
  ![v243_r0.toNat, 0, 4096]
def k0_off33 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v248_r0 : Index := Scalar.indexCast v113_r0
  let c4608_r0 : Index := 4608#32
  ![v248_r0.toNat, 4608]
def k0_off34 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v253_r0 : Index := Scalar.indexCast v90_r0
  let c0_139_r0 : Index := 0#32
  let c4608_140_r0 : Index := 4608#32
  ![v253_r0.toNat, 0, 4608]
def k0_off35 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v258_r0 : Index := Scalar.indexCast v113_r0
  let c5120_r0 : Index := 5120#32
  ![v258_r0.toNat, 5120]
def k0_off36 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v263_r0 : Index := Scalar.indexCast v90_r0
  let c0_144_r0 : Index := 0#32
  let c5120_145_r0 : Index := 5120#32
  ![v263_r0.toNat, 0, 5120]
def k0_off37 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v268_r0 : Index := Scalar.indexCast v113_r0
  let c5632_r0 : Index := 5632#32
  ![v268_r0.toNat, 5632]
def k0_off38 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v273_r0 : Index := Scalar.indexCast v90_r0
  let c0_149_r0 : Index := 0#32
  let c5632_150_r0 : Index := 5632#32
  ![v273_r0.toNat, 0, 5632]
def k0_off39 (v0 : BitVec 32) (v1 : BitVec 32) (v2 : BitVec 32) (v3 : BitVec 32) (k0_t5 : Fin (k0_t5_loop v0 v1 v2 v3).trips) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v142_r0 : Index := Scalar.indexCast v113_r0
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_r0 : BitVec 32 := 256#32
  let v119_r0 : BitVec 32 := Scalar.muli v89_r0 c256_i32_r0
  let v120_r0 : BitVec 32 := v119_r0
  let v143_r0 : Index := Scalar.indexCast v120_r0
  ![v142_r0.toNat, v143_r0.toNat]
def k0_cond9 (v0 : BitVec 32) (v1 : BitVec 32) (v2 : BitVec 32) (v3 : BitVec 32) (v88_r0 : BitVec 32) : BitVec 1 :=
  let c3_i32_76_r0 : BitVec 32 := 3#32
  let v111_r0 : BitVec 1 := Scalar.cmpi .eq v88_r0 c3_i32_76_r0
  let c15_i32_4 : BitVec 32 := 15#32
  let v10 : BitVec 32 := Scalar.addi v3 c15_i32_4
  let c4_i32_5 : BitVec 32 := 4#32
  let v11 : BitVec 32 := Scalar.shrui v10 c4_i32_5
  let c2_i32_73_r0 : BitVec 32 := 2#32
  let v106_r0 : BitVec 1 := Scalar.cmpi .eq v88_r0 c2_i32_73_r0
  let c15_i32_2 : BitVec 32 := 15#32
  let v8 : BitVec 32 := Scalar.addi v2 c15_i32_2
  let c4_i32_3 : BitVec 32 := 4#32
  let v9 : BitVec 32 := Scalar.shrui v8 c4_i32_3
  let c1_i32_70_r0 : BitVec 32 := 1#32
  let v101_r0 : BitVec 1 := Scalar.cmpi .eq v88_r0 c1_i32_70_r0
  let c15_i32_0 : BitVec 32 := 15#32
  let v6 : BitVec 32 := Scalar.addi v1 c15_i32_0
  let c4_i32_1 : BitVec 32 := 4#32
  let v7 : BitVec 32 := Scalar.shrui v6 c4_i32_1
  let c0_i32_67_r0 : BitVec 32 := 0#32
  let v96_r0 : BitVec 1 := Scalar.cmpi .eq v88_r0 c0_i32_67_r0
  let c15_i32 : BitVec 32 := 15#32
  let v4 : BitVec 32 := Scalar.addi v0 c15_i32
  let c4_i32 : BitVec 32 := 4#32
  let v5 : BitVec 32 := Scalar.shrui v4 c4_i32
  let c0_i32_68_r0 : BitVec 32 := 0#32
  let v97_r0 : BitVec 32 := Scalar.select v96_r0 v5 c0_i32_68_r0
  let v102_r0 : BitVec 32 := Scalar.select v101_r0 v7 v97_r0
  let v107_r0 : BitVec 32 := Scalar.select v106_r0 v9 v102_r0
  let v112_r0 : BitVec 32 := Scalar.select v111_r0 v11 v107_r0
  let c16_i32_80_r0 : BitVec 32 := 16#32
  let v126_r0 : BitVec 1 := Scalar.cmpi .sgt v112_r0 c16_i32_80_r0
  let c32_i32_r0 : BitVec 32 := 32#32
  let v127_r0 : BitVec 1 := Scalar.cmpi .sle v112_r0 c32_i32_r0
  let v128_r0 : BitVec 1 := Scalar.andi v126_r0 v127_r0
  let v129_r0 : BitVec 32 := Scalar.extui v128_r0
  let c0_i32_81_r0 : BitVec 32 := 0#32
  let v130_r0 : BitVec 1 := Scalar.cmpi .ne v129_r0 c0_i32_81_r0
  v130_r0

def k0_off40 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v158_r0 : Index := Scalar.indexCast v113_r0
  let c0_92_r0 : Index := 0#32
  ![v158_r0.toNat, 0]
def k0_off41 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v163_r0 : Index := Scalar.indexCast v90_r0
  let c0_94_r0 : Index := 0#32
  let c0_95_r0 : Index := 0#32
  ![v163_r0.toNat, 0, 0]
def k0_off42 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v168_r0 : Index := Scalar.indexCast v113_r0
  let c512_r0 : Index := 512#32
  ![v168_r0.toNat, 512]
def k0_off43 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v173_r0 : Index := Scalar.indexCast v90_r0
  let c0_99_r0 : Index := 0#32
  let c512_100_r0 : Index := 512#32
  ![v173_r0.toNat, 0, 512]
def k0_off44 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v178_r0 : Index := Scalar.indexCast v113_r0
  let c1024_r0 : Index := 1024#32
  ![v178_r0.toNat, 1024]
def k0_off45 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v183_r0 : Index := Scalar.indexCast v90_r0
  let c0_104_r0 : Index := 0#32
  let c1024_105_r0 : Index := 1024#32
  ![v183_r0.toNat, 0, 1024]
def k0_off46 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v188_r0 : Index := Scalar.indexCast v113_r0
  let c1536_r0 : Index := 1536#32
  ![v188_r0.toNat, 1536]
def k0_off47 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v193_r0 : Index := Scalar.indexCast v90_r0
  let c0_109_r0 : Index := 0#32
  let c1536_110_r0 : Index := 1536#32
  ![v193_r0.toNat, 0, 1536]
def k0_off48 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v198_r0 : Index := Scalar.indexCast v113_r0
  let c2048_r0 : Index := 2048#32
  ![v198_r0.toNat, 2048]
def k0_off49 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v203_r0 : Index := Scalar.indexCast v90_r0
  let c0_114_r0 : Index := 0#32
  let c2048_115_r0 : Index := 2048#32
  ![v203_r0.toNat, 0, 2048]
def k0_off50 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v208_r0 : Index := Scalar.indexCast v113_r0
  let c2560_r0 : Index := 2560#32
  ![v208_r0.toNat, 2560]
def k0_off51 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v213_r0 : Index := Scalar.indexCast v90_r0
  let c0_119_r0 : Index := 0#32
  let c2560_120_r0 : Index := 2560#32
  ![v213_r0.toNat, 0, 2560]
def k0_off52 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v218_r0 : Index := Scalar.indexCast v113_r0
  let c3072_r0 : Index := 3072#32
  ![v218_r0.toNat, 3072]
def k0_off53 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v223_r0 : Index := Scalar.indexCast v90_r0
  let c0_124_r0 : Index := 0#32
  let c3072_125_r0 : Index := 3072#32
  ![v223_r0.toNat, 0, 3072]
def k0_off54 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v228_r0 : Index := Scalar.indexCast v113_r0
  let c3584_r0 : Index := 3584#32
  ![v228_r0.toNat, 3584]
def k0_off55 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v233_r0 : Index := Scalar.indexCast v90_r0
  let c0_129_r0 : Index := 0#32
  let c3584_130_r0 : Index := 3584#32
  ![v233_r0.toNat, 0, 3584]
def k0_off56 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v238_r0 : Index := Scalar.indexCast v113_r0
  let c4096_r0 : Index := 4096#32
  ![v238_r0.toNat, 4096]
def k0_off57 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v243_r0 : Index := Scalar.indexCast v90_r0
  let c0_134_r0 : Index := 0#32
  let c4096_135_r0 : Index := 4096#32
  ![v243_r0.toNat, 0, 4096]
def k0_off58 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v248_r0 : Index := Scalar.indexCast v113_r0
  let c4608_r0 : Index := 4608#32
  ![v248_r0.toNat, 4608]
def k0_off59 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v253_r0 : Index := Scalar.indexCast v90_r0
  let c0_139_r0 : Index := 0#32
  let c4608_140_r0 : Index := 4608#32
  ![v253_r0.toNat, 0, 4608]
def k0_off60 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v258_r0 : Index := Scalar.indexCast v113_r0
  let c5120_r0 : Index := 5120#32
  ![v258_r0.toNat, 5120]
def k0_off61 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v263_r0 : Index := Scalar.indexCast v90_r0
  let c0_144_r0 : Index := 0#32
  let c5120_145_r0 : Index := 5120#32
  ![v263_r0.toNat, 0, 5120]
def k0_off62 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v268_r0 : Index := Scalar.indexCast v113_r0
  let c5632_r0 : Index := 5632#32
  ![v268_r0.toNat, 5632]
def k0_off63 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v273_r0 : Index := Scalar.indexCast v90_r0
  let c0_149_r0 : Index := 0#32
  let c5632_150_r0 : Index := 5632#32
  ![v273_r0.toNat, 0, 5632]
def k0_off64 (v0 : BitVec 32) (v1 : BitVec 32) (v2 : BitVec 32) (v3 : BitVec 32) (k0_t5 : Fin (k0_t5_loop v0 v1 v2 v3).trips) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v142_r0 : Index := Scalar.indexCast v113_r0
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_r0 : BitVec 32 := 256#32
  let v119_r0 : BitVec 32 := Scalar.muli v89_r0 c256_i32_r0
  let v120_r0 : BitVec 32 := v119_r0
  let v143_r0 : Index := Scalar.indexCast v120_r0
  ![v142_r0.toNat, v143_r0.toNat]
def k0_cond10 (v0 : BitVec 32) (v1 : BitVec 32) (v2 : BitVec 32) (v3 : BitVec 32) (v88_r0 : BitVec 32) : BitVec 1 :=
  let c3_i32_76_r0 : BitVec 32 := 3#32
  let v111_r0 : BitVec 1 := Scalar.cmpi .eq v88_r0 c3_i32_76_r0
  let c15_i32_4 : BitVec 32 := 15#32
  let v10 : BitVec 32 := Scalar.addi v3 c15_i32_4
  let c4_i32_5 : BitVec 32 := 4#32
  let v11 : BitVec 32 := Scalar.shrui v10 c4_i32_5
  let c2_i32_73_r0 : BitVec 32 := 2#32
  let v106_r0 : BitVec 1 := Scalar.cmpi .eq v88_r0 c2_i32_73_r0
  let c15_i32_2 : BitVec 32 := 15#32
  let v8 : BitVec 32 := Scalar.addi v2 c15_i32_2
  let c4_i32_3 : BitVec 32 := 4#32
  let v9 : BitVec 32 := Scalar.shrui v8 c4_i32_3
  let c1_i32_70_r0 : BitVec 32 := 1#32
  let v101_r0 : BitVec 1 := Scalar.cmpi .eq v88_r0 c1_i32_70_r0
  let c15_i32_0 : BitVec 32 := 15#32
  let v6 : BitVec 32 := Scalar.addi v1 c15_i32_0
  let c4_i32_1 : BitVec 32 := 4#32
  let v7 : BitVec 32 := Scalar.shrui v6 c4_i32_1
  let c0_i32_67_r0 : BitVec 32 := 0#32
  let v96_r0 : BitVec 1 := Scalar.cmpi .eq v88_r0 c0_i32_67_r0
  let c15_i32 : BitVec 32 := 15#32
  let v4 : BitVec 32 := Scalar.addi v0 c15_i32
  let c4_i32 : BitVec 32 := 4#32
  let v5 : BitVec 32 := Scalar.shrui v4 c4_i32
  let c0_i32_68_r0 : BitVec 32 := 0#32
  let v97_r0 : BitVec 32 := Scalar.select v96_r0 v5 c0_i32_68_r0
  let v102_r0 : BitVec 32 := Scalar.select v101_r0 v7 v97_r0
  let v107_r0 : BitVec 32 := Scalar.select v106_r0 v9 v102_r0
  let v112_r0 : BitVec 32 := Scalar.select v111_r0 v11 v107_r0
  let c32_i32_82_r0 : BitVec 32 := 32#32
  let v131_r0 : BitVec 1 := Scalar.cmpi .sgt v112_r0 c32_i32_82_r0
  let c48_i32_r0 : BitVec 32 := 48#32
  let v132_r0 : BitVec 1 := Scalar.cmpi .sle v112_r0 c48_i32_r0
  let v133_r0 : BitVec 1 := Scalar.andi v131_r0 v132_r0
  let v134_r0 : BitVec 32 := Scalar.extui v133_r0
  let c0_i32_83_r0 : BitVec 32 := 0#32
  let v135_r0 : BitVec 1 := Scalar.cmpi .ne v134_r0 c0_i32_83_r0
  v135_r0

def k0_off65 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v158_r0 : Index := Scalar.indexCast v113_r0
  let c0_92_r0 : Index := 0#32
  ![v158_r0.toNat, 0]
def k0_off66 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v163_r0 : Index := Scalar.indexCast v90_r0
  let c0_94_r0 : Index := 0#32
  let c0_95_r0 : Index := 0#32
  ![v163_r0.toNat, 0, 0]
def k0_off67 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v168_r0 : Index := Scalar.indexCast v113_r0
  let c512_r0 : Index := 512#32
  ![v168_r0.toNat, 512]
def k0_off68 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v173_r0 : Index := Scalar.indexCast v90_r0
  let c0_99_r0 : Index := 0#32
  let c512_100_r0 : Index := 512#32
  ![v173_r0.toNat, 0, 512]
def k0_off69 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v178_r0 : Index := Scalar.indexCast v113_r0
  let c1024_r0 : Index := 1024#32
  ![v178_r0.toNat, 1024]
def k0_off70 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v183_r0 : Index := Scalar.indexCast v90_r0
  let c0_104_r0 : Index := 0#32
  let c1024_105_r0 : Index := 1024#32
  ![v183_r0.toNat, 0, 1024]
def k0_off71 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v188_r0 : Index := Scalar.indexCast v113_r0
  let c1536_r0 : Index := 1536#32
  ![v188_r0.toNat, 1536]
def k0_off72 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v193_r0 : Index := Scalar.indexCast v90_r0
  let c0_109_r0 : Index := 0#32
  let c1536_110_r0 : Index := 1536#32
  ![v193_r0.toNat, 0, 1536]
def k0_off73 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v198_r0 : Index := Scalar.indexCast v113_r0
  let c2048_r0 : Index := 2048#32
  ![v198_r0.toNat, 2048]
def k0_off74 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v203_r0 : Index := Scalar.indexCast v90_r0
  let c0_114_r0 : Index := 0#32
  let c2048_115_r0 : Index := 2048#32
  ![v203_r0.toNat, 0, 2048]
def k0_off75 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v208_r0 : Index := Scalar.indexCast v113_r0
  let c2560_r0 : Index := 2560#32
  ![v208_r0.toNat, 2560]
def k0_off76 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v213_r0 : Index := Scalar.indexCast v90_r0
  let c0_119_r0 : Index := 0#32
  let c2560_120_r0 : Index := 2560#32
  ![v213_r0.toNat, 0, 2560]
def k0_off77 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v218_r0 : Index := Scalar.indexCast v113_r0
  let c3072_r0 : Index := 3072#32
  ![v218_r0.toNat, 3072]
def k0_off78 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v223_r0 : Index := Scalar.indexCast v90_r0
  let c0_124_r0 : Index := 0#32
  let c3072_125_r0 : Index := 3072#32
  ![v223_r0.toNat, 0, 3072]
def k0_off79 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v228_r0 : Index := Scalar.indexCast v113_r0
  let c3584_r0 : Index := 3584#32
  ![v228_r0.toNat, 3584]
def k0_off80 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v233_r0 : Index := Scalar.indexCast v90_r0
  let c0_129_r0 : Index := 0#32
  let c3584_130_r0 : Index := 3584#32
  ![v233_r0.toNat, 0, 3584]
def k0_off81 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v238_r0 : Index := Scalar.indexCast v113_r0
  let c4096_r0 : Index := 4096#32
  ![v238_r0.toNat, 4096]
def k0_off82 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v243_r0 : Index := Scalar.indexCast v90_r0
  let c0_134_r0 : Index := 0#32
  let c4096_135_r0 : Index := 4096#32
  ![v243_r0.toNat, 0, 4096]
def k0_off83 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v248_r0 : Index := Scalar.indexCast v113_r0
  let c4608_r0 : Index := 4608#32
  ![v248_r0.toNat, 4608]
def k0_off84 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v253_r0 : Index := Scalar.indexCast v90_r0
  let c0_139_r0 : Index := 0#32
  let c4608_140_r0 : Index := 4608#32
  ![v253_r0.toNat, 0, 4608]
def k0_off85 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v258_r0 : Index := Scalar.indexCast v113_r0
  let c5120_r0 : Index := 5120#32
  ![v258_r0.toNat, 5120]
def k0_off86 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v263_r0 : Index := Scalar.indexCast v90_r0
  let c0_144_r0 : Index := 0#32
  let c5120_145_r0 : Index := 5120#32
  ![v263_r0.toNat, 0, 5120]
def k0_off87 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v268_r0 : Index := Scalar.indexCast v113_r0
  let c5632_r0 : Index := 5632#32
  ![v268_r0.toNat, 5632]
def k0_off88 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v273_r0 : Index := Scalar.indexCast v90_r0
  let c0_149_r0 : Index := 0#32
  let c5632_150_r0 : Index := 5632#32
  ![v273_r0.toNat, 0, 5632]
def k0_cond11 (v0 : BitVec 32) (v1 : BitVec 32) (v2 : BitVec 32) (v3 : BitVec 32) (k0_t5 : Fin (k0_t5_loop v0 v1 v2 v3).trips) : BitVec 1 :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c11_i32_r0 : BitVec 32 := 11#32
  let v136_r0 : BitVec 1 := Scalar.cmpi .ne v89_r0 c11_i32_r0
  let v137_r0 : BitVec 32 := Scalar.extui v136_r0
  let c0_i32_84_r0 : BitVec 32 := 0#32
  let v138_r0 : BitVec 1 := Scalar.cmpi .ne v137_r0 c0_i32_84_r0
  v138_r0

def k0_off89 (v0 : BitVec 32) (v1 : BitVec 32) (v2 : BitVec 32) (v3 : BitVec 32) (k0_t5 : Fin (k0_t5_loop v0 v1 v2 v3).trips) : Fin 1 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  ![v90_r0.toNat]
def k0_off90 (v0 : BitVec 32) (v1 : BitVec 32) (v2 : BitVec 32) (v3 : BitVec 32) (k0_t5 : Fin (k0_t5_loop v0 v1 v2 v3).trips) (v88_r0 : BitVec 32) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_87_r0 : BitVec 32 := 256#32
  let v142_r0 : BitVec 32 := Scalar.muli v89_r0 c256_i32_87_r0
  let c0_i32_88_r0 : BitVec 32 := 0#32
  ![v88_r0.toNat, v142_r0.toNat, 0]
def k0_off91 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let c0_i32_89_r0 : BitVec 32 := 0#32
  let c0_i32_90_r0 : BitVec 32 := 0#32
  ![v90_r0.toNat, 0, 0]
def k0_cond12 (v0 : BitVec 32) (v1 : BitVec 32) (v2 : BitVec 32) (v3 : BitVec 32) (k0_t5 : Fin (k0_t5_loop v0 v1 v2 v3).trips) : BitVec 1 :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c11_i32_85_r0 : BitVec 32 := 11#32
  let v139_r0 : BitVec 1 := Scalar.cmpi .eq v89_r0 c11_i32_85_r0
  let v140_r0 : BitVec 32 := Scalar.extui v139_r0
  let c0_i32_86_r0 : BitVec 32 := 0#32
  let v141_r0 : BitVec 1 := Scalar.cmpi .ne v140_r0 c0_i32_86_r0
  v141_r0

def k0_off92 (v0 : BitVec 32) (v1 : BitVec 32) (v2 : BitVec 32) (v3 : BitVec 32) (k0_t5 : Fin (k0_t5_loop v0 v1 v2 v3).trips) : Fin 1 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  ![v90_r0.toNat]
def k0_off93 (v0 : BitVec 32) (v1 : BitVec 32) (v2 : BitVec 32) (v3 : BitVec 32) (k0_t5 : Fin (k0_t5_loop v0 v1 v2 v3).trips) (v88_r0 : BitVec 32) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_87_r0 : BitVec 32 := 256#32
  let v142_r0 : BitVec 32 := Scalar.muli v89_r0 c256_i32_87_r0
  let c0_i32_88_r0 : BitVec 32 := 0#32
  ![v88_r0.toNat, v142_r0.toNat, 0]

def k0_chk5_0 (v0 : BitVec 32) (v1 : BitVec 32) (v2 : BitVec 32) (v3 : BitVec 32) (k0_t5 : Fin (k0_t5_loop v0 v1 v2 v3).trips) (v88_r0 : BitVec 32) : Prop :=
  (16 ∣ (k0_mult1 v0 v1 v2 v88_r0).toNat) ∧
  (∀ a, (k0_off13 v88_r0) a + S1.size a ≤ S4.size a) ∧
  (∀ (k0_h8 : k0_cond8 v0 v1 v2 v3 v88_r0 = 1#1), ∀ a, (k0_off14 v0 v1 v2 v3 k0_t5 v88_r0) a + S256x256.size a ≤ S1088x3072.size a) ∧
  (∀ (k0_h8 : k0_cond8 v0 v1 v2 v3 v88_r0 = 1#1), ∀ a, (k0_off15 v0 v1 v2 v88_r0) a + S256x512.size a ≤ S1088x5760.size a) ∧
  (∀ (k0_h8 : k0_cond8 v0 v1 v2 v3 v88_r0 = 1#1), ∀ a, (k0_off16 v0 v1 v2 v3 k0_t5) a + S1x256x512.size a ≤ S5x256x5760.size a) ∧
  (∀ (k0_h8 : k0_cond8 v0 v1 v2 v3 v88_r0 = 1#1), ∀ a, (k0_off17 v0 v1 v2 v88_r0) a + S256x512.size a ≤ S1088x5760.size a) ∧
  (∀ (k0_h8 : k0_cond8 v0 v1 v2 v3 v88_r0 = 1#1), ∀ a, (k0_off18 v0 v1 v2 v3 k0_t5) a + S1x256x512.size a ≤ S5x256x5760.size a) ∧
  (∀ (k0_h8 : k0_cond8 v0 v1 v2 v3 v88_r0 = 1#1), ∀ a, (k0_off19 v0 v1 v2 v88_r0) a + S256x512.size a ≤ S1088x5760.size a) ∧
  (∀ (k0_h8 : k0_cond8 v0 v1 v2 v3 v88_r0 = 1#1), ∀ a, (k0_off20 v0 v1 v2 v3 k0_t5) a + S1x256x512.size a ≤ S5x256x5760.size a) ∧
  (∀ (k0_h8 : k0_cond8 v0 v1 v2 v3 v88_r0 = 1#1), ∀ a, (k0_off21 v0 v1 v2 v88_r0) a + S256x512.size a ≤ S1088x5760.size a) ∧
  (∀ (k0_h8 : k0_cond8 v0 v1 v2 v3 v88_r0 = 1#1), ∀ a, (k0_off22 v0 v1 v2 v3 k0_t5) a + S1x256x512.size a ≤ S5x256x5760.size a) ∧
  (∀ (k0_h8 : k0_cond8 v0 v1 v2 v3 v88_r0 = 1#1), ∀ a, (k0_off23 v0 v1 v2 v88_r0) a + S256x512.size a ≤ S1088x5760.size a) ∧
  (∀ (k0_h8 : k0_cond8 v0 v1 v2 v3 v88_r0 = 1#1), ∀ a, (k0_off24 v0 v1 v2 v3 k0_t5) a + S1x256x512.size a ≤ S5x256x5760.size a) ∧
  (∀ (k0_h8 : k0_cond8 v0 v1 v2 v3 v88_r0 = 1#1), ∀ a, (k0_off25 v0 v1 v2 v88_r0) a + S256x512.size a ≤ S1088x5760.size a) ∧
  (∀ (k0_h8 : k0_cond8 v0 v1 v2 v3 v88_r0 = 1#1), ∀ a, (k0_off26 v0 v1 v2 v3 k0_t5) a + S1x256x512.size a ≤ S5x256x5760.size a) ∧
  (∀ (k0_h8 : k0_cond8 v0 v1 v2 v3 v88_r0 = 1#1), ∀ a, (k0_off27 v0 v1 v2 v88_r0) a + S256x512.size a ≤ S1088x5760.size a) ∧
  (∀ (k0_h8 : k0_cond8 v0 v1 v2 v3 v88_r0 = 1#1), ∀ a, (k0_off28 v0 v1 v2 v3 k0_t5) a + S1x256x512.size a ≤ S5x256x5760.size a) ∧
  (∀ (k0_h8 : k0_cond8 v0 v1 v2 v3 v88_r0 = 1#1), ∀ a, (k0_off29 v0 v1 v2 v88_r0) a + S256x512.size a ≤ S1088x5760.size a) ∧
  (∀ (k0_h8 : k0_cond8 v0 v1 v2 v3 v88_r0 = 1#1), ∀ a, (k0_off30 v0 v1 v2 v3 k0_t5) a + S1x256x512.size a ≤ S5x256x5760.size a) ∧
  (∀ (k0_h8 : k0_cond8 v0 v1 v2 v3 v88_r0 = 1#1), ∀ a, (k0_off31 v0 v1 v2 v88_r0) a + S256x512.size a ≤ S1088x5760.size a) ∧
  (∀ (k0_h8 : k0_cond8 v0 v1 v2 v3 v88_r0 = 1#1), ∀ a, (k0_off32 v0 v1 v2 v3 k0_t5) a + S1x256x512.size a ≤ S5x256x5760.size a) ∧
  (∀ (k0_h8 : k0_cond8 v0 v1 v2 v3 v88_r0 = 1#1), ∀ a, (k0_off33 v0 v1 v2 v88_r0) a + S256x512.size a ≤ S1088x5760.size a) ∧
  (∀ (k0_h8 : k0_cond8 v0 v1 v2 v3 v88_r0 = 1#1), ∀ a, (k0_off34 v0 v1 v2 v3 k0_t5) a + S1x256x512.size a ≤ S5x256x5760.size a) ∧
  (∀ (k0_h8 : k0_cond8 v0 v1 v2 v3 v88_r0 = 1#1), ∀ a, (k0_off35 v0 v1 v2 v88_r0) a + S256x512.size a ≤ S1088x5760.size a) ∧
  (∀ (k0_h8 : k0_cond8 v0 v1 v2 v3 v88_r0 = 1#1), ∀ a, (k0_off36 v0 v1 v2 v3 k0_t5) a + S1x256x512.size a ≤ S5x256x5760.size a) ∧
  (∀ (k0_h8 : k0_cond8 v0 v1 v2 v3 v88_r0 = 1#1), ∀ a, (k0_off37 v0 v1 v2 v88_r0) a + S256x128.size a ≤ S1088x5760.size a) ∧
  (∀ (k0_h8 : k0_cond8 v0 v1 v2 v3 v88_r0 = 1#1), ∀ a, (k0_off38 v0 v1 v2 v3 k0_t5) a + S1x256x128.size a ≤ S5x256x5760.size a) ∧
  (∀ (k0_h9 : k0_cond9 v0 v1 v2 v3 v88_r0 = 1#1), ∀ a, (k0_off39 v0 v1 v2 v3 k0_t5 v88_r0) a + S512x256.size a ≤ S1088x3072.size a) ∧
  (∀ (k0_h9 : k0_cond9 v0 v1 v2 v3 v88_r0 = 1#1), ∀ a, (k0_off40 v0 v1 v2 v88_r0) a + S512x512.size a ≤ S1088x5760.size a) ∧
  (∀ (k0_h9 : k0_cond9 v0 v1 v2 v3 v88_r0 = 1#1), ∀ a, (k0_off41 v0 v1 v2 v3 k0_t5) a + S1x256x512.size a ≤ S5x256x5760.size a) ∧
  (∀ (k0_h9 : k0_cond9 v0 v1 v2 v3 v88_r0 = 1#1), ∀ a, (k0_off42 v0 v1 v2 v88_r0) a + S512x512.size a ≤ S1088x5760.size a) ∧
  (∀ (k0_h9 : k0_cond9 v0 v1 v2 v3 v88_r0 = 1#1), ∀ a, (k0_off43 v0 v1 v2 v3 k0_t5) a + S1x256x512.size a ≤ S5x256x5760.size a)
def k0_chk5_1 (v0 : BitVec 32) (v1 : BitVec 32) (v2 : BitVec 32) (v3 : BitVec 32) (k0_t5 : Fin (k0_t5_loop v0 v1 v2 v3).trips) (v88_r0 : BitVec 32) : Prop :=
  (∀ (k0_h9 : k0_cond9 v0 v1 v2 v3 v88_r0 = 1#1), ∀ a, (k0_off44 v0 v1 v2 v88_r0) a + S512x512.size a ≤ S1088x5760.size a) ∧
  (∀ (k0_h9 : k0_cond9 v0 v1 v2 v3 v88_r0 = 1#1), ∀ a, (k0_off45 v0 v1 v2 v3 k0_t5) a + S1x256x512.size a ≤ S5x256x5760.size a) ∧
  (∀ (k0_h9 : k0_cond9 v0 v1 v2 v3 v88_r0 = 1#1), ∀ a, (k0_off46 v0 v1 v2 v88_r0) a + S512x512.size a ≤ S1088x5760.size a) ∧
  (∀ (k0_h9 : k0_cond9 v0 v1 v2 v3 v88_r0 = 1#1), ∀ a, (k0_off47 v0 v1 v2 v3 k0_t5) a + S1x256x512.size a ≤ S5x256x5760.size a) ∧
  (∀ (k0_h9 : k0_cond9 v0 v1 v2 v3 v88_r0 = 1#1), ∀ a, (k0_off48 v0 v1 v2 v88_r0) a + S512x512.size a ≤ S1088x5760.size a) ∧
  (∀ (k0_h9 : k0_cond9 v0 v1 v2 v3 v88_r0 = 1#1), ∀ a, (k0_off49 v0 v1 v2 v3 k0_t5) a + S1x256x512.size a ≤ S5x256x5760.size a) ∧
  (∀ (k0_h9 : k0_cond9 v0 v1 v2 v3 v88_r0 = 1#1), ∀ a, (k0_off50 v0 v1 v2 v88_r0) a + S512x512.size a ≤ S1088x5760.size a) ∧
  (∀ (k0_h9 : k0_cond9 v0 v1 v2 v3 v88_r0 = 1#1), ∀ a, (k0_off51 v0 v1 v2 v3 k0_t5) a + S1x256x512.size a ≤ S5x256x5760.size a) ∧
  (∀ (k0_h9 : k0_cond9 v0 v1 v2 v3 v88_r0 = 1#1), ∀ a, (k0_off52 v0 v1 v2 v88_r0) a + S512x512.size a ≤ S1088x5760.size a) ∧
  (∀ (k0_h9 : k0_cond9 v0 v1 v2 v3 v88_r0 = 1#1), ∀ a, (k0_off53 v0 v1 v2 v3 k0_t5) a + S1x256x512.size a ≤ S5x256x5760.size a) ∧
  (∀ (k0_h9 : k0_cond9 v0 v1 v2 v3 v88_r0 = 1#1), ∀ a, (k0_off54 v0 v1 v2 v88_r0) a + S512x512.size a ≤ S1088x5760.size a) ∧
  (∀ (k0_h9 : k0_cond9 v0 v1 v2 v3 v88_r0 = 1#1), ∀ a, (k0_off55 v0 v1 v2 v3 k0_t5) a + S1x256x512.size a ≤ S5x256x5760.size a) ∧
  (∀ (k0_h9 : k0_cond9 v0 v1 v2 v3 v88_r0 = 1#1), ∀ a, (k0_off56 v0 v1 v2 v88_r0) a + S512x512.size a ≤ S1088x5760.size a) ∧
  (∀ (k0_h9 : k0_cond9 v0 v1 v2 v3 v88_r0 = 1#1), ∀ a, (k0_off57 v0 v1 v2 v3 k0_t5) a + S1x256x512.size a ≤ S5x256x5760.size a) ∧
  (∀ (k0_h9 : k0_cond9 v0 v1 v2 v3 v88_r0 = 1#1), ∀ a, (k0_off58 v0 v1 v2 v88_r0) a + S512x512.size a ≤ S1088x5760.size a) ∧
  (∀ (k0_h9 : k0_cond9 v0 v1 v2 v3 v88_r0 = 1#1), ∀ a, (k0_off59 v0 v1 v2 v3 k0_t5) a + S1x256x512.size a ≤ S5x256x5760.size a) ∧
  (∀ (k0_h9 : k0_cond9 v0 v1 v2 v3 v88_r0 = 1#1), ∀ a, (k0_off60 v0 v1 v2 v88_r0) a + S512x512.size a ≤ S1088x5760.size a) ∧
  (∀ (k0_h9 : k0_cond9 v0 v1 v2 v3 v88_r0 = 1#1), ∀ a, (k0_off61 v0 v1 v2 v3 k0_t5) a + S1x256x512.size a ≤ S5x256x5760.size a) ∧
  (∀ (k0_h9 : k0_cond9 v0 v1 v2 v3 v88_r0 = 1#1), ∀ a, (k0_off62 v0 v1 v2 v88_r0) a + S512x128.size a ≤ S1088x5760.size a) ∧
  (∀ (k0_h9 : k0_cond9 v0 v1 v2 v3 v88_r0 = 1#1), ∀ a, (k0_off63 v0 v1 v2 v3 k0_t5) a + S1x256x128.size a ≤ S5x256x5760.size a) ∧
  (∀ (k0_h10 : k0_cond10 v0 v1 v2 v3 v88_r0 = 1#1), ∀ a, (k0_off64 v0 v1 v2 v3 k0_t5 v88_r0) a + S768x256.size a ≤ S1088x3072.size a) ∧
  (∀ (k0_h10 : k0_cond10 v0 v1 v2 v3 v88_r0 = 1#1), ∀ a, (k0_off65 v0 v1 v2 v88_r0) a + S768x512.size a ≤ S1088x5760.size a) ∧
  (∀ (k0_h10 : k0_cond10 v0 v1 v2 v3 v88_r0 = 1#1), ∀ a, (k0_off66 v0 v1 v2 v3 k0_t5) a + S1x256x512.size a ≤ S5x256x5760.size a) ∧
  (∀ (k0_h10 : k0_cond10 v0 v1 v2 v3 v88_r0 = 1#1), ∀ a, (k0_off67 v0 v1 v2 v88_r0) a + S768x512.size a ≤ S1088x5760.size a) ∧
  (∀ (k0_h10 : k0_cond10 v0 v1 v2 v3 v88_r0 = 1#1), ∀ a, (k0_off68 v0 v1 v2 v3 k0_t5) a + S1x256x512.size a ≤ S5x256x5760.size a) ∧
  (∀ (k0_h10 : k0_cond10 v0 v1 v2 v3 v88_r0 = 1#1), ∀ a, (k0_off69 v0 v1 v2 v88_r0) a + S768x512.size a ≤ S1088x5760.size a) ∧
  (∀ (k0_h10 : k0_cond10 v0 v1 v2 v3 v88_r0 = 1#1), ∀ a, (k0_off70 v0 v1 v2 v3 k0_t5) a + S1x256x512.size a ≤ S5x256x5760.size a) ∧
  (∀ (k0_h10 : k0_cond10 v0 v1 v2 v3 v88_r0 = 1#1), ∀ a, (k0_off71 v0 v1 v2 v88_r0) a + S768x512.size a ≤ S1088x5760.size a) ∧
  (∀ (k0_h10 : k0_cond10 v0 v1 v2 v3 v88_r0 = 1#1), ∀ a, (k0_off72 v0 v1 v2 v3 k0_t5) a + S1x256x512.size a ≤ S5x256x5760.size a) ∧
  (∀ (k0_h10 : k0_cond10 v0 v1 v2 v3 v88_r0 = 1#1), ∀ a, (k0_off73 v0 v1 v2 v88_r0) a + S768x512.size a ≤ S1088x5760.size a) ∧
  (∀ (k0_h10 : k0_cond10 v0 v1 v2 v3 v88_r0 = 1#1), ∀ a, (k0_off74 v0 v1 v2 v3 k0_t5) a + S1x256x512.size a ≤ S5x256x5760.size a) ∧
  (∀ (k0_h10 : k0_cond10 v0 v1 v2 v3 v88_r0 = 1#1), ∀ a, (k0_off75 v0 v1 v2 v88_r0) a + S768x512.size a ≤ S1088x5760.size a)
def k0_chk5_2 (v0 : BitVec 32) (v1 : BitVec 32) (v2 : BitVec 32) (v3 : BitVec 32) (k0_t5 : Fin (k0_t5_loop v0 v1 v2 v3).trips) (v88_r0 : BitVec 32) : Prop :=
  (∀ (k0_h10 : k0_cond10 v0 v1 v2 v3 v88_r0 = 1#1), ∀ a, (k0_off76 v0 v1 v2 v3 k0_t5) a + S1x256x512.size a ≤ S5x256x5760.size a) ∧
  (∀ (k0_h10 : k0_cond10 v0 v1 v2 v3 v88_r0 = 1#1), ∀ a, (k0_off77 v0 v1 v2 v88_r0) a + S768x512.size a ≤ S1088x5760.size a) ∧
  (∀ (k0_h10 : k0_cond10 v0 v1 v2 v3 v88_r0 = 1#1), ∀ a, (k0_off78 v0 v1 v2 v3 k0_t5) a + S1x256x512.size a ≤ S5x256x5760.size a) ∧
  (∀ (k0_h10 : k0_cond10 v0 v1 v2 v3 v88_r0 = 1#1), ∀ a, (k0_off79 v0 v1 v2 v88_r0) a + S768x512.size a ≤ S1088x5760.size a) ∧
  (∀ (k0_h10 : k0_cond10 v0 v1 v2 v3 v88_r0 = 1#1), ∀ a, (k0_off80 v0 v1 v2 v3 k0_t5) a + S1x256x512.size a ≤ S5x256x5760.size a) ∧
  (∀ (k0_h10 : k0_cond10 v0 v1 v2 v3 v88_r0 = 1#1), ∀ a, (k0_off81 v0 v1 v2 v88_r0) a + S768x512.size a ≤ S1088x5760.size a) ∧
  (∀ (k0_h10 : k0_cond10 v0 v1 v2 v3 v88_r0 = 1#1), ∀ a, (k0_off82 v0 v1 v2 v3 k0_t5) a + S1x256x512.size a ≤ S5x256x5760.size a) ∧
  (∀ (k0_h10 : k0_cond10 v0 v1 v2 v3 v88_r0 = 1#1), ∀ a, (k0_off83 v0 v1 v2 v88_r0) a + S768x512.size a ≤ S1088x5760.size a) ∧
  (∀ (k0_h10 : k0_cond10 v0 v1 v2 v3 v88_r0 = 1#1), ∀ a, (k0_off84 v0 v1 v2 v3 k0_t5) a + S1x256x512.size a ≤ S5x256x5760.size a) ∧
  (∀ (k0_h10 : k0_cond10 v0 v1 v2 v3 v88_r0 = 1#1), ∀ a, (k0_off85 v0 v1 v2 v88_r0) a + S768x512.size a ≤ S1088x5760.size a) ∧
  (∀ (k0_h10 : k0_cond10 v0 v1 v2 v3 v88_r0 = 1#1), ∀ a, (k0_off86 v0 v1 v2 v3 k0_t5) a + S1x256x512.size a ≤ S5x256x5760.size a) ∧
  (∀ (k0_h10 : k0_cond10 v0 v1 v2 v3 v88_r0 = 1#1), ∀ a, (k0_off87 v0 v1 v2 v88_r0) a + S768x128.size a ≤ S1088x5760.size a) ∧
  (∀ (k0_h10 : k0_cond10 v0 v1 v2 v3 v88_r0 = 1#1), ∀ a, (k0_off88 v0 v1 v2 v3 k0_t5) a + S1x256x128.size a ≤ S5x256x5760.size a) ∧
  (∀ (k0_h11 : k0_cond11 v0 v1 v2 v3 k0_t5 = 1#1), ∀ a, (k0_off90 v0 v1 v2 v3 k0_t5 v88_r0) a + S1x256x5760.size a ≤ S4x2880x5760.size a) ∧
  (∀ (k0_h12 : k0_cond12 v0 v1 v2 v3 k0_t5 = 1#1), ∀ a, (k0_off93 v0 v1 v2 v3 k0_t5 v88_r0) a + S1x64x5760.size a ≤ S4x2880x5760.size a)
def k0_chk5 (v0 : BitVec 32) (v1 : BitVec 32) (v2 : BitVec 32) (v3 : BitVec 32) (k0_t5 : Fin (k0_t5_loop v0 v1 v2 v3).trips) (v88_r0 : BitVec 32) : Prop :=
  k0_chk5_0 v0 v1 v2 v3 k0_t5 v88_r0 ∧
  k0_chk5_1 v0 v1 v2 v3 k0_t5 v88_r0 ∧
  k0_chk5_2 v0 v1 v2 v3 k0_t5 v88_r0
theorem k0_mult1_dvd : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), 16 ∣ (k0_mult1 v0 v1 v2 v88_r0).toNat := fun v0 v1 v2 v3 k0_t5 v88_r0 k0_hw5 => k0_hw5.1.1
theorem k0_off13_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ a, (k0_off13 v88_r0) a + S1.size a ≤ S4.size a := fun v0 v1 v2 v3 k0_t5 v88_r0 k0_hw5 => k0_hw5.1.2.1
theorem k0_off14_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off14 v0 v1 v2 v3 k0_t5 v88_r0) a + S256x256.size a ≤ S1088x3072.size a := fun v0 v1 v2 v3 k0_t5 v88_r0 k0_hw5 k0_h8 => k0_hw5.1.2.2.1 k0_h8
theorem k0_off15_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off15 v0 v1 v2 v88_r0) a + S256x512.size a ≤ S1088x5760.size a := fun v0 v1 v2 v3 k0_t5 v88_r0 k0_hw5 k0_h8 => k0_hw5.1.2.2.2.1 k0_h8
theorem k0_off16_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off16 v0 v1 v2 v3 k0_t5) a + S1x256x512.size a ≤ S5x256x5760.size a := fun v0 v1 v2 v3 k0_t5 v88_r0 k0_hw5 k0_h8 => k0_hw5.1.2.2.2.2.1 k0_h8
theorem k0_off17_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off17 v0 v1 v2 v88_r0) a + S256x512.size a ≤ S1088x5760.size a := fun v0 v1 v2 v3 k0_t5 v88_r0 k0_hw5 k0_h8 => k0_hw5.1.2.2.2.2.2.1 k0_h8
theorem k0_off18_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off18 v0 v1 v2 v3 k0_t5) a + S1x256x512.size a ≤ S5x256x5760.size a := fun v0 v1 v2 v3 k0_t5 v88_r0 k0_hw5 k0_h8 => k0_hw5.1.2.2.2.2.2.2.1 k0_h8
theorem k0_off19_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off19 v0 v1 v2 v88_r0) a + S256x512.size a ≤ S1088x5760.size a := fun v0 v1 v2 v3 k0_t5 v88_r0 k0_hw5 k0_h8 => k0_hw5.1.2.2.2.2.2.2.2.1 k0_h8
theorem k0_off20_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off20 v0 v1 v2 v3 k0_t5) a + S1x256x512.size a ≤ S5x256x5760.size a := fun v0 v1 v2 v3 k0_t5 v88_r0 k0_hw5 k0_h8 => k0_hw5.1.2.2.2.2.2.2.2.2.1 k0_h8
theorem k0_off21_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off21 v0 v1 v2 v88_r0) a + S256x512.size a ≤ S1088x5760.size a := fun v0 v1 v2 v3 k0_t5 v88_r0 k0_hw5 k0_h8 => k0_hw5.1.2.2.2.2.2.2.2.2.2.1 k0_h8
theorem k0_off22_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off22 v0 v1 v2 v3 k0_t5) a + S1x256x512.size a ≤ S5x256x5760.size a := fun v0 v1 v2 v3 k0_t5 v88_r0 k0_hw5 k0_h8 => k0_hw5.1.2.2.2.2.2.2.2.2.2.2.1 k0_h8
theorem k0_off23_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off23 v0 v1 v2 v88_r0) a + S256x512.size a ≤ S1088x5760.size a := fun v0 v1 v2 v3 k0_t5 v88_r0 k0_hw5 k0_h8 => k0_hw5.1.2.2.2.2.2.2.2.2.2.2.2.1 k0_h8
theorem k0_off24_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off24 v0 v1 v2 v3 k0_t5) a + S1x256x512.size a ≤ S5x256x5760.size a := fun v0 v1 v2 v3 k0_t5 v88_r0 k0_hw5 k0_h8 => k0_hw5.1.2.2.2.2.2.2.2.2.2.2.2.2.1 k0_h8
theorem k0_off25_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off25 v0 v1 v2 v88_r0) a + S256x512.size a ≤ S1088x5760.size a := fun v0 v1 v2 v3 k0_t5 v88_r0 k0_hw5 k0_h8 => k0_hw5.1.2.2.2.2.2.2.2.2.2.2.2.2.2.1 k0_h8
theorem k0_off26_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off26 v0 v1 v2 v3 k0_t5) a + S1x256x512.size a ≤ S5x256x5760.size a := fun v0 v1 v2 v3 k0_t5 v88_r0 k0_hw5 k0_h8 => k0_hw5.1.2.2.2.2.2.2.2.2.2.2.2.2.2.2.1 k0_h8
theorem k0_off27_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off27 v0 v1 v2 v88_r0) a + S256x512.size a ≤ S1088x5760.size a := fun v0 v1 v2 v3 k0_t5 v88_r0 k0_hw5 k0_h8 => k0_hw5.1.2.2.2.2.2.2.2.2.2.2.2.2.2.2.2.1 k0_h8
theorem k0_off28_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off28 v0 v1 v2 v3 k0_t5) a + S1x256x512.size a ≤ S5x256x5760.size a := fun v0 v1 v2 v3 k0_t5 v88_r0 k0_hw5 k0_h8 => k0_hw5.1.2.2.2.2.2.2.2.2.2.2.2.2.2.2.2.2.1 k0_h8
theorem k0_off29_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off29 v0 v1 v2 v88_r0) a + S256x512.size a ≤ S1088x5760.size a := fun v0 v1 v2 v3 k0_t5 v88_r0 k0_hw5 k0_h8 => k0_hw5.1.2.2.2.2.2.2.2.2.2.2.2.2.2.2.2.2.2.1 k0_h8
theorem k0_off30_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off30 v0 v1 v2 v3 k0_t5) a + S1x256x512.size a ≤ S5x256x5760.size a := fun v0 v1 v2 v3 k0_t5 v88_r0 k0_hw5 k0_h8 => k0_hw5.1.2.2.2.2.2.2.2.2.2.2.2.2.2.2.2.2.2.2.1 k0_h8
theorem k0_off31_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off31 v0 v1 v2 v88_r0) a + S256x512.size a ≤ S1088x5760.size a := fun v0 v1 v2 v3 k0_t5 v88_r0 k0_hw5 k0_h8 => k0_hw5.1.2.2.2.2.2.2.2.2.2.2.2.2.2.2.2.2.2.2.2.1 k0_h8
theorem k0_off32_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off32 v0 v1 v2 v3 k0_t5) a + S1x256x512.size a ≤ S5x256x5760.size a := fun v0 v1 v2 v3 k0_t5 v88_r0 k0_hw5 k0_h8 => k0_hw5.1.2.2.2.2.2.2.2.2.2.2.2.2.2.2.2.2.2.2.2.2.1 k0_h8
theorem k0_off33_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off33 v0 v1 v2 v88_r0) a + S256x512.size a ≤ S1088x5760.size a := fun v0 v1 v2 v3 k0_t5 v88_r0 k0_hw5 k0_h8 => k0_hw5.1.2.2.2.2.2.2.2.2.2.2.2.2.2.2.2.2.2.2.2.2.2.1 k0_h8
theorem k0_off34_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off34 v0 v1 v2 v3 k0_t5) a + S1x256x512.size a ≤ S5x256x5760.size a := fun v0 v1 v2 v3 k0_t5 v88_r0 k0_hw5 k0_h8 => k0_hw5.1.2.2.2.2.2.2.2.2.2.2.2.2.2.2.2.2.2.2.2.2.2.2.1 k0_h8
theorem k0_off35_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off35 v0 v1 v2 v88_r0) a + S256x512.size a ≤ S1088x5760.size a := fun v0 v1 v2 v3 k0_t5 v88_r0 k0_hw5 k0_h8 => k0_hw5.1.2.2.2.2.2.2.2.2.2.2.2.2.2.2.2.2.2.2.2.2.2.2.2.1 k0_h8
theorem k0_off36_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off36 v0 v1 v2 v3 k0_t5) a + S1x256x512.size a ≤ S5x256x5760.size a := fun v0 v1 v2 v3 k0_t5 v88_r0 k0_hw5 k0_h8 => k0_hw5.1.2.2.2.2.2.2.2.2.2.2.2.2.2.2.2.2.2.2.2.2.2.2.2.2.1 k0_h8
theorem k0_off37_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off37 v0 v1 v2 v88_r0) a + S256x128.size a ≤ S1088x5760.size a := fun v0 v1 v2 v3 k0_t5 v88_r0 k0_hw5 k0_h8 => k0_hw5.1.2.2.2.2.2.2.2.2.2.2.2.2.2.2.2.2.2.2.2.2.2.2.2.2.2.1 k0_h8
theorem k0_off38_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h8 : k0_cond8 v0 v1 v2 v3 v88_r0 = 1#1), ∀ a, (k0_off38 v0 v1 v2 v3 k0_t5) a + S1x256x128.size a ≤ S5x256x5760.size a := fun v0 v1 v2 v3 k0_t5 v88_r0 k0_hw5 k0_h8 => k0_hw5.1.2.2.2.2.2.2.2.2.2.2.2.2.2.2.2.2.2.2.2.2.2.2.2.2.2.2.1 k0_h8
theorem k0_off39_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off39 v0 v1 v2 v3 k0_t5 v88_r0) a + S512x256.size a ≤ S1088x3072.size a := fun v0 v1 v2 v3 k0_t5 v88_r0 k0_hw5 k0_h9 => k0_hw5.1.2.2.2.2.2.2.2.2.2.2.2.2.2.2.2.2.2.2.2.2.2.2.2.2.2.2.2.1 k0_h9
theorem k0_off40_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off40 v0 v1 v2 v88_r0) a + S512x512.size a ≤ S1088x5760.size a := fun v0 v1 v2 v3 k0_t5 v88_r0 k0_hw5 k0_h9 => k0_hw5.1.2.2.2.2.2.2.2.2.2.2.2.2.2.2.2.2.2.2.2.2.2.2.2.2.2.2.2.2.1 k0_h9
theorem k0_off41_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off41 v0 v1 v2 v3 k0_t5) a + S1x256x512.size a ≤ S5x256x5760.size a := fun v0 v1 v2 v3 k0_t5 v88_r0 k0_hw5 k0_h9 => k0_hw5.1.2.2.2.2.2.2.2.2.2.2.2.2.2.2.2.2.2.2.2.2.2.2.2.2.2.2.2.2.2.1 k0_h9
theorem k0_off42_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off42 v0 v1 v2 v88_r0) a + S512x512.size a ≤ S1088x5760.size a := fun v0 v1 v2 v3 k0_t5 v88_r0 k0_hw5 k0_h9 => k0_hw5.1.2.2.2.2.2.2.2.2.2.2.2.2.2.2.2.2.2.2.2.2.2.2.2.2.2.2.2.2.2.2.1 k0_h9
theorem k0_off43_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off43 v0 v1 v2 v3 k0_t5) a + S1x256x512.size a ≤ S5x256x5760.size a := fun v0 v1 v2 v3 k0_t5 v88_r0 k0_hw5 k0_h9 => k0_hw5.1.2.2.2.2.2.2.2.2.2.2.2.2.2.2.2.2.2.2.2.2.2.2.2.2.2.2.2.2.2.2.2 k0_h9
theorem k0_off44_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off44 v0 v1 v2 v88_r0) a + S512x512.size a ≤ S1088x5760.size a := fun v0 v1 v2 v3 k0_t5 v88_r0 k0_hw5 k0_h9 => k0_hw5.2.1.1 k0_h9
theorem k0_off45_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off45 v0 v1 v2 v3 k0_t5) a + S1x256x512.size a ≤ S5x256x5760.size a := fun v0 v1 v2 v3 k0_t5 v88_r0 k0_hw5 k0_h9 => k0_hw5.2.1.2.1 k0_h9
theorem k0_off46_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off46 v0 v1 v2 v88_r0) a + S512x512.size a ≤ S1088x5760.size a := fun v0 v1 v2 v3 k0_t5 v88_r0 k0_hw5 k0_h9 => k0_hw5.2.1.2.2.1 k0_h9
theorem k0_off47_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off47 v0 v1 v2 v3 k0_t5) a + S1x256x512.size a ≤ S5x256x5760.size a := fun v0 v1 v2 v3 k0_t5 v88_r0 k0_hw5 k0_h9 => k0_hw5.2.1.2.2.2.1 k0_h9
theorem k0_off48_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off48 v0 v1 v2 v88_r0) a + S512x512.size a ≤ S1088x5760.size a := fun v0 v1 v2 v3 k0_t5 v88_r0 k0_hw5 k0_h9 => k0_hw5.2.1.2.2.2.2.1 k0_h9
theorem k0_off49_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off49 v0 v1 v2 v3 k0_t5) a + S1x256x512.size a ≤ S5x256x5760.size a := fun v0 v1 v2 v3 k0_t5 v88_r0 k0_hw5 k0_h9 => k0_hw5.2.1.2.2.2.2.2.1 k0_h9
theorem k0_off50_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off50 v0 v1 v2 v88_r0) a + S512x512.size a ≤ S1088x5760.size a := fun v0 v1 v2 v3 k0_t5 v88_r0 k0_hw5 k0_h9 => k0_hw5.2.1.2.2.2.2.2.2.1 k0_h9
theorem k0_off51_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off51 v0 v1 v2 v3 k0_t5) a + S1x256x512.size a ≤ S5x256x5760.size a := fun v0 v1 v2 v3 k0_t5 v88_r0 k0_hw5 k0_h9 => k0_hw5.2.1.2.2.2.2.2.2.2.1 k0_h9
theorem k0_off52_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off52 v0 v1 v2 v88_r0) a + S512x512.size a ≤ S1088x5760.size a := fun v0 v1 v2 v3 k0_t5 v88_r0 k0_hw5 k0_h9 => k0_hw5.2.1.2.2.2.2.2.2.2.2.1 k0_h9
theorem k0_off53_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off53 v0 v1 v2 v3 k0_t5) a + S1x256x512.size a ≤ S5x256x5760.size a := fun v0 v1 v2 v3 k0_t5 v88_r0 k0_hw5 k0_h9 => k0_hw5.2.1.2.2.2.2.2.2.2.2.2.1 k0_h9
theorem k0_off54_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off54 v0 v1 v2 v88_r0) a + S512x512.size a ≤ S1088x5760.size a := fun v0 v1 v2 v3 k0_t5 v88_r0 k0_hw5 k0_h9 => k0_hw5.2.1.2.2.2.2.2.2.2.2.2.2.1 k0_h9
theorem k0_off55_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off55 v0 v1 v2 v3 k0_t5) a + S1x256x512.size a ≤ S5x256x5760.size a := fun v0 v1 v2 v3 k0_t5 v88_r0 k0_hw5 k0_h9 => k0_hw5.2.1.2.2.2.2.2.2.2.2.2.2.2.1 k0_h9
theorem k0_off56_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off56 v0 v1 v2 v88_r0) a + S512x512.size a ≤ S1088x5760.size a := fun v0 v1 v2 v3 k0_t5 v88_r0 k0_hw5 k0_h9 => k0_hw5.2.1.2.2.2.2.2.2.2.2.2.2.2.2.1 k0_h9
theorem k0_off57_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off57 v0 v1 v2 v3 k0_t5) a + S1x256x512.size a ≤ S5x256x5760.size a := fun v0 v1 v2 v3 k0_t5 v88_r0 k0_hw5 k0_h9 => k0_hw5.2.1.2.2.2.2.2.2.2.2.2.2.2.2.2.1 k0_h9
theorem k0_off58_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off58 v0 v1 v2 v88_r0) a + S512x512.size a ≤ S1088x5760.size a := fun v0 v1 v2 v3 k0_t5 v88_r0 k0_hw5 k0_h9 => k0_hw5.2.1.2.2.2.2.2.2.2.2.2.2.2.2.2.2.1 k0_h9
theorem k0_off59_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off59 v0 v1 v2 v3 k0_t5) a + S1x256x512.size a ≤ S5x256x5760.size a := fun v0 v1 v2 v3 k0_t5 v88_r0 k0_hw5 k0_h9 => k0_hw5.2.1.2.2.2.2.2.2.2.2.2.2.2.2.2.2.2.1 k0_h9
theorem k0_off60_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off60 v0 v1 v2 v88_r0) a + S512x512.size a ≤ S1088x5760.size a := fun v0 v1 v2 v3 k0_t5 v88_r0 k0_hw5 k0_h9 => k0_hw5.2.1.2.2.2.2.2.2.2.2.2.2.2.2.2.2.2.2.1 k0_h9
theorem k0_off61_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off61 v0 v1 v2 v3 k0_t5) a + S1x256x512.size a ≤ S5x256x5760.size a := fun v0 v1 v2 v3 k0_t5 v88_r0 k0_hw5 k0_h9 => k0_hw5.2.1.2.2.2.2.2.2.2.2.2.2.2.2.2.2.2.2.2.1 k0_h9
theorem k0_off62_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off62 v0 v1 v2 v88_r0) a + S512x128.size a ≤ S1088x5760.size a := fun v0 v1 v2 v3 k0_t5 v88_r0 k0_hw5 k0_h9 => k0_hw5.2.1.2.2.2.2.2.2.2.2.2.2.2.2.2.2.2.2.2.2.1 k0_h9
theorem k0_off63_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h9 : k0_cond9 v0 v1 v2 v3 v88_r0 = 1#1), ∀ a, (k0_off63 v0 v1 v2 v3 k0_t5) a + S1x256x128.size a ≤ S5x256x5760.size a := fun v0 v1 v2 v3 k0_t5 v88_r0 k0_hw5 k0_h9 => k0_hw5.2.1.2.2.2.2.2.2.2.2.2.2.2.2.2.2.2.2.2.2.2.1 k0_h9
theorem k0_off64_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off64 v0 v1 v2 v3 k0_t5 v88_r0) a + S768x256.size a ≤ S1088x3072.size a := fun v0 v1 v2 v3 k0_t5 v88_r0 k0_hw5 k0_h10 => k0_hw5.2.1.2.2.2.2.2.2.2.2.2.2.2.2.2.2.2.2.2.2.2.2.1 k0_h10
theorem k0_off65_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off65 v0 v1 v2 v88_r0) a + S768x512.size a ≤ S1088x5760.size a := fun v0 v1 v2 v3 k0_t5 v88_r0 k0_hw5 k0_h10 => k0_hw5.2.1.2.2.2.2.2.2.2.2.2.2.2.2.2.2.2.2.2.2.2.2.2.1 k0_h10
theorem k0_off66_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off66 v0 v1 v2 v3 k0_t5) a + S1x256x512.size a ≤ S5x256x5760.size a := fun v0 v1 v2 v3 k0_t5 v88_r0 k0_hw5 k0_h10 => k0_hw5.2.1.2.2.2.2.2.2.2.2.2.2.2.2.2.2.2.2.2.2.2.2.2.2.1 k0_h10
theorem k0_off67_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off67 v0 v1 v2 v88_r0) a + S768x512.size a ≤ S1088x5760.size a := fun v0 v1 v2 v3 k0_t5 v88_r0 k0_hw5 k0_h10 => k0_hw5.2.1.2.2.2.2.2.2.2.2.2.2.2.2.2.2.2.2.2.2.2.2.2.2.2.1 k0_h10
theorem k0_off68_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off68 v0 v1 v2 v3 k0_t5) a + S1x256x512.size a ≤ S5x256x5760.size a := fun v0 v1 v2 v3 k0_t5 v88_r0 k0_hw5 k0_h10 => k0_hw5.2.1.2.2.2.2.2.2.2.2.2.2.2.2.2.2.2.2.2.2.2.2.2.2.2.2.1 k0_h10
theorem k0_off69_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off69 v0 v1 v2 v88_r0) a + S768x512.size a ≤ S1088x5760.size a := fun v0 v1 v2 v3 k0_t5 v88_r0 k0_hw5 k0_h10 => k0_hw5.2.1.2.2.2.2.2.2.2.2.2.2.2.2.2.2.2.2.2.2.2.2.2.2.2.2.2.1 k0_h10
theorem k0_off70_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off70 v0 v1 v2 v3 k0_t5) a + S1x256x512.size a ≤ S5x256x5760.size a := fun v0 v1 v2 v3 k0_t5 v88_r0 k0_hw5 k0_h10 => k0_hw5.2.1.2.2.2.2.2.2.2.2.2.2.2.2.2.2.2.2.2.2.2.2.2.2.2.2.2.2.1 k0_h10
theorem k0_off71_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off71 v0 v1 v2 v88_r0) a + S768x512.size a ≤ S1088x5760.size a := fun v0 v1 v2 v3 k0_t5 v88_r0 k0_hw5 k0_h10 => k0_hw5.2.1.2.2.2.2.2.2.2.2.2.2.2.2.2.2.2.2.2.2.2.2.2.2.2.2.2.2.2.1 k0_h10
theorem k0_off72_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off72 v0 v1 v2 v3 k0_t5) a + S1x256x512.size a ≤ S5x256x5760.size a := fun v0 v1 v2 v3 k0_t5 v88_r0 k0_hw5 k0_h10 => k0_hw5.2.1.2.2.2.2.2.2.2.2.2.2.2.2.2.2.2.2.2.2.2.2.2.2.2.2.2.2.2.2.1 k0_h10
theorem k0_off73_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off73 v0 v1 v2 v88_r0) a + S768x512.size a ≤ S1088x5760.size a := fun v0 v1 v2 v3 k0_t5 v88_r0 k0_hw5 k0_h10 => k0_hw5.2.1.2.2.2.2.2.2.2.2.2.2.2.2.2.2.2.2.2.2.2.2.2.2.2.2.2.2.2.2.2.1 k0_h10
theorem k0_off74_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off74 v0 v1 v2 v3 k0_t5) a + S1x256x512.size a ≤ S5x256x5760.size a := fun v0 v1 v2 v3 k0_t5 v88_r0 k0_hw5 k0_h10 => k0_hw5.2.1.2.2.2.2.2.2.2.2.2.2.2.2.2.2.2.2.2.2.2.2.2.2.2.2.2.2.2.2.2.2.1 k0_h10
theorem k0_off75_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off75 v0 v1 v2 v88_r0) a + S768x512.size a ≤ S1088x5760.size a := fun v0 v1 v2 v3 k0_t5 v88_r0 k0_hw5 k0_h10 => k0_hw5.2.1.2.2.2.2.2.2.2.2.2.2.2.2.2.2.2.2.2.2.2.2.2.2.2.2.2.2.2.2.2.2.2 k0_h10
theorem k0_off76_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off76 v0 v1 v2 v3 k0_t5) a + S1x256x512.size a ≤ S5x256x5760.size a := fun v0 v1 v2 v3 k0_t5 v88_r0 k0_hw5 k0_h10 => k0_hw5.2.2.1 k0_h10
theorem k0_off77_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off77 v0 v1 v2 v88_r0) a + S768x512.size a ≤ S1088x5760.size a := fun v0 v1 v2 v3 k0_t5 v88_r0 k0_hw5 k0_h10 => k0_hw5.2.2.2.1 k0_h10
theorem k0_off78_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off78 v0 v1 v2 v3 k0_t5) a + S1x256x512.size a ≤ S5x256x5760.size a := fun v0 v1 v2 v3 k0_t5 v88_r0 k0_hw5 k0_h10 => k0_hw5.2.2.2.2.1 k0_h10
theorem k0_off79_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off79 v0 v1 v2 v88_r0) a + S768x512.size a ≤ S1088x5760.size a := fun v0 v1 v2 v3 k0_t5 v88_r0 k0_hw5 k0_h10 => k0_hw5.2.2.2.2.2.1 k0_h10
theorem k0_off80_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off80 v0 v1 v2 v3 k0_t5) a + S1x256x512.size a ≤ S5x256x5760.size a := fun v0 v1 v2 v3 k0_t5 v88_r0 k0_hw5 k0_h10 => k0_hw5.2.2.2.2.2.2.1 k0_h10
theorem k0_off81_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off81 v0 v1 v2 v88_r0) a + S768x512.size a ≤ S1088x5760.size a := fun v0 v1 v2 v3 k0_t5 v88_r0 k0_hw5 k0_h10 => k0_hw5.2.2.2.2.2.2.2.1 k0_h10
theorem k0_off82_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off82 v0 v1 v2 v3 k0_t5) a + S1x256x512.size a ≤ S5x256x5760.size a := fun v0 v1 v2 v3 k0_t5 v88_r0 k0_hw5 k0_h10 => k0_hw5.2.2.2.2.2.2.2.2.1 k0_h10
theorem k0_off83_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off83 v0 v1 v2 v88_r0) a + S768x512.size a ≤ S1088x5760.size a := fun v0 v1 v2 v3 k0_t5 v88_r0 k0_hw5 k0_h10 => k0_hw5.2.2.2.2.2.2.2.2.2.1 k0_h10
theorem k0_off84_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off84 v0 v1 v2 v3 k0_t5) a + S1x256x512.size a ≤ S5x256x5760.size a := fun v0 v1 v2 v3 k0_t5 v88_r0 k0_hw5 k0_h10 => k0_hw5.2.2.2.2.2.2.2.2.2.2.1 k0_h10
theorem k0_off85_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off85 v0 v1 v2 v88_r0) a + S768x512.size a ≤ S1088x5760.size a := fun v0 v1 v2 v3 k0_t5 v88_r0 k0_hw5 k0_h10 => k0_hw5.2.2.2.2.2.2.2.2.2.2.2.1 k0_h10
theorem k0_off86_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off86 v0 v1 v2 v3 k0_t5) a + S1x256x512.size a ≤ S5x256x5760.size a := fun v0 v1 v2 v3 k0_t5 v88_r0 k0_hw5 k0_h10 => k0_hw5.2.2.2.2.2.2.2.2.2.2.2.2.1 k0_h10
theorem k0_off87_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off87 v0 v1 v2 v88_r0) a + S768x128.size a ≤ S1088x5760.size a := fun v0 v1 v2 v3 k0_t5 v88_r0 k0_hw5 k0_h10 => k0_hw5.2.2.2.2.2.2.2.2.2.2.2.2.2.1 k0_h10
theorem k0_off88_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h10 : k0_cond10 v0 v1 v2 v3 v88_r0 = 1#1), ∀ a, (k0_off88 v0 v1 v2 v3 k0_t5) a + S1x256x128.size a ≤ S5x256x5760.size a := fun v0 v1 v2 v3 k0_t5 v88_r0 k0_hw5 k0_h10 => k0_hw5.2.2.2.2.2.2.2.2.2.2.2.2.2.2.1 k0_h10
theorem k0_off90_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h11 : k0_cond11 v0 v1 v2 v3 k0_t5 = 1#1), ∀ a, (k0_off90 v0 v1 v2 v3 k0_t5 v88_r0) a + S1x256x5760.size a ≤ S4x2880x5760.size a := fun v0 v1 v2 v3 k0_t5 v88_r0 k0_hw5 k0_h11 => k0_hw5.2.2.2.2.2.2.2.2.2.2.2.2.2.2.2.1 k0_h11
theorem k0_off93_inb : ∀ (v0 : BitVec 32) (v1 : BitVec 32) (v2 : BitVec 32) (v3 : BitVec 32) (k0_t5 : Fin (k0_t5_loop v0 v1 v2 v3).trips) (v88_r0 : BitVec 32) (k0_hw5 : k0_chk5 v0 v1 v2 v3 k0_t5 v88_r0), ∀ (k0_h12 : k0_cond12 v0 v1 v2 v3 k0_t5 = 1#1), ∀ a, (k0_off93 v0 v1 v2 v3 k0_t5 v88_r0) a + S1x64x5760.size a ≤ S4x2880x5760.size a := fun v0 v1 v2 v3 k0_t5 v88_r0 k0_hw5 k0_h12 => k0_hw5.2.2.2.2.2.2.2.2.2.2.2.2.2.2.2.2 k0_h12

def k0_off94 (v0 : BitVec 32) (v1 : BitVec 32) (v2 : BitVec 32) (v3 : BitVec 32) (k0_t5 : Fin (k0_t5_loop v0 v1 v2 v3).trips) : Fin 3 → Nat :=
  let c0_i32_44_r0 : BitVec 32 := 0#32
  let c0_i32_45_r0 : BitVec 32 := 0#32
  let c1_i32_47_r0 : BitVec 32 := 1#32
  let arg11_r0 : BitVec 32 := Scf.iv c0_i32_45_r0 c1_i32_47_r0 k0_t5
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let c0_i32_89_r0 : BitVec 32 := 0#32
  let c0_i32_90_r0 : BitVec 32 := 0#32
  ![v90_r0.toNat, 0, 0]
@[reducible] def k0_t6_loop (v0 : BitVec 32) (v1 : BitVec 32) (v2 : BitVec 32) (v3 : BitVec 32) : Scf.Loop 32 :=
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let v68_r0 : BitVec 32 := Scalar.addi c0_i32_45_r0 v67_r0
  let c1_i32_48_r0 : BitVec 32 := 1#32
  ⟨v71_r0, v68_r0, c1_i32_48_r0⟩
def k0_off95 (v0 : BitVec 32) (v1 : BitVec 32) (v2 : BitVec 32) (v3 : BitVec 32) (k0_t6 : Fin (k0_t6_loop v0 v1 v2 v3).trips) : Fin 1 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_59_r0 : BitVec 32 := 12#32
  let v86_r0 : BitVec 32 := Scalar.divsi v85_r0 c12_i32_59_r0
  let v87_r0 : Index := Scalar.indexCast v86_r0
  ![v87_r0.toNat]
def k0_off96 (v0 : BitVec 32) (v1 : BitVec 32) (v2 : BitVec 32) (v3 : BitVec 32) (k0_t6 : Fin (k0_t6_loop v0 v1 v2 v3).trips) : Fin 1 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c5_i32_93_r0 : BitVec 32 := 5#32
  let v150_r0 : BitVec 32 := Scalar.remsi v142_r0 c5_i32_93_r0
  ![v150_r0.toNat]
def k0_cond13 (v0 : BitVec 32) (v1 : BitVec 32) (v2 : BitVec 32) (v3 : BitVec 32) (k0_t6 : Fin (k0_t6_loop v0 v1 v2 v3).trips) : BitVec 1 :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_62_r0 : BitVec 32 := 5#32
  let v91_r0 : BitVec 1 := Scalar.cmpi .sge v85_r0 c5_i32_62_r0
  let v92_r0 : BitVec 32 := Scalar.extui v91_r0
  let c0_i32_63_r0 : BitVec 32 := 0#32
  let v93_r0 : BitVec 1 := Scalar.cmpi .ne v92_r0 c0_i32_63_r0
  v93_r0

def k0_cond14 (v0 : BitVec 32) (v1 : BitVec 32) (v2 : BitVec 32) (v3 : BitVec 32) (k0_t6 : Fin (k0_t6_loop v0 v1 v2 v3).trips) : BitVec 1 :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c12_i32_88_r0 : BitVec 32 := 12#32
  let v143_r0 : BitVec 32 := Scalar.remsi v142_r0 c12_i32_88_r0
  let c11_i32_89_r0 : BitVec 32 := 11#32
  let v144_r0 : BitVec 1 := Scalar.cmpi .ne v143_r0 c11_i32_89_r0
  let v145_r0 : BitVec 32 := Scalar.extui v144_r0
  let c0_i32_90_r0 : BitVec 32 := 0#32
  let v146_r0 : BitVec 1 := Scalar.cmpi .ne v145_r0 c0_i32_90_r0
  v146_r0

def k0_off97 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c5_i32_93_r0 : BitVec 32 := 5#32
  let v150_r0 : BitVec 32 := Scalar.remsi v142_r0 c5_i32_93_r0
  let c0_i32_97_r0 : BitVec 32 := 0#32
  let c0_i32_98_r0 : BitVec 32 := 0#32
  ![v150_r0.toNat, 0, 0]
def k0_off98 (v0 : BitVec 32) (v1 : BitVec 32) (v2 : BitVec 32) (v3 : BitVec 32) (k0_t6 : Fin (k0_t6_loop v0 v1 v2 v3).trips) : Fin 1 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c5_i32_93_r0 : BitVec 32 := 5#32
  let v150_r0 : BitVec 32 := Scalar.remsi v142_r0 c5_i32_93_r0
  ![v150_r0.toNat]
def k0_cond15 (v0 : BitVec 32) (v1 : BitVec 32) (v2 : BitVec 32) (v3 : BitVec 32) (k0_t6 : Fin (k0_t6_loop v0 v1 v2 v3).trips) : BitVec 1 :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c12_i32_88_r0 : BitVec 32 := 12#32
  let v143_r0 : BitVec 32 := Scalar.remsi v142_r0 c12_i32_88_r0
  let c11_i32_91_r0 : BitVec 32 := 11#32
  let v147_r0 : BitVec 1 := Scalar.cmpi .eq v143_r0 c11_i32_91_r0
  let v148_r0 : BitVec 32 := Scalar.extui v147_r0
  let c0_i32_92_r0 : BitVec 32 := 0#32
  let v149_r0 : BitVec 1 := Scalar.cmpi .ne v148_r0 c0_i32_92_r0
  v149_r0

def k0_off99 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_87_r0 : BitVec 32 := 5#32
  let v142_r0 : BitVec 32 := Scalar.subi v85_r0 c5_i32_87_r0
  let c5_i32_93_r0 : BitVec 32 := 5#32
  let v150_r0 : BitVec 32 := Scalar.remsi v142_r0 c5_i32_93_r0
  let c0_i32_97_r0 : BitVec 32 := 0#32
  let c0_i32_98_r0 : BitVec 32 := 0#32
  ![v150_r0.toNat, 0, 0]
def k0_mult3 (v0 : BitVec 32) (v1 : BitVec 32) (v2 : BitVec 32) (v88_r0 : BitVec 32) : BitVec 32 :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  v110_r0

def k0_off100 (v88_r0 : BitVec 32) : Fin 1 → Nat :=
  let v114_r0 : Index := Scalar.indexCast v88_r0
  ![v114_r0.toNat]
def k0_mult4 (v0 : BitVec 32) (v1 : BitVec 32) (v2 : BitVec 32) (v3 : BitVec 32) (k0_t6 : Fin (k0_t6_loop v0 v1 v2 v3).trips) : BitVec 32 :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_r0 : BitVec 32 := 256#32
  let v119_r0 : BitVec 32 := Scalar.muli v89_r0 c256_i32_r0
  v119_r0
def k0_off101 (v0 : BitVec 32) (v1 : BitVec 32) (v2 : BitVec 32) (v3 : BitVec 32) (k0_t6 : Fin (k0_t6_loop v0 v1 v2 v3).trips) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v142_r0 : Index := Scalar.indexCast v113_r0
  let c0_i32_44_r0 : BitVec 32 := 0#32
  let c0_i32_45_r0 : BitVec 32 := 0#32
  let c0_i32_20 : BitVec 32 := 0#32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_r0 : BitVec 32 := 256#32
  let v119_r0 : BitVec 32 := Scalar.muli v89_r0 c256_i32_r0
  let v120_r0 : BitVec 32 := v119_r0
  let v143_r0 : Index := Scalar.indexCast v120_r0
  ![v142_r0.toNat, v143_r0.toNat]
def k0_cond16 (v0 : BitVec 32) (v1 : BitVec 32) (v2 : BitVec 32) (v3 : BitVec 32) (v88_r0 : BitVec 32) : BitVec 1 :=
  let c3_i32_76_r0 : BitVec 32 := 3#32
  let v111_r0 : BitVec 1 := Scalar.cmpi .eq v88_r0 c3_i32_76_r0
  let c15_i32_4 : BitVec 32 := 15#32
  let v10 : BitVec 32 := Scalar.addi v3 c15_i32_4
  let c4_i32_5 : BitVec 32 := 4#32
  let v11 : BitVec 32 := Scalar.shrui v10 c4_i32_5
  let c2_i32_73_r0 : BitVec 32 := 2#32
  let v106_r0 : BitVec 1 := Scalar.cmpi .eq v88_r0 c2_i32_73_r0
  let c15_i32_2 : BitVec 32 := 15#32
  let v8 : BitVec 32 := Scalar.addi v2 c15_i32_2
  let c4_i32_3 : BitVec 32 := 4#32
  let v9 : BitVec 32 := Scalar.shrui v8 c4_i32_3
  let c1_i32_70_r0 : BitVec 32 := 1#32
  let v101_r0 : BitVec 1 := Scalar.cmpi .eq v88_r0 c1_i32_70_r0
  let c15_i32_0 : BitVec 32 := 15#32
  let v6 : BitVec 32 := Scalar.addi v1 c15_i32_0
  let c4_i32_1 : BitVec 32 := 4#32
  let v7 : BitVec 32 := Scalar.shrui v6 c4_i32_1
  let c0_i32_67_r0 : BitVec 32 := 0#32
  let v96_r0 : BitVec 1 := Scalar.cmpi .eq v88_r0 c0_i32_67_r0
  let c15_i32 : BitVec 32 := 15#32
  let v4 : BitVec 32 := Scalar.addi v0 c15_i32
  let c4_i32 : BitVec 32 := 4#32
  let v5 : BitVec 32 := Scalar.shrui v4 c4_i32
  let c0_i32_68_r0 : BitVec 32 := 0#32
  let v97_r0 : BitVec 32 := Scalar.select v96_r0 v5 c0_i32_68_r0
  let v102_r0 : BitVec 32 := Scalar.select v101_r0 v7 v97_r0
  let v107_r0 : BitVec 32 := Scalar.select v106_r0 v9 v102_r0
  let v112_r0 : BitVec 32 := Scalar.select v111_r0 v11 v107_r0
  let c0_i32_77_r0 : BitVec 32 := 0#32
  let v121_r0 : BitVec 1 := Scalar.cmpi .sgt v112_r0 c0_i32_77_r0
  let c16_i32_78_r0 : BitVec 32 := 16#32
  let v122_r0 : BitVec 1 := Scalar.cmpi .sle v112_r0 c16_i32_78_r0
  let v123_r0 : BitVec 1 := Scalar.andi v121_r0 v122_r0
  let v124_r0 : BitVec 32 := Scalar.extui v123_r0
  let c0_i32_79_r0 : BitVec 32 := 0#32
  let v125_r0 : BitVec 1 := Scalar.cmpi .ne v124_r0 c0_i32_79_r0
  v125_r0

def k0_off102 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v158_r0 : Index := Scalar.indexCast v113_r0
  let c0_92_r0 : Index := 0#32
  ![v158_r0.toNat, 0]
def k0_off103 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v163_r0 : Index := Scalar.indexCast v90_r0
  let c0_94_r0 : Index := 0#32
  let c0_95_r0 : Index := 0#32
  ![v163_r0.toNat, 0, 0]
def k0_off104 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v168_r0 : Index := Scalar.indexCast v113_r0
  let c512_r0 : Index := 512#32
  ![v168_r0.toNat, 512]
def k0_off105 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v173_r0 : Index := Scalar.indexCast v90_r0
  let c0_99_r0 : Index := 0#32
  let c512_100_r0 : Index := 512#32
  ![v173_r0.toNat, 0, 512]
def k0_off106 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v178_r0 : Index := Scalar.indexCast v113_r0
  let c1024_r0 : Index := 1024#32
  ![v178_r0.toNat, 1024]
def k0_off107 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v183_r0 : Index := Scalar.indexCast v90_r0
  let c0_104_r0 : Index := 0#32
  let c1024_105_r0 : Index := 1024#32
  ![v183_r0.toNat, 0, 1024]
def k0_off108 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v188_r0 : Index := Scalar.indexCast v113_r0
  let c1536_r0 : Index := 1536#32
  ![v188_r0.toNat, 1536]
def k0_off109 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v193_r0 : Index := Scalar.indexCast v90_r0
  let c0_109_r0 : Index := 0#32
  let c1536_110_r0 : Index := 1536#32
  ![v193_r0.toNat, 0, 1536]
def k0_off110 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v198_r0 : Index := Scalar.indexCast v113_r0
  let c2048_r0 : Index := 2048#32
  ![v198_r0.toNat, 2048]
def k0_off111 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v203_r0 : Index := Scalar.indexCast v90_r0
  let c0_114_r0 : Index := 0#32
  let c2048_115_r0 : Index := 2048#32
  ![v203_r0.toNat, 0, 2048]
def k0_off112 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v208_r0 : Index := Scalar.indexCast v113_r0
  let c2560_r0 : Index := 2560#32
  ![v208_r0.toNat, 2560]
def k0_off113 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v213_r0 : Index := Scalar.indexCast v90_r0
  let c0_119_r0 : Index := 0#32
  let c2560_120_r0 : Index := 2560#32
  ![v213_r0.toNat, 0, 2560]
def k0_off114 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v218_r0 : Index := Scalar.indexCast v113_r0
  let c3072_r0 : Index := 3072#32
  ![v218_r0.toNat, 3072]
def k0_off115 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v223_r0 : Index := Scalar.indexCast v90_r0
  let c0_124_r0 : Index := 0#32
  let c3072_125_r0 : Index := 3072#32
  ![v223_r0.toNat, 0, 3072]
def k0_off116 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v228_r0 : Index := Scalar.indexCast v113_r0
  let c3584_r0 : Index := 3584#32
  ![v228_r0.toNat, 3584]
def k0_off117 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v233_r0 : Index := Scalar.indexCast v90_r0
  let c0_129_r0 : Index := 0#32
  let c3584_130_r0 : Index := 3584#32
  ![v233_r0.toNat, 0, 3584]
def k0_off118 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v238_r0 : Index := Scalar.indexCast v113_r0
  let c4096_r0 : Index := 4096#32
  ![v238_r0.toNat, 4096]
def k0_off119 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v243_r0 : Index := Scalar.indexCast v90_r0
  let c0_134_r0 : Index := 0#32
  let c4096_135_r0 : Index := 4096#32
  ![v243_r0.toNat, 0, 4096]
def k0_off120 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v248_r0 : Index := Scalar.indexCast v113_r0
  let c4608_r0 : Index := 4608#32
  ![v248_r0.toNat, 4608]
def k0_off121 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v253_r0 : Index := Scalar.indexCast v90_r0
  let c0_139_r0 : Index := 0#32
  let c4608_140_r0 : Index := 4608#32
  ![v253_r0.toNat, 0, 4608]
def k0_off122 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v258_r0 : Index := Scalar.indexCast v113_r0
  let c5120_r0 : Index := 5120#32
  ![v258_r0.toNat, 5120]
def k0_off123 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v263_r0 : Index := Scalar.indexCast v90_r0
  let c0_144_r0 : Index := 0#32
  let c5120_145_r0 : Index := 5120#32
  ![v263_r0.toNat, 0, 5120]
def k0_off124 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v268_r0 : Index := Scalar.indexCast v113_r0
  let c5632_r0 : Index := 5632#32
  ![v268_r0.toNat, 5632]
def k0_off125 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v273_r0 : Index := Scalar.indexCast v90_r0
  let c0_149_r0 : Index := 0#32
  let c5632_150_r0 : Index := 5632#32
  ![v273_r0.toNat, 0, 5632]
def k0_off126 (v0 : BitVec 32) (v1 : BitVec 32) (v2 : BitVec 32) (v3 : BitVec 32) (k0_t6 : Fin (k0_t6_loop v0 v1 v2 v3).trips) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v142_r0 : Index := Scalar.indexCast v113_r0
  let c0_i32_44_r0 : BitVec 32 := 0#32
  let c0_i32_45_r0 : BitVec 32 := 0#32
  let c0_i32_20 : BitVec 32 := 0#32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_r0 : BitVec 32 := 256#32
  let v119_r0 : BitVec 32 := Scalar.muli v89_r0 c256_i32_r0
  let v120_r0 : BitVec 32 := v119_r0
  let v143_r0 : Index := Scalar.indexCast v120_r0
  ![v142_r0.toNat, v143_r0.toNat]
def k0_cond17 (v0 : BitVec 32) (v1 : BitVec 32) (v2 : BitVec 32) (v3 : BitVec 32) (v88_r0 : BitVec 32) : BitVec 1 :=
  let c3_i32_76_r0 : BitVec 32 := 3#32
  let v111_r0 : BitVec 1 := Scalar.cmpi .eq v88_r0 c3_i32_76_r0
  let c15_i32_4 : BitVec 32 := 15#32
  let v10 : BitVec 32 := Scalar.addi v3 c15_i32_4
  let c4_i32_5 : BitVec 32 := 4#32
  let v11 : BitVec 32 := Scalar.shrui v10 c4_i32_5
  let c2_i32_73_r0 : BitVec 32 := 2#32
  let v106_r0 : BitVec 1 := Scalar.cmpi .eq v88_r0 c2_i32_73_r0
  let c15_i32_2 : BitVec 32 := 15#32
  let v8 : BitVec 32 := Scalar.addi v2 c15_i32_2
  let c4_i32_3 : BitVec 32 := 4#32
  let v9 : BitVec 32 := Scalar.shrui v8 c4_i32_3
  let c1_i32_70_r0 : BitVec 32 := 1#32
  let v101_r0 : BitVec 1 := Scalar.cmpi .eq v88_r0 c1_i32_70_r0
  let c15_i32_0 : BitVec 32 := 15#32
  let v6 : BitVec 32 := Scalar.addi v1 c15_i32_0
  let c4_i32_1 : BitVec 32 := 4#32
  let v7 : BitVec 32 := Scalar.shrui v6 c4_i32_1
  let c0_i32_67_r0 : BitVec 32 := 0#32
  let v96_r0 : BitVec 1 := Scalar.cmpi .eq v88_r0 c0_i32_67_r0
  let c15_i32 : BitVec 32 := 15#32
  let v4 : BitVec 32 := Scalar.addi v0 c15_i32
  let c4_i32 : BitVec 32 := 4#32
  let v5 : BitVec 32 := Scalar.shrui v4 c4_i32
  let c0_i32_68_r0 : BitVec 32 := 0#32
  let v97_r0 : BitVec 32 := Scalar.select v96_r0 v5 c0_i32_68_r0
  let v102_r0 : BitVec 32 := Scalar.select v101_r0 v7 v97_r0
  let v107_r0 : BitVec 32 := Scalar.select v106_r0 v9 v102_r0
  let v112_r0 : BitVec 32 := Scalar.select v111_r0 v11 v107_r0
  let c16_i32_80_r0 : BitVec 32 := 16#32
  let v126_r0 : BitVec 1 := Scalar.cmpi .sgt v112_r0 c16_i32_80_r0
  let c32_i32_r0 : BitVec 32 := 32#32
  let v127_r0 : BitVec 1 := Scalar.cmpi .sle v112_r0 c32_i32_r0
  let v128_r0 : BitVec 1 := Scalar.andi v126_r0 v127_r0
  let v129_r0 : BitVec 32 := Scalar.extui v128_r0
  let c0_i32_81_r0 : BitVec 32 := 0#32
  let v130_r0 : BitVec 1 := Scalar.cmpi .ne v129_r0 c0_i32_81_r0
  v130_r0

def k0_off127 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v158_r0 : Index := Scalar.indexCast v113_r0
  let c0_92_r0 : Index := 0#32
  ![v158_r0.toNat, 0]
def k0_off128 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v163_r0 : Index := Scalar.indexCast v90_r0
  let c0_94_r0 : Index := 0#32
  let c0_95_r0 : Index := 0#32
  ![v163_r0.toNat, 0, 0]
def k0_off129 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v168_r0 : Index := Scalar.indexCast v113_r0
  let c512_r0 : Index := 512#32
  ![v168_r0.toNat, 512]
def k0_off130 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v173_r0 : Index := Scalar.indexCast v90_r0
  let c0_99_r0 : Index := 0#32
  let c512_100_r0 : Index := 512#32
  ![v173_r0.toNat, 0, 512]
def k0_off131 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v178_r0 : Index := Scalar.indexCast v113_r0
  let c1024_r0 : Index := 1024#32
  ![v178_r0.toNat, 1024]
def k0_off132 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v183_r0 : Index := Scalar.indexCast v90_r0
  let c0_104_r0 : Index := 0#32
  let c1024_105_r0 : Index := 1024#32
  ![v183_r0.toNat, 0, 1024]
def k0_off133 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v188_r0 : Index := Scalar.indexCast v113_r0
  let c1536_r0 : Index := 1536#32
  ![v188_r0.toNat, 1536]
def k0_off134 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v193_r0 : Index := Scalar.indexCast v90_r0
  let c0_109_r0 : Index := 0#32
  let c1536_110_r0 : Index := 1536#32
  ![v193_r0.toNat, 0, 1536]
def k0_off135 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v198_r0 : Index := Scalar.indexCast v113_r0
  let c2048_r0 : Index := 2048#32
  ![v198_r0.toNat, 2048]
def k0_off136 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v203_r0 : Index := Scalar.indexCast v90_r0
  let c0_114_r0 : Index := 0#32
  let c2048_115_r0 : Index := 2048#32
  ![v203_r0.toNat, 0, 2048]
def k0_off137 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v208_r0 : Index := Scalar.indexCast v113_r0
  let c2560_r0 : Index := 2560#32
  ![v208_r0.toNat, 2560]
def k0_off138 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v213_r0 : Index := Scalar.indexCast v90_r0
  let c0_119_r0 : Index := 0#32
  let c2560_120_r0 : Index := 2560#32
  ![v213_r0.toNat, 0, 2560]
def k0_off139 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v218_r0 : Index := Scalar.indexCast v113_r0
  let c3072_r0 : Index := 3072#32
  ![v218_r0.toNat, 3072]
def k0_off140 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v223_r0 : Index := Scalar.indexCast v90_r0
  let c0_124_r0 : Index := 0#32
  let c3072_125_r0 : Index := 3072#32
  ![v223_r0.toNat, 0, 3072]
def k0_off141 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v228_r0 : Index := Scalar.indexCast v113_r0
  let c3584_r0 : Index := 3584#32
  ![v228_r0.toNat, 3584]
def k0_off142 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v233_r0 : Index := Scalar.indexCast v90_r0
  let c0_129_r0 : Index := 0#32
  let c3584_130_r0 : Index := 3584#32
  ![v233_r0.toNat, 0, 3584]
def k0_off143 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v238_r0 : Index := Scalar.indexCast v113_r0
  let c4096_r0 : Index := 4096#32
  ![v238_r0.toNat, 4096]
def k0_off144 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v243_r0 : Index := Scalar.indexCast v90_r0
  let c0_134_r0 : Index := 0#32
  let c4096_135_r0 : Index := 4096#32
  ![v243_r0.toNat, 0, 4096]
def k0_off145 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v248_r0 : Index := Scalar.indexCast v113_r0
  let c4608_r0 : Index := 4608#32
  ![v248_r0.toNat, 4608]
def k0_off146 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v253_r0 : Index := Scalar.indexCast v90_r0
  let c0_139_r0 : Index := 0#32
  let c4608_140_r0 : Index := 4608#32
  ![v253_r0.toNat, 0, 4608]
def k0_off147 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v258_r0 : Index := Scalar.indexCast v113_r0
  let c5120_r0 : Index := 5120#32
  ![v258_r0.toNat, 5120]
def k0_off148 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v263_r0 : Index := Scalar.indexCast v90_r0
  let c0_144_r0 : Index := 0#32
  let c5120_145_r0 : Index := 5120#32
  ![v263_r0.toNat, 0, 5120]
def k0_off149 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v268_r0 : Index := Scalar.indexCast v113_r0
  let c5632_r0 : Index := 5632#32
  ![v268_r0.toNat, 5632]
def k0_off150 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v273_r0 : Index := Scalar.indexCast v90_r0
  let c0_149_r0 : Index := 0#32
  let c5632_150_r0 : Index := 5632#32
  ![v273_r0.toNat, 0, 5632]
def k0_off151 (v0 : BitVec 32) (v1 : BitVec 32) (v2 : BitVec 32) (v3 : BitVec 32) (k0_t6 : Fin (k0_t6_loop v0 v1 v2 v3).trips) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v142_r0 : Index := Scalar.indexCast v113_r0
  let c0_i32_44_r0 : BitVec 32 := 0#32
  let c0_i32_45_r0 : BitVec 32 := 0#32
  let c0_i32_20 : BitVec 32 := 0#32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_r0 : BitVec 32 := 256#32
  let v119_r0 : BitVec 32 := Scalar.muli v89_r0 c256_i32_r0
  let v120_r0 : BitVec 32 := v119_r0
  let v143_r0 : Index := Scalar.indexCast v120_r0
  ![v142_r0.toNat, v143_r0.toNat]
def k0_cond18 (v0 : BitVec 32) (v1 : BitVec 32) (v2 : BitVec 32) (v3 : BitVec 32) (v88_r0 : BitVec 32) : BitVec 1 :=
  let c3_i32_76_r0 : BitVec 32 := 3#32
  let v111_r0 : BitVec 1 := Scalar.cmpi .eq v88_r0 c3_i32_76_r0
  let c15_i32_4 : BitVec 32 := 15#32
  let v10 : BitVec 32 := Scalar.addi v3 c15_i32_4
  let c4_i32_5 : BitVec 32 := 4#32
  let v11 : BitVec 32 := Scalar.shrui v10 c4_i32_5
  let c2_i32_73_r0 : BitVec 32 := 2#32
  let v106_r0 : BitVec 1 := Scalar.cmpi .eq v88_r0 c2_i32_73_r0
  let c15_i32_2 : BitVec 32 := 15#32
  let v8 : BitVec 32 := Scalar.addi v2 c15_i32_2
  let c4_i32_3 : BitVec 32 := 4#32
  let v9 : BitVec 32 := Scalar.shrui v8 c4_i32_3
  let c1_i32_70_r0 : BitVec 32 := 1#32
  let v101_r0 : BitVec 1 := Scalar.cmpi .eq v88_r0 c1_i32_70_r0
  let c15_i32_0 : BitVec 32 := 15#32
  let v6 : BitVec 32 := Scalar.addi v1 c15_i32_0
  let c4_i32_1 : BitVec 32 := 4#32
  let v7 : BitVec 32 := Scalar.shrui v6 c4_i32_1
  let c0_i32_67_r0 : BitVec 32 := 0#32
  let v96_r0 : BitVec 1 := Scalar.cmpi .eq v88_r0 c0_i32_67_r0
  let c15_i32 : BitVec 32 := 15#32
  let v4 : BitVec 32 := Scalar.addi v0 c15_i32
  let c4_i32 : BitVec 32 := 4#32
  let v5 : BitVec 32 := Scalar.shrui v4 c4_i32
  let c0_i32_68_r0 : BitVec 32 := 0#32
  let v97_r0 : BitVec 32 := Scalar.select v96_r0 v5 c0_i32_68_r0
  let v102_r0 : BitVec 32 := Scalar.select v101_r0 v7 v97_r0
  let v107_r0 : BitVec 32 := Scalar.select v106_r0 v9 v102_r0
  let v112_r0 : BitVec 32 := Scalar.select v111_r0 v11 v107_r0
  let c32_i32_82_r0 : BitVec 32 := 32#32
  let v131_r0 : BitVec 1 := Scalar.cmpi .sgt v112_r0 c32_i32_82_r0
  let c48_i32_r0 : BitVec 32 := 48#32
  let v132_r0 : BitVec 1 := Scalar.cmpi .sle v112_r0 c48_i32_r0
  let v133_r0 : BitVec 1 := Scalar.andi v131_r0 v132_r0
  let v134_r0 : BitVec 32 := Scalar.extui v133_r0
  let c0_i32_83_r0 : BitVec 32 := 0#32
  let v135_r0 : BitVec 1 := Scalar.cmpi .ne v134_r0 c0_i32_83_r0
  v135_r0

def k0_off152 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v158_r0 : Index := Scalar.indexCast v113_r0
  let c0_92_r0 : Index := 0#32
  ![v158_r0.toNat, 0]
def k0_off153 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v163_r0 : Index := Scalar.indexCast v90_r0
  let c0_94_r0 : Index := 0#32
  let c0_95_r0 : Index := 0#32
  ![v163_r0.toNat, 0, 0]
def k0_off154 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v168_r0 : Index := Scalar.indexCast v113_r0
  let c512_r0 : Index := 512#32
  ![v168_r0.toNat, 512]
def k0_off155 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v173_r0 : Index := Scalar.indexCast v90_r0
  let c0_99_r0 : Index := 0#32
  let c512_100_r0 : Index := 512#32
  ![v173_r0.toNat, 0, 512]
def k0_off156 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v178_r0 : Index := Scalar.indexCast v113_r0
  let c1024_r0 : Index := 1024#32
  ![v178_r0.toNat, 1024]
def k0_off157 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v183_r0 : Index := Scalar.indexCast v90_r0
  let c0_104_r0 : Index := 0#32
  let c1024_105_r0 : Index := 1024#32
  ![v183_r0.toNat, 0, 1024]
def k0_off158 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v188_r0 : Index := Scalar.indexCast v113_r0
  let c1536_r0 : Index := 1536#32
  ![v188_r0.toNat, 1536]
def k0_off159 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v193_r0 : Index := Scalar.indexCast v90_r0
  let c0_109_r0 : Index := 0#32
  let c1536_110_r0 : Index := 1536#32
  ![v193_r0.toNat, 0, 1536]
def k0_off160 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v198_r0 : Index := Scalar.indexCast v113_r0
  let c2048_r0 : Index := 2048#32
  ![v198_r0.toNat, 2048]
def k0_off161 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v203_r0 : Index := Scalar.indexCast v90_r0
  let c0_114_r0 : Index := 0#32
  let c2048_115_r0 : Index := 2048#32
  ![v203_r0.toNat, 0, 2048]
def k0_off162 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v208_r0 : Index := Scalar.indexCast v113_r0
  let c2560_r0 : Index := 2560#32
  ![v208_r0.toNat, 2560]
def k0_off163 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v213_r0 : Index := Scalar.indexCast v90_r0
  let c0_119_r0 : Index := 0#32
  let c2560_120_r0 : Index := 2560#32
  ![v213_r0.toNat, 0, 2560]
def k0_off164 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v218_r0 : Index := Scalar.indexCast v113_r0
  let c3072_r0 : Index := 3072#32
  ![v218_r0.toNat, 3072]
def k0_off165 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v223_r0 : Index := Scalar.indexCast v90_r0
  let c0_124_r0 : Index := 0#32
  let c3072_125_r0 : Index := 3072#32
  ![v223_r0.toNat, 0, 3072]
def k0_off166 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v228_r0 : Index := Scalar.indexCast v113_r0
  let c3584_r0 : Index := 3584#32
  ![v228_r0.toNat, 3584]
def k0_off167 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v233_r0 : Index := Scalar.indexCast v90_r0
  let c0_129_r0 : Index := 0#32
  let c3584_130_r0 : Index := 3584#32
  ![v233_r0.toNat, 0, 3584]
def k0_off168 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v238_r0 : Index := Scalar.indexCast v113_r0
  let c4096_r0 : Index := 4096#32
  ![v238_r0.toNat, 4096]
def k0_off169 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v243_r0 : Index := Scalar.indexCast v90_r0
  let c0_134_r0 : Index := 0#32
  let c4096_135_r0 : Index := 4096#32
  ![v243_r0.toNat, 0, 4096]
def k0_off170 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v248_r0 : Index := Scalar.indexCast v113_r0
  let c4608_r0 : Index := 4608#32
  ![v248_r0.toNat, 4608]
def k0_off171 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v253_r0 : Index := Scalar.indexCast v90_r0
  let c0_139_r0 : Index := 0#32
  let c4608_140_r0 : Index := 4608#32
  ![v253_r0.toNat, 0, 4608]
def k0_off172 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v258_r0 : Index := Scalar.indexCast v113_r0
  let c5120_r0 : Index := 5120#32
  ![v258_r0.toNat, 5120]
def k0_off173 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v263_r0 : Index := Scalar.indexCast v90_r0
  let c0_144_r0 : Index := 0#32
  let c5120_145_r0 : Index := 5120#32
  ![v263_r0.toNat, 0, 5120]
def k0_off174 (v0 : BitVec 32) (v1 : BitVec 32) (v2 : BitVec 32) (v88_r0 : BitVec 32) : Fin 2 → Nat :=
  let c3_i32_74_r0 : BitVec 32 := 3#32
  let v108_r0 : BitVec 1 := Scalar.cmpi .eq v88_r0 c3_i32_74_r0
  let c16_i32_75_r0 : BitVec 32 := 16#32
  let c0_i32 : BitVec 32 := 0#32
  let c15_i32 : BitVec 32 := 15#32
  let v4 : BitVec 32 := Scalar.addi v0 c15_i32
  let c4_i32 : BitVec 32 := 4#32
  let v5 : BitVec 32 := Scalar.shrui v4 c4_i32
  let v12 : BitVec 32 := Scalar.addi c0_i32 v5
  let c15_i32_0 : BitVec 32 := 15#32
  let v6 : BitVec 32 := Scalar.addi v1 c15_i32_0
  let c4_i32_1 : BitVec 32 := 4#32
  let v7 : BitVec 32 := Scalar.shrui v6 c4_i32_1
  let v13 : BitVec 32 := Scalar.addi v12 v7
  let c15_i32_2 : BitVec 32 := 15#32
  let v8 : BitVec 32 := Scalar.addi v2 c15_i32_2
  let c4_i32_3 : BitVec 32 := 4#32
  let v9 : BitVec 32 := Scalar.shrui v8 c4_i32_3
  let v14 : BitVec 32 := Scalar.addi v13 v9
  let v109_r0 : BitVec 32 := Scalar.muli c16_i32_75_r0 v14
  let c2_i32_71_r0 : BitVec 32 := 2#32
  let v103_r0 : BitVec 1 := Scalar.cmpi .eq v88_r0 c2_i32_71_r0
  let c16_i32_72_r0 : BitVec 32 := 16#32
  let v104_r0 : BitVec 32 := Scalar.muli c16_i32_72_r0 v13
  let c1_i32_69_r0 : BitVec 32 := 1#32
  let v98_r0 : BitVec 1 := Scalar.cmpi .eq v88_r0 c1_i32_69_r0
  let c16_i32_r0 : BitVec 32 := 16#32
  let v99_r0 : BitVec 32 := Scalar.muli c16_i32_r0 v12
  let c0_i32_64_r0 : BitVec 32 := 0#32
  let v94_r0 : BitVec 1 := Scalar.cmpi .eq v88_r0 c0_i32_64_r0
  let c0_i32_65_r0 : BitVec 32 := 0#32
  let c0_i32_66_r0 : BitVec 32 := 0#32
  let v95_r0 : BitVec 32 := Scalar.select v94_r0 c0_i32_65_r0 c0_i32_66_r0
  let v100_r0 : BitVec 32 := Scalar.select v98_r0 v99_r0 v95_r0
  let v105_r0 : BitVec 32 := Scalar.select v103_r0 v104_r0 v100_r0
  let v110_r0 : BitVec 32 := Scalar.select v108_r0 v109_r0 v105_r0
  let v113_r0 : BitVec 32 := v110_r0
  let v268_r0 : Index := Scalar.indexCast v113_r0
  let c5632_r0 : Index := 5632#32
  ![v268_r0.toNat, 5632]
def k0_off175 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let v273_r0 : Index := Scalar.indexCast v90_r0
  let c0_149_r0 : Index := 0#32
  let c5632_150_r0 : Index := 5632#32
  ![v273_r0.toNat, 0, 5632]
def k0_off176 (v0 : BitVec 32) (v1 : BitVec 32) (v2 : BitVec 32) (v3 : BitVec 32) (k0_t6 : Fin (k0_t6_loop v0 v1 v2 v3).trips) : Fin 1 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  ![v90_r0.toNat]
def k0_cond19 (v0 : BitVec 32) (v1 : BitVec 32) (v2 : BitVec 32) (v3 : BitVec 32) (k0_t6 : Fin (k0_t6_loop v0 v1 v2 v3).trips) : BitVec 1 :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c11_i32_r0 : BitVec 32 := 11#32
  let v136_r0 : BitVec 1 := Scalar.cmpi .ne v89_r0 c11_i32_r0
  let v137_r0 : BitVec 32 := Scalar.extui v136_r0
  let c0_i32_84_r0 : BitVec 32 := 0#32
  let v138_r0 : BitVec 1 := Scalar.cmpi .ne v137_r0 c0_i32_84_r0
  v138_r0

def k0_off177 (v0 : BitVec 32) (v1 : BitVec 32) (v2 : BitVec 32) (v3 : BitVec 32) (k0_t6 : Fin (k0_t6_loop v0 v1 v2 v3).trips) (v88_r0 : BitVec 32) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_87_r0 : BitVec 32 := 256#32
  let v142_r0 : BitVec 32 := Scalar.muli v89_r0 c256_i32_87_r0
  let c0_i32_88_r0 : BitVec 32 := 0#32
  ![v88_r0.toNat, v142_r0.toNat, 0]
def k0_off178 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let c0_i32_89_r0 : BitVec 32 := 0#32
  let c0_i32_90_r0 : BitVec 32 := 0#32
  ![v90_r0.toNat, 0, 0]
def k0_off179 (v0 : BitVec 32) (v1 : BitVec 32) (v2 : BitVec 32) (v3 : BitVec 32) (k0_t6 : Fin (k0_t6_loop v0 v1 v2 v3).trips) : Fin 1 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  ![v90_r0.toNat]
def k0_cond20 (v0 : BitVec 32) (v1 : BitVec 32) (v2 : BitVec 32) (v3 : BitVec 32) (k0_t6 : Fin (k0_t6_loop v0 v1 v2 v3).trips) : BitVec 1 :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c11_i32_85_r0 : BitVec 32 := 11#32
  let v139_r0 : BitVec 1 := Scalar.cmpi .eq v89_r0 c11_i32_85_r0
  let v140_r0 : BitVec 32 := Scalar.extui v139_r0
  let c0_i32_86_r0 : BitVec 32 := 0#32
  let v141_r0 : BitVec 1 := Scalar.cmpi .ne v140_r0 c0_i32_86_r0
  v141_r0

def k0_off180 (v0 : BitVec 32) (v1 : BitVec 32) (v2 : BitVec 32) (v3 : BitVec 32) (k0_t6 : Fin (k0_t6_loop v0 v1 v2 v3).trips) (v88_r0 : BitVec 32) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c12_i32_60_r0 : BitVec 32 := 12#32
  let v89_r0 : BitVec 32 := Scalar.remsi v85_r0 c12_i32_60_r0
  let c256_i32_87_r0 : BitVec 32 := 256#32
  let v142_r0 : BitVec 32 := Scalar.muli v89_r0 c256_i32_87_r0
  let c0_i32_88_r0 : BitVec 32 := 0#32
  ![v88_r0.toNat, v142_r0.toNat, 0]

def k0_chk6_0 (v0 : BitVec 32) (v1 : BitVec 32) (v2 : BitVec 32) (v3 : BitVec 32) (k0_t6 : Fin (k0_t6_loop v0 v1 v2 v3).trips) (v88_r0 : BitVec 32) : Prop :=
  (16 ∣ (k0_mult3 v0 v1 v2 v88_r0).toNat) ∧
  (∀ a, (k0_off100 v88_r0) a + S1.size a ≤ S4.size a) ∧
  (∀ (k0_h16 : k0_cond16 v0 v1 v2 v3 v88_r0 = 1#1), ∀ a, (k0_off101 v0 v1 v2 v3 k0_t6 v88_r0) a + S256x256.size a ≤ S1088x3072.size a) ∧
  (∀ (k0_h16 : k0_cond16 v0 v1 v2 v3 v88_r0 = 1#1), ∀ a, (k0_off102 v0 v1 v2 v88_r0) a + S256x512.size a ≤ S1088x5760.size a) ∧
  (∀ (k0_h16 : k0_cond16 v0 v1 v2 v3 v88_r0 = 1#1), ∀ a, (k0_off103 v0 v1 v2 v3 k0_t6) a + S1x256x512.size a ≤ S5x256x5760.size a) ∧
  (∀ (k0_h16 : k0_cond16 v0 v1 v2 v3 v88_r0 = 1#1), ∀ a, (k0_off104 v0 v1 v2 v88_r0) a + S256x512.size a ≤ S1088x5760.size a) ∧
  (∀ (k0_h16 : k0_cond16 v0 v1 v2 v3 v88_r0 = 1#1), ∀ a, (k0_off105 v0 v1 v2 v3 k0_t6) a + S1x256x512.size a ≤ S5x256x5760.size a) ∧
  (∀ (k0_h16 : k0_cond16 v0 v1 v2 v3 v88_r0 = 1#1), ∀ a, (k0_off106 v0 v1 v2 v88_r0) a + S256x512.size a ≤ S1088x5760.size a) ∧
  (∀ (k0_h16 : k0_cond16 v0 v1 v2 v3 v88_r0 = 1#1), ∀ a, (k0_off107 v0 v1 v2 v3 k0_t6) a + S1x256x512.size a ≤ S5x256x5760.size a) ∧
  (∀ (k0_h16 : k0_cond16 v0 v1 v2 v3 v88_r0 = 1#1), ∀ a, (k0_off108 v0 v1 v2 v88_r0) a + S256x512.size a ≤ S1088x5760.size a) ∧
  (∀ (k0_h16 : k0_cond16 v0 v1 v2 v3 v88_r0 = 1#1), ∀ a, (k0_off109 v0 v1 v2 v3 k0_t6) a + S1x256x512.size a ≤ S5x256x5760.size a) ∧
  (∀ (k0_h16 : k0_cond16 v0 v1 v2 v3 v88_r0 = 1#1), ∀ a, (k0_off110 v0 v1 v2 v88_r0) a + S256x512.size a ≤ S1088x5760.size a) ∧
  (∀ (k0_h16 : k0_cond16 v0 v1 v2 v3 v88_r0 = 1#1), ∀ a, (k0_off111 v0 v1 v2 v3 k0_t6) a + S1x256x512.size a ≤ S5x256x5760.size a) ∧
  (∀ (k0_h16 : k0_cond16 v0 v1 v2 v3 v88_r0 = 1#1), ∀ a, (k0_off112 v0 v1 v2 v88_r0) a + S256x512.size a ≤ S1088x5760.size a) ∧
  (∀ (k0_h16 : k0_cond16 v0 v1 v2 v3 v88_r0 = 1#1), ∀ a, (k0_off113 v0 v1 v2 v3 k0_t6) a + S1x256x512.size a ≤ S5x256x5760.size a) ∧
  (∀ (k0_h16 : k0_cond16 v0 v1 v2 v3 v88_r0 = 1#1), ∀ a, (k0_off114 v0 v1 v2 v88_r0) a + S256x512.size a ≤ S1088x5760.size a) ∧
  (∀ (k0_h16 : k0_cond16 v0 v1 v2 v3 v88_r0 = 1#1), ∀ a, (k0_off115 v0 v1 v2 v3 k0_t6) a + S1x256x512.size a ≤ S5x256x5760.size a) ∧
  (∀ (k0_h16 : k0_cond16 v0 v1 v2 v3 v88_r0 = 1#1), ∀ a, (k0_off116 v0 v1 v2 v88_r0) a + S256x512.size a ≤ S1088x5760.size a) ∧
  (∀ (k0_h16 : k0_cond16 v0 v1 v2 v3 v88_r0 = 1#1), ∀ a, (k0_off117 v0 v1 v2 v3 k0_t6) a + S1x256x512.size a ≤ S5x256x5760.size a) ∧
  (∀ (k0_h16 : k0_cond16 v0 v1 v2 v3 v88_r0 = 1#1), ∀ a, (k0_off118 v0 v1 v2 v88_r0) a + S256x512.size a ≤ S1088x5760.size a) ∧
  (∀ (k0_h16 : k0_cond16 v0 v1 v2 v3 v88_r0 = 1#1), ∀ a, (k0_off119 v0 v1 v2 v3 k0_t6) a + S1x256x512.size a ≤ S5x256x5760.size a) ∧
  (∀ (k0_h16 : k0_cond16 v0 v1 v2 v3 v88_r0 = 1#1), ∀ a, (k0_off120 v0 v1 v2 v88_r0) a + S256x512.size a ≤ S1088x5760.size a) ∧
  (∀ (k0_h16 : k0_cond16 v0 v1 v2 v3 v88_r0 = 1#1), ∀ a, (k0_off121 v0 v1 v2 v3 k0_t6) a + S1x256x512.size a ≤ S5x256x5760.size a) ∧
  (∀ (k0_h16 : k0_cond16 v0 v1 v2 v3 v88_r0 = 1#1), ∀ a, (k0_off122 v0 v1 v2 v88_r0) a + S256x512.size a ≤ S1088x5760.size a) ∧
  (∀ (k0_h16 : k0_cond16 v0 v1 v2 v3 v88_r0 = 1#1), ∀ a, (k0_off123 v0 v1 v2 v3 k0_t6) a + S1x256x512.size a ≤ S5x256x5760.size a) ∧
  (∀ (k0_h16 : k0_cond16 v0 v1 v2 v3 v88_r0 = 1#1), ∀ a, (k0_off124 v0 v1 v2 v88_r0) a + S256x128.size a ≤ S1088x5760.size a) ∧
  (∀ (k0_h16 : k0_cond16 v0 v1 v2 v3 v88_r0 = 1#1), ∀ a, (k0_off125 v0 v1 v2 v3 k0_t6) a + S1x256x128.size a ≤ S5x256x5760.size a) ∧
  (∀ (k0_h17 : k0_cond17 v0 v1 v2 v3 v88_r0 = 1#1), ∀ a, (k0_off126 v0 v1 v2 v3 k0_t6 v88_r0) a + S512x256.size a ≤ S1088x3072.size a) ∧
  (∀ (k0_h17 : k0_cond17 v0 v1 v2 v3 v88_r0 = 1#1), ∀ a, (k0_off127 v0 v1 v2 v88_r0) a + S512x512.size a ≤ S1088x5760.size a) ∧
  (∀ (k0_h17 : k0_cond17 v0 v1 v2 v3 v88_r0 = 1#1), ∀ a, (k0_off128 v0 v1 v2 v3 k0_t6) a + S1x256x512.size a ≤ S5x256x5760.size a) ∧
  (∀ (k0_h17 : k0_cond17 v0 v1 v2 v3 v88_r0 = 1#1), ∀ a, (k0_off129 v0 v1 v2 v88_r0) a + S512x512.size a ≤ S1088x5760.size a) ∧
  (∀ (k0_h17 : k0_cond17 v0 v1 v2 v3 v88_r0 = 1#1), ∀ a, (k0_off130 v0 v1 v2 v3 k0_t6) a + S1x256x512.size a ≤ S5x256x5760.size a)
def k0_chk6_1 (v0 : BitVec 32) (v1 : BitVec 32) (v2 : BitVec 32) (v3 : BitVec 32) (k0_t6 : Fin (k0_t6_loop v0 v1 v2 v3).trips) (v88_r0 : BitVec 32) : Prop :=
  (∀ (k0_h17 : k0_cond17 v0 v1 v2 v3 v88_r0 = 1#1), ∀ a, (k0_off131 v0 v1 v2 v88_r0) a + S512x512.size a ≤ S1088x5760.size a) ∧
  (∀ (k0_h17 : k0_cond17 v0 v1 v2 v3 v88_r0 = 1#1), ∀ a, (k0_off132 v0 v1 v2 v3 k0_t6) a + S1x256x512.size a ≤ S5x256x5760.size a) ∧
  (∀ (k0_h17 : k0_cond17 v0 v1 v2 v3 v88_r0 = 1#1), ∀ a, (k0_off133 v0 v1 v2 v88_r0) a + S512x512.size a ≤ S1088x5760.size a) ∧
  (∀ (k0_h17 : k0_cond17 v0 v1 v2 v3 v88_r0 = 1#1), ∀ a, (k0_off134 v0 v1 v2 v3 k0_t6) a + S1x256x512.size a ≤ S5x256x5760.size a) ∧
  (∀ (k0_h17 : k0_cond17 v0 v1 v2 v3 v88_r0 = 1#1), ∀ a, (k0_off135 v0 v1 v2 v88_r0) a + S512x512.size a ≤ S1088x5760.size a) ∧
  (∀ (k0_h17 : k0_cond17 v0 v1 v2 v3 v88_r0 = 1#1), ∀ a, (k0_off136 v0 v1 v2 v3 k0_t6) a + S1x256x512.size a ≤ S5x256x5760.size a) ∧
  (∀ (k0_h17 : k0_cond17 v0 v1 v2 v3 v88_r0 = 1#1), ∀ a, (k0_off137 v0 v1 v2 v88_r0) a + S512x512.size a ≤ S1088x5760.size a) ∧
  (∀ (k0_h17 : k0_cond17 v0 v1 v2 v3 v88_r0 = 1#1), ∀ a, (k0_off138 v0 v1 v2 v3 k0_t6) a + S1x256x512.size a ≤ S5x256x5760.size a) ∧
  (∀ (k0_h17 : k0_cond17 v0 v1 v2 v3 v88_r0 = 1#1), ∀ a, (k0_off139 v0 v1 v2 v88_r0) a + S512x512.size a ≤ S1088x5760.size a) ∧
  (∀ (k0_h17 : k0_cond17 v0 v1 v2 v3 v88_r0 = 1#1), ∀ a, (k0_off140 v0 v1 v2 v3 k0_t6) a + S1x256x512.size a ≤ S5x256x5760.size a) ∧
  (∀ (k0_h17 : k0_cond17 v0 v1 v2 v3 v88_r0 = 1#1), ∀ a, (k0_off141 v0 v1 v2 v88_r0) a + S512x512.size a ≤ S1088x5760.size a) ∧
  (∀ (k0_h17 : k0_cond17 v0 v1 v2 v3 v88_r0 = 1#1), ∀ a, (k0_off142 v0 v1 v2 v3 k0_t6) a + S1x256x512.size a ≤ S5x256x5760.size a) ∧
  (∀ (k0_h17 : k0_cond17 v0 v1 v2 v3 v88_r0 = 1#1), ∀ a, (k0_off143 v0 v1 v2 v88_r0) a + S512x512.size a ≤ S1088x5760.size a) ∧
  (∀ (k0_h17 : k0_cond17 v0 v1 v2 v3 v88_r0 = 1#1), ∀ a, (k0_off144 v0 v1 v2 v3 k0_t6) a + S1x256x512.size a ≤ S5x256x5760.size a) ∧
  (∀ (k0_h17 : k0_cond17 v0 v1 v2 v3 v88_r0 = 1#1), ∀ a, (k0_off145 v0 v1 v2 v88_r0) a + S512x512.size a ≤ S1088x5760.size a) ∧
  (∀ (k0_h17 : k0_cond17 v0 v1 v2 v3 v88_r0 = 1#1), ∀ a, (k0_off146 v0 v1 v2 v3 k0_t6) a + S1x256x512.size a ≤ S5x256x5760.size a) ∧
  (∀ (k0_h17 : k0_cond17 v0 v1 v2 v3 v88_r0 = 1#1), ∀ a, (k0_off147 v0 v1 v2 v88_r0) a + S512x512.size a ≤ S1088x5760.size a) ∧
  (∀ (k0_h17 : k0_cond17 v0 v1 v2 v3 v88_r0 = 1#1), ∀ a, (k0_off148 v0 v1 v2 v3 k0_t6) a + S1x256x512.size a ≤ S5x256x5760.size a) ∧
  (∀ (k0_h17 : k0_cond17 v0 v1 v2 v3 v88_r0 = 1#1), ∀ a, (k0_off149 v0 v1 v2 v88_r0) a + S512x128.size a ≤ S1088x5760.size a) ∧
  (∀ (k0_h17 : k0_cond17 v0 v1 v2 v3 v88_r0 = 1#1), ∀ a, (k0_off150 v0 v1 v2 v3 k0_t6) a + S1x256x128.size a ≤ S5x256x5760.size a) ∧
  (∀ (k0_h18 : k0_cond18 v0 v1 v2 v3 v88_r0 = 1#1), ∀ a, (k0_off151 v0 v1 v2 v3 k0_t6 v88_r0) a + S768x256.size a ≤ S1088x3072.size a) ∧
  (∀ (k0_h18 : k0_cond18 v0 v1 v2 v3 v88_r0 = 1#1), ∀ a, (k0_off152 v0 v1 v2 v88_r0) a + S768x512.size a ≤ S1088x5760.size a) ∧
  (∀ (k0_h18 : k0_cond18 v0 v1 v2 v3 v88_r0 = 1#1), ∀ a, (k0_off153 v0 v1 v2 v3 k0_t6) a + S1x256x512.size a ≤ S5x256x5760.size a) ∧
  (∀ (k0_h18 : k0_cond18 v0 v1 v2 v3 v88_r0 = 1#1), ∀ a, (k0_off154 v0 v1 v2 v88_r0) a + S768x512.size a ≤ S1088x5760.size a) ∧
  (∀ (k0_h18 : k0_cond18 v0 v1 v2 v3 v88_r0 = 1#1), ∀ a, (k0_off155 v0 v1 v2 v3 k0_t6) a + S1x256x512.size a ≤ S5x256x5760.size a) ∧
  (∀ (k0_h18 : k0_cond18 v0 v1 v2 v3 v88_r0 = 1#1), ∀ a, (k0_off156 v0 v1 v2 v88_r0) a + S768x512.size a ≤ S1088x5760.size a) ∧
  (∀ (k0_h18 : k0_cond18 v0 v1 v2 v3 v88_r0 = 1#1), ∀ a, (k0_off157 v0 v1 v2 v3 k0_t6) a + S1x256x512.size a ≤ S5x256x5760.size a) ∧
  (∀ (k0_h18 : k0_cond18 v0 v1 v2 v3 v88_r0 = 1#1), ∀ a, (k0_off158 v0 v1 v2 v88_r0) a + S768x512.size a ≤ S1088x5760.size a) ∧
  (∀ (k0_h18 : k0_cond18 v0 v1 v2 v3 v88_r0 = 1#1), ∀ a, (k0_off159 v0 v1 v2 v3 k0_t6) a + S1x256x512.size a ≤ S5x256x5760.size a) ∧
  (∀ (k0_h18 : k0_cond18 v0 v1 v2 v3 v88_r0 = 1#1), ∀ a, (k0_off160 v0 v1 v2 v88_r0) a + S768x512.size a ≤ S1088x5760.size a) ∧
  (∀ (k0_h18 : k0_cond18 v0 v1 v2 v3 v88_r0 = 1#1), ∀ a, (k0_off161 v0 v1 v2 v3 k0_t6) a + S1x256x512.size a ≤ S5x256x5760.size a) ∧
  (∀ (k0_h18 : k0_cond18 v0 v1 v2 v3 v88_r0 = 1#1), ∀ a, (k0_off162 v0 v1 v2 v88_r0) a + S768x512.size a ≤ S1088x5760.size a)
def k0_chk6_2 (v0 : BitVec 32) (v1 : BitVec 32) (v2 : BitVec 32) (v3 : BitVec 32) (k0_t6 : Fin (k0_t6_loop v0 v1 v2 v3).trips) (v88_r0 : BitVec 32) : Prop :=
  (∀ (k0_h18 : k0_cond18 v0 v1 v2 v3 v88_r0 = 1#1), ∀ a, (k0_off163 v0 v1 v2 v3 k0_t6) a + S1x256x512.size a ≤ S5x256x5760.size a) ∧
  (∀ (k0_h18 : k0_cond18 v0 v1 v2 v3 v88_r0 = 1#1), ∀ a, (k0_off164 v0 v1 v2 v88_r0) a + S768x512.size a ≤ S1088x5760.size a) ∧
  (∀ (k0_h18 : k0_cond18 v0 v1 v2 v3 v88_r0 = 1#1), ∀ a, (k0_off165 v0 v1 v2 v3 k0_t6) a + S1x256x512.size a ≤ S5x256x5760.size a) ∧
  (∀ (k0_h18 : k0_cond18 v0 v1 v2 v3 v88_r0 = 1#1), ∀ a, (k0_off166 v0 v1 v2 v88_r0) a + S768x512.size a ≤ S1088x5760.size a) ∧
  (∀ (k0_h18 : k0_cond18 v0 v1 v2 v3 v88_r0 = 1#1), ∀ a, (k0_off167 v0 v1 v2 v3 k0_t6) a + S1x256x512.size a ≤ S5x256x5760.size a) ∧
  (∀ (k0_h18 : k0_cond18 v0 v1 v2 v3 v88_r0 = 1#1), ∀ a, (k0_off168 v0 v1 v2 v88_r0) a + S768x512.size a ≤ S1088x5760.size a) ∧
  (∀ (k0_h18 : k0_cond18 v0 v1 v2 v3 v88_r0 = 1#1), ∀ a, (k0_off169 v0 v1 v2 v3 k0_t6) a + S1x256x512.size a ≤ S5x256x5760.size a) ∧
  (∀ (k0_h18 : k0_cond18 v0 v1 v2 v3 v88_r0 = 1#1), ∀ a, (k0_off170 v0 v1 v2 v88_r0) a + S768x512.size a ≤ S1088x5760.size a) ∧
  (∀ (k0_h18 : k0_cond18 v0 v1 v2 v3 v88_r0 = 1#1), ∀ a, (k0_off171 v0 v1 v2 v3 k0_t6) a + S1x256x512.size a ≤ S5x256x5760.size a) ∧
  (∀ (k0_h18 : k0_cond18 v0 v1 v2 v3 v88_r0 = 1#1), ∀ a, (k0_off172 v0 v1 v2 v88_r0) a + S768x512.size a ≤ S1088x5760.size a) ∧
  (∀ (k0_h18 : k0_cond18 v0 v1 v2 v3 v88_r0 = 1#1), ∀ a, (k0_off173 v0 v1 v2 v3 k0_t6) a + S1x256x512.size a ≤ S5x256x5760.size a) ∧
  (∀ (k0_h18 : k0_cond18 v0 v1 v2 v3 v88_r0 = 1#1), ∀ a, (k0_off174 v0 v1 v2 v88_r0) a + S768x128.size a ≤ S1088x5760.size a) ∧
  (∀ (k0_h18 : k0_cond18 v0 v1 v2 v3 v88_r0 = 1#1), ∀ a, (k0_off175 v0 v1 v2 v3 k0_t6) a + S1x256x128.size a ≤ S5x256x5760.size a) ∧
  (∀ (k0_h19 : k0_cond19 v0 v1 v2 v3 k0_t6 = 1#1), ∀ a, (k0_off177 v0 v1 v2 v3 k0_t6 v88_r0) a + S1x256x5760.size a ≤ S4x2880x5760.size a) ∧
  (∀ (k0_h20 : k0_cond20 v0 v1 v2 v3 k0_t6 = 1#1), ∀ a, (k0_off180 v0 v1 v2 v3 k0_t6 v88_r0) a + S1x64x5760.size a ≤ S4x2880x5760.size a)
def k0_chk6 (v0 : BitVec 32) (v1 : BitVec 32) (v2 : BitVec 32) (v3 : BitVec 32) (k0_t6 : Fin (k0_t6_loop v0 v1 v2 v3).trips) (v88_r0 : BitVec 32) : Prop :=
  k0_chk6_0 v0 v1 v2 v3 k0_t6 v88_r0 ∧
  k0_chk6_1 v0 v1 v2 v3 k0_t6 v88_r0 ∧
  k0_chk6_2 v0 v1 v2 v3 k0_t6 v88_r0
theorem k0_mult3_dvd : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), 16 ∣ (k0_mult3 v0 v1 v2 v88_r0).toNat := fun v0 v1 v2 v3 k0_t6 v88_r0 k0_hw6 => k0_hw6.1.1
theorem k0_off100_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ a, (k0_off100 v88_r0) a + S1.size a ≤ S4.size a := fun v0 v1 v2 v3 k0_t6 v88_r0 k0_hw6 => k0_hw6.1.2.1
theorem k0_off101_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off101 v0 v1 v2 v3 k0_t6 v88_r0) a + S256x256.size a ≤ S1088x3072.size a := fun v0 v1 v2 v3 k0_t6 v88_r0 k0_hw6 k0_h16 => k0_hw6.1.2.2.1 k0_h16
theorem k0_off102_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off102 v0 v1 v2 v88_r0) a + S256x512.size a ≤ S1088x5760.size a := fun v0 v1 v2 v3 k0_t6 v88_r0 k0_hw6 k0_h16 => k0_hw6.1.2.2.2.1 k0_h16
theorem k0_off103_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off103 v0 v1 v2 v3 k0_t6) a + S1x256x512.size a ≤ S5x256x5760.size a := fun v0 v1 v2 v3 k0_t6 v88_r0 k0_hw6 k0_h16 => k0_hw6.1.2.2.2.2.1 k0_h16
theorem k0_off104_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off104 v0 v1 v2 v88_r0) a + S256x512.size a ≤ S1088x5760.size a := fun v0 v1 v2 v3 k0_t6 v88_r0 k0_hw6 k0_h16 => k0_hw6.1.2.2.2.2.2.1 k0_h16
theorem k0_off105_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off105 v0 v1 v2 v3 k0_t6) a + S1x256x512.size a ≤ S5x256x5760.size a := fun v0 v1 v2 v3 k0_t6 v88_r0 k0_hw6 k0_h16 => k0_hw6.1.2.2.2.2.2.2.1 k0_h16
theorem k0_off106_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off106 v0 v1 v2 v88_r0) a + S256x512.size a ≤ S1088x5760.size a := fun v0 v1 v2 v3 k0_t6 v88_r0 k0_hw6 k0_h16 => k0_hw6.1.2.2.2.2.2.2.2.1 k0_h16
theorem k0_off107_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off107 v0 v1 v2 v3 k0_t6) a + S1x256x512.size a ≤ S5x256x5760.size a := fun v0 v1 v2 v3 k0_t6 v88_r0 k0_hw6 k0_h16 => k0_hw6.1.2.2.2.2.2.2.2.2.1 k0_h16
theorem k0_off108_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off108 v0 v1 v2 v88_r0) a + S256x512.size a ≤ S1088x5760.size a := fun v0 v1 v2 v3 k0_t6 v88_r0 k0_hw6 k0_h16 => k0_hw6.1.2.2.2.2.2.2.2.2.2.1 k0_h16
theorem k0_off109_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off109 v0 v1 v2 v3 k0_t6) a + S1x256x512.size a ≤ S5x256x5760.size a := fun v0 v1 v2 v3 k0_t6 v88_r0 k0_hw6 k0_h16 => k0_hw6.1.2.2.2.2.2.2.2.2.2.2.1 k0_h16
theorem k0_off110_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off110 v0 v1 v2 v88_r0) a + S256x512.size a ≤ S1088x5760.size a := fun v0 v1 v2 v3 k0_t6 v88_r0 k0_hw6 k0_h16 => k0_hw6.1.2.2.2.2.2.2.2.2.2.2.2.1 k0_h16
theorem k0_off111_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off111 v0 v1 v2 v3 k0_t6) a + S1x256x512.size a ≤ S5x256x5760.size a := fun v0 v1 v2 v3 k0_t6 v88_r0 k0_hw6 k0_h16 => k0_hw6.1.2.2.2.2.2.2.2.2.2.2.2.2.1 k0_h16
theorem k0_off112_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off112 v0 v1 v2 v88_r0) a + S256x512.size a ≤ S1088x5760.size a := fun v0 v1 v2 v3 k0_t6 v88_r0 k0_hw6 k0_h16 => k0_hw6.1.2.2.2.2.2.2.2.2.2.2.2.2.2.1 k0_h16
theorem k0_off113_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off113 v0 v1 v2 v3 k0_t6) a + S1x256x512.size a ≤ S5x256x5760.size a := fun v0 v1 v2 v3 k0_t6 v88_r0 k0_hw6 k0_h16 => k0_hw6.1.2.2.2.2.2.2.2.2.2.2.2.2.2.2.1 k0_h16
theorem k0_off114_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off114 v0 v1 v2 v88_r0) a + S256x512.size a ≤ S1088x5760.size a := fun v0 v1 v2 v3 k0_t6 v88_r0 k0_hw6 k0_h16 => k0_hw6.1.2.2.2.2.2.2.2.2.2.2.2.2.2.2.2.1 k0_h16
theorem k0_off115_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off115 v0 v1 v2 v3 k0_t6) a + S1x256x512.size a ≤ S5x256x5760.size a := fun v0 v1 v2 v3 k0_t6 v88_r0 k0_hw6 k0_h16 => k0_hw6.1.2.2.2.2.2.2.2.2.2.2.2.2.2.2.2.2.1 k0_h16
theorem k0_off116_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off116 v0 v1 v2 v88_r0) a + S256x512.size a ≤ S1088x5760.size a := fun v0 v1 v2 v3 k0_t6 v88_r0 k0_hw6 k0_h16 => k0_hw6.1.2.2.2.2.2.2.2.2.2.2.2.2.2.2.2.2.2.1 k0_h16
theorem k0_off117_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off117 v0 v1 v2 v3 k0_t6) a + S1x256x512.size a ≤ S5x256x5760.size a := fun v0 v1 v2 v3 k0_t6 v88_r0 k0_hw6 k0_h16 => k0_hw6.1.2.2.2.2.2.2.2.2.2.2.2.2.2.2.2.2.2.2.1 k0_h16
theorem k0_off118_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off118 v0 v1 v2 v88_r0) a + S256x512.size a ≤ S1088x5760.size a := fun v0 v1 v2 v3 k0_t6 v88_r0 k0_hw6 k0_h16 => k0_hw6.1.2.2.2.2.2.2.2.2.2.2.2.2.2.2.2.2.2.2.2.1 k0_h16
theorem k0_off119_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off119 v0 v1 v2 v3 k0_t6) a + S1x256x512.size a ≤ S5x256x5760.size a := fun v0 v1 v2 v3 k0_t6 v88_r0 k0_hw6 k0_h16 => k0_hw6.1.2.2.2.2.2.2.2.2.2.2.2.2.2.2.2.2.2.2.2.2.1 k0_h16
theorem k0_off120_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off120 v0 v1 v2 v88_r0) a + S256x512.size a ≤ S1088x5760.size a := fun v0 v1 v2 v3 k0_t6 v88_r0 k0_hw6 k0_h16 => k0_hw6.1.2.2.2.2.2.2.2.2.2.2.2.2.2.2.2.2.2.2.2.2.2.1 k0_h16
theorem k0_off121_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off121 v0 v1 v2 v3 k0_t6) a + S1x256x512.size a ≤ S5x256x5760.size a := fun v0 v1 v2 v3 k0_t6 v88_r0 k0_hw6 k0_h16 => k0_hw6.1.2.2.2.2.2.2.2.2.2.2.2.2.2.2.2.2.2.2.2.2.2.2.1 k0_h16
theorem k0_off122_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off122 v0 v1 v2 v88_r0) a + S256x512.size a ≤ S1088x5760.size a := fun v0 v1 v2 v3 k0_t6 v88_r0 k0_hw6 k0_h16 => k0_hw6.1.2.2.2.2.2.2.2.2.2.2.2.2.2.2.2.2.2.2.2.2.2.2.2.1 k0_h16
theorem k0_off123_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off123 v0 v1 v2 v3 k0_t6) a + S1x256x512.size a ≤ S5x256x5760.size a := fun v0 v1 v2 v3 k0_t6 v88_r0 k0_hw6 k0_h16 => k0_hw6.1.2.2.2.2.2.2.2.2.2.2.2.2.2.2.2.2.2.2.2.2.2.2.2.2.1 k0_h16
theorem k0_off124_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off124 v0 v1 v2 v88_r0) a + S256x128.size a ≤ S1088x5760.size a := fun v0 v1 v2 v3 k0_t6 v88_r0 k0_hw6 k0_h16 => k0_hw6.1.2.2.2.2.2.2.2.2.2.2.2.2.2.2.2.2.2.2.2.2.2.2.2.2.2.1 k0_h16
theorem k0_off125_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h16 : k0_cond16 v0 v1 v2 v3 v88_r0 = 1#1), ∀ a, (k0_off125 v0 v1 v2 v3 k0_t6) a + S1x256x128.size a ≤ S5x256x5760.size a := fun v0 v1 v2 v3 k0_t6 v88_r0 k0_hw6 k0_h16 => k0_hw6.1.2.2.2.2.2.2.2.2.2.2.2.2.2.2.2.2.2.2.2.2.2.2.2.2.2.2.1 k0_h16
theorem k0_off126_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off126 v0 v1 v2 v3 k0_t6 v88_r0) a + S512x256.size a ≤ S1088x3072.size a := fun v0 v1 v2 v3 k0_t6 v88_r0 k0_hw6 k0_h17 => k0_hw6.1.2.2.2.2.2.2.2.2.2.2.2.2.2.2.2.2.2.2.2.2.2.2.2.2.2.2.2.1 k0_h17
theorem k0_off127_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off127 v0 v1 v2 v88_r0) a + S512x512.size a ≤ S1088x5760.size a := fun v0 v1 v2 v3 k0_t6 v88_r0 k0_hw6 k0_h17 => k0_hw6.1.2.2.2.2.2.2.2.2.2.2.2.2.2.2.2.2.2.2.2.2.2.2.2.2.2.2.2.2.1 k0_h17
theorem k0_off128_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off128 v0 v1 v2 v3 k0_t6) a + S1x256x512.size a ≤ S5x256x5760.size a := fun v0 v1 v2 v3 k0_t6 v88_r0 k0_hw6 k0_h17 => k0_hw6.1.2.2.2.2.2.2.2.2.2.2.2.2.2.2.2.2.2.2.2.2.2.2.2.2.2.2.2.2.2.1 k0_h17
theorem k0_off129_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off129 v0 v1 v2 v88_r0) a + S512x512.size a ≤ S1088x5760.size a := fun v0 v1 v2 v3 k0_t6 v88_r0 k0_hw6 k0_h17 => k0_hw6.1.2.2.2.2.2.2.2.2.2.2.2.2.2.2.2.2.2.2.2.2.2.2.2.2.2.2.2.2.2.2.1 k0_h17
theorem k0_off130_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off130 v0 v1 v2 v3 k0_t6) a + S1x256x512.size a ≤ S5x256x5760.size a := fun v0 v1 v2 v3 k0_t6 v88_r0 k0_hw6 k0_h17 => k0_hw6.1.2.2.2.2.2.2.2.2.2.2.2.2.2.2.2.2.2.2.2.2.2.2.2.2.2.2.2.2.2.2.2 k0_h17
theorem k0_off131_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off131 v0 v1 v2 v88_r0) a + S512x512.size a ≤ S1088x5760.size a := fun v0 v1 v2 v3 k0_t6 v88_r0 k0_hw6 k0_h17 => k0_hw6.2.1.1 k0_h17
theorem k0_off132_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off132 v0 v1 v2 v3 k0_t6) a + S1x256x512.size a ≤ S5x256x5760.size a := fun v0 v1 v2 v3 k0_t6 v88_r0 k0_hw6 k0_h17 => k0_hw6.2.1.2.1 k0_h17
theorem k0_off133_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off133 v0 v1 v2 v88_r0) a + S512x512.size a ≤ S1088x5760.size a := fun v0 v1 v2 v3 k0_t6 v88_r0 k0_hw6 k0_h17 => k0_hw6.2.1.2.2.1 k0_h17
theorem k0_off134_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off134 v0 v1 v2 v3 k0_t6) a + S1x256x512.size a ≤ S5x256x5760.size a := fun v0 v1 v2 v3 k0_t6 v88_r0 k0_hw6 k0_h17 => k0_hw6.2.1.2.2.2.1 k0_h17
theorem k0_off135_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off135 v0 v1 v2 v88_r0) a + S512x512.size a ≤ S1088x5760.size a := fun v0 v1 v2 v3 k0_t6 v88_r0 k0_hw6 k0_h17 => k0_hw6.2.1.2.2.2.2.1 k0_h17
theorem k0_off136_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off136 v0 v1 v2 v3 k0_t6) a + S1x256x512.size a ≤ S5x256x5760.size a := fun v0 v1 v2 v3 k0_t6 v88_r0 k0_hw6 k0_h17 => k0_hw6.2.1.2.2.2.2.2.1 k0_h17
theorem k0_off137_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off137 v0 v1 v2 v88_r0) a + S512x512.size a ≤ S1088x5760.size a := fun v0 v1 v2 v3 k0_t6 v88_r0 k0_hw6 k0_h17 => k0_hw6.2.1.2.2.2.2.2.2.1 k0_h17
theorem k0_off138_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off138 v0 v1 v2 v3 k0_t6) a + S1x256x512.size a ≤ S5x256x5760.size a := fun v0 v1 v2 v3 k0_t6 v88_r0 k0_hw6 k0_h17 => k0_hw6.2.1.2.2.2.2.2.2.2.1 k0_h17
theorem k0_off139_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off139 v0 v1 v2 v88_r0) a + S512x512.size a ≤ S1088x5760.size a := fun v0 v1 v2 v3 k0_t6 v88_r0 k0_hw6 k0_h17 => k0_hw6.2.1.2.2.2.2.2.2.2.2.1 k0_h17
theorem k0_off140_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off140 v0 v1 v2 v3 k0_t6) a + S1x256x512.size a ≤ S5x256x5760.size a := fun v0 v1 v2 v3 k0_t6 v88_r0 k0_hw6 k0_h17 => k0_hw6.2.1.2.2.2.2.2.2.2.2.2.1 k0_h17
theorem k0_off141_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off141 v0 v1 v2 v88_r0) a + S512x512.size a ≤ S1088x5760.size a := fun v0 v1 v2 v3 k0_t6 v88_r0 k0_hw6 k0_h17 => k0_hw6.2.1.2.2.2.2.2.2.2.2.2.2.1 k0_h17
theorem k0_off142_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off142 v0 v1 v2 v3 k0_t6) a + S1x256x512.size a ≤ S5x256x5760.size a := fun v0 v1 v2 v3 k0_t6 v88_r0 k0_hw6 k0_h17 => k0_hw6.2.1.2.2.2.2.2.2.2.2.2.2.2.1 k0_h17
theorem k0_off143_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off143 v0 v1 v2 v88_r0) a + S512x512.size a ≤ S1088x5760.size a := fun v0 v1 v2 v3 k0_t6 v88_r0 k0_hw6 k0_h17 => k0_hw6.2.1.2.2.2.2.2.2.2.2.2.2.2.2.1 k0_h17
theorem k0_off144_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off144 v0 v1 v2 v3 k0_t6) a + S1x256x512.size a ≤ S5x256x5760.size a := fun v0 v1 v2 v3 k0_t6 v88_r0 k0_hw6 k0_h17 => k0_hw6.2.1.2.2.2.2.2.2.2.2.2.2.2.2.2.1 k0_h17
theorem k0_off145_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off145 v0 v1 v2 v88_r0) a + S512x512.size a ≤ S1088x5760.size a := fun v0 v1 v2 v3 k0_t6 v88_r0 k0_hw6 k0_h17 => k0_hw6.2.1.2.2.2.2.2.2.2.2.2.2.2.2.2.2.1 k0_h17
theorem k0_off146_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off146 v0 v1 v2 v3 k0_t6) a + S1x256x512.size a ≤ S5x256x5760.size a := fun v0 v1 v2 v3 k0_t6 v88_r0 k0_hw6 k0_h17 => k0_hw6.2.1.2.2.2.2.2.2.2.2.2.2.2.2.2.2.2.1 k0_h17
theorem k0_off147_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off147 v0 v1 v2 v88_r0) a + S512x512.size a ≤ S1088x5760.size a := fun v0 v1 v2 v3 k0_t6 v88_r0 k0_hw6 k0_h17 => k0_hw6.2.1.2.2.2.2.2.2.2.2.2.2.2.2.2.2.2.2.1 k0_h17
theorem k0_off148_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off148 v0 v1 v2 v3 k0_t6) a + S1x256x512.size a ≤ S5x256x5760.size a := fun v0 v1 v2 v3 k0_t6 v88_r0 k0_hw6 k0_h17 => k0_hw6.2.1.2.2.2.2.2.2.2.2.2.2.2.2.2.2.2.2.2.1 k0_h17
theorem k0_off149_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off149 v0 v1 v2 v88_r0) a + S512x128.size a ≤ S1088x5760.size a := fun v0 v1 v2 v3 k0_t6 v88_r0 k0_hw6 k0_h17 => k0_hw6.2.1.2.2.2.2.2.2.2.2.2.2.2.2.2.2.2.2.2.2.1 k0_h17
theorem k0_off150_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h17 : k0_cond17 v0 v1 v2 v3 v88_r0 = 1#1), ∀ a, (k0_off150 v0 v1 v2 v3 k0_t6) a + S1x256x128.size a ≤ S5x256x5760.size a := fun v0 v1 v2 v3 k0_t6 v88_r0 k0_hw6 k0_h17 => k0_hw6.2.1.2.2.2.2.2.2.2.2.2.2.2.2.2.2.2.2.2.2.2.1 k0_h17
theorem k0_off151_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off151 v0 v1 v2 v3 k0_t6 v88_r0) a + S768x256.size a ≤ S1088x3072.size a := fun v0 v1 v2 v3 k0_t6 v88_r0 k0_hw6 k0_h18 => k0_hw6.2.1.2.2.2.2.2.2.2.2.2.2.2.2.2.2.2.2.2.2.2.2.1 k0_h18
theorem k0_off152_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off152 v0 v1 v2 v88_r0) a + S768x512.size a ≤ S1088x5760.size a := fun v0 v1 v2 v3 k0_t6 v88_r0 k0_hw6 k0_h18 => k0_hw6.2.1.2.2.2.2.2.2.2.2.2.2.2.2.2.2.2.2.2.2.2.2.2.1 k0_h18
theorem k0_off153_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off153 v0 v1 v2 v3 k0_t6) a + S1x256x512.size a ≤ S5x256x5760.size a := fun v0 v1 v2 v3 k0_t6 v88_r0 k0_hw6 k0_h18 => k0_hw6.2.1.2.2.2.2.2.2.2.2.2.2.2.2.2.2.2.2.2.2.2.2.2.2.1 k0_h18
theorem k0_off154_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off154 v0 v1 v2 v88_r0) a + S768x512.size a ≤ S1088x5760.size a := fun v0 v1 v2 v3 k0_t6 v88_r0 k0_hw6 k0_h18 => k0_hw6.2.1.2.2.2.2.2.2.2.2.2.2.2.2.2.2.2.2.2.2.2.2.2.2.2.1 k0_h18
theorem k0_off155_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off155 v0 v1 v2 v3 k0_t6) a + S1x256x512.size a ≤ S5x256x5760.size a := fun v0 v1 v2 v3 k0_t6 v88_r0 k0_hw6 k0_h18 => k0_hw6.2.1.2.2.2.2.2.2.2.2.2.2.2.2.2.2.2.2.2.2.2.2.2.2.2.2.1 k0_h18
theorem k0_off156_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off156 v0 v1 v2 v88_r0) a + S768x512.size a ≤ S1088x5760.size a := fun v0 v1 v2 v3 k0_t6 v88_r0 k0_hw6 k0_h18 => k0_hw6.2.1.2.2.2.2.2.2.2.2.2.2.2.2.2.2.2.2.2.2.2.2.2.2.2.2.2.1 k0_h18
theorem k0_off157_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off157 v0 v1 v2 v3 k0_t6) a + S1x256x512.size a ≤ S5x256x5760.size a := fun v0 v1 v2 v3 k0_t6 v88_r0 k0_hw6 k0_h18 => k0_hw6.2.1.2.2.2.2.2.2.2.2.2.2.2.2.2.2.2.2.2.2.2.2.2.2.2.2.2.2.1 k0_h18
theorem k0_off158_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off158 v0 v1 v2 v88_r0) a + S768x512.size a ≤ S1088x5760.size a := fun v0 v1 v2 v3 k0_t6 v88_r0 k0_hw6 k0_h18 => k0_hw6.2.1.2.2.2.2.2.2.2.2.2.2.2.2.2.2.2.2.2.2.2.2.2.2.2.2.2.2.2.1 k0_h18
theorem k0_off159_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off159 v0 v1 v2 v3 k0_t6) a + S1x256x512.size a ≤ S5x256x5760.size a := fun v0 v1 v2 v3 k0_t6 v88_r0 k0_hw6 k0_h18 => k0_hw6.2.1.2.2.2.2.2.2.2.2.2.2.2.2.2.2.2.2.2.2.2.2.2.2.2.2.2.2.2.2.1 k0_h18
theorem k0_off160_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off160 v0 v1 v2 v88_r0) a + S768x512.size a ≤ S1088x5760.size a := fun v0 v1 v2 v3 k0_t6 v88_r0 k0_hw6 k0_h18 => k0_hw6.2.1.2.2.2.2.2.2.2.2.2.2.2.2.2.2.2.2.2.2.2.2.2.2.2.2.2.2.2.2.2.1 k0_h18
theorem k0_off161_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off161 v0 v1 v2 v3 k0_t6) a + S1x256x512.size a ≤ S5x256x5760.size a := fun v0 v1 v2 v3 k0_t6 v88_r0 k0_hw6 k0_h18 => k0_hw6.2.1.2.2.2.2.2.2.2.2.2.2.2.2.2.2.2.2.2.2.2.2.2.2.2.2.2.2.2.2.2.2.1 k0_h18
theorem k0_off162_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off162 v0 v1 v2 v88_r0) a + S768x512.size a ≤ S1088x5760.size a := fun v0 v1 v2 v3 k0_t6 v88_r0 k0_hw6 k0_h18 => k0_hw6.2.1.2.2.2.2.2.2.2.2.2.2.2.2.2.2.2.2.2.2.2.2.2.2.2.2.2.2.2.2.2.2.2 k0_h18
theorem k0_off163_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off163 v0 v1 v2 v3 k0_t6) a + S1x256x512.size a ≤ S5x256x5760.size a := fun v0 v1 v2 v3 k0_t6 v88_r0 k0_hw6 k0_h18 => k0_hw6.2.2.1 k0_h18
theorem k0_off164_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off164 v0 v1 v2 v88_r0) a + S768x512.size a ≤ S1088x5760.size a := fun v0 v1 v2 v3 k0_t6 v88_r0 k0_hw6 k0_h18 => k0_hw6.2.2.2.1 k0_h18
theorem k0_off165_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off165 v0 v1 v2 v3 k0_t6) a + S1x256x512.size a ≤ S5x256x5760.size a := fun v0 v1 v2 v3 k0_t6 v88_r0 k0_hw6 k0_h18 => k0_hw6.2.2.2.2.1 k0_h18
theorem k0_off166_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off166 v0 v1 v2 v88_r0) a + S768x512.size a ≤ S1088x5760.size a := fun v0 v1 v2 v3 k0_t6 v88_r0 k0_hw6 k0_h18 => k0_hw6.2.2.2.2.2.1 k0_h18
theorem k0_off167_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off167 v0 v1 v2 v3 k0_t6) a + S1x256x512.size a ≤ S5x256x5760.size a := fun v0 v1 v2 v3 k0_t6 v88_r0 k0_hw6 k0_h18 => k0_hw6.2.2.2.2.2.2.1 k0_h18
theorem k0_off168_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off168 v0 v1 v2 v88_r0) a + S768x512.size a ≤ S1088x5760.size a := fun v0 v1 v2 v3 k0_t6 v88_r0 k0_hw6 k0_h18 => k0_hw6.2.2.2.2.2.2.2.1 k0_h18
theorem k0_off169_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off169 v0 v1 v2 v3 k0_t6) a + S1x256x512.size a ≤ S5x256x5760.size a := fun v0 v1 v2 v3 k0_t6 v88_r0 k0_hw6 k0_h18 => k0_hw6.2.2.2.2.2.2.2.2.1 k0_h18
theorem k0_off170_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off170 v0 v1 v2 v88_r0) a + S768x512.size a ≤ S1088x5760.size a := fun v0 v1 v2 v3 k0_t6 v88_r0 k0_hw6 k0_h18 => k0_hw6.2.2.2.2.2.2.2.2.2.1 k0_h18
theorem k0_off171_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off171 v0 v1 v2 v3 k0_t6) a + S1x256x512.size a ≤ S5x256x5760.size a := fun v0 v1 v2 v3 k0_t6 v88_r0 k0_hw6 k0_h18 => k0_hw6.2.2.2.2.2.2.2.2.2.2.1 k0_h18
theorem k0_off172_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off172 v0 v1 v2 v88_r0) a + S768x512.size a ≤ S1088x5760.size a := fun v0 v1 v2 v3 k0_t6 v88_r0 k0_hw6 k0_h18 => k0_hw6.2.2.2.2.2.2.2.2.2.2.2.1 k0_h18
theorem k0_off173_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off173 v0 v1 v2 v3 k0_t6) a + S1x256x512.size a ≤ S5x256x5760.size a := fun v0 v1 v2 v3 k0_t6 v88_r0 k0_hw6 k0_h18 => k0_hw6.2.2.2.2.2.2.2.2.2.2.2.2.1 k0_h18
theorem k0_off174_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off174 v0 v1 v2 v88_r0) a + S768x128.size a ≤ S1088x5760.size a := fun v0 v1 v2 v3 k0_t6 v88_r0 k0_hw6 k0_h18 => k0_hw6.2.2.2.2.2.2.2.2.2.2.2.2.2.1 k0_h18
theorem k0_off175_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h18 : k0_cond18 v0 v1 v2 v3 v88_r0 = 1#1), ∀ a, (k0_off175 v0 v1 v2 v3 k0_t6) a + S1x256x128.size a ≤ S5x256x5760.size a := fun v0 v1 v2 v3 k0_t6 v88_r0 k0_hw6 k0_h18 => k0_hw6.2.2.2.2.2.2.2.2.2.2.2.2.2.2.1 k0_h18
theorem k0_off177_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h19 : k0_cond19 v0 v1 v2 v3 k0_t6 = 1#1), ∀ a, (k0_off177 v0 v1 v2 v3 k0_t6 v88_r0) a + S1x256x5760.size a ≤ S4x2880x5760.size a := fun v0 v1 v2 v3 k0_t6 v88_r0 k0_hw6 k0_h19 => k0_hw6.2.2.2.2.2.2.2.2.2.2.2.2.2.2.2.1 k0_h19
theorem k0_off180_inb : ∀ (v0 : BitVec 32) (v1 : BitVec 32) (v2 : BitVec 32) (v3 : BitVec 32) (k0_t6 : Fin (k0_t6_loop v0 v1 v2 v3).trips) (v88_r0 : BitVec 32) (k0_hw6 : k0_chk6 v0 v1 v2 v3 k0_t6 v88_r0), ∀ (k0_h20 : k0_cond20 v0 v1 v2 v3 k0_t6 = 1#1), ∀ a, (k0_off180 v0 v1 v2 v3 k0_t6 v88_r0) a + S1x64x5760.size a ≤ S4x2880x5760.size a := fun v0 v1 v2 v3 k0_t6 v88_r0 k0_hw6 k0_h20 => k0_hw6.2.2.2.2.2.2.2.2.2.2.2.2.2.2.2.2 k0_h20

def k0_off181 (v0 : BitVec 32) (v1 : BitVec 32) (v2 : BitVec 32) (v3 : BitVec 32) (k0_t6 : Fin (k0_t6_loop v0 v1 v2 v3).trips) : Fin 3 → Nat :=
  let c0_i32_44_r0 : BitVec 32 := 0#32
  let c0_i32_45_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_r0 : BitVec 32 := 12#32
  let v62_r0 : BitVec 32 := Scalar.muli v49 c12_i32_r0
  let c0_i32_39_r0 : BitVec 32 := 0#32
  let v63_r0 : BitVec 32 := Scalar.subi v62_r0 c0_i32_39_r0
  let c1_i32_40_r0 : BitVec 32 := 1#32
  let c1_i32_41_r0 : BitVec 32 := 1#32
  let v64_r0 : BitVec 32 := Scalar.subi c1_i32_40_r0 c1_i32_41_r0
  let v65_r0 : BitVec 32 := Scalar.addi v63_r0 v64_r0
  let c1_i32_42_r0 : BitVec 32 := 1#32
  let v66_r0 : BitVec 32 := Scalar.divsi v65_r0 c1_i32_42_r0
  let v67_r0 : BitVec 32 := Scalar.subi v66_r0 c0_i32_45_r0
  let c1_i32_46_r0 : BitVec 32 := 1#32
  let v69_r0 : BitVec 32 := Scalar.divsi v67_r0 c1_i32_46_r0
  let v70_r0 : BitVec 32 := Scalar.muli v69_r0 c1_i32_46_r0
  let v71_r0 : BitVec 32 := Scalar.addi c0_i32_45_r0 v70_r0
  let c1_i32_48_r0 : BitVec 32 := 1#32
  let arg11_r0 : BitVec 32 := Scf.iv v71_r0 c1_i32_48_r0 k0_t6
  let c1_i32_43_r0 : BitVec 32 := 1#32
  let v84_r0 : BitVec 32 := Scalar.muli arg11_r0 c1_i32_43_r0
  let v85_r0 : BitVec 32 := Scalar.addi c0_i32_44_r0 v84_r0
  let c5_i32_61_r0 : BitVec 32 := 5#32
  let v90_r0 : BitVec 32 := Scalar.remsi v85_r0 c5_i32_61_r0
  let c0_i32_89_r0 : BitVec 32 := 0#32
  let c0_i32_90_r0 : BitVec 32 := 0#32
  ![v90_r0.toNat, 0, 0]
@[reducible] def k0_t7_loop (v0 : BitVec 32) (v1 : BitVec 32) (v2 : BitVec 32) (v3 : BitVec 32) : Scf.Loop 32 :=
  let c0_i32_55_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let v75_r0 : BitVec 32 := Scalar.subi v72_r0 v74_r0
  let c1_i32_51_r0 : BitVec 32 := 1#32
  let c1_i32_52_r0 : BitVec 32 := 1#32
  let v76_r0 : BitVec 32 := Scalar.subi c1_i32_51_r0 c1_i32_52_r0
  let v77_r0 : BitVec 32 := Scalar.addi v75_r0 v76_r0
  let c1_i32_53_r0 : BitVec 32 := 1#32
  let v78_r0 : BitVec 32 := Scalar.divsi v77_r0 c1_i32_53_r0
  let v79_r0 : BitVec 32 := Scalar.subi v78_r0 c0_i32_55_r0
  let c1_i32_56_r0 : BitVec 32 := 1#32
  let v81_r0 : BitVec 32 := Scalar.divsi v79_r0 c1_i32_56_r0
  let v82_r0 : BitVec 32 := Scalar.muli v81_r0 c1_i32_56_r0
  let v83_r0 : BitVec 32 := Scalar.addi c0_i32_55_r0 v82_r0
  let c1_i32_57_r0 : BitVec 32 := 1#32
  ⟨c0_i32_55_r0, v83_r0, c1_i32_57_r0⟩
def k0_off182 (v0 : BitVec 32) (v1 : BitVec 32) (v2 : BitVec 32) (v3 : BitVec 32) (k0_t7 : Fin (k0_t7_loop v0 v1 v2 v3).trips) : Fin 1 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let c1_i32_57_r0 : BitVec 32 := 1#32
  let arg11_r0 : BitVec 32 := Scf.iv c0_i32_55_r0 c1_i32_57_r0 k0_t7
  let c1_i32_54_r0 : BitVec 32 := 1#32
  let v84_r0 : BitVec 32 := Scalar.muli arg11_r0 c1_i32_54_r0
  let v85_r0 : BitVec 32 := Scalar.addi v74_r0 v84_r0
  let c5_i32_63_r0 : BitVec 32 := 5#32
  let v93_r0 : BitVec 32 := Scalar.remsi v85_r0 c5_i32_63_r0
  ![v93_r0.toNat]
def k0_cond21 (v0 : BitVec 32) (v1 : BitVec 32) (v2 : BitVec 32) (v3 : BitVec 32) (k0_t7 : Fin (k0_t7_loop v0 v1 v2 v3).trips) : BitVec 1 :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let c1_i32_57_r0 : BitVec 32 := 1#32
  let arg11_r0 : BitVec 32 := Scf.iv c0_i32_55_r0 c1_i32_57_r0 k0_t7
  let c1_i32_54_r0 : BitVec 32 := 1#32
  let v84_r0 : BitVec 32 := Scalar.muli arg11_r0 c1_i32_54_r0
  let v85_r0 : BitVec 32 := Scalar.addi v74_r0 v84_r0
  let c12_i32_59_r0 : BitVec 32 := 12#32
  let v86_r0 : BitVec 32 := Scalar.remsi v85_r0 c12_i32_59_r0
  let c11_i32_r0 : BitVec 32 := 11#32
  let v87_r0 : BitVec 1 := Scalar.cmpi .ne v86_r0 c11_i32_r0
  let v88_r0 : BitVec 32 := Scalar.extui v87_r0
  let c0_i32_60_r0 : BitVec 32 := 0#32
  let v89_r0 : BitVec 1 := Scalar.cmpi .ne v88_r0 c0_i32_60_r0
  v89_r0

def k0_off183 (v0 : BitVec 32) (v1 : BitVec 32) (v2 : BitVec 32) (v3 : BitVec 32) (k0_t7 : Fin (k0_t7_loop v0 v1 v2 v3).trips) : Fin 3 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let c1_i32_57_r0 : BitVec 32 := 1#32
  let arg11_r0 : BitVec 32 := Scf.iv c0_i32_55_r0 c1_i32_57_r0 k0_t7
  let c1_i32_54_r0 : BitVec 32 := 1#32
  let v84_r0 : BitVec 32 := Scalar.muli arg11_r0 c1_i32_54_r0
  let v85_r0 : BitVec 32 := Scalar.addi v74_r0 v84_r0
  let c5_i32_63_r0 : BitVec 32 := 5#32
  let v93_r0 : BitVec 32 := Scalar.remsi v85_r0 c5_i32_63_r0
  let c0_i32_67_r0 : BitVec 32 := 0#32
  let c0_i32_68_r0 : BitVec 32 := 0#32
  ![v93_r0.toNat, 0, 0]
def k0_off184 (v0 : BitVec 32) (v1 : BitVec 32) (v2 : BitVec 32) (v3 : BitVec 32) (k0_t7 : Fin (k0_t7_loop v0 v1 v2 v3).trips) : Fin 1 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let c1_i32_57_r0 : BitVec 32 := 1#32
  let arg11_r0 : BitVec 32 := Scf.iv c0_i32_55_r0 c1_i32_57_r0 k0_t7
  let c1_i32_54_r0 : BitVec 32 := 1#32
  let v84_r0 : BitVec 32 := Scalar.muli arg11_r0 c1_i32_54_r0
  let v85_r0 : BitVec 32 := Scalar.addi v74_r0 v84_r0
  let c5_i32_63_r0 : BitVec 32 := 5#32
  let v93_r0 : BitVec 32 := Scalar.remsi v85_r0 c5_i32_63_r0
  ![v93_r0.toNat]
def k0_cond22 (v0 : BitVec 32) (v1 : BitVec 32) (v2 : BitVec 32) (v3 : BitVec 32) (k0_t7 : Fin (k0_t7_loop v0 v1 v2 v3).trips) : BitVec 1 :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let c1_i32_57_r0 : BitVec 32 := 1#32
  let arg11_r0 : BitVec 32 := Scf.iv c0_i32_55_r0 c1_i32_57_r0 k0_t7
  let c1_i32_54_r0 : BitVec 32 := 1#32
  let v84_r0 : BitVec 32 := Scalar.muli arg11_r0 c1_i32_54_r0
  let v85_r0 : BitVec 32 := Scalar.addi v74_r0 v84_r0
  let c12_i32_59_r0 : BitVec 32 := 12#32
  let v86_r0 : BitVec 32 := Scalar.remsi v85_r0 c12_i32_59_r0
  let c11_i32_61_r0 : BitVec 32 := 11#32
  let v90_r0 : BitVec 1 := Scalar.cmpi .eq v86_r0 c11_i32_61_r0
  let v91_r0 : BitVec 32 := Scalar.extui v90_r0
  let c0_i32_62_r0 : BitVec 32 := 0#32
  let v92_r0 : BitVec 1 := Scalar.cmpi .ne v91_r0 c0_i32_62_r0
  v92_r0

def k0_off185 (v0 : BitVec 32) (v1 : BitVec 32) (v2 : BitVec 32) (v3 : BitVec 32) (k0_t7 : Fin (k0_t7_loop v0 v1 v2 v3).trips) : Fin 3 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let c1_i32_57_r0 : BitVec 32 := 1#32
  let arg11_r0 : BitVec 32 := Scf.iv c0_i32_55_r0 c1_i32_57_r0 k0_t7
  let c1_i32_54_r0 : BitVec 32 := 1#32
  let v84_r0 : BitVec 32 := Scalar.muli arg11_r0 c1_i32_54_r0
  let v85_r0 : BitVec 32 := Scalar.addi v74_r0 v84_r0
  let c5_i32_63_r0 : BitVec 32 := 5#32
  let v93_r0 : BitVec 32 := Scalar.remsi v85_r0 c5_i32_63_r0
  let c0_i32_67_r0 : BitVec 32 := 0#32
  let c0_i32_68_r0 : BitVec 32 := 0#32
  ![v93_r0.toNat, 0, 0]
@[reducible] def k0_t8_loop (v0 : BitVec 32) (v1 : BitVec 32) (v2 : BitVec 32) (v3 : BitVec 32) : Scf.Loop 32 :=
  let c0_i32_55_r0 : BitVec 32 := 0#32
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let v75_r0 : BitVec 32 := Scalar.subi v72_r0 v74_r0
  let c1_i32_51_r0 : BitVec 32 := 1#32
  let c1_i32_52_r0 : BitVec 32 := 1#32
  let v76_r0 : BitVec 32 := Scalar.subi c1_i32_51_r0 c1_i32_52_r0
  let v77_r0 : BitVec 32 := Scalar.addi v75_r0 v76_r0
  let c1_i32_53_r0 : BitVec 32 := 1#32
  let v78_r0 : BitVec 32 := Scalar.divsi v77_r0 c1_i32_53_r0
  let v79_r0 : BitVec 32 := Scalar.subi v78_r0 c0_i32_55_r0
  let c1_i32_56_r0 : BitVec 32 := 1#32
  let v81_r0 : BitVec 32 := Scalar.divsi v79_r0 c1_i32_56_r0
  let v82_r0 : BitVec 32 := Scalar.muli v81_r0 c1_i32_56_r0
  let v83_r0 : BitVec 32 := Scalar.addi c0_i32_55_r0 v82_r0
  let v80_r0 : BitVec 32 := Scalar.addi c0_i32_55_r0 v79_r0
  let c1_i32_58_r0 : BitVec 32 := 1#32
  ⟨v83_r0, v80_r0, c1_i32_58_r0⟩
def k0_off186 (v0 : BitVec 32) (v1 : BitVec 32) (v2 : BitVec 32) (v3 : BitVec 32) (k0_t8 : Fin (k0_t8_loop v0 v1 v2 v3).trips) : Fin 1 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let v75_r0 : BitVec 32 := Scalar.subi v72_r0 v74_r0
  let c1_i32_51_r0 : BitVec 32 := 1#32
  let c1_i32_52_r0 : BitVec 32 := 1#32
  let v76_r0 : BitVec 32 := Scalar.subi c1_i32_51_r0 c1_i32_52_r0
  let v77_r0 : BitVec 32 := Scalar.addi v75_r0 v76_r0
  let c1_i32_53_r0 : BitVec 32 := 1#32
  let v78_r0 : BitVec 32 := Scalar.divsi v77_r0 c1_i32_53_r0
  let v79_r0 : BitVec 32 := Scalar.subi v78_r0 c0_i32_55_r0
  let c1_i32_56_r0 : BitVec 32 := 1#32
  let v81_r0 : BitVec 32 := Scalar.divsi v79_r0 c1_i32_56_r0
  let v82_r0 : BitVec 32 := Scalar.muli v81_r0 c1_i32_56_r0
  let v83_r0 : BitVec 32 := Scalar.addi c0_i32_55_r0 v82_r0
  let c1_i32_58_r0 : BitVec 32 := 1#32
  let arg11_r0 : BitVec 32 := Scf.iv v83_r0 c1_i32_58_r0 k0_t8
  let c1_i32_54_r0 : BitVec 32 := 1#32
  let v84_r0 : BitVec 32 := Scalar.muli arg11_r0 c1_i32_54_r0
  let v85_r0 : BitVec 32 := Scalar.addi v74_r0 v84_r0
  let c5_i32_63_r0 : BitVec 32 := 5#32
  let v93_r0 : BitVec 32 := Scalar.remsi v85_r0 c5_i32_63_r0
  ![v93_r0.toNat]
def k0_cond23 (v0 : BitVec 32) (v1 : BitVec 32) (v2 : BitVec 32) (v3 : BitVec 32) (k0_t8 : Fin (k0_t8_loop v0 v1 v2 v3).trips) : BitVec 1 :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let v75_r0 : BitVec 32 := Scalar.subi v72_r0 v74_r0
  let c1_i32_51_r0 : BitVec 32 := 1#32
  let c1_i32_52_r0 : BitVec 32 := 1#32
  let v76_r0 : BitVec 32 := Scalar.subi c1_i32_51_r0 c1_i32_52_r0
  let v77_r0 : BitVec 32 := Scalar.addi v75_r0 v76_r0
  let c1_i32_53_r0 : BitVec 32 := 1#32
  let v78_r0 : BitVec 32 := Scalar.divsi v77_r0 c1_i32_53_r0
  let v79_r0 : BitVec 32 := Scalar.subi v78_r0 c0_i32_55_r0
  let c1_i32_56_r0 : BitVec 32 := 1#32
  let v81_r0 : BitVec 32 := Scalar.divsi v79_r0 c1_i32_56_r0
  let v82_r0 : BitVec 32 := Scalar.muli v81_r0 c1_i32_56_r0
  let v83_r0 : BitVec 32 := Scalar.addi c0_i32_55_r0 v82_r0
  let c1_i32_58_r0 : BitVec 32 := 1#32
  let arg11_r0 : BitVec 32 := Scf.iv v83_r0 c1_i32_58_r0 k0_t8
  let c1_i32_54_r0 : BitVec 32 := 1#32
  let v84_r0 : BitVec 32 := Scalar.muli arg11_r0 c1_i32_54_r0
  let v85_r0 : BitVec 32 := Scalar.addi v74_r0 v84_r0
  let c12_i32_59_r0 : BitVec 32 := 12#32
  let v86_r0 : BitVec 32 := Scalar.remsi v85_r0 c12_i32_59_r0
  let c11_i32_r0 : BitVec 32 := 11#32
  let v87_r0 : BitVec 1 := Scalar.cmpi .ne v86_r0 c11_i32_r0
  let v88_r0 : BitVec 32 := Scalar.extui v87_r0
  let c0_i32_60_r0 : BitVec 32 := 0#32
  let v89_r0 : BitVec 1 := Scalar.cmpi .ne v88_r0 c0_i32_60_r0
  v89_r0

def k0_off187 (v0 : BitVec 32) (v1 : BitVec 32) (v2 : BitVec 32) (v3 : BitVec 32) (k0_t8 : Fin (k0_t8_loop v0 v1 v2 v3).trips) : Fin 3 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let v75_r0 : BitVec 32 := Scalar.subi v72_r0 v74_r0
  let c1_i32_51_r0 : BitVec 32 := 1#32
  let c1_i32_52_r0 : BitVec 32 := 1#32
  let v76_r0 : BitVec 32 := Scalar.subi c1_i32_51_r0 c1_i32_52_r0
  let v77_r0 : BitVec 32 := Scalar.addi v75_r0 v76_r0
  let c1_i32_53_r0 : BitVec 32 := 1#32
  let v78_r0 : BitVec 32 := Scalar.divsi v77_r0 c1_i32_53_r0
  let v79_r0 : BitVec 32 := Scalar.subi v78_r0 c0_i32_55_r0
  let c1_i32_56_r0 : BitVec 32 := 1#32
  let v81_r0 : BitVec 32 := Scalar.divsi v79_r0 c1_i32_56_r0
  let v82_r0 : BitVec 32 := Scalar.muli v81_r0 c1_i32_56_r0
  let v83_r0 : BitVec 32 := Scalar.addi c0_i32_55_r0 v82_r0
  let c1_i32_58_r0 : BitVec 32 := 1#32
  let arg11_r0 : BitVec 32 := Scf.iv v83_r0 c1_i32_58_r0 k0_t8
  let c1_i32_54_r0 : BitVec 32 := 1#32
  let v84_r0 : BitVec 32 := Scalar.muli arg11_r0 c1_i32_54_r0
  let v85_r0 : BitVec 32 := Scalar.addi v74_r0 v84_r0
  let c5_i32_63_r0 : BitVec 32 := 5#32
  let v93_r0 : BitVec 32 := Scalar.remsi v85_r0 c5_i32_63_r0
  let c0_i32_67_r0 : BitVec 32 := 0#32
  let c0_i32_68_r0 : BitVec 32 := 0#32
  ![v93_r0.toNat, 0, 0]
def k0_off188 (v0 : BitVec 32) (v1 : BitVec 32) (v2 : BitVec 32) (v3 : BitVec 32) (k0_t8 : Fin (k0_t8_loop v0 v1 v2 v3).trips) : Fin 1 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let v75_r0 : BitVec 32 := Scalar.subi v72_r0 v74_r0
  let c1_i32_51_r0 : BitVec 32 := 1#32
  let c1_i32_52_r0 : BitVec 32 := 1#32
  let v76_r0 : BitVec 32 := Scalar.subi c1_i32_51_r0 c1_i32_52_r0
  let v77_r0 : BitVec 32 := Scalar.addi v75_r0 v76_r0
  let c1_i32_53_r0 : BitVec 32 := 1#32
  let v78_r0 : BitVec 32 := Scalar.divsi v77_r0 c1_i32_53_r0
  let v79_r0 : BitVec 32 := Scalar.subi v78_r0 c0_i32_55_r0
  let c1_i32_56_r0 : BitVec 32 := 1#32
  let v81_r0 : BitVec 32 := Scalar.divsi v79_r0 c1_i32_56_r0
  let v82_r0 : BitVec 32 := Scalar.muli v81_r0 c1_i32_56_r0
  let v83_r0 : BitVec 32 := Scalar.addi c0_i32_55_r0 v82_r0
  let c1_i32_58_r0 : BitVec 32 := 1#32
  let arg11_r0 : BitVec 32 := Scf.iv v83_r0 c1_i32_58_r0 k0_t8
  let c1_i32_54_r0 : BitVec 32 := 1#32
  let v84_r0 : BitVec 32 := Scalar.muli arg11_r0 c1_i32_54_r0
  let v85_r0 : BitVec 32 := Scalar.addi v74_r0 v84_r0
  let c5_i32_63_r0 : BitVec 32 := 5#32
  let v93_r0 : BitVec 32 := Scalar.remsi v85_r0 c5_i32_63_r0
  ![v93_r0.toNat]
def k0_cond24 (v0 : BitVec 32) (v1 : BitVec 32) (v2 : BitVec 32) (v3 : BitVec 32) (k0_t8 : Fin (k0_t8_loop v0 v1 v2 v3).trips) : BitVec 1 :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let v75_r0 : BitVec 32 := Scalar.subi v72_r0 v74_r0
  let c1_i32_51_r0 : BitVec 32 := 1#32
  let c1_i32_52_r0 : BitVec 32 := 1#32
  let v76_r0 : BitVec 32 := Scalar.subi c1_i32_51_r0 c1_i32_52_r0
  let v77_r0 : BitVec 32 := Scalar.addi v75_r0 v76_r0
  let c1_i32_53_r0 : BitVec 32 := 1#32
  let v78_r0 : BitVec 32 := Scalar.divsi v77_r0 c1_i32_53_r0
  let v79_r0 : BitVec 32 := Scalar.subi v78_r0 c0_i32_55_r0
  let c1_i32_56_r0 : BitVec 32 := 1#32
  let v81_r0 : BitVec 32 := Scalar.divsi v79_r0 c1_i32_56_r0
  let v82_r0 : BitVec 32 := Scalar.muli v81_r0 c1_i32_56_r0
  let v83_r0 : BitVec 32 := Scalar.addi c0_i32_55_r0 v82_r0
  let c1_i32_58_r0 : BitVec 32 := 1#32
  let arg11_r0 : BitVec 32 := Scf.iv v83_r0 c1_i32_58_r0 k0_t8
  let c1_i32_54_r0 : BitVec 32 := 1#32
  let v84_r0 : BitVec 32 := Scalar.muli arg11_r0 c1_i32_54_r0
  let v85_r0 : BitVec 32 := Scalar.addi v74_r0 v84_r0
  let c12_i32_59_r0 : BitVec 32 := 12#32
  let v86_r0 : BitVec 32 := Scalar.remsi v85_r0 c12_i32_59_r0
  let c11_i32_61_r0 : BitVec 32 := 11#32
  let v90_r0 : BitVec 1 := Scalar.cmpi .eq v86_r0 c11_i32_61_r0
  let v91_r0 : BitVec 32 := Scalar.extui v90_r0
  let c0_i32_62_r0 : BitVec 32 := 0#32
  let v92_r0 : BitVec 1 := Scalar.cmpi .ne v91_r0 c0_i32_62_r0
  v92_r0

def k0_off189 (v0 : BitVec 32) (v1 : BitVec 32) (v2 : BitVec 32) (v3 : BitVec 32) (k0_t8 : Fin (k0_t8_loop v0 v1 v2 v3).trips) : Fin 3 → Nat :=
  let c0_i32_20 : BitVec 32 := 0#32
  let c15_i32 : BitVec 32 := 15#32
  let v4 : BitVec 32 := Scalar.addi v0 c15_i32
  let c4_i32 : BitVec 32 := 4#32
  let v5 : BitVec 32 := Scalar.shrui v4 c4_i32
  let c0_i32_18 : BitVec 32 := 0#32
  let v32 : BitVec 1 := Scalar.cmpi .sgt v5 c0_i32_18
  let c1_i32 : BitVec 32 := 1#32
  let c0_i32_19 : BitVec 32 := 0#32
  let v33 : BitVec 32 := Scalar.select v32 c1_i32 c0_i32_19
  let v34 : BitVec 32 := Scalar.addi c0_i32_20 v33
  let c15_i32_0 : BitVec 32 := 15#32
  let v6 : BitVec 32 := Scalar.addi v1 c15_i32_0
  let c4_i32_1 : BitVec 32 := 4#32
  let v7 : BitVec 32 := Scalar.shrui v6 c4_i32_1
  let c0_i32_22 : BitVec 32 := 0#32
  let v37 : BitVec 1 := Scalar.cmpi .sgt v7 c0_i32_22
  let c1_i32_23 : BitVec 32 := 1#32
  let c0_i32_24 : BitVec 32 := 0#32
  let v38 : BitVec 32 := Scalar.select v37 c1_i32_23 c0_i32_24
  let v39 : BitVec 32 := Scalar.addi v34 v38
  let c15_i32_2 : BitVec 32 := 15#32
  let v8 : BitVec 32 := Scalar.addi v2 c15_i32_2
  let c4_i32_3 : BitVec 32 := 4#32
  let v9 : BitVec 32 := Scalar.shrui v8 c4_i32_3
  let c0_i32_25 : BitVec 32 := 0#32
  let v42 : BitVec 1 := Scalar.cmpi .sgt v9 c0_i32_25
  let c1_i32_26 : BitVec 32 := 1#32
  let c0_i32_27 : BitVec 32 := 0#32
  let v43 : BitVec 32 := Scalar.select v42 c1_i32_26 c0_i32_27
  let v44 : BitVec 32 := Scalar.addi v39 v43
  let c15_i32_4 : BitVec 32 := 15#32
  let v10 : BitVec 32 := Scalar.addi v3 c15_i32_4
  let c4_i32_5 : BitVec 32 := 4#32
  let v11 : BitVec 32 := Scalar.shrui v10 c4_i32_5
  let c0_i32_28 : BitVec 32 := 0#32
  let v47 : BitVec 1 := Scalar.cmpi .sgt v11 c0_i32_28
  let c1_i32_29 : BitVec 32 := 1#32
  let c0_i32_30 : BitVec 32 := 0#32
  let v48 : BitVec 32 := Scalar.select v47 c1_i32_29 c0_i32_30
  let v49 : BitVec 32 := Scalar.addi v44 v48
  let c12_i32_49_r0 : BitVec 32 := 12#32
  let v72_r0 : BitVec 32 := Scalar.muli v49 c12_i32_49_r0
  let c5_i32_r0 : BitVec 32 := 5#32
  let v73_r0 : BitVec 32 := Scalar.subi v72_r0 c5_i32_r0
  let c0_i32_50_r0 : BitVec 32 := 0#32
  let v74_r0 : BitVec 32 := Scalar.maxsi v73_r0 c0_i32_50_r0
  let c0_i32_55_r0 : BitVec 32 := 0#32
  let v75_r0 : BitVec 32 := Scalar.subi v72_r0 v74_r0
  let c1_i32_51_r0 : BitVec 32 := 1#32
  let c1_i32_52_r0 : BitVec 32 := 1#32
  let v76_r0 : BitVec 32 := Scalar.subi c1_i32_51_r0 c1_i32_52_r0
  let v77_r0 : BitVec 32 := Scalar.addi v75_r0 v76_r0
  let c1_i32_53_r0 : BitVec 32 := 1#32
  let v78_r0 : BitVec 32 := Scalar.divsi v77_r0 c1_i32_53_r0
  let v79_r0 : BitVec 32 := Scalar.subi v78_r0 c0_i32_55_r0
  let c1_i32_56_r0 : BitVec 32 := 1#32
  let v81_r0 : BitVec 32 := Scalar.divsi v79_r0 c1_i32_56_r0
  let v82_r0 : BitVec 32 := Scalar.muli v81_r0 c1_i32_56_r0
  let v83_r0 : BitVec 32 := Scalar.addi c0_i32_55_r0 v82_r0
  let c1_i32_58_r0 : BitVec 32 := 1#32
  let arg11_r0 : BitVec 32 := Scf.iv v83_r0 c1_i32_58_r0 k0_t8
  let c1_i32_54_r0 : BitVec 32 := 1#32
  let v84_r0 : BitVec 32 := Scalar.muli arg11_r0 c1_i32_54_r0
  let v85_r0 : BitVec 32 := Scalar.addi v74_r0 v84_r0
  let c5_i32_63_r0 : BitVec 32 := 5#32
  let v93_r0 : BitVec 32 := Scalar.remsi v85_r0 c5_i32_63_r0
  let c0_i32_67_r0 : BitVec 32 := 0#32
  let c0_i32_68_r0 : BitVec 32 := 0#32
  ![v93_r0.toNat, 0, 0]

def k0_chk4 (v0 : BitVec 32) (v1 : BitVec 32) (v2 : BitVec 32) (v3 : BitVec 32) : Prop :=
  ((k0_t5_loop v0 v1 v2 v3).OK) ∧
  (∀ k0_t5 : Fin (k0_t5_loop v0 v1 v2 v3).trips, ∀ a, (k0_off8 v0 v1 v2 v3 k0_t5) a + S1.size a ≤ S4.size a) ∧
  (∀ k0_t5 : Fin (k0_t5_loop v0 v1 v2 v3).trips, ∀ (k0_h5 : k0_cond5 v0 v1 v2 v3 k0_t5 = 1#1), ∀ (k0_h6 : k0_cond6 v0 v1 v2 v3 k0_t5 = 1#1), ∀ a, (k0_off9 v0 v1 v2 v3 k0_t5) a + S1.size a ≤ S5.size a) ∧
  (∀ k0_t5 : Fin (k0_t5_loop v0 v1 v2 v3).trips, ∀ (k0_h5 : k0_cond5 v0 v1 v2 v3 k0_t5 = 1#1), ∀ (k0_h6 : k0_cond6 v0 v1 v2 v3 k0_t5 = 1#1), ∀ a, (k0_off10 v0 v1 v2 v3 k0_t5) a + S1x256x5760.size a ≤ S5x256x5760.size a) ∧
  (∀ k0_t5 : Fin (k0_t5_loop v0 v1 v2 v3).trips, ∀ (k0_h5 : k0_cond5 v0 v1 v2 v3 k0_t5 = 1#1), ∀ (k0_h7 : k0_cond7 v0 v1 v2 v3 k0_t5 = 1#1), ∀ a, (k0_off11 v0 v1 v2 v3 k0_t5) a + S1.size a ≤ S5.size a) ∧
  (∀ k0_t5 : Fin (k0_t5_loop v0 v1 v2 v3).trips, ∀ (k0_h5 : k0_cond5 v0 v1 v2 v3 k0_t5 = 1#1), ∀ (k0_h7 : k0_cond7 v0 v1 v2 v3 k0_t5 = 1#1), ∀ a, (k0_off12 v0 v1 v2 v3 k0_t5) a + S1x64x5760.size a ≤ S5x256x5760.size a) ∧
  (∀ k0_t5 : Fin (k0_t5_loop v0 v1 v2 v3).trips, 256 ∣ (k0_mult2 v0 v1 v2 v3 k0_t5).toNat) ∧
  (∀ k0_t5 : Fin (k0_t5_loop v0 v1 v2 v3).trips, ∀ (k0_h11 : k0_cond11 v0 v1 v2 v3 k0_t5 = 1#1), ∀ a, (k0_off89 v0 v1 v2 v3 k0_t5) a + S1.size a ≤ S5.size a) ∧
  (∀ k0_t5 : Fin (k0_t5_loop v0 v1 v2 v3).trips, ∀ (k0_h11 : k0_cond11 v0 v1 v2 v3 k0_t5 = 1#1), ∀ a, (k0_off91 v0 v1 v2 v3 k0_t5) a + S1x256x5760.size a ≤ S5x256x5760.size a) ∧
  (∀ k0_t5 : Fin (k0_t5_loop v0 v1 v2 v3).trips, ∀ (k0_h12 : k0_cond12 v0 v1 v2 v3 k0_t5 = 1#1), ∀ a, (k0_off92 v0 v1 v2 v3 k0_t5) a + S1.size a ≤ S5.size a) ∧
  (∀ k0_t5 : Fin (k0_t5_loop v0 v1 v2 v3).trips, ∀ (k0_h12 : k0_cond12 v0 v1 v2 v3 k0_t5 = 1#1), ∀ a, (k0_off94 v0 v1 v2 v3 k0_t5) a + S1x64x5760.size a ≤ S5x256x5760.size a) ∧
  ((k0_t6_loop v0 v1 v2 v3).OK) ∧
  (∀ k0_t6 : Fin (k0_t6_loop v0 v1 v2 v3).trips, ∀ a, (k0_off95 v0 v1 v2 v3 k0_t6) a + S1.size a ≤ S4.size a) ∧
  (∀ k0_t6 : Fin (k0_t6_loop v0 v1 v2 v3).trips, ∀ (k0_h13 : k0_cond13 v0 v1 v2 v3 k0_t6 = 1#1), ∀ (k0_h14 : k0_cond14 v0 v1 v2 v3 k0_t6 = 1#1), ∀ a, (k0_off96 v0 v1 v2 v3 k0_t6) a + S1.size a ≤ S5.size a) ∧
  (∀ k0_t6 : Fin (k0_t6_loop v0 v1 v2 v3).trips, ∀ (k0_h13 : k0_cond13 v0 v1 v2 v3 k0_t6 = 1#1), ∀ (k0_h14 : k0_cond14 v0 v1 v2 v3 k0_t6 = 1#1), ∀ a, (k0_off97 v0 v1 v2 v3 k0_t6) a + S1x256x5760.size a ≤ S5x256x5760.size a) ∧
  (∀ k0_t6 : Fin (k0_t6_loop v0 v1 v2 v3).trips, ∀ (k0_h13 : k0_cond13 v0 v1 v2 v3 k0_t6 = 1#1), ∀ (k0_h15 : k0_cond15 v0 v1 v2 v3 k0_t6 = 1#1), ∀ a, (k0_off98 v0 v1 v2 v3 k0_t6) a + S1.size a ≤ S5.size a) ∧
  (∀ k0_t6 : Fin (k0_t6_loop v0 v1 v2 v3).trips, ∀ (k0_h13 : k0_cond13 v0 v1 v2 v3 k0_t6 = 1#1), ∀ (k0_h15 : k0_cond15 v0 v1 v2 v3 k0_t6 = 1#1), ∀ a, (k0_off99 v0 v1 v2 v3 k0_t6) a + S1x64x5760.size a ≤ S5x256x5760.size a) ∧
  (∀ k0_t6 : Fin (k0_t6_loop v0 v1 v2 v3).trips, 256 ∣ (k0_mult4 v0 v1 v2 v3 k0_t6).toNat) ∧
  (∀ k0_t6 : Fin (k0_t6_loop v0 v1 v2 v3).trips, ∀ (k0_h19 : k0_cond19 v0 v1 v2 v3 k0_t6 = 1#1), ∀ a, (k0_off176 v0 v1 v2 v3 k0_t6) a + S1.size a ≤ S5.size a) ∧
  (∀ k0_t6 : Fin (k0_t6_loop v0 v1 v2 v3).trips, ∀ (k0_h19 : k0_cond19 v0 v1 v2 v3 k0_t6 = 1#1), ∀ a, (k0_off178 v0 v1 v2 v3 k0_t6) a + S1x256x5760.size a ≤ S5x256x5760.size a) ∧
  (∀ k0_t6 : Fin (k0_t6_loop v0 v1 v2 v3).trips, ∀ (k0_h20 : k0_cond20 v0 v1 v2 v3 k0_t6 = 1#1), ∀ a, (k0_off179 v0 v1 v2 v3 k0_t6) a + S1.size a ≤ S5.size a) ∧
  (∀ k0_t6 : Fin (k0_t6_loop v0 v1 v2 v3).trips, ∀ (k0_h20 : k0_cond20 v0 v1 v2 v3 k0_t6 = 1#1), ∀ a, (k0_off181 v0 v1 v2 v3 k0_t6) a + S1x64x5760.size a ≤ S5x256x5760.size a) ∧
  ((k0_t7_loop v0 v1 v2 v3).OK) ∧
  (∀ k0_t7 : Fin (k0_t7_loop v0 v1 v2 v3).trips, ∀ (k0_h21 : k0_cond21 v0 v1 v2 v3 k0_t7 = 1#1), ∀ a, (k0_off182 v0 v1 v2 v3 k0_t7) a + S1.size a ≤ S5.size a) ∧
  (∀ k0_t7 : Fin (k0_t7_loop v0 v1 v2 v3).trips, ∀ (k0_h21 : k0_cond21 v0 v1 v2 v3 k0_t7 = 1#1), ∀ a, (k0_off183 v0 v1 v2 v3 k0_t7) a + S1x256x5760.size a ≤ S5x256x5760.size a) ∧
  (∀ k0_t7 : Fin (k0_t7_loop v0 v1 v2 v3).trips, ∀ (k0_h22 : k0_cond22 v0 v1 v2 v3 k0_t7 = 1#1), ∀ a, (k0_off184 v0 v1 v2 v3 k0_t7) a + S1.size a ≤ S5.size a) ∧
  (∀ k0_t7 : Fin (k0_t7_loop v0 v1 v2 v3).trips, ∀ (k0_h22 : k0_cond22 v0 v1 v2 v3 k0_t7 = 1#1), ∀ a, (k0_off185 v0 v1 v2 v3 k0_t7) a + S1x64x5760.size a ≤ S5x256x5760.size a) ∧
  ((k0_t8_loop v0 v1 v2 v3).OK) ∧
  (∀ k0_t8 : Fin (k0_t8_loop v0 v1 v2 v3).trips, ∀ (k0_h23 : k0_cond23 v0 v1 v2 v3 k0_t8 = 1#1), ∀ a, (k0_off186 v0 v1 v2 v3 k0_t8) a + S1.size a ≤ S5.size a) ∧
  (∀ k0_t8 : Fin (k0_t8_loop v0 v1 v2 v3).trips, ∀ (k0_h23 : k0_cond23 v0 v1 v2 v3 k0_t8 = 1#1), ∀ a, (k0_off187 v0 v1 v2 v3 k0_t8) a + S1x256x5760.size a ≤ S5x256x5760.size a) ∧
  (∀ k0_t8 : Fin (k0_t8_loop v0 v1 v2 v3).trips, ∀ (k0_h24 : k0_cond24 v0 v1 v2 v3 k0_t8 = 1#1), ∀ a, (k0_off188 v0 v1 v2 v3 k0_t8) a + S1.size a ≤ S5.size a) ∧
  (∀ k0_t8 : Fin (k0_t8_loop v0 v1 v2 v3).trips, ∀ (k0_h24 : k0_cond24 v0 v1 v2 v3 k0_t8 = 1#1), ∀ a, (k0_off189 v0 v1 v2 v3 k0_t8) a + S1x64x5760.size a ≤ S5x256x5760.size a)
theorem k0_t5_ok : ∀ (v0 : BitVec 32) (v1 : BitVec 32) (v2 : BitVec 32) (v3 : BitVec 32) (k0_hw4 : k0_chk4 v0 v1 v2 v3), (k0_t5_loop v0 v1 v2 v3).OK := fun v0 v1 v2 v3 k0_hw4 => k0_hw4.1
theorem k0_off8_inb : ∀ (v0 : BitVec 32) (v1 : BitVec 32) (v2 : BitVec 32) (v3 : BitVec 32) (k0_hw4 : k0_chk4 v0 v1 v2 v3) (k0_t5 : Fin (k0_t5_loop v0 v1 v2 v3).trips), ∀ a, (k0_off8 v0 v1 v2 v3 k0_t5) a + S1.size a ≤ S4.size a := fun v0 v1 v2 v3 k0_hw4 k0_t5 => k0_hw4.2.1 k0_t5
theorem k0_off9_inb : ∀ (v0 : BitVec 32) (v1 : BitVec 32) (v2 : BitVec 32) (v3 : BitVec 32) (k0_hw4 : k0_chk4 v0 v1 v2 v3) (k0_t5 : Fin (k0_t5_loop v0 v1 v2 v3).trips), ∀ (k0_h5 : k0_cond5 v0 v1 v2 v3 k0_t5 = 1#1), ∀ (k0_h6 : k0_cond6 v0 v1 v2 v3 k0_t5 = 1#1), ∀ a, (k0_off9 v0 v1 v2 v3 k0_t5) a + S1.size a ≤ S5.size a := fun v0 v1 v2 v3 k0_hw4 k0_t5 k0_h5 k0_h6 => k0_hw4.2.2.1 k0_t5 k0_h5 k0_h6
theorem k0_off10_inb : ∀ (v0 : BitVec 32) (v1 : BitVec 32) (v2 : BitVec 32) (v3 : BitVec 32) (k0_hw4 : k0_chk4 v0 v1 v2 v3) (k0_t5 : Fin (k0_t5_loop v0 v1 v2 v3).trips), ∀ (k0_h5 : k0_cond5 v0 v1 v2 v3 k0_t5 = 1#1), ∀ (k0_h6 : k0_cond6 v0 v1 v2 v3 k0_t5 = 1#1), ∀ a, (k0_off10 v0 v1 v2 v3 k0_t5) a + S1x256x5760.size a ≤ S5x256x5760.size a := fun v0 v1 v2 v3 k0_hw4 k0_t5 k0_h5 k0_h6 => k0_hw4.2.2.2.1 k0_t5 k0_h5 k0_h6
theorem k0_off11_inb : ∀ (v0 : BitVec 32) (v1 : BitVec 32) (v2 : BitVec 32) (v3 : BitVec 32) (k0_hw4 : k0_chk4 v0 v1 v2 v3) (k0_t5 : Fin (k0_t5_loop v0 v1 v2 v3).trips), ∀ (k0_h5 : k0_cond5 v0 v1 v2 v3 k0_t5 = 1#1), ∀ (k0_h7 : k0_cond7 v0 v1 v2 v3 k0_t5 = 1#1), ∀ a, (k0_off11 v0 v1 v2 v3 k0_t5) a + S1.size a ≤ S5.size a := fun v0 v1 v2 v3 k0_hw4 k0_t5 k0_h5 k0_h7 => k0_hw4.2.2.2.2.1 k0_t5 k0_h5 k0_h7
theorem k0_off12_inb : ∀ (v0 : BitVec 32) (v1 : BitVec 32) (v2 : BitVec 32) (v3 : BitVec 32) (k0_hw4 : k0_chk4 v0 v1 v2 v3) (k0_t5 : Fin (k0_t5_loop v0 v1 v2 v3).trips), ∀ (k0_h5 : k0_cond5 v0 v1 v2 v3 k0_t5 = 1#1), ∀ (k0_h7 : k0_cond7 v0 v1 v2 v3 k0_t5 = 1#1), ∀ a, (k0_off12 v0 v1 v2 v3 k0_t5) a + S1x64x5760.size a ≤ S5x256x5760.size a := fun v0 v1 v2 v3 k0_hw4 k0_t5 k0_h5 k0_h7 => k0_hw4.2.2.2.2.2.1 k0_t5 k0_h5 k0_h7
theorem k0_mult2_dvd : ∀ (v0 : BitVec 32) (v1 : BitVec 32) (v2 : BitVec 32) (v3 : BitVec 32) (k0_hw4 : k0_chk4 v0 v1 v2 v3) (k0_t5 : Fin (k0_t5_loop v0 v1 v2 v3).trips), 256 ∣ (k0_mult2 v0 v1 v2 v3 k0_t5).toNat := fun v0 v1 v2 v3 k0_hw4 k0_t5 => k0_hw4.2.2.2.2.2.2.1 k0_t5
theorem k0_off89_inb : ∀ (v0 : BitVec 32) (v1 : BitVec 32) (v2 : BitVec 32) (v3 : BitVec 32) (k0_hw4 : k0_chk4 v0 v1 v2 v3) (k0_t5 : Fin (k0_t5_loop v0 v1 v2 v3).trips), ∀ (k0_h11 : k0_cond11 v0 v1 v2 v3 k0_t5 = 1#1), ∀ a, (k0_off89 v0 v1 v2 v3 k0_t5) a + S1.size a ≤ S5.size a := fun v0 v1 v2 v3 k0_hw4 k0_t5 k0_h11 => k0_hw4.2.2.2.2.2.2.2.1 k0_t5 k0_h11
theorem k0_off91_inb : ∀ (v0 : BitVec 32) (v1 : BitVec 32) (v2 : BitVec 32) (v3 : BitVec 32) (k0_hw4 : k0_chk4 v0 v1 v2 v3) (k0_t5 : Fin (k0_t5_loop v0 v1 v2 v3).trips), ∀ (k0_h11 : k0_cond11 v0 v1 v2 v3 k0_t5 = 1#1), ∀ a, (k0_off91 v0 v1 v2 v3 k0_t5) a + S1x256x5760.size a ≤ S5x256x5760.size a := fun v0 v1 v2 v3 k0_hw4 k0_t5 k0_h11 => k0_hw4.2.2.2.2.2.2.2.2.1 k0_t5 k0_h11
theorem k0_off92_inb : ∀ (v0 : BitVec 32) (v1 : BitVec 32) (v2 : BitVec 32) (v3 : BitVec 32) (k0_hw4 : k0_chk4 v0 v1 v2 v3) (k0_t5 : Fin (k0_t5_loop v0 v1 v2 v3).trips), ∀ (k0_h12 : k0_cond12 v0 v1 v2 v3 k0_t5 = 1#1), ∀ a, (k0_off92 v0 v1 v2 v3 k0_t5) a + S1.size a ≤ S5.size a := fun v0 v1 v2 v3 k0_hw4 k0_t5 k0_h12 => k0_hw4.2.2.2.2.2.2.2.2.2.1 k0_t5 k0_h12
theorem k0_off94_inb : ∀ (v0 : BitVec 32) (v1 : BitVec 32) (v2 : BitVec 32) (v3 : BitVec 32) (k0_hw4 : k0_chk4 v0 v1 v2 v3) (k0_t5 : Fin (k0_t5_loop v0 v1 v2 v3).trips), ∀ (k0_h12 : k0_cond12 v0 v1 v2 v3 k0_t5 = 1#1), ∀ a, (k0_off94 v0 v1 v2 v3 k0_t5) a + S1x64x5760.size a ≤ S5x256x5760.size a := fun v0 v1 v2 v3 k0_hw4 k0_t5 k0_h12 => k0_hw4.2.2.2.2.2.2.2.2.2.2.1 k0_t5 k0_h12
theorem k0_t6_ok : ∀ (v0 : BitVec 32) (v1 : BitVec 32) (v2 : BitVec 32) (v3 : BitVec 32) (k0_hw4 : k0_chk4 v0 v1 v2 v3), (k0_t6_loop v0 v1 v2 v3).OK := fun v0 v1 v2 v3 k0_hw4 => k0_hw4.2.2.2.2.2.2.2.2.2.2.2.1
theorem k0_off95_inb : ∀ (v0 : BitVec 32) (v1 : BitVec 32) (v2 : BitVec 32) (v3 : BitVec 32) (k0_hw4 : k0_chk4 v0 v1 v2 v3) (k0_t6 : Fin (k0_t6_loop v0 v1 v2 v3).trips), ∀ a, (k0_off95 v0 v1 v2 v3 k0_t6) a + S1.size a ≤ S4.size a := fun v0 v1 v2 v3 k0_hw4 k0_t6 => k0_hw4.2.2.2.2.2.2.2.2.2.2.2.2.1 k0_t6
theorem k0_off96_inb : ∀ (v0 : BitVec 32) (v1 : BitVec 32) (v2 : BitVec 32) (v3 : BitVec 32) (k0_hw4 : k0_chk4 v0 v1 v2 v3) (k0_t6 : Fin (k0_t6_loop v0 v1 v2 v3).trips), ∀ (k0_h13 : k0_cond13 v0 v1 v2 v3 k0_t6 = 1#1), ∀ (k0_h14 : k0_cond14 v0 v1 v2 v3 k0_t6 = 1#1), ∀ a, (k0_off96 v0 v1 v2 v3 k0_t6) a + S1.size a ≤ S5.size a := fun v0 v1 v2 v3 k0_hw4 k0_t6 k0_h13 k0_h14 => k0_hw4.2.2.2.2.2.2.2.2.2.2.2.2.2.1 k0_t6 k0_h13 k0_h14
theorem k0_off97_inb : ∀ (v0 : BitVec 32) (v1 : BitVec 32) (v2 : BitVec 32) (v3 : BitVec 32) (k0_hw4 : k0_chk4 v0 v1 v2 v3) (k0_t6 : Fin (k0_t6_loop v0 v1 v2 v3).trips), ∀ (k0_h13 : k0_cond13 v0 v1 v2 v3 k0_t6 = 1#1), ∀ (k0_h14 : k0_cond14 v0 v1 v2 v3 k0_t6 = 1#1), ∀ a, (k0_off97 v0 v1 v2 v3 k0_t6) a + S1x256x5760.size a ≤ S5x256x5760.size a := fun v0 v1 v2 v3 k0_hw4 k0_t6 k0_h13 k0_h14 => k0_hw4.2.2.2.2.2.2.2.2.2.2.2.2.2.2.1 k0_t6 k0_h13 k0_h14
theorem k0_off98_inb : ∀ (v0 : BitVec 32) (v1 : BitVec 32) (v2 : BitVec 32) (v3 : BitVec 32) (k0_hw4 : k0_chk4 v0 v1 v2 v3) (k0_t6 : Fin (k0_t6_loop v0 v1 v2 v3).trips), ∀ (k0_h13 : k0_cond13 v0 v1 v2 v3 k0_t6 = 1#1), ∀ (k0_h15 : k0_cond15 v0 v1 v2 v3 k0_t6 = 1#1), ∀ a, (k0_off98 v0 v1 v2 v3 k0_t6) a + S1.size a ≤ S5.size a := fun v0 v1 v2 v3 k0_hw4 k0_t6 k0_h13 k0_h15 => k0_hw4.2.2.2.2.2.2.2.2.2.2.2.2.2.2.2.1 k0_t6 k0_h13 k0_h15
theorem k0_off99_inb : ∀ (v0 : BitVec 32) (v1 : BitVec 32) (v2 : BitVec 32) (v3 : BitVec 32) (k0_hw4 : k0_chk4 v0 v1 v2 v3) (k0_t6 : Fin (k0_t6_loop v0 v1 v2 v3).trips), ∀ (k0_h13 : k0_cond13 v0 v1 v2 v3 k0_t6 = 1#1), ∀ (k0_h15 : k0_cond15 v0 v1 v2 v3 k0_t6 = 1#1), ∀ a, (k0_off99 v0 v1 v2 v3 k0_t6) a + S1x64x5760.size a ≤ S5x256x5760.size a := fun v0 v1 v2 v3 k0_hw4 k0_t6 k0_h13 k0_h15 => k0_hw4.2.2.2.2.2.2.2.2.2.2.2.2.2.2.2.2.1 k0_t6 k0_h13 k0_h15
theorem k0_mult4_dvd : ∀ (v0 : BitVec 32) (v1 : BitVec 32) (v2 : BitVec 32) (v3 : BitVec 32) (k0_hw4 : k0_chk4 v0 v1 v2 v3) (k0_t6 : Fin (k0_t6_loop v0 v1 v2 v3).trips), 256 ∣ (k0_mult4 v0 v1 v2 v3 k0_t6).toNat := fun v0 v1 v2 v3 k0_hw4 k0_t6 => k0_hw4.2.2.2.2.2.2.2.2.2.2.2.2.2.2.2.2.2.1 k0_t6
theorem k0_off176_inb : ∀ (v0 : BitVec 32) (v1 : BitVec 32) (v2 : BitVec 32) (v3 : BitVec 32) (k0_hw4 : k0_chk4 v0 v1 v2 v3) (k0_t6 : Fin (k0_t6_loop v0 v1 v2 v3).trips), ∀ (k0_h19 : k0_cond19 v0 v1 v2 v3 k0_t6 = 1#1), ∀ a, (k0_off176 v0 v1 v2 v3 k0_t6) a + S1.size a ≤ S5.size a := fun v0 v1 v2 v3 k0_hw4 k0_t6 k0_h19 => k0_hw4.2.2.2.2.2.2.2.2.2.2.2.2.2.2.2.2.2.2.1 k0_t6 k0_h19
theorem k0_off178_inb : ∀ (v0 : BitVec 32) (v1 : BitVec 32) (v2 : BitVec 32) (v3 : BitVec 32) (k0_hw4 : k0_chk4 v0 v1 v2 v3) (k0_t6 : Fin (k0_t6_loop v0 v1 v2 v3).trips), ∀ (k0_h19 : k0_cond19 v0 v1 v2 v3 k0_t6 = 1#1), ∀ a, (k0_off178 v0 v1 v2 v3 k0_t6) a + S1x256x5760.size a ≤ S5x256x5760.size a := fun v0 v1 v2 v3 k0_hw4 k0_t6 k0_h19 => k0_hw4.2.2.2.2.2.2.2.2.2.2.2.2.2.2.2.2.2.2.2.1 k0_t6 k0_h19
theorem k0_off179_inb : ∀ (v0 : BitVec 32) (v1 : BitVec 32) (v2 : BitVec 32) (v3 : BitVec 32) (k0_hw4 : k0_chk4 v0 v1 v2 v3) (k0_t6 : Fin (k0_t6_loop v0 v1 v2 v3).trips), ∀ (k0_h20 : k0_cond20 v0 v1 v2 v3 k0_t6 = 1#1), ∀ a, (k0_off179 v0 v1 v2 v3 k0_t6) a + S1.size a ≤ S5.size a := fun v0 v1 v2 v3 k0_hw4 k0_t6 k0_h20 => k0_hw4.2.2.2.2.2.2.2.2.2.2.2.2.2.2.2.2.2.2.2.2.1 k0_t6 k0_h20
theorem k0_off181_inb : ∀ (v0 : BitVec 32) (v1 : BitVec 32) (v2 : BitVec 32) (v3 : BitVec 32) (k0_hw4 : k0_chk4 v0 v1 v2 v3) (k0_t6 : Fin (k0_t6_loop v0 v1 v2 v3).trips), ∀ (k0_h20 : k0_cond20 v0 v1 v2 v3 k0_t6 = 1#1), ∀ a, (k0_off181 v0 v1 v2 v3 k0_t6) a + S1x64x5760.size a ≤ S5x256x5760.size a := fun v0 v1 v2 v3 k0_hw4 k0_t6 k0_h20 => k0_hw4.2.2.2.2.2.2.2.2.2.2.2.2.2.2.2.2.2.2.2.2.2.1 k0_t6 k0_h20
theorem k0_t7_ok : ∀ (v0 : BitVec 32) (v1 : BitVec 32) (v2 : BitVec 32) (v3 : BitVec 32) (k0_hw4 : k0_chk4 v0 v1 v2 v3), (k0_t7_loop v0 v1 v2 v3).OK := fun v0 v1 v2 v3 k0_hw4 => k0_hw4.2.2.2.2.2.2.2.2.2.2.2.2.2.2.2.2.2.2.2.2.2.2.1
theorem k0_off182_inb : ∀ (v0 : BitVec 32) (v1 : BitVec 32) (v2 : BitVec 32) (v3 : BitVec 32) (k0_hw4 : k0_chk4 v0 v1 v2 v3) (k0_t7 : Fin (k0_t7_loop v0 v1 v2 v3).trips), ∀ (k0_h21 : k0_cond21 v0 v1 v2 v3 k0_t7 = 1#1), ∀ a, (k0_off182 v0 v1 v2 v3 k0_t7) a + S1.size a ≤ S5.size a := fun v0 v1 v2 v3 k0_hw4 k0_t7 k0_h21 => k0_hw4.2.2.2.2.2.2.2.2.2.2.2.2.2.2.2.2.2.2.2.2.2.2.2.1 k0_t7 k0_h21
theorem k0_off183_inb : ∀ (v0 : BitVec 32) (v1 : BitVec 32) (v2 : BitVec 32) (v3 : BitVec 32) (k0_hw4 : k0_chk4 v0 v1 v2 v3) (k0_t7 : Fin (k0_t7_loop v0 v1 v2 v3).trips), ∀ (k0_h21 : k0_cond21 v0 v1 v2 v3 k0_t7 = 1#1), ∀ a, (k0_off183 v0 v1 v2 v3 k0_t7) a + S1x256x5760.size a ≤ S5x256x5760.size a := fun v0 v1 v2 v3 k0_hw4 k0_t7 k0_h21 => k0_hw4.2.2.2.2.2.2.2.2.2.2.2.2.2.2.2.2.2.2.2.2.2.2.2.2.1 k0_t7 k0_h21
theorem k0_off184_inb : ∀ (v0 : BitVec 32) (v1 : BitVec 32) (v2 : BitVec 32) (v3 : BitVec 32) (k0_hw4 : k0_chk4 v0 v1 v2 v3) (k0_t7 : Fin (k0_t7_loop v0 v1 v2 v3).trips), ∀ (k0_h22 : k0_cond22 v0 v1 v2 v3 k0_t7 = 1#1), ∀ a, (k0_off184 v0 v1 v2 v3 k0_t7) a + S1.size a ≤ S5.size a := fun v0 v1 v2 v3 k0_hw4 k0_t7 k0_h22 => k0_hw4.2.2.2.2.2.2.2.2.2.2.2.2.2.2.2.2.2.2.2.2.2.2.2.2.2.1 k0_t7 k0_h22
theorem k0_off185_inb : ∀ (v0 : BitVec 32) (v1 : BitVec 32) (v2 : BitVec 32) (v3 : BitVec 32) (k0_hw4 : k0_chk4 v0 v1 v2 v3) (k0_t7 : Fin (k0_t7_loop v0 v1 v2 v3).trips), ∀ (k0_h22 : k0_cond22 v0 v1 v2 v3 k0_t7 = 1#1), ∀ a, (k0_off185 v0 v1 v2 v3 k0_t7) a + S1x64x5760.size a ≤ S5x256x5760.size a := fun v0 v1 v2 v3 k0_hw4 k0_t7 k0_h22 => k0_hw4.2.2.2.2.2.2.2.2.2.2.2.2.2.2.2.2.2.2.2.2.2.2.2.2.2.2.1 k0_t7 k0_h22
theorem k0_t8_ok : ∀ (v0 : BitVec 32) (v1 : BitVec 32) (v2 : BitVec 32) (v3 : BitVec 32) (k0_hw4 : k0_chk4 v0 v1 v2 v3), (k0_t8_loop v0 v1 v2 v3).OK := fun v0 v1 v2 v3 k0_hw4 => k0_hw4.2.2.2.2.2.2.2.2.2.2.2.2.2.2.2.2.2.2.2.2.2.2.2.2.2.2.2.1
theorem k0_off186_inb : ∀ (v0 : BitVec 32) (v1 : BitVec 32) (v2 : BitVec 32) (v3 : BitVec 32) (k0_hw4 : k0_chk4 v0 v1 v2 v3) (k0_t8 : Fin (k0_t8_loop v0 v1 v2 v3).trips), ∀ (k0_h23 : k0_cond23 v0 v1 v2 v3 k0_t8 = 1#1), ∀ a, (k0_off186 v0 v1 v2 v3 k0_t8) a + S1.size a ≤ S5.size a := fun v0 v1 v2 v3 k0_hw4 k0_t8 k0_h23 => k0_hw4.2.2.2.2.2.2.2.2.2.2.2.2.2.2.2.2.2.2.2.2.2.2.2.2.2.2.2.2.1 k0_t8 k0_h23
theorem k0_off187_inb : ∀ (v0 : BitVec 32) (v1 : BitVec 32) (v2 : BitVec 32) (v3 : BitVec 32) (k0_hw4 : k0_chk4 v0 v1 v2 v3) (k0_t8 : Fin (k0_t8_loop v0 v1 v2 v3).trips), ∀ (k0_h23 : k0_cond23 v0 v1 v2 v3 k0_t8 = 1#1), ∀ a, (k0_off187 v0 v1 v2 v3 k0_t8) a + S1x256x5760.size a ≤ S5x256x5760.size a := fun v0 v1 v2 v3 k0_hw4 k0_t8 k0_h23 => k0_hw4.2.2.2.2.2.2.2.2.2.2.2.2.2.2.2.2.2.2.2.2.2.2.2.2.2.2.2.2.2.1 k0_t8 k0_h23
theorem k0_off188_inb : ∀ (v0 : BitVec 32) (v1 : BitVec 32) (v2 : BitVec 32) (v3 : BitVec 32) (k0_hw4 : k0_chk4 v0 v1 v2 v3) (k0_t8 : Fin (k0_t8_loop v0 v1 v2 v3).trips), ∀ (k0_h24 : k0_cond24 v0 v1 v2 v3 k0_t8 = 1#1), ∀ a, (k0_off188 v0 v1 v2 v3 k0_t8) a + S1.size a ≤ S5.size a := fun v0 v1 v2 v3 k0_hw4 k0_t8 k0_h24 => k0_hw4.2.2.2.2.2.2.2.2.2.2.2.2.2.2.2.2.2.2.2.2.2.2.2.2.2.2.2.2.2.2.1 k0_t8 k0_h24
theorem k0_off189_inb : ∀ (v0 : BitVec 32) (v1 : BitVec 32) (v2 : BitVec 32) (v3 : BitVec 32) (k0_hw4 : k0_chk4 v0 v1 v2 v3) (k0_t8 : Fin (k0_t8_loop v0 v1 v2 v3).trips), ∀ (k0_h24 : k0_cond24 v0 v1 v2 v3 k0_t8 = 1#1), ∀ a, (k0_off189 v0 v1 v2 v3 k0_t8) a + S1x64x5760.size a ≤ S5x256x5760.size a := fun v0 v1 v2 v3 k0_hw4 k0_t8 k0_h24 => k0_hw4.2.2.2.2.2.2.2.2.2.2.2.2.2.2.2.2.2.2.2.2.2.2.2.2.2.2.2.2.2.2.2 k0_t8 k0_h24

@[reducible] def k0_t9_loop : Scf.Loop 32 :=
  let c0_i32_39 : BitVec 32 := 0#32
  let c30_i32 : BitVec 32 := 30#32
  let v62 : BitVec 32 := Scalar.addi c0_i32_39 c30_i32
  let c1_i32_40 : BitVec 32 := 1#32
  ⟨c0_i32_39, v62, c1_i32_40⟩
def k0_off190 (k0_t9 : Fin k0_t9_loop.trips) : Fin 3 → Nat :=
  let c0_i32_44 : BitVec 32 := 0#32
  let c0_i32_43 : BitVec 32 := 0#32
  let c0_i32_39 : BitVec 32 := 0#32
  let c1_i32_40 : BitVec 32 := 1#32
  let arg11 : BitVec 32 := Scf.iv c0_i32_39 c1_i32_40 k0_t9
  let c1_i32_42 : BitVec 32 := 1#32
  let v63 : BitVec 32 := Scalar.muli arg11 c1_i32_42
  let v64 : BitVec 32 := Scalar.addi c0_i32_43 v63
  let c96_i32 : BitVec 32 := 96#32
  let v65 : BitVec 32 := Scalar.muli v64 c96_i32
  let c0_i32_45 : BitVec 32 := 0#32
  ![0, v65.toNat, 0]
@[reducible] def k0_t10_loop : Scf.Loop 32 :=
  let c0_i32_39 : BitVec 32 := 0#32
  let c30_i32 : BitVec 32 := 30#32
  let v62 : BitVec 32 := Scalar.addi c0_i32_39 c30_i32
  let c1_i32_40 : BitVec 32 := 1#32
  ⟨c0_i32_39, v62, c1_i32_40⟩
def k0_off191 (k0_t10 : Fin k0_t10_loop.trips) : Fin 3 → Nat :=
  let c1_i32_44 : BitVec 32 := 1#32
  let c0_i32_43 : BitVec 32 := 0#32
  let c0_i32_39 : BitVec 32 := 0#32
  let c1_i32_40 : BitVec 32 := 1#32
  let arg11 : BitVec 32 := Scf.iv c0_i32_39 c1_i32_40 k0_t10
  let c1_i32_42 : BitVec 32 := 1#32
  let v63 : BitVec 32 := Scalar.muli arg11 c1_i32_42
  let v64 : BitVec 32 := Scalar.addi c0_i32_43 v63
  let c96_i32 : BitVec 32 := 96#32
  let v65 : BitVec 32 := Scalar.muli v64 c96_i32
  let c0_i32_45 : BitVec 32 := 0#32
  ![1, v65.toNat, 0]
@[reducible] def k0_t11_loop : Scf.Loop 32 :=
  let c0_i32_39 : BitVec 32 := 0#32
  let c30_i32 : BitVec 32 := 30#32
  let v62 : BitVec 32 := Scalar.addi c0_i32_39 c30_i32
  let c1_i32_40 : BitVec 32 := 1#32
  ⟨c0_i32_39, v62, c1_i32_40⟩
def k0_off192 (k0_t11 : Fin k0_t11_loop.trips) : Fin 3 → Nat :=
  let c2_i32_44 : BitVec 32 := 2#32
  let c0_i32_43 : BitVec 32 := 0#32
  let c0_i32_39 : BitVec 32 := 0#32
  let c1_i32_40 : BitVec 32 := 1#32
  let arg11 : BitVec 32 := Scf.iv c0_i32_39 c1_i32_40 k0_t11
  let c1_i32_42 : BitVec 32 := 1#32
  let v63 : BitVec 32 := Scalar.muli arg11 c1_i32_42
  let v64 : BitVec 32 := Scalar.addi c0_i32_43 v63
  let c96_i32 : BitVec 32 := 96#32
  let v65 : BitVec 32 := Scalar.muli v64 c96_i32
  let c0_i32_45 : BitVec 32 := 0#32
  ![2, v65.toNat, 0]
@[reducible] def k0_t12_loop : Scf.Loop 32 :=
  let c0_i32_39 : BitVec 32 := 0#32
  let c30_i32 : BitVec 32 := 30#32
  let v62 : BitVec 32 := Scalar.addi c0_i32_39 c30_i32
  let c1_i32_40 : BitVec 32 := 1#32
  ⟨c0_i32_39, v62, c1_i32_40⟩
def k0_off193 (k0_t12 : Fin k0_t12_loop.trips) : Fin 3 → Nat :=
  let c3_i32_44 : BitVec 32 := 3#32
  let c0_i32_43 : BitVec 32 := 0#32
  let c0_i32_39 : BitVec 32 := 0#32
  let c1_i32_40 : BitVec 32 := 1#32
  let arg11 : BitVec 32 := Scf.iv c0_i32_39 c1_i32_40 k0_t12
  let c1_i32_42 : BitVec 32 := 1#32
  let v63 : BitVec 32 := Scalar.muli arg11 c1_i32_42
  let v64 : BitVec 32 := Scalar.addi c0_i32_43 v63
  let c96_i32 : BitVec 32 := 96#32
  let v65 : BitVec 32 := Scalar.muli v64 c96_i32
  let c0_i32_45 : BitVec 32 := 0#32
  ![3, v65.toNat, 0]
abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1088x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1088x5760 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F]
-- ==== ReferenceIdeal.lean ====
abbrev S4 : Shape := ⟨1, ![4]⟩
abbrev S1088x3072 : Shape := ⟨2, ![1088, 3072]⟩
abbrev S1088x5760 : Shape := ⟨2, ![1088, 5760]⟩
abbrev S_ : Shape := ⟨0, ![]⟩
abbrev S1088 : Shape := ⟨1, ![1088]⟩
abbrev S1x1088 : Shape := ⟨2, ![1, 1088]⟩
abbrev S4x1 : Shape := ⟨2, ![4, 1]⟩
abbrev S4x1088 : Shape := ⟨2, ![4, 1088]⟩
abbrev S4x1088x1 : Shape := ⟨3, ![4, 1088, 1]⟩
abbrev S1088x2880 : Shape := ⟨2, ![1088, 2880]⟩
abbrev S1x1088x2880 : Shape := ⟨3, ![1, 1088, 2880]⟩
abbrev S4x1088x2880 : Shape := ⟨3, ![4, 1088, 2880]⟩
abbrev S4x2880x5760 : Shape := ⟨3, ![4, 2880, 5760]⟩
abbrev S4x1x1 : Shape := ⟨3, ![4, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S4, .i32⟩
  | .hbm, ⟨1, _⟩ => ⟨S4, .f32⟩
  | .hbm, ⟨2, _⟩ => ⟨S4, .f32⟩
  | .hbm, ⟨3, _⟩ => ⟨S1088x3072, .bf16⟩
  | .hbm, ⟨4, _⟩ => ⟨S1088x5760, .bf16⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S4, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i1⟩
  | .hbm, ⟨21, _⟩ => ⟨S4, .i1⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S4, .i32⟩
  | .hbm, ⟨26, _⟩ => ⟨S_, .i32⟩
  | .hbm, ⟨27, _⟩ => ⟨S_, .i32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S4, .i32⟩
  | .hbm, ⟨36, _⟩ => ⟨S1088, .i32⟩
  | .hbm, ⟨37, _⟩ => ⟨S1x1088, .i32⟩
  | .hbm, ⟨38, _⟩ => ⟨S4x1, .i32⟩
  | .hbm, ⟨39, _⟩ => ⟨S4x1088, .i32⟩
  | .hbm, ⟨40, _⟩ => ⟨S4x1088, .i32⟩
  | .hbm, ⟨41, _⟩ => ⟨S4x1088, .i1⟩
  | .hbm, ⟨42, _⟩ => ⟨S1x1088, .i32⟩
  | .hbm, ⟨43, _⟩ => ⟨S4x1, .i32⟩
  | .hbm, ⟨44, _⟩ => ⟨S4x1088, .i32⟩
  | .hbm, ⟨45, _⟩ => ⟨S4x1088, .i32⟩
  | .hbm, ⟨46, _⟩ => ⟨S4x1088, .i1⟩
  | .hbm, ⟨47, _⟩ => ⟨S4x1088, .i1⟩
  | .hbm, ⟨48, _⟩ => ⟨S4x1088x1, .i1⟩
  | .hbm, ⟨49, _⟩ => ⟨S1088x2880, .bf16⟩
  | .hbm, ⟨50, _⟩ => ⟨S1x1088x2880, .bf16⟩
  | .hbm, ⟨51, _⟩ => ⟨S_, .bf16⟩
  | .hbm, ⟨52, _⟩ => ⟨S4x1088x2880, .i1⟩
  | .hbm, ⟨53, _⟩ => ⟨S4x1088x2880, .bf16⟩
  | .hbm, ⟨54, _⟩ => ⟨S4x1088x2880, .bf16⟩
  | .hbm, ⟨55, _⟩ => ⟨S4x1088x2880, .bf16⟩
  | .hbm, ⟨56, _⟩ => ⟨S4x2880x5760, .f32⟩
  | .hbm, ⟨57, _⟩ => ⟨S4, .f32⟩
  | .hbm, ⟨58, _⟩ => ⟨S4x1x1, .f32⟩
  | .hbm, ⟨59, _⟩ => ⟨S4x2880x5760, .f32⟩
  | .hbm, ⟨60, _⟩ => ⟨S4x2880x5760, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_call1_call0_c : Ref sig .tc := ⟨.hbm, 26, rfl⟩
abbrev main_call1_call0_v0 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩

abbrev nD : Nat := 1
abbrev τ : Topo := Topo.v7x

variable {F : FTy → Type} [FloatOps F]
-- ==== Scales.lean ====
abbrev S4 : Shape := ⟨1, ![4]⟩
abbrev S56x2880 : Shape := ⟨2, ![56, 2880]⟩
abbrev S56x5760 : Shape := ⟨2, ![56, 5760]⟩
abbrev S52x2880 : Shape := ⟨2, ![52, 2880]⟩
abbrev S52x5760 : Shape := ⟨2, ![52, 5760]⟩
abbrev S2 : Shape := ⟨1, ![2]⟩
abbrev S1 : Shape := ⟨1, ![1]⟩
abbrev S56x1 : Shape := ⟨2, ![56, 1]⟩
abbrev S56 : Shape := ⟨1, ![56]⟩
abbrev S1x1 : Shape := ⟨2, ![1, 1]⟩
abbrev S56x256 : Shape := ⟨2, ![56, 256]⟩
abbrev S52x256 : Shape := ⟨2, ![52, 256]⟩
abbrev S56x64 : Shape := ⟨2, ![56, 64]⟩
abbrev S52x64 : Shape := ⟨2, ![52, 64]⟩
abbrev S56x128 : Shape := ⟨2, ![56, 128]⟩
abbrev S52x128 : Shape := ⟨2, ![52, 128]⟩
abbrev S_ : Shape := ⟨0, ![]⟩

abbrev nBuf : Space → Nat
  | .hbm => 7
  | .vmem => 4
  | .smem => 3
  | _ => 0

abbrev bufTy : (tb : Table) → Fin (tcTables nBuf tb) → BufTy
  | .hbm, ⟨0, _⟩ => ⟨S4, .i32⟩
  | .hbm, ⟨1, _⟩ => ⟨S56x2880, .f32⟩
  | .hbm, ⟨2, _⟩ => ⟨S56x5760, .f32⟩
  | .hbm, ⟨3, _⟩ => ⟨S52x2880, .fp8e4m3⟩
  | .hbm, ⟨4, _⟩ => ⟨S4, .f32⟩
  | .hbm, ⟨5, _⟩ => ⟨S52x5760, .fp8e4m3⟩
  | .hbm, ⟨6, _⟩ => ⟨S4, .f32⟩
  | .local _ .vmem, ⟨0, _⟩ => ⟨S56x2880, .f32⟩
  | .local _ .vmem, ⟨1, _⟩ => ⟨S56x5760, .f32⟩
  | .local _ .vmem, ⟨2, _⟩ => ⟨S52x2880, .fp8e4m3⟩
  | .local _ .vmem, ⟨3, _⟩ => ⟨S52x5760, .fp8e4m3⟩
  | .local _ .smem, ⟨0, _⟩ => ⟨S4, .i32⟩
  | .local _ .smem, ⟨1, _⟩ => ⟨S4, .f32⟩
  | .local _ .smem, ⟨2, _⟩ => ⟨S4, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg1_0 : Ref sig .tc := ⟨.vmem, 0, rfl⟩
abbrev cc0_stg2_0 : Ref sig .tc := ⟨.vmem, 1, rfl⟩
abbrev cc0_scoped0 : Ref sig .tc := ⟨.vmem, 2, rfl⟩
abbrev cc0_scoped1 : Ref sig .tc := ⟨.vmem, 3, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x5760 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ScalesReferenceIdeal.lean ====
abbrev S4 : Shape := ⟨1, ![4]⟩
abbrev S56x2880 : Shape := ⟨2, ![56, 2880]⟩
abbrev S56x5760 : Shape := ⟨2, ![56, 5760]⟩
abbrev S_ : Shape := ⟨0, ![]⟩
abbrev S52 : Shape := ⟨1, ![52]⟩
abbrev S1x52 : Shape := ⟨2, ![1, 52]⟩
abbrev S4x1 : Shape := ⟨2, ![4, 1]⟩
abbrev S4x52 : Shape := ⟨2, ![4, 52]⟩
abbrev S52x2880 : Shape := ⟨2, ![52, 2880]⟩
abbrev S4x52x1 : Shape := ⟨3, ![4, 52, 1]⟩
abbrev S1x52x2880 : Shape := ⟨3, ![1, 52, 2880]⟩
abbrev S4x52x2880 : Shape := ⟨3, ![4, 52, 2880]⟩
abbrev S1 : Shape := ⟨1, ![1]⟩
abbrev S52x1 : Shape := ⟨2, ![52, 1]⟩
abbrev S52x5760 : Shape := ⟨2, ![52, 5760]⟩
abbrev S1x52x5760 : Shape := ⟨3, ![1, 52, 5760]⟩
abbrev S4x52x5760 : Shape := ⟨3, ![4, 52, 5760]⟩

abbrev nBuf : Space → Nat
  | .hbm => 164
  | .vmem => 0
  | .smem => 0
  | _ => 0

abbrev hbmTy0_0 (i : Nat) : BufTy := match i % 128 with
  | 0 => ⟨S4, .i32⟩
  | 1 => ⟨S56x2880, .f32⟩
  | 2 => ⟨S56x5760, .f32⟩
  | 3 => ⟨S_, .i32⟩
  | 4 => ⟨S4, .i32⟩
  | 5 => ⟨S4, .i32⟩
  | 6 => ⟨S_, .i32⟩
  | 7 => ⟨S_, .i32⟩
  | 8 => ⟨S4, .i32⟩
  | 9 => ⟨S4, .i32⟩
  | 10 => ⟨S4, .i32⟩
  | 11 => ⟨S_, .i32⟩
  | 12 => ⟨S4, .i32⟩
  | 13 => ⟨S4, .i1⟩
  | 14 => ⟨S4, .i32⟩
  | 15 => ⟨S4, .i32⟩
  | 16 => ⟨S_, .i32⟩
  | 17 => ⟨S4, .i32⟩
  | 18 => ⟨S4, .i1⟩
  | 19 => ⟨S4, .i1⟩
  | 20 => ⟨S_, .i32⟩
  | 21 => ⟨S4, .i32⟩
  | 22 => ⟨S4, .i32⟩
  | 23 => ⟨S4, .i32⟩
  | 24 => ⟨S_, .i32⟩
  | 25 => ⟨S_, .i32⟩
  | 26 => ⟨S4, .i32⟩
  | 27 => ⟨S4, .i32⟩
  | 28 => ⟨S52, .i32⟩
  | 29 => ⟨S1x52, .i32⟩
  | 30 => ⟨S4x1, .i32⟩
  | 31 => ⟨S4x52, .i32⟩
  | 32 => ⟨S4x52, .i32⟩
  | 33 => ⟨S4x52, .i1⟩
  | 34 => ⟨S1x52, .i32⟩
  | 35 => ⟨S4x1, .i32⟩
  | 36 => ⟨S4x52, .i32⟩
  | 37 => ⟨S4x52, .i32⟩
  | 38 => ⟨S4x52, .i1⟩
  | 39 => ⟨S4x52, .i1⟩
  | 40 => ⟨S52x2880, .f32⟩
  | 41 => ⟨S4x52x1, .i1⟩
  | 42 => ⟨S1x52x2880, .f32⟩
  | 43 => ⟨S_, .f32⟩
  | 44 => ⟨S_, .f32⟩
  | 45 => ⟨S4x52x2880, .i1⟩
  | 46 => ⟨S4x52x2880, .f32⟩
  | 47 => ⟨S4x52x2880, .f32⟩
  | 48 => ⟨S4x52x2880, .f32⟩
  | 49 => ⟨S_, .f32⟩
  | 50 => ⟨S4, .f32⟩
  | 51 => ⟨S_, .f32⟩
  | 52 => ⟨S4, .f32⟩
  | 53 => ⟨S4, .i1⟩
  | 54 => ⟨S_, .f32⟩
  | 55 => ⟨S4, .f32⟩
  | 56 => ⟨S4, .f32⟩
  | 57 => ⟨S_, .f32⟩
  | 58 => ⟨S_, .f32⟩
  | 59 => ⟨S4, .f32⟩
  | 60 => ⟨S4, .f32⟩
  | 61 => ⟨S_, .f32⟩
  | 62 => ⟨S52, .f32⟩
  | 63 => ⟨S1x52, .i1⟩
  | 64 => ⟨S52, .i1⟩
  | 65 => ⟨S1, .f32⟩
  | 66 => ⟨S_, .f32⟩
  | 67 => ⟨S52, .f32⟩
  | 68 => ⟨S52, .f32⟩
  | 69 => ⟨S1x52, .i1⟩
  | 70 => ⟨S52, .i1⟩
  | 71 => ⟨S1, .f32⟩
  | 72 => ⟨S_, .f32⟩
  | 73 => ⟨S52, .f32⟩
  | 74 => ⟨S52, .f32⟩
  | 75 => ⟨S1x52, .i1⟩
  | 76 => ⟨S52, .i1⟩
  | 77 => ⟨S1, .f32⟩
  | 78 => ⟨S_, .f32⟩
  | 79 => ⟨S52, .f32⟩
  | 80 => ⟨S52, .f32⟩
  | 81 => ⟨S1x52, .i1⟩
  | 82 => ⟨S52, .i1⟩
  | 83 => ⟨S1, .f32⟩
  | 84 => ⟨S_, .f32⟩
  | 85 => ⟨S52, .f32⟩
  | 86 => ⟨S52, .f32⟩
  | 87 => ⟨S52x1, .f32⟩
  | 88 => ⟨S_, .f32⟩
  | 89 => ⟨S52x1, .f32⟩
  | 90 => ⟨S52x1, .f32⟩
  | 91 => ⟨S52x2880, .f32⟩
  | 92 => ⟨S52x2880, .f32⟩
  | 93 => ⟨S_, .f32⟩
  | 94 => ⟨S_, .f32⟩
  | 95 => ⟨S_, .f32⟩
  | 96 => ⟨S52x2880, .f32⟩
  | 97 => ⟨S52x2880, .f32⟩
  | 98 => ⟨S_, .f32⟩
  | 99 => ⟨S52x2880, .f32⟩
  | 100 => ⟨S52x2880, .f32⟩
  | 101 => ⟨S52x2880, .fp8e4m3⟩
  | 102 => ⟨S52x5760, .f32⟩
  | 103 => ⟨S4x52x1, .i1⟩
  | 104 => ⟨S1x52x5760, .f32⟩
  | 105 => ⟨S_, .f32⟩
  | 106 => ⟨S_, .f32⟩
  | 107 => ⟨S4x52x5760, .i1⟩
  | 108 => ⟨S4x52x5760, .f32⟩
  | 109 => ⟨S4x52x5760, .f32⟩
  | 110 => ⟨S4x52x5760, .f32⟩
  | 111 => ⟨S_, .f32⟩
  | 112 => ⟨S4, .f32⟩
  | 113 => ⟨S_, .f32⟩
  | 114 => ⟨S4, .f32⟩
  | 115 => ⟨S4, .i1⟩
  | 116 => ⟨S_, .f32⟩
  | 117 => ⟨S4, .f32⟩
  | 118 => ⟨S4, .f32⟩
  | 119 => ⟨S_, .f32⟩
  | 120 => ⟨S_, .f32⟩
  | 121 => ⟨S4, .f32⟩
  | 122 => ⟨S4, .f32⟩
  | 123 => ⟨S_, .f32⟩
  | 124 => ⟨S52, .f32⟩
  | 125 => ⟨S1x52, .i1⟩
  | 126 => ⟨S52, .i1⟩
  | 127 => ⟨S1, .f32⟩
  | _ => ⟨S4, .i32⟩

abbrev hbmTy0_1 (i : Nat) : BufTy := match i % 128 with
  | 0 => ⟨S_, .f32⟩
  | 1 => ⟨S52, .f32⟩
  | 2 => ⟨S52, .f32⟩
  | 3 => ⟨S1x52, .i1⟩
  | 4 => ⟨S52, .i1⟩
  | 5 => ⟨S1, .f32⟩
  | 6 => ⟨S_, .f32⟩
  | 7 => ⟨S52, .f32⟩
  | 8 => ⟨S52, .f32⟩
  | 9 => ⟨S1x52, .i1⟩
  | 10 => ⟨S52, .i1⟩
  | 11 => ⟨S1, .f32⟩
  | 12 => ⟨S_, .f32⟩
  | 13 => ⟨S52, .f32⟩
  | 14 => ⟨S52, .f32⟩
  | 15 => ⟨S1x52, .i1⟩
  | 16 => ⟨S52, .i1⟩
  | 17 => ⟨S1, .f32⟩
  | 18 => ⟨S_, .f32⟩
  | 19 => ⟨S52, .f32⟩
  | 20 => ⟨S52, .f32⟩
  | 21 => ⟨S52x1, .f32⟩
  | 22 => ⟨S_, .f32⟩
  | 23 => ⟨S52x1, .f32⟩
  | 24 => ⟨S52x1, .f32⟩
  | 25 => ⟨S52x5760, .f32⟩
  | 26 => ⟨S52x5760, .f32⟩
  | 27 => ⟨S_, .f32⟩
  | 28 => ⟨S_, .f32⟩
  | 29 => ⟨S_, .f32⟩
  | 30 => ⟨S52x5760, .f32⟩
  | 31 => ⟨S52x5760, .f32⟩
  | 32 => ⟨S_, .f32⟩
  | 33 => ⟨S52x5760, .f32⟩
  | 34 => ⟨S52x5760, .f32⟩
  | 35 => ⟨S52x5760, .fp8e4m3⟩
  | _ => ⟨S4, .i32⟩

abbrev hbmTy (i : Nat) : BufTy := match i / 128 with
  | 0 => hbmTy0_0 i
  | 1 => hbmTy0_1 i
  | _ => ⟨S4, .i32⟩

abbrev bufTy : (tb : Table) → Fin (tcTables nBuf tb) → BufTy
  | .hbm, ⟨i, _⟩ => hbmTy i
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_call1_call0_c : Ref sig .tc := ⟨.hbm, 24, rfl⟩
abbrev main_call1_call0_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_v20 : Ref sig .tc := ⟨.hbm, 48, rfl⟩
abbrev main_cst_1 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_call3_v0 : Ref sig .tc := ⟨.hbm, 58, rfl⟩
abbrev main_call3_v1 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call4_v0 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call5_v0 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call6_v0 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_call7_v0 : Ref sig .tc := ⟨.hbm, 85, rfl⟩
abbrev main_v47 : Ref sig .tc := ⟨.hbm, 86, rfl⟩
abbrev main_v48 : Ref sig .tc := ⟨.hbm, 87, rfl⟩
abbrev main_cst_6 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_7 : Ref sig .tc := ⟨.hbm, 93, rfl⟩
abbrev main_cst_8 : Ref sig .tc := ⟨.hbm, 94, rfl⟩
abbrev main_call8_v0 : Ref sig .tc := ⟨.hbm, 95, rfl⟩
abbrev main_call8_v1 : Ref sig .tc := ⟨.hbm, 96, rfl⟩
abbrev main_call8_v2 : Ref sig .tc := ⟨.hbm, 97, rfl⟩
abbrev main_call8_v3 : Ref sig .tc := ⟨.hbm, 98, rfl⟩
abbrev main_call8_v4 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_9 : Ref sig .tc := ⟨.hbm, 105, rfl⟩
abbrev main_call9_v0 : Ref sig .tc := ⟨.hbm, 106, rfl⟩
abbrev main_call9_v1 : Ref sig .tc := ⟨.hbm, 107, rfl⟩
abbrev main_call9_v2 : Ref sig .tc := ⟨.hbm, 108, rfl⟩
abbrev main_call9_v3 : Ref sig .tc := ⟨.hbm, 109, rfl⟩
abbrev main_v58 : Ref sig .tc := ⟨.hbm, 110, rfl⟩
abbrev main_cst_10 : Ref sig .tc := ⟨.hbm, 111, rfl⟩
abbrev main_v59 : Ref sig .tc := ⟨.hbm, 112, rfl⟩
abbrev main_cst_11 : Ref sig .tc := ⟨.hbm, 113, rfl⟩
abbrev main_v60 : Ref sig .tc := ⟨.hbm, 114, rfl⟩
abbrev main_v61 : Ref sig .tc := ⟨.hbm, 115, rfl⟩
abbrev main_cst_12 : Ref sig .tc := ⟨.hbm, 116, rfl⟩
abbrev main_v62 : Ref sig .tc := ⟨.hbm, 117, rfl⟩
abbrev main_v63 : Ref sig .tc := ⟨.hbm, 118, rfl⟩
abbrev main_cst_13 : Ref sig .tc := ⟨.hbm, 119, rfl⟩
abbrev main_call10_v0 : Ref sig .tc := ⟨.hbm, 120, rfl⟩
abbrev main_call10_v1 : Ref sig .tc := ⟨.hbm, 121, rfl⟩
abbrev main_v64 : Ref sig .tc := ⟨.hbm, 122, rfl⟩
abbrev main_cst_14 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_call11_v0 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_call12_v0 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_call13_v0 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_call14_v0 : Ref sig .tc := ⟨.hbm, 147, rfl⟩
abbrev main_v85 : Ref sig .tc := ⟨.hbm, 148, rfl⟩
abbrev main_v86 : Ref sig .tc := ⟨.hbm, 149, rfl⟩
abbrev main_cst_15 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_16 : Ref sig .tc := ⟨.hbm, 155, rfl⟩
abbrev main_cst_17 : Ref sig .tc := ⟨.hbm, 156, rfl⟩
abbrev main_call15_v0 : Ref sig .tc := ⟨.hbm, 157, rfl⟩
abbrev main_call15_v1 : Ref sig .tc := ⟨.hbm, 158, rfl⟩
abbrev main_call15_v2 : Ref sig .tc := ⟨.hbm, 159, rfl⟩
abbrev main_call15_v3 : Ref sig .tc := ⟨.hbm, 160, rfl⟩
abbrev main_call15_v4 : Ref sig .tc := ⟨.hbm, 161, rfl⟩
abbrev main_v91 : Ref sig .tc := ⟨.hbm, 162, rfl⟩
abbrev main_v92 : Ref sig .tc := ⟨.hbm, 163, rfl⟩

abbrev nD : Nat := 1
abbrev τ : Topo := Topo.v7x

variable {F : FTy → Type} [FloatOps F]
-- ==== Proof.Steps.lean ====
/- Steps of a program, by the rules of its effects: a block run before its continuation, and the four accesses that make one
   chunk of the product — two loads of factors, a load whose value is not used, and a store. -/
module

public import Idealize.ShloMosaic.Lib.Pipeline.FrameValue
public import Idealize.ShloMosaic.Lib.Batch
public import Idealize.ShloMosaic.Lib.Ring
public import Idealize.ShloMosaic.Lib.Tactic

@[expose] public section

noncomputable section

namespace Cert.Proof.Steps

open Idealize.ShloMosaic Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {nD : Nat} {τ : Topo} {sig : RefSig} {Ix : Type} [DecidableEq Ix]
variable {Val : EltTy → Type} {Name : Type} [DecidableEq Name]
variable {U : Type} [URA U]
variable {Lvl : Type} {Λ : Labels} [Preorder Lvl] {defs : Defs nD τ sig Val Λ} (𝒱 : Variants) (c : Thread nD τ)
  (bd : Option 𝒱.V) {Γ : PendingWaitsCtx sig Ix} (E : Set Name)

local notation "𝕄" => MT nD τ sig Ix Val Name U Lvl

/-- A block before its continuation: run the block, then the continuation from what the block gives. -/
theorem wp_then {α β : Type} (p : Prog (TpuEff nD τ sig Val Λ c.2) β) (k : β → Prog (TpuEff nD τ sig Val Λ c.2) α) (Q : α → sProp 𝕄) :
    wp frame (wpE' defs 𝒱 c bd Γ) E p (fun r => wp frame (wpE' defs 𝒱 c bd Γ) E (k r) Q)
      ⊢ wp frame (wpE' defs 𝒱 c bd Γ) E (p.bind k) Q := by
  rw [show p.bind k = (p >>= k) from rfl, wp_bind]

/-- A block before its continuation, by what the block is known to do. -/
theorem wp_seq {α β : Type} {p : Prog (TpuEff nD τ sig Val Λ c.2) β} {k : β → Prog (TpuEff nD τ sig Val Λ c.2) α} {Q : α → sProp 𝕄}
    {P : sProp 𝕄} {Mid : β → sProp 𝕄} (h : P ⊢ wp frame (wpE' defs 𝒱 c bd Γ) E p Mid) :
    iprop(P ∗ (∀ r, Mid r -∗ wp frame (wpE' defs 𝒱 c bd Γ) E (k r) Q)) ⊢ wp frame (wpE' defs 𝒱 c bd Γ) E (p.bind k) Q := by
  refine .trans ?_ (wp_then 𝒱 c bd E p k Q)
  iintro ⟨HP, Hk⟩
  iapply (wp_wand_r frame (wpE' defs 𝒱 c bd Γ) E (Q := Mid)) $$ [HP Hk]
  isplitl [HP]
  · ihave H := h $$ HP
    iexact H
  · iexact Hk

theorem ret_bind' {Eff : Type → Type} {α β : Type} (a : α) (k : α → Prog Eff β) : (Prog.ret a).bind k = k a := rfl
theorem op_bind' {Eff : Type → Type} {α β γ : Type} (e : Eff γ) (j : γ → Prog Eff α) (k : α → Prog Eff β) :
    (Prog.op e j).bind k = .op e fun x => (j x).bind k := rfl
theorem bind_bind' {Eff : Type → Type} {α β γ : Type} (p : Prog Eff α) (j : α → Prog Eff β) (k : β → Prog Eff γ) :
    (p.bind j).bind k = p.bind fun x => (j x).bind k := bind_assoc p j k
theorem bind_def' {Eff : Type → Type} {α β : Type} (p : Prog Eff α) (k : α → Prog Eff β) : (p >>= k) = p.bind k := rfl
theorem pure_def' {Eff : Type → Type} {α : Type} (a : α) : (pure a : Prog Eff α) = .ret a := rfl

/-- What a store through a view leaves, element by element: the payload under the view, the old contents off it. -/
theorem write_cases {κ : Kind} {sp : Space} {s : Shape} {e : EltTy} (v : View sig κ sp s e) (f val : v.ty.Contents Val) (w : s.Idx → Val e)
    (hw : ∀ x, cast (congrArg Val v.elt_eq.symm) (w x) = val (v.emb x)) (y : v.ty.Idx) (hy : y ∉ v.set → f y = val y) :
    v.write Val f w Finset.univ y = val y := by
  by_cases hm : y ∈ v.setOn Finset.univ
  · obtain ⟨x, -, rfl⟩ := Finset.mem_map.mp hm
    rw [View.write_emb_of_mem f w (Finset.mem_univ x), hw]
  · rw [View.write_of_not_mem f w Finset.univ hm]
    exact hy (by rwa [View.setOn_univ] at hm)

variable {s6 s4 sr : Shape} {e6 e4 er : EltTy} {p6 p4 pr : CoreSpace}

/-- One chunk: load both factors, load the place of the result, store the result there. -/
theorem wp_chunk {α : Type} {m6 : Memref sig c.2.kind p6 s6 e6} {r6 : LoadRect s6} {h6 : m6.view.LoadsAt r6}
    {m4 : Memref sig c.2.kind p4 s4 e4} {r4 : LoadRect s4} {h4 : m4.view.LoadsAt r4}
    {mr : Memref sig c.2.kind pr sr er} {rr : LoadRect sr} {hr : mr.view.LoadsAt rr}
    {rs : Rect sr} {hx : (mr.access rs).Stores Finset.univ} {hm : (Finset.univ : Finset rs.shape.Idx) = Finset.univ ∨ ∀ a, rs.stride a = 1}
    {pay : (r6.shape.Idx → Val e6) → (r4.shape.Idx → Val e4) → rs.shape.Idx → Val er}
    {k : PUnit → Prog (TpuEff nD τ sig Val Λ c.2) α} {Q : α → sProp 𝕄}
    {S6 : Finset (Idx (m6.view.loc c))} {S4 : Finset (Idx (m4.view.loc c))} {S : Finset (Idx (mr.view.loc c))}
    {q6 q4 : PosShare TreeShare} (f6 : Buf Val (m6.view.loc c)) (f4 : Buf Val (m4.view.loc c)) (f : Buf Val (mr.view.loc c))
    (hS6 : m6.view.setOn r6.set ⊆ S6) (hS4 : m4.view.setOn r4.set ⊆ S4) (hSr : mr.view.setOn rr.set ⊆ S) (hS : (mr.access rs).setOn Finset.univ ⊆ S) :
    iprop((m6.view.loc c ↦[S6]{q6} f6) ∗ (m4.view.loc c ↦[S4]{q4} f4) ∗ (mr.view.loc c ↦[S]{fullShare} f)
        ∗ (((m6.view.loc c ↦[S6]{q6} f6) ∗ (m4.view.loc c ↦[S4]{q4} f4)
          ∗ (mr.view.loc c ↦[S]{fullShare} ((mr.access rs).write Val f (pay (m6.view.readAt Val r6 f6) (m4.view.readAt Val r4 f4)) Finset.univ)))
        -∗ wp frame (wpE' defs 𝒱 c bd Γ) E (k ⟨⟩) Q))
      ⊢ wp frame (wpE' defs 𝒱 c bd Γ) E
          (.op (.load m6 r6 h6) fun a => .op (.load m4 r4 h4) fun b => .op (.load mr rr hr) fun _ => .op (.store mr rs (pay a b) Finset.univ hx hm) k) Q := by
  iintro ⟨H6, H4, H, Hk⟩
  iapply (wp_load 𝒱 c bd E hS6) $$ [H6]; · iexact H6
  iintro H6
  iapply (wp_load 𝒱 c bd E hS4) $$ [H4]; · iexact H4
  iintro H4
  iapply (wp_load 𝒱 c bd E hSr) $$ [H]; · iexact H
  iintro H
  iapply (wp_store 𝒱 c bd E hS) $$ [H]; · iexact H
  iintro H
  iapply Hk
  isplitl [H6]; · iexact H6
  isplitl [H4]; · iexact H4
  iexact H

end Cert.Proof.Steps

end
-- ==== Proof.Words.lean ====
/- The index words of the kernel as natural numbers: the blocks each expert owns, the number of experts that own any,
   the first row of an expert, the trips of the two loops over slabs, and the quotient and remainders of a slab's number.
   Everything here is about words alone; no program is mentioned. -/
module

public import Idealize.ShloMosaic.Lib.WordCmp
public import Idealize.ShloMosaic.Lib.WordArith
public import Idealize.ShloMosaic.Lib.LoopRemainder
public import Idealize.ShloMosaic.Lib.Scf
public import Mathlib.Algebra.BigOperators.Fin

@[expose] public section

namespace Cert.Proof.Words

open Idealize.ShloMosaic

/-! ## Operations on small words -/

theorem toInt_small {x : BitVec 32} (h : x.toNat < 2 ^ 31) : x.toInt = (x.toNat : Int) :=
  WordCmp.toInt_eq_toNat_of_lt_half (by simpa using h)

theorem eq_ofNat {x : BitVec 32} {n : ℕ} (h : x.toNat = n) : x = BitVec.ofNat 32 n := by
  subst h; simp

theorem divsi_nat {x : BitVec 32} {a : ℕ} (hx : x.toNat = a) (ha : a < 2 ^ 31) (b : ℕ) (h0 : 0 < b) (hb : b < 2 ^ 31) :
    (Scalar.divsi x (BitVec.ofNat 32 b)).toNat = a / b := by
  have hbn : (BitVec.ofNat 32 b).toNat = b := by simp; omega
  have hbi : (BitVec.ofNat 32 b).toInt = (b : Int) := by rw [toInt_small (by omega), hbn]
  have hxi : x.toInt = (a : Int) := by rw [toInt_small (by omega), hx]
  have hc : ¬ IntOp.SDivCorner x (BitVec.ofNat 32 b) := by
    unfold IntOp.SDivCorner
    rintro (h | ⟨-, h⟩)
    · rw [h] at hbn; simp at hbn; omega
    · rw [h] at hbn; simp [BitVec.toNat_allOnes] at hbn; omega
  have e : Scalar.divsi x (BitVec.ofNat 32 b) = x.sdiv (BitVec.ofNat 32 b) := if_neg hc
  have hdiv : (a : Int).tdiv b = ((a / b : ℕ) : Int) := by rw [Int.tdiv_eq_ediv_of_nonneg (by omega)]; rfl
  have hi : (x.sdiv (BitVec.ofNat 32 b)).toInt = ((a / b : ℕ) : Int) := by
    rw [BitVec.toInt_sdiv, hxi, hbi, hdiv]
    have : a / b ≤ a := Nat.div_le_self _ _
    generalize a / b = q at this ⊢
    rw [Int.bmod_eq_of_le] <;> omega
  rw [e]
  have := BitVec.toInt_eq_toNat_cond (x.sdiv (BitVec.ofNat 32 b))
  have hl := (x.sdiv (BitVec.ofNat 32 b)).isLt
  have hq : a / b ≤ a := Nat.div_le_self _ _
  generalize a / b = q at hq hi ⊢
  split at this <;> omega

theorem remsi_nat {x : BitVec 32} {a : ℕ} (hx : x.toNat = a) (ha : a < 2 ^ 31) (b : ℕ) (h0 : 0 < b) (hb : b < 2 ^ 31) :
    (Scalar.remsi x (BitVec.ofNat 32 b)).toNat = a % b := by
  have hbn : (BitVec.ofNat 32 b).toNat = b := by simp; omega
  have hbi : (BitVec.ofNat 32 b).toInt = (b : Int) := by rw [toInt_small (by omega), hbn]
  have hxi : x.toInt = (a : Int) := by rw [toInt_small (by omega), hx]
  have hc : ¬ IntOp.SDivCorner x (BitVec.ofNat 32 b) := by
    unfold IntOp.SDivCorner
    rintro (h | ⟨-, h⟩)
    · rw [h] at hbn; simp at hbn; omega
    · rw [h] at hbn; simp [BitVec.toNat_allOnes] at hbn; omega
  have e : Scalar.remsi x (BitVec.ofNat 32 b) = x.srem (BitVec.ofNat 32 b) := if_neg hc
  have hrem : (a : Int).tmod b = ((a % b : ℕ) : Int) := by rw [Int.tmod_eq_emod_of_nonneg (by omega)]; rfl
  have hi : (x.srem (BitVec.ofNat 32 b)).toInt = ((a % b : ℕ) : Int) := by
    rw [BitVec.toInt_srem, hxi, hbi, hrem]
  rw [e]
  have := BitVec.toInt_eq_toNat_cond (x.srem (BitVec.ofNat 32 b))
  have hl := (x.srem (BitVec.ofNat 32 b)).isLt
  split at this <;> omega

/-- A kernel's guard: a bit widened to a word and compared with zero. -/
theorem guard_iff (b : BitVec 1) : Scalar.cmpi .ne (Scalar.extui b) 0#32 = 1#1 ↔ b = 1#1 := by
  revert b; decide

theorem sgt_iff {x y : BitVec 32} (hx : x.toNat < 2 ^ 31) (hy : y.toNat < 2 ^ 31) :
    Scalar.cmpi .sgt x y = 1#1 ↔ y.toNat < x.toNat := by
  show BitVec.ofBool (y.slt x) = 1#1 ↔ _
  rw [WordCmp.ofBool_eq_one_iff, BitVec.slt, decide_eq_true_iff, toInt_small hx, toInt_small hy]; omega

theorem sge_iff {x y : BitVec 32} (hx : x.toNat < 2 ^ 31) (hy : y.toNat < 2 ^ 31) :
    Scalar.cmpi .sge x y = 1#1 ↔ y.toNat ≤ x.toNat := by
  show BitVec.ofBool (y.sle x) = 1#1 ↔ _
  rw [WordCmp.ofBool_eq_one_iff, BitVec.sle, decide_eq_true_iff, toInt_small hx, toInt_small hy]; omega

theorem sle_iff {x y : BitVec 32} (hx : x.toNat < 2 ^ 31) (hy : y.toNat < 2 ^ 31) :
    Scalar.cmpi .sle x y = 1#1 ↔ x.toNat ≤ y.toNat := by
  show BitVec.ofBool (x.sle y) = 1#1 ↔ _
  rw [WordCmp.ofBool_eq_one_iff, BitVec.sle, decide_eq_true_iff, toInt_small hx, toInt_small hy]; omega

theorem eq_iff {x y : BitVec 32} : Scalar.cmpi .eq x y = 1#1 ↔ x.toNat = y.toNat := by
  show BitVec.ofBool (x == y) = 1#1 ↔ _
  rw [WordCmp.ofBool_eq_one_iff, beq_iff_eq, BitVec.toNat_inj]

theorem ne_iff {x y : BitVec 32} : Scalar.cmpi .ne x y = 1#1 ↔ x.toNat ≠ y.toNat := by
  show BitVec.ofBool (x != y) = 1#1 ↔ _
  rw [WordCmp.ofBool_eq_one_iff, bne_iff_ne, Ne, ← BitVec.toNat_inj]

theorem andi_iff (a b : BitVec 1) : Scalar.andi a b = 1#1 ↔ a = 1#1 ∧ b = 1#1 := by revert a b; decide

/-- A select is a conditional on its bit. -/
theorem select_eq {α : Type} (c : BitVec 1) (x y : α) : Scalar.select c x y = if c = 1#1 then x else y := by
  unfold Scalar.select; rfl

/-! ## The blocks of the experts -/

/-- The number of blocks of sixteen rows that a group of `v` rows takes, as the kernel computes it. -/
def blocks (v : BitVec 32) : BitVec 32 := Scalar.shrui (Scalar.addi v 15#32) 4#32

theorem blocks_nat {v : BitVec 32} (h : v.toNat ≤ 768) : (blocks v).toNat = (v.toNat + 15) / 16 := by
  have : blocks v = (v + 15#32) >>> (4#32).toNat := by
    unfold blocks Scalar.shrui IntOp.shrui; rfl
  rw [this]; simp [BitVec.toNat_ushiftRight, Nat.shiftRight_eq_div_pow]; omega

/-- The four group sizes, none negative, that fit the buffer together. -/
structure Fit (v0 v1 v2 v3 : BitVec 32) : Prop where
  sum : v0.toNat + v1.toNat + v2.toNat + v3.toNat ≤ 768

section

variable (v0 v1 v2 v3 : BitVec 32)

/-- Expert `e`'s blocks; -/
def nb (e : Fin 4) : ℕ := ((![v0, v1, v2, v3] e).toNat + 15) / 16
/-- the blocks of the experts before it; -/
def st (e : Fin 4) : ℕ := ∑ e' : Fin 4, if e' < e then nb v0 v1 v2 v3 e' else 0
/-- and how many of the experts before it own a block. -/
def rank (e : Fin 4) : ℕ := ∑ e' : Fin 4, if e' < e ∧ 0 < nb v0 v1 v2 v3 e' then 1 else 0
/-- How many experts own a block. -/
def cnt : ℕ := ∑ e' : Fin 4, if 0 < nb v0 v1 v2 v3 e' then 1 else 0
/-- How many of the experts before `e` own none, -/
def zrank (e : Fin 4) : ℕ := ∑ e' : Fin 4, if e' < e ∧ nb v0 v1 v2 v3 e' = 0 then 1 else 0
/-- and how many own none at all. -/
def zcnt : ℕ := ∑ e' : Fin 4, if nb v0 v1 v2 v3 e' = 0 then 1 else 0

/-- The bit, as a word, that an expert owns a block. -/
def someW (v : BitVec 32) : BitVec 32 := Scalar.select (Scalar.cmpi .sgt (blocks v) 0#32) 1#32 0#32

theorem someW_nat {v : BitVec 32} (h : v.toNat ≤ 768) : (someW v).toNat = if 0 < (v.toNat + 15) / 16 then 1 else 0 := by
  unfold someW
  have hb := blocks_nat h
  rw [select_eq]
  by_cases hp : 0 < (v.toNat + 15) / 16
  · rw [if_pos ((sgt_iff (by omega) (by simp)).2 (by simp; omega)), if_pos hp]; rfl
  · rw [if_neg (fun hc => hp (by have := (sgt_iff (by omega) (by simp)).1 hc; simp at this; omega)), if_neg hp]; rfl

/-- The count of the experts up to each, as the kernel keeps it. -/
def cnt1W : BitVec 32 := Scalar.addi 0#32 (someW v0)
def cnt2W : BitVec 32 := Scalar.addi (cnt1W v0) (someW v1)
def cnt3W : BitVec 32 := Scalar.addi (cnt2W v0 v1) (someW v2)
def cntW : BitVec 32 := Scalar.addi (cnt3W v0 v1 v2) (someW v3)

variable {v0 v1 v2 v3} (h : Fit v0 v1 v2 v3)
include h

omit h in
theorem rank_0 : rank v0 v1 v2 v3 0 = 0 := by
  unfold rank; rw [Fin.sum_univ_four]; simp
omit h in
theorem rank_1 : rank v0 v1 v2 v3 1 = if 0 < nb v0 v1 v2 v3 0 then 1 else 0 := by
  unfold rank; rw [Fin.sum_univ_four]; simp
omit h in
theorem rank_2 : rank v0 v1 v2 v3 2 = (if 0 < nb v0 v1 v2 v3 0 then 1 else 0) + (if 0 < nb v0 v1 v2 v3 1 then 1 else 0) := by
  unfold rank; rw [Fin.sum_univ_four]; simp
omit h in
theorem rank_3 : rank v0 v1 v2 v3 3 = (if 0 < nb v0 v1 v2 v3 0 then 1 else 0) + (if 0 < nb v0 v1 v2 v3 1 then 1 else 0)
    + (if 0 < nb v0 v1 v2 v3 2 then 1 else 0) := by
  unfold rank; rw [Fin.sum_univ_four]; simp
omit h in
theorem cnt_eq : cnt v0 v1 v2 v3 = (if 0 < nb v0 v1 v2 v3 0 then 1 else 0) + (if 0 < nb v0 v1 v2 v3 1 then 1 else 0)
    + (if 0 < nb v0 v1 v2 v3 2 then 1 else 0) + (if 0 < nb v0 v1 v2 v3 3 then 1 else 0) := by
  unfold cnt; rw [Fin.sum_univ_four]

omit h in
theorem addi_nat {x y : BitVec 32} {a b : ℕ} (hx : x.toNat = a) (hy : y.toNat = b) (hl : a + b < 2 ^ 32) :
    (Scalar.addi x y).toNat = a + b := by
  show (x + y).toNat = _
  rw [BitVec.toNat_add, hx, hy]; omega

theorem Fit.cnt1W_nat : (cnt1W v0).toNat = rank v0 v1 v2 v3 1 := by
  have hs := h.sum
  rw [rank_1, cnt1W, addi_nat (a := 0) rfl (someW_nat (by omega)) (by split <;> omega), Nat.zero_add]; rfl

theorem Fit.cnt2W_nat : (cnt2W v0 v1).toNat = rank v0 v1 v2 v3 2 := by
  have hs := h.sum
  rw [rank_2, cnt2W, addi_nat h.cnt1W_nat (someW_nat (by omega)) (by rw [rank_1]; split <;> split <;> omega), rank_1]; rfl

theorem Fit.cnt3W_nat : (cnt3W v0 v1 v2).toNat = rank v0 v1 v2 v3 3 := by
  have hs := h.sum
  rw [rank_3, cnt3W, addi_nat h.cnt2W_nat (someW_nat (by omega)) (by rw [rank_2]; split <;> split <;> split <;> omega), rank_2]; rfl

theorem Fit.cntW_nat : (cntW v0 v1 v2 v3).toNat = cnt v0 v1 v2 v3 := by
  have hs := h.sum
  rw [cnt_eq, cntW, addi_nat h.cnt3W_nat (someW_nat (by omega))
    (by rw [rank_3]; split <;> split <;> split <;> split <;> omega), rank_3]; rfl

omit h in
theorem cnt_le : cnt v0 v1 v2 v3 ≤ 4 := by
  rw [cnt_eq]; split <;> split <;> split <;> split <;> omega

/-- An expert's blocks end where the buffer's rows for it end. -/
theorem Fit.st_nb (e : Fin 4) : 16 * (st v0 v1 v2 v3 e + nb v0 v1 v2 v3 e) ≤ 828 := by
  have hs := h.sum
  fin_cases e <;> simp [st, nb, Fin.sum_univ_four] <;> omega

theorem Fit.nb_le (e : Fin 4) : nb v0 v1 v2 v3 e ≤ 48 := by
  have hs := h.sum
  fin_cases e <;> simp [nb] <;> omega

/-! ## The words of one expert, chosen by its number -/

omit h in
/-- The first row of expert `e`, as the kernel chooses it; -/
def k0W (v0 v1 v2 e : BitVec 32) : BitVec 32 :=
  let v12 := Scalar.addi 0#32 (blocks v0)
  let v13 := Scalar.addi v12 (blocks v1)
  let v14 := Scalar.addi v13 (blocks v2)
  Scalar.select (Scalar.cmpi .eq e 3#32) (Scalar.muli 16#32 v14)
    (Scalar.select (Scalar.cmpi .eq e 2#32) (Scalar.muli 16#32 v13)
      (Scalar.select (Scalar.cmpi .eq e 1#32) (Scalar.muli 16#32 v12)
        (Scalar.select (Scalar.cmpi .eq e 0#32) 0#32 0#32)))

omit h in
/-- and the number of its blocks. -/
def kbW (v0 v1 v2 v3 e : BitVec 32) : BitVec 32 :=
  Scalar.select (Scalar.cmpi .eq e 3#32) (blocks v3)
    (Scalar.select (Scalar.cmpi .eq e 2#32) (blocks v2)
      (Scalar.select (Scalar.cmpi .eq e 1#32) (blocks v1)
        (Scalar.select (Scalar.cmpi .eq e 0#32) (blocks v0) 0#32)))

theorem Fit.k0W_nat (e : Fin 4) : (k0W v0 v1 v2 (BitVec.ofNat 32 e.val)).toNat = 16 * st v0 v1 v2 v3 e := by
  have hs := h.sum
  have b0 := blocks_nat (v := v0) (by omega)
  have b1 := blocks_nat (v := v1) (by omega)
  have b2 := blocks_nat (v := v2) (by omega)
  have s3 : ∀ a b : BitVec 32, (Scalar.addi a b) = a + b := fun _ _ => rfl
  have s4 : ∀ a b : BitVec 32, (Scalar.muli a b) = a * b := fun _ _ => rfl
  fin_cases e
  · rfl
  · show (Scalar.muli 16#32 (Scalar.addi 0#32 (blocks v0))).toNat = _
    rw [s3, s4]; simp [BitVec.toNat_mul, b0, st, nb, Fin.sum_univ_four]; omega
  · show (Scalar.muli 16#32 (Scalar.addi (Scalar.addi 0#32 (blocks v0)) (blocks v1))).toNat = _
    rw [s3, s3, s4]; simp [BitVec.toNat_mul, BitVec.toNat_add, b0, b1, st, nb, Fin.sum_univ_four]; omega
  · show (Scalar.muli 16#32 (Scalar.addi (Scalar.addi (Scalar.addi 0#32 (blocks v0)) (blocks v1)) (blocks v2))).toNat = _
    rw [s3, s3, s3, s4]; simp [BitVec.toNat_mul, BitVec.toNat_add, b0, b1, b2, st, nb, Fin.sum_univ_four]; omega

theorem Fit.kbW_nat (e : Fin 4) : (kbW v0 v1 v2 v3 (BitVec.ofNat 32 e.val)).toNat = nb v0 v1 v2 v3 e := by
  have hs := h.sum
  fin_cases e
  · exact blocks_nat (by omega)
  · exact blocks_nat (by omega)
  · exact blocks_nat (by omega)
  · exact blocks_nat (by omega)

/-! ## The two loops over slabs -/

omit h in
/-- The number of slabs. -/
def totW (v0 v1 v2 v3 : BitVec 32) : BitVec 32 := Scalar.muli (cntW v0 v1 v2 v3) 12#32

theorem Fit.totW_nat : (totW v0 v1 v2 v3).toNat = 12 * cnt v0 v1 v2 v3 := by
  have := h.cntW_nat
  have hc := cnt_le (v0 := v0) (v1 := v1) (v2 := v2) (v3 := v3)
  unfold totW Scalar.muli IntOp.muli
  rw [BitVec.toNat_mul, this]; simp; omega

omit h in
/-- A loop from zero by ones makes as many trips as its bound says. -/
theorem trips_nat {u : BitVec 32} {n : ℕ} (hu : u.toNat = n) (hn : n < 2 ^ 31) : Scf.trips 0#32 u 1#32 = n := by
  unfold Scf.trips; rw [toInt_small (by omega), hu]; simp

omit h in
theorem ok_nat {u : BitVec 32} {n : ℕ} (hu : u.toNat = n) (hn : n < 2 ^ 31) : Scf.OK 0#32 u 1#32 := by
  refine ⟨by decide, ?_⟩
  rw [trips_nat hu hn]; simp; omega

omit h in
/-- The bound of the loop over slabs. -/
def ub5 (v0 v1 v2 v3 : BitVec 32) : BitVec 32 :=
  Scalar.addi 0#32 (Scalar.muli (Scalar.divsi (Scalar.subi (Scalar.divsi (Scalar.addi (Scalar.subi (totW v0 v1 v2 v3) 0#32)
    (Scalar.subi 1#32 1#32)) 1#32) 0#32) 1#32) 1#32)

omit h in
/-- The bound of the loop that drains the ring: from the last five slabs, or the first if there are fewer. -/
def startW (v0 v1 v2 v3 : BitVec 32) : BitVec 32 := Scalar.maxsi (Scalar.subi (totW v0 v1 v2 v3) 5#32) 0#32
omit h in
def ub7 (v0 v1 v2 v3 : BitVec 32) : BitVec 32 :=
  Scalar.addi 0#32 (Scalar.muli (Scalar.divsi (Scalar.subi (Scalar.divsi (Scalar.addi (Scalar.subi (totW v0 v1 v2 v3) (startW v0 v1 v2 v3))
    (Scalar.subi 1#32 1#32)) 1#32) 0#32) 1#32) 1#32)

omit h in
theorem simpW (x : BitVec 32) : Scalar.addi 0#32 (Scalar.muli (Scalar.divsi (Scalar.subi (Scalar.divsi (Scalar.addi x
    (Scalar.subi 1#32 1#32)) 1#32) 0#32) 1#32) 1#32) = x := by
  have hd : ∀ y : BitVec 32, Scalar.divsi y 1#32 = y := fun y => WordArith.divsi_one _ y
  rw [hd, hd]
  show 0#32 + ((x + (1#32 - 1#32)) - 0#32) * 1#32 = x
  simp

theorem Fit.ub5_nat : (ub5 v0 v1 v2 v3).toNat = 12 * cnt v0 v1 v2 v3 := by
  unfold ub5; rw [simpW]
  show (totW v0 v1 v2 v3 - 0#32).toNat = _
  rw [BitVec.sub_zero, h.totW_nat]

theorem Fit.startW_nat : (startW v0 v1 v2 v3).toNat = 12 * cnt v0 v1 v2 v3 - 5 := by
  have hc := cnt_le (v0 := v0) (v1 := v1) (v2 := v2) (v3 := v3)
  have ht := h.totW_nat
  have hti : (totW v0 v1 v2 v3).toInt = ((12 * cnt v0 v1 v2 v3 : ℕ) : Int) := by rw [toInt_small (by omega), ht]
  have hsub : (Scalar.subi (totW v0 v1 v2 v3) 5#32).toInt = ((12 * cnt v0 v1 v2 v3 : ℕ) : Int) - 5 := by
    rw [show Scalar.subi (totW v0 v1 v2 v3) 5#32 = IntOp.subi (totW v0 v1 v2 v3) 5#32 from rfl]
    have := WordArith.toInt_subi_of_nonneg (totW v0 v1 v2 v3) 5#32 (by omega) (by decide)
    rw [this, hti]; rfl
  unfold startW
  show (if (0#32).slt (Scalar.subi (totW v0 v1 v2 v3) 5#32) then Scalar.subi (totW v0 v1 v2 v3) 5#32 else 0#32).toNat = _
  rw [BitVec.slt]
  by_cases hp : 5 < 12 * cnt v0 v1 v2 v3
  · rw [if_pos (by rw [decide_eq_true_iff, hsub]; simp; omega)]
    have hl := (Scalar.subi (totW v0 v1 v2 v3) 5#32).isLt
    have := BitVec.toInt_eq_toNat_cond (Scalar.subi (totW v0 v1 v2 v3) 5#32)
    split at this <;> omega
  · rw [if_neg (by rw [decide_eq_true_iff, hsub]; simp; omega)]; simp; omega

theorem Fit.ub7_nat : (ub7 v0 v1 v2 v3).toNat = 12 * cnt v0 v1 v2 v3 - (12 * cnt v0 v1 v2 v3 - 5) := by
  have hc := cnt_le (v0 := v0) (v1 := v1) (v2 := v2) (v3 := v3)
  have ht := h.totW_nat
  have hst := h.startW_nat
  unfold ub7; rw [simpW]
  show (totW v0 v1 v2 v3 - startW v0 v1 v2 v3).toNat = _
  rw [BitVec.toNat_sub, ht, hst]; omega

omit h in
/-- The number of the slab at a trip. -/
def jW (t : ℕ) : BitVec 32 := Scalar.addi 0#32 (Scalar.muli (Scf.iv 0#32 1#32 t) 1#32)

omit h in
theorem jW_nat {t : ℕ} (ht : t < 2 ^ 31) : (jW t).toNat = t := by
  unfold jW Scf.iv
  show (0#32 + (0#32 + BitVec.ofNat 32 t * 1#32) * 1#32).toNat = t
  simp; omega

/-- The number of the slab drained at a trip of the last loop. -/
theorem Fit.drain_nat {t : ℕ} (ht : t < 5) :
    (Scalar.addi (startW v0 v1 v2 v3) (Scalar.muli (Scf.iv 0#32 1#32 t) 1#32)).toNat = 12 * cnt v0 v1 v2 v3 - 5 + t := by
  have hc := cnt_le (v0 := v0) (v1 := v1) (v2 := v2) (v3 := v3)
  have hst := h.startW_nat
  show (startW v0 v1 v2 v3 + (0#32 + BitVec.ofNat 32 t * 1#32) * 1#32).toNat = _
  rw [BitVec.toNat_add, hst]; simp; omega

end

end Cert.Proof.Words
-- ==== Proof.Kernel.Facts.lean ====
/- The words the program computes from the group sizes, as numbers: how many trips each loop makes, where each access
   starts, which branch a trip takes; and, from them, that every access lies inside its buffer. -/
module

public import proofs.«01_k».proof.Proof.Gen.Kernel.Skeleton
public import proofs.«01_k».proof.Proof.Words

@[expose] public section

namespace Cert.Proof.Kernel

open Cert.Kernel Cert.Proof.Words
open Idealize.ShloMosaic

variable {v0 v1 v2 v3 : BitVec 32} (h : Fit v0 v1 v2 v3)

/-! ## Trips -/

include h

theorem trips5 : (k0_t5_loop v0 v1 v2 v3).trips = 12 * cnt v0 v1 v2 v3 :=
  trips_nat (u := ub5 v0 v1 v2 v3) h.ub5_nat (by have := cnt_le (v0 := v0) (v1 := v1) (v2 := v2) (v3 := v3); omega)

theorem ok5 : (k0_t5_loop v0 v1 v2 v3).OK :=
  ok_nat (u := ub5 v0 v1 v2 v3) h.ub5_nat (by have := cnt_le (v0 := v0) (v1 := v1) (v2 := v2) (v3 := v3); omega)

theorem trips7 : (k0_t7_loop v0 v1 v2 v3).trips = 12 * cnt v0 v1 v2 v3 - (12 * cnt v0 v1 v2 v3 - 5) :=
  trips_nat (u := ub7 v0 v1 v2 v3) h.ub7_nat (by have := cnt_le (v0 := v0) (v1 := v1) (v2 := v2) (v3 := v3); omega)

theorem ok7 : (k0_t7_loop v0 v1 v2 v3).OK :=
  ok_nat (u := ub7 v0 v1 v2 v3) h.ub7_nat (by have := cnt_le (v0 := v0) (v1 := v1) (v2 := v2) (v3 := v3); omega)

omit h in
/-- A loop whose two bounds are one number makes no trip. -/
theorem trips_self {l u : BitVec 32} (e : l = u) : Scf.trips l u 1#32 = 0 := by
  subst e; unfold Scf.trips; rw [show (1#32 : BitVec 32).toInt = 1 from rfl]; omega

omit h in
theorem ok_self {l u : BitVec 32} (e : l = u) (hl : l.toNat < 2 ^ 31) : Scf.OK l u 1#32 := by
  refine ⟨by decide, ?_⟩
  rw [trips_self e, toInt_small hl]; simp; omega

omit h in
theorem bounds6 : (k0_t6_loop v0 v1 v2 v3).lb = (k0_t6_loop v0 v1 v2 v3).ub := by
  show Scalar.addi 0#32 (Scalar.muli (Scalar.divsi _ 1#32) 1#32) = Scalar.addi 0#32 _
  rw [Scalar.muli_divsi_one]

omit h in
theorem bounds8 : (k0_t8_loop v0 v1 v2 v3).lb = (k0_t8_loop v0 v1 v2 v3).ub := by
  show Scalar.addi 0#32 (Scalar.muli (Scalar.divsi _ 1#32) 1#32) = Scalar.addi 0#32 _
  rw [Scalar.muli_divsi_one]

omit h in
theorem trips6 : (k0_t6_loop v0 v1 v2 v3).trips = 0 := trips_self bounds6
omit h in
theorem trips8 : (k0_t8_loop v0 v1 v2 v3).trips = 0 := trips_self bounds8

theorem ok6 : (k0_t6_loop v0 v1 v2 v3).OK :=
  ok_self bounds6 (by
    have := cnt_le (v0 := v0) (v1 := v1) (v2 := v2) (v3 := v3)
    have e : (k0_t6_loop v0 v1 v2 v3).lb = ub5 v0 v1 v2 v3 := rfl
    rw [e, h.ub5_nat]; omega)
theorem ok8 : (k0_t8_loop v0 v1 v2 v3).OK :=
  ok_self bounds8 (by
    have := cnt_le (v0 := v0) (v1 := v1) (v2 := v2) (v3 := v3)
    have e : (k0_t8_loop v0 v1 v2 v3).lb = ub7 v0 v1 v2 v3 := rfl
    rw [e, h.ub7_nat]; omega)

omit h in
def no6 {α : Sort*} (k : Fin (k0_t6_loop v0 v1 v2 v3).trips) : α := (k.cast trips6).elim0
omit h in
def no8 {α : Sort*} (k : Fin (k0_t8_loop v0 v1 v2 v3).trips) : α := (k.cast trips8).elim0

/-! ## The loop over slabs: the number of the slab, its remainder by twelve and by five -/

variable (k : Fin (k0_t5_loop v0 v1 v2 v3).trips)

theorem klt : k.val < 12 * cnt v0 v1 v2 v3 := lt_of_lt_of_eq k.isLt (trips5 h)
theorem klt48 : k.val < 48 := by
  have := klt h k; have := cnt_le (v0 := v0) (v1 := v1) (v2 := v2) (v3 := v3); omega
theorem kmod : k.val % 12 < 12 := Nat.mod_lt _ (by decide)

omit h in
/-- The words: the slab's number in its expert, -/
def remW (k : Fin (k0_t5_loop v0 v1 v2 v3).trips) : BitVec 32 := Scalar.remsi (jW k.val) 12#32
omit h in
/-- its first row, -/
def slabW (k : Fin (k0_t5_loop v0 v1 v2 v3).trips) : BitVec 32 := Scalar.muli (remW k) 256#32
omit h in
/-- and its ring slot. -/
def slotW (k : Fin (k0_t5_loop v0 v1 v2 v3).trips) : BitVec 32 := Scalar.remsi (jW k.val) 5#32

theorem jW_k : (jW k.val).toNat = k.val := jW_nat (by have := klt48 h k; omega)
theorem quo_nat : (Scalar.divsi (jW k.val) 12#32).toNat = k.val / 12 :=
  divsi_nat (jW_k h k) (by have := klt48 h k; omega) 12 (by decide) (by decide)
theorem rem_nat : (remW k).toNat = k.val % 12 :=
  remsi_nat (jW_k h k) (by have := klt48 h k; omega) 12 (by decide) (by decide)
theorem slot_nat : (slotW k).toNat = k.val % 5 :=
  remsi_nat (jW_k h k) (by have := klt48 h k; omega) 5 (by decide) (by decide)
theorem slab_nat : (slabW k).toNat = 256 * (k.val % 12) := by
  have := rem_nat h k; have := klt48 h k; have := kmod h k
  show (remW k * 256#32).toNat = _
  rw [BitVec.toNat_mul, rem_nat h k]; simp; omega

/-- The slab waited for at trip `k`. -/
theorem back_nat (hk : 5 ≤ k.val) : (Scalar.subi (jW k.val) 5#32).toNat = k.val - 5 := by
  have := klt48 h k
  show (jW k.val - 5#32).toNat = _
  rw [BitVec.toNat_sub, jW_k h k]; simp; omega

theorem cond5_iff : k0_cond5 v0 v1 v2 v3 k = 1#1 ↔ 5 ≤ k.val := by
  have := klt48 h k; have e := jW_k h k
  refine (guard_iff _).trans ((sge_iff (x := jW k.val) (y := 5#32) (by omega) (by decide)).trans ?_)
  rw [e]; rfl
theorem cond6_iff (hk : 5 ≤ k.val) : k0_cond6 v0 v1 v2 v3 k = 1#1 ↔ (k.val - 5) % 12 ≠ 11 := by
  have := klt48 h k
  refine (guard_iff _).trans ((ne_iff (x := Scalar.remsi (Scalar.subi (jW k.val) 5#32) 12#32) (y := 11#32)).trans ?_)
  rw [remsi_nat (back_nat h k hk) (by omega) 12 (by decide) (by decide)]; rfl
theorem cond7_iff (hk : 5 ≤ k.val) : k0_cond7 v0 v1 v2 v3 k = 1#1 ↔ (k.val - 5) % 12 = 11 := by
  have := klt48 h k
  refine (guard_iff _).trans ((eq_iff (x := Scalar.remsi (Scalar.subi (jW k.val) 5#32) 12#32) (y := 11#32)).trans ?_)
  rw [remsi_nat (back_nat h k hk) (by omega) 12 (by decide) (by decide)]; rfl
theorem cond11_iff : k0_cond11 v0 v1 v2 v3 k = 1#1 ↔ k.val % 12 ≠ 11 := by
  refine (guard_iff _).trans ((ne_iff (x := remW k) (y := 11#32)).trans ?_)
  rw [rem_nat h k]; rfl
theorem cond12_iff : k0_cond12 v0 v1 v2 v3 k = 1#1 ↔ k.val % 12 = 11 := by
  refine (guard_iff _).trans ((eq_iff (x := remW k) (y := 11#32)).trans ?_)
  rw [rem_nat h k]; rfl

theorem kb_small (e : Fin 4) : (kbW v0 v1 v2 v3 (BitVec.ofNat 32 e.val)).toNat < 2 ^ 31 := by
  have := h.nb_le e; rw [h.kbW_nat]; omega
theorem cond8_iff (e : Fin 4) : k0_cond8 v0 v1 v2 v3 (BitVec.ofNat 32 e.val) = 1#1 ↔ 0 < nb v0 v1 v2 v3 e ∧ 16 * nb v0 v1 v2 v3 e ≤ 256 := by
  refine (guard_iff _).trans ((andi_iff _ _).trans (and_congr ((sgt_iff (x := kbW v0 v1 v2 v3 (BitVec.ofNat 32 e.val)) (y := 0#32) (kb_small h e) (by decide)).trans ?_)
    ((sle_iff (x := kbW v0 v1 v2 v3 (BitVec.ofNat 32 e.val)) (y := 16#32) (kb_small h e) (by decide)).trans ?_)))
  · rw [h.kbW_nat]; rfl
  · rw [h.kbW_nat]; simp; omega
theorem cond9_iff (e : Fin 4) : k0_cond9 v0 v1 v2 v3 (BitVec.ofNat 32 e.val) = 1#1 ↔ 16 < nb v0 v1 v2 v3 e ∧ 16 * nb v0 v1 v2 v3 e ≤ 512 := by
  refine (guard_iff _).trans ((andi_iff _ _).trans (and_congr ((sgt_iff (x := kbW v0 v1 v2 v3 (BitVec.ofNat 32 e.val)) (y := 16#32) (kb_small h e) (by decide)).trans ?_)
    ((sle_iff (x := kbW v0 v1 v2 v3 (BitVec.ofNat 32 e.val)) (y := 32#32) (kb_small h e) (by decide)).trans ?_)))
  · rw [h.kbW_nat]; rfl
  · rw [h.kbW_nat]; simp; omega
theorem cond10_iff (e : Fin 4) : k0_cond10 v0 v1 v2 v3 (BitVec.ofNat 32 e.val) = 1#1 ↔ 32 < nb v0 v1 v2 v3 e ∧ 16 * nb v0 v1 v2 v3 e ≤ 768 := by
  refine (guard_iff _).trans ((andi_iff _ _).trans (and_congr ((sgt_iff (x := kbW v0 v1 v2 v3 (BitVec.ofNat 32 e.val)) (y := 32#32) (kb_small h e) (by decide)).trans ?_)
    ((sle_iff (x := kbW v0 v1 v2 v3 (BitVec.ofNat 32 e.val)) (y := 48#32) (kb_small h e) (by decide)).trans ?_)))
  · rw [h.kbW_nat]; rfl
  · rw [h.kbW_nat]; simp; omega

/-! ## Every access inside its buffer -/

theorem k0W_dvd (e : Fin 4) : 16 ∣ (k0W v0 v1 v2 (BitVec.ofNat 32 e.val)).toNat := by
  rw [h.k0W_nat]; exact ⟨_, rfl⟩

omit h in
theorem order_inb (e : Fin 4) : ∀ a, (![(BitVec.ofNat 32 e.val).toNat] : Fin 1 → ℕ) a + S1.size a ≤ S4.size a := by
  intro a; have := e.isLt
  fin_cases a; simp; omega

theorem lhs_inb (e : Fin 4) {n : ℕ} (hn' : n ≤ 16 * nb v0 v1 v2 v3 e + 240) :
    ∀ a, (![(k0W v0 v1 v2 (BitVec.ofNat 32 e.val)).toNat, (slabW k).toNat] : Fin 2 → ℕ) a + (⟨2, ![n, 256]⟩ : Shape).size a ≤ S1088x3072.size a := by
  intro a; have := h.st_nb e; have := kmod h k
  rw [h.k0W_nat, slab_nat h k]
  fin_cases a
  · show 16 * _ + n ≤ 1088; omega
  · show 256 * _ + 256 ≤ 3072; omega

theorem rhs_inb (e : Fin 4) {n w o : ℕ} (hn' : n ≤ 16 * nb v0 v1 v2 v3 e + 240) (ho : o + w ≤ 5760) :
    ∀ a, (![(k0W v0 v1 v2 (BitVec.ofNat 32 e.val)).toNat, o] : Fin 2 → ℕ) a + (⟨2, ![n, w]⟩ : Shape).size a ≤ S1088x5760.size a := by
  intro a; have := h.st_nb e
  rw [h.k0W_nat]
  fin_cases a
  · show 16 * _ + n ≤ 1088; omega
  · exact ho

theorem ring_inb {w o : ℕ} (ho : o + w ≤ 5760) :
    ∀ a, (![(slotW k).toNat, 0, o] : Fin 3 → ℕ) a + (⟨3, ![1, 256, w]⟩ : Shape).size a ≤ S5x256x5760.size a := by
  intro a; have : k.val % 5 < 5 := Nat.mod_lt _ (by decide)
  rw [slot_nat h k]
  fin_cases a
  · show k.val % 5 + 1 ≤ 5; omega
  · show 0 + 256 ≤ 256; omega
  · exact ho

theorem slotrow_inb {x n : ℕ} (hx : x < 5) (hn : n ≤ 256) :
    ∀ a, (![x, 0, 0] : Fin 3 → ℕ) a + (⟨3, ![1, n, 5760]⟩ : Shape).size a ≤ S5x256x5760.size a := by
  intro a
  fin_cases a
  · show x + 1 ≤ 5; omega
  · show 0 + n ≤ 256; omega
  · show 0 + 5760 ≤ 5760; omega

omit h in
theorem cell_inb {x : ℕ} (hx : x < 5) : ∀ a, (![x] : Fin 1 → ℕ) a + S1.size a ≤ S5.size a := by
  intro a; fin_cases a; show x + 1 ≤ 5; omega

omit h in
theorem word_inb {x : ℕ} (hx : x < 4) : ∀ a, (![x] : Fin 1 → ℕ) a + S1.size a ≤ S4.size a := by
  intro a; fin_cases a; show x + 1 ≤ 4; omega

theorem out_inb (e : Fin 4) {n : ℕ} (hn : 256 * (k.val % 12) + n ≤ 2880) :
    ∀ a, (![(BitVec.ofNat 32 e.val).toNat, (slabW k).toNat, 0] : Fin 3 → ℕ) a + (⟨3, ![1, n, 5760]⟩ : Shape).size a ≤ S4x2880x5760.size a := by
  intro a; have := e.isLt
  rw [slab_nat h k]
  fin_cases a
  · show (BitVec.ofNat 32 e.val).toNat + 1 ≤ 4; simp; omega
  · exact hn
  · show 0 + 5760 ≤ 5760; omega

theorem fits8 (e : Fin 4) (hc : k0_cond8 v0 v1 v2 v3 (BitVec.ofNat 32 e.val) = 1#1) : 256 ≤ 16 * nb v0 v1 v2 v3 e + 240 := by
  have := (cond8_iff h e).1 hc; omega
theorem fits9 (e : Fin 4) (hc : k0_cond9 v0 v1 v2 v3 (BitVec.ofNat 32 e.val) = 1#1) : 512 ≤ 16 * nb v0 v1 v2 v3 e + 240 := by
  have := (cond9_iff h e).1 hc; omega
theorem fits10 (e : Fin 4) (hc : k0_cond10 v0 v1 v2 v3 (BitVec.ofNat 32 e.val) = 1#1) : 768 ≤ 16 * nb v0 v1 v2 v3 e + 240 := by
  have := (cond10_iff h e).1 hc; omega

/-- The condition the kernel states at a trip, at the number of any expert. -/
theorem chk5 (e : Fin 4) : k0_chk5 v0 v1 v2 v3 k (BitVec.ofNat 32 e.val) :=
  ⟨⟨k0W_dvd h e,
    order_inb e,
    fun hc => lhs_inb h k e (n := 256) (fits8 h e hc),
    fun hc => rhs_inb h e (n := 256) (w := 512) (o := 0) (fits8 h e hc) (by omega),
    fun _ => ring_inb h k (w := 512) (o := 0) (by omega),
    fun hc => rhs_inb h e (n := 256) (w := 512) (o := 512) (fits8 h e hc) (by omega),
    fun _ => ring_inb h k (w := 512) (o := 512) (by omega),
    fun hc => rhs_inb h e (n := 256) (w := 512) (o := 1024) (fits8 h e hc) (by omega),
    fun _ => ring_inb h k (w := 512) (o := 1024) (by omega),
    fun hc => rhs_inb h e (n := 256) (w := 512) (o := 1536) (fits8 h e hc) (by omega),
    fun _ => ring_inb h k (w := 512) (o := 1536) (by omega),
    fun hc => rhs_inb h e (n := 256) (w := 512) (o := 2048) (fits8 h e hc) (by omega),
    fun _ => ring_inb h k (w := 512) (o := 2048) (by omega),
    fun hc => rhs_inb h e (n := 256) (w := 512) (o := 2560) (fits8 h e hc) (by omega),
    fun _ => ring_inb h k (w := 512) (o := 2560) (by omega),
    fun hc => rhs_inb h e (n := 256) (w := 512) (o := 3072) (fits8 h e hc) (by omega),
    fun _ => ring_inb h k (w := 512) (o := 3072) (by omega),
    fun hc => rhs_inb h e (n := 256) (w := 512) (o := 3584) (fits8 h e hc) (by omega),
    fun _ => ring_inb h k (w := 512) (o := 3584) (by omega),
    fun hc => rhs_inb h e (n := 256) (w := 512) (o := 4096) (fits8 h e hc) (by omega),
    fun _ => ring_inb h k (w := 512) (o := 4096) (by omega),
    fun hc => rhs_inb h e (n := 256) (w := 512) (o := 4608) (fits8 h e hc) (by omega),
    fun _ => ring_inb h k (w := 512) (o := 4608) (by omega),
    fun hc => rhs_inb h e (n := 256) (w := 512) (o := 5120) (fits8 h e hc) (by omega),
    fun _ => ring_inb h k (w := 512) (o := 5120) (by omega),
    fun hc => rhs_inb h e (n := 256) (w := 128) (o := 5632) (fits8 h e hc) (by omega),
    fun _ => ring_inb h k (w := 128) (o := 5632) (by omega),
    fun hc => lhs_inb h k e (n := 512) (fits9 h e hc),
    fun hc => rhs_inb h e (n := 512) (w := 512) (o := 0) (fits9 h e hc) (by omega),
    fun _ => ring_inb h k (w := 512) (o := 0) (by omega),
    fun hc => rhs_inb h e (n := 512) (w := 512) (o := 512) (fits9 h e hc) (by omega),
    fun _ => ring_inb h k (w := 512) (o := 512) (by omega)⟩,
   ⟨fun hc => rhs_inb h e (n := 512) (w := 512) (o := 1024) (fits9 h e hc) (by omega),
    fun _ => ring_inb h k (w := 512) (o := 1024) (by omega),
    fun hc => rhs_inb h e (n := 512) (w := 512) (o := 1536) (fits9 h e hc) (by omega),
    fun _ => ring_inb h k (w := 512) (o := 1536) (by omega),
    fun hc => rhs_inb h e (n := 512) (w := 512) (o := 2048) (fits9 h e hc) (by omega),
    fun _ => ring_inb h k (w := 512) (o := 2048) (by omega),
    fun hc => rhs_inb h e (n := 512) (w := 512) (o := 2560) (fits9 h e hc) (by omega),
    fun _ => ring_inb h k (w := 512) (o := 2560) (by omega),
    fun hc => rhs_inb h e (n := 512) (w := 512) (o := 3072) (fits9 h e hc) (by omega),
    fun _ => ring_inb h k (w := 512) (o := 3072) (by omega),
    fun hc => rhs_inb h e (n := 512) (w := 512) (o := 3584) (fits9 h e hc) (by omega),
    fun _ => ring_inb h k (w := 512) (o := 3584) (by omega),
    fun hc => rhs_inb h e (n := 512) (w := 512) (o := 4096) (fits9 h e hc) (by omega),
    fun _ => ring_inb h k (w := 512) (o := 4096) (by omega),
    fun hc => rhs_inb h e (n := 512) (w := 512) (o := 4608) (fits9 h e hc) (by omega),
    fun _ => ring_inb h k (w := 512) (o := 4608) (by omega),
    fun hc => rhs_inb h e (n := 512) (w := 512) (o := 5120) (fits9 h e hc) (by omega),
    fun _ => ring_inb h k (w := 512) (o := 5120) (by omega),
    fun hc => rhs_inb h e (n := 512) (w := 128) (o := 5632) (fits9 h e hc) (by omega),
    fun _ => ring_inb h k (w := 128) (o := 5632) (by omega),
    fun hc => lhs_inb h k e (n := 768) (fits10 h e hc),
    fun hc => rhs_inb h e (n := 768) (w := 512) (o := 0) (fits10 h e hc) (by omega),
    fun _ => ring_inb h k (w := 512) (o := 0) (by omega),
    fun hc => rhs_inb h e (n := 768) (w := 512) (o := 512) (fits10 h e hc) (by omega),
    fun _ => ring_inb h k (w := 512) (o := 512) (by omega),
    fun hc => rhs_inb h e (n := 768) (w := 512) (o := 1024) (fits10 h e hc) (by omega),
    fun _ => ring_inb h k (w := 512) (o := 1024) (by omega),
    fun hc => rhs_inb h e (n := 768) (w := 512) (o := 1536) (fits10 h e hc) (by omega),
    fun _ => ring_inb h k (w := 512) (o := 1536) (by omega),
    fun hc => rhs_inb h e (n := 768) (w := 512) (o := 2048) (fits10 h e hc) (by omega),
    fun _ => ring_inb h k (w := 512) (o := 2048) (by omega),
    fun hc => rhs_inb h e (n := 768) (w := 512) (o := 2560) (fits10 h e hc) (by omega)⟩,
   ⟨fun _ => ring_inb h k (w := 512) (o := 2560) (by omega),
    fun hc => rhs_inb h e (n := 768) (w := 512) (o := 3072) (fits10 h e hc) (by omega),
    fun _ => ring_inb h k (w := 512) (o := 3072) (by omega),
    fun hc => rhs_inb h e (n := 768) (w := 512) (o := 3584) (fits10 h e hc) (by omega),
    fun _ => ring_inb h k (w := 512) (o := 3584) (by omega),
    fun hc => rhs_inb h e (n := 768) (w := 512) (o := 4096) (fits10 h e hc) (by omega),
    fun _ => ring_inb h k (w := 512) (o := 4096) (by omega),
    fun hc => rhs_inb h e (n := 768) (w := 512) (o := 4608) (fits10 h e hc) (by omega),
    fun _ => ring_inb h k (w := 512) (o := 4608) (by omega),
    fun hc => rhs_inb h e (n := 768) (w := 512) (o := 5120) (fits10 h e hc) (by omega),
    fun _ => ring_inb h k (w := 512) (o := 5120) (by omega),
    fun hc => rhs_inb h e (n := 768) (w := 128) (o := 5632) (fits10 h e hc) (by omega),
    fun _ => ring_inb h k (w := 128) (o := 5632) (by omega),
    fun hc => out_inb h k e (n := 256) (by have := (cond11_iff h k).1 hc; have := kmod h k; omega),
    fun hc => out_inb h k e (n := 64) (by have := (cond12_iff h k).1 hc; omega)⟩⟩

/-! ## The loop that drains the ring -/

section Drain

variable (t : Fin (k0_t7_loop v0 v1 v2 v3).trips)

omit h in
def drainW (t : ℕ) : BitVec 32 := Scalar.addi (startW v0 v1 v2 v3) (Scalar.muli (Scf.iv 0#32 1#32 t) 1#32)

theorem tlt : t.val < 12 * cnt v0 v1 v2 v3 - (12 * cnt v0 v1 v2 v3 - 5) := lt_of_lt_of_eq t.isLt (trips7 h)
theorem drainW_nat : (drainW (v0 := v0) (v1 := v1) (v2 := v2) (v3 := v3) t.val).toNat = 12 * cnt v0 v1 v2 v3 - 5 + t.val :=
  h.drain_nat (by have := tlt h t; omega)
theorem drain_small : 12 * cnt v0 v1 v2 v3 - 5 + t.val < 2 ^ 31 := by
  have := cnt_le (v0 := v0) (v1 := v1) (v2 := v2) (v3 := v3); have := tlt h t; omega

theorem cond21_iff : k0_cond21 v0 v1 v2 v3 t = 1#1 ↔ (12 * cnt v0 v1 v2 v3 - 5 + t.val) % 12 ≠ 11 := by
  refine (guard_iff _).trans ((ne_iff (x := Scalar.remsi (drainW (v0 := v0) (v1 := v1) (v2 := v2) (v3 := v3) t.val) 12#32) (y := 11#32)).trans ?_)
  rw [remsi_nat (drainW_nat h t) (drain_small h t) 12 (by decide) (by decide)]; rfl
theorem cond22_iff : k0_cond22 v0 v1 v2 v3 t = 1#1 ↔ (12 * cnt v0 v1 v2 v3 - 5 + t.val) % 12 = 11 := by
  refine (guard_iff _).trans ((eq_iff (x := Scalar.remsi (drainW (v0 := v0) (v1 := v1) (v2 := v2) (v3 := v3) t.val) 12#32) (y := 11#32)).trans ?_)
  rw [remsi_nat (drainW_nat h t) (drain_small h t) 12 (by decide) (by decide)]; rfl

theorem slot7_nat : (Scalar.remsi (drainW (v0 := v0) (v1 := v1) (v2 := v2) (v3 := v3) t.val) 5#32).toNat = (12 * cnt v0 v1 v2 v3 - 5 + t.val) % 5 :=
  remsi_nat (drainW_nat h t) (drain_small h t) 5 (by decide) (by decide)

theorem off182_eq : k0_off182 v0 v1 v2 v3 t = ![(12 * cnt v0 v1 v2 v3 - 5 + t.val) % 5] := by
  rw [← slot7_nat h t]; rfl
theorem off183_eq : k0_off183 v0 v1 v2 v3 t = ![(12 * cnt v0 v1 v2 v3 - 5 + t.val) % 5, 0, 0] := by
  rw [← slot7_nat h t]; rfl
theorem off184_eq : k0_off184 v0 v1 v2 v3 t = ![(12 * cnt v0 v1 v2 v3 - 5 + t.val) % 5] := by
  rw [← slot7_nat h t]; rfl
theorem off185_eq : k0_off185 v0 v1 v2 v3 t = ![(12 * cnt v0 v1 v2 v3 - 5 + t.val) % 5, 0, 0] := by
  rw [← slot7_nat h t]; rfl

end Drain

/-! ## The offsets of the loop over slabs -/

theorem off8_eq : k0_off8 v0 v1 v2 v3 k = ![k.val / 12] := by rw [← quo_nat h k]; rfl
theorem back5_nat (hk : 5 ≤ k.val) : (Scalar.remsi (Scalar.subi (jW k.val) 5#32) 5#32).toNat = k.val % 5 := by
  rw [remsi_nat (back_nat h k hk) (by have := klt48 h k; omega) 5 (by decide) (by decide)]; omega
theorem off9_eq (hk : 5 ≤ k.val) : k0_off9 v0 v1 v2 v3 k = ![k.val % 5] := by rw [← back5_nat h k hk]; rfl
theorem off10_eq (hk : 5 ≤ k.val) : k0_off10 v0 v1 v2 v3 k = ![k.val % 5, 0, 0] := by rw [← back5_nat h k hk]; rfl
theorem off11_eq (hk : 5 ≤ k.val) : k0_off11 v0 v1 v2 v3 k = ![k.val % 5] := by rw [← back5_nat h k hk]; rfl
theorem off12_eq (hk : 5 ≤ k.val) : k0_off12 v0 v1 v2 v3 k = ![k.val % 5, 0, 0] := by rw [← back5_nat h k hk]; rfl
theorem off89_eq : k0_off89 v0 v1 v2 v3 k = ![k.val % 5] := by rw [← slot_nat h k]; rfl
theorem off91_eq : k0_off91 v0 v1 v2 v3 k = ![k.val % 5, 0, 0] := by rw [← slot_nat h k]; rfl
theorem off92_eq : k0_off92 v0 v1 v2 v3 k = ![k.val % 5] := by rw [← slot_nat h k]; rfl
theorem off94_eq : k0_off94 v0 v1 v2 v3 k = ![k.val % 5, 0, 0] := by rw [← slot_nat h k]; rfl
omit h in
theorem ofNat_e (e : Fin 4) : (BitVec.ofNat 32 e.val).toNat = e.val := by have := e.isLt; simp; omega
theorem off90_eq (e : Fin 4) : k0_off90 v0 v1 v2 v3 k (BitVec.ofNat 32 e.val) = ![e.val, 256 * (k.val % 12), 0] := by
  rw [← slab_nat h k]; show ![(BitVec.ofNat 32 e.val).toNat, _, 0] = _; rw [ofNat_e]; rfl
theorem off93_eq (e : Fin 4) : k0_off93 v0 v1 v2 v3 k (BitVec.ofNat 32 e.val) = ![e.val, 256 * (k.val % 12), 0] := by
  rw [← slab_nat h k]; show ![(BitVec.ofNat 32 e.val).toNat, _, 0] = _; rw [ofNat_e]; rfl
omit h in
theorem off13_eq (e : Fin 4) : k0_off13 (BitVec.ofNat 32 e.val) = ![e.val] := by
  show ![(BitVec.ofNat 32 e.val).toNat] = _; rw [ofNat_e]
omit k in
theorem off5_eq : k0_off5 v0 = ![rank v0 v1 v2 v3 1] := by rw [← h.cnt1W_nat]; rfl
omit k in
theorem off6_eq : k0_off6 v0 v1 = ![rank v0 v1 v2 v3 2] := by rw [← h.cnt2W_nat]; rfl
omit k in
theorem off7_eq : k0_off7 v0 v1 v2 = ![rank v0 v1 v2 v3 3] := by rw [← h.cnt3W_nat]; rfl

omit k h in
theorem rank_lt (e : Fin 4) : rank v0 v1 v2 v3 e < 4 := by
  fin_cases e
  · show rank v0 v1 v2 v3 0 < 4; rw [rank_0]; decide
  · show rank v0 v1 v2 v3 1 < 4; rw [rank_1]; split <;> omega
  · show rank v0 v1 v2 v3 2 < 4; rw [rank_2]; split <;> split <;> omega
  · show rank v0 v1 v2 v3 3 < 4; rw [rank_3]; split <;> split <;> split <;> omega

/-! ## The conditions the kernel states of the group sizes -/

omit k
theorem chk1 : k0_chk1 v0 := by unfold k0_chk1; rw [off5_eq h]; exact word_inb (rank_lt 1)
theorem chk2 : k0_chk2 v0 v1 := by unfold k0_chk2; rw [off6_eq h]; exact word_inb (rank_lt 2)
theorem chk3 : k0_chk3 v0 v1 v2 := by unfold k0_chk3; rw [off7_eq h]; exact word_inb (rank_lt 3)

theorem chk4 : k0_chk4 v0 v1 v2 v3 :=
  have m5 : ∀ n : ℕ, n % 5 < 5 := fun n => Nat.mod_lt _ (by decide)
  ⟨ok5 h,
   fun k => by rw [off8_eq h k]; exact word_inb (by have := klt48 h k; omega),
   fun k h5 _ => by rw [off9_eq h k ((cond5_iff h k).1 h5)]; exact cell_inb (m5 _),
   fun k h5 _ => by rw [off10_eq h k ((cond5_iff h k).1 h5)]; exact slotrow_inb h (m5 _) (by decide),
   fun k h5 _ => by rw [off11_eq h k ((cond5_iff h k).1 h5)]; exact cell_inb (m5 _),
   fun k h5 _ => by rw [off12_eq h k ((cond5_iff h k).1 h5)]; exact slotrow_inb h (m5 _) (by decide),
   fun k => by rw [show k0_mult2 v0 v1 v2 v3 k = slabW k from rfl, slab_nat h k]; exact ⟨_, rfl⟩,
   fun k _ => by rw [off89_eq h k]; exact cell_inb (m5 _),
   fun k _ => by rw [off91_eq h k]; exact slotrow_inb h (m5 _) (by decide),
   fun k _ => by rw [off92_eq h k]; exact cell_inb (m5 _),
   fun k _ => by rw [off94_eq h k]; exact slotrow_inb h (m5 _) (by decide),
   ok6 h, fun k => no6 k, fun k => no6 k, fun k => no6 k, fun k => no6 k, fun k => no6 k, fun k => no6 k, fun k => no6 k, fun k => no6 k,
   fun k => no6 k, fun k => no6 k,
   ok7 h,
   fun t _ => by rw [off182_eq h t]; exact cell_inb (m5 _),
   fun t _ => by rw [off183_eq h t]; exact slotrow_inb h (m5 _) (by decide),
   fun t _ => by rw [off184_eq h t]; exact cell_inb (m5 _),
   fun t _ => by rw [off185_eq h t]; exact slotrow_inb h (m5 _) (by decide),
   ok8 h, fun k => no8 k, fun k => no8 k, fun k => no8 k, fun k => no8 k⟩

end Cert.Proof.Kernel
-- ==== Proof.Kernel.Slab.lean ====
/- The buffers of the kernel, and what one slab of the product leaves in its slot of the ring: a slot is filled chunk of
   columns by chunk of columns. -/
module

public import proofs.«01_k».proof.Proof.Steps
public import proofs.«01_k».proof.Proof.Kernel.Facts
public import proofs.«01_k».proof.Proof.Gen.Kernel.Launch

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-! ## The buffers -/

/-- The group sizes, the two global scales, and the two decoded operands, as the body holds them. -/
abbrev A0 : Memref sig .tc .smem S4 .i32 := Memref.whole cc0_stg0_0
abbrev A1 : Memref sig .tc .smem S4 .f32 := Memref.whole cc0_stg1_0
abbrev A2 : Memref sig .tc .smem S4 .f32 := Memref.whole cc0_stg2_0
abbrev A3 : Memref sig .tc .vmem S1088x3072 .bf16 := Memref.whole cc0_stg3_0
abbrev A4 : Memref sig .tc .vmem S1088x5760 .bf16 := Memref.whole cc0_stg4_0
/-- The result, left in HBM and written by copies. -/
abbrev DW : Memref sig .tc .hbm S4x2880x5760 .f32 := Memref.whole main_v0
/-- The transposed left factor, the block of zeros, the order of the nonempty experts, the ring. -/
abbrev LT : Memref sig .tc .vmem S256x768 .bf16 := Memref.whole cc0_scratch0
abbrev ZB : Memref sig .tc .vmem S96x5760 .f32 := Memref.whole cc0_scratch1
abbrev ORD : Memref sig .tc .smem S4 .i32 := Memref.whole cc0_scratch2
abbrev RING : Memref sig .tc .vmem S5x256x5760 .f32 := Memref.whole cc0_scoped0

/-- A buffer held whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
/-- Elements of a buffer held. -/
abbrev ptOn (c : Dev nD) {sp : Space} {S : Shape} {e : EltTy} (M : Memref sig .tc sp S e) (I : Finset (Idx (M.view.loc (c : Thread nD τ))))
    (f : Buf (Elt F) (M.view.loc (c : Thread nD τ))) : sProp 𝕄 :=
  M.view.loc (c : Thread nD τ) ↦[I]{fullShare} f

/-- The ring's slot `i`: its elements. -/
def slotSet (i : ℕ) : Finset S5x256x5760.Idx := Finset.univ.filter fun x => (x 0).val = i
theorem mem_slotSet {i : ℕ} {x : S5x256x5760.Idx} : x ∈ slotSet i ↔ (x 0).val = i := by simp [slotSet]

/-! ## Reading a rectangle of a factor -/

def mkL (r k : ℕ) : S1088x3072.Idx := fun a => ⟨(![r, k] : Fin 2 → ℕ) a % S1088x3072.size a, Nat.mod_lt _ (by fin_cases a <;> decide)⟩
def mkR (r k : ℕ) : S1088x5760.Idx := fun a => ⟨(![r, k] : Fin 2 → ℕ) a % S1088x5760.size a, Nat.mod_lt _ (by fin_cases a <;> decide)⟩

/-- A block of the left operand: `n` rows from row `r`, 256 columns from column `k`. -/
def lhsBlk (X : Vec F S1088x3072 .bf16) (n r k : ℕ) : Vec F ⟨2, ![n, 256]⟩ .bf16 := fun j => X (mkL (r + (j 0).val) (k + (j 1).val))
/-- A block of the right operand: `n` rows from row `r`, `w` columns from column `k`. -/
def rhsBlk (X : Vec F S1088x5760 .bf16) (n w r k : ℕ) : Vec F ⟨2, ![n, w]⟩ .bf16 := fun j => X (mkR (r + (j 0).val) (k + (j 1).val))

theorem read_lhs (X : Vec F S1088x3072 .bf16) {n r k : ℕ} {off : Fin 2 → ℕ} (ho : off = ![r, k])
    (inb : ∀ a, off a + (⟨2, ![n, 256]⟩ : Shape).size a ≤ S1088x3072.size a) :
    A3.view.readAt (Elt F) (Rect.unit (s := S1088x3072) off (⟨2, ![n, 256]⟩ : Shape).size inb).toLoadRect X = lhsBlk X n r k := by
  subst ho
  funext j
  refine congrArg X (funext fun a => Fin.ext ?_)
  have h := ((Rect.unit (s := S1088x3072) ![r, k] (⟨2, ![n, 256]⟩ : Shape).size inb).idx j a).isLt
  show ((Rect.unit (s := S1088x3072) ![r, k] (⟨2, ![n, 256]⟩ : Shape).size inb).idx j a).val = _
  rw [LoadRect.idx_apply] at h ⊢
  fin_cases a
  · have h : r + 1 * (j 0).val < 1088 := h
    show r + 1 * (j 0).val = (r + (j 0).val) % 1088
    rw [Nat.one_mul] at h ⊢; exact (Nat.mod_eq_of_lt h).symm
  · have h : k + 1 * (j 1).val < 3072 := h
    show k + 1 * (j 1).val = (k + (j 1).val) % 3072
    rw [Nat.one_mul] at h ⊢; exact (Nat.mod_eq_of_lt h).symm

theorem read_rhs (X : Vec F S1088x5760 .bf16) {n w r k : ℕ} {off : Fin 2 → ℕ} (ho : off = ![r, k])
    (inb : ∀ a, off a + (⟨2, ![n, w]⟩ : Shape).size a ≤ S1088x5760.size a) :
    A4.view.readAt (Elt F) (Rect.unit (s := S1088x5760) off (⟨2, ![n, w]⟩ : Shape).size inb).toLoadRect X = rhsBlk X n w r k := by
  subst ho
  funext j
  refine congrArg X (funext fun a => Fin.ext ?_)
  have h := ((Rect.unit (s := S1088x5760) ![r, k] (⟨2, ![n, w]⟩ : Shape).size inb).idx j a).isLt
  show ((Rect.unit (s := S1088x5760) ![r, k] (⟨2, ![n, w]⟩ : Shape).size inb).idx j a).val = _
  rw [LoadRect.idx_apply] at h ⊢
  fin_cases a
  · have h : r + 1 * (j 0).val < 1088 := h
    show r + 1 * (j 0).val = (r + (j 0).val) % 1088
    rw [Nat.one_mul] at h ⊢; exact (Nat.mod_eq_of_lt h).symm
  · have h : k + 1 * (j 1).val < 5760 := h
    show k + 1 * (j 1).val = (k + (j 1).val) % 5760
    rw [Nat.one_mul] at h ⊢; exact (Nat.mod_eq_of_lt h).symm

/-! ## A slot filled up to a column -/

/-- In slot `i` the contents `f` are `val` in the columns before `o`. -/
def Filled (i o : ℕ) (val f : Vec F S5x256x5760 .f32) : Prop :=
  ∀ x : S5x256x5760.Idx, (x 0).val = i → (x 2).val < o → f x = val x

theorem Filled.zero (i : ℕ) (val f : Vec F S5x256x5760 .f32) : Filled i 0 val f := fun _ _ h => absurd h (Nat.not_lt_zero _)

/-- A chunk of the slot: 256 rows, `w` columns from column `o`. -/
theorem chunk_sub {i o w : ℕ} {off : Fin 3 → ℕ} (ho : off = ![i, 0, o]) (inb : ∀ a, off a + (⟨3, ![1, 256, w]⟩ : Shape).size a ≤ S5x256x5760.size a) :
    (RING.access (Rect.unit (s := S5x256x5760) off (⟨3, ![1, 256, w]⟩ : Shape).size inb)).setOn Finset.univ ⊆ slotSet i := by
  subst ho
  rw [View.setOn_univ]
  intro x hx
  rw [show (RING.access (Rect.unit (s := S5x256x5760) ![i, 0, o] (⟨3, ![1, 256, w]⟩ : Shape).size inb)).set = _ from View.set_slice_whole _ _] at hx
  have h := Rect.mem_set_unit.mp hx 0
  have h1 : i ≤ (x 0).val := h.1
  have h2 : (x 0).val < i + 1 := h.2
  exact mem_slotSet.mpr (by omega)

/-- Storing the chunk's values extends the filled columns by the chunk's. -/
theorem Filled.store {i o w : ℕ} {val f : Vec F S5x256x5760 .f32} (hf : Filled i o val f) {off : Fin 3 → ℕ} (ho : off = ![i, 0, o])
    (inb : ∀ a, off a + (⟨3, ![1, 256, w]⟩ : Shape).size a ≤ S5x256x5760.size a) (p : Vec F ⟨3, ![1, 256, w]⟩ .f32)
    (hp : ∀ x, p x = val ((Rect.unit (s := S5x256x5760) off (⟨3, ![1, 256, w]⟩ : Shape).size inb).idx x)) :
    Filled i (o + w) val ((RING.access (Rect.unit (s := S5x256x5760) off (⟨3, ![1, 256, w]⟩ : Shape).size inb)).write (Elt F) f p Finset.univ) := by
  subst ho
  intro y hy hy2
  refine write_cases (RING.access (Rect.unit (s := S5x256x5760) ![i, 0, o] (⟨3, ![1, 256, w]⟩ : Shape).size inb)) f val p (fun x => (cast_eq _ _).trans (hp x)) y fun hm => hf y hy ?_
  by_contra hlt
  refine hm ?_
  rw [show (RING.access (Rect.unit (s := S5x256x5760) ![i, 0, o] (⟨3, ![1, 256, w]⟩ : Shape).size inb)).set = _ from View.set_slice_whole _ _]
  refine Rect.mem_set_unit.mpr fun a => ?_
  fin_cases a
  · show i ≤ (y 0).val ∧ (y 0).val < i + 1; omega
  · have : (y 1).val < 256 := (y 1).isLt
    show 0 ≤ (y 1).val ∧ (y 1).val < 0 + 256; omega
  · show o ≤ (y 2).val ∧ (y 2).val < o + w; omega

/-- The value of a slab at a row and a column, from the values of its chunks: chunks of 512 columns, and one of 128 at the end. -/
def slabVal (wide : ℕ → Vec F S1x256x512 .f32) (narrow : Vec F S1x256x128 .f32) (x : S5x256x5760.Idx) : F .f32 :=
  if h : (x 2).val < 5632 then wide ((x 2).val / 512) (fun a => ⟨(![0, (x 1).val, (x 2).val % 512] : Fin 3 → ℕ) a, by
      have := (x 1).isLt; fin_cases a; exacts [Nat.zero_lt_one, this, Nat.mod_lt _ (by decide)]⟩)
  else narrow (fun a => ⟨(![0, (x 1).val, (x 2).val - 5632] : Fin 3 → ℕ) a, by
      have h1 := (x 1).isLt; have h2 : (x 2).val < 5760 := (x 2).isLt; fin_cases a
      exacts [Nat.zero_lt_one, h1, show (x 2).val - 5632 < 128 by omega]⟩)

theorem slabVal_wide (wide : ℕ → Vec F S1x256x512 .f32) (narrow : Vec F S1x256x128 .f32) {i j o : ℕ} (hj : j < 11) (hoj : o = 512 * j) {off : Fin 3 → ℕ} (ho : off = ![i, 0, o])
    (inb : ∀ a, off a + S1x256x512.size a ≤ S5x256x5760.size a) (x : S1x256x512.Idx) :
    wide j x = slabVal wide narrow ((Rect.unit (s := S5x256x5760) off S1x256x512.size inb).idx x) := by
  subst ho hoj
  have x2 : (x 2).val < 512 := (x 2).isLt
  have x0 : (x 0).val < 1 := (x 0).isLt
  have e2 : ((Rect.unit (s := S5x256x5760) ![i, 0, 512 * j] S1x256x512.size inb).idx x 2).val = 512 * j + (x 2).val := by
    rw [LoadRect.idx_apply]; show 512 * j + 1 * _ = _; rw [Nat.one_mul]
  have e1 : ((Rect.unit (s := S5x256x5760) ![i, 0, 512 * j] S1x256x512.size inb).idx x 1).val = (x 1).val := by
    rw [LoadRect.idx_apply]; show 0 + 1 * _ = _; rw [Nat.one_mul, Nat.zero_add]
  unfold slabVal
  rw [dif_pos (by rw [e2]; omega)]
  rw [show ((Rect.unit (s := S5x256x5760) ![i, 0, 512 * j] S1x256x512.size inb).idx x 2).val / 512 = j by rw [e2]; omega]
  refine congrArg (wide j) (funext fun a => Fin.ext ?_)
  fin_cases a
  · show (x 0).val = 0; omega
  · exact e1.symm
  · show (x 2).val = _ % 512; rw [e2]; omega

theorem slabVal_narrow (wide : ℕ → Vec F S1x256x512 .f32) (narrow : Vec F S1x256x128 .f32) {i : ℕ} {off : Fin 3 → ℕ} (ho : off = ![i, 0, 5632])
    (inb : ∀ a, off a + S1x256x128.size a ≤ S5x256x5760.size a) (x : S1x256x128.Idx) :
    narrow x = slabVal wide narrow ((Rect.unit (s := S5x256x5760) off S1x256x128.size inb).idx x) := by
  subst ho
  have x2 : (x 2).val < 128 := (x 2).isLt
  have x0 : (x 0).val < 1 := (x 0).isLt
  have e2 : ((Rect.unit (s := S5x256x5760) ![i, 0, 5632] S1x256x128.size inb).idx x 2).val = 5632 + (x 2).val := by
    rw [LoadRect.idx_apply]; show 5632 + 1 * _ = _; rw [Nat.one_mul]
  have e1 : ((Rect.unit (s := S5x256x5760) ![i, 0, 5632] S1x256x128.size inb).idx x 1).val = (x 1).val := by
    rw [LoadRect.idx_apply]; show 0 + 1 * _ = _; rw [Nat.one_mul, Nat.zero_add]
  unfold slabVal
  rw [dif_neg (by rw [e2]; omega)]
  refine congrArg narrow (funext fun a => Fin.ext ?_)
  fin_cases a
  · show (x 0).val = 0; omega
  · exact e1.symm
  · show (x 2).val = _ - 5632; rw [e2]; omega

/-! ## One chunk of the product -/

/-- Load both factors, load the place, store the chunk: with the slot filled up to the chunk's first column before, it is filled up to
    its last after. -/
theorem chunk {α : Type} (c : Dev nD) {i o w n : ℕ} {offr : Fin 3 → ℕ} {inbr} {r6 : LoadRect S256x768} {r4 : LoadRect S1088x5760}
    {hl6 : LT.view.LoadsAt r6} {hl4 : A4.view.LoadsAt r4}
    {hlr : RING.view.LoadsAt (Rect.unit (s := S5x256x5760) offr (⟨3, ![1, 256, w]⟩ : Shape).size inbr).toLoadRect}
    {hx : (RING.access (Rect.unit (s := S5x256x5760) offr (⟨3, ![1, 256, w]⟩ : Shape).size inbr)).Stores Finset.univ} {hm}
    {pay : (r6.shape.Idx → Elt F .bf16) → (r4.shape.Idx → Elt F .bf16) → Vec F ⟨3, ![1, 256, w]⟩ .f32}
    {k : PUnit → Prog (TpuEff nD τ sig (Elt F) Λ₀ .tc) α} {Q : α → sProp 𝕄}
    (ho : offr = ![i, 0, o]) (val : Vec F S5x256x5760 .f32) (L : Vec F S256x768 .bf16) (X4 : Vec F S1088x5760 .bf16) (f : Vec F S5x256x5760 .f32) (hf : Filled i o val f)
    (hp : ∀ x, pay (LT.view.readAt (Elt F) r6 L) (A4.view.readAt (Elt F) r4 X4) x = val ((Rect.unit (s := S5x256x5760) offr (⟨3, ![1, 256, w]⟩ : Shape).size inbr).idx x)) :
    iprop(pt c LT L ∗ pt c A4 X4 ∗ ptOn c RING (slotSet i) f
        ∗ ((∃ f', pt c LT L ∗ pt c A4 X4 ∗ ⌜Filled i (o + w) val f'⌝ ∗ ptOn c RING (slotSet i) f') -∗ wp frame (wpE (defs₀ (F := F)) Variants.none (c : Thread nD τ) none) Set.univ (k ⟨⟩) Q))
      ⊢ wp frame (wpE (defs₀ (F := F)) Variants.none (c : Thread nD τ) none) Set.univ
          (.op (.load LT r6 hl6) fun a => .op (.load A4 r4 hl4) fun b => .op (.load RING (Rect.unit (s := S5x256x5760) offr (⟨3, ![1, 256, w]⟩ : Shape).size inbr).toLoadRect hlr)
            fun _ => .op (.store RING (Rect.unit (s := S5x256x5760) offr (⟨3, ![1, 256, w]⟩ : Shape).size inbr) (pay a b) Finset.univ hx hm) k) Q := by
  have hs := chunk_sub (i := i) (o := o) (w := w) ho inbr
  iintro ⟨H6, H4, H, Hk⟩
  iapply (wp_chunk Variants.none (c : Thread nD τ) none Set.univ (pay := pay) L X4 f (Finset.subset_univ _) (Finset.subset_univ _)
    (by rw [View.setOn_univ] at hs; rwa [View.set_slice] at hs) hs)
  isplitl [H6]; · iexact H6
  isplitl [H4]; · iexact H4
  isplitl [H]; · iexact H
  iintro ⟨H6, H4, H⟩
  iapply Hk
  iexists _
  isplitl [H6]; · iexact H6
  isplitl [H4]; · iexact H4
  isplitr
  swap; · iexact H
  ipureintro
  exact hf.store ho inbr _ hp

end Cert.Proof.Kernel

end
-- ==== Proof.Kernel.Compute.lean ====
/- One slab of the product: the left factor is masked and transposed once, then the product is made chunk of columns by chunk
   of columns. The three theorems are of the three depths a group of rows may have. -/
module

public import proofs.«01_k».proof.Proof.Kernel.Slab

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-- A chunk of 512 columns; the column it starts at gives its number. -/
theorem chunkWide {α : Type} (c : Dev nD) {i o n : ℕ} {offr : Fin 3 → ℕ} {inbr} {off4 : Fin 2 → ℕ} {inb4} {r6 : LoadRect S256x768}
    {hl6 : LT.view.LoadsAt r6} {hl4 : A4.view.LoadsAt (Rect.unit (s := S1088x5760) off4 (⟨2, ![n, 512]⟩ : Shape).size inb4).toLoadRect}
    {hlr : RING.view.LoadsAt (Rect.unit (s := S5x256x5760) offr S1x256x512.size inbr).toLoadRect}
    {hx : (RING.access (Rect.unit (s := S5x256x5760) offr S1x256x512.size inbr)).Stores Finset.univ} {hm}
    {pay : (r6.shape.Idx → Elt F .bf16) → Vec F ⟨2, ![n, 512]⟩ .bf16 → Vec F S1x256x512 .f32}
    {k : PUnit → Prog (TpuEff nD τ sig (Elt F) Λ₀ .tc) α} {Q : α → sProp 𝕄}
    (k0 : ℕ) (blk : r6.shape.Idx → Elt F .bf16) (payW : (r6.shape.Idx → Elt F .bf16) → Vec F ⟨2, ![n, 512]⟩ .bf16 → Vec F S1x256x512 .f32) (narrow : Vec F S1x256x128 .f32)
    (L : Vec F S256x768 .bf16) (X4 : Vec F S1088x5760 .bf16) (f : Vec F S5x256x5760 .f32)
    (hL : LT.view.readAt (Elt F) r6 L = blk)
    (hf : Filled i o (slabVal (fun j => payW blk (rhsBlk X4 n 512 k0 (512 * j))) narrow) f)
    (ho : offr = ![i, 0, o]) (h4 : off4 = ![k0, o]) (hpay : pay = payW) (ho1 : o / 512 < 11) (ho2 : o = 512 * (o / 512)) :
    iprop(pt c LT L ∗ pt c A4 X4 ∗ ptOn c RING (slotSet i) f
        ∗ ((∃ f', pt c LT L ∗ pt c A4 X4 ∗ ⌜Filled i (o + 512) (slabVal (fun j => payW blk (rhsBlk X4 n 512 k0 (512 * j))) narrow) f'⌝ ∗ ptOn c RING (slotSet i) f')
          -∗ wp frame (wpE (defs₀ (F := F)) Variants.none (c : Thread nD τ) none) Set.univ (k ⟨⟩) Q))
      ⊢ wp frame (wpE (defs₀ (F := F)) Variants.none (c : Thread nD τ) none) Set.univ
          (.op (.load LT r6 hl6) fun a => .op (.load A4 (Rect.unit (s := S1088x5760) off4 (⟨2, ![n, 512]⟩ : Shape).size inb4).toLoadRect hl4) fun b => .op (.load RING (Rect.unit (s := S5x256x5760) offr S1x256x512.size inbr).toLoadRect hlr)
            fun _ => .op (.store RING (Rect.unit (s := S5x256x5760) offr S1x256x512.size inbr) (pay a b) Finset.univ hx hm) k) Q := by
  refine chunk (n := n) c ho _ L X4 f hf (fun x => ?_)
  rw [hL, read_rhs X4 h4, hpay]
  refine Eq.trans ?_ (slabVal_wide (j := o / 512) _ narrow ho1 ho2 ho inbr x)
  rw [← ho2]

/-- A slot filled to its last column holds the slab's values. -/
theorem Filled.eq (c : Dev nD) {i : ℕ} {val f : Vec F S5x256x5760 .f32} (hf : Filled i (5632 + 128) val f) :
    ptOn c RING (slotSet i) f ⊢ ptOn c RING (slotSet i) val :=
  Entails.of_eq (pointsTo_congr fun x hx => hf x (mem_slotSet.mp hx) (x 2).isLt)

/-- The last chunk of the columns, of 128. -/
theorem chunkNarrow {α : Type} (c : Dev nD) {i n : ℕ} {offr : Fin 3 → ℕ} {inbr} {off4 : Fin 2 → ℕ} {inb4} {r6 : LoadRect S256x768}
    {hl6 : LT.view.LoadsAt r6} {hl4 : A4.view.LoadsAt (Rect.unit (s := S1088x5760) off4 (⟨2, ![n, 128]⟩ : Shape).size inb4).toLoadRect}
    {hlr : RING.view.LoadsAt (Rect.unit (s := S5x256x5760) offr S1x256x128.size inbr).toLoadRect}
    {hx : (RING.access (Rect.unit (s := S5x256x5760) offr S1x256x128.size inbr)).Stores Finset.univ} {hm}
    {pay : (r6.shape.Idx → Elt F .bf16) → Vec F ⟨2, ![n, 128]⟩ .bf16 → Vec F S1x256x128 .f32}
    {k : PUnit → Prog (TpuEff nD τ sig (Elt F) Λ₀ .tc) α} {Q : α → sProp 𝕄}
    (k0 : ℕ) (blk : r6.shape.Idx → Elt F .bf16) (wide : ℕ → Vec F S1x256x512 .f32) (payN : (r6.shape.Idx → Elt F .bf16) → Vec F ⟨2, ![n, 128]⟩ .bf16 → Vec F S1x256x128 .f32)
    (L : Vec F S256x768 .bf16) (X4 : Vec F S1088x5760 .bf16) (f : Vec F S5x256x5760 .f32)
    (hL : LT.view.readAt (Elt F) r6 L = blk)
    (hf : Filled i 5632 (slabVal wide (payN blk (rhsBlk X4 n 128 k0 5632))) f)
    (ho : offr = ![i, 0, 5632]) (h4 : off4 = ![k0, 5632]) (hpay : pay = payN) :
    iprop(pt c LT L ∗ pt c A4 X4 ∗ ptOn c RING (slotSet i) f
        ∗ ((∃ f', pt c LT L ∗ pt c A4 X4 ∗ ⌜Filled i (5632 + 128) (slabVal wide (payN blk (rhsBlk X4 n 128 k0 5632))) f'⌝ ∗ ptOn c RING (slotSet i) f')
          -∗ wp frame (wpE (defs₀ (F := F)) Variants.none (c : Thread nD τ) none) Set.univ (k ⟨⟩) Q))
      ⊢ wp frame (wpE (defs₀ (F := F)) Variants.none (c : Thread nD τ) none) Set.univ
          (.op (.load LT r6 hl6) fun a => .op (.load A4 (Rect.unit (s := S1088x5760) off4 (⟨2, ![n, 128]⟩ : Shape).size inb4).toLoadRect hl4) fun b => .op (.load RING (Rect.unit (s := S5x256x5760) offr S1x256x128.size inbr).toLoadRect hlr)
            fun _ => .op (.store RING (Rect.unit (s := S5x256x5760) offr S1x256x128.size inbr) (pay a b) Finset.univ hx hm) k) Q := by
  refine chunk (n := n) (o := 5632) (w := 128) c ho _ L X4 f hf (fun x => ?_)
  rw [hL, read_rhs X4 h4, hpay]
  exact slabVal_narrow wide _ ho inbr x

set_option maxHeartbeats 4000000 in
/-- A slab of 256 rows deep. -/
theorem slab256 (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h8 : k0_cond8 v0 v1 v2 v3 v88_r0 = 1#1)
    (X3 : Vec F S1088x3072 .bf16) (X4 : Vec F S1088x5760 .bf16) (L : Vec F S256x768 .bf16) (f : Vec F S5x256x5760 .f32) :
    iprop(pt c A3 X3 ∗ pt c A4 X4 ∗ pt c LT L ∗ ptOn c RING (slotSet (slotW k0_t5).toNat) f)
      ⊢ wp frame (wpE (defs₀ (F := F)) Variants.none (c : Thread nD τ) none) Set.univ
          (do
      let ⟨v177_r0, v179_r0⟩ : Σ' (v177_r0 : Vec F S256x256 .bf16), Vec F S256x512 .bf16 ← k0_part1 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h8
      let v212_r0 : FVec F S256x512 .f32 ← k0_part2 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h8 v177_r0 v179_r0
      let ⟨v247_r0, v249_r0, cst_138_r0⟩ : Σ' (v247_r0 : Vec F S256x256 .bf16) (v249_r0 : Vec F S256x512 .bf16), FVec F S256x512 .f32 ← k0_part3 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h8 v212_r0
      let v254_r0 : Vec F S1x256x512 .f32 ← Prog.lift (.load RING (Rect.unit (s := S5x256x5760) (k0_off34 v0 v1 v2 v3 k0_t5) S1x256x512.size (k0_off34_inb v0 v1 v2 v3 k0_t5 v88_r0 k0_hw5 k0_h8)).toLoadRect (View.loadsAt_vmem h_S1x256x512))
      Prog.lift (.store RING (Rect.unit (s := S5x256x5760) (k0_off34 v0 v1 v2 v3 k0_t5) S1x256x512.size (k0_off34_inb v0 v1 v2 v3 k0_t5 v88_r0 k0_hw5 k0_h8)) (k0_pay1 v118_r0 v247_r0 v249_r0 cst_138_r0) Finset.univ (View.stores_vmem_bits_univ h_S1x256x512 rfl) (.inl rfl))
      let v257_r0 : Vec F S256x256 .bf16 ← Prog.lift (.load LT (Rect.unit (s := S256x768) ![0, 0] S256x256.size inb_S256x768_S256x256_0_0).toLoadRect (View.loadsAt_vmem h_S256x256))
      let v259_r0 : Vec F S256x512 .bf16 ← Prog.lift (.load A4 (Rect.unit (s := S1088x5760) (k0_off35 v0 v1 v2 v88_r0) S256x512.size (k0_off35_inb v0 v1 v2 v3 k0_t5 v88_r0 k0_hw5 k0_h8)).toLoadRect (View.loadsAt_vmem h_S256x512))
      let v264_r0 : Vec F S1x256x512 .f32 ← Prog.lift (.load RING (Rect.unit (s := S5x256x5760) (k0_off36 v0 v1 v2 v3 k0_t5) S1x256x512.size (k0_off36_inb v0 v1 v2 v3 k0_t5 v88_r0 k0_hw5 k0_h8)).toLoadRect (View.loadsAt_vmem h_S1x256x512))
      Prog.lift (.store RING (Rect.unit (s := S5x256x5760) (k0_off36 v0 v1 v2 v3 k0_t5) S1x256x512.size (k0_off36_inb v0 v1 v2 v3 k0_t5 v88_r0 k0_hw5 k0_h8)) (k0_pay2 v118_r0 v257_r0 v259_r0) Finset.univ (View.stores_vmem_bits_univ h_S1x256x512 rfl) (.inl rfl))
      let v267_r0 : Vec F S256x256 .bf16 ← Prog.lift (.load LT (Rect.unit (s := S256x768) ![0, 0] S256x256.size inb_S256x768_S256x256_0_0).toLoadRect (View.loadsAt_vmem h_S256x256))
      let v269_r0 : Vec F S256x128 .bf16 ← Prog.lift (.load A4 (Rect.unit (s := S1088x5760) (k0_off37 v0 v1 v2 v88_r0) S256x128.size (k0_off37_inb v0 v1 v2 v3 k0_t5 v88_r0 k0_hw5 k0_h8)).toLoadRect (View.loadsAt_vmem h_S256x128))
      let v274_r0 : Vec F S1x256x128 .f32 ← Prog.lift (.load RING (Rect.unit (s := S5x256x5760) (k0_off38 v0 v1 v2 v3 k0_t5) S1x256x128.size (k0_off38_inb v0 v1 v2 v3 k0_t5 v88_r0 k0_hw5 k0_h8)).toLoadRect (View.loadsAt_vmem h_S1x256x128))
      Prog.lift (.store RING (Rect.unit (s := S5x256x5760) (k0_off38 v0 v1 v2 v3 k0_t5) S1x256x128.size (k0_off38_inb v0 v1 v2 v3 k0_t5 v88_r0 k0_hw5 k0_h8)) (k0_pay3 v118_r0 v267_r0 v269_r0) Finset.univ (View.stores_vmem_bits_univ h_S1x256x128 rfl) (.inl rfl))
      pure ⟨⟩ : Prog (TpuEff nD τ sig (Elt F) Λ₀ .tc) PUnit)
          fun _ => iprop(pt c A3 X3 ∗ pt c A4 X4 ∗ (∃ L', pt c LT L') ∗ ptOn c RING (slotSet (slotW k0_t5).toNat)
            (slabVal (fun j => k0_pay20 v118_r0 (k0_pay19 v112_r0 (lhsBlk X3 256 (k0W v0 v1 v2 v88_r0).toNat (slabW k0_t5).toNat)) (rhsBlk X4 256 512 (k0W v0 v1 v2 v88_r0).toNat (512 * j)))
              (k0_pay3 v118_r0 (k0_pay19 v112_r0 (lhsBlk X3 256 (k0W v0 v1 v2 v88_r0).toNat (slabW k0_t5).toNat)) (rhsBlk X4 256 128 (k0W v0 v1 v2 v88_r0).toNat 5632)))) := by
  rw [k0_part1_eq_skeleton, k0_part2_eq_skeleton, k0_part3_eq_skeleton]
  unfold k0_part1_skel k0_part2_skel k0_part3_skel
  simp only [bind_def', pure_def', Prog.lift, op_bind', ret_bind', bind_bind']
  iintro ⟨H3, H4, H6, H⟩
  iapply (wp_load Variants.none (c : Thread nD τ) none Set.univ (Finset.subset_univ _)) $$ [H3]; · iexact H3
  iintro H3
  rw [read_lhs X3 (n := 256) (off := k0_off14 v0 v1 v2 v3 k0_t5 v88_r0) (r := (k0W v0 v1 v2 v88_r0).toNat) (k := (slabW k0_t5).toNat) rfl]
  iapply (wp_load Variants.none (c : Thread nD τ) none Set.univ (Finset.subset_univ _)) $$ [H6]; · iexact H6
  iintro H6
  iapply (wp_store Variants.none (c : Thread nD τ) none Set.univ (Finset.subset_univ _)) $$ [H6]; · iexact H6
  iintro H6
  have hL := View.read_write_univ (v := LT.access (Rect.unit (s := S256x768) ![0, 0] S256x256.size inb_S256x768_S256x256_0_0)) (Val := Elt F) L
    (k0_pay19 v112_r0 (lhsBlk X3 256 (k0W v0 v1 v2 v88_r0).toNat (slabW k0_t5).toNat))
  have hf := Filled.zero (slotW k0_t5).toNat
    (slabVal (fun j => k0_pay20 v118_r0 (k0_pay19 v112_r0 (lhsBlk X3 256 (k0W v0 v1 v2 v88_r0).toNat (slabW k0_t5).toNat)) (rhsBlk X4 256 512 (k0W v0 v1 v2 v88_r0).toNat (512 * j)))
              (k0_pay3 v118_r0 (k0_pay19 v112_r0 (lhsBlk X3 256 (k0W v0 v1 v2 v88_r0).toNat (slabW k0_t5).toNat)) (rhsBlk X4 256 128 (k0W v0 v1 v2 v88_r0).toNat 5632))) f
  iterate 11
    iapply (chunkWide c (n := 256) (k0W v0 v1 v2 v88_r0).toNat _ (k0_pay20 v118_r0) _ _ X4 _ hL hf rfl rfl rfl (by decide) (by decide))
    isplitl [H6]; · iexact H6
    isplitl [H4]; · iexact H4
    isplitl [H]; · iexact H
    clear hf
    iintro ⟨%f', H6, H4, %hf, H⟩
  iapply (chunkNarrow c (n := 256) (k0W v0 v1 v2 v88_r0).toNat _ _ (k0_pay3 v118_r0) _ X4 _ hL hf rfl rfl rfl)
  isplitl [H6]; · iexact H6
  isplitl [H4]; · iexact H4
  isplitl [H]; · iexact H
  clear hf
  iintro ⟨%f', H6, H4, %hf, H⟩
  ihave H := Filled.eq c hf $$ H
  sl_step
  isplitl [H3]; · iexact H3
  isplitl [H4]; · iexact H4
  isplitl [H6]; · iexists _; iexact H6
  iexact H

set_option maxHeartbeats 4000000 in
/-- A slab of 512 rows deep. -/
theorem slab512 (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h9 : k0_cond9 v0 v1 v2 v3 v88_r0 = 1#1)
    (X3 : Vec F S1088x3072 .bf16) (X4 : Vec F S1088x5760 .bf16) (L : Vec F S256x768 .bf16) (f : Vec F S5x256x5760 .f32) :
    iprop(pt c A3 X3 ∗ pt c A4 X4 ∗ pt c LT L ∗ ptOn c RING (slotSet (slotW k0_t5).toNat) f)
      ⊢ wp frame (wpE (defs₀ (F := F)) Variants.none (c : Thread nD τ) none) Set.univ
          (do
      let ⟨v177_r0, v179_r0⟩ : Σ' (v177_r0 : Vec F S256x512 .bf16), Vec F S512x512 .bf16 ← k0_part4 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h9
      let v212_r0 : FVec F S256x512 .f32 ← k0_part5 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h9 v177_r0 v179_r0
      let ⟨v247_r0, v249_r0, cst_138_r0⟩ : Σ' (v247_r0 : Vec F S256x512 .bf16) (v249_r0 : Vec F S512x512 .bf16), FVec F S256x512 .f32 ← k0_part6 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h9 v212_r0
      let v254_r0 : Vec F S1x256x512 .f32 ← Prog.lift (.load RING (Rect.unit (s := S5x256x5760) (k0_off59 v0 v1 v2 v3 k0_t5) S1x256x512.size (k0_off59_inb v0 v1 v2 v3 k0_t5 v88_r0 k0_hw5 k0_h9)).toLoadRect (View.loadsAt_vmem h_S1x256x512))
      Prog.lift (.store RING (Rect.unit (s := S5x256x5760) (k0_off59 v0 v1 v2 v3 k0_t5) S1x256x512.size (k0_off59_inb v0 v1 v2 v3 k0_t5 v88_r0 k0_hw5 k0_h9)) (k0_pay4 v118_r0 v247_r0 v249_r0 cst_138_r0) Finset.univ (View.stores_vmem_bits_univ h_S1x256x512 rfl) (.inl rfl))
      let v257_r0 : Vec F S256x512 .bf16 ← Prog.lift (.load LT (Rect.unit (s := S256x768) ![0, 0] S256x512.size inb_S256x768_S256x512_0_0).toLoadRect (View.loadsAt_vmem h_S256x512))
      let v259_r0 : Vec F S512x512 .bf16 ← Prog.lift (.load A4 (Rect.unit (s := S1088x5760) (k0_off60 v0 v1 v2 v88_r0) S512x512.size (k0_off60_inb v0 v1 v2 v3 k0_t5 v88_r0 k0_hw5 k0_h9)).toLoadRect (View.loadsAt_vmem h_S512x512))
      let v264_r0 : Vec F S1x256x512 .f32 ← Prog.lift (.load RING (Rect.unit (s := S5x256x5760) (k0_off61 v0 v1 v2 v3 k0_t5) S1x256x512.size (k0_off61_inb v0 v1 v2 v3 k0_t5 v88_r0 k0_hw5 k0_h9)).toLoadRect (View.loadsAt_vmem h_S1x256x512))
      Prog.lift (.store RING (Rect.unit (s := S5x256x5760) (k0_off61 v0 v1 v2 v3 k0_t5) S1x256x512.size (k0_off61_inb v0 v1 v2 v3 k0_t5 v88_r0 k0_hw5 k0_h9)) (k0_pay5 v118_r0 v257_r0 v259_r0) Finset.univ (View.stores_vmem_bits_univ h_S1x256x512 rfl) (.inl rfl))
      let v267_r0 : Vec F S256x512 .bf16 ← Prog.lift (.load LT (Rect.unit (s := S256x768) ![0, 0] S256x512.size inb_S256x768_S256x512_0_0).toLoadRect (View.loadsAt_vmem h_S256x512))
      let v269_r0 : Vec F S512x128 .bf16 ← Prog.lift (.load A4 (Rect.unit (s := S1088x5760) (k0_off62 v0 v1 v2 v88_r0) S512x128.size (k0_off62_inb v0 v1 v2 v3 k0_t5 v88_r0 k0_hw5 k0_h9)).toLoadRect (View.loadsAt_vmem h_S512x128))
      let v274_r0 : Vec F S1x256x128 .f32 ← Prog.lift (.load RING (Rect.unit (s := S5x256x5760) (k0_off63 v0 v1 v2 v3 k0_t5) S1x256x128.size (k0_off63_inb v0 v1 v2 v3 k0_t5 v88_r0 k0_hw5 k0_h9)).toLoadRect (View.loadsAt_vmem h_S1x256x128))
      Prog.lift (.store RING (Rect.unit (s := S5x256x5760) (k0_off63 v0 v1 v2 v3 k0_t5) S1x256x128.size (k0_off63_inb v0 v1 v2 v3 k0_t5 v88_r0 k0_hw5 k0_h9)) (k0_pay6 v118_r0 v267_r0 v269_r0) Finset.univ (View.stores_vmem_bits_univ h_S1x256x128 rfl) (.inl rfl))
      pure ⟨⟩ : Prog (TpuEff nD τ sig (Elt F) Λ₀ .tc) PUnit)
          fun _ => iprop(pt c A3 X3 ∗ pt c A4 X4 ∗ (∃ L', pt c LT L') ∗ ptOn c RING (slotSet (slotW k0_t5).toNat)
            (slabVal (fun j => k0_pay31 v118_r0 (k0_pay30 v112_r0 (lhsBlk X3 512 (k0W v0 v1 v2 v88_r0).toNat (slabW k0_t5).toNat)) (rhsBlk X4 512 512 (k0W v0 v1 v2 v88_r0).toNat (512 * j)))
              (k0_pay6 v118_r0 (k0_pay30 v112_r0 (lhsBlk X3 512 (k0W v0 v1 v2 v88_r0).toNat (slabW k0_t5).toNat)) (rhsBlk X4 512 128 (k0W v0 v1 v2 v88_r0).toNat 5632)))) := by
  rw [k0_part4_eq_skeleton, k0_part5_eq_skeleton, k0_part6_eq_skeleton]
  unfold k0_part4_skel k0_part5_skel k0_part6_skel
  simp only [bind_def', pure_def', Prog.lift, op_bind', ret_bind', bind_bind']
  iintro ⟨H3, H4, H6, H⟩
  iapply (wp_load Variants.none (c : Thread nD τ) none Set.univ (Finset.subset_univ _)) $$ [H3]; · iexact H3
  iintro H3
  rw [read_lhs X3 (n := 512) (off := k0_off39 v0 v1 v2 v3 k0_t5 v88_r0) (r := (k0W v0 v1 v2 v88_r0).toNat) (k := (slabW k0_t5).toNat) rfl]
  iapply (wp_load Variants.none (c : Thread nD τ) none Set.univ (Finset.subset_univ _)) $$ [H6]; · iexact H6
  iintro H6
  iapply (wp_store Variants.none (c : Thread nD τ) none Set.univ (Finset.subset_univ _)) $$ [H6]; · iexact H6
  iintro H6
  have hL := View.read_write_univ (v := LT.access (Rect.unit (s := S256x768) ![0, 0] S256x512.size inb_S256x768_S256x512_0_0)) (Val := Elt F) L
    (k0_pay30 v112_r0 (lhsBlk X3 512 (k0W v0 v1 v2 v88_r0).toNat (slabW k0_t5).toNat))
  have hf := Filled.zero (slotW k0_t5).toNat
    (slabVal (fun j => k0_pay31 v118_r0 (k0_pay30 v112_r0 (lhsBlk X3 512 (k0W v0 v1 v2 v88_r0).toNat (slabW k0_t5).toNat)) (rhsBlk X4 512 512 (k0W v0 v1 v2 v88_r0).toNat (512 * j)))
              (k0_pay6 v118_r0 (k0_pay30 v112_r0 (lhsBlk X3 512 (k0W v0 v1 v2 v88_r0).toNat (slabW k0_t5).toNat)) (rhsBlk X4 512 128 (k0W v0 v1 v2 v88_r0).toNat 5632))) f
  iterate 11
    iapply (chunkWide c (n := 512) (k0W v0 v1 v2 v88_r0).toNat _ (k0_pay31 v118_r0) _ _ X4 _ hL hf rfl rfl rfl (by decide) (by decide))
    isplitl [H6]; · iexact H6
    isplitl [H4]; · iexact H4
    isplitl [H]; · iexact H
    clear hf
    iintro ⟨%f', H6, H4, %hf, H⟩
  iapply (chunkNarrow c (n := 512) (k0W v0 v1 v2 v88_r0).toNat _ _ (k0_pay6 v118_r0) _ X4 _ hL hf rfl rfl rfl)
  isplitl [H6]; · iexact H6
  isplitl [H4]; · iexact H4
  isplitl [H]; · iexact H
  clear hf
  iintro ⟨%f', H6, H4, %hf, H⟩
  ihave H := Filled.eq c hf $$ H
  sl_step
  isplitl [H3]; · iexact H3
  isplitl [H4]; · iexact H4
  isplitl [H6]; · iexists _; iexact H6
  iexact H

set_option maxHeartbeats 4000000 in
/-- A slab of 768 rows deep. -/
theorem slab768 (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h10 : k0_cond10 v0 v1 v2 v3 v88_r0 = 1#1)
    (X3 : Vec F S1088x3072 .bf16) (X4 : Vec F S1088x5760 .bf16) (L : Vec F S256x768 .bf16) (f : Vec F S5x256x5760 .f32) :
    iprop(pt c A3 X3 ∗ pt c A4 X4 ∗ pt c LT L ∗ ptOn c RING (slotSet (slotW k0_t5).toNat) f)
      ⊢ wp frame (wpE (defs₀ (F := F)) Variants.none (c : Thread nD τ) none) Set.univ
          (do
      let ⟨v177_r0, v179_r0⟩ : Σ' (v177_r0 : Vec F S256x768 .bf16), Vec F S768x512 .bf16 ← k0_part7 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h10
      let v212_r0 : FVec F S256x512 .f32 ← k0_part8 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h10 v177_r0 v179_r0
      let ⟨v247_r0, v249_r0, cst_138_r0⟩ : Σ' (v247_r0 : Vec F S256x768 .bf16) (v249_r0 : Vec F S768x512 .bf16), FVec F S256x512 .f32 ← k0_part9 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h10 v212_r0
      let v254_r0 : Vec F S1x256x512 .f32 ← Prog.lift (.load RING (Rect.unit (s := S5x256x5760) (k0_off84 v0 v1 v2 v3 k0_t5) S1x256x512.size (k0_off84_inb v0 v1 v2 v3 k0_t5 v88_r0 k0_hw5 k0_h10)).toLoadRect (View.loadsAt_vmem h_S1x256x512))
      Prog.lift (.store RING (Rect.unit (s := S5x256x5760) (k0_off84 v0 v1 v2 v3 k0_t5) S1x256x512.size (k0_off84_inb v0 v1 v2 v3 k0_t5 v88_r0 k0_hw5 k0_h10)) (k0_pay7 v118_r0 v247_r0 v249_r0 cst_138_r0) Finset.univ (View.stores_vmem_bits_univ h_S1x256x512 rfl) (.inl rfl))
      let v257_r0 : Vec F S256x768 .bf16 ← Prog.lift (.load LT (Rect.unit (s := S256x768) ![0, 0] S256x768.size inb_S256x768_S256x768_0_0).toLoadRect (View.loadsAt_vmem h_S256x768))
      let v259_r0 : Vec F S768x512 .bf16 ← Prog.lift (.load A4 (Rect.unit (s := S1088x5760) (k0_off85 v0 v1 v2 v88_r0) S768x512.size (k0_off85_inb v0 v1 v2 v3 k0_t5 v88_r0 k0_hw5 k0_h10)).toLoadRect (View.loadsAt_vmem h_S768x512))
      let v264_r0 : Vec F S1x256x512 .f32 ← Prog.lift (.load RING (Rect.unit (s := S5x256x5760) (k0_off86 v0 v1 v2 v3 k0_t5) S1x256x512.size (k0_off86_inb v0 v1 v2 v3 k0_t5 v88_r0 k0_hw5 k0_h10)).toLoadRect (View.loadsAt_vmem h_S1x256x512))
      Prog.lift (.store RING (Rect.unit (s := S5x256x5760) (k0_off86 v0 v1 v2 v3 k0_t5) S1x256x512.size (k0_off86_inb v0 v1 v2 v3 k0_t5 v88_r0 k0_hw5 k0_h10)) (k0_pay8 v118_r0 v257_r0 v259_r0) Finset.univ (View.stores_vmem_bits_univ h_S1x256x512 rfl) (.inl rfl))
      let v267_r0 : Vec F S256x768 .bf16 ← Prog.lift (.load LT (Rect.unit (s := S256x768) ![0, 0] S256x768.size inb_S256x768_S256x768_0_0).toLoadRect (View.loadsAt_vmem h_S256x768))
      let v269_r0 : Vec F S768x128 .bf16 ← Prog.lift (.load A4 (Rect.unit (s := S1088x5760) (k0_off87 v0 v1 v2 v88_r0) S768x128.size (k0_off87_inb v0 v1 v2 v3 k0_t5 v88_r0 k0_hw5 k0_h10)).toLoadRect (View.loadsAt_vmem h_S768x128))
      let v274_r0 : Vec F S1x256x128 .f32 ← Prog.lift (.load RING (Rect.unit (s := S5x256x5760) (k0_off88 v0 v1 v2 v3 k0_t5) S1x256x128.size (k0_off88_inb v0 v1 v2 v3 k0_t5 v88_r0 k0_hw5 k0_h10)).toLoadRect (View.loadsAt_vmem h_S1x256x128))
      Prog.lift (.store RING (Rect.unit (s := S5x256x5760) (k0_off88 v0 v1 v2 v3 k0_t5) S1x256x128.size (k0_off88_inb v0 v1 v2 v3 k0_t5 v88_r0 k0_hw5 k0_h10)) (k0_pay9 v118_r0 v267_r0 v269_r0) Finset.univ (View.stores_vmem_bits_univ h_S1x256x128 rfl) (.inl rfl))
      pure ⟨⟩ : Prog (TpuEff nD τ sig (Elt F) Λ₀ .tc) PUnit)
          fun _ => iprop(pt c A3 X3 ∗ pt c A4 X4 ∗ (∃ L', pt c LT L') ∗ ptOn c RING (slotSet (slotW k0_t5).toNat)
            (slabVal (fun j => k0_pay42 v118_r0 (k0_pay41 v112_r0 (lhsBlk X3 768 (k0W v0 v1 v2 v88_r0).toNat (slabW k0_t5).toNat)) (rhsBlk X4 768 512 (k0W v0 v1 v2 v88_r0).toNat (512 * j)))
              (k0_pay9 v118_r0 (k0_pay41 v112_r0 (lhsBlk X3 768 (k0W v0 v1 v2 v88_r0).toNat (slabW k0_t5).toNat)) (rhsBlk X4 768 128 (k0W v0 v1 v2 v88_r0).toNat 5632)))) := by
  rw [k0_part7_eq_skeleton, k0_part8_eq_skeleton, k0_part9_eq_skeleton]
  unfold k0_part7_skel k0_part8_skel k0_part9_skel
  simp only [bind_def', pure_def', Prog.lift, op_bind', ret_bind', bind_bind']
  iintro ⟨H3, H4, H6, H⟩
  iapply (wp_load Variants.none (c : Thread nD τ) none Set.univ (Finset.subset_univ _)) $$ [H3]; · iexact H3
  iintro H3
  rw [read_lhs X3 (n := 768) (off := k0_off64 v0 v1 v2 v3 k0_t5 v88_r0) (r := (k0W v0 v1 v2 v88_r0).toNat) (k := (slabW k0_t5).toNat) rfl]
  iapply (wp_load Variants.none (c : Thread nD τ) none Set.univ (Finset.subset_univ _)) $$ [H6]; · iexact H6
  iintro H6
  iapply (wp_store Variants.none (c : Thread nD τ) none Set.univ (Finset.subset_univ _)) $$ [H6]; · iexact H6
  iintro H6
  have hL := View.read_write_univ (v := LT.access (Rect.unit (s := S256x768) ![0, 0] S256x768.size inb_S256x768_S256x768_0_0)) (Val := Elt F) L
    (k0_pay41 v112_r0 (lhsBlk X3 768 (k0W v0 v1 v2 v88_r0).toNat (slabW k0_t5).toNat))
  have hf := Filled.zero (slotW k0_t5).toNat
    (slabVal (fun j => k0_pay42 v118_r0 (k0_pay41 v112_r0 (lhsBlk X3 768 (k0W v0 v1 v2 v88_r0).toNat (slabW k0_t5).toNat)) (rhsBlk X4 768 512 (k0W v0 v1 v2 v88_r0).toNat (512 * j)))
              (k0_pay9 v118_r0 (k0_pay41 v112_r0 (lhsBlk X3 768 (k0W v0 v1 v2 v88_r0).toNat (slabW k0_t5).toNat)) (rhsBlk X4 768 128 (k0W v0 v1 v2 v88_r0).toNat 5632))) f
  iterate 11
    iapply (chunkWide c (n := 768) (k0W v0 v1 v2 v88_r0).toNat _ (k0_pay42 v118_r0) _ _ X4 _ hL hf rfl rfl rfl (by decide) (by decide))
    isplitl [H6]; · iexact H6
    isplitl [H4]; · iexact H4
    isplitl [H]; · iexact H
    clear hf
    iintro ⟨%f', H6, H4, %hf, H⟩
  iapply (chunkNarrow c (n := 768) (k0W v0 v1 v2 v88_r0).toNat _ _ (k0_pay9 v118_r0) _ X4 _ hL hf rfl rfl rfl)
  isplitl [H6]; · iexact H6
  isplitl [H4]; · iexact H4
  isplitl [H]; · iexact H
  clear hf
  iintro ⟨%f', H6, H4, %hf, H⟩
  ihave H := Filled.eq c hf $$ H
  sl_step
  isplitl [H3]; · iexact H3
  isplitl [H4]; · iexact H4
  isplitl [H6]; · iexists _; iexact H6
  iexact H

end Cert.Proof.Kernel

end
-- ==== Proof.Kernel.Result.lean ====
/- The result of the kernel, element by element, from its operands: a row of zeros for an expert without rows, and otherwise
   the slab of the product which holds the row. -/
module

public import proofs.«01_k».proof.Proof.Kernel.Compute

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

variable (v0 v1 v2 v3 : BitVec 32) (X1 X2 : Vec F S4 .f32) (X3 : Vec F S1088x3072 .bf16) (X4 : Vec F S1088x5760 .bf16)

/-- The zero the empty experts' rows are filled with. -/
def zeroV : F .f32 := Scalar.ofBits .f32 0x00000000#32

theorem zero_block (x : S96x5760.Idx) : k0_pay87 (F := F) x = zeroV := rfl

/-- The place of expert `e` in a table of four. -/
def ix4 (e : Fin 4) : S4.Idx := fun a => ⟨e.val, by fin_cases a; exact e.isLt⟩

/-- The scale of expert `e`: the product of the two global scales. -/
def scaleOf (e : Fin 4) : F .f32 := k0_pay52 (X1 (ix4 e)) (X2 (ix4 e))

/-- A slab of the product of expert `e`, of the 256 columns of the left operand from `k`, over 256, 512 or 768 rows: the least of
    these which holds the expert's rows. -/
def slabOf (e : Fin 4) (k : ℕ) : S5x256x5760.Idx → F .f32 :=
  let ew := BitVec.ofNat 32 e.val
  let g := scaleOf X1 X2 e
  let kb := kbW v0 v1 v2 v3 ew
  let r := (k0W v0 v1 v2 ew).toNat
  if 16 * nb v0 v1 v2 v3 e ≤ 256 then
    slabVal (fun j => k0_pay20 g (k0_pay19 kb (lhsBlk X3 256 r k)) (rhsBlk X4 256 512 r (512 * j)))
      (k0_pay3 g (k0_pay19 kb (lhsBlk X3 256 r k)) (rhsBlk X4 256 128 r 5632))
  else if 16 * nb v0 v1 v2 v3 e ≤ 512 then
    slabVal (fun j => k0_pay31 g (k0_pay30 kb (lhsBlk X3 512 r k)) (rhsBlk X4 512 512 r (512 * j)))
      (k0_pay6 g (k0_pay30 kb (lhsBlk X3 512 r k)) (rhsBlk X4 512 128 r 5632))
  else
    slabVal (fun j => k0_pay42 g (k0_pay41 kb (lhsBlk X3 768 r k)) (rhsBlk X4 768 512 r (512 * j)))
      (k0_pay9 g (k0_pay41 kb (lhsBlk X3 768 r k)) (rhsBlk X4 768 128 r 5632))

/-- A place in a slab, by its row and its column. -/
def slabIx (r k : ℕ) : S5x256x5760.Idx := fun a => ⟨(![0, r, k] : Fin 3 → ℕ) a % S5x256x5760.size a, Nat.mod_lt _ (by fin_cases a <;> decide)⟩

theorem slabVal_congr (wide : ℕ → Vec F S1x256x512 .f32) (narrow : Vec F S1x256x128 .f32) {x y : S5x256x5760.Idx} (h1 : (x 1).val = (y 1).val)
    (h2 : (x 2).val = (y 2).val) : slabVal wide narrow x = slabVal wide narrow y := by
  unfold slabVal
  by_cases h : (x 2).val < 5632
  · rw [dif_pos h, dif_pos (h2 ▸ h)]; simp only [h1, h2]
  · rw [dif_neg h, dif_neg (h2 ▸ h)]; simp only [h1, h2]

theorem slabOf_congr {e : Fin 4} {k : ℕ} {x y : S5x256x5760.Idx} (h1 : (x 1).val = (y 1).val) (h2 : (x 2).val = (y 2).val) :
    slabOf v0 v1 v2 v3 X1 X2 X3 X4 e k x = slabOf v0 v1 v2 v3 X1 X2 X3 X4 e k y := by
  unfold slabOf
  split_ifs <;> exact slabVal_congr _ _ h1 h2

/-- The result. -/
def result (y : S4x2880x5760.Idx) : F .f32 :=
  if nb v0 v1 v2 v3 (y 0) = 0 then zeroV
  else slabOf v0 v1 v2 v3 X1 X2 X3 X4 (y 0) (256 * ((y 1).val / 256)) (slabIx ((y 1).val % 256) (y 2).val)

theorem result_empty {y : S4x2880x5760.Idx} (h : nb v0 v1 v2 v3 (y 0) = 0) : result v0 v1 v2 v3 X1 X2 X3 X4 y = zeroV := if_pos h

theorem result_slab {y : S4x2880x5760.Idx} {e : Fin 4} {s : ℕ} (he : 0 < nb v0 v1 v2 v3 e) (h0 : (y 0).val = e.val) {x : S5x256x5760.Idx}
    (h1 : (y 1).val = 256 * s + (x 1).val) (h2 : (y 2).val = (x 2).val) :
    slabOf v0 v1 v2 v3 X1 X2 X3 X4 e (256 * s) x = result v0 v1 v2 v3 X1 X2 X3 X4 y := by
  have x1 : (x 1).val < 256 := (x 1).isLt
  have x2 : (x 2).val < 5760 := (x 2).isLt
  obtain rfl : y 0 = e := Fin.ext h0
  unfold result
  rw [if_neg (by omega), show (y 1).val / 256 = s by omega]
  refine slabOf_congr v0 v1 v2 v3 X1 X2 X3 X4 ?_ ?_
  · show (x 1).val = (y 1).val % 256 % 256; omega
  · show (x 2).val = (y 2).val % 5760; omega

end Cert.Proof.Kernel

end
-- ==== Proof.Kernel.Copies.lean ====
/- The copies of the kernel: a slot of the ring to the rows of the result it holds, issued and waited for on the slot's own cell. -/
module

public import proofs.«01_k».proof.Proof.Kernel.Result

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-- The counters of the copies in flight. -/
abbrev EC : UEmb Counters 𝕄 := countersEmb (U := Pipeline.UD sig nD τ)

/-! ## The elements copied -/

/-- Rows of an expert's part of the result: `h` rows from row `r`. -/
def rowsSet (e : Fin 4) (r h : ℕ) : Finset S4x2880x5760.Idx := Finset.univ.filter fun y => (y 0).val = e.val ∧ r ≤ (y 1).val ∧ (y 1).val < r + h
theorem mem_rowsSet {e : Fin 4} {r h : ℕ} {y : S4x2880x5760.Idx} : y ∈ rowsSet e r h ↔ (y 0).val = e.val ∧ r ≤ (y 1).val ∧ (y 1).val < r + h := by
  simp [rowsSet]

/-- The first `h` rows of slot `i`. -/
def topSet (i h : ℕ) : Finset S5x256x5760.Idx := Finset.univ.filter fun x => (x 0).val = i ∧ (x 1).val < h
theorem mem_topSet {i h : ℕ} {x : S5x256x5760.Idx} : x ∈ topSet i h ↔ (x 0).val = i ∧ (x 1).val < h := by simp [topSet]
theorem topSet_sub (i h : ℕ) : topSet i h ⊆ slotSet i := fun _ hx => mem_slotSet.mpr (mem_topSet.mp hx).1

/-- A block of `h` whole rows of the result, as a copy names it, and the first `h` rows of a slot. -/
abbrev outBlk {h : ℕ} {off : Fin 3 → ℕ} (inb : ∀ a, off a + (⟨3, ![1, h, 5760]⟩ : Shape).size a ≤ S4x2880x5760.size a)
    (hr : ∀ a, (Rect.unit (s := S4x2880x5760) off (⟨3, ![1, h, 5760]⟩ : Shape).size inb).stride a = 1)
    (sq : (Rect.unit (s := S4x2880x5760) off (⟨3, ![1, h, 5760]⟩ : Shape).size inb).shape.Squeezes ⟨2, ![h, 5760]⟩) : Memref sig .tc .hbm ⟨2, ![h, 5760]⟩ .f32 :=
  (DW.slice (Rect.unit (s := S4x2880x5760) off (⟨3, ![1, h, 5760]⟩ : Shape).size inb) hr).squeeze ⟨2, ![h, 5760]⟩ sq
abbrev slotBlk {h : ℕ} {off : Fin 3 → ℕ} (inb : ∀ a, off a + (⟨3, ![1, h, 5760]⟩ : Shape).size a ≤ S5x256x5760.size a)
    (hr : ∀ a, (Rect.unit (s := S5x256x5760) off (⟨3, ![1, h, 5760]⟩ : Shape).size inb).stride a = 1)
    (sq : (Rect.unit (s := S5x256x5760) off (⟨3, ![1, h, 5760]⟩ : Shape).size inb).shape.Squeezes ⟨2, ![h, 5760]⟩) : Memref sig .tc .vmem ⟨2, ![h, 5760]⟩ .f32 :=
  (RING.slice (Rect.unit (s := S5x256x5760) off (⟨3, ![1, h, 5760]⟩ : Shape).size inb) hr).squeeze ⟨2, ![h, 5760]⟩ sq

theorem outBlk_set {h r : ℕ} {e : Fin 4} {off : Fin 3 → ℕ} (ho : off = ![e.val, r, 0]) (inb : ∀ a, off a + (⟨3, ![1, h, 5760]⟩ : Shape).size a ≤ S4x2880x5760.size a)
    (hr) (sq) : (outBlk inb hr sq).view.set = rowsSet e r h := by
  subst ho
  rw [show (outBlk inb hr sq).view.set = _ from View.set_reshape _ _]
  rw [show (DW.slice (Rect.unit (s := S4x2880x5760) ![e.val, r, 0] (⟨3, ![1, h, 5760]⟩ : Shape).size inb) hr).view.set = _ from View.set_slice_whole _ _]
  ext y
  rw [mem_rowsSet, Rect.mem_set_unit]
  constructor
  · intro hy
    have h0 : e.val ≤ (y 0).val ∧ (y 0).val < e.val + 1 := hy 0
    have h1 : r ≤ (y 1).val ∧ (y 1).val < r + h := hy 1
    exact ⟨by omega, h1⟩
  · rintro ⟨h0, h1⟩ a
    have h2 : (y 2).val < 5760 := (y 2).isLt
    fin_cases a
    · show e.val ≤ (y 0).val ∧ (y 0).val < e.val + 1; omega
    · exact h1
    · show 0 ≤ (y 2).val ∧ (y 2).val < 0 + 5760; omega

theorem slotBlk_set {h i : ℕ} {off : Fin 3 → ℕ} (ho : off = ![i, 0, 0]) (inb : ∀ a, off a + (⟨3, ![1, h, 5760]⟩ : Shape).size a ≤ S5x256x5760.size a)
    (hr) (sq) : (slotBlk inb hr sq).view.set = topSet i h := by
  subst ho
  rw [show (slotBlk inb hr sq).view.set = _ from View.set_reshape _ _]
  rw [show (RING.slice (Rect.unit (s := S5x256x5760) ![i, 0, 0] (⟨3, ![1, h, 5760]⟩ : Shape).size inb) hr).view.set = _ from View.set_slice_whole _ _]
  ext y
  rw [mem_topSet, Rect.mem_set_unit]
  constructor
  · intro hy
    have h0 : i ≤ (y 0).val ∧ (y 0).val < i + 1 := hy 0
    have h1 : 0 ≤ (y 1).val ∧ (y 1).val < 0 + h := hy 1
    exact ⟨by omega, by omega⟩
  · rintro ⟨h0, h1⟩ a
    have h2 : (y 2).val < 5760 := (y 2).isLt
    fin_cases a
    · show i ≤ (y 0).val ∧ (y 0).val < i + 1; omega
    · show 0 ≤ (y 1).val ∧ (y 1).val < 0 + h; omega
    · show 0 ≤ (y 2).val ∧ (y 2).val < 0 + 5760; omega

/-- What a copy of a slot's first rows leaves in the result's. -/
theorem copy_val {h r i : ℕ} {e : Fin 4} {off offs : Fin 3 → ℕ} (ho : off = ![e.val, r, 0]) (hos : offs = ![i, 0, 0])
    (inb : ∀ a, off a + (⟨3, ![1, h, 5760]⟩ : Shape).size a ≤ S4x2880x5760.size a) (hr) (sq)
    (inbs : ∀ a, offs a + (⟨3, ![1, h, 5760]⟩ : Shape).size a ≤ S5x256x5760.size a) (hrs) (sqs)
    (val : Vec F S5x256x5760 .f32) (V G : Vec F S4x2880x5760 .f32)
    (hG : ∀ (x : S5x256x5760.Idx) (y : S4x2880x5760.Idx), (y 0).val = e.val → (y 1).val = r + (x 1).val → (y 2).val = (x 2).val → val x = G y) :
    ∀ y ∈ rowsSet e r h, (outBlk inb hr sq).view.write (Elt F) V ((slotBlk inbs hrs sqs).view.read (Elt F) val) Finset.univ y = G y := by
  intro y hy
  subst ho hos
  refine write_cases (outBlk inb hr sq).view V G _ (fun x => (cast_eq _ _).trans ?_) y fun hm => absurd ((outBlk_set rfl inb hr sq).symm ▸ hy) hm
  have key : ∀ z : (⟨3, ![1, h, 5760]⟩ : Shape).Idx,
      val ((Rect.unit (s := S5x256x5760) ![i, 0, 0] (⟨3, ![1, h, 5760]⟩ : Shape).size inbs).idx z)
        = G ((Rect.unit (s := S4x2880x5760) ![e.val, r, 0] (⟨3, ![1, h, 5760]⟩ : Shape).size inb).idx z) := by
    intro z
    have z0 : (z 0).val < 1 := (z 0).isLt
    refine hG _ _ ?_ ?_ ?_
    · rw [LoadRect.idx_apply]; show e.val + 1 * (z 0).val = e.val; omega
    · rw [LoadRect.idx_apply, LoadRect.idx_apply]; show r + 1 * (z 1).val = r + (0 + 1 * (z 1).val); omega
    · rw [LoadRect.idx_apply, LoadRect.idx_apply]; rfl
  exact key _

/-! ## A copy in flight -/

/-- The cell of slot `i`. -/
def cell (i : Fin 5) : DmaSem sig := ((cc0_scratch4.slice (Rect.unit (s := S5) ![i.val] S1.size (cell_inb i.isLt))).squeeze S_ squeezes_S1_S_).sem

theorem cell_eq {i : Fin 5} {off : Fin 1 → ℕ} (ho : off = ![i.val]) (inb : ∀ a, off a + S1.size a ≤ S5.size a) :
    ((cc0_scratch4.slice (Rect.unit (s := S5) off S1.size inb)).squeeze S_ squeezes_S1_S_).sem = cell i := by subst ho; rfl

/-- What a copy of `h` rows credits its cell with. -/
def credit (h : ℕ) : ℕ := sig.dmaCredit .tc (Kind.table .tc .hbm) DW.view.buf ⟨2, ![h, 5760]⟩ .f32

theorem credit_pos {h : ℕ} (hh : 0 < h) : 0 < credit h :=
  sig.dmaCredit_pos _ _ _ _ _ (by simp only [Shape.numel, Fin.prod_univ_two]; exact Nat.mul_pos hh (show 0 < 5760 by decide))

/-- What the landing of the copy hands over: the rows of the result, at their values, and the slot's rows. -/
abbrev landed (c : Dev nD) (G : Vec F S4x2880x5760 .f32) (i : Fin 5) (e : Fin 4) (s h : ℕ) : sProp 𝕄 :=
  iprop(ptOn c DW (rowsSet e (256 * s) h) G ∗ ∃ f, ptOn c RING (topSet i.val h) f)

/-- A copy out of slot `i` in flight: of `h` rows, to slab `s` of expert `e`. -/
def Flight (c : Dev nD) (G : Vec F S4x2880x5760 .f32) (i : Fin 5) (e : Fin 4) (s h : ℕ) : sProp 𝕄 :=
  iprop(Transfers.Batch (EC (F := F)) (c : Thread nD τ) (.dma (cell i)) () (credit h) (fun _ : Fin 1 => landed c G i e s h) 1 0
    ∗ ∃ f, ptOn c RING (slotSet i.val \ topSet i.val h) f)

/-- A slot free: its cell at zero and its elements in hand. -/
def Free (c : Dev nD) (i : Fin 5) : sProp 𝕄 := iprop(semVal ((c : Thread nD τ), SemLoc.dma (cell i)) 0 ∗ ∃ f, ptOn (F := F) c RING (slotSet i.val) f)

/-- Issue the copy. -/
theorem wp_issue {α : Type} (c : Dev nD) {h s : ℕ} {i : Fin 5} {e : Fin 4} {off offs : Fin 3 → ℕ} {offc : Fin 1 → ℕ} {inb hr sq inbs hrs sqs} {inbc}
    {h1 h2 h3} {k : PUnit → Prog (TpuEff nD τ sig (Elt F) Λ₀ .tc) α} {Q : α → sProp 𝕄}
    (ho : off = ![e.val, 256 * s, 0]) (hos : offs = ![i.val, 0, 0]) (hoc : offc = ![i.val])
    (val : Vec F S5x256x5760 .f32) (V G : Vec F S4x2880x5760 .f32)
    (hG : ∀ (x : S5x256x5760.Idx) (y : S4x2880x5760.Idx), (y 0).val = e.val → (y 1).val = 256 * s + (x 1).val → (y 2).val = (x 2).val → val x = G y) :
    iprop(ptOn c DW (rowsSet e (256 * s) h) V ∗ ptOn c RING (slotSet i.val) val ∗ semVal ((c : Thread nD τ), SemLoc.dma (cell i)) 0
        ∗ (Flight c G i e s h -∗ wp frame (wpE (defs₀ (F := F)) Variants.none (c : Thread nD τ) none) Set.univ (k ⟨⟩) Q))
      ⊢ wp frame (wpE (defs₀ (F := F)) Variants.none (c : Thread nD τ) none) Set.univ
          (.op (.enqueueDma (slotBlk (h := h) (off := offs) inbs hrs sqs) (.here (outBlk (h := h) (off := off) inb hr sq))
            (.dma ((cc0_scratch4.slice (Rect.unit (s := S5) offc S1.size inbc)).squeeze S_ squeezes_S1_S_).sem) h1 h2 h3) k) Q := by
  have hc : ((cc0_scratch4.slice (Rect.unit (s := S5) offc S1.size inbc)).squeeze S_ squeezes_S1_S_).sem = cell i := cell_eq hoc inbc
  revert hc h3
  generalize ((cc0_scratch4.slice (Rect.unit (s := S5) offc S1.size inbc)).squeeze S_ squeezes_S1_S_).sem = sm
  rintro h3 rfl
  have hval := copy_val ho hos inb hr sq inbs hrs sqs val V G hG
  have hds := outBlk_set ho inb hr sq
  have hss := slotBlk_set hos inbs hrs sqs
  iintro ⟨HD, HR, Hs, Hk⟩
  ihave HR' := (pointsTo_split_subset (ℓ := RING.view.loc (c : Thread nD τ)) (q := fullShare) (f := val) (topSet_sub i.val h)).1 $$ HR
  icases HR' with ⟨HT, HR⟩
  imod (Transfers.batch_alloc' (Lvl := ℕ) (EC (F := F)) (c : Thread nD τ) () (credit h) (fun _ : Fin 1 => landed c G i e s h) (sm := .dma (cell i)) (E := Set.univ)) $$ Hs with HB
  iapply (Transfers.wp_dmaBatch (EC (F := F)) Variants.none (c : Thread nD τ) none (src := slotBlk inbs hrs sqs) (dst := outBlk inb hr sq) (Sd := rowsSet e (256 * s) h)
    (q := fullShare) (fs := val) (fd := V) () (credit h) rfl (hds ▸ subset_rfl)
    (D := fun _ : Fin 1 => landed c G i e s h) (j := 0) (u := 0) (by decide) (Nat.zero_le _) ?_) $$ [HT HD HB]
  · rw [hss]
    iintro ⟨HD, HT⟩
    isplitl [HD]
    · ihave HD' := (Entails.of_eq (pointsTo_congr (ℓ := DW.view.loc (c : Thread nD τ)) (q := fullShare) hval)) $$ HD
      iexact HD'
    · iexists val; iexact HT
  · rw [hss]
    isplitl [HT]; · iexact HT
    isplitl [HD]; · iexact HD
    iexact HB
  iintro HB
  iapply Hk
  unfold Flight
  isplitl [HB]; · iexact HB
  iexists val; iexact HR

/-- Wait for the copy: the rows of the result are at their values, the slot is free. -/
theorem wp_land {α : Type} (c : Dev nD) {h s : ℕ} {i : Fin 5} {e : Fin 4} {off offs : Fin 3 → ℕ} {offc : Fin 1 → ℕ} {inb hr sq inbs hrs sqs} {inbc}
    {h1 h2} {k : PUnit → Prog (TpuEff nD τ sig (Elt F) Λ₀ .tc) α} {Q : α → sProp 𝕄} (hh : 0 < h) (hoc : offc = ![i.val])
    (G : Vec F S4x2880x5760 .f32) (W : Waits sig Unit) :
    iprop(Flight c G i e s h ∗ owes (c : Thread nD τ) 0 W
        ∗ (iprop(ptOn c DW (rowsSet e (256 * s) h) G ∗ Free (F := F) c i ∗ ∃ W', owes (c : Thread nD τ) 0 W')
          -∗ wp frame (wpE (defs₀ (F := F)) Variants.none (c : Thread nD τ) none) Set.univ (k ⟨⟩) Q))
      ⊢ wp frame (wpE (defs₀ (F := F)) Variants.none (c : Thread nD τ) none) Set.univ
          (.op (.waitDma2 ((cc0_scratch4.slice (Rect.unit (s := S5) offc S1.size inbc)).squeeze S_ squeezes_S1_S_).sem
            (slotBlk (h := h) (off := offs) inbs hrs sqs) (outBlk (h := h) (off := off) inb hr sq) h1 h2) k) Q := by
  have hc : ((cc0_scratch4.slice (Rect.unit (s := S5) offc S1.size inbc)).squeeze S_ squeezes_S1_S_).sem = cell i := cell_eq hoc inbc
  revert hc
  generalize ((cc0_scratch4.slice (Rect.unit (s := S5) offc S1.size inbc)).squeeze S_ squeezes_S1_S_).sem = sm
  rintro rfl
  unfold Flight
  iintro ⟨⟨HB, HR⟩, HO, Hk⟩
  iapply (Transfers.wp_waitBatchLast (EC (F := F)) Variants.none (c : Thread nD τ) none () (N := credit h) rfl (credit_pos hh)
    (D := fun _ : Fin 1 => landed c G i e s h) (u := 0) (by omega)) $$ [HB HO]
  · isplitl [HB] <;> iassumption
  iintro ⟨HD, Hv, HO⟩
  ihave HD' := (Entails.of_eq (BI.bigSep_univ_of_subsingleton (Φ := fun _ : Fin 1 => landed c G i e s h) (0 : Fin 1))) $$ HD
  icases HD' with ⟨HD, ⟨%f, HT⟩⟩
  icases HR with ⟨%f', HR⟩
  ihave HR' := (pointsTo_join_subset (ℓ := RING.view.loc (c : Thread nD τ)) (q := fullShare) (g := f) (f := f') (topSet_sub i.val h)) $$ [HT HR]
  · isplitl [HT] <;> iassumption
  iapply Hk
  isplitl [HD]; · iexact HD
  isplitl [Hv HR']
  · unfold Free
    isplitl [Hv]; · iexact Hv
    iexists _; iexact HR'
  · iexists _; iexact HO

end Cert.Proof.Kernel

end
-- ==== Proof.Kernel.Ring.lean ====
/- The ring of slots: which slab of which expert each turn computes, and the slots in flight and free between two turns. -/
module

public import proofs.«01_k».proof.Proof.Kernel.Copies
public import Idealize.SL.BI.BigOpNat

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-! ## Words of the small tables -/

theorem read_A0 (f : Vec F S4 .i32) {e : Fin 4} {off : Fin 1 → ℕ} (ho : off = ![e.val]) (inb : ∀ a, off a + S1.size a ≤ S4.size a) (x) :
    (A0.access (Rect.unit (s := S4) off S1.size inb)).read (Elt F) f x = f (ix4 e) := by
  subst ho
  refine congrArg f (funext fun a => Fin.ext ?_)
  show ((Rect.unit (s := S4) ![e.val] S1.size inb).idx x a).val = _
  rw [LoadRect.idx_apply]
  fin_cases a
  have : (x 0).val < 1 := (x 0).isLt
  show e.val + 1 * (x 0).val = e.val; omega

theorem read_A1 (f : Vec F S4 .f32) {e : Fin 4} {off : Fin 1 → ℕ} (ho : off = ![e.val]) (inb : ∀ a, off a + S1.size a ≤ S4.size a) (x) :
    (A1.access (Rect.unit (s := S4) off S1.size inb)).read (Elt F) f x = f (ix4 e) := by
  subst ho
  refine congrArg f (funext fun a => Fin.ext ?_)
  show ((Rect.unit (s := S4) ![e.val] S1.size inb).idx x a).val = _
  rw [LoadRect.idx_apply]
  fin_cases a
  have : (x 0).val < 1 := (x 0).isLt
  show e.val + 1 * (x 0).val = e.val; omega

theorem read_A2 (f : Vec F S4 .f32) {e : Fin 4} {off : Fin 1 → ℕ} (ho : off = ![e.val]) (inb : ∀ a, off a + S1.size a ≤ S4.size a) (x) :
    (A2.access (Rect.unit (s := S4) off S1.size inb)).read (Elt F) f x = f (ix4 e) := by
  subst ho
  refine congrArg f (funext fun a => Fin.ext ?_)
  show ((Rect.unit (s := S4) ![e.val] S1.size inb).idx x a).val = _
  rw [LoadRect.idx_apply]
  fin_cases a
  have : (x 0).val < 1 := (x 0).isLt
  show e.val + 1 * (x 0).val = e.val; omega

theorem read_ORD (f : Vec F S4 .i32) {e : Fin 4} {off : Fin 1 → ℕ} (ho : off = ![e.val]) (inb : ∀ a, off a + S1.size a ≤ S4.size a) (x) :
    (ORD.access (Rect.unit (s := S4) off S1.size inb)).read (Elt F) f x = f (ix4 e) := by
  subst ho
  refine congrArg f (funext fun a => Fin.ext ?_)
  show ((Rect.unit (s := S4) ![e.val] S1.size inb).idx x a).val = _
  rw [LoadRect.idx_apply]
  fin_cases a
  have : (x 0).val < 1 := (x 0).isLt
  show e.val + 1 * (x 0).val = e.val; omega

/-- A word stored in the order of the experts. -/
theorem write_ORD (f : Vec F S4 .i32) {e : Fin 4} {off : Fin 1 → ℕ} (ho : off = ![e.val]) (inb : ∀ a, off a + S1.size a ≤ S4.size a) (w : BitVec 32) :
    (ORD.access (Rect.unit (s := S4) off S1.size inb)).write (Elt F) f (fun _ => w) Finset.univ = fun y => if (y 0).val = e.val then w else f y := by
  subst ho
  funext y
  refine write_cases (ORD.access (Rect.unit (s := S4) ![e.val] S1.size inb)) f (fun y => if (y 0).val = e.val then w else f y) (fun _ => w)
    (fun x => (cast_eq _ _).trans ?_) y fun hm => ?_
  · have : (x 0).val < 1 := (x 0).isLt
    refine (if_pos ?_).symm
    show ((Rect.unit (s := S4) ![e.val] S1.size inb).idx x 0).val = e.val
    rw [LoadRect.idx_apply]
    show e.val + 1 * (x 0).val = e.val; omega
  · refine (if_neg fun h => hm ?_).symm
    rw [show (ORD.access (Rect.unit (s := S4) ![e.val] S1.size inb)).set = _ from View.set_slice_whole _ _]
    refine Rect.mem_set_unit.mpr fun a => ?_
    fin_cases a
    show e.val ≤ (y 0).val ∧ (y 0).val < e.val + 1; omega

/-! ## The turns -/

variable (v0 v1 v2 v3 : BitVec 32)

/-- The nonempty expert of a rank. -/
def exOf (r : ℕ) : Fin 4 :=
  if 0 < nb v0 v1 v2 v3 0 ∧ rank v0 v1 v2 v3 0 = r then 0
  else if 0 < nb v0 v1 v2 v3 1 ∧ rank v0 v1 v2 v3 1 = r then 1
  else if 0 < nb v0 v1 v2 v3 2 ∧ rank v0 v1 v2 v3 2 = r then 2
  else 3

theorem exOf_spec {r : ℕ} (hr : r < cnt v0 v1 v2 v3) : 0 < nb v0 v1 v2 v3 (exOf v0 v1 v2 v3 r) ∧ rank v0 v1 v2 v3 (exOf v0 v1 v2 v3 r) = r := by
  have h0 := rank_0 (v0 := v0) (v1 := v1) (v2 := v2) (v3 := v3)
  have h1 := rank_1 (v0 := v0) (v1 := v1) (v2 := v2) (v3 := v3)
  have h2 := rank_2 (v0 := v0) (v1 := v1) (v2 := v2) (v3 := v3)
  have h3 := rank_3 (v0 := v0) (v1 := v1) (v2 := v2) (v3 := v3)
  have hc := cnt_eq (v0 := v0) (v1 := v1) (v2 := v2) (v3 := v3)
  unfold exOf
  by_cases p0 : 0 < nb v0 v1 v2 v3 0 <;> by_cases p1 : 0 < nb v0 v1 v2 v3 1 <;> by_cases p2 : 0 < nb v0 v1 v2 v3 2 <;> by_cases p3 : 0 < nb v0 v1 v2 v3 3 <;>
    simp only [p0, p1, p2, p3, if_true, if_false, true_and, false_and] at h0 h1 h2 h3 hc ⊢ <;>
    first | omega | (split_ifs <;> first | exact ⟨by assumption, by omega⟩ | (exfalso; omega))

theorem rank_inj {e e' : Fin 4} (he : 0 < nb v0 v1 v2 v3 e) (he' : 0 < nb v0 v1 v2 v3 e') (hr : rank v0 v1 v2 v3 e = rank v0 v1 v2 v3 e') : e = e' := by
  have h0 := rank_0 (v0 := v0) (v1 := v1) (v2 := v2) (v3 := v3)
  have h1 := rank_1 (v0 := v0) (v1 := v1) (v2 := v2) (v3 := v3)
  have h2 := rank_2 (v0 := v0) (v1 := v1) (v2 := v2) (v3 := v3)
  have h3 := rank_3 (v0 := v0) (v1 := v1) (v2 := v2) (v3 := v3)
  fin_cases e <;> fin_cases e' <;> simp only [Fin.zero_eta, Fin.mk_one, Fin.reduceFinMk] at he he' hr ⊢ <;> first | rfl | (exfalso; split_ifs at h1 h2 h3 <;> omega)

theorem rank_lt_cnt {e : Fin 4} (he : 0 < nb v0 v1 v2 v3 e) : rank v0 v1 v2 v3 e < cnt v0 v1 v2 v3 := by
  have h0 := rank_0 (v0 := v0) (v1 := v1) (v2 := v2) (v3 := v3)
  have h1 := rank_1 (v0 := v0) (v1 := v1) (v2 := v2) (v3 := v3)
  have h2 := rank_2 (v0 := v0) (v1 := v1) (v2 := v2) (v3 := v3)
  have h3 := rank_3 (v0 := v0) (v1 := v1) (v2 := v2) (v3 := v3)
  have hc := cnt_eq (v0 := v0) (v1 := v1) (v2 := v2) (v3 := v3)
  fin_cases e <;> simp only [Fin.zero_eta, Fin.mk_one, Fin.reduceFinMk] at he ⊢ <;> split_ifs at h1 h2 h3 hc <;> omega

/-- The rows a turn copies out: the last slab of an expert has 64. -/
def rowsOf (s : ℕ) : ℕ := if s = 11 then 64 else 256

/-- The rows of the result which turn `j` computes: slab `j % 12` of the nonempty expert of rank `j / 12`. -/
def jobSet (j : ℕ) : Finset S4x2880x5760.Idx := rowsSet (exOf v0 v1 v2 v3 (j / 12)) (256 * (j % 12)) (rowsOf (j % 12))

theorem mem_jobSet {j : ℕ} (hj : j < 12 * cnt v0 v1 v2 v3) {y : S4x2880x5760.Idx} :
    y ∈ jobSet v0 v1 v2 v3 j ↔ 0 < nb v0 v1 v2 v3 (y 0) ∧ 12 * rank v0 v1 v2 v3 (y 0) + (y 1).val / 256 = j := by
  have y1 : (y 1).val < 2880 := (y 1).isLt
  obtain ⟨hn, hr⟩ := exOf_spec v0 v1 v2 v3 (r := j / 12) (by omega)
  unfold jobSet rowsOf
  rw [mem_rowsSet]
  constructor
  · rintro ⟨h0, h1⟩
    have h0 : y 0 = exOf v0 v1 v2 v3 (j / 12) := Fin.ext h0
    rw [h0]
    refine ⟨hn, ?_⟩
    rw [hr]
    split_ifs at h1 <;> omega
  · rintro ⟨h0, h1⟩
    have : y 0 = exOf v0 v1 v2 v3 (j / 12) := rank_inj v0 v1 v2 v3 h0 hn (by rw [hr]; omega)
    refine ⟨congrArg Fin.val this, ?_⟩
    split_ifs <;> omega

/-! ## The slots between two turns -/

/-- The slot of turn `j`. -/
def slotOf (j : ℕ) : Fin 5 := ⟨j % 5, Nat.mod_lt _ (by decide)⟩

variable (c : Dev nD) (G : Vec F S4x2880x5760 .f32)

/-- The copy of turn `j` in flight, its rows of the result at their values, and the rows not yet written. -/
def jobFlight (j : ℕ) : sProp 𝕄 := Flight c G (slotOf j) (exOf v0 v1 v2 v3 (j / 12)) (j % 12) (rowsOf (j % 12))
def jobDone (j : ℕ) : sProp 𝕄 := ptOn c DW (jobSet v0 v1 v2 v3 j) G
def jobTodo (j : ℕ) : sProp 𝕄 := iprop(∃ V, ptOn (F := F) c DW (jobSet v0 v1 v2 v3 j) V)

/-- With `k` turns issued and `d` landed: the turns between are in flight, the other slots free, the landed turns' rows at their
    values, the later ones' in hand. -/
def RingSt (k d : ℕ) : sProp 𝕄 :=
  iprop(bigSep (Finset.Ico d k) (jobFlight v0 v1 v2 v3 c G) ∗ bigSep (Finset.Ico k (d + 5)) (fun j => Free (F := F) c (slotOf j))
    ∗ bigSep (Finset.Ico 0 d) (jobDone v0 v1 v2 v3 c G) ∗ bigSep (Finset.Ico k (12 * cnt v0 v1 v2 v3)) (jobTodo (F := F) v0 v1 v2 v3 c))

/-- Landing the oldest turn in flight. -/
theorem RingSt.land {k d : ℕ} (hd : d < k) (hk : k ≤ d + 5) :
    RingSt v0 v1 v2 v3 c G k d ⊢ iprop(jobFlight v0 v1 v2 v3 c G d
      ∗ (iprop(jobDone v0 v1 v2 v3 c G d ∗ Free (F := F) c (slotOf d)) -∗ RingSt v0 v1 v2 v3 c G k (d + 1))) := by
  unfold RingSt
  rw [BI.bigSep_Ico_succ_bot hd, show d + 1 + 5 = (d + 5) + 1 from rfl, BI.bigSep_Ico_succ_top hk, BI.bigSep_Ico_succ_top (Nat.zero_le d),
    show slotOf (d + 5) = slotOf d from Fin.ext (Nat.add_mod_right d 5)]
  iintro ⟨⟨HF, HFs⟩, HS, HD, HT⟩
  isplitl [HF]; · iexact HF
  iintro ⟨Hd, Hf⟩
  isplitl [HFs]; · iexact HFs
  isplitl [HS Hf]
  · isplitl [Hf] <;> iassumption
  isplitl [HD Hd]
  · isplitl [Hd] <;> iassumption
  iexact HT

/-- Issuing the next turn. -/
theorem RingSt.issue {k d : ℕ} (hk : k < d + 5) (hd : d ≤ k) (hn : k < 12 * cnt v0 v1 v2 v3) :
    RingSt v0 v1 v2 v3 c G k d ⊢ iprop(Free (F := F) c (slotOf k) ∗ jobTodo (F := F) v0 v1 v2 v3 c k
      ∗ (jobFlight v0 v1 v2 v3 c G k -∗ RingSt v0 v1 v2 v3 c G (k + 1) d)) := by
  unfold RingSt
  rw [BI.bigSep_Ico_succ_bot hk, BI.bigSep_Ico_succ_top hd, BI.bigSep_Ico_succ_bot hn]
  iintro ⟨HFs, ⟨Hf, HS⟩, HD, Ht, HT⟩
  isplitl [Hf]; · iexact Hf
  isplitl [Ht]; · iexact Ht
  iintro HF
  isplitl [HFs HF]
  · isplitl [HF] <;> iassumption
  isplitl [HS]; · iexact HS
  isplitl [HD]; · iexact HD
  iexact HT

end Cert.Proof.Kernel

end
-- ==== Proof.Kernel.Trip.lean ====
/- One turn of the main loop: wait for the slot if an older copy still holds it, read which expert is next, compute its slab, issue the copy. -/
module

public import proofs.«01_k».proof.Proof.Kernel.Ring

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-! ## Loading a word of a small table -/

theorem wp_word_A0 {α : Type} (c : Dev nD) {e : Fin 4} {off : Fin 1 → ℕ} {inb : ∀ a, off a + S1.size a ≤ S4.size a} {h1 hp}
    {k : Elt F .i32 → Prog (TpuEff nD τ sig (Elt F) Λ₀ .tc) α} {Q : α → sProp 𝕄} (f : Vec F S4 .i32) (w : Elt F .i32) (ho : off = ![e.val]) (hw : f (ix4 e) = w) :
    iprop(pt c A0 f ∗ (pt c A0 f -∗ wp frame (wpE (defs₀ (F := F)) Variants.none (c : Thread nD τ) none) Set.univ (k w) Q))
      ⊢ wp frame (wpE (defs₀ (F := F)) Variants.none (c : Thread nD τ) none) Set.univ ((smemLoad A0 (Rect.unit (s := S4) off S1.size inb) h1 hp).bind k) Q := by
  iintro ⟨H, Hk⟩
  iapply (wp_smemLoadElt Variants.none (c : Thread nD τ) none Set.univ (m := A0) (r := Rect.unit (s := S4) off S1.size inb)
    (hw := View.loads_smem_one hp h1) (x := Shape.Idx.first (h1.symm ▸ Nat.one_pos)) (k := fun g => (Prog.ret g).bind k) (Finset.subset_univ _)) $$ [H]
  · iexact H
  iintro H
  rw [read_A0 f ho inb, hw]
  iapply Hk
  iexact H

theorem wp_word_A1 {α : Type} (c : Dev nD) {e : Fin 4} {off : Fin 1 → ℕ} {inb : ∀ a, off a + S1.size a ≤ S4.size a} {h1 hp}
    {k : Elt F .f32 → Prog (TpuEff nD τ sig (Elt F) Λ₀ .tc) α} {Q : α → sProp 𝕄} (f : Vec F S4 .f32) (w : Elt F .f32) (ho : off = ![e.val]) (hw : f (ix4 e) = w) :
    iprop(pt c A1 f ∗ (pt c A1 f -∗ wp frame (wpE (defs₀ (F := F)) Variants.none (c : Thread nD τ) none) Set.univ (k w) Q))
      ⊢ wp frame (wpE (defs₀ (F := F)) Variants.none (c : Thread nD τ) none) Set.univ ((smemLoad A1 (Rect.unit (s := S4) off S1.size inb) h1 hp).bind k) Q := by
  iintro ⟨H, Hk⟩
  iapply (wp_smemLoadElt Variants.none (c : Thread nD τ) none Set.univ (m := A1) (r := Rect.unit (s := S4) off S1.size inb)
    (hw := View.loads_smem_one hp h1) (x := Shape.Idx.first (h1.symm ▸ Nat.one_pos)) (k := fun g => (Prog.ret g).bind k) (Finset.subset_univ _)) $$ [H]
  · iexact H
  iintro H
  rw [read_A1 f ho inb, hw]
  iapply Hk
  iexact H

theorem wp_word_A2 {α : Type} (c : Dev nD) {e : Fin 4} {off : Fin 1 → ℕ} {inb : ∀ a, off a + S1.size a ≤ S4.size a} {h1 hp}
    {k : Elt F .f32 → Prog (TpuEff nD τ sig (Elt F) Λ₀ .tc) α} {Q : α → sProp 𝕄} (f : Vec F S4 .f32) (w : Elt F .f32) (ho : off = ![e.val]) (hw : f (ix4 e) = w) :
    iprop(pt c A2 f ∗ (pt c A2 f -∗ wp frame (wpE (defs₀ (F := F)) Variants.none (c : Thread nD τ) none) Set.univ (k w) Q))
      ⊢ wp frame (wpE (defs₀ (F := F)) Variants.none (c : Thread nD τ) none) Set.univ ((smemLoad A2 (Rect.unit (s := S4) off S1.size inb) h1 hp).bind k) Q := by
  iintro ⟨H, Hk⟩
  iapply (wp_smemLoadElt Variants.none (c : Thread nD τ) none Set.univ (m := A2) (r := Rect.unit (s := S4) off S1.size inb)
    (hw := View.loads_smem_one hp h1) (x := Shape.Idx.first (h1.symm ▸ Nat.one_pos)) (k := fun g => (Prog.ret g).bind k) (Finset.subset_univ _)) $$ [H]
  · iexact H
  iintro H
  rw [read_A2 f ho inb, hw]
  iapply Hk
  iexact H

theorem wp_word_ORD {α : Type} (c : Dev nD) {e : Fin 4} {off : Fin 1 → ℕ} {inb : ∀ a, off a + S1.size a ≤ S4.size a} {h1 hp}
    {k : Elt F .i32 → Prog (TpuEff nD τ sig (Elt F) Λ₀ .tc) α} {Q : α → sProp 𝕄} (f : Vec F S4 .i32) (w : Elt F .i32) (ho : off = ![e.val]) (hw : f (ix4 e) = w) :
    iprop(pt c ORD f ∗ (pt c ORD f -∗ wp frame (wpE (defs₀ (F := F)) Variants.none (c : Thread nD τ) none) Set.univ (k w) Q))
      ⊢ wp frame (wpE (defs₀ (F := F)) Variants.none (c : Thread nD τ) none) Set.univ ((smemLoad ORD (Rect.unit (s := S4) off S1.size inb) h1 hp).bind k) Q := by
  iintro ⟨H, Hk⟩
  iapply (wp_smemLoadElt Variants.none (c : Thread nD τ) none Set.univ (m := ORD) (r := Rect.unit (s := S4) off S1.size inb)
    (hw := View.loads_smem_one hp h1) (x := Shape.Idx.first (h1.symm ▸ Nat.one_pos)) (k := fun g => (Prog.ret g).bind k) (Finset.subset_univ _)) $$ [H]
  · iexact H
  iintro H
  rw [read_ORD f ho inb, hw]
  iapply Hk
  iexact H

theorem wp_scales {α : Type} (c : Dev nD) {e : Fin 4} {off : Fin 1 → ℕ} {inb inb' : ∀ a, off a + S1.size a ≤ S4.size a} {h1 hp h1' hp'}
    {r : Elt F .f32 → Elt F .f32 → α} {Q : α → sProp 𝕄} (X1 X2 : Vec F S4 .f32) (ho : off = ![e.val]) :
    iprop(pt c A1 X1 ∗ pt c A2 X2 ∗ (iprop(pt c A1 X1 ∗ pt c A2 X2) -∗ Q (r (X1 (ix4 e)) (X2 (ix4 e)))))
      ⊢ wp frame (wpE (defs₀ (F := F)) Variants.none (c : Thread nD τ) none) Set.univ ((smemLoad A1 (Rect.unit (s := S4) off S1.size inb) h1 hp).bind fun a => (smemLoad A2 (Rect.unit (s := S4) off S1.size inb') h1' hp').bind fun b => .ret (r a b)) Q := by
  iintro ⟨H1, H2, Hk⟩
  iapply (wp_word_A1 c (e := e) X1 (X1 (ix4 e)) ho rfl) $$ [H1 H2 Hk]
  isplitl [H1]; · iexact H1
  iintro H1
  iapply (wp_word_A2 c (e := e) X2 (X2 (ix4 e)) ho rfl) $$ [H1 H2 Hk]
  isplitl [H2]; · iexact H2
  iintro H2
  sl_step
  iapply Hk
  isplitl [H1] <;> iassumption

/-! ## The head of a turn -/

/-- The order of the experts, as the loop reads it: the nonempty experts by rank. -/
def Ordered (v0 v1 v2 v3 : BitVec 32) (O : Vec F S4 .i32) : Prop :=
  ∀ (r : ℕ) (i : Fin 4), r < cnt v0 v1 v2 v3 → i.val = r → O (ix4 i) = BitVec.ofNat 32 (exOf v0 v1 v2 v3 r).val

theorem rowsOf_last {s : ℕ} (h : s = 11) : rowsOf s = 64 := if_pos h
theorem rowsOf_full {s : ℕ} (h : s ≠ 11) : rowsOf s = 256 := if_neg h

set_option maxHeartbeats 4000000 in
/-- The head of turn `k`: with the slots of the turns before it in flight, the oldest lands if all five are; the turn's expert, its
    first row, its blocks and its scale are read. -/
theorem head (c : Dev nD) {v0 v1 v2 v3 : BitVec 32} (h : Fit v0 v1 v2 v3) (k0_hw4 : k0_chk4 v0 v1 v2 v3) (k : Fin (k0_t5_loop v0 v1 v2 v3).trips)
    (O : Vec F S4 .i32) (hO : Ordered v0 v1 v2 v3 O) (X1 X2 : Vec F S4 .f32) (G : Vec F S4x2880x5760 .f32) :
    iprop(pt c ORD O ∗ pt c A1 X1 ∗ pt c A2 X2 ∗ RingSt v0 v1 v2 v3 c G k.val (k.val - 5) ∗ ∃ W, owes (c : Thread nD τ) 0 W)
      ⊢ wp frame (wpE (defs₀ (F := F)) Variants.none (c : Thread nD τ) none) Set.univ
          (k0_part10 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 (Scalar.shrui (Scalar.addi v0 15#32) 4#32) (Scalar.shrui (Scalar.addi v1 15#32) 4#32) (Scalar.shrui (Scalar.addi v2 15#32) 4#32) (Scalar.shrui (Scalar.addi v3 15#32) 4#32) (Scalar.addi 0#32 (Scalar.shrui (Scalar.addi v0 15#32) 4#32)) (Scalar.addi (Scalar.addi 0#32 (Scalar.shrui (Scalar.addi v0 15#32) 4#32)) (Scalar.shrui (Scalar.addi v1 15#32) 4#32)) (Scalar.addi (Scalar.addi (Scalar.addi 0#32 (Scalar.shrui (Scalar.addi v0 15#32) 4#32)) (Scalar.shrui (Scalar.addi v1 15#32) 4#32)) (Scalar.shrui (Scalar.addi v2 15#32) 4#32)) 1#32 0#32 0#32 1#32 k)
          fun r => iprop(⌜∃ hw, r = ⟨BitVec.ofNat 32 (exOf v0 v1 v2 v3 (k.val / 12)).val, hw, remW k, slotW k,
              kbW v0 v1 v2 v3 (BitVec.ofNat 32 (exOf v0 v1 v2 v3 (k.val / 12)).val), k0W v0 v1 v2 (BitVec.ofNat 32 (exOf v0 v1 v2 v3 (k.val / 12)).val),
              scaleOf X1 X2 (exOf v0 v1 v2 v3 (k.val / 12)), slabW k⟩⌝
            ∗ pt c ORD O ∗ pt c A1 X1 ∗ pt c A2 X2 ∗ RingSt v0 v1 v2 v3 c G k.val (k.val + 1 - 5) ∗ ∃ W, owes (c : Thread nD τ) 0 W) := by
  have hk := klt h k
  have hk48 := klt48 h k
  have hr : k.val / 12 < cnt v0 v1 v2 v3 := by omega
  have he := exOf_spec v0 v1 v2 v3 hr
  generalize hE : exOf v0 v1 v2 v3 (k.val / 12) = e at *
  rw [k0_part10_eq_skeleton]
  unfold k0_part10_skel
  simp only [bind_def', pure_def', Prog.lift, op_bind', ret_bind', bind_bind']
  iintro ⟨HO, H1, H2, HR, HW⟩
  iapply (wp_word_ORD c (e := ⟨k.val / 12, by omega⟩) O (BitVec.ofNat 32 e.val) (off8_eq h k) (by rw [hO _ ⟨k.val / 12, by omega⟩ hr rfl, hE])) $$ [HO HR HW H1 H2]
  isplitl [HO]; · iexact HO
  iintro HO
  iapply (wp_assume Variants.none (c : Thread nD τ) none Set.univ (chk5 h k e))
  by_cases h5 : 5 ≤ k.val
  · have hd : k.val + 1 - 5 = k.val - 5 + 1 := by omega
    have hsl : k.val % 5 = (slotOf (k.val - 5)).val := by show _ = (k.val - 5) % 5; omega
    rw [dif_pos ((cond5_iff h k).mpr h5), hd]
    icases HW with ⟨%W, HW⟩
    ihave HR' := (RingSt.land v0 v1 v2 v3 c G (k := k.val) (d := k.val - 5) (by omega) (by omega)) $$ HR
    icases HR' with ⟨HF, HR⟩
    unfold jobFlight
    by_cases h6 : (k.val - 5) % 12 = 11
    · rw [dif_neg (fun hc => (cond6_iff h k h5).mp hc h6), dif_pos ((cond7_iff h k h5).mpr h6), rowsOf_last h6]
      iapply (wp_land c (h := 64) (by decide) ((off11_eq h k h5).trans (by rw [hsl])) G W) $$ [HF HW HR HO H1 H2]
      isplitl [HF]; · iexact HF
      isplitl [HW]; · iexact HW
      iintro ⟨HD, Hf, HW⟩
      iapply (wp_scales c (e := e) X1 X2 (off13_eq e)) $$ [H1 H2 HO HR HW HD Hf]
      isplitl [H1]; · iexact H1
      isplitl [H2]; · iexact H2
      iintro ⟨H1, H2⟩
      isplitr
      · ipureintro; exact ⟨_, rfl⟩
      isplitl [HO]; · iexact HO
      isplitl [H1]; · iexact H1
      isplitl [H2]; · iexact H2
      isplitl [HR HD Hf]
      · iapply HR
        isplitl [HD]
        · unfold jobDone jobSet
          rw [rowsOf_last h6]
          iexact HD
        · iexact Hf
      · iexact HW
    · rw [dif_pos ((cond6_iff h k h5).mpr h6), dif_neg (fun hc => h6 ((cond7_iff h k h5).mp hc)), rowsOf_full h6]
      iapply (wp_land c (h := 256) (by decide) ((off9_eq h k h5).trans (by rw [hsl])) G W) $$ [HF HW HR HO H1 H2]
      isplitl [HF]; · iexact HF
      isplitl [HW]; · iexact HW
      iintro ⟨HD, Hf, HW⟩
      iapply (wp_scales c (e := e) X1 X2 (off13_eq e)) $$ [H1 H2 HO HR HW HD Hf]
      isplitl [H1]; · iexact H1
      isplitl [H2]; · iexact H2
      iintro ⟨H1, H2⟩
      isplitr
      · ipureintro; exact ⟨_, rfl⟩
      isplitl [HO]; · iexact HO
      isplitl [H1]; · iexact H1
      isplitl [H2]; · iexact H2
      isplitl [HR HD Hf]
      · iapply HR
        isplitl [HD]
        · unfold jobDone jobSet
          rw [rowsOf_full h6]
          iexact HD
        · iexact Hf
      · iexact HW
  · rw [dif_neg (fun hc => h5 ((cond5_iff h k).mp hc)), show k.val + 1 - 5 = k.val - 5 by omega]
    iapply (wp_scales c (e := e) X1 X2 (off13_eq e)) $$ [H1 H2 HO HR HW]
    isplitl [H1]; · iexact H1
    isplitl [H2]; · iexact H2
    iintro ⟨H1, H2⟩
    isplitr
    · ipureintro; exact ⟨_, rfl⟩
    isplitl [HO]; · iexact HO
    isplitl [H1]; · iexact H1
    isplitl [H2]; · iexact H2
    isplitl [HR] <;> iassumption

end Cert.Proof.Kernel

end
-- ==== Proof.Kernel.Zero.lean ====
/- The rows of the experts without tokens: thirty copies of a block of zeros for each, all issued before the first is waited for, on one cell. -/
module

public import proofs.«01_k».proof.Proof.Kernel.Trip

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-! ## The blocks of the empty experts, in the order of their copies -/

section Blocks

variable (v0 v1 v2 v3 : BitVec 32)

theorem zrank_0 : zrank v0 v1 v2 v3 0 = 0 := by unfold zrank; rw [Fin.sum_univ_four]; simp
theorem zrank_1 : zrank v0 v1 v2 v3 1 = if nb v0 v1 v2 v3 0 = 0 then 1 else 0 := by unfold zrank; rw [Fin.sum_univ_four]; simp
theorem zrank_2 : zrank v0 v1 v2 v3 2 = (if nb v0 v1 v2 v3 0 = 0 then 1 else 0) + (if nb v0 v1 v2 v3 1 = 0 then 1 else 0) := by
  unfold zrank; rw [Fin.sum_univ_four]; simp
theorem zrank_3 : zrank v0 v1 v2 v3 3 = (if nb v0 v1 v2 v3 0 = 0 then 1 else 0) + (if nb v0 v1 v2 v3 1 = 0 then 1 else 0)
    + (if nb v0 v1 v2 v3 2 = 0 then 1 else 0) := by
  unfold zrank; rw [Fin.sum_univ_four]; simp
theorem zcnt_eq : zcnt v0 v1 v2 v3 = (if nb v0 v1 v2 v3 0 = 0 then 1 else 0) + (if nb v0 v1 v2 v3 1 = 0 then 1 else 0)
    + (if nb v0 v1 v2 v3 2 = 0 then 1 else 0) + (if nb v0 v1 v2 v3 3 = 0 then 1 else 0) := by
  unfold zcnt; rw [Fin.sum_univ_four]

theorem zrank_inj {e e' : Fin 4} (he : nb v0 v1 v2 v3 e = 0) (he' : nb v0 v1 v2 v3 e' = 0) (hr : zrank v0 v1 v2 v3 e = zrank v0 v1 v2 v3 e') : e = e' := by
  have h0 := zrank_0 v0 v1 v2 v3
  have h1 := zrank_1 v0 v1 v2 v3
  have h2 := zrank_2 v0 v1 v2 v3
  have h3 := zrank_3 v0 v1 v2 v3
  fin_cases e <;> fin_cases e' <;> simp only [Fin.zero_eta, Fin.mk_one, Fin.reduceFinMk] at he he' hr ⊢ <;> first | rfl | (exfalso; split_ifs at h1 h2 h3 <;> omega)

theorem zrank_lt {e : Fin 4} (he : nb v0 v1 v2 v3 e = 0) : zrank v0 v1 v2 v3 e < zcnt v0 v1 v2 v3 := by
  have h0 := zrank_0 v0 v1 v2 v3
  have h1 := zrank_1 v0 v1 v2 v3
  have h2 := zrank_2 v0 v1 v2 v3
  have h3 := zrank_3 v0 v1 v2 v3
  have hc := zcnt_eq v0 v1 v2 v3
  fin_cases e <;> simp only [Fin.zero_eta, Fin.mk_one, Fin.reduceFinMk] at he ⊢ <;> split_ifs at h1 h2 h3 hc <;> omega

/-- How many copies there are; -/
abbrev zN : ℕ := 30 * zcnt v0 v1 v2 v3
/-- how many are before expert `e`'s; -/
def zpos (e : Fin 4) : ℕ := 30 * zrank v0 v1 v2 v3 e
/-- and how many after them. -/
def znext (e : Fin 4) : ℕ := zpos v0 v1 v2 v3 e + if nb v0 v1 v2 v3 e = 0 then 30 else 0

theorem zpos_0 : zpos v0 v1 v2 v3 0 = 0 := by unfold zpos; rw [zrank_0]
theorem znext_0 : znext v0 v1 v2 v3 0 = zpos v0 v1 v2 v3 1 := by unfold znext zpos; rw [zrank_0, zrank_1]; split_ifs <;> rfl
theorem znext_1 : znext v0 v1 v2 v3 1 = zpos v0 v1 v2 v3 2 := by unfold znext zpos; rw [zrank_1, zrank_2]; split_ifs <;> rfl
theorem znext_2 : znext v0 v1 v2 v3 2 = zpos v0 v1 v2 v3 3 := by unfold znext zpos; rw [zrank_2, zrank_3]; split_ifs <;> rfl
theorem znext_3 : znext v0 v1 v2 v3 3 = zN v0 v1 v2 v3 := by unfold znext zpos zN; rw [zrank_3, zcnt_eq]; split_ifs <;> rfl
theorem zpos_lt {e : Fin 4} (he : nb v0 v1 v2 v3 e = 0) {t : ℕ} (ht : t < 30) : zpos v0 v1 v2 v3 e + t < zN v0 v1 v2 v3 := by
  have := zrank_lt v0 v1 v2 v3 he
  unfold zpos zN; omega

/-- The elements of copy `j`. -/
def zSet (j : ℕ) : Finset S4x2880x5760.Idx := Finset.univ.filter fun y => nb v0 v1 v2 v3 (y 0) = 0 ∧ 30 * zrank v0 v1 v2 v3 (y 0) + (y 1).val / 96 = j
theorem mem_zSet {j : ℕ} {y : S4x2880x5760.Idx} : y ∈ zSet v0 v1 v2 v3 j ↔ nb v0 v1 v2 v3 (y 0) = 0 ∧ 30 * zrank v0 v1 v2 v3 (y 0) + (y 1).val / 96 = j := by
  simp only [zSet, Finset.mem_filter, Finset.mem_univ, true_and]

theorem zSet_eq {e : Fin 4} (he : nb v0 v1 v2 v3 e = 0) {t : ℕ} (ht : t < 30) : zSet v0 v1 v2 v3 (zpos v0 v1 v2 v3 e + t) = rowsSet e (96 * t) 96 := by
  ext y
  have y1 : (y 1).val < 2880 := (y 1).isLt
  rw [mem_zSet, mem_rowsSet]
  unfold zpos
  constructor
  · rintro ⟨h0, h1⟩
    have : y 0 = e := zrank_inj v0 v1 v2 v3 h0 he (by omega)
    rw [this] at h1
    exact ⟨congrArg Fin.val this, by omega, by omega⟩
  · rintro ⟨h0, h1, h2⟩
    have h0 : y 0 = e := Fin.ext h0
    rw [h0]
    exact ⟨he, by omega⟩

end Blocks

/-! ## The copies -/

section Copies

variable (c : Dev nD) (v0 v1 v2 v3 : BitVec 32) (G : Vec F S4x2880x5760 .f32)

/-- The block of zeros. -/
def zeroB : Vec F S96x5760 .f32 := fun _ => zeroV

/-- The share of the block that copy `j` reads with. -/
abbrev zTok (j : ℕ) : sProp 𝕄 := ZB.view.loc (c : Thread nD τ) ↦{Transfers.shareTokN fullShare j} (zeroB (F := F))

/-- What the landing of copy `j` hands over. -/
abbrev zLanded (j : Fin (zN v0 v1 v2 v3)) : sProp 𝕄 := iprop(ptOn c DW (zSet v0 v1 v2 v3 j.val) G ∗ zTok (F := F) c j.val)

/-- What copy `j` takes. -/
def zTodo (j : ℕ) : sProp 𝕄 := iprop((∃ V, ptOn (F := F) c DW (zSet v0 v1 v2 v3 j) V) ∗ zTok (F := F) c j)

/-- Copies in flight, of which some are waited for. -/
abbrev zBatch (j u : ℕ) : sProp 𝕄 :=
  Transfers.Batch (EC (F := F)) (c : Thread nD τ) (.dma cc0_scratch3.sem) () (credit 96) (zLanded c v0 v1 v2 v3 G) j u

/-- With `k` copies issued and none waited for. -/
def ZIss (k : ℕ) : sProp 𝕄 := iprop(zBatch c v0 v1 v2 v3 G k 0 ∗ bigSep (Finset.Ico k (zN v0 v1 v2 v3)) (zTodo (F := F) c v0 v1 v2 v3))

/-- With every copy issued and `u` waited for. -/
def ZWait (u : ℕ) : sProp 𝕄 := iprop(zBatch c v0 v1 v2 v3 G (zN v0 v1 v2 v3) (credit 96 * u) ∗ ∃ W, owes (c : Thread nD τ) 0 W)

/-- What a copy of the block of zeros leaves. -/
theorem zero_val {r : ℕ} {e : Fin 4} {off : Fin 3 → ℕ} (ho : off = ![e.val, r, 0])
    (inb : ∀ a, off a + (⟨3, ![1, 96, 5760]⟩ : Shape).size a ≤ S4x2880x5760.size a) (hr) (sq) (V : Vec F S4x2880x5760 .f32)
    (hG : ∀ y : S4x2880x5760.Idx, (y 0).val = e.val → G y = zeroV) :
    ∀ y ∈ rowsSet e r 96, (outBlk (h := 96) inb hr sq).view.write (Elt F) V (ZB.view.read (Elt F) (zeroB (F := F))) Finset.univ y = G y := by
  intro y hy
  refine write_cases (outBlk (h := 96) inb hr sq).view V G _ (fun x => (cast_eq _ _).trans ?_) y fun hm => absurd ((outBlk_set ho inb hr sq).symm ▸ hy) hm
  have hm : (outBlk (h := 96) inb hr sq).view.emb x ∈ rowsSet e r 96 := outBlk_set ho inb hr sq ▸ Finset.mem_map_of_mem _ (Finset.mem_univ x)
  exact (hG _ (mem_rowsSet.mp hm).1).symm

/-- Issue a copy. -/
theorem wp_zero {α : Type} {t : ℕ} {e : Fin 4} {off : Fin 3 → ℕ} {inb hr sq} {h1 h2 h3} {k : PUnit → Prog (TpuEff nD τ sig (Elt F) Λ₀ .tc) α} {Q : α → sProp 𝕄}
    (he : nb v0 v1 v2 v3 e = 0) (ht : t < 30) (ho : off = ![e.val, 96 * t, 0]) (hG : ∀ y : S4x2880x5760.Idx, nb v0 v1 v2 v3 (y 0) = 0 → G y = zeroV) :
    iprop(ZIss c v0 v1 v2 v3 G (zpos v0 v1 v2 v3 e + t) ∗ (ZIss c v0 v1 v2 v3 G (zpos v0 v1 v2 v3 e + (t + 1)) -∗ wp frame (wpE (defs₀ (F := F)) Variants.none (c : Thread nD τ) none) Set.univ (k ⟨⟩) Q))
      ⊢ wp frame (wpE (defs₀ (F := F)) Variants.none (c : Thread nD τ) none) Set.univ (.op (.enqueueDma ZB (.here (outBlk (h := 96) (off := off) inb hr sq)) (.dma cc0_scratch3.sem) h1 h2 h3) k) Q := by
  have hlt := zpos_lt v0 v1 v2 v3 he ht
  have hval := zero_val G ho inb hr sq (hG := fun y hy => hG y (by rw [show y 0 = e from Fin.ext hy]; exact he))
  have hds := outBlk_set ho inb hr sq
  have hss : ZB.view.set = Finset.univ := View.set_whole _
  unfold ZIss
  rw [BI.bigSep_Ico_succ_bot hlt, show zTodo (F := F) c v0 v1 v2 v3 (zpos v0 v1 v2 v3 e + t)
    = iprop((∃ V, ptOn (F := F) c DW (rowsSet e (96 * t) 96) V) ∗ zTok (F := F) c (zpos v0 v1 v2 v3 e + t)) by unfold zTodo; rw [zSet_eq v0 v1 v2 v3 he ht]]
  iintro ⟨⟨HB, ⟨⟨%V, HD⟩, HZ⟩, HT⟩, Hk⟩
  iapply (Transfers.wp_dmaBatch (EC (F := F)) Variants.none (c : Thread nD τ) none (src := ZB) (dst := outBlk (h := 96) inb hr sq) (Sd := rowsSet e (96 * t) 96)
    (q := Transfers.shareTokN fullShare (zpos v0 v1 v2 v3 e + t)) (fs := zeroB (F := F)) (fd := V) () (credit 96) rfl (hds ▸ subset_rfl)
    (D := zLanded c v0 v1 v2 v3 G) (j := zpos v0 v1 v2 v3 e + t) (u := 0) hlt (Nat.zero_le _) ?_) $$ [HZ HD HB]
  · rw [hss]
    show _ ⊢ iprop(ptOn c DW (zSet v0 v1 v2 v3 (zpos v0 v1 v2 v3 e + t)) G ∗ zTok (F := F) c (zpos v0 v1 v2 v3 e + t))
    rw [zSet_eq v0 v1 v2 v3 he ht]
    iintro ⟨HD, HZ⟩
    isplitl [HD]
    · ihave HD' := (Entails.of_eq (pointsTo_congr (ℓ := DW.view.loc (c : Thread nD τ)) (q := fullShare) (hval V))) $$ HD
      iexact HD'
    · iexact HZ
  · rw [hss]
    isplitl [HZ]; · iexact HZ
    isplitl [HD]; · iexact HD
    iexact HB
  iintro HB
  iapply Hk
  isplitl [HB] <;> iassumption

/-- Wait for one copy's amount. -/
theorem wp_zwait {α : Type} {u : ℕ} {off : Fin 3 → ℕ} {inb hr sq} {h1 h2} {k : PUnit → Prog (TpuEff nD τ sig (Elt F) Λ₀ .tc) α} {Q : α → sProp 𝕄}
    (hu : u < zN v0 v1 v2 v3) :
    iprop(ZWait c v0 v1 v2 v3 G u ∗ (ZWait c v0 v1 v2 v3 G (u + 1) -∗ wp frame (wpE (defs₀ (F := F)) Variants.none (c : Thread nD τ) none) Set.univ (k ⟨⟩) Q))
      ⊢ wp frame (wpE (defs₀ (F := F)) Variants.none (c : Thread nD τ) none) Set.univ (.op (.waitDma2 cc0_scratch3.sem ZB (outBlk (h := 96) (off := off) inb hr sq) h1 h2) k) Q := by
  have hle : credit 96 * u + 1 * credit 96 ≤ credit 96 * zN v0 v1 v2 v3 := by
    rw [Nat.one_mul, ← Nat.mul_succ]; exact Nat.mul_le_mul_left _ hu
  unfold ZWait
  rw [show credit 96 * (u + 1) = credit 96 * u + 1 * credit 96 by rw [Nat.one_mul, Nat.mul_succ]]
  iintro ⟨⟨HB, ⟨%W, HW⟩⟩, Hk⟩
  iapply (Transfers.wp_waitBatchMul (EC (F := F)) Variants.none (c : Thread nD τ) none () (N := credit 96) 1 (Nat.one_mul _).symm
    (D := zLanded c v0 v1 v2 v3 G) hle) $$ [HB HW]
  · isplitl [HB] <;> iassumption
  iintro ⟨HB, HW⟩
  iapply Hk
  isplitl [HB]; · iexact HB
  iexists _; iexact HW

end Copies

/-! ## The loops over an empty expert's blocks -/

/-- Words of the kernel's test that an expert has no block. -/
theorem empty_iff {v : BitVec 32} (hv : v.toNat ≤ 768) :
    Scalar.cmpi .ne (Scalar.extui (Scalar.cmpi .eq (Scalar.shrui (Scalar.addi v 15#32) 4#32) 0#32)) 0#32 = 1#1 ↔ (v.toNat + 15) / 16 = 0 := by
  rw [guard_iff, eq_iff]
  have := blocks_nat hv
  unfold blocks at this
  rw [this]; rfl

/-- A block run only for an expert without rows, before what follows it. -/
theorem wp_ifEmpty {α : Type} {P : Prop} [Decidable P] {p : Prog (TpuEff nD τ sig (Elt F) Λ₀ .tc) Unit} {K : Prog (TpuEff nD τ sig (Elt F) Λ₀ .tc) α} {Q : α → sProp 𝕄}
    (c : Dev nD) (v0 v1 v2 v3 : BitVec 32) (e : Fin 4) (hP : P ↔ nb v0 v1 v2 v3 e = 0) (Z : ℕ → sProp 𝕄)
    (hp : nb v0 v1 v2 v3 e = 0 → Z (zpos v0 v1 v2 v3 e) ⊢ wp frame (wpE (defs₀ (F := F)) Variants.none (c : Thread nD τ) none) Set.univ p (fun _ => Z (zpos v0 v1 v2 v3 e + 30))) :
    iprop(Z (zpos v0 v1 v2 v3 e) ∗ (Z (znext v0 v1 v2 v3 e) -∗ wp frame (wpE (defs₀ (F := F)) Variants.none (c : Thread nD τ) none) Set.univ K Q)) ⊢ wp frame (wpE (defs₀ (F := F)) Variants.none (c : Thread nD τ) none) Set.univ (if P then p.bind fun _ => K else K) Q := by
  unfold znext
  by_cases he : nb v0 v1 v2 v3 e = 0
  · rw [if_pos (hP.mpr he), if_pos he]
    iintro ⟨HZ, HK⟩
    iapply (wp_seq Variants.none (c : Thread nD τ) none Set.univ (hp he)) $$ [HZ HK]
    isplitl [HZ]; · iexact HZ
    iintro %_ HZ
    iapply HK
    iexact HZ
  · rw [if_neg (fun h => he (hP.mp h)), if_neg he]
    iintro ⟨HZ, HK⟩
    iapply HK
    iexact HZ

theorem off1_eq : ∀ t : Fin k0_t1_loop.trips, k0_off1 t = ![0, 96 * t.val, 0] := by decide

set_option maxHeartbeats 1000000 in
theorem zeros0 (c : Dev nD) (v0 v1 v2 v3 : BitVec 32) (G : Vec F S4x2880x5760 .f32) (hG : ∀ y : S4x2880x5760.Idx, nb v0 v1 v2 v3 (y 0) = 0 → G y = zeroV) (he : nb v0 v1 v2 v3 0 = 0) :
    ZIss c v0 v1 v2 v3 G (zpos v0 v1 v2 v3 0)
      ⊢ wp frame (wpE (defs₀ (F := F)) Variants.none (c : Thread nD τ) none) Set.univ (Scf.Loop.for k0_t1_loop k0_t1_ok () (k0_t1_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZIss c v0 v1 v2 v3 G (zpos v0 v1 v2 v3 0 + 30)) := by
  refine .trans ?_ (Scf.wp_for _ _ _ _ _ _ (k0_t1_ok) () _ (fun t _ => ZIss c v0 v1 v2 v3 G (zpos v0 v1 v2 v3 0 + t)) fun t u => ?_)
  · iintro HZ
    isplitl [HZ]; · iexact HZ
    iintro %_ HZ
    iexact HZ
  · have ht : t.val < 30 := t.isLt
    unfold k0_t1_body
    simp only [bind_def', pure_def', Prog.lift, op_bind', ret_bind', bind_bind']
    iintro HZ
    iapply (wp_zero c v0 v1 v2 v3 G (e := 0) he ht (off1_eq t) hG) $$ [HZ]
    isplitl [HZ]; · iexact HZ
    iintro HZ
    sl_step
    iexact HZ

theorem off2_eq : ∀ t : Fin k0_t2_loop.trips, k0_off2 t = ![1, 96 * t.val, 0] := by decide

set_option maxHeartbeats 1000000 in
theorem zeros1 (c : Dev nD) (v0 v1 v2 v3 : BitVec 32) (G : Vec F S4x2880x5760 .f32) (hG : ∀ y : S4x2880x5760.Idx, nb v0 v1 v2 v3 (y 0) = 0 → G y = zeroV) (he : nb v0 v1 v2 v3 1 = 0) :
    ZIss c v0 v1 v2 v3 G (zpos v0 v1 v2 v3 1)
      ⊢ wp frame (wpE (defs₀ (F := F)) Variants.none (c : Thread nD τ) none) Set.univ (Scf.Loop.for k0_t2_loop k0_t2_ok () (k0_t2_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZIss c v0 v1 v2 v3 G (zpos v0 v1 v2 v3 1 + 30)) := by
  refine .trans ?_ (Scf.wp_for _ _ _ _ _ _ (k0_t2_ok) () _ (fun t _ => ZIss c v0 v1 v2 v3 G (zpos v0 v1 v2 v3 1 + t)) fun t u => ?_)
  · iintro HZ
    isplitl [HZ]; · iexact HZ
    iintro %_ HZ
    iexact HZ
  · have ht : t.val < 30 := t.isLt
    unfold k0_t2_body
    simp only [bind_def', pure_def', Prog.lift, op_bind', ret_bind', bind_bind']
    iintro HZ
    iapply (wp_zero c v0 v1 v2 v3 G (e := 1) he ht (off2_eq t) hG) $$ [HZ]
    isplitl [HZ]; · iexact HZ
    iintro HZ
    sl_step
    iexact HZ

theorem off3_eq : ∀ t : Fin k0_t3_loop.trips, k0_off3 t = ![2, 96 * t.val, 0] := by decide

set_option maxHeartbeats 1000000 in
theorem zeros2 (c : Dev nD) (v0 v1 v2 v3 : BitVec 32) (G : Vec F S4x2880x5760 .f32) (hG : ∀ y : S4x2880x5760.Idx, nb v0 v1 v2 v3 (y 0) = 0 → G y = zeroV) (he : nb v0 v1 v2 v3 2 = 0) :
    ZIss c v0 v1 v2 v3 G (zpos v0 v1 v2 v3 2)
      ⊢ wp frame (wpE (defs₀ (F := F)) Variants.none (c : Thread nD τ) none) Set.univ (Scf.Loop.for k0_t3_loop k0_t3_ok () (k0_t3_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZIss c v0 v1 v2 v3 G (zpos v0 v1 v2 v3 2 + 30)) := by
  refine .trans ?_ (Scf.wp_for _ _ _ _ _ _ (k0_t3_ok) () _ (fun t _ => ZIss c v0 v1 v2 v3 G (zpos v0 v1 v2 v3 2 + t)) fun t u => ?_)
  · iintro HZ
    isplitl [HZ]; · iexact HZ
    iintro %_ HZ
    iexact HZ
  · have ht : t.val < 30 := t.isLt
    unfold k0_t3_body
    simp only [bind_def', pure_def', Prog.lift, op_bind', ret_bind', bind_bind']
    iintro HZ
    iapply (wp_zero c v0 v1 v2 v3 G (e := 2) he ht (off3_eq t) hG) $$ [HZ]
    isplitl [HZ]; · iexact HZ
    iintro HZ
    sl_step
    iexact HZ

theorem off4_eq : ∀ t : Fin k0_t4_loop.trips, k0_off4 t = ![3, 96 * t.val, 0] := by decide

set_option maxHeartbeats 1000000 in
theorem zeros3 (c : Dev nD) (v0 v1 v2 v3 : BitVec 32) (w0 : BitVec 32) (k0_hw1 : k0_chk1 w0) (w1 : BitVec 32) (k0_hw2 : k0_chk2 w0 w1) (w2 : BitVec 32) (k0_hw3 : k0_chk3 w0 w1 w2) (v5 v7 v9 v11 : BitVec 32) (v28 : BitVec 1) (G : Vec F S4x2880x5760 .f32) (hG : ∀ y : S4x2880x5760.Idx, nb v0 v1 v2 v3 (y 0) = 0 → G y = zeroV) (he : nb v0 v1 v2 v3 3 = 0) :
    ZIss c v0 v1 v2 v3 G (zpos v0 v1 v2 v3 3)
      ⊢ wp frame (wpE (defs₀ (F := F)) Variants.none (c : Thread nD τ) none) Set.univ (Scf.Loop.for k0_t4_loop k0_t4_ok () (k0_t4_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) w0 k0_hw1 w1 k0_hw2 w2 k0_hw3 v5 v7 v9 v11 v28)) (fun _ => ZIss c v0 v1 v2 v3 G (zpos v0 v1 v2 v3 3 + 30)) := by
  refine .trans ?_ (Scf.wp_for _ _ _ _ _ _ (k0_t4_ok) () _ (fun t _ => ZIss c v0 v1 v2 v3 G (zpos v0 v1 v2 v3 3 + t)) fun t u => ?_)
  · iintro HZ
    isplitl [HZ]; · iexact HZ
    iintro %_ HZ
    iexact HZ
  · have ht : t.val < 30 := t.isLt
    unfold k0_t4_body
    simp only [bind_def', pure_def', Prog.lift, op_bind', ret_bind', bind_bind']
    iintro HZ
    iapply (wp_zero c v0 v1 v2 v3 G (e := 3) he ht (off4_eq t) hG) $$ [HZ]
    isplitl [HZ]; · iexact HZ
    iintro HZ
    sl_step
    iexact HZ

theorem off190_eq : ∀ t : Fin k0_t9_loop.trips, k0_off190 t = ![0, 96 * t.val, 0] := by decide

set_option maxHeartbeats 1000000 in
theorem waits0 (c : Dev nD) (v0 v1 v2 v3 : BitVec 32) (G : Vec F S4x2880x5760 .f32) (he : nb v0 v1 v2 v3 0 = 0) :
    ZWait c v0 v1 v2 v3 G (zpos v0 v1 v2 v3 0)
      ⊢ wp frame (wpE (defs₀ (F := F)) Variants.none (c : Thread nD τ) none) Set.univ (Scf.Loop.for k0_t9_loop k0_t9_ok () (k0_t9_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZWait c v0 v1 v2 v3 G (zpos v0 v1 v2 v3 0 + 30)) := by
  refine .trans ?_ (Scf.wp_for _ _ _ _ _ _ (k0_t9_ok) () _ (fun t _ => ZWait c v0 v1 v2 v3 G (zpos v0 v1 v2 v3 0 + t)) fun t u => ?_)
  · iintro HZ
    isplitl [HZ]; · iexact HZ
    iintro %_ HZ
    iexact HZ
  · have ht : t.val < 30 := t.isLt
    unfold k0_t9_body
    simp only [bind_def', pure_def', Prog.lift, op_bind', ret_bind', bind_bind']
    iintro HZ
    iapply (wp_zwait c v0 v1 v2 v3 G (zpos_lt v0 v1 v2 v3 he ht)) $$ [HZ]
    isplitl [HZ]; · iexact HZ
    iintro HZ
    sl_step
    iexact HZ

theorem off191_eq : ∀ t : Fin k0_t10_loop.trips, k0_off191 t = ![1, 96 * t.val, 0] := by decide

set_option maxHeartbeats 1000000 in
theorem waits1 (c : Dev nD) (v0 v1 v2 v3 : BitVec 32) (G : Vec F S4x2880x5760 .f32) (he : nb v0 v1 v2 v3 1 = 0) :
    ZWait c v0 v1 v2 v3 G (zpos v0 v1 v2 v3 1)
      ⊢ wp frame (wpE (defs₀ (F := F)) Variants.none (c : Thread nD τ) none) Set.univ (Scf.Loop.for k0_t10_loop k0_t10_ok () (k0_t10_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZWait c v0 v1 v2 v3 G (zpos v0 v1 v2 v3 1 + 30)) := by
  refine .trans ?_ (Scf.wp_for _ _ _ _ _ _ (k0_t10_ok) () _ (fun t _ => ZWait c v0 v1 v2 v3 G (zpos v0 v1 v2 v3 1 + t)) fun t u => ?_)
  · iintro HZ
    isplitl [HZ]; · iexact HZ
    iintro %_ HZ
    iexact HZ
  · have ht : t.val < 30 := t.isLt
    unfold k0_t10_body
    simp only [bind_def', pure_def', Prog.lift, op_bind', ret_bind', bind_bind']
    iintro HZ
    iapply (wp_zwait c v0 v1 v2 v3 G (zpos_lt v0 v1 v2 v3 he ht)) $$ [HZ]
    isplitl [HZ]; · iexact HZ
    iintro HZ
    sl_step
    iexact HZ

theorem off192_eq : ∀ t : Fin k0_t11_loop.trips, k0_off192 t = ![2, 96 * t.val, 0] := by decide

set_option maxHeartbeats 1000000 in
theorem waits2 (c : Dev nD) (v0 v1 v2 v3 : BitVec 32) (G : Vec F S4x2880x5760 .f32) (he : nb v0 v1 v2 v3 2 = 0) :
    ZWait c v0 v1 v2 v3 G (zpos v0 v1 v2 v3 2)
      ⊢ wp frame (wpE (defs₀ (F := F)) Variants.none (c : Thread nD τ) none) Set.univ (Scf.Loop.for k0_t11_loop k0_t11_ok () (k0_t11_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZWait c v0 v1 v2 v3 G (zpos v0 v1 v2 v3 2 + 30)) := by
  refine .trans ?_ (Scf.wp_for _ _ _ _ _ _ (k0_t11_ok) () _ (fun t _ => ZWait c v0 v1 v2 v3 G (zpos v0 v1 v2 v3 2 + t)) fun t u => ?_)
  · iintro HZ
    isplitl [HZ]; · iexact HZ
    iintro %_ HZ
    iexact HZ
  · have ht : t.val < 30 := t.isLt
    unfold k0_t11_body
    simp only [bind_def', pure_def', Prog.lift, op_bind', ret_bind', bind_bind']
    iintro HZ
    iapply (wp_zwait c v0 v1 v2 v3 G (zpos_lt v0 v1 v2 v3 he ht)) $$ [HZ]
    isplitl [HZ]; · iexact HZ
    iintro HZ
    sl_step
    iexact HZ

theorem off193_eq : ∀ t : Fin k0_t12_loop.trips, k0_off193 t = ![3, 96 * t.val, 0] := by decide

set_option maxHeartbeats 1000000 in
theorem waits3 (c : Dev nD) (v0 v1 v2 v3 : BitVec 32) (G : Vec F S4x2880x5760 .f32) (he : nb v0 v1 v2 v3 3 = 0) :
    ZWait c v0 v1 v2 v3 G (zpos v0 v1 v2 v3 3)
      ⊢ wp frame (wpE (defs₀ (F := F)) Variants.none (c : Thread nD τ) none) Set.univ (Scf.Loop.for k0_t12_loop k0_t12_ok () (k0_t12_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZWait c v0 v1 v2 v3 G (zpos v0 v1 v2 v3 3 + 30)) := by
  refine .trans ?_ (Scf.wp_for _ _ _ _ _ _ (k0_t12_ok) () _ (fun t _ => ZWait c v0 v1 v2 v3 G (zpos v0 v1 v2 v3 3 + t)) fun t u => ?_)
  · iintro HZ
    isplitl [HZ]; · iexact HZ
    iintro %_ HZ
    iexact HZ
  · have ht : t.val < 30 := t.isLt
    unfold k0_t12_body
    simp only [bind_def', pure_def', Prog.lift, op_bind', ret_bind', bind_bind']
    iintro HZ
    iapply (wp_zwait c v0 v1 v2 v3 G (zpos_lt v0 v1 v2 v3 he ht)) $$ [HZ]
    isplitl [HZ]; · iexact HZ
    iintro HZ
    sl_step
    iexact HZ

end Cert.Proof.Kernel

end
-- ==== Proof.Kernel.Cover.lean ====
/- The buffers before the first copy and after the last: the result, the ring and the block of zeros, whole and in parts. -/
module

public import proofs.«01_k».proof.Proof.Kernel.Ring
public import proofs.«01_k».proof.Proof.Kernel.Zero
public import Idealize.ShloMosaic.Lib.Ring

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

variable (c : Dev nD) (v0 v1 v2 v3 : BitVec 32) (G : Vec F S4x2880x5760 .f32)

/-! ## The result in parts -/

theorem jobs_disjoint : ∀ t ∈ Finset.Ico 0 (12 * cnt v0 v1 v2 v3), ∀ t' ∈ Finset.Ico 0 (12 * cnt v0 v1 v2 v3), t ≠ t' →
    Disjoint (jobSet v0 v1 v2 v3 t) (jobSet v0 v1 v2 v3 t') := fun t ht t' ht' h =>
  Finset.disjoint_left.mpr fun y hy hy' => h
    (((mem_jobSet v0 v1 v2 v3 (Finset.mem_Ico.mp ht).2).mp hy).2.symm.trans ((mem_jobSet v0 v1 v2 v3 (Finset.mem_Ico.mp ht').2).mp hy').2)

theorem zeros_disjoint : ∀ t ∈ Finset.Ico 0 (zN v0 v1 v2 v3), ∀ t' ∈ Finset.Ico 0 (zN v0 v1 v2 v3), t ≠ t' →
    Disjoint (zSet v0 v1 v2 v3 t) (zSet v0 v1 v2 v3 t') := fun t _ t' _ h =>
  Finset.disjoint_left.mpr fun y hy hy' => h (((mem_zSet v0 v1 v2 v3).mp hy).2.symm.trans ((mem_zSet v0 v1 v2 v3).mp hy').2)

theorem parts_disjoint : Disjoint ((Finset.Ico 0 (12 * cnt v0 v1 v2 v3)).biUnion (jobSet v0 v1 v2 v3)) ((Finset.Ico 0 (zN v0 v1 v2 v3)).biUnion (zSet v0 v1 v2 v3)) := by
  refine Finset.disjoint_left.mpr fun y hy hy' => ?_
  obtain ⟨t, ht, hy⟩ := Finset.mem_biUnion.mp hy
  obtain ⟨t', -, hy'⟩ := Finset.mem_biUnion.mp hy'
  have h1 := ((mem_jobSet v0 v1 v2 v3 (Finset.mem_Ico.mp ht).2).mp hy).1
  have h2 := ((mem_zSet v0 v1 v2 v3).mp hy').1
  omega

theorem cover : (Finset.Ico 0 (12 * cnt v0 v1 v2 v3)).biUnion (jobSet v0 v1 v2 v3) ∪ (Finset.Ico 0 (zN v0 v1 v2 v3)).biUnion (zSet v0 v1 v2 v3) = Finset.univ := by
  refine Finset.eq_univ_iff_forall.mpr fun y => ?_
  have y1 : (y 1).val < 2880 := (y 1).isLt
  rw [Finset.mem_union]
  rcases Nat.eq_zero_or_pos (nb v0 v1 v2 v3 (y 0)) with h | h
  · have := zrank_lt v0 v1 v2 v3 h
    exact .inr (Finset.mem_biUnion.mpr ⟨_, Finset.mem_Ico.mpr ⟨Nat.zero_le _, by unfold zN; omega⟩, (mem_zSet v0 v1 v2 v3).mpr ⟨h, rfl⟩⟩)
  · have := rank_lt_cnt v0 v1 v2 v3 h
    have hj : 12 * rank v0 v1 v2 v3 (y 0) + (y 1).val / 256 < 12 * cnt v0 v1 v2 v3 := by omega
    exact .inl (Finset.mem_biUnion.mpr ⟨_, Finset.mem_Ico.mpr ⟨Nat.zero_le _, hj⟩, (mem_jobSet v0 v1 v2 v3 hj).mpr ⟨h, rfl⟩⟩)

/-- The result held whole is held part by part. -/
theorem dw_parts (V : Vec F S4x2880x5760 .f32) : (pt c DW V : sProp 𝕄)
    = iprop(bigSep (Finset.Ico 0 (12 * cnt v0 v1 v2 v3)) (fun j => ptOn c DW (jobSet v0 v1 v2 v3 j) V)
      ∗ bigSep (Finset.Ico 0 (zN v0 v1 v2 v3)) (fun j => ptOn c DW (zSet v0 v1 v2 v3 j) V)) := by
  rw [← pointsTo_biUnion _ _ (jobs_disjoint v0 v1 v2 v3), ← pointsTo_biUnion _ _ (zeros_disjoint v0 v1 v2 v3)]
  have h : (ptOn c DW _ V : sProp 𝕄) ⊣⊢ _ := pointsTo_union (parts_disjoint v0 v1 v2 v3)
  rw [cover] at h
  exact Idealize.SL.BI.Entails.antisymm h.1 h.2

theorem dw_split (V : Vec F S4x2880x5760 .f32) : pt c DW V
    ⊢ iprop(bigSep (Finset.Ico 0 (12 * cnt v0 v1 v2 v3)) (jobTodo (F := F) v0 v1 v2 v3 c)
      ∗ bigSep (Finset.Ico 0 (zN v0 v1 v2 v3)) (fun j => iprop(∃ V, ptOn (F := F) c DW (zSet v0 v1 v2 v3 j) V))) := by
  rw [dw_parts c v0 v1 v2 v3]
  refine sep_mono (BI.bigSep_mono fun j _ => ?_) (BI.bigSep_mono fun j _ => ?_)
  · show (ptOn c DW (jobSet v0 v1 v2 v3 j) V : sProp 𝕄) ⊢ iprop(∃ V, ptOn (F := F) c DW (jobSet v0 v1 v2 v3 j) V)
    iintro H; iexists V; iexact H
  · show (ptOn c DW (zSet v0 v1 v2 v3 j) V : sProp 𝕄) ⊢ iprop(∃ V, ptOn (F := F) c DW (zSet v0 v1 v2 v3 j) V)
    iintro H; iexists V; iexact H

theorem dw_join : iprop(bigSep (Finset.Ico 0 (12 * cnt v0 v1 v2 v3)) (jobDone v0 v1 v2 v3 c G)
      ∗ bigSep (Finset.Ico 0 (zN v0 v1 v2 v3)) (fun j => ptOn c DW (zSet v0 v1 v2 v3 j) G)) ⊢ pt c DW G :=
  Entails.of_eq (dw_parts c v0 v1 v2 v3 G).symm

/-! ## The ring in slots -/

theorem slots_cover : (Finset.univ : Finset (Fin 5)).biUnion (fun i => slotSet i.val) = Finset.univ :=
  Finset.eq_univ_iff_forall.mpr fun x => Finset.mem_biUnion.mpr ⟨x 0, Finset.mem_univ _, mem_slotSet.mpr rfl⟩
theorem slots_disjoint : ∀ b b' : Fin 5, b ≠ b' → Disjoint (slotSet b.val) (slotSet b'.val) := fun b b' h =>
  Finset.disjoint_left.mpr fun x hx hx' => h (Fin.ext ((mem_slotSet.mp hx).symm.trans (mem_slotSet.mp hx')))

/-- The cells of the ring, at zero. -/
abbrev cells0 : sProp 𝕄 := bigSep Finset.univ fun i : Fin 5 => semVal ((c : Thread nD τ), SemLoc.dma (cell i)) 0

/-- The five slots from any turn on are the five slots. -/
theorem free_slots (k : ℕ) : (bigSep (Finset.Ico k (k + 5)) (fun j => Free (F := F) c (slotOf j)) : sProp 𝕄) = bigSep Finset.univ (Free (F := F) c) := by
  induction k with
  | zero =>
    rw [show Finset.Ico 0 (0 + 5) = (Finset.univ : Finset (Fin 5)).map Fin.valEmbedding from by
      rw [Fin.map_valEmbedding_univ, Nat.Iio_eq_range, Finset.range_eq_Ico], BI.bigSep_map]
    refine BI.bigSep_congr fun i _ => ?_
    have hi : slotOf i.val = i := Fin.ext (Nat.mod_eq_of_lt i.isLt)
    show Free (F := F) c (slotOf i.val) = Free c i
    rw [hi]
  | succ k ih =>
    rw [← ih, show k + 1 + 5 = (k + 5) + 1 from rfl, BI.bigSep_Ico_succ_top (by omega : k + 1 ≤ k + 5), BI.bigSep_Ico_succ_bot (by omega : k < k + 5),
      show slotOf (k + 5) = slotOf k from Fin.ext (Nat.add_mod_right k 5)]

theorem ring_split (f : Vec F S5x256x5760 .f32) : iprop(pt c RING f ∗ cells0 (F := F) c) ⊢ bigSep (Finset.Ico 0 (0 + 5)) (fun j => Free (F := F) c (slotOf j)) := by
  rw [free_slots c 0, show (pt c RING f : sProp 𝕄) = bigSep Finset.univ fun i : Fin 5 => ptOn c RING (slotSet i.val) f from
    Idealize.ShloMosaic.Ring.pointsTo_blocks (ℓ := RING.view.loc (c : Thread nD τ)) (fun i : Fin 5 => slotSet i.val) slots_disjoint slots_cover f]
  rw [← BI.bigSep_sep']
  refine BI.bigSep_mono fun i _ => ?_
  show iprop(ptOn c RING (slotSet i.val) f ∗ semVal ((c : Thread nD τ), SemLoc.dma (cell i)) 0)
    ⊢ (iprop(semVal ((c : Thread nD τ), SemLoc.dma (cell i)) 0 ∗ ∃ f, ptOn (F := F) c RING (slotSet i.val) f) : sProp 𝕄)
  iintro ⟨H, Hs⟩
  isplitl [Hs]; · iexact Hs
  iexists f; iexact H

theorem ring_join (k : ℕ) : bigSep (Finset.Ico k (k + 5)) (fun j => Free (F := F) c (slotOf j)) ⊢ iprop((∃ f, pt (F := F) c RING f) ∗ cells0 (F := F) c) := by
  rw [free_slots c k]
  unfold Free
  rw [BI.bigSep_sep']
  iintro ⟨Hs, H⟩
  isplitl [H]
  · iapply (Idealize.ShloMosaic.Ring.pointsTo_blocks_join_exists (ℓ := RING.view.loc (c : Thread nD τ)) (fun i : Fin 5 => slotSet i.val) slots_disjoint slots_cover (fun _ => zeroV)); iexact H
  · iexact Hs

/-! ## The block of zeros -/

theorem zb_split : pt c ZB (zeroB (F := F)) ⊢ iprop((ZB.view.loc (c : Thread nD τ) ↦{Transfers.shareDrop fullShare (zN v0 v1 v2 v3)} (zeroB (F := F)))
      ∗ bigSep (Finset.Ico 0 (zN v0 v1 v2 v3)) (zTok (F := F) c)) := by
  rw [← Finset.range_eq_Ico]
  exact (Transfers.pointsTo_toks_range fullShare (zN v0 v1 v2 v3)).1

/-- Every copy of zeros waited for: the empty experts' parts of the result are zero, and the block and the cell are back. -/
theorem z_close : iprop(ZWait c v0 v1 v2 v3 G (zN v0 v1 v2 v3) ∗ (ZB.view.loc (c : Thread nD τ) ↦{Transfers.shareDrop fullShare (zN v0 v1 v2 v3)} (zeroB (F := F))))
    ⊢ (|={Set.univ}=> iprop(bigSep (Finset.Ico 0 (zN v0 v1 v2 v3)) (fun j => ptOn c DW (zSet v0 v1 v2 v3 j) G) ∗ pt c ZB (zeroB (F := F))
      ∗ semVal ((c : Thread nD τ), SemLoc.dma cc0_scratch3.sem) 0 ∗ ∃ W, owes (c : Thread nD τ) 0 W) : sProp 𝕄) := by
  unfold ZWait
  iintro ⟨⟨HB, HW⟩, HD⟩
  imod (Transfers.batch_collect' (EC (F := F)) (c : Thread nD τ) (credit_pos (by decide : 0 < 96))) $$ HB with ⟨HL, Hs⟩
  imodintro
  ihave HL := (show bigSep Finset.univ (zLanded c v0 v1 v2 v3 G)
      ⊢ iprop(bigSep (Finset.range (zN v0 v1 v2 v3)) (fun j => ptOn c DW (zSet v0 v1 v2 v3 j) G) ∗ bigSep (Finset.range (zN v0 v1 v2 v3)) (zTok (F := F) c)) from by
    rw [← BI.bigSep_sep', ← Nat.Iio_eq_range, ← Fin.map_valEmbedding_univ, BI.bigSep_map]; exact Entails.of_eq rfl) $$ HL
  icases HL with ⟨H1, H2⟩
  rw [← Finset.range_eq_Ico]
  isplitl [H1]; · iexact H1
  isplitl [HD H2]
  · iapply (Transfers.pointsTo_toks_range fullShare (zN v0 v1 v2 v3)).2
    isplitl [HD] <;> iassumption
  isplitl [Hs]; · iexact Hs
  iexact HW

/-- The copies of zeros before the first. -/
theorem z_start : iprop(bigSep (Finset.Ico 0 (zN v0 v1 v2 v3)) (fun j => iprop(∃ V, ptOn (F := F) c DW (zSet v0 v1 v2 v3 j) V)) ∗ pt c ZB (zeroB (F := F))
      ∗ semVal ((c : Thread nD τ), SemLoc.dma cc0_scratch3.sem) 0)
    ⊢ (|={Set.univ}=> iprop(ZIss c v0 v1 v2 v3 G 0 ∗ (ZB.view.loc (c : Thread nD τ) ↦{Transfers.shareDrop fullShare (zN v0 v1 v2 v3)} (zeroB (F := F)))) : sProp 𝕄) := by
  iintro ⟨HT, HZ, Hs⟩
  imod (Transfers.batch_alloc' (Lvl := ℕ) (EC (F := F)) (c : Thread nD τ) () (credit 96) (zLanded c v0 v1 v2 v3 G) (sm := SemLoc.dma cc0_scratch3.sem) (E := Set.univ)) $$ Hs with HB
  imodintro
  ihave HZ := (zb_split c v0 v1 v2 v3) $$ HZ
  icases HZ with ⟨HD, HZ⟩
  isplitl [HB HT HZ]
  · unfold ZIss
    isplitl [HB]; · iexact HB
    unfold zTodo
    rw [BI.bigSep_sep']
    isplitl [HT] <;> iassumption
  iexact HD

/-- With every copy of zeros issued. -/
theorem z_issued : iprop(ZIss c v0 v1 v2 v3 G (zN v0 v1 v2 v3) ∗ ∃ W, owes (c : Thread nD τ) 0 W) ⊢ ZWait c v0 v1 v2 v3 G 0 := by
  unfold ZIss ZWait
  rw [Nat.mul_zero]
  iintro ⟨⟨HB, -⟩, HW⟩
  isplitl [HB] <;> iassumption

end Cert.Proof.Kernel

end
-- ==== Proof.Kernel.Head.lean ====
/- The first part of the body: the sizes read, the block of zeros filled, the copies of zeros issued for the empty experts, and the order of the nonempty experts written. -/
module

public import proofs.«01_k».proof.Proof.Kernel.Cover
public import proofs.«01_k».proof.Proof.Kernel.Trip

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-- The block of zeros, as its store leaves it. -/
theorem zb_store (f : Vec F S96x5760 .f32) (inb : ∀ a, (![0, 0] : Fin 2 → ℕ) a + S96x5760.size a ≤ S96x5760.size a) :
    (ZB.access (Rect.unit (s := S96x5760) ![0, 0] S96x5760.size inb)).write (Elt F) f (k0_pay87 (F := F)) Finset.univ = zeroB (F := F) := by
  funext y
  refine write_cases (ZB.access (Rect.unit (s := S96x5760) ![0, 0] S96x5760.size inb)) f (zeroB (F := F)) (k0_pay87 (F := F))
    (fun x => (cast_eq _ _).trans (zero_block x)) y fun hm => absurd ?_ hm
  rw [show (ZB.access (Rect.unit (s := S96x5760) ![0, 0] S96x5760.size inb)).set = _ from View.set_slice_whole _ _]
  refine Rect.mem_set_unit.mpr fun a => ?_
  have ha := (y a).isLt
  fin_cases a
  · exact ⟨Nat.zero_le _, by show (y 0).val < 0 + 96; have : (y 0).val < 96 := ha; omega⟩
  · exact ⟨Nat.zero_le _, by show (y 1).val < 0 + 5760; have : (y 1).val < 5760 := ha; omega⟩

/-- What the parts before the order of the experts leave. -/
def Mid1 (c : Dev nD) (v0 v1 v2 v3 : BitVec 32) (h : Fit v0 v1 v2 v3) (X0 : Vec F S4 .i32) (G : Vec F S4x2880x5760 .f32) (r : (Σ' (v0 : Elt F .i32) (k0_hw1 : k0_chk1 v0) (v1 : Elt F .i32) (k0_hw2 : k0_chk2 v0 v1) (v2 : Elt F .i32) (k0_hw3 : k0_chk3 v0 v1 v2) (v3 : Elt F .i32) (k0_hw4 : k0_chk4 v0 v1 v2 v3) (v5 : BitVec 32) (v7 : BitVec 32) (v9 : BitVec 32) (v11 : BitVec 32) (v12 : BitVec 32) (v13 : BitVec 32) (v14 : BitVec 32), BitVec 1)) : sProp 𝕄 :=
  iprop(⌜r = ⟨v0, chk1 h, v1, chk2 h, v2, chk3 h, v3, chk4 h, (Scalar.shrui (Scalar.addi v0 15#32) 4#32), (Scalar.shrui (Scalar.addi v1 15#32) 4#32), (Scalar.shrui (Scalar.addi v2 15#32) 4#32), (Scalar.shrui (Scalar.addi v3 15#32) 4#32), (Scalar.addi 0#32 (Scalar.shrui (Scalar.addi v0 15#32) 4#32)), (Scalar.addi (Scalar.addi 0#32 (Scalar.shrui (Scalar.addi v0 15#32) 4#32)) (Scalar.shrui (Scalar.addi v1 15#32) 4#32)), (Scalar.addi (Scalar.addi (Scalar.addi 0#32 (Scalar.shrui (Scalar.addi v0 15#32) 4#32)) (Scalar.shrui (Scalar.addi v1 15#32) 4#32)) (Scalar.shrui (Scalar.addi v2 15#32) 4#32)), (Scalar.cmpi .eq (Scalar.shrui (Scalar.addi v3 15#32) 4#32) 0#32)⟩⌝ ∗ pt c A0 X0
    ∗ ZIss c v0 v1 v2 v3 G (zpos v0 v1 v2 v3 3) ∗ (ZB.view.loc (c : Thread nD τ) ↦{Transfers.shareDrop fullShare (zN v0 v1 v2 v3)} (zeroB (F := F))))

set_option maxHeartbeats 4000000 in
theorem head1 (c : Dev nD) {v0 v1 v2 v3 : BitVec 32} (h : Fit v0 v1 v2 v3) (X0 : Vec F S4 .i32) (h0 : X0 (ix4 0) = v0) (h1 : X0 (ix4 1) = v1) (h2 : X0 (ix4 2) = v2) (h3 : X0 (ix4 3) = v3)
    (G : Vec F S4x2880x5760 .f32) (hG : ∀ y : S4x2880x5760.Idx, nb v0 v1 v2 v3 (y 0) = 0 → G y = zeroV) :
    iprop(pt c A0 X0 ∗ (∃ Z, pt (F := F) c ZB Z) ∗ bigSep (Finset.Ico 0 (zN v0 v1 v2 v3)) (fun j => iprop(∃ V, ptOn (F := F) c DW (zSet v0 v1 v2 v3 j) V))
        ∗ semVal ((c : Thread nD τ), SemLoc.dma cc0_scratch3.sem) 0)
      ⊢ wp frame (wpE (defs₀ (F := F)) Variants.none (c : Thread nD τ) none) Set.univ (k0_part21 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _)) (Mid1 c v0 v1 v2 v3 h X0 G) := by
  have hs := h.sum
  have le0 : v0.toNat ≤ 768 := by omega
  have le1 : v1.toNat ≤ 768 := by omega
  have le2 : v2.toNat ≤ 768 := by omega
  have le3 : v3.toNat ≤ 768 := by omega
  rw [k0_part21_eq_skeleton]
  unfold k0_part21_skel Mid1
  simp only [bind_def', pure_def', Prog.lift, op_bind', ret_bind', bind_bind']
  iintro ⟨HA, ⟨%Z, HZ⟩, HT, Hs⟩
  iapply (wp_word_A0 c (e := 0) X0 v0 rfl h0) $$ [HA HZ HT Hs]
  isplitl [HA]; · iexact HA
  iintro HA
  iapply (wp_assume Variants.none (c : Thread nD τ) none Set.univ (chk1 h))
  iapply (wp_word_A0 c (e := 1) X0 v1 rfl h1) $$ [HA HZ HT Hs]
  isplitl [HA]; · iexact HA
  iintro HA
  iapply (wp_assume Variants.none (c : Thread nD τ) none Set.univ (chk2 h))
  iapply (wp_word_A0 c (e := 2) X0 v2 rfl h2) $$ [HA HZ HT Hs]
  isplitl [HA]; · iexact HA
  iintro HA
  iapply (wp_assume Variants.none (c : Thread nD τ) none Set.univ (chk3 h))
  iapply (wp_word_A0 c (e := 3) X0 v3 rfl h3) $$ [HA HZ HT Hs]
  isplitl [HA]; · iexact HA
  iintro HA
  iapply (wp_assume Variants.none (c : Thread nD τ) none Set.univ (chk4 h))
  iapply (wp_load Variants.none (c : Thread nD τ) none Set.univ (Finset.subset_univ _)) $$ [HZ]; · iexact HZ
  iintro HZ
  iapply (wp_store Variants.none (c : Thread nD τ) none Set.univ (Finset.subset_univ _)) $$ [HZ]; · iexact HZ
  iintro HZ
  ihave HZ := (Entails.of_eq (congrArg (fun g => pt c ZB g) (zb_store Z _))) $$ HZ
  imod (z_start c v0 v1 v2 v3 G) $$ [HT HZ Hs] with ⟨HI, HD⟩
  · isplitl [HT]; · iexact HT
    isplitl [HZ] <;> iassumption
  ihave HI := (Entails.of_eq (congrArg (ZIss c v0 v1 v2 v3 G) (zpos_0 v0 v1 v2 v3).symm)) $$ HI
  iapply (wp_ifEmpty c v0 v1 v2 v3 0 (empty_iff (v := v0) le0) (ZIss c v0 v1 v2 v3 G) (zeros0 c v0 v1 v2 v3 G hG)) $$ [HA HI HD]
  isplitl [HI]; · iexact HI
  iintro HI
  ihave HI := (Entails.of_eq (congrArg (ZIss c v0 v1 v2 v3 G) (znext_0 v0 v1 v2 v3))) $$ HI
  iapply (wp_ifEmpty c v0 v1 v2 v3 1 (empty_iff (v := v1) le1) (ZIss c v0 v1 v2 v3 G) (zeros1 c v0 v1 v2 v3 G hG)) $$ [HA HI HD]
  isplitl [HI]; · iexact HI
  iintro HI
  ihave HI := (Entails.of_eq (congrArg (ZIss c v0 v1 v2 v3 G) (znext_1 v0 v1 v2 v3))) $$ HI
  iapply (wp_ifEmpty c v0 v1 v2 v3 2 (empty_iff (v := v2) le2) (ZIss c v0 v1 v2 v3 G) (zeros2 c v0 v1 v2 v3 G hG)) $$ [HA HI HD]
  isplitl [HI]; · iexact HI
  iintro HI
  ihave HI := (Entails.of_eq (congrArg (ZIss c v0 v1 v2 v3 G) (znext_2 v0 v1 v2 v3))) $$ HI
  sl_step
  isplitr; · ipureintro; rfl
  isplitl [HA]; · iexact HA
  isplitl [HI] <;> iassumption

/-- The order of the experts: four stores, the later over the earlier. -/
def orderV (v0 v1 v2 v3 : BitVec 32) (O : Vec F S4 .i32) : Vec F S4 .i32 := fun y =>
  if (y 0).val = rank v0 v1 v2 v3 3 then 3#32 else if (y 0).val = rank v0 v1 v2 v3 2 then 2#32 else if (y 0).val = rank v0 v1 v2 v3 1 then 1#32
    else if (y 0).val = 0 then 0#32 else O y

theorem orderV_ordered (v0 v1 v2 v3 : BitVec 32) (O : Vec F S4 .i32) : Ordered v0 v1 v2 v3 (orderV v0 v1 v2 v3 O) := by
  intro r i hr hi
  obtain ⟨hn, hk⟩ := exOf_spec v0 v1 v2 v3 hr
  generalize exOf v0 v1 v2 v3 r = e at hn hk
  have h0 := rank_0 (v0 := v0) (v1 := v1) (v2 := v2) (v3 := v3)
  have h1 := rank_1 (v0 := v0) (v1 := v1) (v2 := v2) (v3 := v3)
  have h2 := rank_2 (v0 := v0) (v1 := v1) (v2 := v2) (v3 := v3)
  have h3 := rank_3 (v0 := v0) (v1 := v1) (v2 := v2) (v3 := v3)
  have hy : ((ix4 i) 0).val = r := hi
  unfold orderV
  rw [hy]
  fin_cases e <;> simp only [Fin.zero_eta, Fin.mk_one, Fin.reduceFinMk] at hn hk ⊢
  · rw [if_neg (by split_ifs at h1 h2 h3 <;> omega), if_neg (by split_ifs at h1 h2 h3 <;> omega), if_neg (by split_ifs at h1 h2 h3 <;> omega), if_pos (by omega)]
  · rw [if_neg (by split_ifs at h1 h2 h3 <;> omega), if_neg (by split_ifs at h1 h2 h3 <;> omega), if_pos (by omega)]
  · rw [if_neg (by split_ifs at h1 h2 h3 <;> omega), if_pos (by omega)]
  · rw [if_pos (by omega)]

/-- What the first parts leave. -/
def Mid2 (c : Dev nD) (v0 v1 v2 v3 : BitVec 32) (G : Vec F S4x2880x5760 .f32) (r : (Σ' (v49 : BitVec 32) (c1_i32_43_r0 : BitVec 32) (c0_i32_44_r0 : BitVec 32) (c0_i32_45_r0 : BitVec 32), BitVec 32)) : sProp 𝕄 :=
  iprop(⌜∃ a b, r = ⟨a, 1#32, 0#32, 0#32, b⟩⌝ ∗ ZIss c v0 v1 v2 v3 G (zN v0 v1 v2 v3) ∗ ∃ O, ⌜Ordered v0 v1 v2 v3 O⌝ ∗ pt (F := F) c ORD O)

set_option maxHeartbeats 4000000 in
theorem head2 (c : Dev nD) {v0 v1 v2 v3 : BitVec 32} (h : Fit v0 v1 v2 v3)
    (G : Vec F S4x2880x5760 .f32) (hG : ∀ y : S4x2880x5760.Idx, nb v0 v1 v2 v3 (y 0) = 0 → G y = zeroV) :
    iprop(ZIss c v0 v1 v2 v3 G (zpos v0 v1 v2 v3 3) ∗ ∃ O, pt (F := F) c ORD O)
      ⊢ wp frame (wpE (defs₀ (F := F)) Variants.none (c : Thread nD τ) none) Set.univ (k0_part22 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 (chk1 h) v1 (chk2 h) v2 (chk3 h) (Scalar.shrui (Scalar.addi v0 15#32) 4#32) (Scalar.shrui (Scalar.addi v1 15#32) 4#32) (Scalar.shrui (Scalar.addi v2 15#32) 4#32) (Scalar.shrui (Scalar.addi v3 15#32) 4#32) (Scalar.cmpi .eq (Scalar.shrui (Scalar.addi v3 15#32) 4#32) 0#32)) (Mid2 c v0 v1 v2 v3 G) := by
  have hs := h.sum
  have le0 : v0.toNat ≤ 768 := by omega
  have le1 : v1.toNat ≤ 768 := by omega
  have le2 : v2.toNat ≤ 768 := by omega
  have le3 : v3.toNat ≤ 768 := by omega
  have hr0 : (![0] : Fin 1 → ℕ) = ![(0 : Fin 4).val] := rfl
  rw [k0_part22_eq_skeleton]
  unfold k0_part22_skel Mid2
  simp only [bind_def', pure_def', Prog.lift, op_bind', ret_bind', bind_bind']
  iintro ⟨HI, ⟨%O, HO⟩⟩
  iapply (wp_ifEmpty c v0 v1 v2 v3 3 (empty_iff (v := v3) le3) (ZIss c v0 v1 v2 v3 G) (zeros3 c v0 v1 v2 v3 v0 (chk1 h) v1 (chk2 h) v2 (chk3 h) _ _ _ _ _ G hG)) $$ [HI HO]
  isplitl [HI]; · iexact HI
  iintro HI
  ihave HI := (Entails.of_eq (congrArg (ZIss c v0 v1 v2 v3 G) (znext_3 v0 v1 v2 v3))) $$ HI
  iapply (wp_word_ORD c (e := 0) _ _ hr0 rfl) $$ [HO HI]
  isplitl [HO]; · iexact HO
  iintro HO
  iapply (wp_store Variants.none (c : Thread nD τ) none Set.univ (Finset.subset_univ _)) $$ [HO]; · iexact HO
  iintro HO
  ihave HO := (Entails.of_eq (congrArg (fun g => pt c ORD g) (write_ORD (e := 0) _ hr0 _ 0#32))) $$ HO
  iapply (wp_word_ORD c (e := ⟨_, rank_lt (v0 := v0) (v1 := v1) (v2 := v2) (v3 := v3) 1⟩) _ _ (off5_eq h) rfl) $$ [HO HI]
  isplitl [HO]; · iexact HO
  iintro HO
  iapply (wp_store Variants.none (c : Thread nD τ) none Set.univ (Finset.subset_univ _)) $$ [HO]; · iexact HO
  iintro HO
  ihave HO := (Entails.of_eq (congrArg (fun g => pt c ORD g) (write_ORD (e := ⟨_, rank_lt (v0 := v0) (v1 := v1) (v2 := v2) (v3 := v3) 1⟩) _ (off5_eq h) _ 1#32))) $$ HO
  iapply (wp_word_ORD c (e := ⟨_, rank_lt (v0 := v0) (v1 := v1) (v2 := v2) (v3 := v3) 2⟩) _ _ (off6_eq h) rfl) $$ [HO HI]
  isplitl [HO]; · iexact HO
  iintro HO
  iapply (wp_store Variants.none (c : Thread nD τ) none Set.univ (Finset.subset_univ _)) $$ [HO]; · iexact HO
  iintro HO
  ihave HO := (Entails.of_eq (congrArg (fun g => pt c ORD g) (write_ORD (e := ⟨_, rank_lt (v0 := v0) (v1 := v1) (v2 := v2) (v3 := v3) 2⟩) _ (off6_eq h) _ 2#32))) $$ HO
  iapply (wp_word_ORD c (e := ⟨_, rank_lt (v0 := v0) (v1 := v1) (v2 := v2) (v3 := v3) 3⟩) _ _ (off7_eq h) rfl) $$ [HO HI]
  isplitl [HO]; · iexact HO
  iintro HO
  iapply (wp_store Variants.none (c : Thread nD τ) none Set.univ (Finset.subset_univ _)) $$ [HO]; · iexact HO
  iintro HO
  ihave HO := (Entails.of_eq (congrArg (fun g => pt c ORD g) (write_ORD (e := ⟨_, rank_lt (v0 := v0) (v1 := v1) (v2 := v2) (v3 := v3) 3⟩) _ (off7_eq h) _ 3#32))) $$ HO
  sl_step
  isplitr; · ipureintro; exact ⟨_, _, rfl⟩
  isplitl [HI]; · iexact HI
  iexists _
  isplitr; swap; · iexact HO
  ipureintro; exact orderV_ordered v0 v1 v2 v3 O

end Cert.Proof.Kernel

end
-- ==== Proof.Kernel.Turn1.lean ====
/- A slab before what follows it, and the end of a turn: the copy of the slab is issued. -/
module

public import proofs.«01_k».proof.Proof.Kernel.Trip

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-! ## A slab before what follows it -/

/-- A slab of 256 rows deep, before what follows it. -/
theorem slab256K (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h8 : k0_cond8 v0 v1 v2 v3 v88_r0 = 1#1)
    (X3 : Vec F S1088x3072 .bf16) (X4 : Vec F S1088x5760 .bf16) (L : Vec F S256x768 .bf16) (f : Vec F S5x256x5760 .f32)
    (K : Prog (TpuEff nD τ sig (Elt F) Λ₀ .tc) PUnit.{1}) (Q : PUnit.{1} → sProp 𝕄) :
    iprop((pt c A3 X3 ∗ pt c A4 X4 ∗ pt c LT L ∗ ptOn c RING (slotSet (slotW k0_t5).toNat) f)
        ∗ (∀ r : PUnit.{1}, iprop(pt c A3 X3 ∗ pt c A4 X4 ∗ (∃ L', pt c LT L') ∗ ptOn c RING (slotSet (slotW k0_t5).toNat)
            (slabVal (fun j => k0_pay20 v118_r0 (k0_pay19 v112_r0 (lhsBlk X3 256 (k0W v0 v1 v2 v88_r0).toNat (slabW k0_t5).toNat)) (rhsBlk X4 256 512 (k0W v0 v1 v2 v88_r0).toNat (512 * j)))
              (k0_pay3 v118_r0 (k0_pay19 v112_r0 (lhsBlk X3 256 (k0W v0 v1 v2 v88_r0).toNat (slabW k0_t5).toNat)) (rhsBlk X4 256 128 (k0W v0 v1 v2 v88_r0).toNat 5632))))
          -∗ wp frame (wpE (defs₀ (F := F)) Variants.none (c : Thread nD τ) none) Set.univ K Q))
      ⊢ wp frame (wpE (defs₀ (F := F)) Variants.none (c : Thread nD τ) none) Set.univ
          (do
      let ⟨v177_r0, v179_r0⟩ : Σ' (v177_r0 : Vec F S256x256 .bf16), Vec F S256x512 .bf16 ← k0_part1 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h8
      let v212_r0 : FVec F S256x512 .f32 ← k0_part2 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h8 v177_r0 v179_r0
      let ⟨v247_r0, v249_r0, cst_138_r0⟩ : Σ' (v247_r0 : Vec F S256x256 .bf16) (v249_r0 : Vec F S256x512 .bf16), FVec F S256x512 .f32 ← k0_part3 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h8 v212_r0
      let v254_r0 : Vec F S1x256x512 .f32 ← Prog.lift (.load RING (Rect.unit (s := S5x256x5760) (k0_off34 v0 v1 v2 v3 k0_t5) S1x256x512.size (k0_off34_inb v0 v1 v2 v3 k0_t5 v88_r0 k0_hw5 k0_h8)).toLoadRect (View.loadsAt_vmem h_S1x256x512))
      Prog.lift (.store RING (Rect.unit (s := S5x256x5760) (k0_off34 v0 v1 v2 v3 k0_t5) S1x256x512.size (k0_off34_inb v0 v1 v2 v3 k0_t5 v88_r0 k0_hw5 k0_h8)) (k0_pay1 v118_r0 v247_r0 v249_r0 cst_138_r0) Finset.univ (View.stores_vmem_bits_univ h_S1x256x512 rfl) (.inl rfl))
      let v257_r0 : Vec F S256x256 .bf16 ← Prog.lift (.load LT (Rect.unit (s := S256x768) ![0, 0] S256x256.size inb_S256x768_S256x256_0_0).toLoadRect (View.loadsAt_vmem h_S256x256))
      let v259_r0 : Vec F S256x512 .bf16 ← Prog.lift (.load A4 (Rect.unit (s := S1088x5760) (k0_off35 v0 v1 v2 v88_r0) S256x512.size (k0_off35_inb v0 v1 v2 v3 k0_t5 v88_r0 k0_hw5 k0_h8)).toLoadRect (View.loadsAt_vmem h_S256x512))
      let v264_r0 : Vec F S1x256x512 .f32 ← Prog.lift (.load RING (Rect.unit (s := S5x256x5760) (k0_off36 v0 v1 v2 v3 k0_t5) S1x256x512.size (k0_off36_inb v0 v1 v2 v3 k0_t5 v88_r0 k0_hw5 k0_h8)).toLoadRect (View.loadsAt_vmem h_S1x256x512))
      Prog.lift (.store RING (Rect.unit (s := S5x256x5760) (k0_off36 v0 v1 v2 v3 k0_t5) S1x256x512.size (k0_off36_inb v0 v1 v2 v3 k0_t5 v88_r0 k0_hw5 k0_h8)) (k0_pay2 v118_r0 v257_r0 v259_r0) Finset.univ (View.stores_vmem_bits_univ h_S1x256x512 rfl) (.inl rfl))
      let v267_r0 : Vec F S256x256 .bf16 ← Prog.lift (.load LT (Rect.unit (s := S256x768) ![0, 0] S256x256.size inb_S256x768_S256x256_0_0).toLoadRect (View.loadsAt_vmem h_S256x256))
      let v269_r0 : Vec F S256x128 .bf16 ← Prog.lift (.load A4 (Rect.unit (s := S1088x5760) (k0_off37 v0 v1 v2 v88_r0) S256x128.size (k0_off37_inb v0 v1 v2 v3 k0_t5 v88_r0 k0_hw5 k0_h8)).toLoadRect (View.loadsAt_vmem h_S256x128))
      let v274_r0 : Vec F S1x256x128 .f32 ← Prog.lift (.load RING (Rect.unit (s := S5x256x5760) (k0_off38 v0 v1 v2 v3 k0_t5) S1x256x128.size (k0_off38_inb v0 v1 v2 v3 k0_t5 v88_r0 k0_hw5 k0_h8)).toLoadRect (View.loadsAt_vmem h_S1x256x128))
      Prog.lift (.store RING (Rect.unit (s := S5x256x5760) (k0_off38 v0 v1 v2 v3 k0_t5) S1x256x128.size (k0_off38_inb v0 v1 v2 v3 k0_t5 v88_r0 k0_hw5 k0_h8)) (k0_pay3 v118_r0 v267_r0 v269_r0) Finset.univ (View.stores_vmem_bits_univ h_S1x256x128 rfl) (.inl rfl))
      K : Prog (TpuEff nD τ sig (Elt F) Λ₀ .tc) PUnit.{1}) Q :=
  .trans (wp_seq Variants.none (c : Thread nD τ) none Set.univ (k := fun _ => K)
      (slab256 c v0 v1 v2 v3 k0_t5 v88_r0 k0_hw5 v90_r0 v112_r0 v113_r0 v120_r0 v118_r0 k0_h8 X3 X4 L f))
    (Entails.of_eq (by simp only [bind_def', pure_def', Prog.lift, op_bind', ret_bind', bind_bind']))

/-- A slab of 512 rows deep, before what follows it. -/
theorem slab512K (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h9 : k0_cond9 v0 v1 v2 v3 v88_r0 = 1#1)
    (X3 : Vec F S1088x3072 .bf16) (X4 : Vec F S1088x5760 .bf16) (L : Vec F S256x768 .bf16) (f : Vec F S5x256x5760 .f32)
    (K : Prog (TpuEff nD τ sig (Elt F) Λ₀ .tc) PUnit.{1}) (Q : PUnit.{1} → sProp 𝕄) :
    iprop((pt c A3 X3 ∗ pt c A4 X4 ∗ pt c LT L ∗ ptOn c RING (slotSet (slotW k0_t5).toNat) f)
        ∗ (∀ r : PUnit.{1}, iprop(pt c A3 X3 ∗ pt c A4 X4 ∗ (∃ L', pt c LT L') ∗ ptOn c RING (slotSet (slotW k0_t5).toNat)
            (slabVal (fun j => k0_pay31 v118_r0 (k0_pay30 v112_r0 (lhsBlk X3 512 (k0W v0 v1 v2 v88_r0).toNat (slabW k0_t5).toNat)) (rhsBlk X4 512 512 (k0W v0 v1 v2 v88_r0).toNat (512 * j)))
              (k0_pay6 v118_r0 (k0_pay30 v112_r0 (lhsBlk X3 512 (k0W v0 v1 v2 v88_r0).toNat (slabW k0_t5).toNat)) (rhsBlk X4 512 128 (k0W v0 v1 v2 v88_r0).toNat 5632))))
          -∗ wp frame (wpE (defs₀ (F := F)) Variants.none (c : Thread nD τ) none) Set.univ K Q))
      ⊢ wp frame (wpE (defs₀ (F := F)) Variants.none (c : Thread nD τ) none) Set.univ
          (do
      let ⟨v177_r0, v179_r0⟩ : Σ' (v177_r0 : Vec F S256x512 .bf16), Vec F S512x512 .bf16 ← k0_part4 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h9
      let v212_r0 : FVec F S256x512 .f32 ← k0_part5 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h9 v177_r0 v179_r0
      let ⟨v247_r0, v249_r0, cst_138_r0⟩ : Σ' (v247_r0 : Vec F S256x512 .bf16) (v249_r0 : Vec F S512x512 .bf16), FVec F S256x512 .f32 ← k0_part6 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h9 v212_r0
      let v254_r0 : Vec F S1x256x512 .f32 ← Prog.lift (.load RING (Rect.unit (s := S5x256x5760) (k0_off59 v0 v1 v2 v3 k0_t5) S1x256x512.size (k0_off59_inb v0 v1 v2 v3 k0_t5 v88_r0 k0_hw5 k0_h9)).toLoadRect (View.loadsAt_vmem h_S1x256x512))
      Prog.lift (.store RING (Rect.unit (s := S5x256x5760) (k0_off59 v0 v1 v2 v3 k0_t5) S1x256x512.size (k0_off59_inb v0 v1 v2 v3 k0_t5 v88_r0 k0_hw5 k0_h9)) (k0_pay4 v118_r0 v247_r0 v249_r0 cst_138_r0) Finset.univ (View.stores_vmem_bits_univ h_S1x256x512 rfl) (.inl rfl))
      let v257_r0 : Vec F S256x512 .bf16 ← Prog.lift (.load LT (Rect.unit (s := S256x768) ![0, 0] S256x512.size inb_S256x768_S256x512_0_0).toLoadRect (View.loadsAt_vmem h_S256x512))
      let v259_r0 : Vec F S512x512 .bf16 ← Prog.lift (.load A4 (Rect.unit (s := S1088x5760) (k0_off60 v0 v1 v2 v88_r0) S512x512.size (k0_off60_inb v0 v1 v2 v3 k0_t5 v88_r0 k0_hw5 k0_h9)).toLoadRect (View.loadsAt_vmem h_S512x512))
      let v264_r0 : Vec F S1x256x512 .f32 ← Prog.lift (.load RING (Rect.unit (s := S5x256x5760) (k0_off61 v0 v1 v2 v3 k0_t5) S1x256x512.size (k0_off61_inb v0 v1 v2 v3 k0_t5 v88_r0 k0_hw5 k0_h9)).toLoadRect (View.loadsAt_vmem h_S1x256x512))
      Prog.lift (.store RING (Rect.unit (s := S5x256x5760) (k0_off61 v0 v1 v2 v3 k0_t5) S1x256x512.size (k0_off61_inb v0 v1 v2 v3 k0_t5 v88_r0 k0_hw5 k0_h9)) (k0_pay5 v118_r0 v257_r0 v259_r0) Finset.univ (View.stores_vmem_bits_univ h_S1x256x512 rfl) (.inl rfl))
      let v267_r0 : Vec F S256x512 .bf16 ← Prog.lift (.load LT (Rect.unit (s := S256x768) ![0, 0] S256x512.size inb_S256x768_S256x512_0_0).toLoadRect (View.loadsAt_vmem h_S256x512))
      let v269_r0 : Vec F S512x128 .bf16 ← Prog.lift (.load A4 (Rect.unit (s := S1088x5760) (k0_off62 v0 v1 v2 v88_r0) S512x128.size (k0_off62_inb v0 v1 v2 v3 k0_t5 v88_r0 k0_hw5 k0_h9)).toLoadRect (View.loadsAt_vmem h_S512x128))
      let v274_r0 : Vec F S1x256x128 .f32 ← Prog.lift (.load RING (Rect.unit (s := S5x256x5760) (k0_off63 v0 v1 v2 v3 k0_t5) S1x256x128.size (k0_off63_inb v0 v1 v2 v3 k0_t5 v88_r0 k0_hw5 k0_h9)).toLoadRect (View.loadsAt_vmem h_S1x256x128))
      Prog.lift (.store RING (Rect.unit (s := S5x256x5760) (k0_off63 v0 v1 v2 v3 k0_t5) S1x256x128.size (k0_off63_inb v0 v1 v2 v3 k0_t5 v88_r0 k0_hw5 k0_h9)) (k0_pay6 v118_r0 v267_r0 v269_r0) Finset.univ (View.stores_vmem_bits_univ h_S1x256x128 rfl) (.inl rfl))
      K : Prog (TpuEff nD τ sig (Elt F) Λ₀ .tc) PUnit.{1}) Q :=
  .trans (wp_seq Variants.none (c : Thread nD τ) none Set.univ (k := fun _ => K)
      (slab512 c v0 v1 v2 v3 k0_t5 v88_r0 k0_hw5 v90_r0 v112_r0 v113_r0 v120_r0 v118_r0 k0_h9 X3 X4 L f))
    (Entails.of_eq (by simp only [bind_def', pure_def', Prog.lift, op_bind', ret_bind', bind_bind']))

/-- A slab of 768 rows deep, before what follows it. -/
theorem slab768K (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h10 : k0_cond10 v0 v1 v2 v3 v88_r0 = 1#1)
    (X3 : Vec F S1088x3072 .bf16) (X4 : Vec F S1088x5760 .bf16) (L : Vec F S256x768 .bf16) (f : Vec F S5x256x5760 .f32)
    (K : Prog (TpuEff nD τ sig (Elt F) Λ₀ .tc) PUnit.{1}) (Q : PUnit.{1} → sProp 𝕄) :
    iprop((pt c A3 X3 ∗ pt c A4 X4 ∗ pt c LT L ∗ ptOn c RING (slotSet (slotW k0_t5).toNat) f)
        ∗ (∀ r : PUnit.{1}, iprop(pt c A3 X3 ∗ pt c A4 X4 ∗ (∃ L', pt c LT L') ∗ ptOn c RING (slotSet (slotW k0_t5).toNat)
            (slabVal (fun j => k0_pay42 v118_r0 (k0_pay41 v112_r0 (lhsBlk X3 768 (k0W v0 v1 v2 v88_r0).toNat (slabW k0_t5).toNat)) (rhsBlk X4 768 512 (k0W v0 v1 v2 v88_r0).toNat (512 * j)))
              (k0_pay9 v118_r0 (k0_pay41 v112_r0 (lhsBlk X3 768 (k0W v0 v1 v2 v88_r0).toNat (slabW k0_t5).toNat)) (rhsBlk X4 768 128 (k0W v0 v1 v2 v88_r0).toNat 5632))))
          -∗ wp frame (wpE (defs₀ (F := F)) Variants.none (c : Thread nD τ) none) Set.univ K Q))
      ⊢ wp frame (wpE (defs₀ (F := F)) Variants.none (c : Thread nD τ) none) Set.univ
          (do
      let ⟨v177_r0, v179_r0⟩ : Σ' (v177_r0 : Vec F S256x768 .bf16), Vec F S768x512 .bf16 ← k0_part7 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h10
      let v212_r0 : FVec F S256x512 .f32 ← k0_part8 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h10 v177_r0 v179_r0
      let ⟨v247_r0, v249_r0, cst_138_r0⟩ : Σ' (v247_r0 : Vec F S256x768 .bf16) (v249_r0 : Vec F S768x512 .bf16), FVec F S256x512 .f32 ← k0_part9 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h10 v212_r0
      let v254_r0 : Vec F S1x256x512 .f32 ← Prog.lift (.load RING (Rect.unit (s := S5x256x5760) (k0_off84 v0 v1 v2 v3 k0_t5) S1x256x512.size (k0_off84_inb v0 v1 v2 v3 k0_t5 v88_r0 k0_hw5 k0_h10)).toLoadRect (View.loadsAt_vmem h_S1x256x512))
      Prog.lift (.store RING (Rect.unit (s := S5x256x5760) (k0_off84 v0 v1 v2 v3 k0_t5) S1x256x512.size (k0_off84_inb v0 v1 v2 v3 k0_t5 v88_r0 k0_hw5 k0_h10)) (k0_pay7 v118_r0 v247_r0 v249_r0 cst_138_r0) Finset.univ (View.stores_vmem_bits_univ h_S1x256x512 rfl) (.inl rfl))
      let v257_r0 : Vec F S256x768 .bf16 ← Prog.lift (.load LT (Rect.unit (s := S256x768) ![0, 0] S256x768.size inb_S256x768_S256x768_0_0).toLoadRect (View.loadsAt_vmem h_S256x768))
      let v259_r0 : Vec F S768x512 .bf16 ← Prog.lift (.load A4 (Rect.unit (s := S1088x5760) (k0_off85 v0 v1 v2 v88_r0) S768x512.size (k0_off85_inb v0 v1 v2 v3 k0_t5 v88_r0 k0_hw5 k0_h10)).toLoadRect (View.loadsAt_vmem h_S768x512))
      let v264_r0 : Vec F S1x256x512 .f32 ← Prog.lift (.load RING (Rect.unit (s := S5x256x5760) (k0_off86 v0 v1 v2 v3 k0_t5) S1x256x512.size (k0_off86_inb v0 v1 v2 v3 k0_t5 v88_r0 k0_hw5 k0_h10)).toLoadRect (View.loadsAt_vmem h_S1x256x512))
      Prog.lift (.store RING (Rect.unit (s := S5x256x5760) (k0_off86 v0 v1 v2 v3 k0_t5) S1x256x512.size (k0_off86_inb v0 v1 v2 v3 k0_t5 v88_r0 k0_hw5 k0_h10)) (k0_pay8 v118_r0 v257_r0 v259_r0) Finset.univ (View.stores_vmem_bits_univ h_S1x256x512 rfl) (.inl rfl))
      let v267_r0 : Vec F S256x768 .bf16 ← Prog.lift (.load LT (Rect.unit (s := S256x768) ![0, 0] S256x768.size inb_S256x768_S256x768_0_0).toLoadRect (View.loadsAt_vmem h_S256x768))
      let v269_r0 : Vec F S768x128 .bf16 ← Prog.lift (.load A4 (Rect.unit (s := S1088x5760) (k0_off87 v0 v1 v2 v88_r0) S768x128.size (k0_off87_inb v0 v1 v2 v3 k0_t5 v88_r0 k0_hw5 k0_h10)).toLoadRect (View.loadsAt_vmem h_S768x128))
      let v274_r0 : Vec F S1x256x128 .f32 ← Prog.lift (.load RING (Rect.unit (s := S5x256x5760) (k0_off88 v0 v1 v2 v3 k0_t5) S1x256x128.size (k0_off88_inb v0 v1 v2 v3 k0_t5 v88_r0 k0_hw5 k0_h10)).toLoadRect (View.loadsAt_vmem h_S1x256x128))
      Prog.lift (.store RING (Rect.unit (s := S5x256x5760) (k0_off88 v0 v1 v2 v3 k0_t5) S1x256x128.size (k0_off88_inb v0 v1 v2 v3 k0_t5 v88_r0 k0_hw5 k0_h10)) (k0_pay9 v118_r0 v267_r0 v269_r0) Finset.univ (View.stores_vmem_bits_univ h_S1x256x128 rfl) (.inl rfl))
      K : Prog (TpuEff nD τ sig (Elt F) Λ₀ .tc) PUnit.{1}) Q :=
  .trans (wp_seq Variants.none (c : Thread nD τ) none Set.univ (k := fun _ => K)
      (slab768 c v0 v1 v2 v3 k0_t5 v88_r0 k0_hw5 v90_r0 v112_r0 v113_r0 v120_r0 v118_r0 k0_h10 X3 X4 L f))
    (Entails.of_eq (by simp only [bind_def', pure_def', Prog.lift, op_bind', ret_bind', bind_bind']))

/-! ## The end of a turn -/

set_option maxHeartbeats 4000000 in
/-- The copy of the slab is issued: of 256 rows, or of 64 for the last slab of an expert. -/
theorem tail (c : Dev nD) {v0 v1 v2 v3 : BitVec 32} (h : Fit v0 v1 v2 v3) (k0_hw4 : k0_chk4 v0 v1 v2 v3) (k0_t5 : Fin (k0_t5_loop v0 v1 v2 v3).trips)
    (v88_r0 : BitVec 32) (e : Fin 4) (hE : v88_r0 = BitVec.ofNat 32 e.val) (k0_hw5 : k0_chk5 v0 v1 v2 v3 k0_t5 v88_r0) (val : Vec F S5x256x5760 .f32) (V G : Vec F S4x2880x5760 .f32)
    (hG : ∀ (x : S5x256x5760.Idx) (y : S4x2880x5760.Idx), (y 0).val = e.val → (y 1).val = 256 * (k0_t5.val % 12) + (x 1).val → (y 2).val = (x 2).val → val x = G y)
    (Q : PUnit.{1} → sProp 𝕄) :
    iprop(ptOn c DW (rowsSet e (256 * (k0_t5.val % 12)) (rowsOf (k0_t5.val % 12))) V ∗ ptOn c RING (slotSet (slotOf k0_t5.val).val) val
        ∗ semVal ((c : Thread nD τ), SemLoc.dma (cell (slotOf k0_t5.val))) 0
        ∗ (Flight c G (slotOf k0_t5.val) e (k0_t5.val % 12) (rowsOf (k0_t5.val % 12)) -∗ Q ⟨⟩))
      ⊢ wp frame (wpE (defs₀ (F := F)) Variants.none (c : Thread nD τ) none) Set.univ
          (do
          if k0_h11 : k0_cond11 v0 v1 v2 v3 k0_t5 = 1#1 then do
            let v143_r0 : DmaSems sig S1 := cc0_scratch4.slice (Rect.unit (s := S5) (k0_off89 v0 v1 v2 v3 k0_t5) S1.size (k0_off89_inb v0 v1 v2 v3 k0_hw4 k0_t5 k0_h11))
            let v144_r0 : DmaSems sig S_ := v143_r0.squeeze S_ squeezes_S1_S_
            let v145_r0 : Memref sig .tc .hbm S1x256x5760 .f32 := DW.slice (Rect.unit (s := S4x2880x5760) (k0_off90 v0 v1 v2 v3 k0_t5 v88_r0) S1x256x5760.size (k0_off90_inb v0 v1 v2 v3 k0_t5 v88_r0 k0_hw5 k0_h11)) (fun _ => rfl)
            let v146_r0 : Memref sig .tc .hbm S256x5760 .f32 := v145_r0.squeeze S256x5760 squeezes_S1x256x5760_S256x5760
            let v147_r0 : Memref sig .tc .vmem S1x256x5760 .f32 := RING.slice (Rect.unit (s := S5x256x5760) (k0_off91 v0 v1 v2 v3 k0_t5) S1x256x5760.size (k0_off91_inb v0 v1 v2 v3 k0_hw4 k0_t5 k0_h11)) (fun _ => rfl)
            let v148_r0 : Memref sig .tc .vmem S256x5760 .f32 := v147_r0.squeeze S256x5760 squeezes_S1x256x5760_S256x5760
            Prog.lift (.enqueueDma v148_r0 (.here v146_r0) (.dma v144_r0.sem) ((View.wordExact_bits rfl).reshape _ _) ((View.wordExact_bits rfl).reshape _ _) ⟨Or.inl rfl, trivial⟩)
            pure ⟨⟩
          else do
            pure ⟨⟩
          if k0_h12 : k0_cond12 v0 v1 v2 v3 k0_t5 = 1#1 then do
            let v143_r0 : DmaSems sig S1 := cc0_scratch4.slice (Rect.unit (s := S5) (k0_off92 v0 v1 v2 v3 k0_t5) S1.size (k0_off92_inb v0 v1 v2 v3 k0_hw4 k0_t5 k0_h12))
            let v144_r0 : DmaSems sig S_ := v143_r0.squeeze S_ squeezes_S1_S_
            let v145_r0 : Memref sig .tc .hbm S1x64x5760 .f32 := DW.slice (Rect.unit (s := S4x2880x5760) (k0_off93 v0 v1 v2 v3 k0_t5 v88_r0) S1x64x5760.size (k0_off93_inb v0 v1 v2 v3 k0_t5 v88_r0 k0_hw5 k0_h12)) (fun _ => rfl)
            let v146_r0 : Memref sig .tc .hbm S64x5760 .f32 := v145_r0.squeeze S64x5760 squeezes_S1x64x5760_S64x5760
            let v147_r0 : Memref sig .tc .vmem S1x64x5760 .f32 := RING.slice (Rect.unit (s := S5x256x5760) (k0_off94 v0 v1 v2 v3 k0_t5) S1x64x5760.size (k0_off94_inb v0 v1 v2 v3 k0_hw4 k0_t5 k0_h12)) (fun _ => rfl)
            let v148_r0 : Memref sig .tc .vmem S64x5760 .f32 := v147_r0.squeeze S64x5760 squeezes_S1x64x5760_S64x5760
            Prog.lift (.enqueueDma v148_r0 (.here v146_r0) (.dma v144_r0.sem) ((View.wordExact_bits rfl).reshape _ _) ((View.wordExact_bits rfl).reshape _ _) ⟨Or.inl rfl, trivial⟩)
            pure ⟨⟩
          else do
            pure ⟨⟩
          pure ⟨⟩ : Prog (TpuEff nD τ sig (Elt F) Λ₀ .tc) PUnit.{1}) Q := by
  subst hE
  simp only [bind_def', pure_def', Prog.lift, op_bind', ret_bind', bind_bind']
  have hsl : k0_t5.val % 5 = (slotOf k0_t5.val).val := rfl
  by_cases h11 : k0_t5.val % 12 = 11
  · rw [dif_neg (fun hc => (cond11_iff h k0_t5).mp hc h11), dif_pos ((cond12_iff h k0_t5).mpr h11), rowsOf_last h11]
    iintro ⟨HD, HR, Hs, HQ⟩
    iapply (wp_issue c (h := 64) (off93_eq h k0_t5 e) ((off94_eq h k0_t5).trans (by rw [hsl])) ((off92_eq h k0_t5).trans (by rw [hsl])) val V G hG) $$ [HD HR Hs HQ]
    isplitl [HD]; · iexact HD
    isplitl [HR]; · iexact HR
    isplitl [Hs]; · iexact Hs
    iintro HF
    sl_step
    iapply HQ
    iexact HF
  · rw [dif_pos ((cond11_iff h k0_t5).mpr h11), rowsOf_full h11]
    iintro ⟨HD, HR, Hs, HQ⟩
    iapply (wp_issue c (h := 256) (off90_eq h k0_t5 e) ((off91_eq h k0_t5).trans (by rw [hsl])) ((off89_eq h k0_t5).trans (by rw [hsl])) val V G hG) $$ [HD HR Hs HQ]
    isplitl [HD]; · iexact HD
    isplitl [HR]; · iexact HR
    isplitl [Hs]; · iexact Hs
    iintro HF
    rw [dif_neg (fun hc => h11 ((cond12_iff h k0_t5).mp hc))]
    sl_step
    iapply HQ
    iexact HF

end Cert.Proof.Kernel

end
-- ==== Proof.Kernel.Turn.lean ====
/- A turn of the main loop, whole: it keeps the state of the ring, one slab further. -/
module

public import proofs.«01_k».proof.Proof.Kernel.Turn1

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-- What the main loop keeps before turn `k`. -/
def Turn (c : Dev nD) (v0 v1 v2 v3 : BitVec 32) (O : Vec F S4 .i32) (X1 X2 : Vec F S4 .f32) (X3 : Vec F S1088x3072 .bf16) (X4 : Vec F S1088x5760 .bf16) (k : ℕ) : sProp 𝕄 :=
  iprop(pt c ORD O ∗ pt c A1 X1 ∗ pt c A2 X2 ∗ pt c A3 X3 ∗ pt c A4 X4 ∗ (∃ L, pt c LT L)
    ∗ RingSt v0 v1 v2 v3 c (result v0 v1 v2 v3 X1 X2 X3 X4) k (k - 5) ∗ ∃ W, owes (c : Thread nD τ) 0 W)

set_option maxHeartbeats 8000000 in
/-- A turn from its slab on. -/
theorem rest (c : Dev nD) {v0 v1 v2 v3 : BitVec 32} (h : Fit v0 v1 v2 v3) (k0_hw4 : k0_chk4 v0 v1 v2 v3) (k : Fin (k0_t5_loop v0 v1 v2 v3).trips)
    (O : Vec F S4 .i32) (X1 X2 : Vec F S4 .f32) (X3 : Vec F S1088x3072 .bf16) (X4 : Vec F S1088x5760 .bf16) (e : Fin 4) (hE : exOf v0 v1 v2 v3 (k.val / 12) = e)
    (v88_r0 v90_r0 v112_r0 v113_r0 v120_r0 : BitVec 32) (v118_r0 : F .f32) (hv88 : v88_r0 = BitVec.ofNat 32 e.val) (k0_hw5 : k0_chk5 v0 v1 v2 v3 k v88_r0)
    (hv112 : v112_r0 = kbW v0 v1 v2 v3 v88_r0) (hv118 : v118_r0 = scaleOf X1 X2 e) :
    iprop(pt c ORD O ∗ pt c A1 X1 ∗ pt c A2 X2 ∗ pt c A3 X3 ∗ pt c A4 X4 ∗ (∃ L, pt c LT L)
        ∗ RingSt v0 v1 v2 v3 c (result v0 v1 v2 v3 X1 X2 X3 X4) k.val (k.val + 1 - 5) ∗ ∃ W, owes (c : Thread nD τ) 0 W)
      ⊢ wp frame (wpE (defs₀ (F := F)) Variants.none (c : Thread nD τ) none) Set.univ
          (do
          if k0_h8 : k0_cond8 v0 v1 v2 v3 v88_r0 = 1#1 then do
            let ⟨v177_r0, v179_r0⟩ : Σ' (v177_r0 : Vec F S256x256 .bf16), Vec F S256x512 .bf16 ← k0_part1 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v112_r0 v113_r0 v118_r0 v120_r0 k0_h8
            let v212_r0 : FVec F S256x512 .f32 ← k0_part2 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h8 v177_r0 v179_r0
            let ⟨v247_r0, v249_r0, cst_138_r0⟩ : Σ' (v247_r0 : Vec F S256x256 .bf16) (v249_r0 : Vec F S256x512 .bf16), FVec F S256x512 .f32 ← k0_part3 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h8 v212_r0
            let v254_r0 : Vec F S1x256x512 .f32 ← Prog.lift (.load RING (Rect.unit (s := S5x256x5760) (k0_off34 v0 v1 v2 v3 k) S1x256x512.size (k0_off34_inb v0 v1 v2 v3 k v88_r0 k0_hw5 k0_h8)).toLoadRect (View.loadsAt_vmem h_S1x256x512))
            Prog.lift (.store RING (Rect.unit (s := S5x256x5760) (k0_off34 v0 v1 v2 v3 k) S1x256x512.size (k0_off34_inb v0 v1 v2 v3 k v88_r0 k0_hw5 k0_h8)) (k0_pay1 v118_r0 v247_r0 v249_r0 cst_138_r0) Finset.univ (View.stores_vmem_bits_univ h_S1x256x512 rfl) (.inl rfl))
            let v257_r0 : Vec F S256x256 .bf16 ← Prog.lift (.load LT (Rect.unit (s := S256x768) ![0, 0] S256x256.size inb_S256x768_S256x256_0_0).toLoadRect (View.loadsAt_vmem h_S256x256))
            let v259_r0 : Vec F S256x512 .bf16 ← Prog.lift (.load A4 (Rect.unit (s := S1088x5760) (k0_off35 v0 v1 v2 v88_r0) S256x512.size (k0_off35_inb v0 v1 v2 v3 k v88_r0 k0_hw5 k0_h8)).toLoadRect (View.loadsAt_vmem h_S256x512))
            let v264_r0 : Vec F S1x256x512 .f32 ← Prog.lift (.load RING (Rect.unit (s := S5x256x5760) (k0_off36 v0 v1 v2 v3 k) S1x256x512.size (k0_off36_inb v0 v1 v2 v3 k v88_r0 k0_hw5 k0_h8)).toLoadRect (View.loadsAt_vmem h_S1x256x512))
            Prog.lift (.store RING (Rect.unit (s := S5x256x5760) (k0_off36 v0 v1 v2 v3 k) S1x256x512.size (k0_off36_inb v0 v1 v2 v3 k v88_r0 k0_hw5 k0_h8)) (k0_pay2 v118_r0 v257_r0 v259_r0) Finset.univ (View.stores_vmem_bits_univ h_S1x256x512 rfl) (.inl rfl))
            let v267_r0 : Vec F S256x256 .bf16 ← Prog.lift (.load LT (Rect.unit (s := S256x768) ![0, 0] S256x256.size inb_S256x768_S256x256_0_0).toLoadRect (View.loadsAt_vmem h_S256x256))
            let v269_r0 : Vec F S256x128 .bf16 ← Prog.lift (.load A4 (Rect.unit (s := S1088x5760) (k0_off37 v0 v1 v2 v88_r0) S256x128.size (k0_off37_inb v0 v1 v2 v3 k v88_r0 k0_hw5 k0_h8)).toLoadRect (View.loadsAt_vmem h_S256x128))
            let v274_r0 : Vec F S1x256x128 .f32 ← Prog.lift (.load RING (Rect.unit (s := S5x256x5760) (k0_off38 v0 v1 v2 v3 k) S1x256x128.size (k0_off38_inb v0 v1 v2 v3 k v88_r0 k0_hw5 k0_h8)).toLoadRect (View.loadsAt_vmem h_S1x256x128))
            Prog.lift (.store RING (Rect.unit (s := S5x256x5760) (k0_off38 v0 v1 v2 v3 k) S1x256x128.size (k0_off38_inb v0 v1 v2 v3 k v88_r0 k0_hw5 k0_h8)) (k0_pay3 v118_r0 v267_r0 v269_r0) Finset.univ (View.stores_vmem_bits_univ h_S1x256x128 rfl) (.inl rfl))
            pure ⟨⟩
          else do
            pure ⟨⟩
          if k0_h9 : k0_cond9 v0 v1 v2 v3 v88_r0 = 1#1 then do
            let ⟨v177_r0, v179_r0⟩ : Σ' (v177_r0 : Vec F S256x512 .bf16), Vec F S512x512 .bf16 ← k0_part4 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v112_r0 v113_r0 v118_r0 v120_r0 k0_h9
            let v212_r0 : FVec F S256x512 .f32 ← k0_part5 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h9 v177_r0 v179_r0
            let ⟨v247_r0, v249_r0, cst_138_r0⟩ : Σ' (v247_r0 : Vec F S256x512 .bf16) (v249_r0 : Vec F S512x512 .bf16), FVec F S256x512 .f32 ← k0_part6 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h9 v212_r0
            let v254_r0 : Vec F S1x256x512 .f32 ← Prog.lift (.load RING (Rect.unit (s := S5x256x5760) (k0_off59 v0 v1 v2 v3 k) S1x256x512.size (k0_off59_inb v0 v1 v2 v3 k v88_r0 k0_hw5 k0_h9)).toLoadRect (View.loadsAt_vmem h_S1x256x512))
            Prog.lift (.store RING (Rect.unit (s := S5x256x5760) (k0_off59 v0 v1 v2 v3 k) S1x256x512.size (k0_off59_inb v0 v1 v2 v3 k v88_r0 k0_hw5 k0_h9)) (k0_pay4 v118_r0 v247_r0 v249_r0 cst_138_r0) Finset.univ (View.stores_vmem_bits_univ h_S1x256x512 rfl) (.inl rfl))
            let v257_r0 : Vec F S256x512 .bf16 ← Prog.lift (.load LT (Rect.unit (s := S256x768) ![0, 0] S256x512.size inb_S256x768_S256x512_0_0).toLoadRect (View.loadsAt_vmem h_S256x512))
            let v259_r0 : Vec F S512x512 .bf16 ← Prog.lift (.load A4 (Rect.unit (s := S1088x5760) (k0_off60 v0 v1 v2 v88_r0) S512x512.size (k0_off60_inb v0 v1 v2 v3 k v88_r0 k0_hw5 k0_h9)).toLoadRect (View.loadsAt_vmem h_S512x512))
            let v264_r0 : Vec F S1x256x512 .f32 ← Prog.lift (.load RING (Rect.unit (s := S5x256x5760) (k0_off61 v0 v1 v2 v3 k) S1x256x512.size (k0_off61_inb v0 v1 v2 v3 k v88_r0 k0_hw5 k0_h9)).toLoadRect (View.loadsAt_vmem h_S1x256x512))
            Prog.lift (.store RING (Rect.unit (s := S5x256x5760) (k0_off61 v0 v1 v2 v3 k) S1x256x512.size (k0_off61_inb v0 v1 v2 v3 k v88_r0 k0_hw5 k0_h9)) (k0_pay5 v118_r0 v257_r0 v259_r0) Finset.univ (View.stores_vmem_bits_univ h_S1x256x512 rfl) (.inl rfl))
            let v267_r0 : Vec F S256x512 .bf16 ← Prog.lift (.load LT (Rect.unit (s := S256x768) ![0, 0] S256x512.size inb_S256x768_S256x512_0_0).toLoadRect (View.loadsAt_vmem h_S256x512))
            let v269_r0 : Vec F S512x128 .bf16 ← Prog.lift (.load A4 (Rect.unit (s := S1088x5760) (k0_off62 v0 v1 v2 v88_r0) S512x128.size (k0_off62_inb v0 v1 v2 v3 k v88_r0 k0_hw5 k0_h9)).toLoadRect (View.loadsAt_vmem h_S512x128))
            let v274_r0 : Vec F S1x256x128 .f32 ← Prog.lift (.load RING (Rect.unit (s := S5x256x5760) (k0_off63 v0 v1 v2 v3 k) S1x256x128.size (k0_off63_inb v0 v1 v2 v3 k v88_r0 k0_hw5 k0_h9)).toLoadRect (View.loadsAt_vmem h_S1x256x128))
            Prog.lift (.store RING (Rect.unit (s := S5x256x5760) (k0_off63 v0 v1 v2 v3 k) S1x256x128.size (k0_off63_inb v0 v1 v2 v3 k v88_r0 k0_hw5 k0_h9)) (k0_pay6 v118_r0 v267_r0 v269_r0) Finset.univ (View.stores_vmem_bits_univ h_S1x256x128 rfl) (.inl rfl))
            pure ⟨⟩
          else do
            pure ⟨⟩
          if k0_h10 : k0_cond10 v0 v1 v2 v3 v88_r0 = 1#1 then do
            let ⟨v177_r0, v179_r0⟩ : Σ' (v177_r0 : Vec F S256x768 .bf16), Vec F S768x512 .bf16 ← k0_part7 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v112_r0 v113_r0 v118_r0 v120_r0 k0_h10
            let v212_r0 : FVec F S256x512 .f32 ← k0_part8 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h10 v177_r0 v179_r0
            let ⟨v247_r0, v249_r0, cst_138_r0⟩ : Σ' (v247_r0 : Vec F S256x768 .bf16) (v249_r0 : Vec F S768x512 .bf16), FVec F S256x512 .f32 ← k0_part9 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h10 v212_r0
            let v254_r0 : Vec F S1x256x512 .f32 ← Prog.lift (.load RING (Rect.unit (s := S5x256x5760) (k0_off84 v0 v1 v2 v3 k) S1x256x512.size (k0_off84_inb v0 v1 v2 v3 k v88_r0 k0_hw5 k0_h10)).toLoadRect (View.loadsAt_vmem h_S1x256x512))
            Prog.lift (.store RING (Rect.unit (s := S5x256x5760) (k0_off84 v0 v1 v2 v3 k) S1x256x512.size (k0_off84_inb v0 v1 v2 v3 k v88_r0 k0_hw5 k0_h10)) (k0_pay7 v118_r0 v247_r0 v249_r0 cst_138_r0) Finset.univ (View.stores_vmem_bits_univ h_S1x256x512 rfl) (.inl rfl))
            let v257_r0 : Vec F S256x768 .bf16 ← Prog.lift (.load LT (Rect.unit (s := S256x768) ![0, 0] S256x768.size inb_S256x768_S256x768_0_0).toLoadRect (View.loadsAt_vmem h_S256x768))
            let v259_r0 : Vec F S768x512 .bf16 ← Prog.lift (.load A4 (Rect.unit (s := S1088x5760) (k0_off85 v0 v1 v2 v88_r0) S768x512.size (k0_off85_inb v0 v1 v2 v3 k v88_r0 k0_hw5 k0_h10)).toLoadRect (View.loadsAt_vmem h_S768x512))
            let v264_r0 : Vec F S1x256x512 .f32 ← Prog.lift (.load RING (Rect.unit (s := S5x256x5760) (k0_off86 v0 v1 v2 v3 k) S1x256x512.size (k0_off86_inb v0 v1 v2 v3 k v88_r0 k0_hw5 k0_h10)).toLoadRect (View.loadsAt_vmem h_S1x256x512))
            Prog.lift (.store RING (Rect.unit (s := S5x256x5760) (k0_off86 v0 v1 v2 v3 k) S1x256x512.size (k0_off86_inb v0 v1 v2 v3 k v88_r0 k0_hw5 k0_h10)) (k0_pay8 v118_r0 v257_r0 v259_r0) Finset.univ (View.stores_vmem_bits_univ h_S1x256x512 rfl) (.inl rfl))
            let v267_r0 : Vec F S256x768 .bf16 ← Prog.lift (.load LT (Rect.unit (s := S256x768) ![0, 0] S256x768.size inb_S256x768_S256x768_0_0).toLoadRect (View.loadsAt_vmem h_S256x768))
            let v269_r0 : Vec F S768x128 .bf16 ← Prog.lift (.load A4 (Rect.unit (s := S1088x5760) (k0_off87 v0 v1 v2 v88_r0) S768x128.size (k0_off87_inb v0 v1 v2 v3 k v88_r0 k0_hw5 k0_h10)).toLoadRect (View.loadsAt_vmem h_S768x128))
            let v274_r0 : Vec F S1x256x128 .f32 ← Prog.lift (.load RING (Rect.unit (s := S5x256x5760) (k0_off88 v0 v1 v2 v3 k) S1x256x128.size (k0_off88_inb v0 v1 v2 v3 k v88_r0 k0_hw5 k0_h10)).toLoadRect (View.loadsAt_vmem h_S1x256x128))
            Prog.lift (.store RING (Rect.unit (s := S5x256x5760) (k0_off88 v0 v1 v2 v3 k) S1x256x128.size (k0_off88_inb v0 v1 v2 v3 k v88_r0 k0_hw5 k0_h10)) (k0_pay9 v118_r0 v267_r0 v269_r0) Finset.univ (View.stores_vmem_bits_univ h_S1x256x128 rfl) (.inl rfl))
            pure ⟨⟩
          else do
            pure ⟨⟩
          if k0_h11 : k0_cond11 v0 v1 v2 v3 k = 1#1 then do
            let v143_r0 : DmaSems sig S1 := cc0_scratch4.slice (Rect.unit (s := S5) (k0_off89 v0 v1 v2 v3 k) S1.size (k0_off89_inb v0 v1 v2 v3 k0_hw4 k k0_h11))
            let v144_r0 : DmaSems sig S_ := v143_r0.squeeze S_ squeezes_S1_S_
            let v145_r0 : Memref sig .tc .hbm S1x256x5760 .f32 := DW.slice (Rect.unit (s := S4x2880x5760) (k0_off90 v0 v1 v2 v3 k v88_r0) S1x256x5760.size (k0_off90_inb v0 v1 v2 v3 k v88_r0 k0_hw5 k0_h11)) (fun _ => rfl)
            let v146_r0 : Memref sig .tc .hbm S256x5760 .f32 := v145_r0.squeeze S256x5760 squeezes_S1x256x5760_S256x5760
            let v147_r0 : Memref sig .tc .vmem S1x256x5760 .f32 := RING.slice (Rect.unit (s := S5x256x5760) (k0_off91 v0 v1 v2 v3 k) S1x256x5760.size (k0_off91_inb v0 v1 v2 v3 k0_hw4 k k0_h11)) (fun _ => rfl)
            let v148_r0 : Memref sig .tc .vmem S256x5760 .f32 := v147_r0.squeeze S256x5760 squeezes_S1x256x5760_S256x5760
            Prog.lift (.enqueueDma v148_r0 (.here v146_r0) (.dma v144_r0.sem) ((View.wordExact_bits rfl).reshape _ _) ((View.wordExact_bits rfl).reshape _ _) ⟨Or.inl rfl, trivial⟩)
            pure ⟨⟩
          else do
            pure ⟨⟩
          if k0_h12 : k0_cond12 v0 v1 v2 v3 k = 1#1 then do
            let v143_r0 : DmaSems sig S1 := cc0_scratch4.slice (Rect.unit (s := S5) (k0_off92 v0 v1 v2 v3 k) S1.size (k0_off92_inb v0 v1 v2 v3 k0_hw4 k k0_h12))
            let v144_r0 : DmaSems sig S_ := v143_r0.squeeze S_ squeezes_S1_S_
            let v145_r0 : Memref sig .tc .hbm S1x64x5760 .f32 := DW.slice (Rect.unit (s := S4x2880x5760) (k0_off93 v0 v1 v2 v3 k v88_r0) S1x64x5760.size (k0_off93_inb v0 v1 v2 v3 k v88_r0 k0_hw5 k0_h12)) (fun _ => rfl)
            let v146_r0 : Memref sig .tc .hbm S64x5760 .f32 := v145_r0.squeeze S64x5760 squeezes_S1x64x5760_S64x5760
            let v147_r0 : Memref sig .tc .vmem S1x64x5760 .f32 := RING.slice (Rect.unit (s := S5x256x5760) (k0_off94 v0 v1 v2 v3 k) S1x64x5760.size (k0_off94_inb v0 v1 v2 v3 k0_hw4 k k0_h12)) (fun _ => rfl)
            let v148_r0 : Memref sig .tc .vmem S64x5760 .f32 := v147_r0.squeeze S64x5760 squeezes_S1x64x5760_S64x5760
            Prog.lift (.enqueueDma v148_r0 (.here v146_r0) (.dma v144_r0.sem) ((View.wordExact_bits rfl).reshape _ _) ((View.wordExact_bits rfl).reshape _ _) ⟨Or.inl rfl, trivial⟩)
            pure ⟨⟩
          else do
            pure ⟨⟩
          pure ⟨⟩ : Prog (TpuEff nD τ sig (Elt F) Λ₀ .tc) PUnit.{1})
          fun _ => Turn c v0 v1 v2 v3 O X1 X2 X3 X4 (k.val + 1) := by
  subst hv88 hv112 hv118
  have hk := klt h k
  have hr : k.val / 12 < cnt v0 v1 v2 v3 := by omega
  obtain ⟨he, hrk⟩ := exOf_spec v0 v1 v2 v3 hr
  have hissue := RingSt.issue v0 v1 v2 v3 c (result v0 v1 v2 v3 X1 X2 X3 X4) (k := k.val) (d := k.val + 1 - 5) (by omega) (by omega) hk
  unfold jobTodo jobSet jobFlight Free at hissue
  rw [hE] at he hissue
  have hnb := h.nb_le e
  have hslot : (slotW k).toNat = (slotOf k.val).val := slot_nat h k
  have hw := k0_hw5
  unfold Turn
  simp only [bind_def', pure_def', Prog.lift, op_bind', ret_bind', bind_bind']
  iintro ⟨HO, H1, H2, H3, H4, ⟨%L, HL⟩, HR, HW⟩
  ihave HR := hissue $$ HR
  icases HR with ⟨⟨Hs, ⟨%f, HS⟩⟩, ⟨%V, HT⟩, HN⟩
  ihave HS := (Entails.of_eq (congrArg (fun i => ptOn c RING (slotSet i) f) hslot.symm)) $$ HS
  by_cases p1 : 16 * nb v0 v1 v2 v3 e ≤ 256
  · skip
    have hval : ∀ x, slabVal (fun j => k0_pay20 (scaleOf X1 X2 e) (k0_pay19 (kbW v0 v1 v2 v3 (BitVec.ofNat 32 e.val)) (lhsBlk X3 256 (k0W v0 v1 v2 (BitVec.ofNat 32 e.val)).toNat (slabW k).toNat)) (rhsBlk X4 256 512 (k0W v0 v1 v2 (BitVec.ofNat 32 e.val)).toNat (512 * j)))
        (k0_pay3 (scaleOf X1 X2 e) (k0_pay19 (kbW v0 v1 v2 v3 (BitVec.ofNat 32 e.val)) (lhsBlk X3 256 (k0W v0 v1 v2 (BitVec.ofNat 32 e.val)).toNat (slabW k).toNat)) (rhsBlk X4 256 128 (k0W v0 v1 v2 (BitVec.ofNat 32 e.val)).toNat 5632)) x
          = slabOf v0 v1 v2 v3 X1 X2 X3 X4 e (256 * (k.val % 12)) x := by
      intro x
      unfold slabOf
      simp only [if_pos p1]
      rw [slab_nat h k]
    rw [dif_pos ((cond8_iff h e).mpr ⟨by omega, by omega⟩), dif_neg (fun hc => by have := (cond9_iff h e).mp hc; omega), dif_neg (fun hc => by have := (cond10_iff h e).mp hc; omega)]
    iapply (slab256K c v0 v1 v2 v3 k _ hw _ _ _ _ _ ((cond8_iff h e).mpr ⟨by omega, by omega⟩) X3 X4 L f _ _) $$ [H3 H4 HL HS HT Hs HN HO H1 H2 HW]
    isplitl [H3 H4 HL HS]
    · isplitl [H3]; · iexact H3
      isplitl [H4]; · iexact H4
      isplitl [HL] <;> iassumption
    iintro %_ ⟨H3, H4, HL, HS⟩
    ihave HS := (Entails.of_eq (congrArg (fun i => ptOn c RING (slotSet i) _) hslot)) $$ HS
    iapply (tail c h k0_hw4 k _ e rfl hw _ V (result v0 v1 v2 v3 X1 X2 X3 X4)
      (fun x y h0 h1 h2 => (hval x).trans (result_slab v0 v1 v2 v3 X1 X2 X3 X4 he h0 h1 h2))) $$ [H3 H4 HL HS HT Hs HN HO H1 H2 HW]
    isplitl [HT]; · iexact HT
    isplitl [HS]; · iexact HS
    isplitl [Hs]; · iexact Hs
    iintro HF
    isplitl [HO]; · iexact HO
    isplitl [H1]; · iexact H1
    isplitl [H2]; · iexact H2
    isplitl [H3]; · iexact H3
    isplitl [H4]; · iexact H4
    isplitl [HL]; · iexact HL
    isplitl [HN HF]
    · iapply HN
      iexact HF
    · iexact HW
  by_cases p2 : 16 * nb v0 v1 v2 v3 e ≤ 512
  · skip
    have hval : ∀ x, slabVal (fun j => k0_pay31 (scaleOf X1 X2 e) (k0_pay30 (kbW v0 v1 v2 v3 (BitVec.ofNat 32 e.val)) (lhsBlk X3 512 (k0W v0 v1 v2 (BitVec.ofNat 32 e.val)).toNat (slabW k).toNat)) (rhsBlk X4 512 512 (k0W v0 v1 v2 (BitVec.ofNat 32 e.val)).toNat (512 * j)))
        (k0_pay6 (scaleOf X1 X2 e) (k0_pay30 (kbW v0 v1 v2 v3 (BitVec.ofNat 32 e.val)) (lhsBlk X3 512 (k0W v0 v1 v2 (BitVec.ofNat 32 e.val)).toNat (slabW k).toNat)) (rhsBlk X4 512 128 (k0W v0 v1 v2 (BitVec.ofNat 32 e.val)).toNat 5632)) x
          = slabOf v0 v1 v2 v3 X1 X2 X3 X4 e (256 * (k.val % 12)) x := by
      intro x
      unfold slabOf
      simp only [if_neg p1, if_pos p2]
      rw [slab_nat h k]
    rw [dif_neg (fun hc => by have := (cond8_iff h e).mp hc; omega), dif_pos ((cond9_iff h e).mpr ⟨by omega, by omega⟩), dif_neg (fun hc => by have := (cond10_iff h e).mp hc; omega)]
    iapply (slab512K c v0 v1 v2 v3 k _ hw _ _ _ _ _ ((cond9_iff h e).mpr ⟨by omega, by omega⟩) X3 X4 L f _ _) $$ [H3 H4 HL HS HT Hs HN HO H1 H2 HW]
    isplitl [H3 H4 HL HS]
    · isplitl [H3]; · iexact H3
      isplitl [H4]; · iexact H4
      isplitl [HL] <;> iassumption
    iintro %_ ⟨H3, H4, HL, HS⟩
    ihave HS := (Entails.of_eq (congrArg (fun i => ptOn c RING (slotSet i) _) hslot)) $$ HS
    iapply (tail c h k0_hw4 k _ e rfl hw _ V (result v0 v1 v2 v3 X1 X2 X3 X4)
      (fun x y h0 h1 h2 => (hval x).trans (result_slab v0 v1 v2 v3 X1 X2 X3 X4 he h0 h1 h2))) $$ [H3 H4 HL HS HT Hs HN HO H1 H2 HW]
    isplitl [HT]; · iexact HT
    isplitl [HS]; · iexact HS
    isplitl [Hs]; · iexact Hs
    iintro HF
    isplitl [HO]; · iexact HO
    isplitl [H1]; · iexact H1
    isplitl [H2]; · iexact H2
    isplitl [H3]; · iexact H3
    isplitl [H4]; · iexact H4
    isplitl [HL]; · iexact HL
    isplitl [HN HF]
    · iapply HN
      iexact HF
    · iexact HW
  · skip
    have hval : ∀ x, slabVal (fun j => k0_pay42 (scaleOf X1 X2 e) (k0_pay41 (kbW v0 v1 v2 v3 (BitVec.ofNat 32 e.val)) (lhsBlk X3 768 (k0W v0 v1 v2 (BitVec.ofNat 32 e.val)).toNat (slabW k).toNat)) (rhsBlk X4 768 512 (k0W v0 v1 v2 (BitVec.ofNat 32 e.val)).toNat (512 * j)))
        (k0_pay9 (scaleOf X1 X2 e) (k0_pay41 (kbW v0 v1 v2 v3 (BitVec.ofNat 32 e.val)) (lhsBlk X3 768 (k0W v0 v1 v2 (BitVec.ofNat 32 e.val)).toNat (slabW k).toNat)) (rhsBlk X4 768 128 (k0W v0 v1 v2 (BitVec.ofNat 32 e.val)).toNat 5632)) x
          = slabOf v0 v1 v2 v3 X1 X2 X3 X4 e (256 * (k.val % 12)) x := by
      intro x
      unfold slabOf
      simp only [if_neg p1, if_neg p2]
      rw [slab_nat h k]
    rw [dif_neg (fun hc => by have := (cond8_iff h e).mp hc; omega), dif_neg (fun hc => by have := (cond9_iff h e).mp hc; omega), dif_pos ((cond10_iff h e).mpr ⟨by omega, by omega⟩)]
    iapply (slab768K c v0 v1 v2 v3 k _ hw _ _ _ _ _ ((cond10_iff h e).mpr ⟨by omega, by omega⟩) X3 X4 L f _ _) $$ [H3 H4 HL HS HT Hs HN HO H1 H2 HW]
    isplitl [H3 H4 HL HS]
    · isplitl [H3]; · iexact H3
      isplitl [H4]; · iexact H4
      isplitl [HL] <;> iassumption
    iintro %_ ⟨H3, H4, HL, HS⟩
    ihave HS := (Entails.of_eq (congrArg (fun i => ptOn c RING (slotSet i) _) hslot)) $$ HS
    iapply (tail c h k0_hw4 k _ e rfl hw _ V (result v0 v1 v2 v3 X1 X2 X3 X4)
      (fun x y h0 h1 h2 => (hval x).trans (result_slab v0 v1 v2 v3 X1 X2 X3 X4 he h0 h1 h2))) $$ [H3 H4 HL HS HT Hs HN HO H1 H2 HW]
    isplitl [HT]; · iexact HT
    isplitl [HS]; · iexact HS
    isplitl [Hs]; · iexact Hs
    iintro HF
    isplitl [HO]; · iexact HO
    isplitl [H1]; · iexact H1
    isplitl [H2]; · iexact H2
    isplitl [H3]; · iexact H3
    isplitl [H4]; · iexact H4
    isplitl [HL]; · iexact HL
    isplitl [HN HF]
    · iapply HN
      iexact HF
    · iexact HW

set_option maxHeartbeats 8000000 in
theorem turn (c : Dev nD) {v0 v1 v2 v3 : BitVec 32} (h : Fit v0 v1 v2 v3) (k0_hw4 : k0_chk4 v0 v1 v2 v3) (k : Fin (k0_t5_loop v0 v1 v2 v3).trips)
    (O : Vec F S4 .i32) (hO : Ordered v0 v1 v2 v3 O) (X1 X2 : Vec F S4 .f32) (X3 : Vec F S1088x3072 .bf16) (X4 : Vec F S1088x5760 .bf16) (u : Unit) :
    Turn c v0 v1 v2 v3 O X1 X2 X3 X4 k.val
      ⊢ wp frame (wpE (defs₀ (F := F)) Variants.none (c : Thread nD τ) none) Set.univ
          (k0_t5_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 (Scalar.shrui (Scalar.addi v0 15#32) 4#32) (Scalar.shrui (Scalar.addi v1 15#32) 4#32) (Scalar.shrui (Scalar.addi v2 15#32) 4#32) (Scalar.shrui (Scalar.addi v3 15#32) 4#32) (Scalar.addi 0#32 (Scalar.shrui (Scalar.addi v0 15#32) 4#32)) (Scalar.addi (Scalar.addi 0#32 (Scalar.shrui (Scalar.addi v0 15#32) 4#32)) (Scalar.shrui (Scalar.addi v1 15#32) 4#32)) (Scalar.addi (Scalar.addi (Scalar.addi 0#32 (Scalar.shrui (Scalar.addi v0 15#32) 4#32)) (Scalar.shrui (Scalar.addi v1 15#32) 4#32)) (Scalar.shrui (Scalar.addi v2 15#32) 4#32)) 1#32 0#32 0#32 k u)
          fun _ => Turn c v0 v1 v2 v3 O X1 X2 X3 X4 (k.val + 1) := by
  have hhead := head c h k0_hw4 k O hO X1 X2 (result v0 v1 v2 v3 X1 X2 X3 X4)
  unfold k0_t5_body Turn
  iintro ⟨HO, H1, H2, H3, H4, HL, HR, HW⟩
  iapply (wp_seq Variants.none (c : Thread nD τ) none Set.univ hhead) $$ [HO H1 H2 H3 H4 HL HR HW]
  isplitl [HO H1 H2 HR HW]
  · isplitl [HO]; · iexact HO
    isplitl [H1]; · iexact H1
    isplitl [H2]; · iexact H2
    isplitl [HR] <;> iassumption
  iintro %r ⟨%hw', HO, H1, H2, HR, HW⟩
  obtain ⟨hw, rfl⟩ := hw'
  iapply (rest c h k0_hw4 k O X1 X2 X3 X4 _ rfl _ _ _ _ _ _ rfl hw rfl rfl) $$ [HO H1 H2 H3 H4 HL HR HW]
  isplitl [HO]; · iexact HO
  isplitl [H1]; · iexact H1
  isplitl [H2]; · iexact H2
  isplitl [H3]; · iexact H3
  isplitl [H4]; · iexact H4
  isplitl [HL]; · iexact HL
  isplitl [HR] <;> iassumption

end Cert.Proof.Kernel

end
-- ==== Proof.Kernel.Drain.lean ====
/- The turns after the main loop: each waits for the oldest slab in flight. -/
module

public import proofs.«01_k».proof.Proof.Kernel.Trip

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-- What the last loop keeps before its turn `t`: every slab issued, all but the last few landed. -/
def Draining (c : Dev nD) (v0 v1 v2 v3 : BitVec 32) (G : Vec F S4x2880x5760 .f32) (t : ℕ) : sProp 𝕄 :=
  iprop(RingSt v0 v1 v2 v3 c G (12 * cnt v0 v1 v2 v3) (12 * cnt v0 v1 v2 v3 - 5 + t) ∗ ∃ W, owes (c : Thread nD τ) 0 W)

set_option maxHeartbeats 4000000 in
theorem drain (c : Dev nD) {v0 v1 v2 v3 : BitVec 32} (h : Fit v0 v1 v2 v3) (k0_hw4 : k0_chk4 v0 v1 v2 v3) (t : Fin (k0_t7_loop v0 v1 v2 v3).trips)
    (G : Vec F S4x2880x5760 .f32) (u : Unit) :
    Draining c v0 v1 v2 v3 G t.val
      ⊢ wp frame (wpE (defs₀ (F := F)) Variants.none (c : Thread nD τ) none) Set.univ (k0_t7_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 t u) fun _ => Draining c v0 v1 v2 v3 G (t.val + 1) := by
  have ht := tlt h t
  have hland := RingSt.land v0 v1 v2 v3 c G (k := 12 * cnt v0 v1 v2 v3) (d := 12 * cnt v0 v1 v2 v3 - 5 + t.val) (by omega) (by omega)
  have hsl : (12 * cnt v0 v1 v2 v3 - 5 + t.val) % 5 = (slotOf (12 * cnt v0 v1 v2 v3 - 5 + t.val)).val := rfl
  unfold jobFlight jobDone jobSet at hland
  unfold k0_t7_body Draining
  rw [show 12 * cnt v0 v1 v2 v3 - 5 + (t.val + 1) = 12 * cnt v0 v1 v2 v3 - 5 + t.val + 1 from rfl]
  simp only [bind_def', pure_def', Prog.lift, op_bind', ret_bind', bind_bind']
  by_cases h6 : (12 * cnt v0 v1 v2 v3 - 5 + t.val) % 12 = 11
  · rw [rowsOf_last h6] at hland
    rw [dif_neg (fun hc => (cond21_iff h t).mp hc h6), dif_pos ((cond22_iff h t).mpr h6)]
    iintro ⟨HR, ⟨%W, HW⟩⟩
    ihave HR := hland $$ HR
    icases HR with ⟨HF, HR⟩
    iapply (wp_land c (h := 64) (by decide) ((off184_eq h t).trans (by rw [hsl])) G W) $$ [HF HW HR]
    isplitl [HF]; · iexact HF
    isplitl [HW]; · iexact HW
    iintro ⟨HD, Hf, HW⟩
    sl_step
    isplitl [HR HD Hf]
    · iapply HR
      isplitl [HD] <;> iassumption
    · iexact HW
  · rw [rowsOf_full h6] at hland
    rw [dif_pos ((cond21_iff h t).mpr h6), dif_neg (fun hc => h6 ((cond22_iff h t).mp hc))]
    iintro ⟨HR, ⟨%W, HW⟩⟩
    ihave HR := hland $$ HR
    icases HR with ⟨HF, HR⟩
    iapply (wp_land c (h := 256) (by decide) ((off182_eq h t).trans (by rw [hsl])) G W) $$ [HF HW HR]
    isplitl [HF]; · iexact HF
    isplitl [HW]; · iexact HW
    iintro ⟨HD, Hf, HW⟩
    sl_step
    isplitl [HR HD Hf]
    · iapply HR
      isplitl [HD] <;> iassumption
    · iexact HW

end Cert.Proof.Kernel

end
-- ==== Proof.Kernel.Body.lean ====
/- The body of the kernel: from the operands in hand, the result. -/
module

public import proofs.«01_k».proof.Proof.Kernel.Head
public import proofs.«01_k».proof.Proof.Kernel.Turn
public import proofs.«01_k».proof.Proof.Kernel.Drain

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

/-- What the loops leave: the operands, and every copy landed but those of zeros, which are waited for. -/
def Rest (c : Dev nD) (v0 v1 v2 v3 : BitVec 32) (O : Vec F S4 .i32) (X1 X2 : Vec F S4 .f32) (X3 : Vec F S1088x3072 .bf16) (X4 : Vec F S1088x5760 .bf16) (k d u : ℕ) : sProp 𝕄 :=
  iprop(pt c ORD O ∗ pt c A1 X1 ∗ pt c A2 X2 ∗ pt c A3 X3 ∗ pt c A4 X4 ∗ (∃ L, pt c LT L)
    ∗ RingSt v0 v1 v2 v3 c (result v0 v1 v2 v3 X1 X2 X3 X4) k d ∗ ZWait c v0 v1 v2 v3 (result v0 v1 v2 v3 X1 X2 X3 X4) u)

set_option maxHeartbeats 4000000 in
/-- The loops after the first part. -/
theorem loops (c : Dev nD) {v0 v1 v2 v3 : BitVec 32} (h : Fit v0 v1 v2 v3) (k0_hw4 : k0_chk4 v0 v1 v2 v3)
    (O : Vec F S4 .i32) (hO : Ordered v0 v1 v2 v3 O) (X1 X2 : Vec F S4 .f32) (X3 : Vec F S1088x3072 .bf16) (X4 : Vec F S1088x5760 .bf16) (z : BitVec 32) :
    iprop(Turn c v0 v1 v2 v3 O X1 X2 X3 X4 0 ∗ ZIss c v0 v1 v2 v3 (result v0 v1 v2 v3 X1 X2 X3 X4) (zN v0 v1 v2 v3))
      ⊢ wp frame (wpE (defs₀ (F := F)) Variants.none (c : Thread nD τ) none) Set.univ (do
      Scf.Loop.for (k0_t5_loop v0 v1 v2 v3) (k0_t5_ok v0 v1 v2 v3 k0_hw4) ⟨⟩ (k0_t5_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 (Scalar.shrui (Scalar.addi v0 15#32) 4#32) (Scalar.shrui (Scalar.addi v1 15#32) 4#32) (Scalar.shrui (Scalar.addi v2 15#32) 4#32) (Scalar.shrui (Scalar.addi v3 15#32) 4#32) (Scalar.addi 0#32 (Scalar.shrui (Scalar.addi v0 15#32) 4#32)) (Scalar.addi (Scalar.addi 0#32 (Scalar.shrui (Scalar.addi v0 15#32) 4#32)) (Scalar.shrui (Scalar.addi v1 15#32) 4#32)) (Scalar.addi (Scalar.addi (Scalar.addi 0#32 (Scalar.shrui (Scalar.addi v0 15#32) 4#32)) (Scalar.shrui (Scalar.addi v1 15#32) 4#32)) (Scalar.shrui (Scalar.addi v2 15#32) 4#32)) 1#32 0#32 0#32)
      Scf.Loop.for (k0_t6_loop v0 v1 v2 v3) (k0_t6_ok v0 v1 v2 v3 k0_hw4) ⟨⟩ (k0_t6_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 (Scalar.shrui (Scalar.addi v0 15#32) 4#32) (Scalar.shrui (Scalar.addi v1 15#32) 4#32) (Scalar.shrui (Scalar.addi v2 15#32) 4#32) (Scalar.shrui (Scalar.addi v3 15#32) 4#32) (Scalar.addi 0#32 (Scalar.shrui (Scalar.addi v0 15#32) 4#32)) (Scalar.addi (Scalar.addi 0#32 (Scalar.shrui (Scalar.addi v0 15#32) 4#32)) (Scalar.shrui (Scalar.addi v1 15#32) 4#32)) (Scalar.addi (Scalar.addi (Scalar.addi 0#32 (Scalar.shrui (Scalar.addi v0 15#32) 4#32)) (Scalar.shrui (Scalar.addi v1 15#32) 4#32)) (Scalar.shrui (Scalar.addi v2 15#32) 4#32)) 1#32 0#32 z)
      Scf.Loop.for (k0_t7_loop v0 v1 v2 v3) (k0_t7_ok v0 v1 v2 v3 k0_hw4) ⟨⟩ (k0_t7_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4)
      Scf.Loop.for (k0_t8_loop v0 v1 v2 v3) (k0_t8_ok v0 v1 v2 v3 k0_hw4) ⟨⟩ (k0_t8_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4)
      if Scalar.cmpi .ne (Scalar.extui (Scalar.cmpi .eq (Scalar.shrui (Scalar.addi v0 15#32) 4#32) 0#32)) 0#32 = 1#1 then do
        Scf.Loop.for k0_t9_loop k0_t9_ok ⟨⟩ (k0_t9_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))
        pure ⟨⟩
      else do
        pure ⟨⟩
      if Scalar.cmpi .ne (Scalar.extui (Scalar.cmpi .eq (Scalar.shrui (Scalar.addi v1 15#32) 4#32) 0#32)) 0#32 = 1#1 then do
        Scf.Loop.for k0_t10_loop k0_t10_ok ⟨⟩ (k0_t10_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))
        pure ⟨⟩
      else do
        pure ⟨⟩
      if Scalar.cmpi .ne (Scalar.extui (Scalar.cmpi .eq (Scalar.shrui (Scalar.addi v2 15#32) 4#32) 0#32)) 0#32 = 1#1 then do
        Scf.Loop.for k0_t11_loop k0_t11_ok ⟨⟩ (k0_t11_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))
        pure ⟨⟩
      else do
        pure ⟨⟩
      if Scalar.cmpi .ne (Scalar.extui (Scalar.cmpi .eq (Scalar.shrui (Scalar.addi v3 15#32) 4#32) 0#32)) 0#32 = 1#1 then do
        Scf.Loop.for k0_t12_loop k0_t12_ok ⟨⟩ (k0_t12_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))
        pure ⟨⟩
      else do
        pure ⟨⟩
      pure ⟨⟩ : Prog (TpuEff nD τ sig (Elt F) Λ₀ .tc) PUnit.{1})
        fun _ => Rest c v0 v1 v2 v3 O X1 X2 X3 X4 (12 * cnt v0 v1 v2 v3) (12 * cnt v0 v1 v2 v3) (zN v0 v1 v2 v3) := by
  have hs := h.sum
  have le0 : v0.toNat ≤ 768 := by omega
  have le1 : v1.toNat ≤ 768 := by omega
  have le2 : v2.toNat ≤ 768 := by omega
  have le3 : v3.toNat ≤ 768 := by omega
  unfold Rest
  simp only [bind_def', pure_def', Prog.lift, op_bind', ret_bind', bind_bind']
  iintro ⟨HT, HI⟩
  iapply (wp_seq Variants.none (c : Thread nD τ) none Set.univ (P := Turn c v0 v1 v2 v3 O X1 X2 X3 X4 0) (Mid := fun _ => Turn c v0 v1 v2 v3 O X1 X2 X3 X4 (12 * cnt v0 v1 v2 v3)) ?t5) $$ [HT HI]
  case t5 =>
    refine .trans ?_ (Scf.wp_for _ _ _ _ _ _ (k0_t5_ok v0 v1 v2 v3 k0_hw4) () _ (fun t _ => Turn c v0 v1 v2 v3 O X1 X2 X3 X4 t) fun t u => turn c h k0_hw4 t O hO X1 X2 X3 X4 u)
    iintro H
    isplitl [H]; · iexact H
    iintro %_ H
    iapply (Entails.of_eq (congrArg (Turn c v0 v1 v2 v3 O X1 X2 X3 X4) (trips5 h))); iexact H
  isplitl [HT]; · iexact HT
  iintro %_ HT
  iapply (wp_seq Variants.none (c : Thread nD τ) none Set.univ (P := emp) (Mid := fun _ => emp) ?t6) $$ [HT HI]
  case t6 =>
    refine .trans ?_ (Scf.wp_for _ _ _ _ _ _ (k0_t6_ok v0 v1 v2 v3 k0_hw4) () _ (fun t _ => (emp : sProp 𝕄)) fun t u => no6 t)
    iintro -
    isplitl []; · iempintro
    iintro %_ -
    iempintro
  isplitl []; · iempintro
  iintro %_ -
  unfold Turn
  icases HT with ⟨HO, H1, H2, H3, H4, HL, HR, HW⟩
  iapply (wp_seq Variants.none (c : Thread nD τ) none Set.univ (P := Draining c v0 v1 v2 v3 (result v0 v1 v2 v3 X1 X2 X3 X4) 0) (Mid := fun _ => Draining c v0 v1 v2 v3 (result v0 v1 v2 v3 X1 X2 X3 X4) (12 * cnt v0 v1 v2 v3 - (12 * cnt v0 v1 v2 v3 - 5))) ?t7) $$ [HO H1 H2 H3 H4 HL HR HW HI]
  case t7 =>
    refine .trans ?_ (Scf.wp_for _ _ _ _ _ _ (k0_t7_ok v0 v1 v2 v3 k0_hw4) () _ (fun t _ => Draining c v0 v1 v2 v3 (result v0 v1 v2 v3 X1 X2 X3 X4) t) fun t u => drain c h k0_hw4 t _ u)
    iintro H
    isplitl [H]; · iexact H
    iintro %_ H
    iapply (Entails.of_eq (congrArg (Draining c v0 v1 v2 v3 (result v0 v1 v2 v3 X1 X2 X3 X4)) (trips7 h))); iexact H
  isplitl [HR HW]
  · unfold Draining; isplitl [HR] <;> iassumption
  iintro %_ HT
  unfold Draining
  icases HT with ⟨HR, HW⟩
  iapply (wp_seq Variants.none (c : Thread nD τ) none Set.univ (P := emp) (Mid := fun _ => emp) ?t8) $$ [HO H1 H2 H3 H4 HL HR HW HI]
  case t8 =>
    refine .trans ?_ (Scf.wp_for _ _ _ _ _ _ (k0_t8_ok v0 v1 v2 v3 k0_hw4) () _ (fun t _ => (emp : sProp 𝕄)) fun t u => no8 t)
    iintro -
    isplitl []; · iempintro
    iintro %_ -
    iempintro
  isplitl []; · iempintro
  iintro %_ -
  ihave HZ := (z_issued c v0 v1 v2 v3 (result v0 v1 v2 v3 X1 X2 X3 X4)) $$ [HI HW]
  · isplitl [HI] <;> iassumption
  ihave HZ := (Entails.of_eq (congrArg (ZWait c v0 v1 v2 v3 (result v0 v1 v2 v3 X1 X2 X3 X4)) (zpos_0 v0 v1 v2 v3).symm)) $$ HZ
  iapply (wp_ifEmpty c v0 v1 v2 v3 0 (empty_iff (v := v0) le0) (ZWait c v0 v1 v2 v3 (result v0 v1 v2 v3 X1 X2 X3 X4)) (waits0 c v0 v1 v2 v3 (result v0 v1 v2 v3 X1 X2 X3 X4))) $$ [HO H1 H2 H3 H4 HL HR HZ]
  isplitl [HZ]; · iexact HZ
  iintro HZ
  ihave HZ := (Entails.of_eq (congrArg (ZWait c v0 v1 v2 v3 (result v0 v1 v2 v3 X1 X2 X3 X4)) (znext_0 v0 v1 v2 v3))) $$ HZ
  iapply (wp_ifEmpty c v0 v1 v2 v3 1 (empty_iff (v := v1) le1) (ZWait c v0 v1 v2 v3 (result v0 v1 v2 v3 X1 X2 X3 X4)) (waits1 c v0 v1 v2 v3 (result v0 v1 v2 v3 X1 X2 X3 X4))) $$ [HO H1 H2 H3 H4 HL HR HZ]
  isplitl [HZ]; · iexact HZ
  iintro HZ
  ihave HZ := (Entails.of_eq (congrArg (ZWait c v0 v1 v2 v3 (result v0 v1 v2 v3 X1 X2 X3 X4)) (znext_1 v0 v1 v2 v3))) $$ HZ
  iapply (wp_ifEmpty c v0 v1 v2 v3 2 (empty_iff (v := v2) le2) (ZWait c v0 v1 v2 v3 (result v0 v1 v2 v3 X1 X2 X3 X4)) (waits2 c v0 v1 v2 v3 (result v0 v1 v2 v3 X1 X2 X3 X4))) $$ [HO H1 H2 H3 H4 HL HR HZ]
  isplitl [HZ]; · iexact HZ
  iintro HZ
  ihave HZ := (Entails.of_eq (congrArg (ZWait c v0 v1 v2 v3 (result v0 v1 v2 v3 X1 X2 X3 X4)) (znext_2 v0 v1 v2 v3))) $$ HZ
  iapply (wp_ifEmpty c v0 v1 v2 v3 3 (empty_iff (v := v3) le3) (ZWait c v0 v1 v2 v3 (result v0 v1 v2 v3 X1 X2 X3 X4)) (waits3 c v0 v1 v2 v3 (result v0 v1 v2 v3 X1 X2 X3 X4))) $$ [HO H1 H2 H3 H4 HL HR HZ]
  isplitl [HZ]; · iexact HZ
  iintro HZ
  ihave HZ := (Entails.of_eq (congrArg (ZWait c v0 v1 v2 v3 (result v0 v1 v2 v3 X1 X2 X3 X4)) (znext_3 v0 v1 v2 v3))) $$ HZ
  sl_step
  isplitl [HO]; · iexact HO
  isplitl [H1]; · iexact H1
  isplitl [H2]; · iexact H2
  isplitl [H3]; · iexact H3
  isplitl [H4]; · iexact H4
  isplitl [HL]; · iexact HL
  isplitl [HR]
  · iapply (Entails.of_eq (congrArg (RingSt v0 v1 v2 v3 c (result v0 v1 v2 v3 X1 X2 X3 X4) (12 * cnt v0 v1 v2 v3)) (show 12 * cnt v0 v1 v2 v3 - 5 + (12 * cnt v0 v1 v2 v3 - (12 * cnt v0 v1 v2 v3 - 5)) = 12 * cnt v0 v1 v2 v3 by omega)))
    iexact HR
  iexact HZ

/-- The scratch of the body: the result, the transposed factor, the block of zeros, the order, the ring, the cells. -/
def Scratch (c : Dev nD) : sProp 𝕄 :=
  iprop((∃ L, pt (F := F) c LT L) ∗ (∃ Z, pt (F := F) c ZB Z) ∗ (∃ R, pt (F := F) c RING R) ∗ (∃ O, pt (F := F) c ORD O)
    ∗ semVal ((c : Thread nD τ), SemLoc.dma cc0_scratch3.sem) 0 ∗ cells0 (F := F) c ∗ ∃ W, owes (c : Thread nD τ) 0 W)

/-- The turns before the first. -/
theorem turn_start (c : Dev nD) (v0 v1 v2 v3 : BitVec 32) (G : Vec F S4x2880x5760 .f32) (f : Vec F S5x256x5760 .f32) :
    iprop(pt c RING f ∗ cells0 (F := F) c ∗ bigSep (Finset.Ico 0 (12 * cnt v0 v1 v2 v3)) (jobTodo (F := F) v0 v1 v2 v3 c)) ⊢ RingSt v0 v1 v2 v3 c G 0 (0 - 5) := by
  unfold RingSt
  rw [show 0 - 5 = 0 from rfl, Finset.Ico_self, BI.bigSep_empty, BI.bigSep_empty]
  iintro ⟨HR, HC, HT⟩
  isplitl []; · iempintro
  isplitl [HR HC]
  · iapply (ring_split c f); isplitl [HR] <;> iassumption
  isplitl []; · iempintro
  iexact HT

/-- The turns after the last. -/
theorem turn_end (c : Dev nD) (v0 v1 v2 v3 : BitVec 32) (G : Vec F S4x2880x5760 .f32) (n : ℕ) (hn : n = 12 * cnt v0 v1 v2 v3) :
    RingSt v0 v1 v2 v3 c G n n ⊢ iprop(((∃ f, pt (F := F) c RING f) ∗ cells0 (F := F) c) ∗ bigSep (Finset.Ico 0 (12 * cnt v0 v1 v2 v3)) (jobDone v0 v1 v2 v3 c G)) := by
  subst hn
  unfold RingSt
  iintro ⟨-, HF, HD, -⟩
  isplitl [HF]
  · iapply (ring_join c _); iexact HF
  iexact HD

set_option maxHeartbeats 4000000 in
/-- The body: the operands end as they were, the result holds what `result` says, the scratch is back. -/
theorem body (c : Dev nD) {v0 v1 v2 v3 : BitVec 32} (h : Fit v0 v1 v2 v3) (X0 : Vec F S4 .i32) (h0 : X0 (ix4 0) = v0) (h1 : X0 (ix4 1) = v1) (h2 : X0 (ix4 2) = v2) (h3 : X0 (ix4 3) = v3)
    (X1 X2 : Vec F S4 .f32) (X3 : Vec F S1088x3072 .bf16) (X4 : Vec F S1088x5760 .bf16) (V : Vec F S4x2880x5760 .f32) :
    iprop(pt c A0 X0 ∗ pt c A1 X1 ∗ pt c A2 X2 ∗ pt c A3 X3 ∗ pt c A4 X4 ∗ pt c DW V ∗ Scratch (F := F) c)
      ⊢ wp frame (wpE (defs₀ (F := F)) Variants.none (c : Thread nD τ) none) Set.univ (cc0_nvfp4_wgrad A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _)) fun _ =>
        iprop(pt c A0 X0 ∗ pt c A1 X1 ∗ pt c A2 X2 ∗ pt c A3 X3 ∗ pt c A4 X4 ∗ pt c DW (result v0 v1 v2 v3 X1 X2 X3 X4) ∗ Scratch (F := F) c) := by
  have hG : ∀ y : S4x2880x5760.Idx, nb v0 v1 v2 v3 (y 0) = 0 → (result v0 v1 v2 v3 X1 X2 X3 X4) y = zeroV := fun y hy => result_empty v0 v1 v2 v3 X1 X2 X3 X4 hy
  rw [cc0_nvfp4_wgrad_eq_skeleton]
  unfold cc0_nvfp4_wgrad_skel Scratch
  refine .trans ?_ (wp_fupd frame _ Set.univ _ _)
  iintro ⟨H0, H1, H2, H3, H4, HV, HL, HZ, ⟨%f, HR⟩, HO, Hs, HC, HW⟩
  ihave HV := (dw_split c v0 v1 v2 v3 V) $$ HV
  icases HV with ⟨HJ, HE⟩
  ihave HR := (turn_start c v0 v1 v2 v3 (result v0 v1 v2 v3 X1 X2 X3 X4) f) $$ [HR HC HJ]
  · isplitl [HR]; · iexact HR
    isplitl [HC] <;> iassumption
  iapply (wp_seq Variants.none (c : Thread nD τ) none Set.univ (head1 c h X0 h0 h1 h2 h3 (result v0 v1 v2 v3 X1 X2 X3 X4) hG)) $$ [H0 H1 H2 H3 H4 HE HL HZ HR HO Hs HW]
  isplitl [H0 HE HZ Hs]
  · isplitl [H0]; · iexact H0
    isplitl [HZ]; · iexact HZ
    isplitl [HE] <;> iassumption
  iintro %r HM
  unfold Mid1
  icases HM with ⟨%hr, H0, HI, HD⟩
  subst hr
  iapply (wp_seq Variants.none (c : Thread nD τ) none Set.univ (head2 c h (result v0 v1 v2 v3 X1 X2 X3 X4) hG)) $$ [H0 H1 H2 H3 H4 HL HR HO HW HI HD]
  isplitl [HI HO]
  · isplitl [HI] <;> iassumption
  iintro %r HM
  unfold Mid2
  icases HM with ⟨%hr, HI, ⟨%O, %hO, HO⟩⟩
  obtain ⟨a, b, hr⟩ := hr
  subst hr
  iapply (wp_wand_r frame _ Set.univ (Q := fun _ => Rest c v0 v1 v2 v3 O X1 X2 X3 X4 (12 * cnt v0 v1 v2 v3) (12 * cnt v0 v1 v2 v3) (zN v0 v1 v2 v3))) $$ [H0 H1 H2 H3 H4 HL HR HO HW HI HD]
  isplitl [H1 H2 H3 H4 HL HR HO HW HI]
  · iapply (loops c h (chk4 h) O hO X1 X2 X3 X4 _)
    unfold Turn
    isplitr [HI]
    · isplitl [HO]; · iexact HO
      isplitl [H1]; · iexact H1
      isplitl [H2]; · iexact H2
      isplitl [H3]; · iexact H3
      isplitl [H4]; · iexact H4
      isplitl [HL]; · iexact HL
      isplitl [HR]; · iexact HR
      iexact HW
    iexact HI
  iintro %_ HM
  unfold Rest
  icases HM with ⟨HO, H1, H2, H3, H4, HL, HR, HZ⟩
  imod (z_close c v0 v1 v2 v3 (result v0 v1 v2 v3 X1 X2 X3 X4)) $$ [HZ HD] with ⟨HE, HZ, Hs, HW⟩
  · isplitl [HZ] <;> iassumption
  ihave HR := (turn_end c v0 v1 v2 v3 (result v0 v1 v2 v3 X1 X2 X3 X4) _ rfl) $$ HR
  icases HR with ⟨⟨HR, HC⟩, HJ⟩
  imodintro
  isplitl [H0]; · iexact H0
  isplitl [H1]; · iexact H1
  isplitl [H2]; · iexact H2
  isplitl [H3]; · iexact H3
  isplitl [H4]; · iexact H4
  isplitl [HJ HE]
  · iapply (dw_join c v0 v1 v2 v3 (result v0 v1 v2 v3 X1 X2 X3 X4)); isplitl [HJ] <;> iassumption
  isplitl [HL]; · iexact HL
  isplitl [HZ]; · iexists _; iexact HZ
  isplitl [HR]; · iexact HR
  isplitl [HO]; · iexists _; iexact HO
  isplitl [Hs]; · iexact Hs
  isplitl [HC] <;> iassumption

end Cert.Proof.Kernel

end
-- ==== Proof.Kernel.Run.lean ====
/- The run: from a memory whose group sizes fit, the arguments stay, every semaphore ends at zero, and the result array is the
   one the body leaves. -/
module

public import proofs.«01_k».proof.Proof.Kernel.Body
public import proofs.«01_k».proof.Proof.Gen.Kernel.Frame

@[expose] public section

noncomputable section

namespace Cert.Proof.Kernel

open Cert.Kernel Cert.Kernel.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [BitOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The group sizes in memory fit, on every core. -/
def Fits : Prop := ∀ c : Dev nD, Fit (m ((c : Thread nD τ).loc main_arg0) (ix4 0)) (m ((c : Thread nD τ).loc main_arg0) (ix4 1))
  (m ((c : Thread nD τ).loc main_arg0) (ix4 2)) (m ((c : Thread nD τ).loc main_arg0) (ix4 3))

/-- The result array a core ends with. -/
def out (c : Dev nD) : Vec F S4x2880x5760 .f32 :=
  result (m ((c : Thread nD τ).loc main_arg0) (ix4 0)) (m ((c : Thread nD τ).loc main_arg0) (ix4 1))
    (m ((c : Thread nD τ).loc main_arg0) (ix4 2)) (m ((c : Thread nD τ).loc main_arg0) (ix4 3))
    (m ((c : Thread nD τ).loc main_arg1)) (m ((c : Thread nD τ).loc main_arg2)) (m ((c : Thread nD τ).loc main_arg3)) (m ((c : Thread nD τ).loc main_arg4))

/-- Every buffer after the call: as launched, but for the result array. -/
def after (c : Dev nD) (b : Ref sig .tc) : Buf (Elt F) ((c : Thread nD τ).loc b) :=
  Function.update (Cert.Kernel.Gen.V m c) main_v0 (out m c) b

theorem hmain_ud : Pipeline.HMain (Ix := Unit) (Name := ℕ) (U := Pipeline.UD sig nD τ) (Lvl := ℕ) cfgs 0 defs₀ Variants.none m (main (F := F)) (Cert.Kernel.Gen.V m) :=
  Pipeline.hmain_region cfgs 0 defs₀ Variants.none m main fun c => (main_chain c).trans rfl

/-- The buffer the kernel writes by its own copies. -/
def R0 : Finset (Ref sig .tc) := {main_v0}
theorem R0_sub : R0 ⊆ Pipeline.restRefs sig spec0 \ ∅ := by decide

/-- The kernel's own copy counters. -/
abbrev osem0 : Fin 6 → SemLoc sig := fun j => (![SemLoc.dma 5, SemLoc.dma 6, SemLoc.dma 7, SemLoc.dma 8, SemLoc.dma 9, SemLoc.dma 10] : Fin 6 → SemLoc sig) j
theorem ownSemFacts0 : Pipeline.OwnSemFacts spec0 osem0 := by decide

theorem cells0_eq (c : Dev nD) : (cells0 (F := F) c : sProp 𝕄)
    = iprop(semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0) := by
  unfold cells0
  rw [BI.bigSep_eq_bigSepL_of_eq [0, 1, 2, 3, 4] (by decide) (by decide)]
  rfl

theorem ownSems00_eq (c : Dev nD) :
    (Pipeline.ownSems0 (Ix := Unit) (Val := Elt F) (Name := ℕ) (U := Pipeline.UD sig nD τ) (Lvl := ℕ) (τ := τ) osem0 c : sProp 𝕄)
      = iprop(semVal ((c : Thread nD τ), SemLoc.dma 5) 0 ∗ cells0 (F := F) c) := by
  rw [cells0_eq, Pipeline.ownSems0_eq_of_list c osem0 [0, 1, 2, 3, 4, 5] (by decide) (by decide)]; rfl

theorem routed_eq (c : Dev nD) (W : (b : Ref sig .tc) → Buf (Elt F) ((c : Thread nD τ).loc b)) :
    (Pipeline.routed R0 c W : sProp 𝕄) = pt c DW (W main_v0) := by
  unfold Pipeline.routed
  rw [BI.bigSep_eq_bigSepL_of_eq [main_v0] (by decide) (by decide)]
  rfl

/-- The contents of the windows and the invariant of the call. -/
def dats (_ : Fin 1) (c : Dev nD) : Dat τ (Elt F) Unit ℕ (Pipeline.UD sig nD τ) ℕ cfg0 c where
  A w := Cert.Kernel.Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨_ + 5, h⟩ => absurd h (Nat.not_lt.2 (Nat.le_add_left _ _))
  Φ t := if t.val = 0 then Pipeline.ΦDRG osem0 spec0 ∅ R0 (Cert.Kernel.Gen.V m) (Cert.Kernel.Gen.V m) c
    else Pipeline.ΦDRG osem0 spec0 ∅ R0 (Cert.Kernel.Gen.V m) (after m) c
  q _ := fullShare
  owed _ := 0

theorem A_eq (c : Dev nD) (w : Fin cfg0.W) : (dats m 0 c).A w = Cert.Kernel.Gen.V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem iblk_0 (c : Dev nD) (t : Fin cfg0.N) : iblk m c 0 t = m ((c : Thread nD τ).loc main_arg0) := by
  show (win0_0.blk t).view.read (Elt F) (m ((c : Thread nD τ).loc main_arg0)) = _
  exact Memref.read_access_unit_zero (Elt F) main_arg0
    (show (fun a => (win0_0.index t) a * main_arg0.ty.shape.size a) = fun _ => 0 from funext fun a => Nat.zero_mul _)
    (fun a => le_of_eq (by show 0 * _ + _ = _; rw [Nat.zero_mul, Nat.zero_add])) _
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem iblk_1 (c : Dev nD) (t : Fin cfg0.N) : iblk m c 1 t = m ((c : Thread nD τ).loc main_arg1) := by
  show (win0_1.blk t).view.read (Elt F) (m ((c : Thread nD τ).loc main_arg1)) = _
  exact Memref.read_access_unit_zero (Elt F) main_arg1
    (show (fun a => (win0_1.index t) a * main_arg1.ty.shape.size a) = fun _ => 0 from funext fun a => Nat.zero_mul _)
    (fun a => le_of_eq (by show 0 * _ + _ = _; rw [Nat.zero_mul, Nat.zero_add])) _
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem iblk_2 (c : Dev nD) (t : Fin cfg0.N) : iblk m c 2 t = m ((c : Thread nD τ).loc main_arg2) := by
  show (win0_2.blk t).view.read (Elt F) (m ((c : Thread nD τ).loc main_arg2)) = _
  exact Memref.read_access_unit_zero (Elt F) main_arg2
    (show (fun a => (win0_2.index t) a * main_arg2.ty.shape.size a) = fun _ => 0 from funext fun a => Nat.zero_mul _)
    (fun a => le_of_eq (by show 0 * _ + _ = _; rw [Nat.zero_mul, Nat.zero_add])) _
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem iblk_3 (c : Dev nD) (t : Fin cfg0.N) : iblk m c 3 t = m ((c : Thread nD τ).loc main_arg3) := by
  show (win0_3.blk t).view.read (Elt F) (m ((c : Thread nD τ).loc main_arg3)) = _
  exact Memref.read_access_unit_zero (Elt F) main_arg3
    (show (fun a => (win0_3.index t) a * main_arg3.ty.shape.size a) = fun _ => 0 from funext fun a => Nat.zero_mul _)
    (fun a => le_of_eq (by show 0 * _ + _ = _; rw [Nat.zero_mul, Nat.zero_add])) _
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
theorem iblk_4 (c : Dev nD) (t : Fin cfg0.N) : iblk m c 4 t = m ((c : Thread nD τ).loc main_arg4) := by
  show (win0_4.blk t).view.read (Elt F) (m ((c : Thread nD τ).loc main_arg4)) = _
  exact Memref.read_access_unit_zero (Elt F) main_arg4
    (show (fun a => (win0_4.index t) a * main_arg4.ty.shape.size a) = fun _ => 0 from funext fun a => Nat.zero_mul _)
    (fun a => le_of_eq (by show 0 * _ + _ = _; rw [Nat.zero_mul, Nat.zero_add])) _

theorem inv_first (c : Dev nD) (t : Fin (cfg0.N + 1)) (h : t.val = 0) :
    (dats m 0 c).Φ t = Pipeline.ΦDRG osem0 spec0 ∅ R0 (Cert.Kernel.Gen.V m) (Cert.Kernel.Gen.V m) c := by
  dsimp only [dats]; exact if_pos h
theorem inv_last (c : Dev nD) (t : Fin (cfg0.N + 1)) (h : t.val ≠ 0) :
    (dats m 0 c).Φ t = Pipeline.ΦDRG osem0 spec0 ∅ R0 (Cert.Kernel.Gen.V m) (after m) c := by
  dsimp only [dats]; exact if_neg h

/-- The staged operands at a point, before and after the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem after_v0 (c : Dev nD) : after m c main_v0 = out m c := by unfold after; rw [Function.update_self]

/-- A whole buffer held through its memref, and held. -/
theorem whole_in (c : Dev nD) (b : Ref sig .tc) (X : b.ty.Contents (Elt F)) :
    (owns (c : Thread nD τ) (Memref.whole b) fullShare X : sProp 𝕄) ⊢ (((c : Thread nD τ).loc b) ↦{fullShare} X) := .of_eq (owns_whole (c : Thread nD τ) b fullShare X)
theorem whole_out (c : Dev nD) (b : Ref sig .tc) (X : b.ty.Contents (Elt F)) :
    (((c : Thread nD τ).loc b) ↦{fullShare} X : sProp 𝕄) ⊢ owns (c : Thread nD τ) (Memref.whole b) fullShare X := .of_eq (owns_whole (c : Thread nD τ) b fullShare X).symm
theorem staged_in0 (c : Dev nD) : iprop(∃ d, owns (c : Thread nD τ) (st0_0 t0_0) fullShare ((dats m 0 c).before 0 t0_0 d)) ⊢ pt c A0 (m ((c : Thread nD τ).loc main_arg0)) := by
  simp only [before_0, iblk_0]
  iintro ⟨%d, H⟩
  iapply (whole_in c cc0_stg0_0 (m ((c : Thread nD τ).loc main_arg0))); iexact H
theorem staged_out0 (c : Dev nD) : pt c A0 (m ((c : Thread nD τ).loc main_arg0)) ⊢ owns (c : Thread nD τ) (st0_0 t0_0) fullShare ((dats m 0 c).after 0 t0_0) := by
  rw [after_0, iblk_0]
  exact whole_out c cc0_stg0_0 (m ((c : Thread nD τ).loc main_arg0))
theorem staged_in1 (c : Dev nD) : iprop(∃ d, owns (c : Thread nD τ) (st0_1 t0_0) fullShare ((dats m 0 c).before 1 t0_0 d)) ⊢ pt c A1 (m ((c : Thread nD τ).loc main_arg1)) := by
  simp only [before_1, iblk_1]
  iintro ⟨%d, H⟩
  iapply (whole_in c cc0_stg1_0 (m ((c : Thread nD τ).loc main_arg1))); iexact H
theorem staged_out1 (c : Dev nD) : pt c A1 (m ((c : Thread nD τ).loc main_arg1)) ⊢ owns (c : Thread nD τ) (st0_1 t0_0) fullShare ((dats m 0 c).after 1 t0_0) := by
  rw [after_1, iblk_1]
  exact whole_out c cc0_stg1_0 (m ((c : Thread nD τ).loc main_arg1))
theorem staged_in2 (c : Dev nD) : iprop(∃ d, owns (c : Thread nD τ) (st0_2 t0_0) fullShare ((dats m 0 c).before 2 t0_0 d)) ⊢ pt c A2 (m ((c : Thread nD τ).loc main_arg2)) := by
  simp only [before_2, iblk_2]
  iintro ⟨%d, H⟩
  iapply (whole_in c cc0_stg2_0 (m ((c : Thread nD τ).loc main_arg2))); iexact H
theorem staged_out2 (c : Dev nD) : pt c A2 (m ((c : Thread nD τ).loc main_arg2)) ⊢ owns (c : Thread nD τ) (st0_2 t0_0) fullShare ((dats m 0 c).after 2 t0_0) := by
  rw [after_2, iblk_2]
  exact whole_out c cc0_stg2_0 (m ((c : Thread nD τ).loc main_arg2))
theorem staged_in3 (c : Dev nD) : iprop(∃ d, owns (c : Thread nD τ) (st0_3 t0_0) fullShare ((dats m 0 c).before 3 t0_0 d)) ⊢ pt c A3 (m ((c : Thread nD τ).loc main_arg3)) := by
  simp only [before_3, iblk_3]
  iintro ⟨%d, H⟩
  iapply (whole_in c cc0_stg3_0 (m ((c : Thread nD τ).loc main_arg3))); iexact H
theorem staged_out3 (c : Dev nD) : pt c A3 (m ((c : Thread nD τ).loc main_arg3)) ⊢ owns (c : Thread nD τ) (st0_3 t0_0) fullShare ((dats m 0 c).after 3 t0_0) := by
  rw [after_3, iblk_3]
  exact whole_out c cc0_stg3_0 (m ((c : Thread nD τ).loc main_arg3))
theorem staged_in4 (c : Dev nD) : iprop(∃ d, owns (c : Thread nD τ) (st0_4 t0_0) fullShare ((dats m 0 c).before 4 t0_0 d)) ⊢ pt c A4 (m ((c : Thread nD τ).loc main_arg4)) := by
  simp only [before_4, iblk_4]
  iintro ⟨%d, H⟩
  iapply (whole_in c cc0_stg4_0 (m ((c : Thread nD τ).loc main_arg4))); iexact H
theorem staged_out4 (c : Dev nD) : pt c A4 (m ((c : Thread nD τ).loc main_arg4)) ⊢ owns (c : Thread nD τ) (st0_4 t0_0) fullShare ((dats m 0 c).after 4 t0_0) := by
  rw [after_4, iblk_4]
  exact whole_out c cc0_stg4_0 (m ((c : Thread nD τ).loc main_arg4))

/-- What the body needs and leaves. -/
def Ops (c : Dev nD) (X : Vec F S4x2880x5760 .f32) : sProp 𝕄 :=
  iprop(pt c A0 (m ((c : Thread nD τ).loc main_arg0)) ∗ pt c A1 (m ((c : Thread nD τ).loc main_arg1))
    ∗ pt c A2 (m ((c : Thread nD τ).loc main_arg2)) ∗ pt c A3 (m ((c : Thread nD τ).loc main_arg3)) ∗ pt c A4 (m ((c : Thread nD τ).loc main_arg4))
    ∗ pt c DW X ∗ Scratch (F := F) c)

theorem body_at (hfit : Fits m) (c : Dev nD) (X : Vec F S4x2880x5760 .f32) :
    Ops m c X ⊢ wp frame (wpE (defs₀ (F := F)) Variants.none (c : Thread nD τ) none) Set.univ (bodyAt0 t0_0) (fun _ => Ops m c (out m c)) :=
  body c (hfit c) (m ((c : Thread nD τ).loc main_arg0)) rfl rfl rfl rfl (m ((c : Thread nD τ).loc main_arg1)) (m ((c : Thread nD τ).loc main_arg2))
      (m ((c : Thread nD τ).loc main_arg3)) (m ((c : Thread nD τ).loc main_arg4)) X

theorem sound_body (hfit : Fits m) (c : Dev nD) (t : Fin cfg0.N) :
    bodyPre m c t ⊢ wp frame (wpE (defs₀ (F := F)) Variants.none (c : Thread nD τ) none) Set.univ (bodyAt0 t) (fun _ => bodyPost m c t) := by
  obtain rfl : t = t0_0 := fin_N0 t
  unfold bodyPre bodyPost
  rw [inv_first m c (Fin.castSucc t0_0) rfl, inv_last m c (Fin.succ t0_0) (Nat.succ_ne_zero _),
    Pipeline.ΦDRG_eq, Pipeline.ΦDRG_eq, routed_eq, routed_eq, after_v0, ownSems00_eq, scopedRest0_eq]
  unfold Dat.owesAt Pipeline.owesWithin
  rw [show (dats m 0 c).owed (Fin.castSucc t0_0) = 0 from rfl, show (dats m 0 c).owed (Fin.succ t0_0) = 0 from rfl]
  iintro ⟨⟨⟨HL, HZ, HR, HO⟩, Hg, ⟨Hs, HC⟩, HH, HV⟩, ⟨%W, -, HW⟩, H0, H1, H2, H3, H4⟩
  ihave H0 := (staged_in0 m c) $$ H0
  ihave H1 := (staged_in1 m c) $$ H1
  ihave H2 := (staged_in2 m c) $$ H2
  ihave H3 := (staged_in3 m c) $$ H3
  ihave H4 := (staged_in4 m c) $$ H4
  iapply (wp_wand_r frame _ Set.univ (Q := fun _ => Ops m c (out m c))) $$ [H0 H1 H2 H3 H4 HV HL HZ HR HO Hs HC HW Hg HH]
  isplitl [H0 H1 H2 H3 H4 HV HL HZ HR HO Hs HC HW]
  · iapply (body_at m hfit c (Cert.Kernel.Gen.V m c main_v0))
    unfold Ops Scratch
    isplitl [H0]; · iexact H0
    isplitl [H1]; · iexact H1
    isplitl [H2]; · iexact H2
    isplitl [H3]; · iexact H3
    isplitl [H4]; · iexact H4
    isplitl [HV]; · iexact HV
    isplitl [HL]; · iexact HL
    isplitl [HZ]; · iexact HZ
    isplitl [HR]; · iexact HR
    isplitl [HO]; · iexact HO
    isplitl [Hs]; · iexact Hs
    isplitl [HC]; · iexact HC
    iexists W; iexact HW
  iintro %_ HM
  unfold Ops Scratch
  icases HM with ⟨H0, H1, H2, H3, H4, HV, HL, HZ, HR, HO, Hs, HC, ⟨%W', HW'⟩⟩
  isplitl [HL HZ HR HO Hg Hs HC HH HV]
  · isplitl [HL HZ HR HO]
    · isplitl [HL]; · iexact HL
      isplitl [HZ]; · iexact HZ
      isplitl [HR]; · iexact HR
      iexact HO
    isplitl [Hg]; · iexact Hg
    isplitl [Hs HC]
    · isplitl [Hs]; · iexact Hs
      iexact HC
    isplitl [HH]; · iexact HH
    iexact HV
  isplitl [HW']
  · iexists W'; isplitr; · ipureintro; exact fun _ _ => Or.inl trivial
    iexact HW'
  isplitl [H0]; · iapply (staged_out0 m c); iexact H0
  isplitl [H1]; · iapply (staged_out1 m c); iexact H1
  isplitl [H2]; · iapply (staged_out2 m c); iexact H2
  isplitl [H3]; · iapply (staged_out3 m c); iexact H3
  iapply (staged_out4 m c); iexact H4

theorem defs₀_row (t : Fin cfg0.N) :
    defs₀ (F := F) .tc cfg0.body (cfg0.bodyArgs t (cfg0.slots t)) = bodyAt0 t := by
  unfold defs₀; rw [Defs.onTc_tc]

theorem body_obligation (hfit : Fits m) (c : Dev nD) : BodyObligation (dats (F := F) m 0 c) (defs₀ (F := F)) Variants.none () Set.univ := fun t => by
  rw [bigSep_W0, bigSep_W0, defs₀_row]
  exact triple_restated (sound_body m hfit c t) rfl .rfl fun _ => .rfl

set_option backward.isDefEq.respectTransparency.types false in
theorem run_main (hfit : Fits m) : θ_run defs (onTc (τ := τ) (main (F := F))) (s₀ m ρ)
    (fun r => Pipeline.FramePostRG cfgs (dats m) 0 R0 (Cert.Kernel.Gen.V m) (after m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m hfit c).loose) (hshare := fun c => (dats m 0 c).share_full fun _ => rfl)
    (howed := fun _ _ => rfl) (V := Cert.Kernel.Gen.V m) (hmain := hmain_ud m) (hA := A_eq m) (G := after m)
    (hin := fun c => .of_eq (inv_first m c _ rfl).symm) (hout := fun c => .of_eq (inv_last m c _ (by decide))) (hQ' := fun _ h => h)

/-- The run: the result, the arguments as they were, every semaphore at zero. -/
theorem run (hfit : Fits m) : θ_run defs (onTc (τ := τ) (main (F := F))) ⟨m, fun _ => 0, ρ⟩ (fun r => (∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.written c (b := main_v0) (by decide)).trans (after_v0 m c),
      ((h.1.toR c).1 0).trans (((dats m 0 c).arrAt_in 0 rfl _).trans (A_eq m c 0)),
      ((h.1.toR c).1 1).trans (((dats m 0 c).arrAt_in 1 rfl _).trans (A_eq m c 1)),
      ((h.1.toR c).1 2).trans (((dats m 0 c).arrAt_in 2 rfl _).trans (A_eq m c 2)),
      ((h.1.toR c).1 3).trans (((dats m 0 c).arrAt_in 3 rfl _).trans (A_eq m c 3)),
      ((h.1.toR c).1 4).trans (((dats m 0 c).arrAt_in 4 rfl _).trans (A_eq m c 4))⟩, h.2⟩) (run_main m ρ hfit)

end Cert.Proof.Kernel

end
-- ==== Proof.KernelIdeal.Facts.lean ====
/- The words the program computes from the group sizes, as numbers: how many trips each loop makes, where each access
   starts, which branch a trip takes; and, from them, that every access lies inside its buffer. -/
module

public import proofs.«01_k».proof.Proof.Gen.KernelIdeal.Skeleton
public import proofs.«01_k».proof.Proof.Words

@[expose] public section

namespace Cert.Proof.KernelIdeal

open Cert.KernelIdeal Cert.Proof.Words
open Idealize.ShloMosaic

variable {v0 v1 v2 v3 : BitVec 32} (h : Fit v0 v1 v2 v3)

/-! ## Trips -/

include h

theorem trips5 : (k0_t5_loop v0 v1 v2 v3).trips = 12 * cnt v0 v1 v2 v3 :=
  trips_nat (u := ub5 v0 v1 v2 v3) h.ub5_nat (by have := cnt_le (v0 := v0) (v1 := v1) (v2 := v2) (v3 := v3); omega)

theorem ok5 : (k0_t5_loop v0 v1 v2 v3).OK :=
  ok_nat (u := ub5 v0 v1 v2 v3) h.ub5_nat (by have := cnt_le (v0 := v0) (v1 := v1) (v2 := v2) (v3 := v3); omega)

theorem trips7 : (k0_t7_loop v0 v1 v2 v3).trips = 12 * cnt v0 v1 v2 v3 - (12 * cnt v0 v1 v2 v3 - 5) :=
  trips_nat (u := ub7 v0 v1 v2 v3) h.ub7_nat (by have := cnt_le (v0 := v0) (v1 := v1) (v2 := v2) (v3 := v3); omega)

theorem ok7 : (k0_t7_loop v0 v1 v2 v3).OK :=
  ok_nat (u := ub7 v0 v1 v2 v3) h.ub7_nat (by have := cnt_le (v0 := v0) (v1 := v1) (v2 := v2) (v3 := v3); omega)

omit h in
/-- A loop whose two bounds are one number makes no trip. -/
theorem trips_self {l u : BitVec 32} (e : l = u) : Scf.trips l u 1#32 = 0 := by
  subst e; unfold Scf.trips; rw [show (1#32 : BitVec 32).toInt = 1 from rfl]; omega

omit h in
theorem ok_self {l u : BitVec 32} (e : l = u) (hl : l.toNat < 2 ^ 31) : Scf.OK l u 1#32 := by
  refine ⟨by decide, ?_⟩
  rw [trips_self e, toInt_small hl]; simp; omega

omit h in
theorem bounds6 : (k0_t6_loop v0 v1 v2 v3).lb = (k0_t6_loop v0 v1 v2 v3).ub := by
  show Scalar.addi 0#32 (Scalar.muli (Scalar.divsi _ 1#32) 1#32) = Scalar.addi 0#32 _
  rw [Scalar.muli_divsi_one]

omit h in
theorem bounds8 : (k0_t8_loop v0 v1 v2 v3).lb = (k0_t8_loop v0 v1 v2 v3).ub := by
  show Scalar.addi 0#32 (Scalar.muli (Scalar.divsi _ 1#32) 1#32) = Scalar.addi 0#32 _
  rw [Scalar.muli_divsi_one]

omit h in
theorem trips6 : (k0_t6_loop v0 v1 v2 v3).trips = 0 := trips_self bounds6
omit h in
theorem trips8 : (k0_t8_loop v0 v1 v2 v3).trips = 0 := trips_self bounds8

theorem ok6 : (k0_t6_loop v0 v1 v2 v3).OK :=
  ok_self bounds6 (by
    have := cnt_le (v0 := v0) (v1 := v1) (v2 := v2) (v3 := v3)
    have e : (k0_t6_loop v0 v1 v2 v3).lb = ub5 v0 v1 v2 v3 := rfl
    rw [e, h.ub5_nat]; omega)
theorem ok8 : (k0_t8_loop v0 v1 v2 v3).OK :=
  ok_self bounds8 (by
    have := cnt_le (v0 := v0) (v1 := v1) (v2 := v2) (v3 := v3)
    have e : (k0_t8_loop v0 v1 v2 v3).lb = ub7 v0 v1 v2 v3 := rfl
    rw [e, h.ub7_nat]; omega)

omit h in
def no6 {α : Sort*} (k : Fin (k0_t6_loop v0 v1 v2 v3).trips) : α := (k.cast trips6).elim0
omit h in
def no8 {α : Sort*} (k : Fin (k0_t8_loop v0 v1 v2 v3).trips) : α := (k.cast trips8).elim0

/-! ## The loop over slabs: the number of the slab, its remainder by twelve and by five -/

variable (k : Fin (k0_t5_loop v0 v1 v2 v3).trips)

theorem klt : k.val < 12 * cnt v0 v1 v2 v3 := lt_of_lt_of_eq k.isLt (trips5 h)
theorem klt48 : k.val < 48 := by
  have := klt h k; have := cnt_le (v0 := v0) (v1 := v1) (v2 := v2) (v3 := v3); omega
theorem kmod : k.val % 12 < 12 := Nat.mod_lt _ (by decide)

omit h in
/-- The words: the slab's number in its expert, -/
def remW (k : Fin (k0_t5_loop v0 v1 v2 v3).trips) : BitVec 32 := Scalar.remsi (jW k.val) 12#32
omit h in
/-- its first row, -/
def slabW (k : Fin (k0_t5_loop v0 v1 v2 v3).trips) : BitVec 32 := Scalar.muli (remW k) 256#32
omit h in
/-- and its ring slot. -/
def slotW (k : Fin (k0_t5_loop v0 v1 v2 v3).trips) : BitVec 32 := Scalar.remsi (jW k.val) 5#32

theorem jW_k : (jW k.val).toNat = k.val := jW_nat (by have := klt48 h k; omega)
theorem quo_nat : (Scalar.divsi (jW k.val) 12#32).toNat = k.val / 12 :=
  divsi_nat (jW_k h k) (by have := klt48 h k; omega) 12 (by decide) (by decide)
theorem rem_nat : (remW k).toNat = k.val % 12 :=
  remsi_nat (jW_k h k) (by have := klt48 h k; omega) 12 (by decide) (by decide)
theorem slot_nat : (slotW k).toNat = k.val % 5 :=
  remsi_nat (jW_k h k) (by have := klt48 h k; omega) 5 (by decide) (by decide)
theorem slab_nat : (slabW k).toNat = 256 * (k.val % 12) := by
  have := rem_nat h k; have := klt48 h k; have := kmod h k
  show (remW k * 256#32).toNat = _
  rw [BitVec.toNat_mul, rem_nat h k]; simp; omega

/-- The slab waited for at trip `k`. -/
theorem back_nat (hk : 5 ≤ k.val) : (Scalar.subi (jW k.val) 5#32).toNat = k.val - 5 := by
  have := klt48 h k
  show (jW k.val - 5#32).toNat = _
  rw [BitVec.toNat_sub, jW_k h k]; simp; omega

theorem cond5_iff : k0_cond5 v0 v1 v2 v3 k = 1#1 ↔ 5 ≤ k.val := by
  have := klt48 h k; have e := jW_k h k
  refine (guard_iff _).trans ((sge_iff (x := jW k.val) (y := 5#32) (by omega) (by decide)).trans ?_)
  rw [e]; rfl
theorem cond6_iff (hk : 5 ≤ k.val) : k0_cond6 v0 v1 v2 v3 k = 1#1 ↔ (k.val - 5) % 12 ≠ 11 := by
  have := klt48 h k
  refine (guard_iff _).trans ((ne_iff (x := Scalar.remsi (Scalar.subi (jW k.val) 5#32) 12#32) (y := 11#32)).trans ?_)
  rw [remsi_nat (back_nat h k hk) (by omega) 12 (by decide) (by decide)]; rfl
theorem cond7_iff (hk : 5 ≤ k.val) : k0_cond7 v0 v1 v2 v3 k = 1#1 ↔ (k.val - 5) % 12 = 11 := by
  have := klt48 h k
  refine (guard_iff _).trans ((eq_iff (x := Scalar.remsi (Scalar.subi (jW k.val) 5#32) 12#32) (y := 11#32)).trans ?_)
  rw [remsi_nat (back_nat h k hk) (by omega) 12 (by decide) (by decide)]; rfl
theorem cond11_iff : k0_cond11 v0 v1 v2 v3 k = 1#1 ↔ k.val % 12 ≠ 11 := by
  refine (guard_iff _).trans ((ne_iff (x := remW k) (y := 11#32)).trans ?_)
  rw [rem_nat h k]; rfl
theorem cond12_iff : k0_cond12 v0 v1 v2 v3 k = 1#1 ↔ k.val % 12 = 11 := by
  refine (guard_iff _).trans ((eq_iff (x := remW k) (y := 11#32)).trans ?_)
  rw [rem_nat h k]; rfl

theorem kb_small (e : Fin 4) : (kbW v0 v1 v2 v3 (BitVec.ofNat 32 e.val)).toNat < 2 ^ 31 := by
  have := h.nb_le e; rw [h.kbW_nat]; omega
theorem cond8_iff (e : Fin 4) : k0_cond8 v0 v1 v2 v3 (BitVec.ofNat 32 e.val) = 1#1 ↔ 0 < nb v0 v1 v2 v3 e ∧ 16 * nb v0 v1 v2 v3 e ≤ 256 := by
  refine (guard_iff _).trans ((andi_iff _ _).trans (and_congr ((sgt_iff (x := kbW v0 v1 v2 v3 (BitVec.ofNat 32 e.val)) (y := 0#32) (kb_small h e) (by decide)).trans ?_)
    ((sle_iff (x := kbW v0 v1 v2 v3 (BitVec.ofNat 32 e.val)) (y := 16#32) (kb_small h e) (by decide)).trans ?_)))
  · rw [h.kbW_nat]; rfl
  · rw [h.kbW_nat]; simp; omega
theorem cond9_iff (e : Fin 4) : k0_cond9 v0 v1 v2 v3 (BitVec.ofNat 32 e.val) = 1#1 ↔ 16 < nb v0 v1 v2 v3 e ∧ 16 * nb v0 v1 v2 v3 e ≤ 512 := by
  refine (guard_iff _).trans ((andi_iff _ _).trans (and_congr ((sgt_iff (x := kbW v0 v1 v2 v3 (BitVec.ofNat 32 e.val)) (y := 16#32) (kb_small h e) (by decide)).trans ?_)
    ((sle_iff (x := kbW v0 v1 v2 v3 (BitVec.ofNat 32 e.val)) (y := 32#32) (kb_small h e) (by decide)).trans ?_)))
  · rw [h.kbW_nat]; rfl
  · rw [h.kbW_nat]; simp; omega
theorem cond10_iff (e : Fin 4) : k0_cond10 v0 v1 v2 v3 (BitVec.ofNat 32 e.val) = 1#1 ↔ 32 < nb v0 v1 v2 v3 e ∧ 16 * nb v0 v1 v2 v3 e ≤ 768 := by
  refine (guard_iff _).trans ((andi_iff _ _).trans (and_congr ((sgt_iff (x := kbW v0 v1 v2 v3 (BitVec.ofNat 32 e.val)) (y := 32#32) (kb_small h e) (by decide)).trans ?_)
    ((sle_iff (x := kbW v0 v1 v2 v3 (BitVec.ofNat 32 e.val)) (y := 48#32) (kb_small h e) (by decide)).trans ?_)))
  · rw [h.kbW_nat]; rfl
  · rw [h.kbW_nat]; simp; omega

/-! ## Every access inside its buffer -/

theorem k0W_dvd (e : Fin 4) : 16 ∣ (k0W v0 v1 v2 (BitVec.ofNat 32 e.val)).toNat := by
  rw [h.k0W_nat]; exact ⟨_, rfl⟩

omit h in
theorem order_inb (e : Fin 4) : ∀ a, (![(BitVec.ofNat 32 e.val).toNat] : Fin 1 → ℕ) a + S1.size a ≤ S4.size a := by
  intro a; have := e.isLt
  fin_cases a; simp; omega

theorem lhs_inb (e : Fin 4) {n : ℕ} (hn' : n ≤ 16 * nb v0 v1 v2 v3 e + 240) :
    ∀ a, (![(k0W v0 v1 v2 (BitVec.ofNat 32 e.val)).toNat, (slabW k).toNat] : Fin 2 → ℕ) a + (⟨2, ![n, 256]⟩ : Shape).size a ≤ S1088x3072.size a := by
  intro a; have := h.st_nb e; have := kmod h k
  rw [h.k0W_nat, slab_nat h k]
  fin_cases a
  · show 16 * _ + n ≤ 1088; omega
  · show 256 * _ + 256 ≤ 3072; omega

theorem rhs_inb (e : Fin 4) {n w o : ℕ} (hn' : n ≤ 16 * nb v0 v1 v2 v3 e + 240) (ho : o + w ≤ 5760) :
    ∀ a, (![(k0W v0 v1 v2 (BitVec.ofNat 32 e.val)).toNat, o] : Fin 2 → ℕ) a + (⟨2, ![n, w]⟩ : Shape).size a ≤ S1088x5760.size a := by
  intro a; have := h.st_nb e
  rw [h.k0W_nat]
  fin_cases a
  · show 16 * _ + n ≤ 1088; omega
  · exact ho

theorem ring_inb {w o : ℕ} (ho : o + w ≤ 5760) :
    ∀ a, (![(slotW k).toNat, 0, o] : Fin 3 → ℕ) a + (⟨3, ![1, 256, w]⟩ : Shape).size a ≤ S5x256x5760.size a := by
  intro a; have : k.val % 5 < 5 := Nat.mod_lt _ (by decide)
  rw [slot_nat h k]
  fin_cases a
  · show k.val % 5 + 1 ≤ 5; omega
  · show 0 + 256 ≤ 256; omega
  · exact ho

theorem slotrow_inb {x n : ℕ} (hx : x < 5) (hn : n ≤ 256) :
    ∀ a, (![x, 0, 0] : Fin 3 → ℕ) a + (⟨3, ![1, n, 5760]⟩ : Shape).size a ≤ S5x256x5760.size a := by
  intro a
  fin_cases a
  · show x + 1 ≤ 5; omega
  · show 0 + n ≤ 256; omega
  · show 0 + 5760 ≤ 5760; omega

omit h in
theorem cell_inb {x : ℕ} (hx : x < 5) : ∀ a, (![x] : Fin 1 → ℕ) a + S1.size a ≤ S5.size a := by
  intro a; fin_cases a; show x + 1 ≤ 5; omega

omit h in
theorem word_inb {x : ℕ} (hx : x < 4) : ∀ a, (![x] : Fin 1 → ℕ) a + S1.size a ≤ S4.size a := by
  intro a; fin_cases a; show x + 1 ≤ 4; omega

theorem out_inb (e : Fin 4) {n : ℕ} (hn : 256 * (k.val % 12) + n ≤ 2880) :
    ∀ a, (![(BitVec.ofNat 32 e.val).toNat, (slabW k).toNat, 0] : Fin 3 → ℕ) a + (⟨3, ![1, n, 5760]⟩ : Shape).size a ≤ S4x2880x5760.size a := by
  intro a; have := e.isLt
  rw [slab_nat h k]
  fin_cases a
  · show (BitVec.ofNat 32 e.val).toNat + 1 ≤ 4; simp; omega
  · exact hn
  · show 0 + 5760 ≤ 5760; omega

theorem fits8 (e : Fin 4) (hc : k0_cond8 v0 v1 v2 v3 (BitVec.ofNat 32 e.val) = 1#1) : 256 ≤ 16 * nb v0 v1 v2 v3 e + 240 := by
  have := (cond8_iff h e).1 hc; omega
theorem fits9 (e : Fin 4) (hc : k0_cond9 v0 v1 v2 v3 (BitVec.ofNat 32 e.val) = 1#1) : 512 ≤ 16 * nb v0 v1 v2 v3 e + 240 := by
  have := (cond9_iff h e).1 hc; omega
theorem fits10 (e : Fin 4) (hc : k0_cond10 v0 v1 v2 v3 (BitVec.ofNat 32 e.val) = 1#1) : 768 ≤ 16 * nb v0 v1 v2 v3 e + 240 := by
  have := (cond10_iff h e).1 hc; omega

/-- The condition the kernel states at a trip, at the number of any expert. -/
theorem chk5 (e : Fin 4) : k0_chk5 v0 v1 v2 v3 k (BitVec.ofNat 32 e.val) :=
  ⟨⟨k0W_dvd h e,
    order_inb e,
    fun hc => lhs_inb h k e (n := 256) (fits8 h e hc),
    fun hc => rhs_inb h e (n := 256) (w := 512) (o := 0) (fits8 h e hc) (by omega),
    fun _ => ring_inb h k (w := 512) (o := 0) (by omega),
    fun hc => rhs_inb h e (n := 256) (w := 512) (o := 512) (fits8 h e hc) (by omega),
    fun _ => ring_inb h k (w := 512) (o := 512) (by omega),
    fun hc => rhs_inb h e (n := 256) (w := 512) (o := 1024) (fits8 h e hc) (by omega),
    fun _ => ring_inb h k (w := 512) (o := 1024) (by omega),
    fun hc => rhs_inb h e (n := 256) (w := 512) (o := 1536) (fits8 h e hc) (by omega),
    fun _ => ring_inb h k (w := 512) (o := 1536) (by omega),
    fun hc => rhs_inb h e (n := 256) (w := 512) (o := 2048) (fits8 h e hc) (by omega),
    fun _ => ring_inb h k (w := 512) (o := 2048) (by omega),
    fun hc => rhs_inb h e (n := 256) (w := 512) (o := 2560) (fits8 h e hc) (by omega),
    fun _ => ring_inb h k (w := 512) (o := 2560) (by omega),
    fun hc => rhs_inb h e (n := 256) (w := 512) (o := 3072) (fits8 h e hc) (by omega),
    fun _ => ring_inb h k (w := 512) (o := 3072) (by omega),
    fun hc => rhs_inb h e (n := 256) (w := 512) (o := 3584) (fits8 h e hc) (by omega),
    fun _ => ring_inb h k (w := 512) (o := 3584) (by omega),
    fun hc => rhs_inb h e (n := 256) (w := 512) (o := 4096) (fits8 h e hc) (by omega),
    fun _ => ring_inb h k (w := 512) (o := 4096) (by omega),
    fun hc => rhs_inb h e (n := 256) (w := 512) (o := 4608) (fits8 h e hc) (by omega),
    fun _ => ring_inb h k (w := 512) (o := 4608) (by omega),
    fun hc => rhs_inb h e (n := 256) (w := 512) (o := 5120) (fits8 h e hc) (by omega),
    fun _ => ring_inb h k (w := 512) (o := 5120) (by omega),
    fun hc => rhs_inb h e (n := 256) (w := 128) (o := 5632) (fits8 h e hc) (by omega),
    fun _ => ring_inb h k (w := 128) (o := 5632) (by omega),
    fun hc => lhs_inb h k e (n := 512) (fits9 h e hc),
    fun hc => rhs_inb h e (n := 512) (w := 512) (o := 0) (fits9 h e hc) (by omega),
    fun _ => ring_inb h k (w := 512) (o := 0) (by omega),
    fun hc => rhs_inb h e (n := 512) (w := 512) (o := 512) (fits9 h e hc) (by omega),
    fun _ => ring_inb h k (w := 512) (o := 512) (by omega)⟩,
   ⟨fun hc => rhs_inb h e (n := 512) (w := 512) (o := 1024) (fits9 h e hc) (by omega),
    fun _ => ring_inb h k (w := 512) (o := 1024) (by omega),
    fun hc => rhs_inb h e (n := 512) (w := 512) (o := 1536) (fits9 h e hc) (by omega),
    fun _ => ring_inb h k (w := 512) (o := 1536) (by omega),
    fun hc => rhs_inb h e (n := 512) (w := 512) (o := 2048) (fits9 h e hc) (by omega),
    fun _ => ring_inb h k (w := 512) (o := 2048) (by omega),
    fun hc => rhs_inb h e (n := 512) (w := 512) (o := 2560) (fits9 h e hc) (by omega),
    fun _ => ring_inb h k (w := 512) (o := 2560) (by omega),
    fun hc => rhs_inb h e (n := 512) (w := 512) (o := 3072) (fits9 h e hc) (by omega),
    fun _ => ring_inb h k (w := 512) (o := 3072) (by omega),
    fun hc => rhs_inb h e (n := 512) (w := 512) (o := 3584) (fits9 h e hc) (by omega),
    fun _ => ring_inb h k (w := 512) (o := 3584) (by omega),
    fun hc => rhs_inb h e (n := 512) (w := 512) (o := 4096) (fits9 h e hc) (by omega),
    fun _ => ring_inb h k (w := 512) (o := 4096) (by omega),
    fun hc => rhs_inb h e (n := 512) (w := 512) (o := 4608) (fits9 h e hc) (by omega),
    fun _ => ring_inb h k (w := 512) (o := 4608) (by omega),
    fun hc => rhs_inb h e (n := 512) (w := 512) (o := 5120) (fits9 h e hc) (by omega),
    fun _ => ring_inb h k (w := 512) (o := 5120) (by omega),
    fun hc => rhs_inb h e (n := 512) (w := 128) (o := 5632) (fits9 h e hc) (by omega),
    fun _ => ring_inb h k (w := 128) (o := 5632) (by omega),
    fun hc => lhs_inb h k e (n := 768) (fits10 h e hc),
    fun hc => rhs_inb h e (n := 768) (w := 512) (o := 0) (fits10 h e hc) (by omega),
    fun _ => ring_inb h k (w := 512) (o := 0) (by omega),
    fun hc => rhs_inb h e (n := 768) (w := 512) (o := 512) (fits10 h e hc) (by omega),
    fun _ => ring_inb h k (w := 512) (o := 512) (by omega),
    fun hc => rhs_inb h e (n := 768) (w := 512) (o := 1024) (fits10 h e hc) (by omega),
    fun _ => ring_inb h k (w := 512) (o := 1024) (by omega),
    fun hc => rhs_inb h e (n := 768) (w := 512) (o := 1536) (fits10 h e hc) (by omega),
    fun _ => ring_inb h k (w := 512) (o := 1536) (by omega),
    fun hc => rhs_inb h e (n := 768) (w := 512) (o := 2048) (fits10 h e hc) (by omega),
    fun _ => ring_inb h k (w := 512) (o := 2048) (by omega),
    fun hc => rhs_inb h e (n := 768) (w := 512) (o := 2560) (fits10 h e hc) (by omega)⟩,
   ⟨fun _ => ring_inb h k (w := 512) (o := 2560) (by omega),
    fun hc => rhs_inb h e (n := 768) (w := 512) (o := 3072) (fits10 h e hc) (by omega),
    fun _ => ring_inb h k (w := 512) (o := 3072) (by omega),
    fun hc => rhs_inb h e (n := 768) (w := 512) (o := 3584) (fits10 h e hc) (by omega),
    fun _ => ring_inb h k (w := 512) (o := 3584) (by omega),
    fun hc => rhs_inb h e (n := 768) (w := 512) (o := 4096) (fits10 h e hc) (by omega),
    fun _ => ring_inb h k (w := 512) (o := 4096) (by omega),
    fun hc => rhs_inb h e (n := 768) (w := 512) (o := 4608) (fits10 h e hc) (by omega),
    fun _ => ring_inb h k (w := 512) (o := 4608) (by omega),
    fun hc => rhs_inb h e (n := 768) (w := 512) (o := 5120) (fits10 h e hc) (by omega),
    fun _ => ring_inb h k (w := 512) (o := 5120) (by omega),
    fun hc => rhs_inb h e (n := 768) (w := 128) (o := 5632) (fits10 h e hc) (by omega),
    fun _ => ring_inb h k (w := 128) (o := 5632) (by omega),
    fun hc => out_inb h k e (n := 256) (by have := (cond11_iff h k).1 hc; have := kmod h k; omega),
    fun hc => out_inb h k e (n := 64) (by have := (cond12_iff h k).1 hc; omega)⟩⟩

/-! ## The loop that drains the ring -/

section Drain

variable (t : Fin (k0_t7_loop v0 v1 v2 v3).trips)

omit h in
def drainW (t : ℕ) : BitVec 32 := Scalar.addi (startW v0 v1 v2 v3) (Scalar.muli (Scf.iv 0#32 1#32 t) 1#32)

theorem tlt : t.val < 12 * cnt v0 v1 v2 v3 - (12 * cnt v0 v1 v2 v3 - 5) := lt_of_lt_of_eq t.isLt (trips7 h)
theorem drainW_nat : (drainW (v0 := v0) (v1 := v1) (v2 := v2) (v3 := v3) t.val).toNat = 12 * cnt v0 v1 v2 v3 - 5 + t.val :=
  h.drain_nat (by have := tlt h t; omega)
theorem drain_small : 12 * cnt v0 v1 v2 v3 - 5 + t.val < 2 ^ 31 := by
  have := cnt_le (v0 := v0) (v1 := v1) (v2 := v2) (v3 := v3); have := tlt h t; omega

theorem cond21_iff : k0_cond21 v0 v1 v2 v3 t = 1#1 ↔ (12 * cnt v0 v1 v2 v3 - 5 + t.val) % 12 ≠ 11 := by
  refine (guard_iff _).trans ((ne_iff (x := Scalar.remsi (drainW (v0 := v0) (v1 := v1) (v2 := v2) (v3 := v3) t.val) 12#32) (y := 11#32)).trans ?_)
  rw [remsi_nat (drainW_nat h t) (drain_small h t) 12 (by decide) (by decide)]; rfl
theorem cond22_iff : k0_cond22 v0 v1 v2 v3 t = 1#1 ↔ (12 * cnt v0 v1 v2 v3 - 5 + t.val) % 12 = 11 := by
  refine (guard_iff _).trans ((eq_iff (x := Scalar.remsi (drainW (v0 := v0) (v1 := v1) (v2 := v2) (v3 := v3) t.val) 12#32) (y := 11#32)).trans ?_)
  rw [remsi_nat (drainW_nat h t) (drain_small h t) 12 (by decide) (by decide)]; rfl

theorem slot7_nat : (Scalar.remsi (drainW (v0 := v0) (v1 := v1) (v2 := v2) (v3 := v3) t.val) 5#32).toNat = (12 * cnt v0 v1 v2 v3 - 5 + t.val) % 5 :=
  remsi_nat (drainW_nat h t) (drain_small h t) 5 (by decide) (by decide)

theorem off182_eq : k0_off182 v0 v1 v2 v3 t = ![(12 * cnt v0 v1 v2 v3 - 5 + t.val) % 5] := by
  rw [← slot7_nat h t]; rfl
theorem off183_eq : k0_off183 v0 v1 v2 v3 t = ![(12 * cnt v0 v1 v2 v3 - 5 + t.val) % 5, 0, 0] := by
  rw [← slot7_nat h t]; rfl
theorem off184_eq : k0_off184 v0 v1 v2 v3 t = ![(12 * cnt v0 v1 v2 v3 - 5 + t.val) % 5] := by
  rw [← slot7_nat h t]; rfl
theorem off185_eq : k0_off185 v0 v1 v2 v3 t = ![(12 * cnt v0 v1 v2 v3 - 5 + t.val) % 5, 0, 0] := by
  rw [← slot7_nat h t]; rfl

end Drain

/-! ## The offsets of the loop over slabs -/

theorem off8_eq : k0_off8 v0 v1 v2 v3 k = ![k.val / 12] := by rw [← quo_nat h k]; rfl
theorem back5_nat (hk : 5 ≤ k.val) : (Scalar.remsi (Scalar.subi (jW k.val) 5#32) 5#32).toNat = k.val % 5 := by
  rw [remsi_nat (back_nat h k hk) (by have := klt48 h k; omega) 5 (by decide) (by decide)]; omega
theorem off9_eq (hk : 5 ≤ k.val) : k0_off9 v0 v1 v2 v3 k = ![k.val % 5] := by rw [← back5_nat h k hk]; rfl
theorem off10_eq (hk : 5 ≤ k.val) : k0_off10 v0 v1 v2 v3 k = ![k.val % 5, 0, 0] := by rw [← back5_nat h k hk]; rfl
theorem off11_eq (hk : 5 ≤ k.val) : k0_off11 v0 v1 v2 v3 k = ![k.val % 5] := by rw [← back5_nat h k hk]; rfl
theorem off12_eq (hk : 5 ≤ k.val) : k0_off12 v0 v1 v2 v3 k = ![k.val % 5, 0, 0] := by rw [← back5_nat h k hk]; rfl
theorem off89_eq : k0_off89 v0 v1 v2 v3 k = ![k.val % 5] := by rw [← slot_nat h k]; rfl
theorem off91_eq : k0_off91 v0 v1 v2 v3 k = ![k.val % 5, 0, 0] := by rw [← slot_nat h k]; rfl
theorem off92_eq : k0_off92 v0 v1 v2 v3 k = ![k.val % 5] := by rw [← slot_nat h k]; rfl
theorem off94_eq : k0_off94 v0 v1 v2 v3 k = ![k.val % 5, 0, 0] := by rw [← slot_nat h k]; rfl
omit h in
theorem ofNat_e (e : Fin 4) : (BitVec.ofNat 32 e.val).toNat = e.val := by have := e.isLt; simp; omega
theorem off90_eq (e : Fin 4) : k0_off90 v0 v1 v2 v3 k (BitVec.ofNat 32 e.val) = ![e.val, 256 * (k.val % 12), 0] := by
  rw [← slab_nat h k]; show ![(BitVec.ofNat 32 e.val).toNat, _, 0] = _; rw [ofNat_e]; rfl
theorem off93_eq (e : Fin 4) : k0_off93 v0 v1 v2 v3 k (BitVec.ofNat 32 e.val) = ![e.val, 256 * (k.val % 12), 0] := by
  rw [← slab_nat h k]; show ![(BitVec.ofNat 32 e.val).toNat, _, 0] = _; rw [ofNat_e]; rfl
omit h in
theorem off13_eq (e : Fin 4) : k0_off13 (BitVec.ofNat 32 e.val) = ![e.val] := by
  show ![(BitVec.ofNat 32 e.val).toNat] = _; rw [ofNat_e]
omit k in
theorem off5_eq : k0_off5 v0 = ![rank v0 v1 v2 v3 1] := by rw [← h.cnt1W_nat]; rfl
omit k in
theorem off6_eq : k0_off6 v0 v1 = ![rank v0 v1 v2 v3 2] := by rw [← h.cnt2W_nat]; rfl
omit k in
theorem off7_eq : k0_off7 v0 v1 v2 = ![rank v0 v1 v2 v3 3] := by rw [← h.cnt3W_nat]; rfl

omit k h in
theorem rank_lt (e : Fin 4) : rank v0 v1 v2 v3 e < 4 := by
  fin_cases e
  · show rank v0 v1 v2 v3 0 < 4; rw [rank_0]; decide
  · show rank v0 v1 v2 v3 1 < 4; rw [rank_1]; split <;> omega
  · show rank v0 v1 v2 v3 2 < 4; rw [rank_2]; split <;> split <;> omega
  · show rank v0 v1 v2 v3 3 < 4; rw [rank_3]; split <;> split <;> split <;> omega

/-! ## The conditions the kernel states of the group sizes -/

omit k
theorem chk1 : k0_chk1 v0 := by unfold k0_chk1; rw [off5_eq h]; exact word_inb (rank_lt 1)
theorem chk2 : k0_chk2 v0 v1 := by unfold k0_chk2; rw [off6_eq h]; exact word_inb (rank_lt 2)
theorem chk3 : k0_chk3 v0 v1 v2 := by unfold k0_chk3; rw [off7_eq h]; exact word_inb (rank_lt 3)

theorem chk4 : k0_chk4 v0 v1 v2 v3 :=
  have m5 : ∀ n : ℕ, n % 5 < 5 := fun n => Nat.mod_lt _ (by decide)
  ⟨ok5 h,
   fun k => by rw [off8_eq h k]; exact word_inb (by have := klt48 h k; omega),
   fun k h5 _ => by rw [off9_eq h k ((cond5_iff h k).1 h5)]; exact cell_inb (m5 _),
   fun k h5 _ => by rw [off10_eq h k ((cond5_iff h k).1 h5)]; exact slotrow_inb h (m5 _) (by decide),
   fun k h5 _ => by rw [off11_eq h k ((cond5_iff h k).1 h5)]; exact cell_inb (m5 _),
   fun k h5 _ => by rw [off12_eq h k ((cond5_iff h k).1 h5)]; exact slotrow_inb h (m5 _) (by decide),
   fun k => by rw [show k0_mult2 v0 v1 v2 v3 k = slabW k from rfl, slab_nat h k]; exact ⟨_, rfl⟩,
   fun k _ => by rw [off89_eq h k]; exact cell_inb (m5 _),
   fun k _ => by rw [off91_eq h k]; exact slotrow_inb h (m5 _) (by decide),
   fun k _ => by rw [off92_eq h k]; exact cell_inb (m5 _),
   fun k _ => by rw [off94_eq h k]; exact slotrow_inb h (m5 _) (by decide),
   ok6 h, fun k => no6 k, fun k => no6 k, fun k => no6 k, fun k => no6 k, fun k => no6 k, fun k => no6 k, fun k => no6 k, fun k => no6 k,
   fun k => no6 k, fun k => no6 k,
   ok7 h,
   fun t _ => by rw [off182_eq h t]; exact cell_inb (m5 _),
   fun t _ => by rw [off183_eq h t]; exact slotrow_inb h (m5 _) (by decide),
   fun t _ => by rw [off184_eq h t]; exact cell_inb (m5 _),
   fun t _ => by rw [off185_eq h t]; exact slotrow_inb h (m5 _) (by decide),
   ok8 h, fun k => no8 k, fun k => no8 k, fun k => no8 k, fun k => no8 k⟩

end Cert.Proof.KernelIdeal
-- ==== Proof.KernelIdeal.Slab.lean ====
/- The buffers of the kernel, and what one slab of the product leaves in its slot of the ring: a slot is filled chunk of
   columns by chunk of columns. -/
module

public import proofs.«01_k».proof.Proof.Steps
public import proofs.«01_k».proof.Proof.KernelIdeal.Facts
public import proofs.«01_k».proof.Proof.Gen.KernelIdeal.Launch

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-! ## The buffers -/

/-- The group sizes, the two global scales, and the two decoded operands, as the body holds them. -/
abbrev A0 : Memref sig .tc .smem S4 .i32 := Memref.whole cc0_stg0_0
abbrev A1 : Memref sig .tc .smem S4 .f32 := Memref.whole cc0_stg1_0
abbrev A2 : Memref sig .tc .smem S4 .f32 := Memref.whole cc0_stg2_0
abbrev A3 : Memref sig .tc .vmem S1088x3072 .bf16 := Memref.whole cc0_stg3_0
abbrev A4 : Memref sig .tc .vmem S1088x5760 .bf16 := Memref.whole cc0_stg4_0
/-- The result, left in HBM and written by copies. -/
abbrev DW : Memref sig .tc .hbm S4x2880x5760 .f32 := Memref.whole main_v0
/-- The transposed left factor, the block of zeros, the order of the nonempty experts, the ring. -/
abbrev LT : Memref sig .tc .vmem S256x768 .bf16 := Memref.whole cc0_scratch0
abbrev ZB : Memref sig .tc .vmem S96x5760 .f32 := Memref.whole cc0_scratch1
abbrev ORD : Memref sig .tc .smem S4 .i32 := Memref.whole cc0_scratch2
abbrev RING : Memref sig .tc .vmem S5x256x5760 .f32 := Memref.whole cc0_scoped0

/-- A buffer held whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
/-- Elements of a buffer held. -/
abbrev ptOn (c : Dev nD) {sp : Space} {S : Shape} {e : EltTy} (M : Memref sig .tc sp S e) (I : Finset (Idx (M.view.loc (c : Thread nD τ))))
    (f : Buf (Elt F) (M.view.loc (c : Thread nD τ))) : sProp 𝕄 :=
  M.view.loc (c : Thread nD τ) ↦[I]{fullShare} f

/-- The ring's slot `i`: its elements. -/
def slotSet (i : ℕ) : Finset S5x256x5760.Idx := Finset.univ.filter fun x => (x 0).val = i
theorem mem_slotSet {i : ℕ} {x : S5x256x5760.Idx} : x ∈ slotSet i ↔ (x 0).val = i := by simp [slotSet]

/-! ## Reading a rectangle of a factor -/

def mkL (r k : ℕ) : S1088x3072.Idx := fun a => ⟨(![r, k] : Fin 2 → ℕ) a % S1088x3072.size a, Nat.mod_lt _ (by fin_cases a <;> decide)⟩
def mkR (r k : ℕ) : S1088x5760.Idx := fun a => ⟨(![r, k] : Fin 2 → ℕ) a % S1088x5760.size a, Nat.mod_lt _ (by fin_cases a <;> decide)⟩

/-- A block of the left operand: `n` rows from row `r`, 256 columns from column `k`. -/
def lhsBlk (X : Vec F S1088x3072 .bf16) (n r k : ℕ) : Vec F ⟨2, ![n, 256]⟩ .bf16 := fun j => X (mkL (r + (j 0).val) (k + (j 1).val))
/-- A block of the right operand: `n` rows from row `r`, `w` columns from column `k`. -/
def rhsBlk (X : Vec F S1088x5760 .bf16) (n w r k : ℕ) : Vec F ⟨2, ![n, w]⟩ .bf16 := fun j => X (mkR (r + (j 0).val) (k + (j 1).val))

theorem read_lhs (X : Vec F S1088x3072 .bf16) {n r k : ℕ} {off : Fin 2 → ℕ} (ho : off = ![r, k])
    (inb : ∀ a, off a + (⟨2, ![n, 256]⟩ : Shape).size a ≤ S1088x3072.size a) :
    A3.view.readAt (Elt F) (Rect.unit (s := S1088x3072) off (⟨2, ![n, 256]⟩ : Shape).size inb).toLoadRect X = lhsBlk X n r k := by
  subst ho
  funext j
  refine congrArg X (funext fun a => Fin.ext ?_)
  have h := ((Rect.unit (s := S1088x3072) ![r, k] (⟨2, ![n, 256]⟩ : Shape).size inb).idx j a).isLt
  show ((Rect.unit (s := S1088x3072) ![r, k] (⟨2, ![n, 256]⟩ : Shape).size inb).idx j a).val = _
  rw [LoadRect.idx_apply] at h ⊢
  fin_cases a
  · have h : r + 1 * (j 0).val < 1088 := h
    show r + 1 * (j 0).val = (r + (j 0).val) % 1088
    rw [Nat.one_mul] at h ⊢; exact (Nat.mod_eq_of_lt h).symm
  · have h : k + 1 * (j 1).val < 3072 := h
    show k + 1 * (j 1).val = (k + (j 1).val) % 3072
    rw [Nat.one_mul] at h ⊢; exact (Nat.mod_eq_of_lt h).symm

theorem read_rhs (X : Vec F S1088x5760 .bf16) {n w r k : ℕ} {off : Fin 2 → ℕ} (ho : off = ![r, k])
    (inb : ∀ a, off a + (⟨2, ![n, w]⟩ : Shape).size a ≤ S1088x5760.size a) :
    A4.view.readAt (Elt F) (Rect.unit (s := S1088x5760) off (⟨2, ![n, w]⟩ : Shape).size inb).toLoadRect X = rhsBlk X n w r k := by
  subst ho
  funext j
  refine congrArg X (funext fun a => Fin.ext ?_)
  have h := ((Rect.unit (s := S1088x5760) ![r, k] (⟨2, ![n, w]⟩ : Shape).size inb).idx j a).isLt
  show ((Rect.unit (s := S1088x5760) ![r, k] (⟨2, ![n, w]⟩ : Shape).size inb).idx j a).val = _
  rw [LoadRect.idx_apply] at h ⊢
  fin_cases a
  · have h : r + 1 * (j 0).val < 1088 := h
    show r + 1 * (j 0).val = (r + (j 0).val) % 1088
    rw [Nat.one_mul] at h ⊢; exact (Nat.mod_eq_of_lt h).symm
  · have h : k + 1 * (j 1).val < 5760 := h
    show k + 1 * (j 1).val = (k + (j 1).val) % 5760
    rw [Nat.one_mul] at h ⊢; exact (Nat.mod_eq_of_lt h).symm

/-! ## A slot filled up to a column -/

/-- In slot `i` the contents `f` are `val` in the columns before `o`. -/
def Filled (i o : ℕ) (val f : Vec F S5x256x5760 .f32) : Prop :=
  ∀ x : S5x256x5760.Idx, (x 0).val = i → (x 2).val < o → f x = val x

theorem Filled.zero (i : ℕ) (val f : Vec F S5x256x5760 .f32) : Filled i 0 val f := fun _ _ h => absurd h (Nat.not_lt_zero _)

/-- A chunk of the slot: 256 rows, `w` columns from column `o`. -/
theorem chunk_sub {i o w : ℕ} {off : Fin 3 → ℕ} (ho : off = ![i, 0, o]) (inb : ∀ a, off a + (⟨3, ![1, 256, w]⟩ : Shape).size a ≤ S5x256x5760.size a) :
    (RING.access (Rect.unit (s := S5x256x5760) off (⟨3, ![1, 256, w]⟩ : Shape).size inb)).setOn Finset.univ ⊆ slotSet i := by
  subst ho
  rw [View.setOn_univ]
  intro x hx
  rw [show (RING.access (Rect.unit (s := S5x256x5760) ![i, 0, o] (⟨3, ![1, 256, w]⟩ : Shape).size inb)).set = _ from View.set_slice_whole _ _] at hx
  have h := Rect.mem_set_unit.mp hx 0
  have h1 : i ≤ (x 0).val := h.1
  have h2 : (x 0).val < i + 1 := h.2
  exact mem_slotSet.mpr (by omega)

/-- Storing the chunk's values extends the filled columns by the chunk's. -/
theorem Filled.store {i o w : ℕ} {val f : Vec F S5x256x5760 .f32} (hf : Filled i o val f) {off : Fin 3 → ℕ} (ho : off = ![i, 0, o])
    (inb : ∀ a, off a + (⟨3, ![1, 256, w]⟩ : Shape).size a ≤ S5x256x5760.size a) (p : Vec F ⟨3, ![1, 256, w]⟩ .f32)
    (hp : ∀ x, p x = val ((Rect.unit (s := S5x256x5760) off (⟨3, ![1, 256, w]⟩ : Shape).size inb).idx x)) :
    Filled i (o + w) val ((RING.access (Rect.unit (s := S5x256x5760) off (⟨3, ![1, 256, w]⟩ : Shape).size inb)).write (Elt F) f p Finset.univ) := by
  subst ho
  intro y hy hy2
  refine write_cases (RING.access (Rect.unit (s := S5x256x5760) ![i, 0, o] (⟨3, ![1, 256, w]⟩ : Shape).size inb)) f val p (fun x => (cast_eq _ _).trans (hp x)) y fun hm => hf y hy ?_
  by_contra hlt
  refine hm ?_
  rw [show (RING.access (Rect.unit (s := S5x256x5760) ![i, 0, o] (⟨3, ![1, 256, w]⟩ : Shape).size inb)).set = _ from View.set_slice_whole _ _]
  refine Rect.mem_set_unit.mpr fun a => ?_
  fin_cases a
  · show i ≤ (y 0).val ∧ (y 0).val < i + 1; omega
  · have : (y 1).val < 256 := (y 1).isLt
    show 0 ≤ (y 1).val ∧ (y 1).val < 0 + 256; omega
  · show o ≤ (y 2).val ∧ (y 2).val < o + w; omega

/-- The value of a slab at a row and a column, from the values of its chunks: chunks of 512 columns, and one of 128 at the end. -/
def slabVal (wide : ℕ → Vec F S1x256x512 .f32) (narrow : Vec F S1x256x128 .f32) (x : S5x256x5760.Idx) : F .f32 :=
  if h : (x 2).val < 5632 then wide ((x 2).val / 512) (fun a => ⟨(![0, (x 1).val, (x 2).val % 512] : Fin 3 → ℕ) a, by
      have := (x 1).isLt; fin_cases a; exacts [Nat.zero_lt_one, this, Nat.mod_lt _ (by decide)]⟩)
  else narrow (fun a => ⟨(![0, (x 1).val, (x 2).val - 5632] : Fin 3 → ℕ) a, by
      have h1 := (x 1).isLt; have h2 : (x 2).val < 5760 := (x 2).isLt; fin_cases a
      exacts [Nat.zero_lt_one, h1, show (x 2).val - 5632 < 128 by omega]⟩)

theorem slabVal_wide (wide : ℕ → Vec F S1x256x512 .f32) (narrow : Vec F S1x256x128 .f32) {i j o : ℕ} (hj : j < 11) (hoj : o = 512 * j) {off : Fin 3 → ℕ} (ho : off = ![i, 0, o])
    (inb : ∀ a, off a + S1x256x512.size a ≤ S5x256x5760.size a) (x : S1x256x512.Idx) :
    wide j x = slabVal wide narrow ((Rect.unit (s := S5x256x5760) off S1x256x512.size inb).idx x) := by
  subst ho hoj
  have x2 : (x 2).val < 512 := (x 2).isLt
  have x0 : (x 0).val < 1 := (x 0).isLt
  have e2 : ((Rect.unit (s := S5x256x5760) ![i, 0, 512 * j] S1x256x512.size inb).idx x 2).val = 512 * j + (x 2).val := by
    rw [LoadRect.idx_apply]; show 512 * j + 1 * _ = _; rw [Nat.one_mul]
  have e1 : ((Rect.unit (s := S5x256x5760) ![i, 0, 512 * j] S1x256x512.size inb).idx x 1).val = (x 1).val := by
    rw [LoadRect.idx_apply]; show 0 + 1 * _ = _; rw [Nat.one_mul, Nat.zero_add]
  unfold slabVal
  rw [dif_pos (by rw [e2]; omega)]
  rw [show ((Rect.unit (s := S5x256x5760) ![i, 0, 512 * j] S1x256x512.size inb).idx x 2).val / 512 = j by rw [e2]; omega]
  refine congrArg (wide j) (funext fun a => Fin.ext ?_)
  fin_cases a
  · show (x 0).val = 0; omega
  · exact e1.symm
  · show (x 2).val = _ % 512; rw [e2]; omega

theorem slabVal_narrow (wide : ℕ → Vec F S1x256x512 .f32) (narrow : Vec F S1x256x128 .f32) {i : ℕ} {off : Fin 3 → ℕ} (ho : off = ![i, 0, 5632])
    (inb : ∀ a, off a + S1x256x128.size a ≤ S5x256x5760.size a) (x : S1x256x128.Idx) :
    narrow x = slabVal wide narrow ((Rect.unit (s := S5x256x5760) off S1x256x128.size inb).idx x) := by
  subst ho
  have x2 : (x 2).val < 128 := (x 2).isLt
  have x0 : (x 0).val < 1 := (x 0).isLt
  have e2 : ((Rect.unit (s := S5x256x5760) ![i, 0, 5632] S1x256x128.size inb).idx x 2).val = 5632 + (x 2).val := by
    rw [LoadRect.idx_apply]; show 5632 + 1 * _ = _; rw [Nat.one_mul]
  have e1 : ((Rect.unit (s := S5x256x5760) ![i, 0, 5632] S1x256x128.size inb).idx x 1).val = (x 1).val := by
    rw [LoadRect.idx_apply]; show 0 + 1 * _ = _; rw [Nat.one_mul, Nat.zero_add]
  unfold slabVal
  rw [dif_neg (by rw [e2]; omega)]
  refine congrArg narrow (funext fun a => Fin.ext ?_)
  fin_cases a
  · show (x 0).val = 0; omega
  · exact e1.symm
  · show (x 2).val = _ - 5632; rw [e2]; omega

/-! ## One chunk of the product -/

/-- Load both factors, load the place, store the chunk: with the slot filled up to the chunk's first column before, it is filled up to
    its last after. -/
theorem chunk {α : Type} (c : Dev nD) {i o w n : ℕ} {offr : Fin 3 → ℕ} {inbr} {r6 : LoadRect S256x768} {r4 : LoadRect S1088x5760}
    {hl6 : LT.view.LoadsAt r6} {hl4 : A4.view.LoadsAt r4}
    {hlr : RING.view.LoadsAt (Rect.unit (s := S5x256x5760) offr (⟨3, ![1, 256, w]⟩ : Shape).size inbr).toLoadRect}
    {hx : (RING.access (Rect.unit (s := S5x256x5760) offr (⟨3, ![1, 256, w]⟩ : Shape).size inbr)).Stores Finset.univ} {hm}
    {pay : (r6.shape.Idx → Elt F .bf16) → (r4.shape.Idx → Elt F .bf16) → Vec F ⟨3, ![1, 256, w]⟩ .f32}
    {k : PUnit → Prog (TpuEff nD τ sig (Elt F) Λ₀ .tc) α} {Q : α → sProp 𝕄}
    (ho : offr = ![i, 0, o]) (val : Vec F S5x256x5760 .f32) (L : Vec F S256x768 .bf16) (X4 : Vec F S1088x5760 .bf16) (f : Vec F S5x256x5760 .f32) (hf : Filled i o val f)
    (hp : ∀ x, pay (LT.view.readAt (Elt F) r6 L) (A4.view.readAt (Elt F) r4 X4) x = val ((Rect.unit (s := S5x256x5760) offr (⟨3, ![1, 256, w]⟩ : Shape).size inbr).idx x)) :
    iprop(pt c LT L ∗ pt c A4 X4 ∗ ptOn c RING (slotSet i) f
        ∗ ((∃ f', pt c LT L ∗ pt c A4 X4 ∗ ⌜Filled i (o + w) val f'⌝ ∗ ptOn c RING (slotSet i) f') -∗ wp frame (wpE (defs₀ (F := F)) Variants.none (c : Thread nD τ) none) Set.univ (k ⟨⟩) Q))
      ⊢ wp frame (wpE (defs₀ (F := F)) Variants.none (c : Thread nD τ) none) Set.univ
          (.op (.load LT r6 hl6) fun a => .op (.load A4 r4 hl4) fun b => .op (.load RING (Rect.unit (s := S5x256x5760) offr (⟨3, ![1, 256, w]⟩ : Shape).size inbr).toLoadRect hlr)
            fun _ => .op (.store RING (Rect.unit (s := S5x256x5760) offr (⟨3, ![1, 256, w]⟩ : Shape).size inbr) (pay a b) Finset.univ hx hm) k) Q := by
  have hs := chunk_sub (i := i) (o := o) (w := w) ho inbr
  iintro ⟨H6, H4, H, Hk⟩
  iapply (wp_chunk Variants.none (c : Thread nD τ) none Set.univ (pay := pay) L X4 f (Finset.subset_univ _) (Finset.subset_univ _)
    (by rw [View.setOn_univ] at hs; rwa [View.set_slice] at hs) hs)
  isplitl [H6]; · iexact H6
  isplitl [H4]; · iexact H4
  isplitl [H]; · iexact H
  iintro ⟨H6, H4, H⟩
  iapply Hk
  iexists _
  isplitl [H6]; · iexact H6
  isplitl [H4]; · iexact H4
  isplitr
  swap; · iexact H
  ipureintro
  exact hf.store ho inbr _ hp

end Cert.Proof.KernelIdeal

end
-- ==== Proof.KernelIdeal.Compute.lean ====
/- One slab of the product: the left factor is masked and transposed once, then the product is made chunk of columns by chunk
   of columns. The three theorems are of the three depths a group of rows may have. -/
module

public import proofs.«01_k».proof.Proof.KernelIdeal.Slab

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-- A chunk of 512 columns; the column it starts at gives its number. -/
theorem chunkWide {α : Type} (c : Dev nD) {i o n : ℕ} {offr : Fin 3 → ℕ} {inbr} {off4 : Fin 2 → ℕ} {inb4} {r6 : LoadRect S256x768}
    {hl6 : LT.view.LoadsAt r6} {hl4 : A4.view.LoadsAt (Rect.unit (s := S1088x5760) off4 (⟨2, ![n, 512]⟩ : Shape).size inb4).toLoadRect}
    {hlr : RING.view.LoadsAt (Rect.unit (s := S5x256x5760) offr S1x256x512.size inbr).toLoadRect}
    {hx : (RING.access (Rect.unit (s := S5x256x5760) offr S1x256x512.size inbr)).Stores Finset.univ} {hm}
    {pay : (r6.shape.Idx → Elt F .bf16) → Vec F ⟨2, ![n, 512]⟩ .bf16 → Vec F S1x256x512 .f32}
    {k : PUnit → Prog (TpuEff nD τ sig (Elt F) Λ₀ .tc) α} {Q : α → sProp 𝕄}
    (k0 : ℕ) (blk : r6.shape.Idx → Elt F .bf16) (payW : (r6.shape.Idx → Elt F .bf16) → Vec F ⟨2, ![n, 512]⟩ .bf16 → Vec F S1x256x512 .f32) (narrow : Vec F S1x256x128 .f32)
    (L : Vec F S256x768 .bf16) (X4 : Vec F S1088x5760 .bf16) (f : Vec F S5x256x5760 .f32)
    (hL : LT.view.readAt (Elt F) r6 L = blk)
    (hf : Filled i o (slabVal (fun j => payW blk (rhsBlk X4 n 512 k0 (512 * j))) narrow) f)
    (ho : offr = ![i, 0, o]) (h4 : off4 = ![k0, o]) (hpay : pay = payW) (ho1 : o / 512 < 11) (ho2 : o = 512 * (o / 512)) :
    iprop(pt c LT L ∗ pt c A4 X4 ∗ ptOn c RING (slotSet i) f
        ∗ ((∃ f', pt c LT L ∗ pt c A4 X4 ∗ ⌜Filled i (o + 512) (slabVal (fun j => payW blk (rhsBlk X4 n 512 k0 (512 * j))) narrow) f'⌝ ∗ ptOn c RING (slotSet i) f')
          -∗ wp frame (wpE (defs₀ (F := F)) Variants.none (c : Thread nD τ) none) Set.univ (k ⟨⟩) Q))
      ⊢ wp frame (wpE (defs₀ (F := F)) Variants.none (c : Thread nD τ) none) Set.univ
          (.op (.load LT r6 hl6) fun a => .op (.load A4 (Rect.unit (s := S1088x5760) off4 (⟨2, ![n, 512]⟩ : Shape).size inb4).toLoadRect hl4) fun b => .op (.load RING (Rect.unit (s := S5x256x5760) offr S1x256x512.size inbr).toLoadRect hlr)
            fun _ => .op (.store RING (Rect.unit (s := S5x256x5760) offr S1x256x512.size inbr) (pay a b) Finset.univ hx hm) k) Q := by
  refine chunk (n := n) c ho _ L X4 f hf (fun x => ?_)
  rw [hL, read_rhs X4 h4, hpay]
  refine Eq.trans ?_ (slabVal_wide (j := o / 512) _ narrow ho1 ho2 ho inbr x)
  rw [← ho2]

/-- A slot filled to its last column holds the slab's values. -/
theorem Filled.eq (c : Dev nD) {i : ℕ} {val f : Vec F S5x256x5760 .f32} (hf : Filled i (5632 + 128) val f) :
    ptOn c RING (slotSet i) f ⊢ ptOn c RING (slotSet i) val :=
  Entails.of_eq (pointsTo_congr fun x hx => hf x (mem_slotSet.mp hx) (x 2).isLt)

/-- The last chunk of the columns, of 128. -/
theorem chunkNarrow {α : Type} (c : Dev nD) {i n : ℕ} {offr : Fin 3 → ℕ} {inbr} {off4 : Fin 2 → ℕ} {inb4} {r6 : LoadRect S256x768}
    {hl6 : LT.view.LoadsAt r6} {hl4 : A4.view.LoadsAt (Rect.unit (s := S1088x5760) off4 (⟨2, ![n, 128]⟩ : Shape).size inb4).toLoadRect}
    {hlr : RING.view.LoadsAt (Rect.unit (s := S5x256x5760) offr S1x256x128.size inbr).toLoadRect}
    {hx : (RING.access (Rect.unit (s := S5x256x5760) offr S1x256x128.size inbr)).Stores Finset.univ} {hm}
    {pay : (r6.shape.Idx → Elt F .bf16) → Vec F ⟨2, ![n, 128]⟩ .bf16 → Vec F S1x256x128 .f32}
    {k : PUnit → Prog (TpuEff nD τ sig (Elt F) Λ₀ .tc) α} {Q : α → sProp 𝕄}
    (k0 : ℕ) (blk : r6.shape.Idx → Elt F .bf16) (wide : ℕ → Vec F S1x256x512 .f32) (payN : (r6.shape.Idx → Elt F .bf16) → Vec F ⟨2, ![n, 128]⟩ .bf16 → Vec F S1x256x128 .f32)
    (L : Vec F S256x768 .bf16) (X4 : Vec F S1088x5760 .bf16) (f : Vec F S5x256x5760 .f32)
    (hL : LT.view.readAt (Elt F) r6 L = blk)
    (hf : Filled i 5632 (slabVal wide (payN blk (rhsBlk X4 n 128 k0 5632))) f)
    (ho : offr = ![i, 0, 5632]) (h4 : off4 = ![k0, 5632]) (hpay : pay = payN) :
    iprop(pt c LT L ∗ pt c A4 X4 ∗ ptOn c RING (slotSet i) f
        ∗ ((∃ f', pt c LT L ∗ pt c A4 X4 ∗ ⌜Filled i (5632 + 128) (slabVal wide (payN blk (rhsBlk X4 n 128 k0 5632))) f'⌝ ∗ ptOn c RING (slotSet i) f')
          -∗ wp frame (wpE (defs₀ (F := F)) Variants.none (c : Thread nD τ) none) Set.univ (k ⟨⟩) Q))
      ⊢ wp frame (wpE (defs₀ (F := F)) Variants.none (c : Thread nD τ) none) Set.univ
          (.op (.load LT r6 hl6) fun a => .op (.load A4 (Rect.unit (s := S1088x5760) off4 (⟨2, ![n, 128]⟩ : Shape).size inb4).toLoadRect hl4) fun b => .op (.load RING (Rect.unit (s := S5x256x5760) offr S1x256x128.size inbr).toLoadRect hlr)
            fun _ => .op (.store RING (Rect.unit (s := S5x256x5760) offr S1x256x128.size inbr) (pay a b) Finset.univ hx hm) k) Q := by
  refine chunk (n := n) (o := 5632) (w := 128) c ho _ L X4 f hf (fun x => ?_)
  rw [hL, read_rhs X4 h4, hpay]
  exact slabVal_narrow wide _ ho inbr x

set_option maxHeartbeats 4000000 in
/-- A slab of 256 rows deep. -/
theorem slab256 (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h8 : k0_cond8 v0 v1 v2 v3 v88_r0 = 1#1)
    (X3 : Vec F S1088x3072 .bf16) (X4 : Vec F S1088x5760 .bf16) (L : Vec F S256x768 .bf16) (f : Vec F S5x256x5760 .f32) :
    iprop(pt c A3 X3 ∗ pt c A4 X4 ∗ pt c LT L ∗ ptOn c RING (slotSet (slotW k0_t5).toNat) f)
      ⊢ wp frame (wpE (defs₀ (F := F)) Variants.none (c : Thread nD τ) none) Set.univ
          (do
      let v177_r0 : Vec F S256x256 .bf16 ← k0_part1 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h8
      let v212_r0 : FVec F S256x512 .f32 ← k0_part2 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h8 v177_r0
      let v247_r0 : Vec F S256x256 .bf16 ← k0_part3 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h8 v212_r0
      let v249_r0 : Vec F S256x512 .bf16 ← Prog.lift (.load A4 (Rect.unit (s := S1088x5760) (k0_off33 v0 v1 v2 v88_r0) S256x512.size (k0_off33_inb v0 v1 v2 v3 k0_t5 v88_r0 k0_hw5 k0_h8)).toLoadRect (View.loadsAt_vmem h_S256x512))
      let v254_r0 : Vec F S1x256x512 .f32 ← Prog.lift (.load RING (Rect.unit (s := S5x256x5760) (k0_off34 v0 v1 v2 v3 k0_t5) S1x256x512.size (k0_off34_inb v0 v1 v2 v3 k0_t5 v88_r0 k0_hw5 k0_h8)).toLoadRect (View.loadsAt_vmem h_S1x256x512))
      Prog.lift (.store RING (Rect.unit (s := S5x256x5760) (k0_off34 v0 v1 v2 v3 k0_t5) S1x256x512.size (k0_off34_inb v0 v1 v2 v3 k0_t5 v88_r0 k0_hw5 k0_h8)) (k0_pay1 v118_r0 v247_r0 v249_r0) Finset.univ (View.stores_vmem_bits_univ h_S1x256x512 rfl) (.inl rfl))
      let v257_r0 : Vec F S256x256 .bf16 ← Prog.lift (.load LT (Rect.unit (s := S256x768) ![0, 0] S256x256.size inb_S256x768_S256x256_0_0).toLoadRect (View.loadsAt_vmem h_S256x256))
      let v259_r0 : Vec F S256x512 .bf16 ← Prog.lift (.load A4 (Rect.unit (s := S1088x5760) (k0_off35 v0 v1 v2 v88_r0) S256x512.size (k0_off35_inb v0 v1 v2 v3 k0_t5 v88_r0 k0_hw5 k0_h8)).toLoadRect (View.loadsAt_vmem h_S256x512))
      let v264_r0 : Vec F S1x256x512 .f32 ← Prog.lift (.load RING (Rect.unit (s := S5x256x5760) (k0_off36 v0 v1 v2 v3 k0_t5) S1x256x512.size (k0_off36_inb v0 v1 v2 v3 k0_t5 v88_r0 k0_hw5 k0_h8)).toLoadRect (View.loadsAt_vmem h_S1x256x512))
      Prog.lift (.store RING (Rect.unit (s := S5x256x5760) (k0_off36 v0 v1 v2 v3 k0_t5) S1x256x512.size (k0_off36_inb v0 v1 v2 v3 k0_t5 v88_r0 k0_hw5 k0_h8)) (k0_pay2 v118_r0 v257_r0 v259_r0) Finset.univ (View.stores_vmem_bits_univ h_S1x256x512 rfl) (.inl rfl))
      let v267_r0 : Vec F S256x256 .bf16 ← Prog.lift (.load LT (Rect.unit (s := S256x768) ![0, 0] S256x256.size inb_S256x768_S256x256_0_0).toLoadRect (View.loadsAt_vmem h_S256x256))
      let v269_r0 : Vec F S256x128 .bf16 ← Prog.lift (.load A4 (Rect.unit (s := S1088x5760) (k0_off37 v0 v1 v2 v88_r0) S256x128.size (k0_off37_inb v0 v1 v2 v3 k0_t5 v88_r0 k0_hw5 k0_h8)).toLoadRect (View.loadsAt_vmem h_S256x128))
      let v274_r0 : Vec F S1x256x128 .f32 ← Prog.lift (.load RING (Rect.unit (s := S5x256x5760) (k0_off38 v0 v1 v2 v3 k0_t5) S1x256x128.size (k0_off38_inb v0 v1 v2 v3 k0_t5 v88_r0 k0_hw5 k0_h8)).toLoadRect (View.loadsAt_vmem h_S1x256x128))
      Prog.lift (.store RING (Rect.unit (s := S5x256x5760) (k0_off38 v0 v1 v2 v3 k0_t5) S1x256x128.size (k0_off38_inb v0 v1 v2 v3 k0_t5 v88_r0 k0_hw5 k0_h8)) (k0_pay3 v118_r0 v267_r0 v269_r0) Finset.univ (View.stores_vmem_bits_univ h_S1x256x128 rfl) (.inl rfl))
      pure ⟨⟩ : Prog (TpuEff nD τ sig (Elt F) Λ₀ .tc) PUnit)
          fun _ => iprop(pt c A3 X3 ∗ pt c A4 X4 ∗ (∃ L', pt c LT L') ∗ ptOn c RING (slotSet (slotW k0_t5).toNat)
            (slabVal (fun j => k0_pay20 v118_r0 (k0_pay19 v112_r0 (lhsBlk X3 256 (k0W v0 v1 v2 v88_r0).toNat (slabW k0_t5).toNat)) (rhsBlk X4 256 512 (k0W v0 v1 v2 v88_r0).toNat (512 * j)))
              (k0_pay3 v118_r0 (k0_pay19 v112_r0 (lhsBlk X3 256 (k0W v0 v1 v2 v88_r0).toNat (slabW k0_t5).toNat)) (rhsBlk X4 256 128 (k0W v0 v1 v2 v88_r0).toNat 5632)))) := by
  rw [k0_part1_eq_skeleton, k0_part2_eq_skeleton, k0_part3_eq_skeleton]
  unfold k0_part1_skel k0_part2_skel k0_part3_skel
  simp only [bind_def', pure_def', Prog.lift, op_bind', ret_bind', bind_bind']
  iintro ⟨H3, H4, H6, H⟩
  iapply (wp_load Variants.none (c : Thread nD τ) none Set.univ (Finset.subset_univ _)) $$ [H3]; · iexact H3
  iintro H3
  rw [read_lhs X3 (n := 256) (off := k0_off14 v0 v1 v2 v3 k0_t5 v88_r0) (r := (k0W v0 v1 v2 v88_r0).toNat) (k := (slabW k0_t5).toNat) rfl]
  iapply (wp_load Variants.none (c : Thread nD τ) none Set.univ (Finset.subset_univ _)) $$ [H6]; · iexact H6
  iintro H6
  iapply (wp_store Variants.none (c : Thread nD τ) none Set.univ (Finset.subset_univ _)) $$ [H6]; · iexact H6
  iintro H6
  have hL := View.read_write_univ (v := LT.access (Rect.unit (s := S256x768) ![0, 0] S256x256.size inb_S256x768_S256x256_0_0)) (Val := Elt F) L
    (k0_pay19 v112_r0 (lhsBlk X3 256 (k0W v0 v1 v2 v88_r0).toNat (slabW k0_t5).toNat))
  have hf := Filled.zero (slotW k0_t5).toNat
    (slabVal (fun j => k0_pay20 v118_r0 (k0_pay19 v112_r0 (lhsBlk X3 256 (k0W v0 v1 v2 v88_r0).toNat (slabW k0_t5).toNat)) (rhsBlk X4 256 512 (k0W v0 v1 v2 v88_r0).toNat (512 * j)))
              (k0_pay3 v118_r0 (k0_pay19 v112_r0 (lhsBlk X3 256 (k0W v0 v1 v2 v88_r0).toNat (slabW k0_t5).toNat)) (rhsBlk X4 256 128 (k0W v0 v1 v2 v88_r0).toNat 5632))) f
  iterate 11
    iapply (chunkWide c (n := 256) (k0W v0 v1 v2 v88_r0).toNat _ (k0_pay20 v118_r0) _ _ X4 _ hL hf rfl rfl rfl (by decide) (by decide))
    isplitl [H6]; · iexact H6
    isplitl [H4]; · iexact H4
    isplitl [H]; · iexact H
    clear hf
    iintro ⟨%f', H6, H4, %hf, H⟩
  iapply (chunkNarrow c (n := 256) (k0W v0 v1 v2 v88_r0).toNat _ _ (k0_pay3 v118_r0) _ X4 _ hL hf rfl rfl rfl)
  isplitl [H6]; · iexact H6
  isplitl [H4]; · iexact H4
  isplitl [H]; · iexact H
  clear hf
  iintro ⟨%f', H6, H4, %hf, H⟩
  ihave H := Filled.eq c hf $$ H
  sl_step
  isplitl [H3]; · iexact H3
  isplitl [H4]; · iexact H4
  isplitl [H6]; · iexists _; iexact H6
  iexact H

set_option maxHeartbeats 4000000 in
/-- A slab of 512 rows deep. -/
theorem slab512 (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h9 : k0_cond9 v0 v1 v2 v3 v88_r0 = 1#1)
    (X3 : Vec F S1088x3072 .bf16) (X4 : Vec F S1088x5760 .bf16) (L : Vec F S256x768 .bf16) (f : Vec F S5x256x5760 .f32) :
    iprop(pt c A3 X3 ∗ pt c A4 X4 ∗ pt c LT L ∗ ptOn c RING (slotSet (slotW k0_t5).toNat) f)
      ⊢ wp frame (wpE (defs₀ (F := F)) Variants.none (c : Thread nD τ) none) Set.univ
          (do
      let v177_r0 : Vec F S256x512 .bf16 ← k0_part4 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h9
      let v212_r0 : FVec F S256x512 .f32 ← k0_part5 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h9 v177_r0
      let v247_r0 : Vec F S256x512 .bf16 ← k0_part6 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h9 v212_r0
      let v249_r0 : Vec F S512x512 .bf16 ← Prog.lift (.load A4 (Rect.unit (s := S1088x5760) (k0_off58 v0 v1 v2 v88_r0) S512x512.size (k0_off58_inb v0 v1 v2 v3 k0_t5 v88_r0 k0_hw5 k0_h9)).toLoadRect (View.loadsAt_vmem h_S512x512))
      let v254_r0 : Vec F S1x256x512 .f32 ← Prog.lift (.load RING (Rect.unit (s := S5x256x5760) (k0_off59 v0 v1 v2 v3 k0_t5) S1x256x512.size (k0_off59_inb v0 v1 v2 v3 k0_t5 v88_r0 k0_hw5 k0_h9)).toLoadRect (View.loadsAt_vmem h_S1x256x512))
      Prog.lift (.store RING (Rect.unit (s := S5x256x5760) (k0_off59 v0 v1 v2 v3 k0_t5) S1x256x512.size (k0_off59_inb v0 v1 v2 v3 k0_t5 v88_r0 k0_hw5 k0_h9)) (k0_pay4 v118_r0 v247_r0 v249_r0) Finset.univ (View.stores_vmem_bits_univ h_S1x256x512 rfl) (.inl rfl))
      let v257_r0 : Vec F S256x512 .bf16 ← Prog.lift (.load LT (Rect.unit (s := S256x768) ![0, 0] S256x512.size inb_S256x768_S256x512_0_0).toLoadRect (View.loadsAt_vmem h_S256x512))
      let v259_r0 : Vec F S512x512 .bf16 ← Prog.lift (.load A4 (Rect.unit (s := S1088x5760) (k0_off60 v0 v1 v2 v88_r0) S512x512.size (k0_off60_inb v0 v1 v2 v3 k0_t5 v88_r0 k0_hw5 k0_h9)).toLoadRect (View.loadsAt_vmem h_S512x512))
      let v264_r0 : Vec F S1x256x512 .f32 ← Prog.lift (.load RING (Rect.unit (s := S5x256x5760) (k0_off61 v0 v1 v2 v3 k0_t5) S1x256x512.size (k0_off61_inb v0 v1 v2 v3 k0_t5 v88_r0 k0_hw5 k0_h9)).toLoadRect (View.loadsAt_vmem h_S1x256x512))
      Prog.lift (.store RING (Rect.unit (s := S5x256x5760) (k0_off61 v0 v1 v2 v3 k0_t5) S1x256x512.size (k0_off61_inb v0 v1 v2 v3 k0_t5 v88_r0 k0_hw5 k0_h9)) (k0_pay5 v118_r0 v257_r0 v259_r0) Finset.univ (View.stores_vmem_bits_univ h_S1x256x512 rfl) (.inl rfl))
      let v267_r0 : Vec F S256x512 .bf16 ← Prog.lift (.load LT (Rect.unit (s := S256x768) ![0, 0] S256x512.size inb_S256x768_S256x512_0_0).toLoadRect (View.loadsAt_vmem h_S256x512))
      let v269_r0 : Vec F S512x128 .bf16 ← Prog.lift (.load A4 (Rect.unit (s := S1088x5760) (k0_off62 v0 v1 v2 v88_r0) S512x128.size (k0_off62_inb v0 v1 v2 v3 k0_t5 v88_r0 k0_hw5 k0_h9)).toLoadRect (View.loadsAt_vmem h_S512x128))
      let v274_r0 : Vec F S1x256x128 .f32 ← Prog.lift (.load RING (Rect.unit (s := S5x256x5760) (k0_off63 v0 v1 v2 v3 k0_t5) S1x256x128.size (k0_off63_inb v0 v1 v2 v3 k0_t5 v88_r0 k0_hw5 k0_h9)).toLoadRect (View.loadsAt_vmem h_S1x256x128))
      Prog.lift (.store RING (Rect.unit (s := S5x256x5760) (k0_off63 v0 v1 v2 v3 k0_t5) S1x256x128.size (k0_off63_inb v0 v1 v2 v3 k0_t5 v88_r0 k0_hw5 k0_h9)) (k0_pay6 v118_r0 v267_r0 v269_r0) Finset.univ (View.stores_vmem_bits_univ h_S1x256x128 rfl) (.inl rfl))
      pure ⟨⟩ : Prog (TpuEff nD τ sig (Elt F) Λ₀ .tc) PUnit)
          fun _ => iprop(pt c A3 X3 ∗ pt c A4 X4 ∗ (∃ L', pt c LT L') ∗ ptOn c RING (slotSet (slotW k0_t5).toNat)
            (slabVal (fun j => k0_pay31 v118_r0 (k0_pay30 v112_r0 (lhsBlk X3 512 (k0W v0 v1 v2 v88_r0).toNat (slabW k0_t5).toNat)) (rhsBlk X4 512 512 (k0W v0 v1 v2 v88_r0).toNat (512 * j)))
              (k0_pay6 v118_r0 (k0_pay30 v112_r0 (lhsBlk X3 512 (k0W v0 v1 v2 v88_r0).toNat (slabW k0_t5).toNat)) (rhsBlk X4 512 128 (k0W v0 v1 v2 v88_r0).toNat 5632)))) := by
  rw [k0_part4_eq_skeleton, k0_part5_eq_skeleton, k0_part6_eq_skeleton]
  unfold k0_part4_skel k0_part5_skel k0_part6_skel
  simp only [bind_def', pure_def', Prog.lift, op_bind', ret_bind', bind_bind']
  iintro ⟨H3, H4, H6, H⟩
  iapply (wp_load Variants.none (c : Thread nD τ) none Set.univ (Finset.subset_univ _)) $$ [H3]; · iexact H3
  iintro H3
  rw [read_lhs X3 (n := 512) (off := k0_off39 v0 v1 v2 v3 k0_t5 v88_r0) (r := (k0W v0 v1 v2 v88_r0).toNat) (k := (slabW k0_t5).toNat) rfl]
  iapply (wp_load Variants.none (c : Thread nD τ) none Set.univ (Finset.subset_univ _)) $$ [H6]; · iexact H6
  iintro H6
  iapply (wp_store Variants.none (c : Thread nD τ) none Set.univ (Finset.subset_univ _)) $$ [H6]; · iexact H6
  iintro H6
  have hL := View.read_write_univ (v := LT.access (Rect.unit (s := S256x768) ![0, 0] S256x512.size inb_S256x768_S256x512_0_0)) (Val := Elt F) L
    (k0_pay30 v112_r0 (lhsBlk X3 512 (k0W v0 v1 v2 v88_r0).toNat (slabW k0_t5).toNat))
  have hf := Filled.zero (slotW k0_t5).toNat
    (slabVal (fun j => k0_pay31 v118_r0 (k0_pay30 v112_r0 (lhsBlk X3 512 (k0W v0 v1 v2 v88_r0).toNat (slabW k0_t5).toNat)) (rhsBlk X4 512 512 (k0W v0 v1 v2 v88_r0).toNat (512 * j)))
              (k0_pay6 v118_r0 (k0_pay30 v112_r0 (lhsBlk X3 512 (k0W v0 v1 v2 v88_r0).toNat (slabW k0_t5).toNat)) (rhsBlk X4 512 128 (k0W v0 v1 v2 v88_r0).toNat 5632))) f
  iterate 11
    iapply (chunkWide c (n := 512) (k0W v0 v1 v2 v88_r0).toNat _ (k0_pay31 v118_r0) _ _ X4 _ hL hf rfl rfl rfl (by decide) (by decide))
    isplitl [H6]; · iexact H6
    isplitl [H4]; · iexact H4
    isplitl [H]; · iexact H
    clear hf
    iintro ⟨%f', H6, H4, %hf, H⟩
  iapply (chunkNarrow c (n := 512) (k0W v0 v1 v2 v88_r0).toNat _ _ (k0_pay6 v118_r0) _ X4 _ hL hf rfl rfl rfl)
  isplitl [H6]; · iexact H6
  isplitl [H4]; · iexact H4
  isplitl [H]; · iexact H
  clear hf
  iintro ⟨%f', H6, H4, %hf, H⟩
  ihave H := Filled.eq c hf $$ H
  sl_step
  isplitl [H3]; · iexact H3
  isplitl [H4]; · iexact H4
  isplitl [H6]; · iexists _; iexact H6
  iexact H

set_option maxHeartbeats 4000000 in
/-- A slab of 768 rows deep. -/
theorem slab768 (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h10 : k0_cond10 v0 v1 v2 v3 v88_r0 = 1#1)
    (X3 : Vec F S1088x3072 .bf16) (X4 : Vec F S1088x5760 .bf16) (L : Vec F S256x768 .bf16) (f : Vec F S5x256x5760 .f32) :
    iprop(pt c A3 X3 ∗ pt c A4 X4 ∗ pt c LT L ∗ ptOn c RING (slotSet (slotW k0_t5).toNat) f)
      ⊢ wp frame (wpE (defs₀ (F := F)) Variants.none (c : Thread nD τ) none) Set.univ
          (do
      let v177_r0 : Vec F S256x768 .bf16 ← k0_part7 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h10
      let v212_r0 : FVec F S256x512 .f32 ← k0_part8 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h10 v177_r0
      let v247_r0 : Vec F S256x768 .bf16 ← k0_part9 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h10 v212_r0
      let v249_r0 : Vec F S768x512 .bf16 ← Prog.lift (.load A4 (Rect.unit (s := S1088x5760) (k0_off83 v0 v1 v2 v88_r0) S768x512.size (k0_off83_inb v0 v1 v2 v3 k0_t5 v88_r0 k0_hw5 k0_h10)).toLoadRect (View.loadsAt_vmem h_S768x512))
      let v254_r0 : Vec F S1x256x512 .f32 ← Prog.lift (.load RING (Rect.unit (s := S5x256x5760) (k0_off84 v0 v1 v2 v3 k0_t5) S1x256x512.size (k0_off84_inb v0 v1 v2 v3 k0_t5 v88_r0 k0_hw5 k0_h10)).toLoadRect (View.loadsAt_vmem h_S1x256x512))
      Prog.lift (.store RING (Rect.unit (s := S5x256x5760) (k0_off84 v0 v1 v2 v3 k0_t5) S1x256x512.size (k0_off84_inb v0 v1 v2 v3 k0_t5 v88_r0 k0_hw5 k0_h10)) (k0_pay7 v118_r0 v247_r0 v249_r0) Finset.univ (View.stores_vmem_bits_univ h_S1x256x512 rfl) (.inl rfl))
      let v257_r0 : Vec F S256x768 .bf16 ← Prog.lift (.load LT (Rect.unit (s := S256x768) ![0, 0] S256x768.size inb_S256x768_S256x768_0_0).toLoadRect (View.loadsAt_vmem h_S256x768))
      let v259_r0 : Vec F S768x512 .bf16 ← Prog.lift (.load A4 (Rect.unit (s := S1088x5760) (k0_off85 v0 v1 v2 v88_r0) S768x512.size (k0_off85_inb v0 v1 v2 v3 k0_t5 v88_r0 k0_hw5 k0_h10)).toLoadRect (View.loadsAt_vmem h_S768x512))
      let v264_r0 : Vec F S1x256x512 .f32 ← Prog.lift (.load RING (Rect.unit (s := S5x256x5760) (k0_off86 v0 v1 v2 v3 k0_t5) S1x256x512.size (k0_off86_inb v0 v1 v2 v3 k0_t5 v88_r0 k0_hw5 k0_h10)).toLoadRect (View.loadsAt_vmem h_S1x256x512))
      Prog.lift (.store RING (Rect.unit (s := S5x256x5760) (k0_off86 v0 v1 v2 v3 k0_t5) S1x256x512.size (k0_off86_inb v0 v1 v2 v3 k0_t5 v88_r0 k0_hw5 k0_h10)) (k0_pay8 v118_r0 v257_r0 v259_r0) Finset.univ (View.stores_vmem_bits_univ h_S1x256x512 rfl) (.inl rfl))
      let v267_r0 : Vec F S256x768 .bf16 ← Prog.lift (.load LT (Rect.unit (s := S256x768) ![0, 0] S256x768.size inb_S256x768_S256x768_0_0).toLoadRect (View.loadsAt_vmem h_S256x768))
      let v269_r0 : Vec F S768x128 .bf16 ← Prog.lift (.load A4 (Rect.unit (s := S1088x5760) (k0_off87 v0 v1 v2 v88_r0) S768x128.size (k0_off87_inb v0 v1 v2 v3 k0_t5 v88_r0 k0_hw5 k0_h10)).toLoadRect (View.loadsAt_vmem h_S768x128))
      let v274_r0 : Vec F S1x256x128 .f32 ← Prog.lift (.load RING (Rect.unit (s := S5x256x5760) (k0_off88 v0 v1 v2 v3 k0_t5) S1x256x128.size (k0_off88_inb v0 v1 v2 v3 k0_t5 v88_r0 k0_hw5 k0_h10)).toLoadRect (View.loadsAt_vmem h_S1x256x128))
      Prog.lift (.store RING (Rect.unit (s := S5x256x5760) (k0_off88 v0 v1 v2 v3 k0_t5) S1x256x128.size (k0_off88_inb v0 v1 v2 v3 k0_t5 v88_r0 k0_hw5 k0_h10)) (k0_pay9 v118_r0 v267_r0 v269_r0) Finset.univ (View.stores_vmem_bits_univ h_S1x256x128 rfl) (.inl rfl))
      pure ⟨⟩ : Prog (TpuEff nD τ sig (Elt F) Λ₀ .tc) PUnit)
          fun _ => iprop(pt c A3 X3 ∗ pt c A4 X4 ∗ (∃ L', pt c LT L') ∗ ptOn c RING (slotSet (slotW k0_t5).toNat)
            (slabVal (fun j => k0_pay42 v118_r0 (k0_pay41 v112_r0 (lhsBlk X3 768 (k0W v0 v1 v2 v88_r0).toNat (slabW k0_t5).toNat)) (rhsBlk X4 768 512 (k0W v0 v1 v2 v88_r0).toNat (512 * j)))
              (k0_pay9 v118_r0 (k0_pay41 v112_r0 (lhsBlk X3 768 (k0W v0 v1 v2 v88_r0).toNat (slabW k0_t5).toNat)) (rhsBlk X4 768 128 (k0W v0 v1 v2 v88_r0).toNat 5632)))) := by
  rw [k0_part7_eq_skeleton, k0_part8_eq_skeleton, k0_part9_eq_skeleton]
  unfold k0_part7_skel k0_part8_skel k0_part9_skel
  simp only [bind_def', pure_def', Prog.lift, op_bind', ret_bind', bind_bind']
  iintro ⟨H3, H4, H6, H⟩
  iapply (wp_load Variants.none (c : Thread nD τ) none Set.univ (Finset.subset_univ _)) $$ [H3]; · iexact H3
  iintro H3
  rw [read_lhs X3 (n := 768) (off := k0_off64 v0 v1 v2 v3 k0_t5 v88_r0) (r := (k0W v0 v1 v2 v88_r0).toNat) (k := (slabW k0_t5).toNat) rfl]
  iapply (wp_load Variants.none (c : Thread nD τ) none Set.univ (Finset.subset_univ _)) $$ [H6]; · iexact H6
  iintro H6
  iapply (wp_store Variants.none (c : Thread nD τ) none Set.univ (Finset.subset_univ _)) $$ [H6]; · iexact H6
  iintro H6
  have hL := View.read_write_univ (v := LT.access (Rect.unit (s := S256x768) ![0, 0] S256x768.size inb_S256x768_S256x768_0_0)) (Val := Elt F) L
    (k0_pay41 v112_r0 (lhsBlk X3 768 (k0W v0 v1 v2 v88_r0).toNat (slabW k0_t5).toNat))
  have hf := Filled.zero (slotW k0_t5).toNat
    (slabVal (fun j => k0_pay42 v118_r0 (k0_pay41 v112_r0 (lhsBlk X3 768 (k0W v0 v1 v2 v88_r0).toNat (slabW k0_t5).toNat)) (rhsBlk X4 768 512 (k0W v0 v1 v2 v88_r0).toNat (512 * j)))
              (k0_pay9 v118_r0 (k0_pay41 v112_r0 (lhsBlk X3 768 (k0W v0 v1 v2 v88_r0).toNat (slabW k0_t5).toNat)) (rhsBlk X4 768 128 (k0W v0 v1 v2 v88_r0).toNat 5632))) f
  iterate 11
    iapply (chunkWide c (n := 768) (k0W v0 v1 v2 v88_r0).toNat _ (k0_pay42 v118_r0) _ _ X4 _ hL hf rfl rfl rfl (by decide) (by decide))
    isplitl [H6]; · iexact H6
    isplitl [H4]; · iexact H4
    isplitl [H]; · iexact H
    clear hf
    iintro ⟨%f', H6, H4, %hf, H⟩
  iapply (chunkNarrow c (n := 768) (k0W v0 v1 v2 v88_r0).toNat _ _ (k0_pay9 v118_r0) _ X4 _ hL hf rfl rfl rfl)
  isplitl [H6]; · iexact H6
  isplitl [H4]; · iexact H4
  isplitl [H]; · iexact H
  clear hf
  iintro ⟨%f', H6, H4, %hf, H⟩
  ihave H := Filled.eq c hf $$ H
  sl_step
  isplitl [H3]; · iexact H3
  isplitl [H4]; · iexact H4
  isplitl [H6]; · iexists _; iexact H6
  iexact H

end Cert.Proof.KernelIdeal

end
-- ==== Proof.KernelIdeal.Result.lean ====
/- The result of the kernel, element by element, from its operands: a row of zeros for an expert without rows, and otherwise
   the slab of the product which holds the row. -/
module

public import proofs.«01_k».proof.Proof.KernelIdeal.Compute

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

variable (v0 v1 v2 v3 : BitVec 32) (X1 X2 : Vec F S4 .f32) (X3 : Vec F S1088x3072 .bf16) (X4 : Vec F S1088x5760 .bf16)

/-- The zero the empty experts' rows are filled with. -/
def zeroV : F .f32 := Scalar.ofBits .f32 0x00000000#32

theorem zero_block (x : S96x5760.Idx) : k0_pay87 (F := F) x = zeroV := rfl

/-- The place of expert `e` in a table of four. -/
def ix4 (e : Fin 4) : S4.Idx := fun a => ⟨e.val, by fin_cases a; exact e.isLt⟩

/-- The scale of expert `e`: the product of the two global scales. -/
def scaleOf (e : Fin 4) : F .f32 := k0_pay52 (X1 (ix4 e)) (X2 (ix4 e))

/-- A slab of the product of expert `e`, of the 256 columns of the left operand from `k`, over 256, 512 or 768 rows: the least of
    these which holds the expert's rows. -/
def slabOf (e : Fin 4) (k : ℕ) : S5x256x5760.Idx → F .f32 :=
  let ew := BitVec.ofNat 32 e.val
  let g := scaleOf X1 X2 e
  let kb := kbW v0 v1 v2 v3 ew
  let r := (k0W v0 v1 v2 ew).toNat
  if 16 * nb v0 v1 v2 v3 e ≤ 256 then
    slabVal (fun j => k0_pay20 g (k0_pay19 kb (lhsBlk X3 256 r k)) (rhsBlk X4 256 512 r (512 * j)))
      (k0_pay3 g (k0_pay19 kb (lhsBlk X3 256 r k)) (rhsBlk X4 256 128 r 5632))
  else if 16 * nb v0 v1 v2 v3 e ≤ 512 then
    slabVal (fun j => k0_pay31 g (k0_pay30 kb (lhsBlk X3 512 r k)) (rhsBlk X4 512 512 r (512 * j)))
      (k0_pay6 g (k0_pay30 kb (lhsBlk X3 512 r k)) (rhsBlk X4 512 128 r 5632))
  else
    slabVal (fun j => k0_pay42 g (k0_pay41 kb (lhsBlk X3 768 r k)) (rhsBlk X4 768 512 r (512 * j)))
      (k0_pay9 g (k0_pay41 kb (lhsBlk X3 768 r k)) (rhsBlk X4 768 128 r 5632))

/-- A place in a slab, by its row and its column. -/
def slabIx (r k : ℕ) : S5x256x5760.Idx := fun a => ⟨(![0, r, k] : Fin 3 → ℕ) a % S5x256x5760.size a, Nat.mod_lt _ (by fin_cases a <;> decide)⟩

theorem slabVal_congr (wide : ℕ → Vec F S1x256x512 .f32) (narrow : Vec F S1x256x128 .f32) {x y : S5x256x5760.Idx} (h1 : (x 1).val = (y 1).val)
    (h2 : (x 2).val = (y 2).val) : slabVal wide narrow x = slabVal wide narrow y := by
  unfold slabVal
  by_cases h : (x 2).val < 5632
  · rw [dif_pos h, dif_pos (h2 ▸ h)]; simp only [h1, h2]
  · rw [dif_neg h, dif_neg (h2 ▸ h)]; simp only [h1, h2]

theorem slabOf_congr {e : Fin 4} {k : ℕ} {x y : S5x256x5760.Idx} (h1 : (x 1).val = (y 1).val) (h2 : (x 2).val = (y 2).val) :
    slabOf v0 v1 v2 v3 X1 X2 X3 X4 e k x = slabOf v0 v1 v2 v3 X1 X2 X3 X4 e k y := by
  unfold slabOf
  split_ifs <;> exact slabVal_congr _ _ h1 h2

/-- The result. -/
def result (y : S4x2880x5760.Idx) : F .f32 :=
  if nb v0 v1 v2 v3 (y 0) = 0 then zeroV
  else slabOf v0 v1 v2 v3 X1 X2 X3 X4 (y 0) (256 * ((y 1).val / 256)) (slabIx ((y 1).val % 256) (y 2).val)

theorem result_empty {y : S4x2880x5760.Idx} (h : nb v0 v1 v2 v3 (y 0) = 0) : result v0 v1 v2 v3 X1 X2 X3 X4 y = zeroV := if_pos h

theorem result_slab {y : S4x2880x5760.Idx} {e : Fin 4} {s : ℕ} (he : 0 < nb v0 v1 v2 v3 e) (h0 : (y 0).val = e.val) {x : S5x256x5760.Idx}
    (h1 : (y 1).val = 256 * s + (x 1).val) (h2 : (y 2).val = (x 2).val) :
    slabOf v0 v1 v2 v3 X1 X2 X3 X4 e (256 * s) x = result v0 v1 v2 v3 X1 X2 X3 X4 y := by
  have x1 : (x 1).val < 256 := (x 1).isLt
  have x2 : (x 2).val < 5760 := (x 2).isLt
  obtain rfl : y 0 = e := Fin.ext h0
  unfold result
  rw [if_neg (by omega), show (y 1).val / 256 = s by omega]
  refine slabOf_congr v0 v1 v2 v3 X1 X2 X3 X4 ?_ ?_
  · show (x 1).val = (y 1).val % 256 % 256; omega
  · show (x 2).val = (y 2).val % 5760; omega

end Cert.Proof.KernelIdeal

end
-- ==== Proof.KernelIdeal.Copies.lean ====
/- The copies of the kernel: a slot of the ring to the rows of the result it holds, issued and waited for on the slot's own cell. -/
module

public import proofs.«01_k».proof.Proof.KernelIdeal.Result

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-- The counters of the copies in flight. -/
abbrev EC : UEmb Counters 𝕄 := countersEmb (U := Pipeline.UD sig nD τ)

/-! ## The elements copied -/

/-- Rows of an expert's part of the result: `h` rows from row `r`. -/
def rowsSet (e : Fin 4) (r h : ℕ) : Finset S4x2880x5760.Idx := Finset.univ.filter fun y => (y 0).val = e.val ∧ r ≤ (y 1).val ∧ (y 1).val < r + h
theorem mem_rowsSet {e : Fin 4} {r h : ℕ} {y : S4x2880x5760.Idx} : y ∈ rowsSet e r h ↔ (y 0).val = e.val ∧ r ≤ (y 1).val ∧ (y 1).val < r + h := by
  simp [rowsSet]

/-- The first `h` rows of slot `i`. -/
def topSet (i h : ℕ) : Finset S5x256x5760.Idx := Finset.univ.filter fun x => (x 0).val = i ∧ (x 1).val < h
theorem mem_topSet {i h : ℕ} {x : S5x256x5760.Idx} : x ∈ topSet i h ↔ (x 0).val = i ∧ (x 1).val < h := by simp [topSet]
theorem topSet_sub (i h : ℕ) : topSet i h ⊆ slotSet i := fun _ hx => mem_slotSet.mpr (mem_topSet.mp hx).1

/-- A block of `h` whole rows of the result, as a copy names it, and the first `h` rows of a slot. -/
abbrev outBlk {h : ℕ} {off : Fin 3 → ℕ} (inb : ∀ a, off a + (⟨3, ![1, h, 5760]⟩ : Shape).size a ≤ S4x2880x5760.size a)
    (hr : ∀ a, (Rect.unit (s := S4x2880x5760) off (⟨3, ![1, h, 5760]⟩ : Shape).size inb).stride a = 1)
    (sq : (Rect.unit (s := S4x2880x5760) off (⟨3, ![1, h, 5760]⟩ : Shape).size inb).shape.Squeezes ⟨2, ![h, 5760]⟩) : Memref sig .tc .hbm ⟨2, ![h, 5760]⟩ .f32 :=
  (DW.slice (Rect.unit (s := S4x2880x5760) off (⟨3, ![1, h, 5760]⟩ : Shape).size inb) hr).squeeze ⟨2, ![h, 5760]⟩ sq
abbrev slotBlk {h : ℕ} {off : Fin 3 → ℕ} (inb : ∀ a, off a + (⟨3, ![1, h, 5760]⟩ : Shape).size a ≤ S5x256x5760.size a)
    (hr : ∀ a, (Rect.unit (s := S5x256x5760) off (⟨3, ![1, h, 5760]⟩ : Shape).size inb).stride a = 1)
    (sq : (Rect.unit (s := S5x256x5760) off (⟨3, ![1, h, 5760]⟩ : Shape).size inb).shape.Squeezes ⟨2, ![h, 5760]⟩) : Memref sig .tc .vmem ⟨2, ![h, 5760]⟩ .f32 :=
  (RING.slice (Rect.unit (s := S5x256x5760) off (⟨3, ![1, h, 5760]⟩ : Shape).size inb) hr).squeeze ⟨2, ![h, 5760]⟩ sq

theorem outBlk_set {h r : ℕ} {e : Fin 4} {off : Fin 3 → ℕ} (ho : off = ![e.val, r, 0]) (inb : ∀ a, off a + (⟨3, ![1, h, 5760]⟩ : Shape).size a ≤ S4x2880x5760.size a)
    (hr) (sq) : (outBlk inb hr sq).view.set = rowsSet e r h := by
  subst ho
  rw [show (outBlk inb hr sq).view.set = _ from View.set_reshape _ _]
  rw [show (DW.slice (Rect.unit (s := S4x2880x5760) ![e.val, r, 0] (⟨3, ![1, h, 5760]⟩ : Shape).size inb) hr).view.set = _ from View.set_slice_whole _ _]
  ext y
  rw [mem_rowsSet, Rect.mem_set_unit]
  constructor
  · intro hy
    have h0 : e.val ≤ (y 0).val ∧ (y 0).val < e.val + 1 := hy 0
    have h1 : r ≤ (y 1).val ∧ (y 1).val < r + h := hy 1
    exact ⟨by omega, h1⟩
  · rintro ⟨h0, h1⟩ a
    have h2 : (y 2).val < 5760 := (y 2).isLt
    fin_cases a
    · show e.val ≤ (y 0).val ∧ (y 0).val < e.val + 1; omega
    · exact h1
    · show 0 ≤ (y 2).val ∧ (y 2).val < 0 + 5760; omega

theorem slotBlk_set {h i : ℕ} {off : Fin 3 → ℕ} (ho : off = ![i, 0, 0]) (inb : ∀ a, off a + (⟨3, ![1, h, 5760]⟩ : Shape).size a ≤ S5x256x5760.size a)
    (hr) (sq) : (slotBlk inb hr sq).view.set = topSet i h := by
  subst ho
  rw [show (slotBlk inb hr sq).view.set = _ from View.set_reshape _ _]
  rw [show (RING.slice (Rect.unit (s := S5x256x5760) ![i, 0, 0] (⟨3, ![1, h, 5760]⟩ : Shape).size inb) hr).view.set = _ from View.set_slice_whole _ _]
  ext y
  rw [mem_topSet, Rect.mem_set_unit]
  constructor
  · intro hy
    have h0 : i ≤ (y 0).val ∧ (y 0).val < i + 1 := hy 0
    have h1 : 0 ≤ (y 1).val ∧ (y 1).val < 0 + h := hy 1
    exact ⟨by omega, by omega⟩
  · rintro ⟨h0, h1⟩ a
    have h2 : (y 2).val < 5760 := (y 2).isLt
    fin_cases a
    · show i ≤ (y 0).val ∧ (y 0).val < i + 1; omega
    · show 0 ≤ (y 1).val ∧ (y 1).val < 0 + h; omega
    · show 0 ≤ (y 2).val ∧ (y 2).val < 0 + 5760; omega

/-- What a copy of a slot's first rows leaves in the result's. -/
theorem copy_val {h r i : ℕ} {e : Fin 4} {off offs : Fin 3 → ℕ} (ho : off = ![e.val, r, 0]) (hos : offs = ![i, 0, 0])
    (inb : ∀ a, off a + (⟨3, ![1, h, 5760]⟩ : Shape).size a ≤ S4x2880x5760.size a) (hr) (sq)
    (inbs : ∀ a, offs a + (⟨3, ![1, h, 5760]⟩ : Shape).size a ≤ S5x256x5760.size a) (hrs) (sqs)
    (val : Vec F S5x256x5760 .f32) (V G : Vec F S4x2880x5760 .f32)
    (hG : ∀ (x : S5x256x5760.Idx) (y : S4x2880x5760.Idx), (y 0).val = e.val → (y 1).val = r + (x 1).val → (y 2).val = (x 2).val → val x = G y) :
    ∀ y ∈ rowsSet e r h, (outBlk inb hr sq).view.write (Elt F) V ((slotBlk inbs hrs sqs).view.read (Elt F) val) Finset.univ y = G y := by
  intro y hy
  subst ho hos
  refine write_cases (outBlk inb hr sq).view V G _ (fun x => (cast_eq _ _).trans ?_) y fun hm => absurd ((outBlk_set rfl inb hr sq).symm ▸ hy) hm
  have key : ∀ z : (⟨3, ![1, h, 5760]⟩ : Shape).Idx,
      val ((Rect.unit (s := S5x256x5760) ![i, 0, 0] (⟨3, ![1, h, 5760]⟩ : Shape).size inbs).idx z)
        = G ((Rect.unit (s := S4x2880x5760) ![e.val, r, 0] (⟨3, ![1, h, 5760]⟩ : Shape).size inb).idx z) := by
    intro z
    have z0 : (z 0).val < 1 := (z 0).isLt
    refine hG _ _ ?_ ?_ ?_
    · rw [LoadRect.idx_apply]; show e.val + 1 * (z 0).val = e.val; omega
    · rw [LoadRect.idx_apply, LoadRect.idx_apply]; show r + 1 * (z 1).val = r + (0 + 1 * (z 1).val); omega
    · rw [LoadRect.idx_apply, LoadRect.idx_apply]; rfl
  exact key _

/-! ## A copy in flight -/

/-- The cell of slot `i`. -/
def cell (i : Fin 5) : DmaSem sig := ((cc0_scratch4.slice (Rect.unit (s := S5) ![i.val] S1.size (cell_inb i.isLt))).squeeze S_ squeezes_S1_S_).sem

theorem cell_eq {i : Fin 5} {off : Fin 1 → ℕ} (ho : off = ![i.val]) (inb : ∀ a, off a + S1.size a ≤ S5.size a) :
    ((cc0_scratch4.slice (Rect.unit (s := S5) off S1.size inb)).squeeze S_ squeezes_S1_S_).sem = cell i := by subst ho; rfl

/-- What a copy of `h` rows credits its cell with. -/
def credit (h : ℕ) : ℕ := sig.dmaCredit .tc (Kind.table .tc .hbm) DW.view.buf ⟨2, ![h, 5760]⟩ .f32

theorem credit_pos {h : ℕ} (hh : 0 < h) : 0 < credit h :=
  sig.dmaCredit_pos _ _ _ _ _ (by simp only [Shape.numel, Fin.prod_univ_two]; exact Nat.mul_pos hh (show 0 < 5760 by decide))

/-- What the landing of the copy hands over: the rows of the result, at their values, and the slot's rows. -/
abbrev landed (c : Dev nD) (G : Vec F S4x2880x5760 .f32) (i : Fin 5) (e : Fin 4) (s h : ℕ) : sProp 𝕄 :=
  iprop(ptOn c DW (rowsSet e (256 * s) h) G ∗ ∃ f, ptOn c RING (topSet i.val h) f)

/-- A copy out of slot `i` in flight: of `h` rows, to slab `s` of expert `e`. -/
def Flight (c : Dev nD) (G : Vec F S4x2880x5760 .f32) (i : Fin 5) (e : Fin 4) (s h : ℕ) : sProp 𝕄 :=
  iprop(Transfers.Batch (EC (F := F)) (c : Thread nD τ) (.dma (cell i)) () (credit h) (fun _ : Fin 1 => landed c G i e s h) 1 0
    ∗ ∃ f, ptOn c RING (slotSet i.val \ topSet i.val h) f)

/-- A slot free: its cell at zero and its elements in hand. -/
def Free (c : Dev nD) (i : Fin 5) : sProp 𝕄 := iprop(semVal ((c : Thread nD τ), SemLoc.dma (cell i)) 0 ∗ ∃ f, ptOn (F := F) c RING (slotSet i.val) f)

/-- Issue the copy. -/
theorem wp_issue {α : Type} (c : Dev nD) {h s : ℕ} {i : Fin 5} {e : Fin 4} {off offs : Fin 3 → ℕ} {offc : Fin 1 → ℕ} {inb hr sq inbs hrs sqs} {inbc}
    {h1 h2 h3} {k : PUnit → Prog (TpuEff nD τ sig (Elt F) Λ₀ .tc) α} {Q : α → sProp 𝕄}
    (ho : off = ![e.val, 256 * s, 0]) (hos : offs = ![i.val, 0, 0]) (hoc : offc = ![i.val])
    (val : Vec F S5x256x5760 .f32) (V G : Vec F S4x2880x5760 .f32)
    (hG : ∀ (x : S5x256x5760.Idx) (y : S4x2880x5760.Idx), (y 0).val = e.val → (y 1).val = 256 * s + (x 1).val → (y 2).val = (x 2).val → val x = G y) :
    iprop(ptOn c DW (rowsSet e (256 * s) h) V ∗ ptOn c RING (slotSet i.val) val ∗ semVal ((c : Thread nD τ), SemLoc.dma (cell i)) 0
        ∗ (Flight c G i e s h -∗ wp frame (wpE (defs₀ (F := F)) Variants.none (c : Thread nD τ) none) Set.univ (k ⟨⟩) Q))
      ⊢ wp frame (wpE (defs₀ (F := F)) Variants.none (c : Thread nD τ) none) Set.univ
          (.op (.enqueueDma (slotBlk (h := h) (off := offs) inbs hrs sqs) (.here (outBlk (h := h) (off := off) inb hr sq))
            (.dma ((cc0_scratch4.slice (Rect.unit (s := S5) offc S1.size inbc)).squeeze S_ squeezes_S1_S_).sem) h1 h2 h3) k) Q := by
  have hc : ((cc0_scratch4.slice (Rect.unit (s := S5) offc S1.size inbc)).squeeze S_ squeezes_S1_S_).sem = cell i := cell_eq hoc inbc
  revert hc h3
  generalize ((cc0_scratch4.slice (Rect.unit (s := S5) offc S1.size inbc)).squeeze S_ squeezes_S1_S_).sem = sm
  rintro h3 rfl
  have hval := copy_val ho hos inb hr sq inbs hrs sqs val V G hG
  have hds := outBlk_set ho inb hr sq
  have hss := slotBlk_set hos inbs hrs sqs
  iintro ⟨HD, HR, Hs, Hk⟩
  ihave HR' := (pointsTo_split_subset (ℓ := RING.view.loc (c : Thread nD τ)) (q := fullShare) (f := val) (topSet_sub i.val h)).1 $$ HR
  icases HR' with ⟨HT, HR⟩
  imod (Transfers.batch_alloc' (Lvl := ℕ) (EC (F := F)) (c : Thread nD τ) () (credit h) (fun _ : Fin 1 => landed c G i e s h) (sm := .dma (cell i)) (E := Set.univ)) $$ Hs with HB
  iapply (Transfers.wp_dmaBatch (EC (F := F)) Variants.none (c : Thread nD τ) none (src := slotBlk inbs hrs sqs) (dst := outBlk inb hr sq) (Sd := rowsSet e (256 * s) h)
    (q := fullShare) (fs := val) (fd := V) () (credit h) rfl (hds ▸ subset_rfl)
    (D := fun _ : Fin 1 => landed c G i e s h) (j := 0) (u := 0) (by decide) (Nat.zero_le _) ?_) $$ [HT HD HB]
  · rw [hss]
    iintro ⟨HD, HT⟩
    isplitl [HD]
    · ihave HD' := (Entails.of_eq (pointsTo_congr (ℓ := DW.view.loc (c : Thread nD τ)) (q := fullShare) hval)) $$ HD
      iexact HD'
    · iexists val; iexact HT
  · rw [hss]
    isplitl [HT]; · iexact HT
    isplitl [HD]; · iexact HD
    iexact HB
  iintro HB
  iapply Hk
  unfold Flight
  isplitl [HB]; · iexact HB
  iexists val; iexact HR

/-- Wait for the copy: the rows of the result are at their values, the slot is free. -/
theorem wp_land {α : Type} (c : Dev nD) {h s : ℕ} {i : Fin 5} {e : Fin 4} {off offs : Fin 3 → ℕ} {offc : Fin 1 → ℕ} {inb hr sq inbs hrs sqs} {inbc}
    {h1 h2} {k : PUnit → Prog (TpuEff nD τ sig (Elt F) Λ₀ .tc) α} {Q : α → sProp 𝕄} (hh : 0 < h) (hoc : offc = ![i.val])
    (G : Vec F S4x2880x5760 .f32) (W : Waits sig Unit) :
    iprop(Flight c G i e s h ∗ owes (c : Thread nD τ) 0 W
        ∗ (iprop(ptOn c DW (rowsSet e (256 * s) h) G ∗ Free (F := F) c i ∗ ∃ W', owes (c : Thread nD τ) 0 W')
          -∗ wp frame (wpE (defs₀ (F := F)) Variants.none (c : Thread nD τ) none) Set.univ (k ⟨⟩) Q))
      ⊢ wp frame (wpE (defs₀ (F := F)) Variants.none (c : Thread nD τ) none) Set.univ
          (.op (.waitDma2 ((cc0_scratch4.slice (Rect.unit (s := S5) offc S1.size inbc)).squeeze S_ squeezes_S1_S_).sem
            (slotBlk (h := h) (off := offs) inbs hrs sqs) (outBlk (h := h) (off := off) inb hr sq) h1 h2) k) Q := by
  have hc : ((cc0_scratch4.slice (Rect.unit (s := S5) offc S1.size inbc)).squeeze S_ squeezes_S1_S_).sem = cell i := cell_eq hoc inbc
  revert hc
  generalize ((cc0_scratch4.slice (Rect.unit (s := S5) offc S1.size inbc)).squeeze S_ squeezes_S1_S_).sem = sm
  rintro rfl
  unfold Flight
  iintro ⟨⟨HB, HR⟩, HO, Hk⟩
  iapply (Transfers.wp_waitBatchLast (EC (F := F)) Variants.none (c : Thread nD τ) none () (N := credit h) rfl (credit_pos hh)
    (D := fun _ : Fin 1 => landed c G i e s h) (u := 0) (by omega)) $$ [HB HO]
  · isplitl [HB] <;> iassumption
  iintro ⟨HD, Hv, HO⟩
  ihave HD' := (Entails.of_eq (BI.bigSep_univ_of_subsingleton (Φ := fun _ : Fin 1 => landed c G i e s h) (0 : Fin 1))) $$ HD
  icases HD' with ⟨HD, ⟨%f, HT⟩⟩
  icases HR with ⟨%f', HR⟩
  ihave HR' := (pointsTo_join_subset (ℓ := RING.view.loc (c : Thread nD τ)) (q := fullShare) (g := f) (f := f') (topSet_sub i.val h)) $$ [HT HR]
  · isplitl [HT] <;> iassumption
  iapply Hk
  isplitl [HD]; · iexact HD
  isplitl [Hv HR']
  · unfold Free
    isplitl [Hv]; · iexact Hv
    iexists _; iexact HR'
  · iexists _; iexact HO

end Cert.Proof.KernelIdeal

end
-- ==== Proof.KernelIdeal.Ring.lean ====
/- The ring of slots: which slab of which expert each turn computes, and the slots in flight and free between two turns. -/
module

public import proofs.«01_k».proof.Proof.KernelIdeal.Copies
public import Idealize.SL.BI.BigOpNat

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-! ## Words of the small tables -/

theorem read_A0 (f : Vec F S4 .i32) {e : Fin 4} {off : Fin 1 → ℕ} (ho : off = ![e.val]) (inb : ∀ a, off a + S1.size a ≤ S4.size a) (x) :
    (A0.access (Rect.unit (s := S4) off S1.size inb)).read (Elt F) f x = f (ix4 e) := by
  subst ho
  refine congrArg f (funext fun a => Fin.ext ?_)
  show ((Rect.unit (s := S4) ![e.val] S1.size inb).idx x a).val = _
  rw [LoadRect.idx_apply]
  fin_cases a
  have : (x 0).val < 1 := (x 0).isLt
  show e.val + 1 * (x 0).val = e.val; omega

theorem read_A1 (f : Vec F S4 .f32) {e : Fin 4} {off : Fin 1 → ℕ} (ho : off = ![e.val]) (inb : ∀ a, off a + S1.size a ≤ S4.size a) (x) :
    (A1.access (Rect.unit (s := S4) off S1.size inb)).read (Elt F) f x = f (ix4 e) := by
  subst ho
  refine congrArg f (funext fun a => Fin.ext ?_)
  show ((Rect.unit (s := S4) ![e.val] S1.size inb).idx x a).val = _
  rw [LoadRect.idx_apply]
  fin_cases a
  have : (x 0).val < 1 := (x 0).isLt
  show e.val + 1 * (x 0).val = e.val; omega

theorem read_A2 (f : Vec F S4 .f32) {e : Fin 4} {off : Fin 1 → ℕ} (ho : off = ![e.val]) (inb : ∀ a, off a + S1.size a ≤ S4.size a) (x) :
    (A2.access (Rect.unit (s := S4) off S1.size inb)).read (Elt F) f x = f (ix4 e) := by
  subst ho
  refine congrArg f (funext fun a => Fin.ext ?_)
  show ((Rect.unit (s := S4) ![e.val] S1.size inb).idx x a).val = _
  rw [LoadRect.idx_apply]
  fin_cases a
  have : (x 0).val < 1 := (x 0).isLt
  show e.val + 1 * (x 0).val = e.val; omega

theorem read_ORD (f : Vec F S4 .i32) {e : Fin 4} {off : Fin 1 → ℕ} (ho : off = ![e.val]) (inb : ∀ a, off a + S1.size a ≤ S4.size a) (x) :
    (ORD.access (Rect.unit (s := S4) off S1.size inb)).read (Elt F) f x = f (ix4 e) := by
  subst ho
  refine congrArg f (funext fun a => Fin.ext ?_)
  show ((Rect.unit (s := S4) ![e.val] S1.size inb).idx x a).val = _
  rw [LoadRect.idx_apply]
  fin_cases a
  have : (x 0).val < 1 := (x 0).isLt
  show e.val + 1 * (x 0).val = e.val; omega

/-- A word stored in the order of the experts. -/
theorem write_ORD (f : Vec F S4 .i32) {e : Fin 4} {off : Fin 1 → ℕ} (ho : off = ![e.val]) (inb : ∀ a, off a + S1.size a ≤ S4.size a) (w : BitVec 32) :
    (ORD.access (Rect.unit (s := S4) off S1.size inb)).write (Elt F) f (fun _ => w) Finset.univ = fun y => if (y 0).val = e.val then w else f y := by
  subst ho
  funext y
  refine write_cases (ORD.access (Rect.unit (s := S4) ![e.val] S1.size inb)) f (fun y => if (y 0).val = e.val then w else f y) (fun _ => w)
    (fun x => (cast_eq _ _).trans ?_) y fun hm => ?_
  · have : (x 0).val < 1 := (x 0).isLt
    refine (if_pos ?_).symm
    show ((Rect.unit (s := S4) ![e.val] S1.size inb).idx x 0).val = e.val
    rw [LoadRect.idx_apply]
    show e.val + 1 * (x 0).val = e.val; omega
  · refine (if_neg fun h => hm ?_).symm
    rw [show (ORD.access (Rect.unit (s := S4) ![e.val] S1.size inb)).set = _ from View.set_slice_whole _ _]
    refine Rect.mem_set_unit.mpr fun a => ?_
    fin_cases a
    show e.val ≤ (y 0).val ∧ (y 0).val < e.val + 1; omega

/-! ## The turns -/

variable (v0 v1 v2 v3 : BitVec 32)

/-- The nonempty expert of a rank. -/
def exOf (r : ℕ) : Fin 4 :=
  if 0 < nb v0 v1 v2 v3 0 ∧ rank v0 v1 v2 v3 0 = r then 0
  else if 0 < nb v0 v1 v2 v3 1 ∧ rank v0 v1 v2 v3 1 = r then 1
  else if 0 < nb v0 v1 v2 v3 2 ∧ rank v0 v1 v2 v3 2 = r then 2
  else 3

theorem exOf_spec {r : ℕ} (hr : r < cnt v0 v1 v2 v3) : 0 < nb v0 v1 v2 v3 (exOf v0 v1 v2 v3 r) ∧ rank v0 v1 v2 v3 (exOf v0 v1 v2 v3 r) = r := by
  have h0 := rank_0 (v0 := v0) (v1 := v1) (v2 := v2) (v3 := v3)
  have h1 := rank_1 (v0 := v0) (v1 := v1) (v2 := v2) (v3 := v3)
  have h2 := rank_2 (v0 := v0) (v1 := v1) (v2 := v2) (v3 := v3)
  have h3 := rank_3 (v0 := v0) (v1 := v1) (v2 := v2) (v3 := v3)
  have hc := cnt_eq (v0 := v0) (v1 := v1) (v2 := v2) (v3 := v3)
  unfold exOf
  by_cases p0 : 0 < nb v0 v1 v2 v3 0 <;> by_cases p1 : 0 < nb v0 v1 v2 v3 1 <;> by_cases p2 : 0 < nb v0 v1 v2 v3 2 <;> by_cases p3 : 0 < nb v0 v1 v2 v3 3 <;>
    simp only [p0, p1, p2, p3, if_true, if_false, true_and, false_and] at h0 h1 h2 h3 hc ⊢ <;>
    first | omega | (split_ifs <;> first | exact ⟨by assumption, by omega⟩ | (exfalso; omega))

theorem rank_inj {e e' : Fin 4} (he : 0 < nb v0 v1 v2 v3 e) (he' : 0 < nb v0 v1 v2 v3 e') (hr : rank v0 v1 v2 v3 e = rank v0 v1 v2 v3 e') : e = e' := by
  have h0 := rank_0 (v0 := v0) (v1 := v1) (v2 := v2) (v3 := v3)
  have h1 := rank_1 (v0 := v0) (v1 := v1) (v2 := v2) (v3 := v3)
  have h2 := rank_2 (v0 := v0) (v1 := v1) (v2 := v2) (v3 := v3)
  have h3 := rank_3 (v0 := v0) (v1 := v1) (v2 := v2) (v3 := v3)
  fin_cases e <;> fin_cases e' <;> simp only [Fin.zero_eta, Fin.mk_one, Fin.reduceFinMk] at he he' hr ⊢ <;> first | rfl | (exfalso; split_ifs at h1 h2 h3 <;> omega)

theorem rank_lt_cnt {e : Fin 4} (he : 0 < nb v0 v1 v2 v3 e) : rank v0 v1 v2 v3 e < cnt v0 v1 v2 v3 := by
  have h0 := rank_0 (v0 := v0) (v1 := v1) (v2 := v2) (v3 := v3)
  have h1 := rank_1 (v0 := v0) (v1 := v1) (v2 := v2) (v3 := v3)
  have h2 := rank_2 (v0 := v0) (v1 := v1) (v2 := v2) (v3 := v3)
  have h3 := rank_3 (v0 := v0) (v1 := v1) (v2 := v2) (v3 := v3)
  have hc := cnt_eq (v0 := v0) (v1 := v1) (v2 := v2) (v3 := v3)
  fin_cases e <;> simp only [Fin.zero_eta, Fin.mk_one, Fin.reduceFinMk] at he ⊢ <;> split_ifs at h1 h2 h3 hc <;> omega

/-- The rows a turn copies out: the last slab of an expert has 64. -/
def rowsOf (s : ℕ) : ℕ := if s = 11 then 64 else 256

/-- The rows of the result which turn `j` computes: slab `j % 12` of the nonempty expert of rank `j / 12`. -/
def jobSet (j : ℕ) : Finset S4x2880x5760.Idx := rowsSet (exOf v0 v1 v2 v3 (j / 12)) (256 * (j % 12)) (rowsOf (j % 12))

theorem mem_jobSet {j : ℕ} (hj : j < 12 * cnt v0 v1 v2 v3) {y : S4x2880x5760.Idx} :
    y ∈ jobSet v0 v1 v2 v3 j ↔ 0 < nb v0 v1 v2 v3 (y 0) ∧ 12 * rank v0 v1 v2 v3 (y 0) + (y 1).val / 256 = j := by
  have y1 : (y 1).val < 2880 := (y 1).isLt
  obtain ⟨hn, hr⟩ := exOf_spec v0 v1 v2 v3 (r := j / 12) (by omega)
  unfold jobSet rowsOf
  rw [mem_rowsSet]
  constructor
  · rintro ⟨h0, h1⟩
    have h0 : y 0 = exOf v0 v1 v2 v3 (j / 12) := Fin.ext h0
    rw [h0]
    refine ⟨hn, ?_⟩
    rw [hr]
    split_ifs at h1 <;> omega
  · rintro ⟨h0, h1⟩
    have : y 0 = exOf v0 v1 v2 v3 (j / 12) := rank_inj v0 v1 v2 v3 h0 hn (by rw [hr]; omega)
    refine ⟨congrArg Fin.val this, ?_⟩
    split_ifs <;> omega

/-! ## The slots between two turns -/

/-- The slot of turn `j`. -/
def slotOf (j : ℕ) : Fin 5 := ⟨j % 5, Nat.mod_lt _ (by decide)⟩

variable (c : Dev nD) (G : Vec F S4x2880x5760 .f32)

/-- The copy of turn `j` in flight, its rows of the result at their values, and the rows not yet written. -/
def jobFlight (j : ℕ) : sProp 𝕄 := Flight c G (slotOf j) (exOf v0 v1 v2 v3 (j / 12)) (j % 12) (rowsOf (j % 12))
def jobDone (j : ℕ) : sProp 𝕄 := ptOn c DW (jobSet v0 v1 v2 v3 j) G
def jobTodo (j : ℕ) : sProp 𝕄 := iprop(∃ V, ptOn (F := F) c DW (jobSet v0 v1 v2 v3 j) V)

/-- With `k` turns issued and `d` landed: the turns between are in flight, the other slots free, the landed turns' rows at their
    values, the later ones' in hand. -/
def RingSt (k d : ℕ) : sProp 𝕄 :=
  iprop(bigSep (Finset.Ico d k) (jobFlight v0 v1 v2 v3 c G) ∗ bigSep (Finset.Ico k (d + 5)) (fun j => Free (F := F) c (slotOf j))
    ∗ bigSep (Finset.Ico 0 d) (jobDone v0 v1 v2 v3 c G) ∗ bigSep (Finset.Ico k (12 * cnt v0 v1 v2 v3)) (jobTodo (F := F) v0 v1 v2 v3 c))

/-- Landing the oldest turn in flight. -/
theorem RingSt.land {k d : ℕ} (hd : d < k) (hk : k ≤ d + 5) :
    RingSt v0 v1 v2 v3 c G k d ⊢ iprop(jobFlight v0 v1 v2 v3 c G d
      ∗ (iprop(jobDone v0 v1 v2 v3 c G d ∗ Free (F := F) c (slotOf d)) -∗ RingSt v0 v1 v2 v3 c G k (d + 1))) := by
  unfold RingSt
  rw [BI.bigSep_Ico_succ_bot hd, show d + 1 + 5 = (d + 5) + 1 from rfl, BI.bigSep_Ico_succ_top hk, BI.bigSep_Ico_succ_top (Nat.zero_le d),
    show slotOf (d + 5) = slotOf d from Fin.ext (Nat.add_mod_right d 5)]
  iintro ⟨⟨HF, HFs⟩, HS, HD, HT⟩
  isplitl [HF]; · iexact HF
  iintro ⟨Hd, Hf⟩
  isplitl [HFs]; · iexact HFs
  isplitl [HS Hf]
  · isplitl [Hf] <;> iassumption
  isplitl [HD Hd]
  · isplitl [Hd] <;> iassumption
  iexact HT

/-- Issuing the next turn. -/
theorem RingSt.issue {k d : ℕ} (hk : k < d + 5) (hd : d ≤ k) (hn : k < 12 * cnt v0 v1 v2 v3) :
    RingSt v0 v1 v2 v3 c G k d ⊢ iprop(Free (F := F) c (slotOf k) ∗ jobTodo (F := F) v0 v1 v2 v3 c k
      ∗ (jobFlight v0 v1 v2 v3 c G k -∗ RingSt v0 v1 v2 v3 c G (k + 1) d)) := by
  unfold RingSt
  rw [BI.bigSep_Ico_succ_bot hk, BI.bigSep_Ico_succ_top hd, BI.bigSep_Ico_succ_bot hn]
  iintro ⟨HFs, ⟨Hf, HS⟩, HD, Ht, HT⟩
  isplitl [Hf]; · iexact Hf
  isplitl [Ht]; · iexact Ht
  iintro HF
  isplitl [HFs HF]
  · isplitl [HF] <;> iassumption
  isplitl [HS]; · iexact HS
  isplitl [HD]; · iexact HD
  iexact HT

end Cert.Proof.KernelIdeal

end
-- ==== Proof.KernelIdeal.Trip.lean ====
/- One turn of the main loop: wait for the slot if an older copy still holds it, read which expert is next, compute its slab, issue the copy. -/
module

public import proofs.«01_k».proof.Proof.KernelIdeal.Ring

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-! ## Loading a word of a small table -/

theorem wp_word_A0 {α : Type} (c : Dev nD) {e : Fin 4} {off : Fin 1 → ℕ} {inb : ∀ a, off a + S1.size a ≤ S4.size a} {h1 hp}
    {k : Elt F .i32 → Prog (TpuEff nD τ sig (Elt F) Λ₀ .tc) α} {Q : α → sProp 𝕄} (f : Vec F S4 .i32) (w : Elt F .i32) (ho : off = ![e.val]) (hw : f (ix4 e) = w) :
    iprop(pt c A0 f ∗ (pt c A0 f -∗ wp frame (wpE (defs₀ (F := F)) Variants.none (c : Thread nD τ) none) Set.univ (k w) Q))
      ⊢ wp frame (wpE (defs₀ (F := F)) Variants.none (c : Thread nD τ) none) Set.univ ((smemLoad A0 (Rect.unit (s := S4) off S1.size inb) h1 hp).bind k) Q := by
  iintro ⟨H, Hk⟩
  iapply (wp_smemLoadElt Variants.none (c : Thread nD τ) none Set.univ (m := A0) (r := Rect.unit (s := S4) off S1.size inb)
    (hw := View.loads_smem_one hp h1) (x := Shape.Idx.first (h1.symm ▸ Nat.one_pos)) (k := fun g => (Prog.ret g).bind k) (Finset.subset_univ _)) $$ [H]
  · iexact H
  iintro H
  rw [read_A0 f ho inb, hw]
  iapply Hk
  iexact H

theorem wp_word_A1 {α : Type} (c : Dev nD) {e : Fin 4} {off : Fin 1 → ℕ} {inb : ∀ a, off a + S1.size a ≤ S4.size a} {h1 hp}
    {k : Elt F .f32 → Prog (TpuEff nD τ sig (Elt F) Λ₀ .tc) α} {Q : α → sProp 𝕄} (f : Vec F S4 .f32) (w : Elt F .f32) (ho : off = ![e.val]) (hw : f (ix4 e) = w) :
    iprop(pt c A1 f ∗ (pt c A1 f -∗ wp frame (wpE (defs₀ (F := F)) Variants.none (c : Thread nD τ) none) Set.univ (k w) Q))
      ⊢ wp frame (wpE (defs₀ (F := F)) Variants.none (c : Thread nD τ) none) Set.univ ((smemLoad A1 (Rect.unit (s := S4) off S1.size inb) h1 hp).bind k) Q := by
  iintro ⟨H, Hk⟩
  iapply (wp_smemLoadElt Variants.none (c : Thread nD τ) none Set.univ (m := A1) (r := Rect.unit (s := S4) off S1.size inb)
    (hw := View.loads_smem_one hp h1) (x := Shape.Idx.first (h1.symm ▸ Nat.one_pos)) (k := fun g => (Prog.ret g).bind k) (Finset.subset_univ _)) $$ [H]
  · iexact H
  iintro H
  rw [read_A1 f ho inb, hw]
  iapply Hk
  iexact H

theorem wp_word_A2 {α : Type} (c : Dev nD) {e : Fin 4} {off : Fin 1 → ℕ} {inb : ∀ a, off a + S1.size a ≤ S4.size a} {h1 hp}
    {k : Elt F .f32 → Prog (TpuEff nD τ sig (Elt F) Λ₀ .tc) α} {Q : α → sProp 𝕄} (f : Vec F S4 .f32) (w : Elt F .f32) (ho : off = ![e.val]) (hw : f (ix4 e) = w) :
    iprop(pt c A2 f ∗ (pt c A2 f -∗ wp frame (wpE (defs₀ (F := F)) Variants.none (c : Thread nD τ) none) Set.univ (k w) Q))
      ⊢ wp frame (wpE (defs₀ (F := F)) Variants.none (c : Thread nD τ) none) Set.univ ((smemLoad A2 (Rect.unit (s := S4) off S1.size inb) h1 hp).bind k) Q := by
  iintro ⟨H, Hk⟩
  iapply (wp_smemLoadElt Variants.none (c : Thread nD τ) none Set.univ (m := A2) (r := Rect.unit (s := S4) off S1.size inb)
    (hw := View.loads_smem_one hp h1) (x := Shape.Idx.first (h1.symm ▸ Nat.one_pos)) (k := fun g => (Prog.ret g).bind k) (Finset.subset_univ _)) $$ [H]
  · iexact H
  iintro H
  rw [read_A2 f ho inb, hw]
  iapply Hk
  iexact H

theorem wp_word_ORD {α : Type} (c : Dev nD) {e : Fin 4} {off : Fin 1 → ℕ} {inb : ∀ a, off a + S1.size a ≤ S4.size a} {h1 hp}
    {k : Elt F .i32 → Prog (TpuEff nD τ sig (Elt F) Λ₀ .tc) α} {Q : α → sProp 𝕄} (f : Vec F S4 .i32) (w : Elt F .i32) (ho : off = ![e.val]) (hw : f (ix4 e) = w) :
    iprop(pt c ORD f ∗ (pt c ORD f -∗ wp frame (wpE (defs₀ (F := F)) Variants.none (c : Thread nD τ) none) Set.univ (k w) Q))
      ⊢ wp frame (wpE (defs₀ (F := F)) Variants.none (c : Thread nD τ) none) Set.univ ((smemLoad ORD (Rect.unit (s := S4) off S1.size inb) h1 hp).bind k) Q := by
  iintro ⟨H, Hk⟩
  iapply (wp_smemLoadElt Variants.none (c : Thread nD τ) none Set.univ (m := ORD) (r := Rect.unit (s := S4) off S1.size inb)
    (hw := View.loads_smem_one hp h1) (x := Shape.Idx.first (h1.symm ▸ Nat.one_pos)) (k := fun g => (Prog.ret g).bind k) (Finset.subset_univ _)) $$ [H]
  · iexact H
  iintro H
  rw [read_ORD f ho inb, hw]
  iapply Hk
  iexact H

theorem wp_scales {α : Type} (c : Dev nD) {e : Fin 4} {off : Fin 1 → ℕ} {inb inb' : ∀ a, off a + S1.size a ≤ S4.size a} {h1 hp h1' hp'}
    {r : Elt F .f32 → Elt F .f32 → α} {Q : α → sProp 𝕄} (X1 X2 : Vec F S4 .f32) (ho : off = ![e.val]) :
    iprop(pt c A1 X1 ∗ pt c A2 X2 ∗ (iprop(pt c A1 X1 ∗ pt c A2 X2) -∗ Q (r (X1 (ix4 e)) (X2 (ix4 e)))))
      ⊢ wp frame (wpE (defs₀ (F := F)) Variants.none (c : Thread nD τ) none) Set.univ ((smemLoad A1 (Rect.unit (s := S4) off S1.size inb) h1 hp).bind fun a => (smemLoad A2 (Rect.unit (s := S4) off S1.size inb') h1' hp').bind fun b => .ret (r a b)) Q := by
  iintro ⟨H1, H2, Hk⟩
  iapply (wp_word_A1 c (e := e) X1 (X1 (ix4 e)) ho rfl) $$ [H1 H2 Hk]
  isplitl [H1]; · iexact H1
  iintro H1
  iapply (wp_word_A2 c (e := e) X2 (X2 (ix4 e)) ho rfl) $$ [H1 H2 Hk]
  isplitl [H2]; · iexact H2
  iintro H2
  sl_step
  iapply Hk
  isplitl [H1] <;> iassumption

/-! ## The head of a turn -/

/-- The order of the experts, as the loop reads it: the nonempty experts by rank. -/
def Ordered (v0 v1 v2 v3 : BitVec 32) (O : Vec F S4 .i32) : Prop :=
  ∀ (r : ℕ) (i : Fin 4), r < cnt v0 v1 v2 v3 → i.val = r → O (ix4 i) = BitVec.ofNat 32 (exOf v0 v1 v2 v3 r).val

theorem rowsOf_last {s : ℕ} (h : s = 11) : rowsOf s = 64 := if_pos h
theorem rowsOf_full {s : ℕ} (h : s ≠ 11) : rowsOf s = 256 := if_neg h

set_option maxHeartbeats 4000000 in
/-- The head of turn `k`: with the slots of the turns before it in flight, the oldest lands if all five are; the turn's expert, its
    first row, its blocks and its scale are read. -/
theorem head (c : Dev nD) {v0 v1 v2 v3 : BitVec 32} (h : Fit v0 v1 v2 v3) (k0_hw4 : k0_chk4 v0 v1 v2 v3) (k : Fin (k0_t5_loop v0 v1 v2 v3).trips)
    (O : Vec F S4 .i32) (hO : Ordered v0 v1 v2 v3 O) (X1 X2 : Vec F S4 .f32) (G : Vec F S4x2880x5760 .f32) :
    iprop(pt c ORD O ∗ pt c A1 X1 ∗ pt c A2 X2 ∗ RingSt v0 v1 v2 v3 c G k.val (k.val - 5) ∗ ∃ W, owes (c : Thread nD τ) 0 W)
      ⊢ wp frame (wpE (defs₀ (F := F)) Variants.none (c : Thread nD τ) none) Set.univ
          (k0_part10 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 (Scalar.shrui (Scalar.addi v0 15#32) 4#32) (Scalar.shrui (Scalar.addi v1 15#32) 4#32) (Scalar.shrui (Scalar.addi v2 15#32) 4#32) (Scalar.shrui (Scalar.addi v3 15#32) 4#32) (Scalar.addi 0#32 (Scalar.shrui (Scalar.addi v0 15#32) 4#32)) (Scalar.addi (Scalar.addi 0#32 (Scalar.shrui (Scalar.addi v0 15#32) 4#32)) (Scalar.shrui (Scalar.addi v1 15#32) 4#32)) (Scalar.addi (Scalar.addi (Scalar.addi 0#32 (Scalar.shrui (Scalar.addi v0 15#32) 4#32)) (Scalar.shrui (Scalar.addi v1 15#32) 4#32)) (Scalar.shrui (Scalar.addi v2 15#32) 4#32)) 1#32 0#32 0#32 1#32 k)
          fun r => iprop(⌜∃ hw, r = ⟨BitVec.ofNat 32 (exOf v0 v1 v2 v3 (k.val / 12)).val, hw, remW k, slotW k,
              kbW v0 v1 v2 v3 (BitVec.ofNat 32 (exOf v0 v1 v2 v3 (k.val / 12)).val), k0W v0 v1 v2 (BitVec.ofNat 32 (exOf v0 v1 v2 v3 (k.val / 12)).val),
              scaleOf X1 X2 (exOf v0 v1 v2 v3 (k.val / 12)), slabW k⟩⌝
            ∗ pt c ORD O ∗ pt c A1 X1 ∗ pt c A2 X2 ∗ RingSt v0 v1 v2 v3 c G k.val (k.val + 1 - 5) ∗ ∃ W, owes (c : Thread nD τ) 0 W) := by
  have hk := klt h k
  have hk48 := klt48 h k
  have hr : k.val / 12 < cnt v0 v1 v2 v3 := by omega
  have he := exOf_spec v0 v1 v2 v3 hr
  generalize hE : exOf v0 v1 v2 v3 (k.val / 12) = e at *
  rw [k0_part10_eq_skeleton]
  unfold k0_part10_skel
  simp only [bind_def', pure_def', Prog.lift, op_bind', ret_bind', bind_bind']
  iintro ⟨HO, H1, H2, HR, HW⟩
  iapply (wp_word_ORD c (e := ⟨k.val / 12, by omega⟩) O (BitVec.ofNat 32 e.val) (off8_eq h k) (by rw [hO _ ⟨k.val / 12, by omega⟩ hr rfl, hE])) $$ [HO HR HW H1 H2]
  isplitl [HO]; · iexact HO
  iintro HO
  iapply (wp_assume Variants.none (c : Thread nD τ) none Set.univ (chk5 h k e))
  by_cases h5 : 5 ≤ k.val
  · have hd : k.val + 1 - 5 = k.val - 5 + 1 := by omega
    have hsl : k.val % 5 = (slotOf (k.val - 5)).val := by show _ = (k.val - 5) % 5; omega
    rw [dif_pos ((cond5_iff h k).mpr h5), hd]
    icases HW with ⟨%W, HW⟩
    ihave HR' := (RingSt.land v0 v1 v2 v3 c G (k := k.val) (d := k.val - 5) (by omega) (by omega)) $$ HR
    icases HR' with ⟨HF, HR⟩
    unfold jobFlight
    by_cases h6 : (k.val - 5) % 12 = 11
    · rw [dif_neg (fun hc => (cond6_iff h k h5).mp hc h6), dif_pos ((cond7_iff h k h5).mpr h6), rowsOf_last h6]
      iapply (wp_land c (h := 64) (by decide) ((off11_eq h k h5).trans (by rw [hsl])) G W) $$ [HF HW HR HO H1 H2]
      isplitl [HF]; · iexact HF
      isplitl [HW]; · iexact HW
      iintro ⟨HD, Hf, HW⟩
      iapply (wp_scales c (e := e) X1 X2 (off13_eq e)) $$ [H1 H2 HO HR HW HD Hf]
      isplitl [H1]; · iexact H1
      isplitl [H2]; · iexact H2
      iintro ⟨H1, H2⟩
      isplitr
      · ipureintro; exact ⟨_, rfl⟩
      isplitl [HO]; · iexact HO
      isplitl [H1]; · iexact H1
      isplitl [H2]; · iexact H2
      isplitl [HR HD Hf]
      · iapply HR
        isplitl [HD]
        · unfold jobDone jobSet
          rw [rowsOf_last h6]
          iexact HD
        · iexact Hf
      · iexact HW
    · rw [dif_pos ((cond6_iff h k h5).mpr h6), dif_neg (fun hc => h6 ((cond7_iff h k h5).mp hc)), rowsOf_full h6]
      iapply (wp_land c (h := 256) (by decide) ((off9_eq h k h5).trans (by rw [hsl])) G W) $$ [HF HW HR HO H1 H2]
      isplitl [HF]; · iexact HF
      isplitl [HW]; · iexact HW
      iintro ⟨HD, Hf, HW⟩
      iapply (wp_scales c (e := e) X1 X2 (off13_eq e)) $$ [H1 H2 HO HR HW HD Hf]
      isplitl [H1]; · iexact H1
      isplitl [H2]; · iexact H2
      iintro ⟨H1, H2⟩
      isplitr
      · ipureintro; exact ⟨_, rfl⟩
      isplitl [HO]; · iexact HO
      isplitl [H1]; · iexact H1
      isplitl [H2]; · iexact H2
      isplitl [HR HD Hf]
      · iapply HR
        isplitl [HD]
        · unfold jobDone jobSet
          rw [rowsOf_full h6]
          iexact HD
        · iexact Hf
      · iexact HW
  · rw [dif_neg (fun hc => h5 ((cond5_iff h k).mp hc)), show k.val + 1 - 5 = k.val - 5 by omega]
    iapply (wp_scales c (e := e) X1 X2 (off13_eq e)) $$ [H1 H2 HO HR HW]
    isplitl [H1]; · iexact H1
    isplitl [H2]; · iexact H2
    iintro ⟨H1, H2⟩
    isplitr
    · ipureintro; exact ⟨_, rfl⟩
    isplitl [HO]; · iexact HO
    isplitl [H1]; · iexact H1
    isplitl [H2]; · iexact H2
    isplitl [HR] <;> iassumption

end Cert.Proof.KernelIdeal

end
-- ==== Proof.KernelIdeal.Zero.lean ====
/- The rows of the experts without tokens: thirty copies of a block of zeros for each, all issued before the first is waited for, on one cell. -/
module

public import proofs.«01_k».proof.Proof.KernelIdeal.Trip

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-! ## The blocks of the empty experts, in the order of their copies -/

section Blocks

variable (v0 v1 v2 v3 : BitVec 32)

theorem zrank_0 : zrank v0 v1 v2 v3 0 = 0 := by unfold zrank; rw [Fin.sum_univ_four]; simp
theorem zrank_1 : zrank v0 v1 v2 v3 1 = if nb v0 v1 v2 v3 0 = 0 then 1 else 0 := by unfold zrank; rw [Fin.sum_univ_four]; simp
theorem zrank_2 : zrank v0 v1 v2 v3 2 = (if nb v0 v1 v2 v3 0 = 0 then 1 else 0) + (if nb v0 v1 v2 v3 1 = 0 then 1 else 0) := by
  unfold zrank; rw [Fin.sum_univ_four]; simp
theorem zrank_3 : zrank v0 v1 v2 v3 3 = (if nb v0 v1 v2 v3 0 = 0 then 1 else 0) + (if nb v0 v1 v2 v3 1 = 0 then 1 else 0)
    + (if nb v0 v1 v2 v3 2 = 0 then 1 else 0) := by
  unfold zrank; rw [Fin.sum_univ_four]; simp
theorem zcnt_eq : zcnt v0 v1 v2 v3 = (if nb v0 v1 v2 v3 0 = 0 then 1 else 0) + (if nb v0 v1 v2 v3 1 = 0 then 1 else 0)
    + (if nb v0 v1 v2 v3 2 = 0 then 1 else 0) + (if nb v0 v1 v2 v3 3 = 0 then 1 else 0) := by
  unfold zcnt; rw [Fin.sum_univ_four]

theorem zrank_inj {e e' : Fin 4} (he : nb v0 v1 v2 v3 e = 0) (he' : nb v0 v1 v2 v3 e' = 0) (hr : zrank v0 v1 v2 v3 e = zrank v0 v1 v2 v3 e') : e = e' := by
  have h0 := zrank_0 v0 v1 v2 v3
  have h1 := zrank_1 v0 v1 v2 v3
  have h2 := zrank_2 v0 v1 v2 v3
  have h3 := zrank_3 v0 v1 v2 v3
  fin_cases e <;> fin_cases e' <;> simp only [Fin.zero_eta, Fin.mk_one, Fin.reduceFinMk] at he he' hr ⊢ <;> first | rfl | (exfalso; split_ifs at h1 h2 h3 <;> omega)

theorem zrank_lt {e : Fin 4} (he : nb v0 v1 v2 v3 e = 0) : zrank v0 v1 v2 v3 e < zcnt v0 v1 v2 v3 := by
  have h0 := zrank_0 v0 v1 v2 v3
  have h1 := zrank_1 v0 v1 v2 v3
  have h2 := zrank_2 v0 v1 v2 v3
  have h3 := zrank_3 v0 v1 v2 v3
  have hc := zcnt_eq v0 v1 v2 v3
  fin_cases e <;> simp only [Fin.zero_eta, Fin.mk_one, Fin.reduceFinMk] at he ⊢ <;> split_ifs at h1 h2 h3 hc <;> omega

/-- How many copies there are; -/
abbrev zN : ℕ := 30 * zcnt v0 v1 v2 v3
/-- how many are before expert `e`'s; -/
def zpos (e : Fin 4) : ℕ := 30 * zrank v0 v1 v2 v3 e
/-- and how many after them. -/
def znext (e : Fin 4) : ℕ := zpos v0 v1 v2 v3 e + if nb v0 v1 v2 v3 e = 0 then 30 else 0

theorem zpos_0 : zpos v0 v1 v2 v3 0 = 0 := by unfold zpos; rw [zrank_0]
theorem znext_0 : znext v0 v1 v2 v3 0 = zpos v0 v1 v2 v3 1 := by unfold znext zpos; rw [zrank_0, zrank_1]; split_ifs <;> rfl
theorem znext_1 : znext v0 v1 v2 v3 1 = zpos v0 v1 v2 v3 2 := by unfold znext zpos; rw [zrank_1, zrank_2]; split_ifs <;> rfl
theorem znext_2 : znext v0 v1 v2 v3 2 = zpos v0 v1 v2 v3 3 := by unfold znext zpos; rw [zrank_2, zrank_3]; split_ifs <;> rfl
theorem znext_3 : znext v0 v1 v2 v3 3 = zN v0 v1 v2 v3 := by unfold znext zpos zN; rw [zrank_3, zcnt_eq]; split_ifs <;> rfl
theorem zpos_lt {e : Fin 4} (he : nb v0 v1 v2 v3 e = 0) {t : ℕ} (ht : t < 30) : zpos v0 v1 v2 v3 e + t < zN v0 v1 v2 v3 := by
  have := zrank_lt v0 v1 v2 v3 he
  unfold zpos zN; omega

/-- The elements of copy `j`. -/
def zSet (j : ℕ) : Finset S4x2880x5760.Idx := Finset.univ.filter fun y => nb v0 v1 v2 v3 (y 0) = 0 ∧ 30 * zrank v0 v1 v2 v3 (y 0) + (y 1).val / 96 = j
theorem mem_zSet {j : ℕ} {y : S4x2880x5760.Idx} : y ∈ zSet v0 v1 v2 v3 j ↔ nb v0 v1 v2 v3 (y 0) = 0 ∧ 30 * zrank v0 v1 v2 v3 (y 0) + (y 1).val / 96 = j := by
  simp only [zSet, Finset.mem_filter, Finset.mem_univ, true_and]

theorem zSet_eq {e : Fin 4} (he : nb v0 v1 v2 v3 e = 0) {t : ℕ} (ht : t < 30) : zSet v0 v1 v2 v3 (zpos v0 v1 v2 v3 e + t) = rowsSet e (96 * t) 96 := by
  ext y
  have y1 : (y 1).val < 2880 := (y 1).isLt
  rw [mem_zSet, mem_rowsSet]
  unfold zpos
  constructor
  · rintro ⟨h0, h1⟩
    have : y 0 = e := zrank_inj v0 v1 v2 v3 h0 he (by omega)
    rw [this] at h1
    exact ⟨congrArg Fin.val this, by omega, by omega⟩
  · rintro ⟨h0, h1, h2⟩
    have h0 : y 0 = e := Fin.ext h0
    rw [h0]
    exact ⟨he, by omega⟩

end Blocks

/-! ## The copies -/

section Copies

variable (c : Dev nD) (v0 v1 v2 v3 : BitVec 32) (G : Vec F S4x2880x5760 .f32)

/-- The block of zeros. -/
def zeroB : Vec F S96x5760 .f32 := fun _ => zeroV

/-- The share of the block that copy `j` reads with. -/
abbrev zTok (j : ℕ) : sProp 𝕄 := ZB.view.loc (c : Thread nD τ) ↦{Transfers.shareTokN fullShare j} (zeroB (F := F))

/-- What the landing of copy `j` hands over. -/
abbrev zLanded (j : Fin (zN v0 v1 v2 v3)) : sProp 𝕄 := iprop(ptOn c DW (zSet v0 v1 v2 v3 j.val) G ∗ zTok (F := F) c j.val)

/-- What copy `j` takes. -/
def zTodo (j : ℕ) : sProp 𝕄 := iprop((∃ V, ptOn (F := F) c DW (zSet v0 v1 v2 v3 j) V) ∗ zTok (F := F) c j)

/-- Copies in flight, of which some are waited for. -/
abbrev zBatch (j u : ℕ) : sProp 𝕄 :=
  Transfers.Batch (EC (F := F)) (c : Thread nD τ) (.dma cc0_scratch3.sem) () (credit 96) (zLanded c v0 v1 v2 v3 G) j u

/-- With `k` copies issued and none waited for. -/
def ZIss (k : ℕ) : sProp 𝕄 := iprop(zBatch c v0 v1 v2 v3 G k 0 ∗ bigSep (Finset.Ico k (zN v0 v1 v2 v3)) (zTodo (F := F) c v0 v1 v2 v3))

/-- With every copy issued and `u` waited for. -/
def ZWait (u : ℕ) : sProp 𝕄 := iprop(zBatch c v0 v1 v2 v3 G (zN v0 v1 v2 v3) (credit 96 * u) ∗ ∃ W, owes (c : Thread nD τ) 0 W)

/-- What a copy of the block of zeros leaves. -/
theorem zero_val {r : ℕ} {e : Fin 4} {off : Fin 3 → ℕ} (ho : off = ![e.val, r, 0])
    (inb : ∀ a, off a + (⟨3, ![1, 96, 5760]⟩ : Shape).size a ≤ S4x2880x5760.size a) (hr) (sq) (V : Vec F S4x2880x5760 .f32)
    (hG : ∀ y : S4x2880x5760.Idx, (y 0).val = e.val → G y = zeroV) :
    ∀ y ∈ rowsSet e r 96, (outBlk (h := 96) inb hr sq).view.write (Elt F) V (ZB.view.read (Elt F) (zeroB (F := F))) Finset.univ y = G y := by
  intro y hy
  refine write_cases (outBlk (h := 96) inb hr sq).view V G _ (fun x => (cast_eq _ _).trans ?_) y fun hm => absurd ((outBlk_set ho inb hr sq).symm ▸ hy) hm
  have hm : (outBlk (h := 96) inb hr sq).view.emb x ∈ rowsSet e r 96 := outBlk_set ho inb hr sq ▸ Finset.mem_map_of_mem _ (Finset.mem_univ x)
  exact (hG _ (mem_rowsSet.mp hm).1).symm

/-- Issue a copy. -/
theorem wp_zero {α : Type} {t : ℕ} {e : Fin 4} {off : Fin 3 → ℕ} {inb hr sq} {h1 h2 h3} {k : PUnit → Prog (TpuEff nD τ sig (Elt F) Λ₀ .tc) α} {Q : α → sProp 𝕄}
    (he : nb v0 v1 v2 v3 e = 0) (ht : t < 30) (ho : off = ![e.val, 96 * t, 0]) (hG : ∀ y : S4x2880x5760.Idx, nb v0 v1 v2 v3 (y 0) = 0 → G y = zeroV) :
    iprop(ZIss c v0 v1 v2 v3 G (zpos v0 v1 v2 v3 e + t) ∗ (ZIss c v0 v1 v2 v3 G (zpos v0 v1 v2 v3 e + (t + 1)) -∗ wp frame (wpE (defs₀ (F := F)) Variants.none (c : Thread nD τ) none) Set.univ (k ⟨⟩) Q))
      ⊢ wp frame (wpE (defs₀ (F := F)) Variants.none (c : Thread nD τ) none) Set.univ (.op (.enqueueDma ZB (.here (outBlk (h := 96) (off := off) inb hr sq)) (.dma cc0_scratch3.sem) h1 h2 h3) k) Q := by
  have hlt := zpos_lt v0 v1 v2 v3 he ht
  have hval := zero_val G ho inb hr sq (hG := fun y hy => hG y (by rw [show y 0 = e from Fin.ext hy]; exact he))
  have hds := outBlk_set ho inb hr sq
  have hss : ZB.view.set = Finset.univ := View.set_whole _
  unfold ZIss
  rw [BI.bigSep_Ico_succ_bot hlt, show zTodo (F := F) c v0 v1 v2 v3 (zpos v0 v1 v2 v3 e + t)
    = iprop((∃ V, ptOn (F := F) c DW (rowsSet e (96 * t) 96) V) ∗ zTok (F := F) c (zpos v0 v1 v2 v3 e + t)) by unfold zTodo; rw [zSet_eq v0 v1 v2 v3 he ht]]
  iintro ⟨⟨HB, ⟨⟨%V, HD⟩, HZ⟩, HT⟩, Hk⟩
  iapply (Transfers.wp_dmaBatch (EC (F := F)) Variants.none (c : Thread nD τ) none (src := ZB) (dst := outBlk (h := 96) inb hr sq) (Sd := rowsSet e (96 * t) 96)
    (q := Transfers.shareTokN fullShare (zpos v0 v1 v2 v3 e + t)) (fs := zeroB (F := F)) (fd := V) () (credit 96) rfl (hds ▸ subset_rfl)
    (D := zLanded c v0 v1 v2 v3 G) (j := zpos v0 v1 v2 v3 e + t) (u := 0) hlt (Nat.zero_le _) ?_) $$ [HZ HD HB]
  · rw [hss]
    show _ ⊢ iprop(ptOn c DW (zSet v0 v1 v2 v3 (zpos v0 v1 v2 v3 e + t)) G ∗ zTok (F := F) c (zpos v0 v1 v2 v3 e + t))
    rw [zSet_eq v0 v1 v2 v3 he ht]
    iintro ⟨HD, HZ⟩
    isplitl [HD]
    · ihave HD' := (Entails.of_eq (pointsTo_congr (ℓ := DW.view.loc (c : Thread nD τ)) (q := fullShare) (hval V))) $$ HD
      iexact HD'
    · iexact HZ
  · rw [hss]
    isplitl [HZ]; · iexact HZ
    isplitl [HD]; · iexact HD
    iexact HB
  iintro HB
  iapply Hk
  isplitl [HB] <;> iassumption

/-- Wait for one copy's amount. -/
theorem wp_zwait {α : Type} {u : ℕ} {off : Fin 3 → ℕ} {inb hr sq} {h1 h2} {k : PUnit → Prog (TpuEff nD τ sig (Elt F) Λ₀ .tc) α} {Q : α → sProp 𝕄}
    (hu : u < zN v0 v1 v2 v3) :
    iprop(ZWait c v0 v1 v2 v3 G u ∗ (ZWait c v0 v1 v2 v3 G (u + 1) -∗ wp frame (wpE (defs₀ (F := F)) Variants.none (c : Thread nD τ) none) Set.univ (k ⟨⟩) Q))
      ⊢ wp frame (wpE (defs₀ (F := F)) Variants.none (c : Thread nD τ) none) Set.univ (.op (.waitDma2 cc0_scratch3.sem ZB (outBlk (h := 96) (off := off) inb hr sq) h1 h2) k) Q := by
  have hle : credit 96 * u + 1 * credit 96 ≤ credit 96 * zN v0 v1 v2 v3 := by
    rw [Nat.one_mul, ← Nat.mul_succ]; exact Nat.mul_le_mul_left _ hu
  unfold ZWait
  rw [show credit 96 * (u + 1) = credit 96 * u + 1 * credit 96 by rw [Nat.one_mul, Nat.mul_succ]]
  iintro ⟨⟨HB, ⟨%W, HW⟩⟩, Hk⟩
  iapply (Transfers.wp_waitBatchMul (EC (F := F)) Variants.none (c : Thread nD τ) none () (N := credit 96) 1 (Nat.one_mul _).symm
    (D := zLanded c v0 v1 v2 v3 G) hle) $$ [HB HW]
  · isplitl [HB] <;> iassumption
  iintro ⟨HB, HW⟩
  iapply Hk
  isplitl [HB]; · iexact HB
  iexists _; iexact HW

end Copies

/-! ## The loops over an empty expert's blocks -/

/-- Words of the kernel's test that an expert has no block. -/
theorem empty_iff {v : BitVec 32} (hv : v.toNat ≤ 768) :
    Scalar.cmpi .ne (Scalar.extui (Scalar.cmpi .eq (Scalar.shrui (Scalar.addi v 15#32) 4#32) 0#32)) 0#32 = 1#1 ↔ (v.toNat + 15) / 16 = 0 := by
  rw [guard_iff, eq_iff]
  have := blocks_nat hv
  unfold blocks at this
  rw [this]; rfl

/-- A block run only for an expert without rows, before what follows it. -/
theorem wp_ifEmpty {α : Type} {P : Prop} [Decidable P] {p : Prog (TpuEff nD τ sig (Elt F) Λ₀ .tc) Unit} {K : Prog (TpuEff nD τ sig (Elt F) Λ₀ .tc) α} {Q : α → sProp 𝕄}
    (c : Dev nD) (v0 v1 v2 v3 : BitVec 32) (e : Fin 4) (hP : P ↔ nb v0 v1 v2 v3 e = 0) (Z : ℕ → sProp 𝕄)
    (hp : nb v0 v1 v2 v3 e = 0 → Z (zpos v0 v1 v2 v3 e) ⊢ wp frame (wpE (defs₀ (F := F)) Variants.none (c : Thread nD τ) none) Set.univ p (fun _ => Z (zpos v0 v1 v2 v3 e + 30))) :
    iprop(Z (zpos v0 v1 v2 v3 e) ∗ (Z (znext v0 v1 v2 v3 e) -∗ wp frame (wpE (defs₀ (F := F)) Variants.none (c : Thread nD τ) none) Set.univ K Q)) ⊢ wp frame (wpE (defs₀ (F := F)) Variants.none (c : Thread nD τ) none) Set.univ (if P then p.bind fun _ => K else K) Q := by
  unfold znext
  by_cases he : nb v0 v1 v2 v3 e = 0
  · rw [if_pos (hP.mpr he), if_pos he]
    iintro ⟨HZ, HK⟩
    iapply (wp_seq Variants.none (c : Thread nD τ) none Set.univ (hp he)) $$ [HZ HK]
    isplitl [HZ]; · iexact HZ
    iintro %_ HZ
    iapply HK
    iexact HZ
  · rw [if_neg (fun h => he (hP.mp h)), if_neg he]
    iintro ⟨HZ, HK⟩
    iapply HK
    iexact HZ

theorem off1_eq : ∀ t : Fin k0_t1_loop.trips, k0_off1 t = ![0, 96 * t.val, 0] := by decide

set_option maxHeartbeats 1000000 in
theorem zeros0 (c : Dev nD) (v0 v1 v2 v3 : BitVec 32) (G : Vec F S4x2880x5760 .f32) (hG : ∀ y : S4x2880x5760.Idx, nb v0 v1 v2 v3 (y 0) = 0 → G y = zeroV) (he : nb v0 v1 v2 v3 0 = 0) :
    ZIss c v0 v1 v2 v3 G (zpos v0 v1 v2 v3 0)
      ⊢ wp frame (wpE (defs₀ (F := F)) Variants.none (c : Thread nD τ) none) Set.univ (Scf.Loop.for k0_t1_loop k0_t1_ok () (k0_t1_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZIss c v0 v1 v2 v3 G (zpos v0 v1 v2 v3 0 + 30)) := by
  refine .trans ?_ (Scf.wp_for _ _ _ _ _ _ (k0_t1_ok) () _ (fun t _ => ZIss c v0 v1 v2 v3 G (zpos v0 v1 v2 v3 0 + t)) fun t u => ?_)
  · iintro HZ
    isplitl [HZ]; · iexact HZ
    iintro %_ HZ
    iexact HZ
  · have ht : t.val < 30 := t.isLt
    unfold k0_t1_body
    simp only [bind_def', pure_def', Prog.lift, op_bind', ret_bind', bind_bind']
    iintro HZ
    iapply (wp_zero c v0 v1 v2 v3 G (e := 0) he ht (off1_eq t) hG) $$ [HZ]
    isplitl [HZ]; · iexact HZ
    iintro HZ
    sl_step
    iexact HZ

theorem off2_eq : ∀ t : Fin k0_t2_loop.trips, k0_off2 t = ![1, 96 * t.val, 0] := by decide

set_option maxHeartbeats 1000000 in
theorem zeros1 (c : Dev nD) (v0 v1 v2 v3 : BitVec 32) (G : Vec F S4x2880x5760 .f32) (hG : ∀ y : S4x2880x5760.Idx, nb v0 v1 v2 v3 (y 0) = 0 → G y = zeroV) (he : nb v0 v1 v2 v3 1 = 0) :
    ZIss c v0 v1 v2 v3 G (zpos v0 v1 v2 v3 1)
      ⊢ wp frame (wpE (defs₀ (F := F)) Variants.none (c : Thread nD τ) none) Set.univ (Scf.Loop.for k0_t2_loop k0_t2_ok () (k0_t2_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZIss c v0 v1 v2 v3 G (zpos v0 v1 v2 v3 1 + 30)) := by
  refine .trans ?_ (Scf.wp_for _ _ _ _ _ _ (k0_t2_ok) () _ (fun t _ => ZIss c v0 v1 v2 v3 G (zpos v0 v1 v2 v3 1 + t)) fun t u => ?_)
  · iintro HZ
    isplitl [HZ]; · iexact HZ
    iintro %_ HZ
    iexact HZ
  · have ht : t.val < 30 := t.isLt
    unfold k0_t2_body
    simp only [bind_def', pure_def', Prog.lift, op_bind', ret_bind', bind_bind']
    iintro HZ
    iapply (wp_zero c v0 v1 v2 v3 G (e := 1) he ht (off2_eq t) hG) $$ [HZ]
    isplitl [HZ]; · iexact HZ
    iintro HZ
    sl_step
    iexact HZ

theorem off3_eq : ∀ t : Fin k0_t3_loop.trips, k0_off3 t = ![2, 96 * t.val, 0] := by decide

set_option maxHeartbeats 1000000 in
theorem zeros2 (c : Dev nD) (v0 v1 v2 v3 : BitVec 32) (G : Vec F S4x2880x5760 .f32) (hG : ∀ y : S4x2880x5760.Idx, nb v0 v1 v2 v3 (y 0) = 0 → G y = zeroV) (he : nb v0 v1 v2 v3 2 = 0) :
    ZIss c v0 v1 v2 v3 G (zpos v0 v1 v2 v3 2)
      ⊢ wp frame (wpE (defs₀ (F := F)) Variants.none (c : Thread nD τ) none) Set.univ (Scf.Loop.for k0_t3_loop k0_t3_ok () (k0_t3_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZIss c v0 v1 v2 v3 G (zpos v0 v1 v2 v3 2 + 30)) := by
  refine .trans ?_ (Scf.wp_for _ _ _ _ _ _ (k0_t3_ok) () _ (fun t _ => ZIss c v0 v1 v2 v3 G (zpos v0 v1 v2 v3 2 + t)) fun t u => ?_)
  · iintro HZ
    isplitl [HZ]; · iexact HZ
    iintro %_ HZ
    iexact HZ
  · have ht : t.val < 30 := t.isLt
    unfold k0_t3_body
    simp only [bind_def', pure_def', Prog.lift, op_bind', ret_bind', bind_bind']
    iintro HZ
    iapply (wp_zero c v0 v1 v2 v3 G (e := 2) he ht (off3_eq t) hG) $$ [HZ]
    isplitl [HZ]; · iexact HZ
    iintro HZ
    sl_step
    iexact HZ

theorem off4_eq : ∀ t : Fin k0_t4_loop.trips, k0_off4 t = ![3, 96 * t.val, 0] := by decide

set_option maxHeartbeats 1000000 in
theorem zeros3 (c : Dev nD) (v0 v1 v2 v3 : BitVec 32) (w0 : BitVec 32) (k0_hw1 : k0_chk1 w0) (w1 : BitVec 32) (k0_hw2 : k0_chk2 w0 w1) (w2 : BitVec 32) (k0_hw3 : k0_chk3 w0 w1 w2) (v5 v7 v9 v11 : BitVec 32) (v28 : BitVec 1) (G : Vec F S4x2880x5760 .f32) (hG : ∀ y : S4x2880x5760.Idx, nb v0 v1 v2 v3 (y 0) = 0 → G y = zeroV) (he : nb v0 v1 v2 v3 3 = 0) :
    ZIss c v0 v1 v2 v3 G (zpos v0 v1 v2 v3 3)
      ⊢ wp frame (wpE (defs₀ (F := F)) Variants.none (c : Thread nD τ) none) Set.univ (Scf.Loop.for k0_t4_loop k0_t4_ok () (k0_t4_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) w0 k0_hw1 w1 k0_hw2 w2 k0_hw3 v5 v7 v9 v11 v28)) (fun _ => ZIss c v0 v1 v2 v3 G (zpos v0 v1 v2 v3 3 + 30)) := by
  refine .trans ?_ (Scf.wp_for _ _ _ _ _ _ (k0_t4_ok) () _ (fun t _ => ZIss c v0 v1 v2 v3 G (zpos v0 v1 v2 v3 3 + t)) fun t u => ?_)
  · iintro HZ
    isplitl [HZ]; · iexact HZ
    iintro %_ HZ
    iexact HZ
  · have ht : t.val < 30 := t.isLt
    unfold k0_t4_body
    simp only [bind_def', pure_def', Prog.lift, op_bind', ret_bind', bind_bind']
    iintro HZ
    iapply (wp_zero c v0 v1 v2 v3 G (e := 3) he ht (off4_eq t) hG) $$ [HZ]
    isplitl [HZ]; · iexact HZ
    iintro HZ
    sl_step
    iexact HZ

theorem off190_eq : ∀ t : Fin k0_t9_loop.trips, k0_off190 t = ![0, 96 * t.val, 0] := by decide

set_option maxHeartbeats 1000000 in
theorem waits0 (c : Dev nD) (v0 v1 v2 v3 : BitVec 32) (G : Vec F S4x2880x5760 .f32) (he : nb v0 v1 v2 v3 0 = 0) :
    ZWait c v0 v1 v2 v3 G (zpos v0 v1 v2 v3 0)
      ⊢ wp frame (wpE (defs₀ (F := F)) Variants.none (c : Thread nD τ) none) Set.univ (Scf.Loop.for k0_t9_loop k0_t9_ok () (k0_t9_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZWait c v0 v1 v2 v3 G (zpos v0 v1 v2 v3 0 + 30)) := by
  refine .trans ?_ (Scf.wp_for _ _ _ _ _ _ (k0_t9_ok) () _ (fun t _ => ZWait c v0 v1 v2 v3 G (zpos v0 v1 v2 v3 0 + t)) fun t u => ?_)
  · iintro HZ
    isplitl [HZ]; · iexact HZ
    iintro %_ HZ
    iexact HZ
  · have ht : t.val < 30 := t.isLt
    unfold k0_t9_body
    simp only [bind_def', pure_def', Prog.lift, op_bind', ret_bind', bind_bind']
    iintro HZ
    iapply (wp_zwait c v0 v1 v2 v3 G (zpos_lt v0 v1 v2 v3 he ht)) $$ [HZ]
    isplitl [HZ]; · iexact HZ
    iintro HZ
    sl_step
    iexact HZ

theorem off191_eq : ∀ t : Fin k0_t10_loop.trips, k0_off191 t = ![1, 96 * t.val, 0] := by decide

set_option maxHeartbeats 1000000 in
theorem waits1 (c : Dev nD) (v0 v1 v2 v3 : BitVec 32) (G : Vec F S4x2880x5760 .f32) (he : nb v0 v1 v2 v3 1 = 0) :
    ZWait c v0 v1 v2 v3 G (zpos v0 v1 v2 v3 1)
      ⊢ wp frame (wpE (defs₀ (F := F)) Variants.none (c : Thread nD τ) none) Set.univ (Scf.Loop.for k0_t10_loop k0_t10_ok () (k0_t10_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZWait c v0 v1 v2 v3 G (zpos v0 v1 v2 v3 1 + 30)) := by
  refine .trans ?_ (Scf.wp_for _ _ _ _ _ _ (k0_t10_ok) () _ (fun t _ => ZWait c v0 v1 v2 v3 G (zpos v0 v1 v2 v3 1 + t)) fun t u => ?_)
  · iintro HZ
    isplitl [HZ]; · iexact HZ
    iintro %_ HZ
    iexact HZ
  · have ht : t.val < 30 := t.isLt
    unfold k0_t10_body
    simp only [bind_def', pure_def', Prog.lift, op_bind', ret_bind', bind_bind']
    iintro HZ
    iapply (wp_zwait c v0 v1 v2 v3 G (zpos_lt v0 v1 v2 v3 he ht)) $$ [HZ]
    isplitl [HZ]; · iexact HZ
    iintro HZ
    sl_step
    iexact HZ

theorem off192_eq : ∀ t : Fin k0_t11_loop.trips, k0_off192 t = ![2, 96 * t.val, 0] := by decide

set_option maxHeartbeats 1000000 in
theorem waits2 (c : Dev nD) (v0 v1 v2 v3 : BitVec 32) (G : Vec F S4x2880x5760 .f32) (he : nb v0 v1 v2 v3 2 = 0) :
    ZWait c v0 v1 v2 v3 G (zpos v0 v1 v2 v3 2)
      ⊢ wp frame (wpE (defs₀ (F := F)) Variants.none (c : Thread nD τ) none) Set.univ (Scf.Loop.for k0_t11_loop k0_t11_ok () (k0_t11_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZWait c v0 v1 v2 v3 G (zpos v0 v1 v2 v3 2 + 30)) := by
  refine .trans ?_ (Scf.wp_for _ _ _ _ _ _ (k0_t11_ok) () _ (fun t _ => ZWait c v0 v1 v2 v3 G (zpos v0 v1 v2 v3 2 + t)) fun t u => ?_)
  · iintro HZ
    isplitl [HZ]; · iexact HZ
    iintro %_ HZ
    iexact HZ
  · have ht : t.val < 30 := t.isLt
    unfold k0_t11_body
    simp only [bind_def', pure_def', Prog.lift, op_bind', ret_bind', bind_bind']
    iintro HZ
    iapply (wp_zwait c v0 v1 v2 v3 G (zpos_lt v0 v1 v2 v3 he ht)) $$ [HZ]
    isplitl [HZ]; · iexact HZ
    iintro HZ
    sl_step
    iexact HZ

theorem off193_eq : ∀ t : Fin k0_t12_loop.trips, k0_off193 t = ![3, 96 * t.val, 0] := by decide

set_option maxHeartbeats 1000000 in
theorem waits3 (c : Dev nD) (v0 v1 v2 v3 : BitVec 32) (G : Vec F S4x2880x5760 .f32) (he : nb v0 v1 v2 v3 3 = 0) :
    ZWait c v0 v1 v2 v3 G (zpos v0 v1 v2 v3 3)
      ⊢ wp frame (wpE (defs₀ (F := F)) Variants.none (c : Thread nD τ) none) Set.univ (Scf.Loop.for k0_t12_loop k0_t12_ok () (k0_t12_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))) (fun _ => ZWait c v0 v1 v2 v3 G (zpos v0 v1 v2 v3 3 + 30)) := by
  refine .trans ?_ (Scf.wp_for _ _ _ _ _ _ (k0_t12_ok) () _ (fun t _ => ZWait c v0 v1 v2 v3 G (zpos v0 v1 v2 v3 3 + t)) fun t u => ?_)
  · iintro HZ
    isplitl [HZ]; · iexact HZ
    iintro %_ HZ
    iexact HZ
  · have ht : t.val < 30 := t.isLt
    unfold k0_t12_body
    simp only [bind_def', pure_def', Prog.lift, op_bind', ret_bind', bind_bind']
    iintro HZ
    iapply (wp_zwait c v0 v1 v2 v3 G (zpos_lt v0 v1 v2 v3 he ht)) $$ [HZ]
    isplitl [HZ]; · iexact HZ
    iintro HZ
    sl_step
    iexact HZ

end Cert.Proof.KernelIdeal

end
-- ==== Proof.KernelIdeal.Cover.lean ====
/- The buffers before the first copy and after the last: the result, the ring and the block of zeros, whole and in parts. -/
module

public import proofs.«01_k».proof.Proof.KernelIdeal.Ring
public import proofs.«01_k».proof.Proof.KernelIdeal.Zero
public import Idealize.ShloMosaic.Lib.Ring

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

variable (c : Dev nD) (v0 v1 v2 v3 : BitVec 32) (G : Vec F S4x2880x5760 .f32)

/-! ## The result in parts -/

theorem jobs_disjoint : ∀ t ∈ Finset.Ico 0 (12 * cnt v0 v1 v2 v3), ∀ t' ∈ Finset.Ico 0 (12 * cnt v0 v1 v2 v3), t ≠ t' →
    Disjoint (jobSet v0 v1 v2 v3 t) (jobSet v0 v1 v2 v3 t') := fun t ht t' ht' h =>
  Finset.disjoint_left.mpr fun y hy hy' => h
    (((mem_jobSet v0 v1 v2 v3 (Finset.mem_Ico.mp ht).2).mp hy).2.symm.trans ((mem_jobSet v0 v1 v2 v3 (Finset.mem_Ico.mp ht').2).mp hy').2)

theorem zeros_disjoint : ∀ t ∈ Finset.Ico 0 (zN v0 v1 v2 v3), ∀ t' ∈ Finset.Ico 0 (zN v0 v1 v2 v3), t ≠ t' →
    Disjoint (zSet v0 v1 v2 v3 t) (zSet v0 v1 v2 v3 t') := fun t _ t' _ h =>
  Finset.disjoint_left.mpr fun y hy hy' => h (((mem_zSet v0 v1 v2 v3).mp hy).2.symm.trans ((mem_zSet v0 v1 v2 v3).mp hy').2)

theorem parts_disjoint : Disjoint ((Finset.Ico 0 (12 * cnt v0 v1 v2 v3)).biUnion (jobSet v0 v1 v2 v3)) ((Finset.Ico 0 (zN v0 v1 v2 v3)).biUnion (zSet v0 v1 v2 v3)) := by
  refine Finset.disjoint_left.mpr fun y hy hy' => ?_
  obtain ⟨t, ht, hy⟩ := Finset.mem_biUnion.mp hy
  obtain ⟨t', -, hy'⟩ := Finset.mem_biUnion.mp hy'
  have h1 := ((mem_jobSet v0 v1 v2 v3 (Finset.mem_Ico.mp ht).2).mp hy).1
  have h2 := ((mem_zSet v0 v1 v2 v3).mp hy').1
  omega

theorem cover : (Finset.Ico 0 (12 * cnt v0 v1 v2 v3)).biUnion (jobSet v0 v1 v2 v3) ∪ (Finset.Ico 0 (zN v0 v1 v2 v3)).biUnion (zSet v0 v1 v2 v3) = Finset.univ := by
  refine Finset.eq_univ_iff_forall.mpr fun y => ?_
  have y1 : (y 1).val < 2880 := (y 1).isLt
  rw [Finset.mem_union]
  rcases Nat.eq_zero_or_pos (nb v0 v1 v2 v3 (y 0)) with h | h
  · have := zrank_lt v0 v1 v2 v3 h
    exact .inr (Finset.mem_biUnion.mpr ⟨_, Finset.mem_Ico.mpr ⟨Nat.zero_le _, by unfold zN; omega⟩, (mem_zSet v0 v1 v2 v3).mpr ⟨h, rfl⟩⟩)
  · have := rank_lt_cnt v0 v1 v2 v3 h
    have hj : 12 * rank v0 v1 v2 v3 (y 0) + (y 1).val / 256 < 12 * cnt v0 v1 v2 v3 := by omega
    exact .inl (Finset.mem_biUnion.mpr ⟨_, Finset.mem_Ico.mpr ⟨Nat.zero_le _, hj⟩, (mem_jobSet v0 v1 v2 v3 hj).mpr ⟨h, rfl⟩⟩)

/-- The result held whole is held part by part. -/
theorem dw_parts (V : Vec F S4x2880x5760 .f32) : (pt c DW V : sProp 𝕄)
    = iprop(bigSep (Finset.Ico 0 (12 * cnt v0 v1 v2 v3)) (fun j => ptOn c DW (jobSet v0 v1 v2 v3 j) V)
      ∗ bigSep (Finset.Ico 0 (zN v0 v1 v2 v3)) (fun j => ptOn c DW (zSet v0 v1 v2 v3 j) V)) := by
  rw [← pointsTo_biUnion _ _ (jobs_disjoint v0 v1 v2 v3), ← pointsTo_biUnion _ _ (zeros_disjoint v0 v1 v2 v3)]
  have h : (ptOn c DW _ V : sProp 𝕄) ⊣⊢ _ := pointsTo_union (parts_disjoint v0 v1 v2 v3)
  rw [cover] at h
  exact Idealize.SL.BI.Entails.antisymm h.1 h.2

theorem dw_split (V : Vec F S4x2880x5760 .f32) : pt c DW V
    ⊢ iprop(bigSep (Finset.Ico 0 (12 * cnt v0 v1 v2 v3)) (jobTodo (F := F) v0 v1 v2 v3 c)
      ∗ bigSep (Finset.Ico 0 (zN v0 v1 v2 v3)) (fun j => iprop(∃ V, ptOn (F := F) c DW (zSet v0 v1 v2 v3 j) V))) := by
  rw [dw_parts c v0 v1 v2 v3]
  refine sep_mono (BI.bigSep_mono fun j _ => ?_) (BI.bigSep_mono fun j _ => ?_)
  · show (ptOn c DW (jobSet v0 v1 v2 v3 j) V : sProp 𝕄) ⊢ iprop(∃ V, ptOn (F := F) c DW (jobSet v0 v1 v2 v3 j) V)
    iintro H; iexists V; iexact H
  · show (ptOn c DW (zSet v0 v1 v2 v3 j) V : sProp 𝕄) ⊢ iprop(∃ V, ptOn (F := F) c DW (zSet v0 v1 v2 v3 j) V)
    iintro H; iexists V; iexact H

theorem dw_join : iprop(bigSep (Finset.Ico 0 (12 * cnt v0 v1 v2 v3)) (jobDone v0 v1 v2 v3 c G)
      ∗ bigSep (Finset.Ico 0 (zN v0 v1 v2 v3)) (fun j => ptOn c DW (zSet v0 v1 v2 v3 j) G)) ⊢ pt c DW G :=
  Entails.of_eq (dw_parts c v0 v1 v2 v3 G).symm

/-! ## The ring in slots -/

theorem slots_cover : (Finset.univ : Finset (Fin 5)).biUnion (fun i => slotSet i.val) = Finset.univ :=
  Finset.eq_univ_iff_forall.mpr fun x => Finset.mem_biUnion.mpr ⟨x 0, Finset.mem_univ _, mem_slotSet.mpr rfl⟩
theorem slots_disjoint : ∀ b b' : Fin 5, b ≠ b' → Disjoint (slotSet b.val) (slotSet b'.val) := fun b b' h =>
  Finset.disjoint_left.mpr fun x hx hx' => h (Fin.ext ((mem_slotSet.mp hx).symm.trans (mem_slotSet.mp hx')))

/-- The cells of the ring, at zero. -/
abbrev cells0 : sProp 𝕄 := bigSep Finset.univ fun i : Fin 5 => semVal ((c : Thread nD τ), SemLoc.dma (cell i)) 0

/-- The five slots from any turn on are the five slots. -/
theorem free_slots (k : ℕ) : (bigSep (Finset.Ico k (k + 5)) (fun j => Free (F := F) c (slotOf j)) : sProp 𝕄) = bigSep Finset.univ (Free (F := F) c) := by
  induction k with
  | zero =>
    rw [show Finset.Ico 0 (0 + 5) = (Finset.univ : Finset (Fin 5)).map Fin.valEmbedding from by
      rw [Fin.map_valEmbedding_univ, Nat.Iio_eq_range, Finset.range_eq_Ico], BI.bigSep_map]
    refine BI.bigSep_congr fun i _ => ?_
    have hi : slotOf i.val = i := Fin.ext (Nat.mod_eq_of_lt i.isLt)
    show Free (F := F) c (slotOf i.val) = Free c i
    rw [hi]
  | succ k ih =>
    rw [← ih, show k + 1 + 5 = (k + 5) + 1 from rfl, BI.bigSep_Ico_succ_top (by omega : k + 1 ≤ k + 5), BI.bigSep_Ico_succ_bot (by omega : k < k + 5),
      show slotOf (k + 5) = slotOf k from Fin.ext (Nat.add_mod_right k 5)]

theorem ring_split (f : Vec F S5x256x5760 .f32) : iprop(pt c RING f ∗ cells0 (F := F) c) ⊢ bigSep (Finset.Ico 0 (0 + 5)) (fun j => Free (F := F) c (slotOf j)) := by
  rw [free_slots c 0, show (pt c RING f : sProp 𝕄) = bigSep Finset.univ fun i : Fin 5 => ptOn c RING (slotSet i.val) f from
    Idealize.ShloMosaic.Ring.pointsTo_blocks (ℓ := RING.view.loc (c : Thread nD τ)) (fun i : Fin 5 => slotSet i.val) slots_disjoint slots_cover f]
  rw [← BI.bigSep_sep']
  refine BI.bigSep_mono fun i _ => ?_
  show iprop(ptOn c RING (slotSet i.val) f ∗ semVal ((c : Thread nD τ), SemLoc.dma (cell i)) 0)
    ⊢ (iprop(semVal ((c : Thread nD τ), SemLoc.dma (cell i)) 0 ∗ ∃ f, ptOn (F := F) c RING (slotSet i.val) f) : sProp 𝕄)
  iintro ⟨H, Hs⟩
  isplitl [Hs]; · iexact Hs
  iexists f; iexact H

theorem ring_join (k : ℕ) : bigSep (Finset.Ico k (k + 5)) (fun j => Free (F := F) c (slotOf j)) ⊢ iprop((∃ f, pt (F := F) c RING f) ∗ cells0 (F := F) c) := by
  rw [free_slots c k]
  unfold Free
  rw [BI.bigSep_sep']
  iintro ⟨Hs, H⟩
  isplitl [H]
  · iapply (Idealize.ShloMosaic.Ring.pointsTo_blocks_join_exists (ℓ := RING.view.loc (c : Thread nD τ)) (fun i : Fin 5 => slotSet i.val) slots_disjoint slots_cover (fun _ => zeroV)); iexact H
  · iexact Hs

/-! ## The block of zeros -/

theorem zb_split : pt c ZB (zeroB (F := F)) ⊢ iprop((ZB.view.loc (c : Thread nD τ) ↦{Transfers.shareDrop fullShare (zN v0 v1 v2 v3)} (zeroB (F := F)))
      ∗ bigSep (Finset.Ico 0 (zN v0 v1 v2 v3)) (zTok (F := F) c)) := by
  rw [← Finset.range_eq_Ico]
  exact (Transfers.pointsTo_toks_range fullShare (zN v0 v1 v2 v3)).1

/-- Every copy of zeros waited for: the empty experts' parts of the result are zero, and the block and the cell are back. -/
theorem z_close : iprop(ZWait c v0 v1 v2 v3 G (zN v0 v1 v2 v3) ∗ (ZB.view.loc (c : Thread nD τ) ↦{Transfers.shareDrop fullShare (zN v0 v1 v2 v3)} (zeroB (F := F))))
    ⊢ (|={Set.univ}=> iprop(bigSep (Finset.Ico 0 (zN v0 v1 v2 v3)) (fun j => ptOn c DW (zSet v0 v1 v2 v3 j) G) ∗ pt c ZB (zeroB (F := F))
      ∗ semVal ((c : Thread nD τ), SemLoc.dma cc0_scratch3.sem) 0 ∗ ∃ W, owes (c : Thread nD τ) 0 W) : sProp 𝕄) := by
  unfold ZWait
  iintro ⟨⟨HB, HW⟩, HD⟩
  imod (Transfers.batch_collect' (EC (F := F)) (c : Thread nD τ) (credit_pos (by decide : 0 < 96))) $$ HB with ⟨HL, Hs⟩
  imodintro
  ihave HL := (show bigSep Finset.univ (zLanded c v0 v1 v2 v3 G)
      ⊢ iprop(bigSep (Finset.range (zN v0 v1 v2 v3)) (fun j => ptOn c DW (zSet v0 v1 v2 v3 j) G) ∗ bigSep (Finset.range (zN v0 v1 v2 v3)) (zTok (F := F) c)) from by
    rw [← BI.bigSep_sep', ← Nat.Iio_eq_range, ← Fin.map_valEmbedding_univ, BI.bigSep_map]; exact Entails.of_eq rfl) $$ HL
  icases HL with ⟨H1, H2⟩
  rw [← Finset.range_eq_Ico]
  isplitl [H1]; · iexact H1
  isplitl [HD H2]
  · iapply (Transfers.pointsTo_toks_range fullShare (zN v0 v1 v2 v3)).2
    isplitl [HD] <;> iassumption
  isplitl [Hs]; · iexact Hs
  iexact HW

/-- The copies of zeros before the first. -/
theorem z_start : iprop(bigSep (Finset.Ico 0 (zN v0 v1 v2 v3)) (fun j => iprop(∃ V, ptOn (F := F) c DW (zSet v0 v1 v2 v3 j) V)) ∗ pt c ZB (zeroB (F := F))
      ∗ semVal ((c : Thread nD τ), SemLoc.dma cc0_scratch3.sem) 0)
    ⊢ (|={Set.univ}=> iprop(ZIss c v0 v1 v2 v3 G 0 ∗ (ZB.view.loc (c : Thread nD τ) ↦{Transfers.shareDrop fullShare (zN v0 v1 v2 v3)} (zeroB (F := F)))) : sProp 𝕄) := by
  iintro ⟨HT, HZ, Hs⟩
  imod (Transfers.batch_alloc' (Lvl := ℕ) (EC (F := F)) (c : Thread nD τ) () (credit 96) (zLanded c v0 v1 v2 v3 G) (sm := SemLoc.dma cc0_scratch3.sem) (E := Set.univ)) $$ Hs with HB
  imodintro
  ihave HZ := (zb_split c v0 v1 v2 v3) $$ HZ
  icases HZ with ⟨HD, HZ⟩
  isplitl [HB HT HZ]
  · unfold ZIss
    isplitl [HB]; · iexact HB
    unfold zTodo
    rw [BI.bigSep_sep']
    isplitl [HT] <;> iassumption
  iexact HD

/-- With every copy of zeros issued. -/
theorem z_issued : iprop(ZIss c v0 v1 v2 v3 G (zN v0 v1 v2 v3) ∗ ∃ W, owes (c : Thread nD τ) 0 W) ⊢ ZWait c v0 v1 v2 v3 G 0 := by
  unfold ZIss ZWait
  rw [Nat.mul_zero]
  iintro ⟨⟨HB, -⟩, HW⟩
  isplitl [HB] <;> iassumption

end Cert.Proof.KernelIdeal

end
-- ==== Proof.KernelIdeal.Head.lean ====
/- The first part of the body: the sizes read, the block of zeros filled, the copies of zeros issued for the empty experts, and the order of the nonempty experts written. -/
module

public import proofs.«01_k».proof.Proof.KernelIdeal.Cover
public import proofs.«01_k».proof.Proof.KernelIdeal.Trip

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-- The block of zeros, as its store leaves it. -/
theorem zb_store (f : Vec F S96x5760 .f32) (inb : ∀ a, (![0, 0] : Fin 2 → ℕ) a + S96x5760.size a ≤ S96x5760.size a) :
    (ZB.access (Rect.unit (s := S96x5760) ![0, 0] S96x5760.size inb)).write (Elt F) f (k0_pay87 (F := F)) Finset.univ = zeroB (F := F) := by
  funext y
  refine write_cases (ZB.access (Rect.unit (s := S96x5760) ![0, 0] S96x5760.size inb)) f (zeroB (F := F)) (k0_pay87 (F := F))
    (fun x => (cast_eq _ _).trans (zero_block x)) y fun hm => absurd ?_ hm
  rw [show (ZB.access (Rect.unit (s := S96x5760) ![0, 0] S96x5760.size inb)).set = _ from View.set_slice_whole _ _]
  refine Rect.mem_set_unit.mpr fun a => ?_
  have ha := (y a).isLt
  fin_cases a
  · exact ⟨Nat.zero_le _, by show (y 0).val < 0 + 96; have : (y 0).val < 96 := ha; omega⟩
  · exact ⟨Nat.zero_le _, by show (y 1).val < 0 + 5760; have : (y 1).val < 5760 := ha; omega⟩

/-- What the parts before the order of the experts leave. -/
def Mid1 (c : Dev nD) (v0 v1 v2 v3 : BitVec 32) (h : Fit v0 v1 v2 v3) (X0 : Vec F S4 .i32) (G : Vec F S4x2880x5760 .f32) (r : (Σ' (v0 : Elt F .i32) (k0_hw1 : k0_chk1 v0) (v1 : Elt F .i32) (k0_hw2 : k0_chk2 v0 v1) (v2 : Elt F .i32) (k0_hw3 : k0_chk3 v0 v1 v2) (v3 : Elt F .i32) (k0_hw4 : k0_chk4 v0 v1 v2 v3) (v5 : BitVec 32) (v7 : BitVec 32) (v9 : BitVec 32) (v11 : BitVec 32) (v12 : BitVec 32) (v13 : BitVec 32) (v14 : BitVec 32), BitVec 1)) : sProp 𝕄 :=
  iprop(⌜r = ⟨v0, chk1 h, v1, chk2 h, v2, chk3 h, v3, chk4 h, (Scalar.shrui (Scalar.addi v0 15#32) 4#32), (Scalar.shrui (Scalar.addi v1 15#32) 4#32), (Scalar.shrui (Scalar.addi v2 15#32) 4#32), (Scalar.shrui (Scalar.addi v3 15#32) 4#32), (Scalar.addi 0#32 (Scalar.shrui (Scalar.addi v0 15#32) 4#32)), (Scalar.addi (Scalar.addi 0#32 (Scalar.shrui (Scalar.addi v0 15#32) 4#32)) (Scalar.shrui (Scalar.addi v1 15#32) 4#32)), (Scalar.addi (Scalar.addi (Scalar.addi 0#32 (Scalar.shrui (Scalar.addi v0 15#32) 4#32)) (Scalar.shrui (Scalar.addi v1 15#32) 4#32)) (Scalar.shrui (Scalar.addi v2 15#32) 4#32)), (Scalar.cmpi .eq (Scalar.shrui (Scalar.addi v3 15#32) 4#32) 0#32)⟩⌝ ∗ pt c A0 X0
    ∗ ZIss c v0 v1 v2 v3 G (zpos v0 v1 v2 v3 3) ∗ (ZB.view.loc (c : Thread nD τ) ↦{Transfers.shareDrop fullShare (zN v0 v1 v2 v3)} (zeroB (F := F))))

set_option maxHeartbeats 4000000 in
theorem head1 (c : Dev nD) {v0 v1 v2 v3 : BitVec 32} (h : Fit v0 v1 v2 v3) (X0 : Vec F S4 .i32) (h0 : X0 (ix4 0) = v0) (h1 : X0 (ix4 1) = v1) (h2 : X0 (ix4 2) = v2) (h3 : X0 (ix4 3) = v3)
    (G : Vec F S4x2880x5760 .f32) (hG : ∀ y : S4x2880x5760.Idx, nb v0 v1 v2 v3 (y 0) = 0 → G y = zeroV) :
    iprop(pt c A0 X0 ∗ (∃ Z, pt (F := F) c ZB Z) ∗ bigSep (Finset.Ico 0 (zN v0 v1 v2 v3)) (fun j => iprop(∃ V, ptOn (F := F) c DW (zSet v0 v1 v2 v3 j) V))
        ∗ semVal ((c : Thread nD τ), SemLoc.dma cc0_scratch3.sem) 0)
      ⊢ wp frame (wpE (defs₀ (F := F)) Variants.none (c : Thread nD τ) none) Set.univ (k0_part21 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _)) (Mid1 c v0 v1 v2 v3 h X0 G) := by
  have hs := h.sum
  have le0 : v0.toNat ≤ 768 := by omega
  have le1 : v1.toNat ≤ 768 := by omega
  have le2 : v2.toNat ≤ 768 := by omega
  have le3 : v3.toNat ≤ 768 := by omega
  rw [k0_part21_eq_skeleton]
  unfold k0_part21_skel Mid1
  simp only [bind_def', pure_def', Prog.lift, op_bind', ret_bind', bind_bind']
  iintro ⟨HA, ⟨%Z, HZ⟩, HT, Hs⟩
  iapply (wp_word_A0 c (e := 0) X0 v0 rfl h0) $$ [HA HZ HT Hs]
  isplitl [HA]; · iexact HA
  iintro HA
  iapply (wp_assume Variants.none (c : Thread nD τ) none Set.univ (chk1 h))
  iapply (wp_word_A0 c (e := 1) X0 v1 rfl h1) $$ [HA HZ HT Hs]
  isplitl [HA]; · iexact HA
  iintro HA
  iapply (wp_assume Variants.none (c : Thread nD τ) none Set.univ (chk2 h))
  iapply (wp_word_A0 c (e := 2) X0 v2 rfl h2) $$ [HA HZ HT Hs]
  isplitl [HA]; · iexact HA
  iintro HA
  iapply (wp_assume Variants.none (c : Thread nD τ) none Set.univ (chk3 h))
  iapply (wp_word_A0 c (e := 3) X0 v3 rfl h3) $$ [HA HZ HT Hs]
  isplitl [HA]; · iexact HA
  iintro HA
  iapply (wp_assume Variants.none (c : Thread nD τ) none Set.univ (chk4 h))
  iapply (wp_load Variants.none (c : Thread nD τ) none Set.univ (Finset.subset_univ _)) $$ [HZ]; · iexact HZ
  iintro HZ
  iapply (wp_store Variants.none (c : Thread nD τ) none Set.univ (Finset.subset_univ _)) $$ [HZ]; · iexact HZ
  iintro HZ
  ihave HZ := (Entails.of_eq (congrArg (fun g => pt c ZB g) (zb_store Z _))) $$ HZ
  imod (z_start c v0 v1 v2 v3 G) $$ [HT HZ Hs] with ⟨HI, HD⟩
  · isplitl [HT]; · iexact HT
    isplitl [HZ] <;> iassumption
  ihave HI := (Entails.of_eq (congrArg (ZIss c v0 v1 v2 v3 G) (zpos_0 v0 v1 v2 v3).symm)) $$ HI
  iapply (wp_ifEmpty c v0 v1 v2 v3 0 (empty_iff (v := v0) le0) (ZIss c v0 v1 v2 v3 G) (zeros0 c v0 v1 v2 v3 G hG)) $$ [HA HI HD]
  isplitl [HI]; · iexact HI
  iintro HI
  ihave HI := (Entails.of_eq (congrArg (ZIss c v0 v1 v2 v3 G) (znext_0 v0 v1 v2 v3))) $$ HI
  iapply (wp_ifEmpty c v0 v1 v2 v3 1 (empty_iff (v := v1) le1) (ZIss c v0 v1 v2 v3 G) (zeros1 c v0 v1 v2 v3 G hG)) $$ [HA HI HD]
  isplitl [HI]; · iexact HI
  iintro HI
  ihave HI := (Entails.of_eq (congrArg (ZIss c v0 v1 v2 v3 G) (znext_1 v0 v1 v2 v3))) $$ HI
  iapply (wp_ifEmpty c v0 v1 v2 v3 2 (empty_iff (v := v2) le2) (ZIss c v0 v1 v2 v3 G) (zeros2 c v0 v1 v2 v3 G hG)) $$ [HA HI HD]
  isplitl [HI]; · iexact HI
  iintro HI
  ihave HI := (Entails.of_eq (congrArg (ZIss c v0 v1 v2 v3 G) (znext_2 v0 v1 v2 v3))) $$ HI
  sl_step
  isplitr; · ipureintro; rfl
  isplitl [HA]; · iexact HA
  isplitl [HI] <;> iassumption

/-- The order of the experts: four stores, the later over the earlier. -/
def orderV (v0 v1 v2 v3 : BitVec 32) (O : Vec F S4 .i32) : Vec F S4 .i32 := fun y =>
  if (y 0).val = rank v0 v1 v2 v3 3 then 3#32 else if (y 0).val = rank v0 v1 v2 v3 2 then 2#32 else if (y 0).val = rank v0 v1 v2 v3 1 then 1#32
    else if (y 0).val = 0 then 0#32 else O y

theorem orderV_ordered (v0 v1 v2 v3 : BitVec 32) (O : Vec F S4 .i32) : Ordered v0 v1 v2 v3 (orderV v0 v1 v2 v3 O) := by
  intro r i hr hi
  obtain ⟨hn, hk⟩ := exOf_spec v0 v1 v2 v3 hr
  generalize exOf v0 v1 v2 v3 r = e at hn hk
  have h0 := rank_0 (v0 := v0) (v1 := v1) (v2 := v2) (v3 := v3)
  have h1 := rank_1 (v0 := v0) (v1 := v1) (v2 := v2) (v3 := v3)
  have h2 := rank_2 (v0 := v0) (v1 := v1) (v2 := v2) (v3 := v3)
  have h3 := rank_3 (v0 := v0) (v1 := v1) (v2 := v2) (v3 := v3)
  have hy : ((ix4 i) 0).val = r := hi
  unfold orderV
  rw [hy]
  fin_cases e <;> simp only [Fin.zero_eta, Fin.mk_one, Fin.reduceFinMk] at hn hk ⊢
  · rw [if_neg (by split_ifs at h1 h2 h3 <;> omega), if_neg (by split_ifs at h1 h2 h3 <;> omega), if_neg (by split_ifs at h1 h2 h3 <;> omega), if_pos (by omega)]
  · rw [if_neg (by split_ifs at h1 h2 h3 <;> omega), if_neg (by split_ifs at h1 h2 h3 <;> omega), if_pos (by omega)]
  · rw [if_neg (by split_ifs at h1 h2 h3 <;> omega), if_pos (by omega)]
  · rw [if_pos (by omega)]

/-- What the first parts leave. -/
def Mid2 (c : Dev nD) (v0 v1 v2 v3 : BitVec 32) (G : Vec F S4x2880x5760 .f32) (r : (Σ' (v49 : BitVec 32) (c1_i32_43_r0 : BitVec 32) (c0_i32_44_r0 : BitVec 32) (c0_i32_45_r0 : BitVec 32), BitVec 32)) : sProp 𝕄 :=
  iprop(⌜∃ a b, r = ⟨a, 1#32, 0#32, 0#32, b⟩⌝ ∗ ZIss c v0 v1 v2 v3 G (zN v0 v1 v2 v3) ∗ ∃ O, ⌜Ordered v0 v1 v2 v3 O⌝ ∗ pt (F := F) c ORD O)

set_option maxHeartbeats 4000000 in
theorem head2 (c : Dev nD) {v0 v1 v2 v3 : BitVec 32} (h : Fit v0 v1 v2 v3)
    (G : Vec F S4x2880x5760 .f32) (hG : ∀ y : S4x2880x5760.Idx, nb v0 v1 v2 v3 (y 0) = 0 → G y = zeroV) :
    iprop(ZIss c v0 v1 v2 v3 G (zpos v0 v1 v2 v3 3) ∗ ∃ O, pt (F := F) c ORD O)
      ⊢ wp frame (wpE (defs₀ (F := F)) Variants.none (c : Thread nD τ) none) Set.univ (k0_part22 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 (chk1 h) v1 (chk2 h) v2 (chk3 h) (Scalar.shrui (Scalar.addi v0 15#32) 4#32) (Scalar.shrui (Scalar.addi v1 15#32) 4#32) (Scalar.shrui (Scalar.addi v2 15#32) 4#32) (Scalar.shrui (Scalar.addi v3 15#32) 4#32) (Scalar.cmpi .eq (Scalar.shrui (Scalar.addi v3 15#32) 4#32) 0#32)) (Mid2 c v0 v1 v2 v3 G) := by
  have hs := h.sum
  have le0 : v0.toNat ≤ 768 := by omega
  have le1 : v1.toNat ≤ 768 := by omega
  have le2 : v2.toNat ≤ 768 := by omega
  have le3 : v3.toNat ≤ 768 := by omega
  have hr0 : (![0] : Fin 1 → ℕ) = ![(0 : Fin 4).val] := rfl
  rw [k0_part22_eq_skeleton]
  unfold k0_part22_skel Mid2
  simp only [bind_def', pure_def', Prog.lift, op_bind', ret_bind', bind_bind']
  iintro ⟨HI, ⟨%O, HO⟩⟩
  iapply (wp_ifEmpty c v0 v1 v2 v3 3 (empty_iff (v := v3) le3) (ZIss c v0 v1 v2 v3 G) (zeros3 c v0 v1 v2 v3 v0 (chk1 h) v1 (chk2 h) v2 (chk3 h) _ _ _ _ _ G hG)) $$ [HI HO]
  isplitl [HI]; · iexact HI
  iintro HI
  ihave HI := (Entails.of_eq (congrArg (ZIss c v0 v1 v2 v3 G) (znext_3 v0 v1 v2 v3))) $$ HI
  iapply (wp_word_ORD c (e := 0) _ _ hr0 rfl) $$ [HO HI]
  isplitl [HO]; · iexact HO
  iintro HO
  iapply (wp_store Variants.none (c : Thread nD τ) none Set.univ (Finset.subset_univ _)) $$ [HO]; · iexact HO
  iintro HO
  ihave HO := (Entails.of_eq (congrArg (fun g => pt c ORD g) (write_ORD (e := 0) _ hr0 _ 0#32))) $$ HO
  iapply (wp_word_ORD c (e := ⟨_, rank_lt (v0 := v0) (v1 := v1) (v2 := v2) (v3 := v3) 1⟩) _ _ (off5_eq h) rfl) $$ [HO HI]
  isplitl [HO]; · iexact HO
  iintro HO
  iapply (wp_store Variants.none (c : Thread nD τ) none Set.univ (Finset.subset_univ _)) $$ [HO]; · iexact HO
  iintro HO
  ihave HO := (Entails.of_eq (congrArg (fun g => pt c ORD g) (write_ORD (e := ⟨_, rank_lt (v0 := v0) (v1 := v1) (v2 := v2) (v3 := v3) 1⟩) _ (off5_eq h) _ 1#32))) $$ HO
  iapply (wp_word_ORD c (e := ⟨_, rank_lt (v0 := v0) (v1 := v1) (v2 := v2) (v3 := v3) 2⟩) _ _ (off6_eq h) rfl) $$ [HO HI]
  isplitl [HO]; · iexact HO
  iintro HO
  iapply (wp_store Variants.none (c : Thread nD τ) none Set.univ (Finset.subset_univ _)) $$ [HO]; · iexact HO
  iintro HO
  ihave HO := (Entails.of_eq (congrArg (fun g => pt c ORD g) (write_ORD (e := ⟨_, rank_lt (v0 := v0) (v1 := v1) (v2 := v2) (v3 := v3) 2⟩) _ (off6_eq h) _ 2#32))) $$ HO
  iapply (wp_word_ORD c (e := ⟨_, rank_lt (v0 := v0) (v1 := v1) (v2 := v2) (v3 := v3) 3⟩) _ _ (off7_eq h) rfl) $$ [HO HI]
  isplitl [HO]; · iexact HO
  iintro HO
  iapply (wp_store Variants.none (c : Thread nD τ) none Set.univ (Finset.subset_univ _)) $$ [HO]; · iexact HO
  iintro HO
  ihave HO := (Entails.of_eq (congrArg (fun g => pt c ORD g) (write_ORD (e := ⟨_, rank_lt (v0 := v0) (v1 := v1) (v2 := v2) (v3 := v3) 3⟩) _ (off7_eq h) _ 3#32))) $$ HO
  sl_step
  isplitr; · ipureintro; exact ⟨_, _, rfl⟩
  isplitl [HI]; · iexact HI
  iexists _
  isplitr; swap; · iexact HO
  ipureintro; exact orderV_ordered v0 v1 v2 v3 O

end Cert.Proof.KernelIdeal

end
-- ==== Proof.KernelIdeal.Turn1.lean ====
/- A slab before what follows it, and the end of a turn: the copy of the slab is issued. -/
module

public import proofs.«01_k».proof.Proof.KernelIdeal.Trip

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-! ## A slab before what follows it -/

/-- A slab of 256 rows deep, before what follows it. -/
theorem slab256K (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h8 : k0_cond8 v0 v1 v2 v3 v88_r0 = 1#1)
    (X3 : Vec F S1088x3072 .bf16) (X4 : Vec F S1088x5760 .bf16) (L : Vec F S256x768 .bf16) (f : Vec F S5x256x5760 .f32)
    (K : Prog (TpuEff nD τ sig (Elt F) Λ₀ .tc) PUnit.{1}) (Q : PUnit.{1} → sProp 𝕄) :
    iprop((pt c A3 X3 ∗ pt c A4 X4 ∗ pt c LT L ∗ ptOn c RING (slotSet (slotW k0_t5).toNat) f)
        ∗ (∀ r : PUnit.{1}, iprop(pt c A3 X3 ∗ pt c A4 X4 ∗ (∃ L', pt c LT L') ∗ ptOn c RING (slotSet (slotW k0_t5).toNat)
            (slabVal (fun j => k0_pay20 v118_r0 (k0_pay19 v112_r0 (lhsBlk X3 256 (k0W v0 v1 v2 v88_r0).toNat (slabW k0_t5).toNat)) (rhsBlk X4 256 512 (k0W v0 v1 v2 v88_r0).toNat (512 * j)))
              (k0_pay3 v118_r0 (k0_pay19 v112_r0 (lhsBlk X3 256 (k0W v0 v1 v2 v88_r0).toNat (slabW k0_t5).toNat)) (rhsBlk X4 256 128 (k0W v0 v1 v2 v88_r0).toNat 5632))))
          -∗ wp frame (wpE (defs₀ (F := F)) Variants.none (c : Thread nD τ) none) Set.univ K Q))
      ⊢ wp frame (wpE (defs₀ (F := F)) Variants.none (c : Thread nD τ) none) Set.univ
          (do
      let v177_r0 : Vec F S256x256 .bf16 ← k0_part1 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h8
      let v212_r0 : FVec F S256x512 .f32 ← k0_part2 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h8 v177_r0
      let v247_r0 : Vec F S256x256 .bf16 ← k0_part3 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h8 v212_r0
      let v249_r0 : Vec F S256x512 .bf16 ← Prog.lift (.load A4 (Rect.unit (s := S1088x5760) (k0_off33 v0 v1 v2 v88_r0) S256x512.size (k0_off33_inb v0 v1 v2 v3 k0_t5 v88_r0 k0_hw5 k0_h8)).toLoadRect (View.loadsAt_vmem h_S256x512))
      let v254_r0 : Vec F S1x256x512 .f32 ← Prog.lift (.load RING (Rect.unit (s := S5x256x5760) (k0_off34 v0 v1 v2 v3 k0_t5) S1x256x512.size (k0_off34_inb v0 v1 v2 v3 k0_t5 v88_r0 k0_hw5 k0_h8)).toLoadRect (View.loadsAt_vmem h_S1x256x512))
      Prog.lift (.store RING (Rect.unit (s := S5x256x5760) (k0_off34 v0 v1 v2 v3 k0_t5) S1x256x512.size (k0_off34_inb v0 v1 v2 v3 k0_t5 v88_r0 k0_hw5 k0_h8)) (k0_pay1 v118_r0 v247_r0 v249_r0) Finset.univ (View.stores_vmem_bits_univ h_S1x256x512 rfl) (.inl rfl))
      let v257_r0 : Vec F S256x256 .bf16 ← Prog.lift (.load LT (Rect.unit (s := S256x768) ![0, 0] S256x256.size inb_S256x768_S256x256_0_0).toLoadRect (View.loadsAt_vmem h_S256x256))
      let v259_r0 : Vec F S256x512 .bf16 ← Prog.lift (.load A4 (Rect.unit (s := S1088x5760) (k0_off35 v0 v1 v2 v88_r0) S256x512.size (k0_off35_inb v0 v1 v2 v3 k0_t5 v88_r0 k0_hw5 k0_h8)).toLoadRect (View.loadsAt_vmem h_S256x512))
      let v264_r0 : Vec F S1x256x512 .f32 ← Prog.lift (.load RING (Rect.unit (s := S5x256x5760) (k0_off36 v0 v1 v2 v3 k0_t5) S1x256x512.size (k0_off36_inb v0 v1 v2 v3 k0_t5 v88_r0 k0_hw5 k0_h8)).toLoadRect (View.loadsAt_vmem h_S1x256x512))
      Prog.lift (.store RING (Rect.unit (s := S5x256x5760) (k0_off36 v0 v1 v2 v3 k0_t5) S1x256x512.size (k0_off36_inb v0 v1 v2 v3 k0_t5 v88_r0 k0_hw5 k0_h8)) (k0_pay2 v118_r0 v257_r0 v259_r0) Finset.univ (View.stores_vmem_bits_univ h_S1x256x512 rfl) (.inl rfl))
      let v267_r0 : Vec F S256x256 .bf16 ← Prog.lift (.load LT (Rect.unit (s := S256x768) ![0, 0] S256x256.size inb_S256x768_S256x256_0_0).toLoadRect (View.loadsAt_vmem h_S256x256))
      let v269_r0 : Vec F S256x128 .bf16 ← Prog.lift (.load A4 (Rect.unit (s := S1088x5760) (k0_off37 v0 v1 v2 v88_r0) S256x128.size (k0_off37_inb v0 v1 v2 v3 k0_t5 v88_r0 k0_hw5 k0_h8)).toLoadRect (View.loadsAt_vmem h_S256x128))
      let v274_r0 : Vec F S1x256x128 .f32 ← Prog.lift (.load RING (Rect.unit (s := S5x256x5760) (k0_off38 v0 v1 v2 v3 k0_t5) S1x256x128.size (k0_off38_inb v0 v1 v2 v3 k0_t5 v88_r0 k0_hw5 k0_h8)).toLoadRect (View.loadsAt_vmem h_S1x256x128))
      Prog.lift (.store RING (Rect.unit (s := S5x256x5760) (k0_off38 v0 v1 v2 v3 k0_t5) S1x256x128.size (k0_off38_inb v0 v1 v2 v3 k0_t5 v88_r0 k0_hw5 k0_h8)) (k0_pay3 v118_r0 v267_r0 v269_r0) Finset.univ (View.stores_vmem_bits_univ h_S1x256x128 rfl) (.inl rfl))
      K : Prog (TpuEff nD τ sig (Elt F) Λ₀ .tc) PUnit.{1}) Q :=
  .trans (wp_seq Variants.none (c : Thread nD τ) none Set.univ (k := fun _ => K)
      (slab256 c v0 v1 v2 v3 k0_t5 v88_r0 k0_hw5 v90_r0 v112_r0 v113_r0 v120_r0 v118_r0 k0_h8 X3 X4 L f))
    (Entails.of_eq (by simp only [bind_def', pure_def', Prog.lift, op_bind', ret_bind', bind_bind']))

/-- A slab of 512 rows deep, before what follows it. -/
theorem slab512K (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h9 : k0_cond9 v0 v1 v2 v3 v88_r0 = 1#1)
    (X3 : Vec F S1088x3072 .bf16) (X4 : Vec F S1088x5760 .bf16) (L : Vec F S256x768 .bf16) (f : Vec F S5x256x5760 .f32)
    (K : Prog (TpuEff nD τ sig (Elt F) Λ₀ .tc) PUnit.{1}) (Q : PUnit.{1} → sProp 𝕄) :
    iprop((pt c A3 X3 ∗ pt c A4 X4 ∗ pt c LT L ∗ ptOn c RING (slotSet (slotW k0_t5).toNat) f)
        ∗ (∀ r : PUnit.{1}, iprop(pt c A3 X3 ∗ pt c A4 X4 ∗ (∃ L', pt c LT L') ∗ ptOn c RING (slotSet (slotW k0_t5).toNat)
            (slabVal (fun j => k0_pay31 v118_r0 (k0_pay30 v112_r0 (lhsBlk X3 512 (k0W v0 v1 v2 v88_r0).toNat (slabW k0_t5).toNat)) (rhsBlk X4 512 512 (k0W v0 v1 v2 v88_r0).toNat (512 * j)))
              (k0_pay6 v118_r0 (k0_pay30 v112_r0 (lhsBlk X3 512 (k0W v0 v1 v2 v88_r0).toNat (slabW k0_t5).toNat)) (rhsBlk X4 512 128 (k0W v0 v1 v2 v88_r0).toNat 5632))))
          -∗ wp frame (wpE (defs₀ (F := F)) Variants.none (c : Thread nD τ) none) Set.univ K Q))
      ⊢ wp frame (wpE (defs₀ (F := F)) Variants.none (c : Thread nD τ) none) Set.univ
          (do
      let v177_r0 : Vec F S256x512 .bf16 ← k0_part4 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h9
      let v212_r0 : FVec F S256x512 .f32 ← k0_part5 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h9 v177_r0
      let v247_r0 : Vec F S256x512 .bf16 ← k0_part6 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h9 v212_r0
      let v249_r0 : Vec F S512x512 .bf16 ← Prog.lift (.load A4 (Rect.unit (s := S1088x5760) (k0_off58 v0 v1 v2 v88_r0) S512x512.size (k0_off58_inb v0 v1 v2 v3 k0_t5 v88_r0 k0_hw5 k0_h9)).toLoadRect (View.loadsAt_vmem h_S512x512))
      let v254_r0 : Vec F S1x256x512 .f32 ← Prog.lift (.load RING (Rect.unit (s := S5x256x5760) (k0_off59 v0 v1 v2 v3 k0_t5) S1x256x512.size (k0_off59_inb v0 v1 v2 v3 k0_t5 v88_r0 k0_hw5 k0_h9)).toLoadRect (View.loadsAt_vmem h_S1x256x512))
      Prog.lift (.store RING (Rect.unit (s := S5x256x5760) (k0_off59 v0 v1 v2 v3 k0_t5) S1x256x512.size (k0_off59_inb v0 v1 v2 v3 k0_t5 v88_r0 k0_hw5 k0_h9)) (k0_pay4 v118_r0 v247_r0 v249_r0) Finset.univ (View.stores_vmem_bits_univ h_S1x256x512 rfl) (.inl rfl))
      let v257_r0 : Vec F S256x512 .bf16 ← Prog.lift (.load LT (Rect.unit (s := S256x768) ![0, 0] S256x512.size inb_S256x768_S256x512_0_0).toLoadRect (View.loadsAt_vmem h_S256x512))
      let v259_r0 : Vec F S512x512 .bf16 ← Prog.lift (.load A4 (Rect.unit (s := S1088x5760) (k0_off60 v0 v1 v2 v88_r0) S512x512.size (k0_off60_inb v0 v1 v2 v3 k0_t5 v88_r0 k0_hw5 k0_h9)).toLoadRect (View.loadsAt_vmem h_S512x512))
      let v264_r0 : Vec F S1x256x512 .f32 ← Prog.lift (.load RING (Rect.unit (s := S5x256x5760) (k0_off61 v0 v1 v2 v3 k0_t5) S1x256x512.size (k0_off61_inb v0 v1 v2 v3 k0_t5 v88_r0 k0_hw5 k0_h9)).toLoadRect (View.loadsAt_vmem h_S1x256x512))
      Prog.lift (.store RING (Rect.unit (s := S5x256x5760) (k0_off61 v0 v1 v2 v3 k0_t5) S1x256x512.size (k0_off61_inb v0 v1 v2 v3 k0_t5 v88_r0 k0_hw5 k0_h9)) (k0_pay5 v118_r0 v257_r0 v259_r0) Finset.univ (View.stores_vmem_bits_univ h_S1x256x512 rfl) (.inl rfl))
      let v267_r0 : Vec F S256x512 .bf16 ← Prog.lift (.load LT (Rect.unit (s := S256x768) ![0, 0] S256x512.size inb_S256x768_S256x512_0_0).toLoadRect (View.loadsAt_vmem h_S256x512))
      let v269_r0 : Vec F S512x128 .bf16 ← Prog.lift (.load A4 (Rect.unit (s := S1088x5760) (k0_off62 v0 v1 v2 v88_r0) S512x128.size (k0_off62_inb v0 v1 v2 v3 k0_t5 v88_r0 k0_hw5 k0_h9)).toLoadRect (View.loadsAt_vmem h_S512x128))
      let v274_r0 : Vec F S1x256x128 .f32 ← Prog.lift (.load RING (Rect.unit (s := S5x256x5760) (k0_off63 v0 v1 v2 v3 k0_t5) S1x256x128.size (k0_off63_inb v0 v1 v2 v3 k0_t5 v88_r0 k0_hw5 k0_h9)).toLoadRect (View.loadsAt_vmem h_S1x256x128))
      Prog.lift (.store RING (Rect.unit (s := S5x256x5760) (k0_off63 v0 v1 v2 v3 k0_t5) S1x256x128.size (k0_off63_inb v0 v1 v2 v3 k0_t5 v88_r0 k0_hw5 k0_h9)) (k0_pay6 v118_r0 v267_r0 v269_r0) Finset.univ (View.stores_vmem_bits_univ h_S1x256x128 rfl) (.inl rfl))
      K : Prog (TpuEff nD τ sig (Elt F) Λ₀ .tc) PUnit.{1}) Q :=
  .trans (wp_seq Variants.none (c : Thread nD τ) none Set.univ (k := fun _ => K)
      (slab512 c v0 v1 v2 v3 k0_t5 v88_r0 k0_hw5 v90_r0 v112_r0 v113_r0 v120_r0 v118_r0 k0_h9 X3 X4 L f))
    (Entails.of_eq (by simp only [bind_def', pure_def', Prog.lift, op_bind', ret_bind', bind_bind']))

/-- A slab of 768 rows deep, before what follows it. -/
theorem slab768K (c : Dev nD) (v0 v1 v2 v3 : BitVec 32) (k0_t5 : Fin (k0_t5_loop v0 v1 v2 v3).trips) (v88_r0 : BitVec 32) (k0_hw5 : k0_chk5 v0 v1 v2 v3 k0_t5 v88_r0)
    (v90_r0 v112_r0 v113_r0 v120_r0 : BitVec 32) (v118_r0 : F .f32) (k0_h10 : k0_cond10 v0 v1 v2 v3 v88_r0 = 1#1)
    (X3 : Vec F S1088x3072 .bf16) (X4 : Vec F S1088x5760 .bf16) (L : Vec F S256x768 .bf16) (f : Vec F S5x256x5760 .f32)
    (K : Prog (TpuEff nD τ sig (Elt F) Λ₀ .tc) PUnit.{1}) (Q : PUnit.{1} → sProp 𝕄) :
    iprop((pt c A3 X3 ∗ pt c A4 X4 ∗ pt c LT L ∗ ptOn c RING (slotSet (slotW k0_t5).toNat) f)
        ∗ (∀ r : PUnit.{1}, iprop(pt c A3 X3 ∗ pt c A4 X4 ∗ (∃ L', pt c LT L') ∗ ptOn c RING (slotSet (slotW k0_t5).toNat)
            (slabVal (fun j => k0_pay42 v118_r0 (k0_pay41 v112_r0 (lhsBlk X3 768 (k0W v0 v1 v2 v88_r0).toNat (slabW k0_t5).toNat)) (rhsBlk X4 768 512 (k0W v0 v1 v2 v88_r0).toNat (512 * j)))
              (k0_pay9 v118_r0 (k0_pay41 v112_r0 (lhsBlk X3 768 (k0W v0 v1 v2 v88_r0).toNat (slabW k0_t5).toNat)) (rhsBlk X4 768 128 (k0W v0 v1 v2 v88_r0).toNat 5632))))
          -∗ wp frame (wpE (defs₀ (F := F)) Variants.none (c : Thread nD τ) none) Set.univ K Q))
      ⊢ wp frame (wpE (defs₀ (F := F)) Variants.none (c : Thread nD τ) none) Set.univ
          (do
      let v177_r0 : Vec F S256x768 .bf16 ← k0_part7 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v112_r0 v113_r0 v118_r0 v120_r0 k0_h10
      let v212_r0 : FVec F S256x512 .f32 ← k0_part8 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h10 v177_r0
      let v247_r0 : Vec F S256x768 .bf16 ← k0_part9 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_t5 v88_r0 k0_hw5 v90_r0 v113_r0 v118_r0 k0_h10 v212_r0
      let v249_r0 : Vec F S768x512 .bf16 ← Prog.lift (.load A4 (Rect.unit (s := S1088x5760) (k0_off83 v0 v1 v2 v88_r0) S768x512.size (k0_off83_inb v0 v1 v2 v3 k0_t5 v88_r0 k0_hw5 k0_h10)).toLoadRect (View.loadsAt_vmem h_S768x512))
      let v254_r0 : Vec F S1x256x512 .f32 ← Prog.lift (.load RING (Rect.unit (s := S5x256x5760) (k0_off84 v0 v1 v2 v3 k0_t5) S1x256x512.size (k0_off84_inb v0 v1 v2 v3 k0_t5 v88_r0 k0_hw5 k0_h10)).toLoadRect (View.loadsAt_vmem h_S1x256x512))
      Prog.lift (.store RING (Rect.unit (s := S5x256x5760) (k0_off84 v0 v1 v2 v3 k0_t5) S1x256x512.size (k0_off84_inb v0 v1 v2 v3 k0_t5 v88_r0 k0_hw5 k0_h10)) (k0_pay7 v118_r0 v247_r0 v249_r0) Finset.univ (View.stores_vmem_bits_univ h_S1x256x512 rfl) (.inl rfl))
      let v257_r0 : Vec F S256x768 .bf16 ← Prog.lift (.load LT (Rect.unit (s := S256x768) ![0, 0] S256x768.size inb_S256x768_S256x768_0_0).toLoadRect (View.loadsAt_vmem h_S256x768))
      let v259_r0 : Vec F S768x512 .bf16 ← Prog.lift (.load A4 (Rect.unit (s := S1088x5760) (k0_off85 v0 v1 v2 v88_r0) S768x512.size (k0_off85_inb v0 v1 v2 v3 k0_t5 v88_r0 k0_hw5 k0_h10)).toLoadRect (View.loadsAt_vmem h_S768x512))
      let v264_r0 : Vec F S1x256x512 .f32 ← Prog.lift (.load RING (Rect.unit (s := S5x256x5760) (k0_off86 v0 v1 v2 v3 k0_t5) S1x256x512.size (k0_off86_inb v0 v1 v2 v3 k0_t5 v88_r0 k0_hw5 k0_h10)).toLoadRect (View.loadsAt_vmem h_S1x256x512))
      Prog.lift (.store RING (Rect.unit (s := S5x256x5760) (k0_off86 v0 v1 v2 v3 k0_t5) S1x256x512.size (k0_off86_inb v0 v1 v2 v3 k0_t5 v88_r0 k0_hw5 k0_h10)) (k0_pay8 v118_r0 v257_r0 v259_r0) Finset.univ (View.stores_vmem_bits_univ h_S1x256x512 rfl) (.inl rfl))
      let v267_r0 : Vec F S256x768 .bf16 ← Prog.lift (.load LT (Rect.unit (s := S256x768) ![0, 0] S256x768.size inb_S256x768_S256x768_0_0).toLoadRect (View.loadsAt_vmem h_S256x768))
      let v269_r0 : Vec F S768x128 .bf16 ← Prog.lift (.load A4 (Rect.unit (s := S1088x5760) (k0_off87 v0 v1 v2 v88_r0) S768x128.size (k0_off87_inb v0 v1 v2 v3 k0_t5 v88_r0 k0_hw5 k0_h10)).toLoadRect (View.loadsAt_vmem h_S768x128))
      let v274_r0 : Vec F S1x256x128 .f32 ← Prog.lift (.load RING (Rect.unit (s := S5x256x5760) (k0_off88 v0 v1 v2 v3 k0_t5) S1x256x128.size (k0_off88_inb v0 v1 v2 v3 k0_t5 v88_r0 k0_hw5 k0_h10)).toLoadRect (View.loadsAt_vmem h_S1x256x128))
      Prog.lift (.store RING (Rect.unit (s := S5x256x5760) (k0_off88 v0 v1 v2 v3 k0_t5) S1x256x128.size (k0_off88_inb v0 v1 v2 v3 k0_t5 v88_r0 k0_hw5 k0_h10)) (k0_pay9 v118_r0 v267_r0 v269_r0) Finset.univ (View.stores_vmem_bits_univ h_S1x256x128 rfl) (.inl rfl))
      K : Prog (TpuEff nD τ sig (Elt F) Λ₀ .tc) PUnit.{1}) Q :=
  .trans (wp_seq Variants.none (c : Thread nD τ) none Set.univ (k := fun _ => K)
      (slab768 c v0 v1 v2 v3 k0_t5 v88_r0 k0_hw5 v90_r0 v112_r0 v113_r0 v120_r0 v118_r0 k0_h10 X3 X4 L f))
    (Entails.of_eq (by simp only [bind_def', pure_def', Prog.lift, op_bind', ret_bind', bind_bind']))

/-! ## The end of a turn -/

set_option maxHeartbeats 4000000 in
/-- The copy of the slab is issued: of 256 rows, or of 64 for the last slab of an expert. -/
theorem tail (c : Dev nD) {v0 v1 v2 v3 : BitVec 32} (h : Fit v0 v1 v2 v3) (k0_hw4 : k0_chk4 v0 v1 v2 v3) (k0_t5 : Fin (k0_t5_loop v0 v1 v2 v3).trips)
    (v88_r0 : BitVec 32) (e : Fin 4) (hE : v88_r0 = BitVec.ofNat 32 e.val) (k0_hw5 : k0_chk5 v0 v1 v2 v3 k0_t5 v88_r0) (val : Vec F S5x256x5760 .f32) (V G : Vec F S4x2880x5760 .f32)
    (hG : ∀ (x : S5x256x5760.Idx) (y : S4x2880x5760.Idx), (y 0).val = e.val → (y 1).val = 256 * (k0_t5.val % 12) + (x 1).val → (y 2).val = (x 2).val → val x = G y)
    (Q : PUnit.{1} → sProp 𝕄) :
    iprop(ptOn c DW (rowsSet e (256 * (k0_t5.val % 12)) (rowsOf (k0_t5.val % 12))) V ∗ ptOn c RING (slotSet (slotOf k0_t5.val).val) val
        ∗ semVal ((c : Thread nD τ), SemLoc.dma (cell (slotOf k0_t5.val))) 0
        ∗ (Flight c G (slotOf k0_t5.val) e (k0_t5.val % 12) (rowsOf (k0_t5.val % 12)) -∗ Q ⟨⟩))
      ⊢ wp frame (wpE (defs₀ (F := F)) Variants.none (c : Thread nD τ) none) Set.univ
          (do
          if k0_h11 : k0_cond11 v0 v1 v2 v3 k0_t5 = 1#1 then do
            let v143_r0 : DmaSems sig S1 := cc0_scratch4.slice (Rect.unit (s := S5) (k0_off89 v0 v1 v2 v3 k0_t5) S1.size (k0_off89_inb v0 v1 v2 v3 k0_hw4 k0_t5 k0_h11))
            let v144_r0 : DmaSems sig S_ := v143_r0.squeeze S_ squeezes_S1_S_
            let v145_r0 : Memref sig .tc .hbm S1x256x5760 .f32 := DW.slice (Rect.unit (s := S4x2880x5760) (k0_off90 v0 v1 v2 v3 k0_t5 v88_r0) S1x256x5760.size (k0_off90_inb v0 v1 v2 v3 k0_t5 v88_r0 k0_hw5 k0_h11)) (fun _ => rfl)
            let v146_r0 : Memref sig .tc .hbm S256x5760 .f32 := v145_r0.squeeze S256x5760 squeezes_S1x256x5760_S256x5760
            let v147_r0 : Memref sig .tc .vmem S1x256x5760 .f32 := RING.slice (Rect.unit (s := S5x256x5760) (k0_off91 v0 v1 v2 v3 k0_t5) S1x256x5760.size (k0_off91_inb v0 v1 v2 v3 k0_hw4 k0_t5 k0_h11)) (fun _ => rfl)
            let v148_r0 : Memref sig .tc .vmem S256x5760 .f32 := v147_r0.squeeze S256x5760 squeezes_S1x256x5760_S256x5760
            Prog.lift (.enqueueDma v148_r0 (.here v146_r0) (.dma v144_r0.sem) ((View.wordExact_bits rfl).reshape _ _) ((View.wordExact_bits rfl).reshape _ _) ⟨Or.inl rfl, trivial⟩)
            pure ⟨⟩
          else do
            pure ⟨⟩
          if k0_h12 : k0_cond12 v0 v1 v2 v3 k0_t5 = 1#1 then do
            let v143_r0 : DmaSems sig S1 := cc0_scratch4.slice (Rect.unit (s := S5) (k0_off92 v0 v1 v2 v3 k0_t5) S1.size (k0_off92_inb v0 v1 v2 v3 k0_hw4 k0_t5 k0_h12))
            let v144_r0 : DmaSems sig S_ := v143_r0.squeeze S_ squeezes_S1_S_
            let v145_r0 : Memref sig .tc .hbm S1x64x5760 .f32 := DW.slice (Rect.unit (s := S4x2880x5760) (k0_off93 v0 v1 v2 v3 k0_t5 v88_r0) S1x64x5760.size (k0_off93_inb v0 v1 v2 v3 k0_t5 v88_r0 k0_hw5 k0_h12)) (fun _ => rfl)
            let v146_r0 : Memref sig .tc .hbm S64x5760 .f32 := v145_r0.squeeze S64x5760 squeezes_S1x64x5760_S64x5760
            let v147_r0 : Memref sig .tc .vmem S1x64x5760 .f32 := RING.slice (Rect.unit (s := S5x256x5760) (k0_off94 v0 v1 v2 v3 k0_t5) S1x64x5760.size (k0_off94_inb v0 v1 v2 v3 k0_hw4 k0_t5 k0_h12)) (fun _ => rfl)
            let v148_r0 : Memref sig .tc .vmem S64x5760 .f32 := v147_r0.squeeze S64x5760 squeezes_S1x64x5760_S64x5760
            Prog.lift (.enqueueDma v148_r0 (.here v146_r0) (.dma v144_r0.sem) ((View.wordExact_bits rfl).reshape _ _) ((View.wordExact_bits rfl).reshape _ _) ⟨Or.inl rfl, trivial⟩)
            pure ⟨⟩
          else do
            pure ⟨⟩
          pure ⟨⟩ : Prog (TpuEff nD τ sig (Elt F) Λ₀ .tc) PUnit.{1}) Q := by
  subst hE
  simp only [bind_def', pure_def', Prog.lift, op_bind', ret_bind', bind_bind']
  have hsl : k0_t5.val % 5 = (slotOf k0_t5.val).val := rfl
  by_cases h11 : k0_t5.val % 12 = 11
  · rw [dif_neg (fun hc => (cond11_iff h k0_t5).mp hc h11), dif_pos ((cond12_iff h k0_t5).mpr h11), rowsOf_last h11]
    iintro ⟨HD, HR, Hs, HQ⟩
    iapply (wp_issue c (h := 64) (off93_eq h k0_t5 e) ((off94_eq h k0_t5).trans (by rw [hsl])) ((off92_eq h k0_t5).trans (by rw [hsl])) val V G hG) $$ [HD HR Hs HQ]
    isplitl [HD]; · iexact HD
    isplitl [HR]; · iexact HR
    isplitl [Hs]; · iexact Hs
    iintro HF
    sl_step
    iapply HQ
    iexact HF
  · rw [dif_pos ((cond11_iff h k0_t5).mpr h11), rowsOf_full h11]
    iintro ⟨HD, HR, Hs, HQ⟩
    iapply (wp_issue c (h := 256) (off90_eq h k0_t5 e) ((off91_eq h k0_t5).trans (by rw [hsl])) ((off89_eq h k0_t5).trans (by rw [hsl])) val V G hG) $$ [HD HR Hs HQ]
    isplitl [HD]; · iexact HD
    isplitl [HR]; · iexact HR
    isplitl [Hs]; · iexact Hs
    iintro HF
    rw [dif_neg (fun hc => h11 ((cond12_iff h k0_t5).mp hc))]
    sl_step
    iapply HQ
    iexact HF

end Cert.Proof.KernelIdeal

end
-- ==== Proof.KernelIdeal.Turn.lean ====
/- A turn of the main loop, whole: it keeps the state of the ring, one slab further. -/
module

public import proofs.«01_k».proof.Proof.KernelIdeal.Turn1

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-- What the main loop keeps before turn `k`. -/
def Turn (c : Dev nD) (v0 v1 v2 v3 : BitVec 32) (O : Vec F S4 .i32) (X1 X2 : Vec F S4 .f32) (X3 : Vec F S1088x3072 .bf16) (X4 : Vec F S1088x5760 .bf16) (k : ℕ) : sProp 𝕄 :=
  iprop(pt c ORD O ∗ pt c A1 X1 ∗ pt c A2 X2 ∗ pt c A3 X3 ∗ pt c A4 X4 ∗ (∃ L, pt c LT L)
    ∗ RingSt v0 v1 v2 v3 c (result v0 v1 v2 v3 X1 X2 X3 X4) k (k - 5) ∗ ∃ W, owes (c : Thread nD τ) 0 W)

set_option maxHeartbeats 8000000 in
/-- A turn from its slab on. -/
theorem rest (c : Dev nD) {v0 v1 v2 v3 : BitVec 32} (h : Fit v0 v1 v2 v3) (k0_hw4 : k0_chk4 v0 v1 v2 v3) (k : Fin (k0_t5_loop v0 v1 v2 v3).trips)
    (O : Vec F S4 .i32) (X1 X2 : Vec F S4 .f32) (X3 : Vec F S1088x3072 .bf16) (X4 : Vec F S1088x5760 .bf16) (e : Fin 4) (hE : exOf v0 v1 v2 v3 (k.val / 12) = e)
    (v88_r0 v90_r0 v112_r0 v113_r0 v120_r0 : BitVec 32) (v118_r0 : F .f32) (hv88 : v88_r0 = BitVec.ofNat 32 e.val) (k0_hw5 : k0_chk5 v0 v1 v2 v3 k v88_r0)
    (hv112 : v112_r0 = kbW v0 v1 v2 v3 v88_r0) (hv118 : v118_r0 = scaleOf X1 X2 e) :
    iprop(pt c ORD O ∗ pt c A1 X1 ∗ pt c A2 X2 ∗ pt c A3 X3 ∗ pt c A4 X4 ∗ (∃ L, pt c LT L)
        ∗ RingSt v0 v1 v2 v3 c (result v0 v1 v2 v3 X1 X2 X3 X4) k.val (k.val + 1 - 5) ∗ ∃ W, owes (c : Thread nD τ) 0 W)
      ⊢ wp frame (wpE (defs₀ (F := F)) Variants.none (c : Thread nD τ) none) Set.univ
          (do
          if k0_h8 : k0_cond8 v0 v1 v2 v3 v88_r0 = 1#1 then do
            let v177_r0 : Vec F S256x256 .bf16 ← k0_part1 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v112_r0 v113_r0 v118_r0 v120_r0 k0_h8
            let v212_r0 : FVec F S256x512 .f32 ← k0_part2 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h8 v177_r0
            let v247_r0 : Vec F S256x256 .bf16 ← k0_part3 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h8 v212_r0
            let v249_r0 : Vec F S256x512 .bf16 ← Prog.lift (.load A4 (Rect.unit (s := S1088x5760) (k0_off33 v0 v1 v2 v88_r0) S256x512.size (k0_off33_inb v0 v1 v2 v3 k v88_r0 k0_hw5 k0_h8)).toLoadRect (View.loadsAt_vmem h_S256x512))
            let v254_r0 : Vec F S1x256x512 .f32 ← Prog.lift (.load RING (Rect.unit (s := S5x256x5760) (k0_off34 v0 v1 v2 v3 k) S1x256x512.size (k0_off34_inb v0 v1 v2 v3 k v88_r0 k0_hw5 k0_h8)).toLoadRect (View.loadsAt_vmem h_S1x256x512))
            Prog.lift (.store RING (Rect.unit (s := S5x256x5760) (k0_off34 v0 v1 v2 v3 k) S1x256x512.size (k0_off34_inb v0 v1 v2 v3 k v88_r0 k0_hw5 k0_h8)) (k0_pay1 v118_r0 v247_r0 v249_r0) Finset.univ (View.stores_vmem_bits_univ h_S1x256x512 rfl) (.inl rfl))
            let v257_r0 : Vec F S256x256 .bf16 ← Prog.lift (.load LT (Rect.unit (s := S256x768) ![0, 0] S256x256.size inb_S256x768_S256x256_0_0).toLoadRect (View.loadsAt_vmem h_S256x256))
            let v259_r0 : Vec F S256x512 .bf16 ← Prog.lift (.load A4 (Rect.unit (s := S1088x5760) (k0_off35 v0 v1 v2 v88_r0) S256x512.size (k0_off35_inb v0 v1 v2 v3 k v88_r0 k0_hw5 k0_h8)).toLoadRect (View.loadsAt_vmem h_S256x512))
            let v264_r0 : Vec F S1x256x512 .f32 ← Prog.lift (.load RING (Rect.unit (s := S5x256x5760) (k0_off36 v0 v1 v2 v3 k) S1x256x512.size (k0_off36_inb v0 v1 v2 v3 k v88_r0 k0_hw5 k0_h8)).toLoadRect (View.loadsAt_vmem h_S1x256x512))
            Prog.lift (.store RING (Rect.unit (s := S5x256x5760) (k0_off36 v0 v1 v2 v3 k) S1x256x512.size (k0_off36_inb v0 v1 v2 v3 k v88_r0 k0_hw5 k0_h8)) (k0_pay2 v118_r0 v257_r0 v259_r0) Finset.univ (View.stores_vmem_bits_univ h_S1x256x512 rfl) (.inl rfl))
            let v267_r0 : Vec F S256x256 .bf16 ← Prog.lift (.load LT (Rect.unit (s := S256x768) ![0, 0] S256x256.size inb_S256x768_S256x256_0_0).toLoadRect (View.loadsAt_vmem h_S256x256))
            let v269_r0 : Vec F S256x128 .bf16 ← Prog.lift (.load A4 (Rect.unit (s := S1088x5760) (k0_off37 v0 v1 v2 v88_r0) S256x128.size (k0_off37_inb v0 v1 v2 v3 k v88_r0 k0_hw5 k0_h8)).toLoadRect (View.loadsAt_vmem h_S256x128))
            let v274_r0 : Vec F S1x256x128 .f32 ← Prog.lift (.load RING (Rect.unit (s := S5x256x5760) (k0_off38 v0 v1 v2 v3 k) S1x256x128.size (k0_off38_inb v0 v1 v2 v3 k v88_r0 k0_hw5 k0_h8)).toLoadRect (View.loadsAt_vmem h_S1x256x128))
            Prog.lift (.store RING (Rect.unit (s := S5x256x5760) (k0_off38 v0 v1 v2 v3 k) S1x256x128.size (k0_off38_inb v0 v1 v2 v3 k v88_r0 k0_hw5 k0_h8)) (k0_pay3 v118_r0 v267_r0 v269_r0) Finset.univ (View.stores_vmem_bits_univ h_S1x256x128 rfl) (.inl rfl))
            pure ⟨⟩
          else do
            pure ⟨⟩
          if k0_h9 : k0_cond9 v0 v1 v2 v3 v88_r0 = 1#1 then do
            let v177_r0 : Vec F S256x512 .bf16 ← k0_part4 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v112_r0 v113_r0 v118_r0 v120_r0 k0_h9
            let v212_r0 : FVec F S256x512 .f32 ← k0_part5 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h9 v177_r0
            let v247_r0 : Vec F S256x512 .bf16 ← k0_part6 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h9 v212_r0
            let v249_r0 : Vec F S512x512 .bf16 ← Prog.lift (.load A4 (Rect.unit (s := S1088x5760) (k0_off58 v0 v1 v2 v88_r0) S512x512.size (k0_off58_inb v0 v1 v2 v3 k v88_r0 k0_hw5 k0_h9)).toLoadRect (View.loadsAt_vmem h_S512x512))
            let v254_r0 : Vec F S1x256x512 .f32 ← Prog.lift (.load RING (Rect.unit (s := S5x256x5760) (k0_off59 v0 v1 v2 v3 k) S1x256x512.size (k0_off59_inb v0 v1 v2 v3 k v88_r0 k0_hw5 k0_h9)).toLoadRect (View.loadsAt_vmem h_S1x256x512))
            Prog.lift (.store RING (Rect.unit (s := S5x256x5760) (k0_off59 v0 v1 v2 v3 k) S1x256x512.size (k0_off59_inb v0 v1 v2 v3 k v88_r0 k0_hw5 k0_h9)) (k0_pay4 v118_r0 v247_r0 v249_r0) Finset.univ (View.stores_vmem_bits_univ h_S1x256x512 rfl) (.inl rfl))
            let v257_r0 : Vec F S256x512 .bf16 ← Prog.lift (.load LT (Rect.unit (s := S256x768) ![0, 0] S256x512.size inb_S256x768_S256x512_0_0).toLoadRect (View.loadsAt_vmem h_S256x512))
            let v259_r0 : Vec F S512x512 .bf16 ← Prog.lift (.load A4 (Rect.unit (s := S1088x5760) (k0_off60 v0 v1 v2 v88_r0) S512x512.size (k0_off60_inb v0 v1 v2 v3 k v88_r0 k0_hw5 k0_h9)).toLoadRect (View.loadsAt_vmem h_S512x512))
            let v264_r0 : Vec F S1x256x512 .f32 ← Prog.lift (.load RING (Rect.unit (s := S5x256x5760) (k0_off61 v0 v1 v2 v3 k) S1x256x512.size (k0_off61_inb v0 v1 v2 v3 k v88_r0 k0_hw5 k0_h9)).toLoadRect (View.loadsAt_vmem h_S1x256x512))
            Prog.lift (.store RING (Rect.unit (s := S5x256x5760) (k0_off61 v0 v1 v2 v3 k) S1x256x512.size (k0_off61_inb v0 v1 v2 v3 k v88_r0 k0_hw5 k0_h9)) (k0_pay5 v118_r0 v257_r0 v259_r0) Finset.univ (View.stores_vmem_bits_univ h_S1x256x512 rfl) (.inl rfl))
            let v267_r0 : Vec F S256x512 .bf16 ← Prog.lift (.load LT (Rect.unit (s := S256x768) ![0, 0] S256x512.size inb_S256x768_S256x512_0_0).toLoadRect (View.loadsAt_vmem h_S256x512))
            let v269_r0 : Vec F S512x128 .bf16 ← Prog.lift (.load A4 (Rect.unit (s := S1088x5760) (k0_off62 v0 v1 v2 v88_r0) S512x128.size (k0_off62_inb v0 v1 v2 v3 k v88_r0 k0_hw5 k0_h9)).toLoadRect (View.loadsAt_vmem h_S512x128))
            let v274_r0 : Vec F S1x256x128 .f32 ← Prog.lift (.load RING (Rect.unit (s := S5x256x5760) (k0_off63 v0 v1 v2 v3 k) S1x256x128.size (k0_off63_inb v0 v1 v2 v3 k v88_r0 k0_hw5 k0_h9)).toLoadRect (View.loadsAt_vmem h_S1x256x128))
            Prog.lift (.store RING (Rect.unit (s := S5x256x5760) (k0_off63 v0 v1 v2 v3 k) S1x256x128.size (k0_off63_inb v0 v1 v2 v3 k v88_r0 k0_hw5 k0_h9)) (k0_pay6 v118_r0 v267_r0 v269_r0) Finset.univ (View.stores_vmem_bits_univ h_S1x256x128 rfl) (.inl rfl))
            pure ⟨⟩
          else do
            pure ⟨⟩
          if k0_h10 : k0_cond10 v0 v1 v2 v3 v88_r0 = 1#1 then do
            let v177_r0 : Vec F S256x768 .bf16 ← k0_part7 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v112_r0 v113_r0 v118_r0 v120_r0 k0_h10
            let v212_r0 : FVec F S256x512 .f32 ← k0_part8 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h10 v177_r0
            let v247_r0 : Vec F S256x768 .bf16 ← k0_part9 A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k v88_r0 k0_hw5 v90_r0 v113_r0 v118_r0 k0_h10 v212_r0
            let v249_r0 : Vec F S768x512 .bf16 ← Prog.lift (.load A4 (Rect.unit (s := S1088x5760) (k0_off83 v0 v1 v2 v88_r0) S768x512.size (k0_off83_inb v0 v1 v2 v3 k v88_r0 k0_hw5 k0_h10)).toLoadRect (View.loadsAt_vmem h_S768x512))
            let v254_r0 : Vec F S1x256x512 .f32 ← Prog.lift (.load RING (Rect.unit (s := S5x256x5760) (k0_off84 v0 v1 v2 v3 k) S1x256x512.size (k0_off84_inb v0 v1 v2 v3 k v88_r0 k0_hw5 k0_h10)).toLoadRect (View.loadsAt_vmem h_S1x256x512))
            Prog.lift (.store RING (Rect.unit (s := S5x256x5760) (k0_off84 v0 v1 v2 v3 k) S1x256x512.size (k0_off84_inb v0 v1 v2 v3 k v88_r0 k0_hw5 k0_h10)) (k0_pay7 v118_r0 v247_r0 v249_r0) Finset.univ (View.stores_vmem_bits_univ h_S1x256x512 rfl) (.inl rfl))
            let v257_r0 : Vec F S256x768 .bf16 ← Prog.lift (.load LT (Rect.unit (s := S256x768) ![0, 0] S256x768.size inb_S256x768_S256x768_0_0).toLoadRect (View.loadsAt_vmem h_S256x768))
            let v259_r0 : Vec F S768x512 .bf16 ← Prog.lift (.load A4 (Rect.unit (s := S1088x5760) (k0_off85 v0 v1 v2 v88_r0) S768x512.size (k0_off85_inb v0 v1 v2 v3 k v88_r0 k0_hw5 k0_h10)).toLoadRect (View.loadsAt_vmem h_S768x512))
            let v264_r0 : Vec F S1x256x512 .f32 ← Prog.lift (.load RING (Rect.unit (s := S5x256x5760) (k0_off86 v0 v1 v2 v3 k) S1x256x512.size (k0_off86_inb v0 v1 v2 v3 k v88_r0 k0_hw5 k0_h10)).toLoadRect (View.loadsAt_vmem h_S1x256x512))
            Prog.lift (.store RING (Rect.unit (s := S5x256x5760) (k0_off86 v0 v1 v2 v3 k) S1x256x512.size (k0_off86_inb v0 v1 v2 v3 k v88_r0 k0_hw5 k0_h10)) (k0_pay8 v118_r0 v257_r0 v259_r0) Finset.univ (View.stores_vmem_bits_univ h_S1x256x512 rfl) (.inl rfl))
            let v267_r0 : Vec F S256x768 .bf16 ← Prog.lift (.load LT (Rect.unit (s := S256x768) ![0, 0] S256x768.size inb_S256x768_S256x768_0_0).toLoadRect (View.loadsAt_vmem h_S256x768))
            let v269_r0 : Vec F S768x128 .bf16 ← Prog.lift (.load A4 (Rect.unit (s := S1088x5760) (k0_off87 v0 v1 v2 v88_r0) S768x128.size (k0_off87_inb v0 v1 v2 v3 k v88_r0 k0_hw5 k0_h10)).toLoadRect (View.loadsAt_vmem h_S768x128))
            let v274_r0 : Vec F S1x256x128 .f32 ← Prog.lift (.load RING (Rect.unit (s := S5x256x5760) (k0_off88 v0 v1 v2 v3 k) S1x256x128.size (k0_off88_inb v0 v1 v2 v3 k v88_r0 k0_hw5 k0_h10)).toLoadRect (View.loadsAt_vmem h_S1x256x128))
            Prog.lift (.store RING (Rect.unit (s := S5x256x5760) (k0_off88 v0 v1 v2 v3 k) S1x256x128.size (k0_off88_inb v0 v1 v2 v3 k v88_r0 k0_hw5 k0_h10)) (k0_pay9 v118_r0 v267_r0 v269_r0) Finset.univ (View.stores_vmem_bits_univ h_S1x256x128 rfl) (.inl rfl))
            pure ⟨⟩
          else do
            pure ⟨⟩
          if k0_h11 : k0_cond11 v0 v1 v2 v3 k = 1#1 then do
            let v143_r0 : DmaSems sig S1 := cc0_scratch4.slice (Rect.unit (s := S5) (k0_off89 v0 v1 v2 v3 k) S1.size (k0_off89_inb v0 v1 v2 v3 k0_hw4 k k0_h11))
            let v144_r0 : DmaSems sig S_ := v143_r0.squeeze S_ squeezes_S1_S_
            let v145_r0 : Memref sig .tc .hbm S1x256x5760 .f32 := DW.slice (Rect.unit (s := S4x2880x5760) (k0_off90 v0 v1 v2 v3 k v88_r0) S1x256x5760.size (k0_off90_inb v0 v1 v2 v3 k v88_r0 k0_hw5 k0_h11)) (fun _ => rfl)
            let v146_r0 : Memref sig .tc .hbm S256x5760 .f32 := v145_r0.squeeze S256x5760 squeezes_S1x256x5760_S256x5760
            let v147_r0 : Memref sig .tc .vmem S1x256x5760 .f32 := RING.slice (Rect.unit (s := S5x256x5760) (k0_off91 v0 v1 v2 v3 k) S1x256x5760.size (k0_off91_inb v0 v1 v2 v3 k0_hw4 k k0_h11)) (fun _ => rfl)
            let v148_r0 : Memref sig .tc .vmem S256x5760 .f32 := v147_r0.squeeze S256x5760 squeezes_S1x256x5760_S256x5760
            Prog.lift (.enqueueDma v148_r0 (.here v146_r0) (.dma v144_r0.sem) ((View.wordExact_bits rfl).reshape _ _) ((View.wordExact_bits rfl).reshape _ _) ⟨Or.inl rfl, trivial⟩)
            pure ⟨⟩
          else do
            pure ⟨⟩
          if k0_h12 : k0_cond12 v0 v1 v2 v3 k = 1#1 then do
            let v143_r0 : DmaSems sig S1 := cc0_scratch4.slice (Rect.unit (s := S5) (k0_off92 v0 v1 v2 v3 k) S1.size (k0_off92_inb v0 v1 v2 v3 k0_hw4 k k0_h12))
            let v144_r0 : DmaSems sig S_ := v143_r0.squeeze S_ squeezes_S1_S_
            let v145_r0 : Memref sig .tc .hbm S1x64x5760 .f32 := DW.slice (Rect.unit (s := S4x2880x5760) (k0_off93 v0 v1 v2 v3 k v88_r0) S1x64x5760.size (k0_off93_inb v0 v1 v2 v3 k v88_r0 k0_hw5 k0_h12)) (fun _ => rfl)
            let v146_r0 : Memref sig .tc .hbm S64x5760 .f32 := v145_r0.squeeze S64x5760 squeezes_S1x64x5760_S64x5760
            let v147_r0 : Memref sig .tc .vmem S1x64x5760 .f32 := RING.slice (Rect.unit (s := S5x256x5760) (k0_off94 v0 v1 v2 v3 k) S1x64x5760.size (k0_off94_inb v0 v1 v2 v3 k0_hw4 k k0_h12)) (fun _ => rfl)
            let v148_r0 : Memref sig .tc .vmem S64x5760 .f32 := v147_r0.squeeze S64x5760 squeezes_S1x64x5760_S64x5760
            Prog.lift (.enqueueDma v148_r0 (.here v146_r0) (.dma v144_r0.sem) ((View.wordExact_bits rfl).reshape _ _) ((View.wordExact_bits rfl).reshape _ _) ⟨Or.inl rfl, trivial⟩)
            pure ⟨⟩
          else do
            pure ⟨⟩
          pure ⟨⟩ : Prog (TpuEff nD τ sig (Elt F) Λ₀ .tc) PUnit.{1})
          fun _ => Turn c v0 v1 v2 v3 O X1 X2 X3 X4 (k.val + 1) := by
  subst hv88 hv112 hv118
  have hk := klt h k
  have hr : k.val / 12 < cnt v0 v1 v2 v3 := by omega
  obtain ⟨he, hrk⟩ := exOf_spec v0 v1 v2 v3 hr
  have hissue := RingSt.issue v0 v1 v2 v3 c (result v0 v1 v2 v3 X1 X2 X3 X4) (k := k.val) (d := k.val + 1 - 5) (by omega) (by omega) hk
  unfold jobTodo jobSet jobFlight Free at hissue
  rw [hE] at he hissue
  have hnb := h.nb_le e
  have hslot : (slotW k).toNat = (slotOf k.val).val := slot_nat h k
  have hw := k0_hw5
  unfold Turn
  simp only [bind_def', pure_def', Prog.lift, op_bind', ret_bind', bind_bind']
  iintro ⟨HO, H1, H2, H3, H4, ⟨%L, HL⟩, HR, HW⟩
  ihave HR := hissue $$ HR
  icases HR with ⟨⟨Hs, ⟨%f, HS⟩⟩, ⟨%V, HT⟩, HN⟩
  ihave HS := (Entails.of_eq (congrArg (fun i => ptOn c RING (slotSet i) f) hslot.symm)) $$ HS
  by_cases p1 : 16 * nb v0 v1 v2 v3 e ≤ 256
  · skip
    have hval : ∀ x, slabVal (fun j => k0_pay20 (scaleOf X1 X2 e) (k0_pay19 (kbW v0 v1 v2 v3 (BitVec.ofNat 32 e.val)) (lhsBlk X3 256 (k0W v0 v1 v2 (BitVec.ofNat 32 e.val)).toNat (slabW k).toNat)) (rhsBlk X4 256 512 (k0W v0 v1 v2 (BitVec.ofNat 32 e.val)).toNat (512 * j)))
        (k0_pay3 (scaleOf X1 X2 e) (k0_pay19 (kbW v0 v1 v2 v3 (BitVec.ofNat 32 e.val)) (lhsBlk X3 256 (k0W v0 v1 v2 (BitVec.ofNat 32 e.val)).toNat (slabW k).toNat)) (rhsBlk X4 256 128 (k0W v0 v1 v2 (BitVec.ofNat 32 e.val)).toNat 5632)) x
          = slabOf v0 v1 v2 v3 X1 X2 X3 X4 e (256 * (k.val % 12)) x := by
      intro x
      unfold slabOf
      simp only [if_pos p1]
      rw [slab_nat h k]
    rw [dif_pos ((cond8_iff h e).mpr ⟨by omega, by omega⟩), dif_neg (fun hc => by have := (cond9_iff h e).mp hc; omega), dif_neg (fun hc => by have := (cond10_iff h e).mp hc; omega)]
    iapply (slab256K c v0 v1 v2 v3 k _ hw _ _ _ _ _ ((cond8_iff h e).mpr ⟨by omega, by omega⟩) X3 X4 L f _ _) $$ [H3 H4 HL HS HT Hs HN HO H1 H2 HW]
    isplitl [H3 H4 HL HS]
    · isplitl [H3]; · iexact H3
      isplitl [H4]; · iexact H4
      isplitl [HL] <;> iassumption
    iintro %_ ⟨H3, H4, HL, HS⟩
    ihave HS := (Entails.of_eq (congrArg (fun i => ptOn c RING (slotSet i) _) hslot)) $$ HS
    iapply (tail c h k0_hw4 k _ e rfl hw _ V (result v0 v1 v2 v3 X1 X2 X3 X4)
      (fun x y h0 h1 h2 => (hval x).trans (result_slab v0 v1 v2 v3 X1 X2 X3 X4 he h0 h1 h2))) $$ [H3 H4 HL HS HT Hs HN HO H1 H2 HW]
    isplitl [HT]; · iexact HT
    isplitl [HS]; · iexact HS
    isplitl [Hs]; · iexact Hs
    iintro HF
    isplitl [HO]; · iexact HO
    isplitl [H1]; · iexact H1
    isplitl [H2]; · iexact H2
    isplitl [H3]; · iexact H3
    isplitl [H4]; · iexact H4
    isplitl [HL]; · iexact HL
    isplitl [HN HF]
    · iapply HN
      iexact HF
    · iexact HW
  by_cases p2 : 16 * nb v0 v1 v2 v3 e ≤ 512
  · skip
    have hval : ∀ x, slabVal (fun j => k0_pay31 (scaleOf X1 X2 e) (k0_pay30 (kbW v0 v1 v2 v3 (BitVec.ofNat 32 e.val)) (lhsBlk X3 512 (k0W v0 v1 v2 (BitVec.ofNat 32 e.val)).toNat (slabW k).toNat)) (rhsBlk X4 512 512 (k0W v0 v1 v2 (BitVec.ofNat 32 e.val)).toNat (512 * j)))
        (k0_pay6 (scaleOf X1 X2 e) (k0_pay30 (kbW v0 v1 v2 v3 (BitVec.ofNat 32 e.val)) (lhsBlk X3 512 (k0W v0 v1 v2 (BitVec.ofNat 32 e.val)).toNat (slabW k).toNat)) (rhsBlk X4 512 128 (k0W v0 v1 v2 (BitVec.ofNat 32 e.val)).toNat 5632)) x
          = slabOf v0 v1 v2 v3 X1 X2 X3 X4 e (256 * (k.val % 12)) x := by
      intro x
      unfold slabOf
      simp only [if_neg p1, if_pos p2]
      rw [slab_nat h k]
    rw [dif_neg (fun hc => by have := (cond8_iff h e).mp hc; omega), dif_pos ((cond9_iff h e).mpr ⟨by omega, by omega⟩), dif_neg (fun hc => by have := (cond10_iff h e).mp hc; omega)]
    iapply (slab512K c v0 v1 v2 v3 k _ hw _ _ _ _ _ ((cond9_iff h e).mpr ⟨by omega, by omega⟩) X3 X4 L f _ _) $$ [H3 H4 HL HS HT Hs HN HO H1 H2 HW]
    isplitl [H3 H4 HL HS]
    · isplitl [H3]; · iexact H3
      isplitl [H4]; · iexact H4
      isplitl [HL] <;> iassumption
    iintro %_ ⟨H3, H4, HL, HS⟩
    ihave HS := (Entails.of_eq (congrArg (fun i => ptOn c RING (slotSet i) _) hslot)) $$ HS
    iapply (tail c h k0_hw4 k _ e rfl hw _ V (result v0 v1 v2 v3 X1 X2 X3 X4)
      (fun x y h0 h1 h2 => (hval x).trans (result_slab v0 v1 v2 v3 X1 X2 X3 X4 he h0 h1 h2))) $$ [H3 H4 HL HS HT Hs HN HO H1 H2 HW]
    isplitl [HT]; · iexact HT
    isplitl [HS]; · iexact HS
    isplitl [Hs]; · iexact Hs
    iintro HF
    isplitl [HO]; · iexact HO
    isplitl [H1]; · iexact H1
    isplitl [H2]; · iexact H2
    isplitl [H3]; · iexact H3
    isplitl [H4]; · iexact H4
    isplitl [HL]; · iexact HL
    isplitl [HN HF]
    · iapply HN
      iexact HF
    · iexact HW
  · skip
    have hval : ∀ x, slabVal (fun j => k0_pay42 (scaleOf X1 X2 e) (k0_pay41 (kbW v0 v1 v2 v3 (BitVec.ofNat 32 e.val)) (lhsBlk X3 768 (k0W v0 v1 v2 (BitVec.ofNat 32 e.val)).toNat (slabW k).toNat)) (rhsBlk X4 768 512 (k0W v0 v1 v2 (BitVec.ofNat 32 e.val)).toNat (512 * j)))
        (k0_pay9 (scaleOf X1 X2 e) (k0_pay41 (kbW v0 v1 v2 v3 (BitVec.ofNat 32 e.val)) (lhsBlk X3 768 (k0W v0 v1 v2 (BitVec.ofNat 32 e.val)).toNat (slabW k).toNat)) (rhsBlk X4 768 128 (k0W v0 v1 v2 (BitVec.ofNat 32 e.val)).toNat 5632)) x
          = slabOf v0 v1 v2 v3 X1 X2 X3 X4 e (256 * (k.val % 12)) x := by
      intro x
      unfold slabOf
      simp only [if_neg p1, if_neg p2]
      rw [slab_nat h k]
    rw [dif_neg (fun hc => by have := (cond8_iff h e).mp hc; omega), dif_neg (fun hc => by have := (cond9_iff h e).mp hc; omega), dif_pos ((cond10_iff h e).mpr ⟨by omega, by omega⟩)]
    iapply (slab768K c v0 v1 v2 v3 k _ hw _ _ _ _ _ ((cond10_iff h e).mpr ⟨by omega, by omega⟩) X3 X4 L f _ _) $$ [H3 H4 HL HS HT Hs HN HO H1 H2 HW]
    isplitl [H3 H4 HL HS]
    · isplitl [H3]; · iexact H3
      isplitl [H4]; · iexact H4
      isplitl [HL] <;> iassumption
    iintro %_ ⟨H3, H4, HL, HS⟩
    ihave HS := (Entails.of_eq (congrArg (fun i => ptOn c RING (slotSet i) _) hslot)) $$ HS
    iapply (tail c h k0_hw4 k _ e rfl hw _ V (result v0 v1 v2 v3 X1 X2 X3 X4)
      (fun x y h0 h1 h2 => (hval x).trans (result_slab v0 v1 v2 v3 X1 X2 X3 X4 he h0 h1 h2))) $$ [H3 H4 HL HS HT Hs HN HO H1 H2 HW]
    isplitl [HT]; · iexact HT
    isplitl [HS]; · iexact HS
    isplitl [Hs]; · iexact Hs
    iintro HF
    isplitl [HO]; · iexact HO
    isplitl [H1]; · iexact H1
    isplitl [H2]; · iexact H2
    isplitl [H3]; · iexact H3
    isplitl [H4]; · iexact H4
    isplitl [HL]; · iexact HL
    isplitl [HN HF]
    · iapply HN
      iexact HF
    · iexact HW

set_option maxHeartbeats 8000000 in
theorem turn (c : Dev nD) {v0 v1 v2 v3 : BitVec 32} (h : Fit v0 v1 v2 v3) (k0_hw4 : k0_chk4 v0 v1 v2 v3) (k : Fin (k0_t5_loop v0 v1 v2 v3).trips)
    (O : Vec F S4 .i32) (hO : Ordered v0 v1 v2 v3 O) (X1 X2 : Vec F S4 .f32) (X3 : Vec F S1088x3072 .bf16) (X4 : Vec F S1088x5760 .bf16) (u : Unit) :
    Turn c v0 v1 v2 v3 O X1 X2 X3 X4 k.val
      ⊢ wp frame (wpE (defs₀ (F := F)) Variants.none (c : Thread nD τ) none) Set.univ
          (k0_t5_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 (Scalar.shrui (Scalar.addi v0 15#32) 4#32) (Scalar.shrui (Scalar.addi v1 15#32) 4#32) (Scalar.shrui (Scalar.addi v2 15#32) 4#32) (Scalar.shrui (Scalar.addi v3 15#32) 4#32) (Scalar.addi 0#32 (Scalar.shrui (Scalar.addi v0 15#32) 4#32)) (Scalar.addi (Scalar.addi 0#32 (Scalar.shrui (Scalar.addi v0 15#32) 4#32)) (Scalar.shrui (Scalar.addi v1 15#32) 4#32)) (Scalar.addi (Scalar.addi (Scalar.addi 0#32 (Scalar.shrui (Scalar.addi v0 15#32) 4#32)) (Scalar.shrui (Scalar.addi v1 15#32) 4#32)) (Scalar.shrui (Scalar.addi v2 15#32) 4#32)) 1#32 0#32 0#32 k u)
          fun _ => Turn c v0 v1 v2 v3 O X1 X2 X3 X4 (k.val + 1) := by
  have hhead := head c h k0_hw4 k O hO X1 X2 (result v0 v1 v2 v3 X1 X2 X3 X4)
  unfold k0_t5_body Turn
  iintro ⟨HO, H1, H2, H3, H4, HL, HR, HW⟩
  iapply (wp_seq Variants.none (c : Thread nD τ) none Set.univ hhead) $$ [HO H1 H2 H3 H4 HL HR HW]
  isplitl [HO H1 H2 HR HW]
  · isplitl [HO]; · iexact HO
    isplitl [H1]; · iexact H1
    isplitl [H2]; · iexact H2
    isplitl [HR] <;> iassumption
  iintro %r ⟨%hw', HO, H1, H2, HR, HW⟩
  obtain ⟨hw, rfl⟩ := hw'
  iapply (rest c h k0_hw4 k O X1 X2 X3 X4 _ rfl _ _ _ _ _ _ rfl hw rfl rfl) $$ [HO H1 H2 H3 H4 HL HR HW]
  isplitl [HO]; · iexact HO
  isplitl [H1]; · iexact H1
  isplitl [H2]; · iexact H2
  isplitl [H3]; · iexact H3
  isplitl [H4]; · iexact H4
  isplitl [HL]; · iexact HL
  isplitl [HR] <;> iassumption

end Cert.Proof.KernelIdeal

end
-- ==== Proof.KernelIdeal.Drain.lean ====
/- The turns after the main loop: each waits for the oldest slab in flight. -/
module

public import proofs.«01_k».proof.Proof.KernelIdeal.Trip

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-- What the last loop keeps before its turn `t`: every slab issued, all but the last few landed. -/
def Draining (c : Dev nD) (v0 v1 v2 v3 : BitVec 32) (G : Vec F S4x2880x5760 .f32) (t : ℕ) : sProp 𝕄 :=
  iprop(RingSt v0 v1 v2 v3 c G (12 * cnt v0 v1 v2 v3) (12 * cnt v0 v1 v2 v3 - 5 + t) ∗ ∃ W, owes (c : Thread nD τ) 0 W)

set_option maxHeartbeats 4000000 in
theorem drain (c : Dev nD) {v0 v1 v2 v3 : BitVec 32} (h : Fit v0 v1 v2 v3) (k0_hw4 : k0_chk4 v0 v1 v2 v3) (t : Fin (k0_t7_loop v0 v1 v2 v3).trips)
    (G : Vec F S4x2880x5760 .f32) (u : Unit) :
    Draining c v0 v1 v2 v3 G t.val
      ⊢ wp frame (wpE (defs₀ (F := F)) Variants.none (c : Thread nD τ) none) Set.univ (k0_t7_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 t u) fun _ => Draining c v0 v1 v2 v3 G (t.val + 1) := by
  have ht := tlt h t
  have hland := RingSt.land v0 v1 v2 v3 c G (k := 12 * cnt v0 v1 v2 v3) (d := 12 * cnt v0 v1 v2 v3 - 5 + t.val) (by omega) (by omega)
  have hsl : (12 * cnt v0 v1 v2 v3 - 5 + t.val) % 5 = (slotOf (12 * cnt v0 v1 v2 v3 - 5 + t.val)).val := rfl
  unfold jobFlight jobDone jobSet at hland
  unfold k0_t7_body Draining
  rw [show 12 * cnt v0 v1 v2 v3 - 5 + (t.val + 1) = 12 * cnt v0 v1 v2 v3 - 5 + t.val + 1 from rfl]
  simp only [bind_def', pure_def', Prog.lift, op_bind', ret_bind', bind_bind']
  by_cases h6 : (12 * cnt v0 v1 v2 v3 - 5 + t.val) % 12 = 11
  · rw [rowsOf_last h6] at hland
    rw [dif_neg (fun hc => (cond21_iff h t).mp hc h6), dif_pos ((cond22_iff h t).mpr h6)]
    iintro ⟨HR, ⟨%W, HW⟩⟩
    ihave HR := hland $$ HR
    icases HR with ⟨HF, HR⟩
    iapply (wp_land c (h := 64) (by decide) ((off184_eq h t).trans (by rw [hsl])) G W) $$ [HF HW HR]
    isplitl [HF]; · iexact HF
    isplitl [HW]; · iexact HW
    iintro ⟨HD, Hf, HW⟩
    sl_step
    isplitl [HR HD Hf]
    · iapply HR
      isplitl [HD] <;> iassumption
    · iexact HW
  · rw [rowsOf_full h6] at hland
    rw [dif_pos ((cond21_iff h t).mpr h6), dif_neg (fun hc => h6 ((cond22_iff h t).mp hc))]
    iintro ⟨HR, ⟨%W, HW⟩⟩
    ihave HR := hland $$ HR
    icases HR with ⟨HF, HR⟩
    iapply (wp_land c (h := 256) (by decide) ((off182_eq h t).trans (by rw [hsl])) G W) $$ [HF HW HR]
    isplitl [HF]; · iexact HF
    isplitl [HW]; · iexact HW
    iintro ⟨HD, Hf, HW⟩
    sl_step
    isplitl [HR HD Hf]
    · iapply HR
      isplitl [HD] <;> iassumption
    · iexact HW

end Cert.Proof.KernelIdeal

end
-- ==== Proof.KernelIdeal.Body.lean ====
/- The body of the kernel: from the operands in hand, the result. -/
module

public import proofs.«01_k».proof.Proof.KernelIdeal.Head
public import proofs.«01_k».proof.Proof.KernelIdeal.Turn
public import proofs.«01_k».proof.Proof.KernelIdeal.Drain

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

/-- What the loops leave: the operands, and every copy landed but those of zeros, which are waited for. -/
def Rest (c : Dev nD) (v0 v1 v2 v3 : BitVec 32) (O : Vec F S4 .i32) (X1 X2 : Vec F S4 .f32) (X3 : Vec F S1088x3072 .bf16) (X4 : Vec F S1088x5760 .bf16) (k d u : ℕ) : sProp 𝕄 :=
  iprop(pt c ORD O ∗ pt c A1 X1 ∗ pt c A2 X2 ∗ pt c A3 X3 ∗ pt c A4 X4 ∗ (∃ L, pt c LT L)
    ∗ RingSt v0 v1 v2 v3 c (result v0 v1 v2 v3 X1 X2 X3 X4) k d ∗ ZWait c v0 v1 v2 v3 (result v0 v1 v2 v3 X1 X2 X3 X4) u)

set_option maxHeartbeats 4000000 in
/-- The loops after the first part. -/
theorem loops (c : Dev nD) {v0 v1 v2 v3 : BitVec 32} (h : Fit v0 v1 v2 v3) (k0_hw4 : k0_chk4 v0 v1 v2 v3)
    (O : Vec F S4 .i32) (hO : Ordered v0 v1 v2 v3 O) (X1 X2 : Vec F S4 .f32) (X3 : Vec F S1088x3072 .bf16) (X4 : Vec F S1088x5760 .bf16) (z : BitVec 32) :
    iprop(Turn c v0 v1 v2 v3 O X1 X2 X3 X4 0 ∗ ZIss c v0 v1 v2 v3 (result v0 v1 v2 v3 X1 X2 X3 X4) (zN v0 v1 v2 v3))
      ⊢ wp frame (wpE (defs₀ (F := F)) Variants.none (c : Thread nD τ) none) Set.univ (do
      Scf.Loop.for (k0_t5_loop v0 v1 v2 v3) (k0_t5_ok v0 v1 v2 v3 k0_hw4) ⟨⟩ (k0_t5_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 (Scalar.shrui (Scalar.addi v0 15#32) 4#32) (Scalar.shrui (Scalar.addi v1 15#32) 4#32) (Scalar.shrui (Scalar.addi v2 15#32) 4#32) (Scalar.shrui (Scalar.addi v3 15#32) 4#32) (Scalar.addi 0#32 (Scalar.shrui (Scalar.addi v0 15#32) 4#32)) (Scalar.addi (Scalar.addi 0#32 (Scalar.shrui (Scalar.addi v0 15#32) 4#32)) (Scalar.shrui (Scalar.addi v1 15#32) 4#32)) (Scalar.addi (Scalar.addi (Scalar.addi 0#32 (Scalar.shrui (Scalar.addi v0 15#32) 4#32)) (Scalar.shrui (Scalar.addi v1 15#32) 4#32)) (Scalar.shrui (Scalar.addi v2 15#32) 4#32)) 1#32 0#32 0#32)
      Scf.Loop.for (k0_t6_loop v0 v1 v2 v3) (k0_t6_ok v0 v1 v2 v3 k0_hw4) ⟨⟩ (k0_t6_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4 (Scalar.shrui (Scalar.addi v0 15#32) 4#32) (Scalar.shrui (Scalar.addi v1 15#32) 4#32) (Scalar.shrui (Scalar.addi v2 15#32) 4#32) (Scalar.shrui (Scalar.addi v3 15#32) 4#32) (Scalar.addi 0#32 (Scalar.shrui (Scalar.addi v0 15#32) 4#32)) (Scalar.addi (Scalar.addi 0#32 (Scalar.shrui (Scalar.addi v0 15#32) 4#32)) (Scalar.shrui (Scalar.addi v1 15#32) 4#32)) (Scalar.addi (Scalar.addi (Scalar.addi 0#32 (Scalar.shrui (Scalar.addi v0 15#32) 4#32)) (Scalar.shrui (Scalar.addi v1 15#32) 4#32)) (Scalar.shrui (Scalar.addi v2 15#32) 4#32)) 1#32 0#32 z)
      Scf.Loop.for (k0_t7_loop v0 v1 v2 v3) (k0_t7_ok v0 v1 v2 v3 k0_hw4) ⟨⟩ (k0_t7_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4)
      Scf.Loop.for (k0_t8_loop v0 v1 v2 v3) (k0_t8_ok v0 v1 v2 v3 k0_hw4) ⟨⟩ (k0_t8_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _) v0 v1 v2 v3 k0_hw4)
      if Scalar.cmpi .ne (Scalar.extui (Scalar.cmpi .eq (Scalar.shrui (Scalar.addi v0 15#32) 4#32) 0#32)) 0#32 = 1#1 then do
        Scf.Loop.for k0_t9_loop k0_t9_ok ⟨⟩ (k0_t9_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))
        pure ⟨⟩
      else do
        pure ⟨⟩
      if Scalar.cmpi .ne (Scalar.extui (Scalar.cmpi .eq (Scalar.shrui (Scalar.addi v1 15#32) 4#32) 0#32)) 0#32 = 1#1 then do
        Scf.Loop.for k0_t10_loop k0_t10_ok ⟨⟩ (k0_t10_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))
        pure ⟨⟩
      else do
        pure ⟨⟩
      if Scalar.cmpi .ne (Scalar.extui (Scalar.cmpi .eq (Scalar.shrui (Scalar.addi v2 15#32) 4#32) 0#32)) 0#32 = 1#1 then do
        Scf.Loop.for k0_t11_loop k0_t11_ok ⟨⟩ (k0_t11_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))
        pure ⟨⟩
      else do
        pure ⟨⟩
      if Scalar.cmpi .ne (Scalar.extui (Scalar.cmpi .eq (Scalar.shrui (Scalar.addi v3 15#32) 4#32) 0#32)) 0#32 = 1#1 then do
        Scf.Loop.for k0_t12_loop k0_t12_ok ⟨⟩ (k0_t12_body A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _))
        pure ⟨⟩
      else do
        pure ⟨⟩
      pure ⟨⟩ : Prog (TpuEff nD τ sig (Elt F) Λ₀ .tc) PUnit.{1})
        fun _ => Rest c v0 v1 v2 v3 O X1 X2 X3 X4 (12 * cnt v0 v1 v2 v3) (12 * cnt v0 v1 v2 v3) (zN v0 v1 v2 v3) := by
  have hs := h.sum
  have le0 : v0.toNat ≤ 768 := by omega
  have le1 : v1.toNat ≤ 768 := by omega
  have le2 : v2.toNat ≤ 768 := by omega
  have le3 : v3.toNat ≤ 768 := by omega
  unfold Rest
  simp only [bind_def', pure_def', Prog.lift, op_bind', ret_bind', bind_bind']
  iintro ⟨HT, HI⟩
  iapply (wp_seq Variants.none (c : Thread nD τ) none Set.univ (P := Turn c v0 v1 v2 v3 O X1 X2 X3 X4 0) (Mid := fun _ => Turn c v0 v1 v2 v3 O X1 X2 X3 X4 (12 * cnt v0 v1 v2 v3)) ?t5) $$ [HT HI]
  case t5 =>
    refine .trans ?_ (Scf.wp_for _ _ _ _ _ _ (k0_t5_ok v0 v1 v2 v3 k0_hw4) () _ (fun t _ => Turn c v0 v1 v2 v3 O X1 X2 X3 X4 t) fun t u => turn c h k0_hw4 t O hO X1 X2 X3 X4 u)
    iintro H
    isplitl [H]; · iexact H
    iintro %_ H
    iapply (Entails.of_eq (congrArg (Turn c v0 v1 v2 v3 O X1 X2 X3 X4) (trips5 h))); iexact H
  isplitl [HT]; · iexact HT
  iintro %_ HT
  iapply (wp_seq Variants.none (c : Thread nD τ) none Set.univ (P := emp) (Mid := fun _ => emp) ?t6) $$ [HT HI]
  case t6 =>
    refine .trans ?_ (Scf.wp_for _ _ _ _ _ _ (k0_t6_ok v0 v1 v2 v3 k0_hw4) () _ (fun t _ => (emp : sProp 𝕄)) fun t u => no6 t)
    iintro -
    isplitl []; · iempintro
    iintro %_ -
    iempintro
  isplitl []; · iempintro
  iintro %_ -
  unfold Turn
  icases HT with ⟨HO, H1, H2, H3, H4, HL, HR, HW⟩
  iapply (wp_seq Variants.none (c : Thread nD τ) none Set.univ (P := Draining c v0 v1 v2 v3 (result v0 v1 v2 v3 X1 X2 X3 X4) 0) (Mid := fun _ => Draining c v0 v1 v2 v3 (result v0 v1 v2 v3 X1 X2 X3 X4) (12 * cnt v0 v1 v2 v3 - (12 * cnt v0 v1 v2 v3 - 5))) ?t7) $$ [HO H1 H2 H3 H4 HL HR HW HI]
  case t7 =>
    refine .trans ?_ (Scf.wp_for _ _ _ _ _ _ (k0_t7_ok v0 v1 v2 v3 k0_hw4) () _ (fun t _ => Draining c v0 v1 v2 v3 (result v0 v1 v2 v3 X1 X2 X3 X4) t) fun t u => drain c h k0_hw4 t _ u)
    iintro H
    isplitl [H]; · iexact H
    iintro %_ H
    iapply (Entails.of_eq (congrArg (Draining c v0 v1 v2 v3 (result v0 v1 v2 v3 X1 X2 X3 X4)) (trips7 h))); iexact H
  isplitl [HR HW]
  · unfold Draining; isplitl [HR] <;> iassumption
  iintro %_ HT
  unfold Draining
  icases HT with ⟨HR, HW⟩
  iapply (wp_seq Variants.none (c : Thread nD τ) none Set.univ (P := emp) (Mid := fun _ => emp) ?t8) $$ [HO H1 H2 H3 H4 HL HR HW HI]
  case t8 =>
    refine .trans ?_ (Scf.wp_for _ _ _ _ _ _ (k0_t8_ok v0 v1 v2 v3 k0_hw4) () _ (fun t _ => (emp : sProp 𝕄)) fun t u => no8 t)
    iintro -
    isplitl []; · iempintro
    iintro %_ -
    iempintro
  isplitl []; · iempintro
  iintro %_ -
  ihave HZ := (z_issued c v0 v1 v2 v3 (result v0 v1 v2 v3 X1 X2 X3 X4)) $$ [HI HW]
  · isplitl [HI] <;> iassumption
  ihave HZ := (Entails.of_eq (congrArg (ZWait c v0 v1 v2 v3 (result v0 v1 v2 v3 X1 X2 X3 X4)) (zpos_0 v0 v1 v2 v3).symm)) $$ HZ
  iapply (wp_ifEmpty c v0 v1 v2 v3 0 (empty_iff (v := v0) le0) (ZWait c v0 v1 v2 v3 (result v0 v1 v2 v3 X1 X2 X3 X4)) (waits0 c v0 v1 v2 v3 (result v0 v1 v2 v3 X1 X2 X3 X4))) $$ [HO H1 H2 H3 H4 HL HR HZ]
  isplitl [HZ]; · iexact HZ
  iintro HZ
  ihave HZ := (Entails.of_eq (congrArg (ZWait c v0 v1 v2 v3 (result v0 v1 v2 v3 X1 X2 X3 X4)) (znext_0 v0 v1 v2 v3))) $$ HZ
  iapply (wp_ifEmpty c v0 v1 v2 v3 1 (empty_iff (v := v1) le1) (ZWait c v0 v1 v2 v3 (result v0 v1 v2 v3 X1 X2 X3 X4)) (waits1 c v0 v1 v2 v3 (result v0 v1 v2 v3 X1 X2 X3 X4))) $$ [HO H1 H2 H3 H4 HL HR HZ]
  isplitl [HZ]; · iexact HZ
  iintro HZ
  ihave HZ := (Entails.of_eq (congrArg (ZWait c v0 v1 v2 v3 (result v0 v1 v2 v3 X1 X2 X3 X4)) (znext_1 v0 v1 v2 v3))) $$ HZ
  iapply (wp_ifEmpty c v0 v1 v2 v3 2 (empty_iff (v := v2) le2) (ZWait c v0 v1 v2 v3 (result v0 v1 v2 v3 X1 X2 X3 X4)) (waits2 c v0 v1 v2 v3 (result v0 v1 v2 v3 X1 X2 X3 X4))) $$ [HO H1 H2 H3 H4 HL HR HZ]
  isplitl [HZ]; · iexact HZ
  iintro HZ
  ihave HZ := (Entails.of_eq (congrArg (ZWait c v0 v1 v2 v3 (result v0 v1 v2 v3 X1 X2 X3 X4)) (znext_2 v0 v1 v2 v3))) $$ HZ
  iapply (wp_ifEmpty c v0 v1 v2 v3 3 (empty_iff (v := v3) le3) (ZWait c v0 v1 v2 v3 (result v0 v1 v2 v3 X1 X2 X3 X4)) (waits3 c v0 v1 v2 v3 (result v0 v1 v2 v3 X1 X2 X3 X4))) $$ [HO H1 H2 H3 H4 HL HR HZ]
  isplitl [HZ]; · iexact HZ
  iintro HZ
  ihave HZ := (Entails.of_eq (congrArg (ZWait c v0 v1 v2 v3 (result v0 v1 v2 v3 X1 X2 X3 X4)) (znext_3 v0 v1 v2 v3))) $$ HZ
  sl_step
  isplitl [HO]; · iexact HO
  isplitl [H1]; · iexact H1
  isplitl [H2]; · iexact H2
  isplitl [H3]; · iexact H3
  isplitl [H4]; · iexact H4
  isplitl [HL]; · iexact HL
  isplitl [HR]
  · iapply (Entails.of_eq (congrArg (RingSt v0 v1 v2 v3 c (result v0 v1 v2 v3 X1 X2 X3 X4) (12 * cnt v0 v1 v2 v3)) (show 12 * cnt v0 v1 v2 v3 - 5 + (12 * cnt v0 v1 v2 v3 - (12 * cnt v0 v1 v2 v3 - 5)) = 12 * cnt v0 v1 v2 v3 by omega)))
    iexact HR
  iexact HZ

/-- The scratch of the body: the result, the transposed factor, the block of zeros, the order, the ring, the cells. -/
def Scratch (c : Dev nD) : sProp 𝕄 :=
  iprop((∃ L, pt (F := F) c LT L) ∗ (∃ Z, pt (F := F) c ZB Z) ∗ (∃ R, pt (F := F) c RING R) ∗ (∃ O, pt (F := F) c ORD O)
    ∗ semVal ((c : Thread nD τ), SemLoc.dma cc0_scratch3.sem) 0 ∗ cells0 (F := F) c ∗ ∃ W, owes (c : Thread nD τ) 0 W)

/-- The turns before the first. -/
theorem turn_start (c : Dev nD) (v0 v1 v2 v3 : BitVec 32) (G : Vec F S4x2880x5760 .f32) (f : Vec F S5x256x5760 .f32) :
    iprop(pt c RING f ∗ cells0 (F := F) c ∗ bigSep (Finset.Ico 0 (12 * cnt v0 v1 v2 v3)) (jobTodo (F := F) v0 v1 v2 v3 c)) ⊢ RingSt v0 v1 v2 v3 c G 0 (0 - 5) := by
  unfold RingSt
  rw [show 0 - 5 = 0 from rfl, Finset.Ico_self, BI.bigSep_empty, BI.bigSep_empty]
  iintro ⟨HR, HC, HT⟩
  isplitl []; · iempintro
  isplitl [HR HC]
  · iapply (ring_split c f); isplitl [HR] <;> iassumption
  isplitl []; · iempintro
  iexact HT

/-- The turns after the last. -/
theorem turn_end (c : Dev nD) (v0 v1 v2 v3 : BitVec 32) (G : Vec F S4x2880x5760 .f32) (n : ℕ) (hn : n = 12 * cnt v0 v1 v2 v3) :
    RingSt v0 v1 v2 v3 c G n n ⊢ iprop(((∃ f, pt (F := F) c RING f) ∗ cells0 (F := F) c) ∗ bigSep (Finset.Ico 0 (12 * cnt v0 v1 v2 v3)) (jobDone v0 v1 v2 v3 c G)) := by
  subst hn
  unfold RingSt
  iintro ⟨-, HF, HD, -⟩
  isplitl [HF]
  · iapply (ring_join c _); iexact HF
  iexact HD

set_option maxHeartbeats 4000000 in
/-- The body: the operands end as they were, the result holds what `result` says, the scratch is back. -/
theorem body (c : Dev nD) {v0 v1 v2 v3 : BitVec 32} (h : Fit v0 v1 v2 v3) (X0 : Vec F S4 .i32) (h0 : X0 (ix4 0) = v0) (h1 : X0 (ix4 1) = v1) (h2 : X0 (ix4 2) = v2) (h3 : X0 (ix4 3) = v3)
    (X1 X2 : Vec F S4 .f32) (X3 : Vec F S1088x3072 .bf16) (X4 : Vec F S1088x5760 .bf16) (V : Vec F S4x2880x5760 .f32) :
    iprop(pt c A0 X0 ∗ pt c A1 X1 ∗ pt c A2 X2 ∗ pt c A3 X3 ∗ pt c A4 X4 ∗ pt c DW V ∗ Scratch (F := F) c)
      ⊢ wp frame (wpE (defs₀ (F := F)) Variants.none (c : Thread nD τ) none) Set.univ (cc0_nvfp4_wgrad A0 (Memref.isWhole_whole _) A1 (Memref.isWhole_whole _) A2 (Memref.isWhole_whole _) A3 (Memref.isWhole_whole _) A4 (Memref.isWhole_whole _) DW (Memref.isWhole_whole _) LT (Memref.isWhole_whole _) ZB (Memref.isWhole_whole _) ORD (Memref.isWhole_whole _) cc0_scratch3 cc0_scratch4 RING (Memref.isWhole_whole _)) fun _ =>
        iprop(pt c A0 X0 ∗ pt c A1 X1 ∗ pt c A2 X2 ∗ pt c A3 X3 ∗ pt c A4 X4 ∗ pt c DW (result v0 v1 v2 v3 X1 X2 X3 X4) ∗ Scratch (F := F) c) := by
  have hG : ∀ y : S4x2880x5760.Idx, nb v0 v1 v2 v3 (y 0) = 0 → (result v0 v1 v2 v3 X1 X2 X3 X4) y = zeroV := fun y hy => result_empty v0 v1 v2 v3 X1 X2 X3 X4 hy
  rw [cc0_nvfp4_wgrad_eq_skeleton]
  unfold cc0_nvfp4_wgrad_skel Scratch
  refine .trans ?_ (wp_fupd frame _ Set.univ _ _)
  iintro ⟨H0, H1, H2, H3, H4, HV, HL, HZ, ⟨%f, HR⟩, HO, Hs, HC, HW⟩
  ihave HV := (dw_split c v0 v1 v2 v3 V) $$ HV
  icases HV with ⟨HJ, HE⟩
  ihave HR := (turn_start c v0 v1 v2 v3 (result v0 v1 v2 v3 X1 X2 X3 X4) f) $$ [HR HC HJ]
  · isplitl [HR]; · iexact HR
    isplitl [HC] <;> iassumption
  iapply (wp_seq Variants.none (c : Thread nD τ) none Set.univ (head1 c h X0 h0 h1 h2 h3 (result v0 v1 v2 v3 X1 X2 X3 X4) hG)) $$ [H0 H1 H2 H3 H4 HE HL HZ HR HO Hs HW]
  isplitl [H0 HE HZ Hs]
  · isplitl [H0]; · iexact H0
    isplitl [HZ]; · iexact HZ
    isplitl [HE] <;> iassumption
  iintro %r HM
  unfold Mid1
  icases HM with ⟨%hr, H0, HI, HD⟩
  subst hr
  iapply (wp_seq Variants.none (c : Thread nD τ) none Set.univ (head2 c h (result v0 v1 v2 v3 X1 X2 X3 X4) hG)) $$ [H0 H1 H2 H3 H4 HL HR HO HW HI HD]
  isplitl [HI HO]
  · isplitl [HI] <;> iassumption
  iintro %r HM
  unfold Mid2
  icases HM with ⟨%hr, HI, ⟨%O, %hO, HO⟩⟩
  obtain ⟨a, b, hr⟩ := hr
  subst hr
  iapply (wp_wand_r frame _ Set.univ (Q := fun _ => Rest c v0 v1 v2 v3 O X1 X2 X3 X4 (12 * cnt v0 v1 v2 v3) (12 * cnt v0 v1 v2 v3) (zN v0 v1 v2 v3))) $$ [H0 H1 H2 H3 H4 HL HR HO HW HI HD]
  isplitl [H1 H2 H3 H4 HL HR HO HW HI]
  · iapply (loops c h (chk4 h) O hO X1 X2 X3 X4 _)
    unfold Turn
    isplitr [HI]
    · isplitl [HO]; · iexact HO
      isplitl [H1]; · iexact H1
      isplitl [H2]; · iexact H2
      isplitl [H3]; · iexact H3
      isplitl [H4]; · iexact H4
      isplitl [HL]; · iexact HL
      isplitl [HR]; · iexact HR
      iexact HW
    iexact HI
  iintro %_ HM
  unfold Rest
  icases HM with ⟨HO, H1, H2, H3, H4, HL, HR, HZ⟩
  imod (z_close c v0 v1 v2 v3 (result v0 v1 v2 v3 X1 X2 X3 X4)) $$ [HZ HD] with ⟨HE, HZ, Hs, HW⟩
  · isplitl [HZ] <;> iassumption
  ihave HR := (turn_end c v0 v1 v2 v3 (result v0 v1 v2 v3 X1 X2 X3 X4) _ rfl) $$ HR
  icases HR with ⟨⟨HR, HC⟩, HJ⟩
  imodintro
  isplitl [H0]; · iexact H0
  isplitl [H1]; · iexact H1
  isplitl [H2]; · iexact H2
  isplitl [H3]; · iexact H3
  isplitl [H4]; · iexact H4
  isplitl [HJ HE]
  · iapply (dw_join c v0 v1 v2 v3 (result v0 v1 v2 v3 X1 X2 X3 X4)); isplitl [HJ] <;> iassumption
  isplitl [HL]; · iexact HL
  isplitl [HZ]; · iexists _; iexact HZ
  isplitl [HR]; · iexact HR
  isplitl [HO]; · iexists _; iexact HO
  isplitl [Hs]; · iexact Hs
  isplitl [HC] <;> iassumption

end Cert.Proof.KernelIdeal

end
-- ==== Proof.KernelIdeal.Run.lean ====
/- The run: from a memory whose group sizes fit, the arguments stay, every semaphore ends at zero, and the result array is the
   one the body leaves. -/
module

public import proofs.«01_k».proof.Proof.KernelIdeal.Body
public import proofs.«01_k».proof.Proof.Gen.KernelIdeal.Frame

@[expose] public section

noncomputable section

namespace Cert.Proof.KernelIdeal

open Cert.KernelIdeal Cert.KernelIdeal.Gen Cert.Proof.Words Cert.Proof.Steps
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The group sizes in memory fit, on every core. -/
def Fits : Prop := ∀ c : Dev nD, Fit (m ((c : Thread nD τ).loc main_arg0) (ix4 0)) (m ((c : Thread nD τ).loc main_arg0) (ix4 1))
  (m ((c : Thread nD τ).loc main_arg0) (ix4 2)) (m ((c : Thread nD τ).loc main_arg0) (ix4 3))

/-- The result array a core ends with. -/
def out (c : Dev nD) : Vec F S4x2880x5760 .f32 :=
  result (m ((c : Thread nD τ).loc main_arg0) (ix4 0)) (m ((c : Thread nD τ).loc main_arg0) (ix4 1))
    (m ((c : Thread nD τ).loc main_arg0) (ix4 2)) (m ((c : Thread nD τ).loc main_arg0) (ix4 3))
    (m ((c : Thread nD τ).loc main_arg1)) (m ((c : Thread nD τ).loc main_arg2)) (m ((c : Thread nD τ).loc main_arg3)) (m ((c : Thread nD τ).loc main_arg4))

/-- Every buffer after the call: as launched, but for the result array. -/
def after (c : Dev nD) (b : Ref sig .tc) : Buf (Elt F) ((c : Thread nD τ).loc b) :=
  Function.update (Cert.KernelIdeal.Gen.V m c) main_v0 (out m c) b

theorem hmain_ud : Pipeline.HMain (Ix := Unit) (Name := ℕ) (U := Pipeline.UD sig nD τ) (Lvl := ℕ) cfgs 0 defs₀ Variants.none m (main (F := F)) (Cert.KernelIdeal.Gen.V m) :=
  Pipeline.hmain_region cfgs 0 defs₀ Variants.none m main fun c => (main_chain c).trans rfl

/-- The buffer the kernel writes by its own copies. -/
def R0 : Finset (Ref sig .tc) := {main_v0}
theorem R0_sub : R0 ⊆ Pipeline.restRefs sig spec0 \ ∅ := by decide

/-- The kernel's own copy counters. -/
abbrev osem0 : Fin 6 → SemLoc sig := fun j => (![SemLoc.dma 5, SemLoc.dma 6, SemLoc.dma 7, SemLoc.dma 8, SemLoc.dma 9, SemLoc.dma 10] : Fin 6 → SemLoc sig) j
theorem ownSemFacts0 : Pipeline.OwnSemFacts spec0 osem0 := by decide

theorem cells0_eq (c : Dev nD) : (cells0 (F := F) c : sProp 𝕄)
    = iprop(semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0) := by
  unfold cells0
  rw [BI.bigSep_eq_bigSepL_of_eq [0, 1, 2, 3, 4] (by decide) (by decide)]
  rfl

theorem ownSems00_eq (c : Dev nD) :
    (Pipeline.ownSems0 (Ix := Unit) (Val := Elt F) (Name := ℕ) (U := Pipeline.UD sig nD τ) (Lvl := ℕ) (τ := τ) osem0 c : sProp 𝕄)
      = iprop(semVal ((c : Thread nD τ), SemLoc.dma 5) 0 ∗ cells0 (F := F) c) := by
  rw [cells0_eq, Pipeline.ownSems0_eq_of_list c osem0 [0, 1, 2, 3, 4, 5] (by decide) (by decide)]; rfl

theorem routed_eq (c : Dev nD) (W : (b : Ref sig .tc) → Buf (Elt F) ((c : Thread nD τ).loc b)) :
    (Pipeline.routed R0 c W : sProp 𝕄) = pt c DW (W main_v0) := by
  unfold Pipeline.routed
  rw [BI.bigSep_eq_bigSepL_of_eq [main_v0] (by decide) (by decide)]
  rfl

/-- The contents of the windows and the invariant of the call. -/
def dats (_ : Fin 1) (c : Dev nD) : Dat τ (Elt F) Unit ℕ (Pipeline.UD sig nD τ) ℕ cfg0 c where
  A w := Cert.KernelIdeal.Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨_ + 5, h⟩ => absurd h (Nat.not_lt.2 (Nat.le_add_left _ _))
  Φ t := if t.val = 0 then Pipeline.ΦDRG osem0 spec0 ∅ R0 (Cert.KernelIdeal.Gen.V m) (Cert.KernelIdeal.Gen.V m) c
    else Pipeline.ΦDRG osem0 spec0 ∅ R0 (Cert.KernelIdeal.Gen.V m) (after m) c
  q _ := fullShare
  owed _ := 0

theorem A_eq (c : Dev nD) (w : Fin cfg0.W) : (dats m 0 c).A w = Cert.KernelIdeal.Gen.V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem iblk_0 (c : Dev nD) (t : Fin cfg0.N) : iblk m c 0 t = m ((c : Thread nD τ).loc main_arg0) := by
  show (win0_0.blk t).view.read (Elt F) (m ((c : Thread nD τ).loc main_arg0)) = _
  exact Memref.read_access_unit_zero (Elt F) main_arg0
    (show (fun a => (win0_0.index t) a * main_arg0.ty.shape.size a) = fun _ => 0 from funext fun a => Nat.zero_mul _)
    (fun a => le_of_eq (by show 0 * _ + _ = _; rw [Nat.zero_mul, Nat.zero_add])) _
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem iblk_1 (c : Dev nD) (t : Fin cfg0.N) : iblk m c 1 t = m ((c : Thread nD τ).loc main_arg1) := by
  show (win0_1.blk t).view.read (Elt F) (m ((c : Thread nD τ).loc main_arg1)) = _
  exact Memref.read_access_unit_zero (Elt F) main_arg1
    (show (fun a => (win0_1.index t) a * main_arg1.ty.shape.size a) = fun _ => 0 from funext fun a => Nat.zero_mul _)
    (fun a => le_of_eq (by show 0 * _ + _ = _; rw [Nat.zero_mul, Nat.zero_add])) _
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem iblk_2 (c : Dev nD) (t : Fin cfg0.N) : iblk m c 2 t = m ((c : Thread nD τ).loc main_arg2) := by
  show (win0_2.blk t).view.read (Elt F) (m ((c : Thread nD τ).loc main_arg2)) = _
  exact Memref.read_access_unit_zero (Elt F) main_arg2
    (show (fun a => (win0_2.index t) a * main_arg2.ty.shape.size a) = fun _ => 0 from funext fun a => Nat.zero_mul _)
    (fun a => le_of_eq (by show 0 * _ + _ = _; rw [Nat.zero_mul, Nat.zero_add])) _
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem iblk_3 (c : Dev nD) (t : Fin cfg0.N) : iblk m c 3 t = m ((c : Thread nD τ).loc main_arg3) := by
  show (win0_3.blk t).view.read (Elt F) (m ((c : Thread nD τ).loc main_arg3)) = _
  exact Memref.read_access_unit_zero (Elt F) main_arg3
    (show (fun a => (win0_3.index t) a * main_arg3.ty.shape.size a) = fun _ => 0 from funext fun a => Nat.zero_mul _)
    (fun a => le_of_eq (by show 0 * _ + _ = _; rw [Nat.zero_mul, Nat.zero_add])) _
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
theorem iblk_4 (c : Dev nD) (t : Fin cfg0.N) : iblk m c 4 t = m ((c : Thread nD τ).loc main_arg4) := by
  show (win0_4.blk t).view.read (Elt F) (m ((c : Thread nD τ).loc main_arg4)) = _
  exact Memref.read_access_unit_zero (Elt F) main_arg4
    (show (fun a => (win0_4.index t) a * main_arg4.ty.shape.size a) = fun _ => 0 from funext fun a => Nat.zero_mul _)
    (fun a => le_of_eq (by show 0 * _ + _ = _; rw [Nat.zero_mul, Nat.zero_add])) _

theorem inv_first (c : Dev nD) (t : Fin (cfg0.N + 1)) (h : t.val = 0) :
    (dats m 0 c).Φ t = Pipeline.ΦDRG osem0 spec0 ∅ R0 (Cert.KernelIdeal.Gen.V m) (Cert.KernelIdeal.Gen.V m) c := by
  dsimp only [dats]; exact if_pos h
theorem inv_last (c : Dev nD) (t : Fin (cfg0.N + 1)) (h : t.val ≠ 0) :
    (dats m 0 c).Φ t = Pipeline.ΦDRG osem0 spec0 ∅ R0 (Cert.KernelIdeal.Gen.V m) (after m) c := by
  dsimp only [dats]; exact if_neg h

/-- The staged operands at a point, before and after the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem after_v0 (c : Dev nD) : after m c main_v0 = out m c := by unfold after; rw [Function.update_self]

/-- A whole buffer held through its memref, and held. -/
theorem whole_in (c : Dev nD) (b : Ref sig .tc) (X : b.ty.Contents (Elt F)) :
    (owns (c : Thread nD τ) (Memref.whole b) fullShare X : sProp 𝕄) ⊢ (((c : Thread nD τ).loc b) ↦{fullShare} X) := .of_eq (owns_whole (c : Thread nD τ) b fullShare X)
theorem whole_out (c : Dev nD) (b : Ref sig .tc) (X : b.ty.Contents (Elt F)) :
    (((c : Thread nD τ).loc b) ↦{fullShare} X : sProp 𝕄) ⊢ owns (c : Thread nD τ) (Memref.whole b) fullShare X := .of_eq (owns_whole (c : Thread nD τ) b fullShare X).symm
theorem staged_in0 (c : Dev nD) : iprop(∃ d, owns (c : Thread nD τ) (st0_0 t0_0) fullShare ((dats m 0 c).before 0 t0_0 d)) ⊢ pt c A0 (m ((c : Thread nD τ).loc main_arg0)) := by
  simp only [before_0, iblk_0]
  iintro ⟨%d, H⟩
  iapply (whole_in c cc0_stg0_0 (m ((c : Thread nD τ).loc main_arg0))); iexact H
theorem staged_out0 (c : Dev nD) : pt c A0 (m ((c : Thread nD τ).loc main_arg0)) ⊢ owns (c : Thread nD τ) (st0_0 t0_0) fullShare ((dats m 0 c).after 0 t0_0) := by
  rw [after_0, iblk_0]
  exact whole_out c cc0_stg0_0 (m ((c : Thread nD τ).loc main_arg0))
theorem staged_in1 (c : Dev nD) : iprop(∃ d, owns (c : Thread nD τ) (st0_1 t0_0) fullShare ((dats m 0 c).before 1 t0_0 d)) ⊢ pt c A1 (m ((c : Thread nD τ).loc main_arg1)) := by
  simp only [before_1, iblk_1]
  iintro ⟨%d, H⟩
  iapply (whole_in c cc0_stg1_0 (m ((c : Thread nD τ).loc main_arg1))); iexact H
theorem staged_out1 (c : Dev nD) : pt c A1 (m ((c : Thread nD τ).loc main_arg1)) ⊢ owns (c : Thread nD τ) (st0_1 t0_0) fullShare ((dats m 0 c).after 1 t0_0) := by
  rw [after_1, iblk_1]
  exact whole_out c cc0_stg1_0 (m ((c : Thread nD τ).loc main_arg1))
theorem staged_in2 (c : Dev nD) : iprop(∃ d, owns (c : Thread nD τ) (st0_2 t0_0) fullShare ((dats m 0 c).before 2 t0_0 d)) ⊢ pt c A2 (m ((c : Thread nD τ).loc main_arg2)) := by
  simp only [before_2, iblk_2]
  iintro ⟨%d, H⟩
  iapply (whole_in c cc0_stg2_0 (m ((c : Thread nD τ).loc main_arg2))); iexact H
theorem staged_out2 (c : Dev nD) : pt c A2 (m ((c : Thread nD τ).loc main_arg2)) ⊢ owns (c : Thread nD τ) (st0_2 t0_0) fullShare ((dats m 0 c).after 2 t0_0) := by
  rw [after_2, iblk_2]
  exact whole_out c cc0_stg2_0 (m ((c : Thread nD τ).loc main_arg2))
theorem staged_in3 (c : Dev nD) : iprop(∃ d, owns (c : Thread nD τ) (st0_3 t0_0) fullShare ((dats m 0 c).before 3 t0_0 d)) ⊢ pt c A3 (m ((c : Thread nD τ).loc main_arg3)) := by
  simp only [before_3, iblk_3]
  iintro ⟨%d, H⟩
  iapply (whole_in c cc0_stg3_0 (m ((c : Thread nD τ).loc main_arg3))); iexact H
theorem staged_out3 (c : Dev nD) : pt c A3 (m ((c : Thread nD τ).loc main_arg3)) ⊢ owns (c : Thread nD τ) (st0_3 t0_0) fullShare ((dats m 0 c).after 3 t0_0) := by
  rw [after_3, iblk_3]
  exact whole_out c cc0_stg3_0 (m ((c : Thread nD τ).loc main_arg3))
theorem staged_in4 (c : Dev nD) : iprop(∃ d, owns (c : Thread nD τ) (st0_4 t0_0) fullShare ((dats m 0 c).before 4 t0_0 d)) ⊢ pt c A4 (m ((c : Thread nD τ).loc main_arg4)) := by
  simp only [before_4, iblk_4]
  iintro ⟨%d, H⟩
  iapply (whole_in c cc0_stg4_0 (m ((c : Thread nD τ).loc main_arg4))); iexact H
theorem staged_out4 (c : Dev nD) : pt c A4 (m ((c : Thread nD τ).loc main_arg4)) ⊢ owns (c : Thread nD τ) (st0_4 t0_0) fullShare ((dats m 0 c).after 4 t0_0) := by
  rw [after_4, iblk_4]
  exact whole_out c cc0_stg4_0 (m ((c : Thread nD τ).loc main_arg4))

/-- What the body needs and leaves. -/
def Ops (c : Dev nD) (X : Vec F S4x2880x5760 .f32) : sProp 𝕄 :=
  iprop(pt c A0 (m ((c : Thread nD τ).loc main_arg0)) ∗ pt c A1 (m ((c : Thread nD τ).loc main_arg1))
    ∗ pt c A2 (m ((c : Thread nD τ).loc main_arg2)) ∗ pt c A3 (m ((c : Thread nD τ).loc main_arg3)) ∗ pt c A4 (m ((c : Thread nD τ).loc main_arg4))
    ∗ pt c DW X ∗ Scratch (F := F) c)

theorem body_at (hfit : Fits m) (c : Dev nD) (X : Vec F S4x2880x5760 .f32) :
    Ops m c X ⊢ wp frame (wpE (defs₀ (F := F)) Variants.none (c : Thread nD τ) none) Set.univ (bodyAt0 t0_0) (fun _ => Ops m c (out m c)) :=
  body c (hfit c) (m ((c : Thread nD τ).loc main_arg0)) rfl rfl rfl rfl (m ((c : Thread nD τ).loc main_arg1)) (m ((c : Thread nD τ).loc main_arg2))
      (m ((c : Thread nD τ).loc main_arg3)) (m ((c : Thread nD τ).loc main_arg4)) X

theorem sound_body (hfit : Fits m) (c : Dev nD) (t : Fin cfg0.N) :
    bodyPre m c t ⊢ wp frame (wpE (defs₀ (F := F)) Variants.none (c : Thread nD τ) none) Set.univ (bodyAt0 t) (fun _ => bodyPost m c t) := by
  obtain rfl : t = t0_0 := fin_N0 t
  unfold bodyPre bodyPost
  rw [inv_first m c (Fin.castSucc t0_0) rfl, inv_last m c (Fin.succ t0_0) (Nat.succ_ne_zero _),
    Pipeline.ΦDRG_eq, Pipeline.ΦDRG_eq, routed_eq, routed_eq, after_v0, ownSems00_eq, scopedRest0_eq]
  unfold Dat.owesAt Pipeline.owesWithin
  rw [show (dats m 0 c).owed (Fin.castSucc t0_0) = 0 from rfl, show (dats m 0 c).owed (Fin.succ t0_0) = 0 from rfl]
  iintro ⟨⟨⟨HL, HZ, HR, HO⟩, Hg, ⟨Hs, HC⟩, HH, HV⟩, ⟨%W, -, HW⟩, H0, H1, H2, H3, H4⟩
  ihave H0 := (staged_in0 m c) $$ H0
  ihave H1 := (staged_in1 m c) $$ H1
  ihave H2 := (staged_in2 m c) $$ H2
  ihave H3 := (staged_in3 m c) $$ H3
  ihave H4 := (staged_in4 m c) $$ H4
  iapply (wp_wand_r frame _ Set.univ (Q := fun _ => Ops m c (out m c))) $$ [H0 H1 H2 H3 H4 HV HL HZ HR HO Hs HC HW Hg HH]
  isplitl [H0 H1 H2 H3 H4 HV HL HZ HR HO Hs HC HW]
  · iapply (body_at m hfit c (Cert.KernelIdeal.Gen.V m c main_v0))
    unfold Ops Scratch
    isplitl [H0]; · iexact H0
    isplitl [H1]; · iexact H1
    isplitl [H2]; · iexact H2
    isplitl [H3]; · iexact H3
    isplitl [H4]; · iexact H4
    isplitl [HV]; · iexact HV
    isplitl [HL]; · iexact HL
    isplitl [HZ]; · iexact HZ
    isplitl [HR]; · iexact HR
    isplitl [HO]; · iexact HO
    isplitl [Hs]; · iexact Hs
    isplitl [HC]; · iexact HC
    iexists W; iexact HW
  iintro %_ HM
  unfold Ops Scratch
  icases HM with ⟨H0, H1, H2, H3, H4, HV, HL, HZ, HR, HO, Hs, HC, ⟨%W', HW'⟩⟩
  isplitl [HL HZ HR HO Hg Hs HC HH HV]
  · isplitl [HL HZ HR HO]
    · isplitl [HL]; · iexact HL
      isplitl [HZ]; · iexact HZ
      isplitl [HR]; · iexact HR
      iexact HO
    isplitl [Hg]; · iexact Hg
    isplitl [Hs HC]
    · isplitl [Hs]; · iexact Hs
      iexact HC
    isplitl [HH]; · iexact HH
    iexact HV
  isplitl [HW']
  · iexists W'; isplitr; · ipureintro; exact fun _ _ => Or.inl trivial
    iexact HW'
  isplitl [H0]; · iapply (staged_out0 m c); iexact H0
  isplitl [H1]; · iapply (staged_out1 m c); iexact H1
  isplitl [H2]; · iapply (staged_out2 m c); iexact H2
  isplitl [H3]; · iapply (staged_out3 m c); iexact H3
  iapply (staged_out4 m c); iexact H4

theorem defs₀_row (t : Fin cfg0.N) :
    defs₀ (F := F) .tc cfg0.body (cfg0.bodyArgs t (cfg0.slots t)) = bodyAt0 t := by
  unfold defs₀; rw [Defs.onTc_tc]

theorem body_obligation (hfit : Fits m) (c : Dev nD) : BodyObligation (dats (F := F) m 0 c) (defs₀ (F := F)) Variants.none () Set.univ := fun t => by
  rw [bigSep_W0, bigSep_W0, defs₀_row]
  exact triple_restated (sound_body m hfit c t) rfl .rfl fun _ => .rfl

set_option backward.isDefEq.respectTransparency.types false in
theorem run_main (hfit : Fits m) : θ_run defs (onTc (τ := τ) (main (F := F))) (s₀ m ρ)
    (fun r => Pipeline.FramePostRG cfgs (dats m) 0 R0 (Cert.KernelIdeal.Gen.V m) (after m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m hfit c).loose) (hshare := fun c => (dats m 0 c).share_full fun _ => rfl)
    (howed := fun _ _ => rfl) (V := Cert.KernelIdeal.Gen.V m) (hmain := hmain_ud m) (hA := A_eq m) (G := after m)
    (hin := fun c => .of_eq (inv_first m c _ rfl).symm) (hout := fun c => .of_eq (inv_last m c _ (by decide))) (hQ' := fun _ h => h)

/-- The run: the result, the arguments as they were, every semaphore at zero. -/
theorem run (hfit : Fits m) : θ_run defs (onTc (τ := τ) (main (F := F))) ⟨m, fun _ => 0, ρ⟩ (fun r => (∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.written c (b := main_v0) (by decide)).trans (after_v0 m c),
      ((h.1.toR c).1 0).trans (((dats m 0 c).arrAt_in 0 rfl _).trans (A_eq m c 0)),
      ((h.1.toR c).1 1).trans (((dats m 0 c).arrAt_in 1 rfl _).trans (A_eq m c 1)),
      ((h.1.toR c).1 2).trans (((dats m 0 c).arrAt_in 2 rfl _).trans (A_eq m c 2)),
      ((h.1.toR c).1 3).trans (((dats m 0 c).arrAt_in 3 rfl _).trans (A_eq m c 3)),
      ((h.1.toR c).1 4).trans (((dats m 0 c).arrAt_in 4 rfl _).trans (A_eq m c 4))⟩, h.2⟩) (run_main m ρ hfit)

end Cert.Proof.KernelIdeal

end
-- ==== Proof.Pre.lean ====
/- What the precondition says: the four group sizes are nonnegative, and their sum is at most the number of rows. -/
module

public import proofs.«01_k».proof.Pre_fits
public import proofs.«01_k».proof.Proof.Gen.Pre_fits
public import proofs.«01_k».proof.Proof.Words
public import Idealize.ShloMosaic.Lib.ReduceAll
public import Idealize.ShloMosaic.Lib.Routing.Ops

@[expose] public section

noncomputable section

namespace Cert.Proof

open Cert.Proof.Words
open Idealize.ShloMosaic Idealize.ShloMosaic.Routing Idealize.ShloMosaic.ValueIdx
open Cert.Pre_fits (S4)

variable {F : FTy → Type} [FloatOps F]

local instance : Subsingleton (Shape.Idx Cert.Pre_fits.S_) := ⟨fun _ _ => funext fun a => a.elim0⟩

/-- A word between 0 and 768, read signed, is that number read unsigned. -/
theorem small {x : BitVec 32} (h0 : 0 ≤ x.toInt) (h1 : x.toInt ≤ 768) : x.toNat ≤ 768 ∧ x = BitVec.ofNat 32 x.toNat := by
  refine ⟨?_, by simp⟩
  rw [BitVec.toInt_eq_toNat_cond] at h0 h1
  split at h0 <;> omega

/-- The precondition gives the four sizes a sum of at most 768. -/
theorem fit_of_pre (X : IVec S4 32) (a : FVec F S4 .f32) (b : FVec F S4 .f32) (l : FVec F Cert.Pre_fits.S1088x3072 .bf16)
    (r : FVec F Cert.Pre_fits.S1088x5760 .bf16) (h : Cert.Pre_fits.fn (F := F) X a b l r = fun _ => 1#1)
    (p : Fin 4 → S4.Idx) (hp : ∀ e a, (p e a).val = e.val) : Fit (X (p 0)) (X (p 1)) (X (p 2)) (X (p 3)) := by
  have h := congrFun h ix0
  obtain ⟨h12, h3⟩ := IntOp.andi_eq_one.1 h
  obtain ⟨h1, h2⟩ := IntOp.andi_eq_one.1 h12
  have ge : ∀ i, 0 ≤ (X i).toInt := fun i => IntOp.cmpi_sge.1 (Host.reduce_andi_all _ _ _ _ _ h1 i)
  have le : ∀ i, (X i).toInt ≤ 768 := fun i => IntOp.cmpi_sle.1 (Host.reduce_andi_all _ _ _ _ _ h2 i)
  have hs := IntOp.cmpi_sle.1 h3
  let f : ℕ → ℕ := fun n => if h : n < 4 then (X (p ⟨n, h⟩)).toNat else 0
  have hx : ∀ i : Fin 4, X (ix1 i) = BitVec.ofNat 32 (f i.val) := fun i => by
    have : p i = ix1 i := funext fun a => Fin.ext (by rw [hp]; fin_cases a; rfl)
    simp only [f, i.isLt, dif_pos, Fin.eta, this]
    exact (small (ge _) (le _)).2
  have hsum := Routing.reduce_sum (N := 4) X f hx Cert.Pre_fits.Facts.reducesTo_S4_S_d0 Cert.Pre_fits.Facts.h_S_
  refine ⟨?_⟩
  have hs : (BitVec.ofNat 32 ((List.range 4).map f).sum).toInt ≤ 768 := hsum ▸ hs
  have n0 := (small (ge (p 0)) (le (p 0))).1
  have n1 := (small (ge (p 1)) (le (p 1))).1
  have n2 := (small (ge (p 2)) (le (p 2))).1
  have n3 := (small (ge (p 3)) (le (p 3))).1
  have e : ((List.range 4).map f).sum
      = (X (p 0)).toNat + (X (p 1)).toNat + (X (p 2)).toNat + (X (p 3)).toNat := by
    simp [List.range_succ, f]
    omega
  rw [e, BitVec.toInt_ofNat', Int.bmod_def] at hs
  split at hs <;> omega

end Cert.Proof

end
-- ==== Proof.Value.Payload.lean ====
/- The values of a slab over the extended reals: the left block, its rows past the group masked to zero and transposed; its
   product with a chunk of columns; and the slab at a row and a column, as one sum over the group's rows. -/
module

public import proofs.«01_k».proof.Proof.KernelIdeal.Result
public import Idealize.ShloMosaic.Lib.Pointwise

@[expose] public section

noncomputable section

namespace Cert.Proof.Value

open Cert.KernelIdeal Cert.KernelIdeal.Gen Cert.Proof.Words
open Cert.Proof.KernelIdeal (lhsBlk rhsBlk mkL mkR slabVal)
open Idealize.ShloMosaic

/-! ## A product with a chunk of columns -/

theorem pay20_apply (g : Ideal .f32) (a : Vec Ideal S256x256 .bf16) (b : Vec Ideal S256x512 .bf16) (r : Fin 256) (c : Fin 512) :
    k0_pay20 (F := Ideal) g a b (ix3 0 r c) = (∑ k : Fin 256, a (ix2 r k) * b (ix2 k c)) * g := by
  pointwise [k0_pay20]
theorem pay3_apply (g : Ideal .f32) (a : Vec Ideal S256x256 .bf16) (b : Vec Ideal S256x128 .bf16) (r : Fin 256) (c : Fin 128) :
    k0_pay3 (F := Ideal) g a b (ix3 0 r c) = (∑ k : Fin 256, a (ix2 r k) * b (ix2 k c)) * g := by
  pointwise [k0_pay3]
theorem pay31_apply (g : Ideal .f32) (a : Vec Ideal S256x512 .bf16) (b : Vec Ideal S512x512 .bf16) (r : Fin 256) (c : Fin 512) :
    k0_pay31 (F := Ideal) g a b (ix3 0 r c) = (∑ k : Fin 512, a (ix2 r k) * b (ix2 k c)) * g := by
  pointwise [k0_pay31]
theorem pay6_apply (g : Ideal .f32) (a : Vec Ideal S256x512 .bf16) (b : Vec Ideal S512x128 .bf16) (r : Fin 256) (c : Fin 128) :
    k0_pay6 (F := Ideal) g a b (ix3 0 r c) = (∑ k : Fin 512, a (ix2 r k) * b (ix2 k c)) * g := by
  pointwise [k0_pay6]
theorem pay42_apply (g : Ideal .f32) (a : Vec Ideal S256x768 .bf16) (b : Vec Ideal S768x512 .bf16) (r : Fin 256) (c : Fin 512) :
    k0_pay42 (F := Ideal) g a b (ix3 0 r c) = (∑ k : Fin 768, a (ix2 r k) * b (ix2 k c)) * g := by
  pointwise [k0_pay42]
theorem pay9_apply (g : Ideal .f32) (a : Vec Ideal S256x768 .bf16) (b : Vec Ideal S768x128 .bf16) (r : Fin 256) (c : Fin 128) :
    k0_pay9 (F := Ideal) g a b (ix3 0 r c) = (∑ k : Fin 768, a (ix2 r k) * b (ix2 k c)) * g := by
  pointwise [k0_pay9]

/-! ## The masked left block -/

/-- A pair of rows is kept exactly when it lies in the group: the group's rows come in blocks of 16, eight pairs each. -/
theorem mask_pair {kb : BitVec 32} (hkb : kb.toNat ≤ 48) {R : ℕ} (hR : R ≤ 768) (f : Fin R → EReal) (k : Fin R) (h0 : 2 * (k.val / 2) < R)
    (h1 : k.val % 2 ≠ 0 → 2 * (k.val / 2) + 1 < R) (y : EReal) (hy0 : ∀ h : k.val % 2 = 0, y = Scalar.select (IntOp.cmpi .slt (BitVec.ofNat 32 (k.val / 2)) (Scalar.muli kb 8#32)) (f ⟨2 * (k.val / 2), h0⟩) 0)
    (hy1 : ∀ h : k.val % 2 ≠ 0, y = Scalar.select (IntOp.cmpi .slt (BitVec.ofNat 32 (k.val / 2)) (Scalar.muli kb 8#32)) (f ⟨2 * (k.val / 2) + 1, h1 h⟩) 0) :
    y = if k.val < 16 * kb.toNat then f k else 0 := by
  have hk := k.isLt
  have hm : (Scalar.muli kb 8#32).toNat = kb.toNat * 8 := by
    show (kb * 8#32).toNat = _
    rw [BitVec.toNat_mul]; simp; omega
  have hc : IntOp.cmpi .slt (BitVec.ofNat 32 (k.val / 2)) (Scalar.muli kb 8#32) = 1#1 ↔ k.val < 16 * kb.toNat := by
    rw [IntOp.cmpi_slt, toInt_small (by simp; omega), toInt_small (by omega), hm]
    simp; omega
  by_cases h : k.val % 2 = 0
  · rw [hy0 h, select_eq, show (⟨2 * (k.val / 2), h0⟩ : Fin R) = k from Fin.ext (by show 2 * (k.val / 2) = k.val; omega)]
    simp only [hc]
  · rw [hy1 h, select_eq, show (⟨2 * (k.val / 2) + 1, h1 h⟩ : Fin R) = k from Fin.ext (by show 2 * (k.val / 2) + 1 = k.val; omega)]
    simp only [hc]

theorem pay19_apply {kb : BitVec 32} (hkb : kb.toNat ≤ 48) (x : Vec Ideal S256x256 .bf16) (r : Fin 256) (k : Fin 256) :
    k0_pay19 (F := Ideal) kb x (ix2 r k) = if k.val < 16 * kb.toNat then x (ix2 k r) else 0 := by
  refine mask_pair hkb (by decide) (fun k => x (ix2 k r)) k (by omega) (fun _ => by omega) _ (fun h => ?_) (fun h => ?_)
  · pointwise [k0_pay19]
    rw [if_pos h]
  · pointwise [k0_pay19]
    rw [if_neg h]
theorem pay30_apply {kb : BitVec 32} (hkb : kb.toNat ≤ 48) (x : Vec Ideal S512x256 .bf16) (r : Fin 256) (k : Fin 512) :
    k0_pay30 (F := Ideal) kb x (ix2 r k) = if k.val < 16 * kb.toNat then x (ix2 k r) else 0 := by
  refine mask_pair hkb (by decide) (fun k => x (ix2 k r)) k (by omega) (fun _ => by omega) _ (fun h => ?_) (fun h => ?_)
  · pointwise [k0_pay30]
    rw [if_pos h]
  · pointwise [k0_pay30]
    rw [if_neg h]
theorem pay41_apply {kb : BitVec 32} (hkb : kb.toNat ≤ 48) (x : Vec Ideal S768x256 .bf16) (r : Fin 256) (k : Fin 768) :
    k0_pay41 (F := Ideal) kb x (ix2 r k) = if k.val < 16 * kb.toNat then x (ix2 k r) else 0 := by
  refine mask_pair hkb (by decide) (fun k => x (ix2 k r)) k (by omega) (fun _ => by omega) _ (fun h => ?_) (fun h => ?_)
  · pointwise [k0_pay41]
    rw [if_pos h]
  · pointwise [k0_pay41]
    rw [if_neg h]

/-! ## A slab at a row and a column -/

/-- A sum over `R` rows, those from `n` on masked to zero, is the sum over the first `n`. -/
theorem sum_masked {R n : ℕ} (hn : n ≤ R) (f g : ℕ → EReal) :
    (∑ k : Fin R, (if k.val < n then f k.val else 0) * g k.val) = ∑ k ∈ Finset.range n, f k * g k := by
  rw [Fin.sum_univ_eq_sum_range (fun k => (if k < n then f k else 0) * g k) R, ← Finset.sum_subset (Finset.range_mono hn)]
  · exact Finset.sum_congr rfl fun k hk => by rw [if_pos (Finset.mem_range.1 hk)]
  · intro k _ hk
    rw [if_neg (fun h => hk (Finset.mem_range.2 h)), zero_mul]

/-- The product of a column of the left operand with a column of the right one, over `n` rows from row `r`. -/
def dotRows (X3 : Vec Ideal S1088x3072 .bf16) (X4 : Vec Ideal S1088x5760 .bf16) (r n p q : ℕ) : EReal :=
  ∑ k ∈ Finset.range n, X3 (mkL (r + k) p) * X4 (mkR (r + k) q)

/-- A slab's value, from the readings of its three payloads. -/
theorem slab_value {R : ℕ} {kb : BitVec 32} (hn : 16 * kb.toNat ≤ R) (g : EReal) (X3 : Vec Ideal S1088x3072 .bf16) (X4 : Vec Ideal S1088x5760 .bf16) (r0 k : ℕ)
    (L : Vec Ideal ⟨2, ![256, R]⟩ .bf16) (W : Vec Ideal ⟨2, ![R, 512]⟩ .bf16 → Vec Ideal S1x256x512 .f32) (N : Vec Ideal ⟨2, ![R, 128]⟩ .bf16 → Vec Ideal S1x256x128 .f32)
    (hL : ∀ (r : Fin 256) (j : Fin R), L (ix2 r j) = if j.val < 16 * kb.toNat then lhsBlk X3 R r0 k (ix2 j r) else 0)
    (hW : ∀ b (r : Fin 256) (c : Fin 512), W b (ix3 0 r c) = (∑ j : Fin R, L (ix2 r j) * b (ix2 j c)) * g)
    (hN : ∀ b (r : Fin 256) (c : Fin 128), N b (ix3 0 r c) = (∑ j : Fin R, L (ix2 r j) * b (ix2 j c)) * g) (x : S5x256x5760.Idx) :
    slabVal (fun j => W (rhsBlk X4 R 512 r0 (512 * j))) (N (rhsBlk X4 R 128 r0 5632)) x
      = dotRows X3 X4 r0 (16 * kb.toNat) (k + (x 1).val) (x 2).val * g := by
  have x1 : (x 1).val < 256 := (x 1).isLt
  have x2 : (x 2).val < 5760 := (x 2).isLt
  have key : ∀ c : ℕ, ∀ b : Fin R → EReal, (∀ j, b j = X4 (mkR (r0 + j.val) (x 2).val)) →
      (∑ j : Fin R, L (ix2 ⟨(x 1).val, x1⟩ j) * b j) * g = dotRows X3 X4 r0 (16 * kb.toNat) (k + (x 1).val) (x 2).val * g := fun c b hb => by
    unfold dotRows
    rw [← sum_masked hn (fun j => X3 (mkL (r0 + j) (k + (x 1).val))) (fun j => X4 (mkR (r0 + j) (x 2).val))]
    refine congrArg (· * g) (Finset.sum_congr rfl fun j _ => ?_)
    rw [hL, hb]
    rfl
  unfold slabVal
  by_cases h : (x 2).val < 5632
  · rw [dif_pos h]
    refine Eq.trans ?_ (key 0 (fun j => rhsBlk X4 R 512 r0 (512 * ((x 2).val / 512)) (ix2 j ⟨(x 2).val % 512, Nat.mod_lt _ (by decide)⟩)) fun j => ?_)
    · rw [← hW]
      exact congrArg _ (funext fun a => by fin_cases a <;> rfl)
    · show X4 (mkR (r0 + j.val) (512 * ((x 2).val / 512) + (x 2).val % 512)) = _
      rw [Nat.div_add_mod]
  · rw [dif_neg h]
    refine Eq.trans ?_ (key 0 (fun j => rhsBlk X4 R 128 r0 5632 (ix2 j ⟨(x 2).val - 5632, by omega⟩)) fun j => ?_)
    · rw [← hN]
      exact congrArg _ (funext fun a => by fin_cases a <;> rfl)
    · show X4 (mkR (r0 + j.val) (5632 + ((x 2).val - 5632))) = _
      rw [show 5632 + ((x 2).val - 5632) = (x 2).val by omega]

end Cert.Proof.Value

end
-- ==== Proof.Value.Result.lean ====
/- The kernel's result over the extended reals: of each expert the product over its rows, times the two global scales; of an
   expert with no rows zero, which is the same sum over no rows. -/
module

public import proofs.«01_k».proof.Proof.Value.Payload

@[expose] public section

noncomputable section

namespace Cert.Proof.Value

open Cert.KernelIdeal Cert.KernelIdeal.Gen Cert.Proof.Words
open Cert.Proof.KernelIdeal (lhsBlk rhsBlk mkL mkR slabVal result zeroV slabOf slabIx scaleOf)
open Idealize.ShloMosaic

theorem result_value {v0 v1 v2 v3 : BitVec 32} (h : Fit v0 v1 v2 v3) (X1 X2 : Vec Ideal S4 .f32) (X3 : Vec Ideal S1088x3072 .bf16)
    (X4 : Vec Ideal S1088x5760 .bf16) (y : S4x2880x5760.Idx) :
    result v0 v1 v2 v3 X1 X2 X3 X4 y
      = dotRows X3 X4 (16 * st v0 v1 v2 v3 (y 0)) (16 * nb v0 v1 v2 v3 (y 0)) (y 1).val (y 2).val
          * (X1 (Cert.Proof.KernelIdeal.ix4 (y 0)) * X2 (Cert.Proof.KernelIdeal.ix4 (y 0))) := by
  have y1 : (y 1).val < 2880 := (y 1).isLt
  have y2 : (y 2).val < 5760 := (y 2).isLt
  obtain ⟨e, he⟩ : ∃ e : Fin 4, e = y 0 := ⟨_, rfl⟩
  rw [← he]
  unfold result
  rw [← he]
  by_cases h0 : nb v0 v1 v2 v3 e = 0
  · rw [if_pos h0, h0]
    unfold dotRows
    rw [Nat.mul_zero, Finset.range_zero, Finset.sum_empty, zero_mul]
    exact Ideal.ofBits_zero_f32
  · rw [if_neg h0]
    have hk := h.k0W_nat e
    have hb := h.kbW_nat e
    have hl := h.nb_le e
    have hx1 : (slabIx ((y 1).val % 256) (y 2).val 1).val = (y 1).val % 256 := by show (y 1).val % 256 % 256 = _; omega
    have hx2 : (slabIx ((y 1).val % 256) (y 2).val 2).val = (y 2).val := Nat.mod_eq_of_lt y2
    have fin : dotRows X3 X4 (k0W v0 v1 v2 (BitVec.ofNat 32 e.val)).toNat (16 * (kbW v0 v1 v2 v3 (BitVec.ofNat 32 e.val)).toNat)
          (256 * ((y 1).val / 256) + (slabIx ((y 1).val % 256) (y 2).val 1).val) (slabIx ((y 1).val % 256) (y 2).val 2).val * scaleOf X1 X2 e
        = dotRows X3 X4 (16 * st v0 v1 v2 v3 e) (16 * nb v0 v1 v2 v3 e) (y 1).val (y 2).val
          * (X1 (Cert.Proof.KernelIdeal.ix4 e) * X2 (Cert.Proof.KernelIdeal.ix4 e)) := by
      rw [hk, hb, hx1, hx2, Nat.div_add_mod]
      rfl
    unfold slabOf
    refine Eq.trans ?_ fin
    dsimp only
    split_ifs with h1 h2
    · exact slab_value (by omega) _ X3 X4 _ _ _ _ _ (fun r j => pay19_apply (by omega) _ r j) (fun b r c => pay20_apply _ _ b r c) (fun b r c => pay3_apply _ _ b r c) _
    · exact slab_value (by omega) _ X3 X4 _ _ _ _ _ (fun r j => pay30_apply (by omega) _ r j) (fun b r c => pay31_apply _ _ b r c) (fun b r c => pay6_apply _ _ b r c) _
    · exact slab_value (by omega) _ X3 X4 _ _ _ _ _ (fun r j => pay41_apply (by omega) _ r j) (fun b r c => pay42_apply _ _ b r c) (fun b r c => pay9_apply _ _ b r c) _

end Cert.Proof.Value

end
-- ==== Proof.Value.Reference.lean ====
/- The reference's result over the extended reals: the same sum over the expert's rows, found among all rows by their bounds. -/
module

public import proofs.«01_k».proof.Proof.Gen.ReferenceIdeal.Run
public import proofs.«01_k».proof.Proof.Value.Payload
public import Idealize.ShloMosaic.Lib.Pointwise
public import Idealize.ShloMosaic.Lib.Routing.Words

@[expose] public section

noncomputable section

namespace Cert.Proof.Value

open Cert.ReferenceIdeal Cert.ReferenceIdeal.Gen Cert.ReferenceIdeal.Facts Cert.Proof.Words
open Cert.Proof.KernelIdeal (mkL mkR)
open Idealize.ShloMosaic

/-! ## The rows of an expert, as the reference computes them -/

variable (X0 : IVec S4 32)

/-- The number of blocks of 16 rows of every expert, -/
def blocksR : IVec S4 32 :=
  Routing.pyDiv bcast_S_S4 (addi X0 (broadcastInDim S4 ![] bcast_S_S4 (constantI S_ 32 15#32))) (id (constantI S_ 32 16#32))
/-- the row its rows end before, -/
def endR : IVec S4 32 :=
  muli (broadcastInDim S4 ![] bcast_S_S4 (constantI S_ 32 16#32)) (Host.reduceWindow IntOp.addi ![4] ![1] ![3] ![0] (blocksR X0)
    (broadcastInDim S_ ![] bcast_S_S_ (constantI S_ 32 0#32)) reduceWindows_S4_S4_w4s1p3_0 h_S_)
/-- and the row they start at. -/
def startR : IVec S4 32 := subi (endR X0) (muli (broadcastInDim S4 ![] bcast_S_S4 (constantI S_ 32 16#32)) (blocksR X0))

/-- The result, from those two rows. -/
def rowsR (st en : IVec S4 32) (X1 X2 : FVec Ideal S4 .f32) (X3 : FVec Ideal S1088x3072 .bf16) (X4 : FVec Ideal S1088x5760 .bf16) : FVec Ideal S4x2880x5760 .f32 :=
  mulf (Host.dotGeneral dot_S4x1088x2880_S1088x5760_S4x2880x5760_1_0_02_1_n_n none (select (broadcastInDim S4x1088x2880 ![0, 1, 2] bcast_S4x1088x1_S4x1088x2880_0_1_2 (broadcastInDim S4x1088x1 ![0, 1] bcast_S4x1088_S4x1088x1_0_1 (andi (cmpi .sge (broadcastInDim S4x1088 ![0, 1] bcast_S1x1088_S4x1088_0_1 (broadcastInDim S1x1088 ![1] bcast_S1088_S1x1088_1 (iotaInDim S1088 32 0))) (broadcastInDim S4x1088 ![0, 1] bcast_S4x1_S4x1088_0_1 (broadcastInDim S4x1 ![0] bcast_S4_S4x1_0 st))) (cmpi .slt (broadcastInDim S4x1088 ![0, 1] bcast_S1x1088_S4x1088_0_1 (broadcastInDim S1x1088 ![1] bcast_S1088_S1x1088_1 (iotaInDim S1088 32 0))) (broadcastInDim S4x1088 ![0, 1] bcast_S4x1_S4x1088_0_1 (broadcastInDim S4x1 ![0] bcast_S4_S4x1_0 en)))))) (broadcastInDim S4x1088x2880 ![0, 1, 2] bcast_S1x1088x2880_S4x1088x2880_0_1_2 (broadcastInDim S1x1088x2880 ![1, 2] bcast_S1088x2880_S1x1088x2880_1_2 (extractStridedSlice S1088x2880 ![0, 0] X3 slices_S1088x3072_S1088x2880_0_0))) (broadcastInDim S4x1088x2880 ![] bcast_S_S4x1088x2880 (constant S_ .bf16 0x0000#16))) X4) (broadcastInDim S4x2880x5760 ![0, 1, 2] bcast_S4x1x1_S4x2880x5760_0_1_2 (broadcastInDim S4x1x1 ![0] bcast_S4_S4x1x1_0 (mulf X1 X2)))

theorem res_eq (m : (ℓ : Loc nD τ sig) → Buf (Elt Ideal) ℓ) (c : Dev nD) :
    Cert.ReferenceIdeal.Value.res_main_v29 (F := Ideal) m c
      = rowsR (startR (m ((c.tc : Thread nD τ).loc main_arg0))) (endR (m ((c.tc : Thread nD τ).loc main_arg0))) (m ((c.tc : Thread nD τ).loc main_arg1))
          (m ((c.tc : Thread nD τ).loc main_arg2)) (m ((c.tc : Thread nD τ).loc main_arg3)) (m ((c.tc : Thread nD τ).loc main_arg4)) := rfl

theorem blocksR_apply (i : Fin 4) (h : (X0 (ix1 i)).toNat ≤ 768) : blocksR X0 (ix1 i) = BitVec.ofNat 32 (((X0 (ix1 i)).toNat + 15) / 16) := by
  refine Routing.pyDiv_ap _ _ _ _ (a := (X0 (ix1 i)).toNat + 15) (b := 16) ?_ rfl (by omega) (by decide) (by decide)
  show X0 (ix1 i) + 15#32 = _
  refine BitVec.eq_of_toNat_eq ?_
  rw [BitVec.toNat_add]; simp

variable {X0} (h : Fit (X0 (ix1 0)) (X0 (ix1 1)) (X0 (ix1 2)) (X0 (ix1 3)))
include h

theorem blocksR_nb (e : Fin 4) : blocksR X0 (ix1 e) = BitVec.ofNat 32 (nb (X0 (ix1 0)) (X0 (ix1 1)) (X0 (ix1 2)) (X0 (ix1 3)) e) := by
  have hs := h.sum
  rw [blocksR_apply X0 e (by fin_cases e <;> simp <;> omega)]
  fin_cases e <;> rfl

theorem endR_apply (e : Fin 4) : endR X0 (ix1 e)
    = BitVec.ofNat 32 (16 * (st (X0 (ix1 0)) (X0 (ix1 1)) (X0 (ix1 2)) (X0 (ix1 3)) e + nb (X0 (ix1 0)) (X0 (ix1 1)) (X0 (ix1 2)) (X0 (ix1 3)) e)) := by
  let f : ℕ → ℕ := fun n => if hn : n < 4 then nb (X0 (ix1 0)) (X0 (ix1 1)) (X0 (ix1 2)) (X0 (ix1 3)) ⟨n, hn⟩ else 0
  have hix : ∀ i : Fin 4, (ValueIdx.ix1 i : S4.Idx) = ix1 i := fun i => funext fun a => by fin_cases a; rfl
  have hc := Routing.cumsum1 (N := 4) (Nm1 := 3) rfl (blocksR X0) f (fun i => by rw [hix, blocksR_nb h]; simp [f])
    (broadcastInDim S_ ![] bcast_S_S_ (constantI S_ 32 0#32)) rfl reduceWindows_S4_S4_w4s1p3_0 h_S_ e
  rw [hix] at hc
  show 16#32 * Host.reduceWindow IntOp.addi ![4] ![1] ![3] ![0] (blocksR X0)
    (broadcastInDim S_ ![] bcast_S_S_ (constantI S_ 32 0#32)) reduceWindows_S4_S4_w4s1p3_0 h_S_ (ix1 e) = _
  rw [hc, show (16#32 : BitVec 32) = BitVec.ofNat 32 16 from rfl, ← BitVec.ofNat_mul]
  congr 2
  fin_cases e <;> simp [List.range_succ, f, st, Fin.sum_univ_four] <;> omega

theorem startR_apply (e : Fin 4) : startR X0 (ix1 e) = BitVec.ofNat 32 (16 * st (X0 (ix1 0)) (X0 (ix1 1)) (X0 (ix1 2)) (X0 (ix1 3)) e) := by
  have hl := h.st_nb e
  show endR X0 (ix1 e) - 16#32 * blocksR X0 (ix1 e) = _
  rw [endR_apply h, blocksR_nb h, show (16#32 : BitVec 32) = BitVec.ofNat 32 16 from rfl, ← BitVec.ofNat_mul]
  refine BitVec.eq_of_toNat_eq ?_
  rw [BitVec.toNat_sub]; simp; omega

omit h in
/-- A sum over all rows, those outside `n` rows from row `r` left out, is the sum over these. -/
theorem sum_window {r n N : ℕ} (hn : r + n ≤ N) (f : ℕ → EReal) :
    (∑ k : Fin N, if r ≤ k.val ∧ k.val < r + n then f k.val else 0) = ∑ k ∈ Finset.range n, f (r + k) := by
  rw [Fin.sum_univ_eq_sum_range (fun k => if r ≤ k ∧ k < r + n then f k else 0) N,
    ← Finset.sum_subset (s₁ := Finset.Ico r (r + n)) (fun k hk => Finset.mem_range.2 (by have := (Finset.mem_Ico.1 hk).2; omega))]
  · rw [Finset.sum_congr rfl fun k hk => if_pos (Finset.mem_Ico.1 hk), Finset.sum_Ico_eq_sum_range, Nat.add_sub_cancel_left]
  · intro k _ hk
    rw [if_neg (fun h => hk (Finset.mem_Ico.2 h))]

set_option maxHeartbeats 1000000 in
theorem rowsR_apply (X1 X2 : FVec Ideal S4 .f32) (X3 : FVec Ideal S1088x3072 .bf16) (X4 : FVec Ideal S1088x5760 .bf16) (e : Fin 4) (p : Fin 2880) (q : Fin 5760) :
    rowsR (startR X0) (endR X0) X1 X2 X3 X4 (ix3 e p q)
      = dotRows X3 X4 (16 * st (X0 (ix1 0)) (X0 (ix1 1)) (X0 (ix1 2)) (X0 (ix1 3)) e) (16 * nb (X0 (ix1 0)) (X0 (ix1 1)) (X0 (ix1 2)) (X0 (ix1 3)) e) p.val q.val
          * (X1 (ix1 e) * X2 (ix1 e)) := by
  have hl := h.st_nb e
  pointwise [rowsR]
  refine congrArg (· * (X1 (ix1 e) * X2 (ix1 e))) ?_
  unfold dotRows
  rw [← sum_window (N := 1088) (by omega) (fun k => X3 (mkL k p.val) * X4 (mkR k q.val))]
  refine Finset.sum_congr rfl fun k _ => ?_
  rw [startR_apply h, endR_apply h, select_eq]
  have hk := k.isLt
  have hc : IntOp.andi (IntOp.cmpi .sge (BitVec.ofNat 32 k.val) (BitVec.ofNat 32 (16 * st (X0 (ix1 0)) (X0 (ix1 1)) (X0 (ix1 2)) (X0 (ix1 3)) e)))
      (IntOp.cmpi .slt (BitVec.ofNat 32 k.val) (BitVec.ofNat 32 (16 * (st (X0 (ix1 0)) (X0 (ix1 1)) (X0 (ix1 2)) (X0 (ix1 3)) e + nb (X0 (ix1 0)) (X0 (ix1 1)) (X0 (ix1 2)) (X0 (ix1 3)) e)))) = 1#1
      ↔ 16 * st (X0 (ix1 0)) (X0 (ix1 1)) (X0 (ix1 2)) (X0 (ix1 3)) e ≤ k.val
        ∧ k.val < 16 * st (X0 (ix1 0)) (X0 (ix1 1)) (X0 (ix1 2)) (X0 (ix1 3)) e + 16 * nb (X0 (ix1 0)) (X0 (ix1 1)) (X0 (ix1 2)) (X0 (ix1 3)) e := by
    rw [IntOp.andi_eq_one, IntOp.cmpi_sge, IntOp.cmpi_slt, toInt_small (by simp; omega), toInt_small (by simp; omega), toInt_small (by simp; omega)]
    simp; omega
  simp only [hc]
  congr 2
  · refine congrArg X3 (funext fun a => Fin.ext ?_)
    fin_cases a
    · exact (Nat.mod_eq_of_lt k.isLt).symm
    · exact (Nat.mod_eq_of_lt (show p.val < 3072 by omega)).symm
  · refine congrArg X4 (funext fun a => Fin.ext ?_)
    fin_cases a
    · exact (Nat.mod_eq_of_lt k.isLt).symm
    · exact (Nat.mod_eq_of_lt q.isLt).symm

end Cert.Proof.Value

end
-- ==== Proof.Scales.Body.lean ====
/- The body's run, from whole buffers: what its stores leave in the two scale vectors and in the two staging buffers of the block
   scales, as pieces (last first), and the block scales it copies out, which are those staging buffers' contents. -/
module

public import proofs.«01_k».proof.Proof.Gen.ScalesIdeal.Frame.Runs

@[expose] public section

-- membership in a rectangle of production extents (`View.cover_of_tiled`): the elaborator's structural look
-- recurses once per coordinate of the long axes
set_option maxRecDepth 16384

noncomputable section

namespace Cert.Proof.Scales

open Cert.ScalesIdeal Cert.ScalesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer written whole holds what was written. -/
theorem copied (b : Ref sig .tc) (f x : b.ty.Contents (Elt F)) :
    View.write (Elt F) (Memref.whole b).view f x Finset.univ = x := by
  rw [View.write_whole_univ]

set_option maxHeartbeats 1000000 in
/-- The body on whole memrefs: the inputs stay, the scale vectors and the staging buffers end with their pieces written, and each
    block-scale result ends with its staging buffer's contents. -/
noncomputable def bodyRun (c : Dev nD) (arg0 : Memref sig .tc .smem S4 .i32) (harg0 : arg0.IsWhole) (arg1 : Memref sig .tc .vmem S56x2880 .f32) (harg1 : arg1.IsWhole) (arg2 : Memref sig .tc .vmem S56x5760 .f32) (harg2 : arg2.IsWhole) (arg4 : Memref sig .tc .smem S4 .f32) (harg4 : arg4.IsWhole) (arg6 : Memref sig .tc .smem S4 .f32) (harg6 : arg6.IsWhole) (alloca_r0 : Memref sig .tc .vmem S52x2880 .fp8e4m3) (halloca_r0 : alloca_r0.IsWhole) (alloca_7_r0 : Memref sig .tc .vmem S52x5760 .fp8e4m3) (halloca_7_r0 : alloca_7_r0.IsWhole)
    (x0 : Vec F S4 .i32) (x1 : Vec F S56x2880 .f32) (x2 : Vec F S56x5760 .f32) :
    Σ' (L3 : List (View.Piece (Elt F) S4 .f32)) (L4 : List (View.Piece (Elt F) S4 .f32)) (LX : List (View.Piece (Elt F) S52x2880 .fp8e4m3)), { LD : List (View.Piece (Elt F) S52x5760 .fp8e4m3) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg4 fullShare d) ∗ (∃ d, owns (c : Thread nD τ) arg6 fullShare d) ∗ (∃ d, owns (c : Thread nD τ) alloca_r0 fullShare d) ∗ (∃ d, owns (c : Thread nD τ) alloca_7_r0 fullShare d) ∗ semVal ((c : Thread nD τ), SemLoc.dma 5) 0 ∗ semVal ((c : Thread nD τ), SemLoc.dma 6) 0 ∗ (∃ f, hbPt0 c hbM0_0 f) ∗ (∃ f, hbPt0 c hbM0_1 f) ∗ owes (c : Thread nD τ) 0 W
            ∗ (iprop(owns (c : Thread nD τ) arg0 fullShare x0 ∗ owns (c : Thread nD τ) arg1 fullShare x1 ∗ owns (c : Thread nD τ) arg2 fullShare x2 ∗ (∃ f, arg4.view.loc (c : Thread nD τ) ↦[arg4.view.set]{fullShare} arg4.view.writes (Elt F) f L3) ∗ (∃ f, arg6.view.loc (c : Thread nD τ) ↦[arg6.view.set]{fullShare} arg6.view.writes (Elt F) f L4) ∗ (∃ f, alloca_r0.view.loc (c : Thread nD τ) ↦[alloca_r0.view.set]{fullShare} alloca_r0.view.writes (Elt F) f LX) ∗ (∃ f, alloca_7_r0.view.loc (c : Thread nD τ) ↦[alloca_7_r0.view.set]{fullShare} alloca_7_r0.view.writes (Elt F) f LD) ∗ semVal ((c : Thread nD τ), SemLoc.dma 5) 0 ∗ semVal ((c : Thread nD τ), SemLoc.dma 6) 0 ∗ (∃ g f, ⌜f = alloca_r0.view.read (Elt F) (alloca_r0.view.writes (Elt F) g LX)⌝ ∗ hbPt0 c hbM0_0 f) ∗ (∃ g f, ⌜f = alloca_7_r0.view.read (Elt F) (alloca_7_r0.view.writes (Elt F) g LD)⌝ ∗ hbPt0 c hbM0_1 f) ∗ (∃ W', owes (c : Thread nD τ) 0 W')) -∗ K ⟨⟩))
          ⊢ wp frame (wpE (defs₀ (F := F)) Variants.none c none) Set.univ (cc0_nvfp4_wgrad_scales arg0 harg0 arg1 harg1 arg2 harg2 (Memref.whole main_v0_0) (Memref.isWhole_whole _) arg4 harg4 (Memref.whole main_v0_2) (Memref.isWhole_whole _) arg6 harg6 cc0_scratch0 alloca_r0 halloca_r0 alloca_7_r0 halloca_7_r0) K } := by
  refine ⟨?_, ?_, ?_, ?_, fun W K => ?run⟩
  case run =>
    simp only [cc0_nvfp4_wgrad_scales_eq_skeleton]; unfold cc0_nvfp4_wgrad_scales_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hq0, Hq1, ⟨%fw0, Hh0⟩, ⟨%fw1, Hh1⟩, HW, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [HS0]; · iexists _; iexact HS0
    isplitl [HS1]; · iexists _; iexact HS1
    isplitl [Hq0]; · iexact Hq0
    isplitl [Hq1]; · iexact Hq1
    isplitl [Hh0]
    · iexists fs0, _; isplitr; swap; · iexact Hh0
      ipureintro; exact copied main_v0_0 _ _
    isplitl [Hh1]
    · iexists fs1, _; isplitr; swap; · iexact Hh1
      ipureintro; exact copied main_v0_2 _ _
    iexists _; iexact HW

end Cert.Proof.Scales

end
-- ==== Proof.Scales.Run.lean ====
/- The scales call's run: the arguments stay, every semaphore ends at zero, and each of the four results holds what the body's
   pieces leave. -/
module

public import proofs.«01_k».proof.Proof.Scales.Body
public import proofs.«01_k».proof.Proof.Gen.ScalesIdeal.Frame
public import Idealize.ShloMosaic.Lib.Pipeline.FrameValue

@[expose] public section

set_option maxRecDepth 16384

noncomputable section

namespace Cert.Proof.Scales

open Cert.ScalesIdeal Cert.ScalesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's pieces, at the staging buffers of a point and the values of the three arguments there. -/
def pieces (c : Dev nD) (t : Fin cfg0.N) (x0 : Vec F S4 .i32) (x1 : Vec F S56x2880 .f32) (x2 : Vec F S56x5760 .f32) :=
  bodyRun c (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) x0 x1 x2

section Covers

variable (c : Dev nD) (t : Fin cfg0.N) (x0 : Vec F S4 .i32) (x1 : Vec F S56x2880 .f32) (x2 : Vec F S56x5760 .f32)

/-- The four one-word pieces cover a scale vector, and the column tiles cover the block scales. -/
theorem cover_gx (y : S4.Idx) : ∃ pc ∈ (pieces c t x0 x1 x2).1, y ∈ pc.1.set :=
  View.cover_of_tiledL (pieces c t x0 x1 x2).1 S1.size (by sl_kernel_rfl) y
theorem cover_gd (y : S4.Idx) : ∃ pc ∈ (pieces c t x0 x1 x2).2.1, y ∈ pc.1.set :=
  View.cover_of_tiledL (pieces c t x0 x1 x2).2.1 S1.size (by sl_kernel_rfl) y
theorem cover_sx (y : S52x2880.Idx) : ∃ pc ∈ (pieces c t x0 x1 x2).2.2.1, y ∈ pc.1.set :=
  View.cover_of_tiledBy (pieces c t x0 x1 x2).2.2.1 ![52, 64] (by sl_kernel_rfl) y
theorem cover_sd (y : S52x5760.Idx) : ∃ pc ∈ (pieces c t x0 x1 x2).2.2.2.1, y ∈ pc.1.set :=
  View.cover_of_tiledBy (pieces c t x0 x1 x2).2.2.2.1 ![52, 128] (by sl_kernel_rfl) y

/-- What the body leaves: its pieces read back, from any contents since they cover. -/
def leftGx : Vec F S4 .f32 := VO0_3.read (Elt F) (VO0_3.writes (Elt F) VO0_3.junk (pieces c t x0 x1 x2).1)
def leftGd : Vec F S4 .f32 := VO0_4.read (Elt F) (VO0_4.writes (Elt F) VO0_4.junk (pieces c t x0 x1 x2).2.1)
def leftSx : Vec F S52x2880 .fp8e4m3 := scM0_0.view.read (Elt F) (scM0_0.view.writes (Elt F) scM0_0.view.junk (pieces c t x0 x1 x2).2.2.1)
def leftSd : Vec F S52x5760 .fp8e4m3 := scM0_1.view.read (Elt F) (scM0_1.view.writes (Elt F) scM0_1.view.junk (pieces c t x0 x1 x2).2.2.2.1)

end Covers

/-- The block scales a core ends with. -/
def outSx (c : Dev nD) : Vec F S52x2880 .fp8e4m3 := leftSx c t0_0 (iblk m c 0 t0_0) (iblk m c 1 t0_0) (iblk m c 2 t0_0)
def outSd (c : Dev nD) : Vec F S52x5760 .fp8e4m3 := leftSd c t0_0 (iblk m c 0 t0_0) (iblk m c 1 t0_0) (iblk m c 2 t0_0)

/-- Every buffer after the call: as launched, but for the two block-scale results. -/
def after (c : Dev nD) (b : Ref sig .tc) : Buf (Elt F) ((c : Thread nD τ).loc b) :=
  Function.update (Function.update (V m c) main_v0_2 (outSd m c)) main_v0_0 (outSx m c) b

theorem after_sx (c : Dev nD) : after m c main_v0_0 = outSx m c := by unfold after; rw [Function.update_self]
theorem after_sd (c : Dev nD) : after m c main_v0_2 = outSd m c := by
  unfold after; rw [Function.update_of_ne (by decide), Function.update_self]

theorem routed_eq (c : Dev nD) (W : (b : Ref sig .tc) → Buf (Elt F) ((c : Thread nD τ).loc b)) :
    (Pipeline.routed R0 c W : sProp 𝕄) = iprop(hbPt0 c hbM0_0 (W main_v0_0) ∗ hbPt0 c hbM0_1 (W main_v0_2)) := by
  unfold Pipeline.routed
  rw [BI.bigSep_eq_bigSepL_of_eq [main_v0_0, main_v0_2] (by decide) (by decide)]
  rfl

/-- The contents of the windows and the invariant of the call. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leftGx c t (iblk m c 0 t) (iblk m c 1 t) (iblk m c 2 t)
    | ⟨4, _⟩ => leftGd c t (iblk m c 0 t) (iblk m c 1 t) (iblk m c 2 t)
  Φ t := if t.val = 0 then Pipeline.ΦDRG osem0 spec0 ∅ R0 (V m) (V m) c else Pipeline.ΦDRG osem0 spec0 ∅ R0 (V m) (after m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = leftGx c t (iblk m c 0 t) (iblk m c 1 t) (iblk m c 2 t) := by dsimp only [dats]
theorem after_4 (c : Dev nD) (t : Fin cfg0.N) :
    (dats m 0 c).after 4 t = leftGd c t (iblk m c 0 t) (iblk m c 1 t) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem inv_first (c : Dev nD) (t : Fin (cfg0.N + 1)) (h : t.val = 0) :
    (dats m 0 c).Φ t = Pipeline.ΦDRG osem0 spec0 ∅ R0 (V m) (V m) c := by
  dsimp only [dats]; exact if_pos h
theorem inv_last (c : Dev nD) (t : Fin (cfg0.N + 1)) (h : t.val ≠ 0) :
    (dats m 0 c).Φ t = Pipeline.ΦDRG osem0 spec0 ∅ R0 (V m) (after m) c := by
  dsimp only [dats]; exact if_neg h

/-- The staged operands at a point, before and after the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- A staging buffer held whole through its memref, and held. -/
theorem scratch_out0 (c : Dev nD) (f : Buf (Elt F) (scM0_0.view.loc (c : Thread nD τ))) :
    (scM0_0.view.loc (c : Thread nD τ) ↦[scM0_0.view.set]{fullShare} f : sProp 𝕄) ⊢ (((c : Thread nD τ).loc cc0_scoped0) ↦{fullShare} f) := by
  rw [View.set_whole]
theorem scratch_out1 (c : Dev nD) (f : Buf (Elt F) (scM0_1.view.loc (c : Thread nD τ))) :
    (scM0_1.view.loc (c : Thread nD τ) ↦[scM0_1.view.set]{fullShare} f : sProp 𝕄) ⊢ (((c : Thread nD τ).loc cc0_scoped1) ↦{fullShare} f) := by
  rw [View.set_whole]

set_option maxHeartbeats 1000000 in
/-- The body at the call's one point: the run above, with the two copied-out arrays named by their pieces. -/
theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  simp only [before_0, before_1, before_2]
  rw [inv_first m c (Fin.castSucc t0_0) rfl, inv_last m c (Fin.succ t0_0) (Nat.succ_ne_zero _),
    after_0, after_1, after_2, after_3, after_4,
    Pipeline.ΦDRG_eq, Pipeline.ΦDRG_eq, routed_eq, routed_eq, after_sx, after_sd, ownSems00_eq, scopedRest0_eq]
  unfold Dat.owesAt Pipeline.owesWithin
  rw [show (dats m 0 c).owed (Fin.castSucc t0_0) = 0 from rfl, show (dats m 0 c).owed (Fin.succ t0_0) = 0 from rfl]
  unfold leftGx leftGd
  iintro ⟨⟨⟨⟨%s0, HS0⟩, ⟨%s1, HS1⟩⟩, Hg, ⟨Hq0, Hq1⟩, HE, ⟨Hh0, Hh1⟩⟩, ⟨%W, -, HW⟩, ⟨%d0, H0⟩, ⟨%d1, H1⟩, ⟨%d2, H2⟩, ⟨%d3, H3⟩, ⟨%d4, H4⟩⟩
  iapply ((pieces c t0_0 (iblk m c 0 t0_0) (iblk m c 1 t0_0) (iblk m c 2 t0_0)).2.2.2.2 W _)
  isplitl [H0]; · iexact H0
  isplitl [H1]; · iexact H1
  isplitl [H2]; · iexact H2
  isplitl [H3]; · iexists _; iexact H3
  isplitl [H4]; · iexists _; iexact H4
  isplitl [HS0]; · iexists s0; rw [owns_whole]; iexact HS0
  isplitl [HS1]; · iexists s1; rw [owns_whole]; iexact HS1
  isplitl [Hq0]; · iexact Hq0
  isplitl [Hq1]; · iexact Hq1
  isplitl [Hh0]; · iexists _; iexact Hh0
  isplitl [Hh1]; · iexists _; iexact Hh1
  isplitl [HW]; · iexact HW
  iintro ⟨H0, H1, H2, ⟨%e3, H3⟩, ⟨%e4, H4⟩, ⟨%u0, HS0⟩, ⟨%u1, HS1⟩, Hq0, Hq1, ⟨%g0, %h0, %hh0, Hh0⟩, ⟨%g1, %h1, %hh1, Hh1⟩, ⟨%W', HW'⟩⟩
  obtain rfl : h0 = outSx m c := hh0.trans (by unfold outSx leftSx; exact View.read_writes_of_cover _ _ _ _ _ (cover_sx c t0_0 _ _ _))
  obtain rfl : h1 = outSd m c := hh1.trans (by unfold outSd leftSd; exact View.read_writes_of_cover _ _ _ _ _ (cover_sd c t0_0 _ _ _))
  isplitl [HS0 HS1 Hg Hq0 Hq1 HE Hh0 Hh1]
  · isplitl [HS0 HS1]
    · isplitl [HS0]
      · iexists _; iapply (scratch_out0 c _); iexact HS0
      iexists _; iapply (scratch_out1 c _); iexact HS1
    isplitl [Hg]; · iexact Hg
    isplitl [Hq0 Hq1]
    · isplitl [Hq0]; · iexact Hq0
      iexact Hq1
    isplitl [HE]; · iexact HE
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]
  · unfold owns; iexists _; isplitr
    swap; · iexact H3
    ipureintro; exact View.read_writes_of_cover _ _ _ _ _ (cover_gx c t0_0 _ _ _)
  unfold owns; iexists _; isplitr
  swap; · iexact H4
  ipureintro; exact View.read_writes_of_cover _ _ _ _ _ (cover_gd c t0_0 _ _ _)

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.FramePostRG cfgs (dats m) 0 R0 (V m) (after m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmain m Variants.none) (hA := A_eq m) (G := after m)
    (hin := fun c => .of_eq (inv_first m c _ rfl).symm) (hout := fun c => .of_eq (inv_last m c _ (by decide))) (hQ' := fun _ h => h)

/-- The run: the four results, the arguments as they were. -/
theorem run : θ_run defs (onTc (τ := τ) (main (F := F))) ⟨m, fun _ => 0, ρ⟩ (fun r => ∀ c : Dev nD,
      r.2.mem ((c.tc : Thread nD τ).loc main_v0_0) = outSx m c
      ∧ r.2.mem ((c.tc : Thread nD τ).loc main_v0_1) = (dats m 0 c).arrAt 3 cfg0.N
      ∧ r.2.mem ((c.tc : Thread nD τ).loc main_v0_2) = outSd m c
      ∧ r.2.mem ((c.tc : Thread nD τ).loc main_v0_3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.written c (b := main_v0_0) (by decide)).trans (after_sx m c),
      (h.1.toR c).1 3,
      (h.1.written c (b := main_v0_2) (by decide)).trans (after_sd m c),
      (h.1.toR c).1 4,
      ((h.1.toR c).1 0).trans (((dats m 0 c).arrAt_in 0 rfl _).trans (A_eq m c 0)),
      ((h.1.toR c).1 1).trans (((dats m 0 c).arrAt_in 1 rfl _).trans (A_eq m c 1)),
      ((h.1.toR c).1 2).trans (((dats m 0 c).arrAt_in 2 rfl _).trans (A_eq m c 2))⟩) (run_main m ρ)

end Cert.Proof.Scales

end
-- ==== Proof.Scales.Closed.lean ====
/- The scales as formulas over the extended reals: an expert's largest block maximum, its global scale, and the code of a block. -/
module

public import proofs.«01_k».proof.Proof.Words
public import Idealize.ShloMosaic.Lib.Pointwise

@[expose] public section

noncomputable section

namespace Cert.Proof.Scales

open Cert.Proof.Words
open Idealize.ShloMosaic

/-- Whether block `r` is one of expert `e`'s, as a bit. -/
def isIn (v0 v1 v2 v3 : BitVec 32) (e : Fin 4) (r : ℕ) : BitVec 1 :=
  IntOp.andi (IntOp.cmpi .sge (BitVec.ofNat 32 r) (BitVec.ofNat 32 (st v0 v1 v2 v3 e)))
    (IntOp.cmpi .slt (BitVec.ofNat 32 r) (BitVec.ofNat 32 (st v0 v1 v2 v3 e + nb v0 v1 v2 v3 e)))

/-- The same bit, from the group sizes as an array. -/
def bitOf (X0 : IVec ⟨1, ![4]⟩ 32) : Fin 4 → ℕ → BitVec 1 := isIn (X0 (ix1 0)) (X0 (ix1 1)) (X0 (ix1 2)) (X0 (ix1 3))

/-- No block from the 52nd on is any expert's. -/
theorem isIn_out {v0 v1 v2 v3 : BitVec 32} (h : Fit v0 v1 v2 v3) (e : Fin 4) (r : ℕ) (hr : 51 ≤ r) (hr' : r < 56) :
    isIn v0 v1 v2 v3 e r = 0#1 := by
  have hl := h.st_nb e
  have : ¬ isIn v0 v1 v2 v3 e r = 1#1 := by
    unfold isIn
    rw [IntOp.andi_eq_one, IntOp.cmpi_sge, IntOp.cmpi_slt, toInt_small (by simp; omega), toInt_small (by simp; omega), toInt_small (by simp; omega)]
    simp; omega
  revert this; generalize isIn v0 v1 v2 v3 e r = b; revert b; decide

/-- The largest of the block maxima of one expert, blocks of the others counting as zero. -/
def top {n : ℕ} (M : ℕ → BitVec 1) (x : Fin 56 → Fin n → EReal) : EReal :=
  Finset.univ.sup fun b : Fin 56 => Scalar.select (M b.val) (Finset.univ.sup fun j => x b j) 0

/-- The global scale of an expert whose largest block maximum is `a`. -/
def scale (a : EReal) : EReal := if 0 < a then Ideal.div a (Ideal.ofBits .f32 1160249344#32) else 1

/-- The global scale of the expert that owns block `r`, one where none does. -/
def rowScale (M : Fin 4 → ℕ → BitVec 1) (g : Fin 4 → EReal) (r : ℕ) : EReal :=
  Scalar.select (M 3 r) (g 3) (Scalar.select (M 2 r) (g 2) (Scalar.select (M 1 r) (g 1) (Scalar.select (M 0 r) (g 0) 1)))

/-- The code of a block whose maximum is `x`, under the global scale `g`. -/
def code (x g : EReal) : EReal :=
  min (Ideal.ofBits .f32 1138753536#32) (max 0 (Ideal.div x (Ideal.ofBits .f32 1086324736#32 * g)))

theorem neg_inf : Ideal.ofBits .f32 4286578688#32 = ⊥ := by simp [Ideal.ofBits, Ideal.ieee]

/-- The largest over the first 52 rows, entry by entry, is the largest over all rows, each taken by its own largest entry. -/
theorem top_eq {n : ℕ} (hn : 0 < n) (M : ℕ → BitVec 1) (hM : ∀ r, 51 ≤ r → r < 56 → M r = 0#1) (x : Fin 56 → Fin n → EReal) :
    (Finset.univ.sup fun p : Fin 52 × Fin n => Scalar.select (M p.1.val) (x ⟨p.1.val, by omega⟩ p.2) 0) = top M x := by
  have hz : ∀ a : EReal, Scalar.select (0#1) a 0 = 0 := fun a => by simp [select_eq]
  refine le_antisymm (Finset.sup_le fun p _ => ?_) (Finset.sup_le fun b _ => ?_)
  · refine le_trans ?_ (Finset.le_sup (f := fun b : Fin 56 => Scalar.select (M b.val) (Finset.univ.sup fun j => x b j) 0)
      (Finset.mem_univ (⟨p.1.val, by omega⟩ : Fin 56)))
    simp only [select_eq]
    split
    · exact Finset.le_sup (f := fun j => x ⟨p.1.val, by omega⟩ j) (Finset.mem_univ p.2)
    · exact le_rfl
  · let f : Fin 52 × Fin n → EReal := fun p => Scalar.select (M p.1.val) (x ⟨p.1.val, by omega⟩ p.2) 0
    by_cases hb : b.val < 51
    · by_cases h1 : M b.val = 1#1
      · simp only [select_eq, if_pos h1]
        refine Finset.sup_le fun j _ => le_trans (le_of_eq ?_) (Finset.le_sup (f := f) (Finset.mem_univ ((⟨b.val, by omega⟩ : Fin 52), j)))
        simp only [f, select_eq, if_pos h1]
      · refine le_trans (le_of_eq ?_) (Finset.le_sup (f := f) (Finset.mem_univ ((⟨b.val, by omega⟩ : Fin 52), (⟨0, hn⟩ : Fin n))))
        simp only [f, select_eq, if_neg h1]
    · rw [hM b.val (by omega) b.isLt, hz]
      refine le_trans (le_of_eq ?_) (Finset.le_sup (f := f) (Finset.mem_univ ((51 : Fin 52), (⟨0, hn⟩ : Fin n))))
      simp only [f]
      rw [hM _ (by decide) (by decide), hz]

end Cert.Proof.Scales

end
-- ==== Proof.Scales.Payload.lean ====
/- The values the scales kernel computes, over the extended reals, as the closed formulas. -/
module

public import proofs.«01_k».proof.Proof.Gen.ScalesIdeal.Skeleton
public import proofs.«01_k».proof.Proof.Scales.Closed
public import Idealize.ShloMosaic.Lib.Pointwise

@[expose] public section

noncomputable section

namespace Cert.Proof.Scales

open Cert.ScalesIdeal Cert.ScalesIdeal.Gen Cert.Proof.Words
open Idealize.ShloMosaic

/-! ## The words -/

theorem blocks_word {v : BitVec 32} (h : v.toNat ≤ 768) : blocks v = BitVec.ofNat 32 ((v.toNat + 15) / 16) :=
  BitVec.eq_of_toNat_eq (by rw [blocks_nat h]; simp; omega)

section
variable {v0 v1 v2 v3 : BitVec 32} (h : Fit v0 v1 v2 v3)
include h

/-- The running sums of the block counts, as words, are the starts of the experts. -/
theorem sum1 : Scalar.addi 0#32 (blocks v0) = BitVec.ofNat 32 (st v0 v1 v2 v3 1) := by
  have hs := h.sum
  rw [blocks_word (by omega)]
  show BitVec.ofNat 32 0 + _ = _
  rw [← BitVec.ofNat_add]; congr 1; simp [st, nb, Fin.sum_univ_four]
theorem sum2 : Scalar.addi (Scalar.addi 0#32 (blocks v0)) (blocks v1) = BitVec.ofNat 32 (st v0 v1 v2 v3 2) := by
  have hs := h.sum
  rw [sum1 h, blocks_word (by omega)]
  show _ + _ = _
  rw [← BitVec.ofNat_add]; congr 1
theorem sum3 : Scalar.addi (Scalar.addi (Scalar.addi 0#32 (blocks v0)) (blocks v1)) (blocks v2) = BitVec.ofNat 32 (st v0 v1 v2 v3 3) := by
  have hs := h.sum
  rw [sum2 h, blocks_word (by omega)]
  show _ + _ = _
  rw [← BitVec.ofNat_add]; congr 1; simp [st, nb, Fin.sum_univ_four]
/-- An expert's blocks end where the next one's start. -/
theorem stop (e : Fin 4) : Scalar.addi (BitVec.ofNat 32 (st v0 v1 v2 v3 e)) (blocks (![v0, v1, v2, v3] e))
    = BitVec.ofNat 32 (st v0 v1 v2 v3 e + nb v0 v1 v2 v3 e) := by
  have hs := h.sum
  rw [blocks_word (by fin_cases e <;> simp <;> omega)]
  show _ + _ = _
  rw [← BitVec.ofNat_add]; rfl

theorem pay1_apply (b : Fin 56) : k0_pay1 (F := Ideal) v0 (ix2 b 0) = isIn v0 v1 v2 v3 0 b.val := by
  unfold isIn
  pointwise [k0_pay1]
  rw [← stop h 0, show st v0 v1 v2 v3 0 = 0 by simp [st]]
  rfl
theorem pay2_apply (b : Fin 56) : k0_pay2 (F := Ideal) v0 v1 (ix2 b 0) = isIn v0 v1 v2 v3 1 b.val := by
  unfold isIn
  pointwise [k0_pay2]
  rw [← stop h 1, ← sum1 h]
  rfl
theorem pay3_apply (b : Fin 56) : k0_pay3 (F := Ideal) v0 v1 v2 (ix2 b 0) = isIn v0 v1 v2 v3 2 b.val := by
  unfold isIn
  pointwise [k0_pay3]
  rw [← stop h 2, ← sum2 h]
  rfl
theorem pay4_apply (b : Fin 56) : k0_pay4 (F := Ideal) v0 v1 v2 v3 (ix2 b 0) = isIn v0 v1 v2 v3 3 b.val := by
  unfold isIn
  pointwise [k0_pay4]
  rw [← stop h 3, ← sum3 h]
  rfl

end

/-! ## The scales -/

/-- A row's largest entry. -/
def rowTop {n : ℕ} (x : FVec Ideal ⟨2, ![56, n]⟩ .f32) : FVec Ideal S56 .f32 := fun i => Finset.univ.sup fun j : Fin n => x (ix2 (i 0) j)

theorem pay5_eq (y : FVec Ideal S56x2880 .f32) : k0_pay5 y = rowTop y := by
  funext i
  pointwise [k0_pay5]
  rw [neg_inf]
  rfl
theorem pay36_eq (y : FVec Ideal S56x5760 .f32) : k0_pay36 y = rowTop y := by
  funext i
  pointwise [k0_pay36]
  rw [neg_inf]
  rfl

/-- One expert's global scale. -/
theorem pay8_eq {n : ℕ} (v : IVec S56x1 1) (M : ℕ → BitVec 1) (hv : ∀ b : Fin 56, v (ix2 b 0) = M b.val) (x : FVec Ideal ⟨2, ![56, n]⟩ .f32) :
    k0_pay8 v (rowTop x) = scale (top M fun b j => x (ix2 b j)) := by
  have : (Finset.fold max ⊥ (fun b : Fin 56 => Scalar.select (v (ix2 b 0)) (rowTop x (ix1 b)) 0) Finset.univ) = top M fun b j => x (ix2 b j) := by
    simp only [hv]; rfl
  pointwise [k0_pay8, k0_pay7, k0_pay6]
  rw [neg_inf, this]
  rfl

theorem pay10_eq (v : IVec S56x1 1) (y : FVec Ideal S56 .f32) : k0_pay10 v y = k0_pay8 v y := rfl
theorem pay16_eq (v : IVec S56x1 1) (y : FVec Ideal S56 .f32) :
    k0_pay16 (k0_pay13 v y) (k0_pay14 v y) (Scalar.ofBits (F := Ideal) .f32 0x3F800000#32) = k0_pay8 v y := rfl
theorem pay18_eq (v : IVec S56x1 1) (y : FVec Ideal S56 .f32) : k0_pay18 v (k0_pay6 y) = k0_pay8 v y := rfl

/-- The second operand's global scales are computed as the first's. -/
theorem pay39_eq (v : IVec S56x1 1) (y : FVec Ideal S56 .f32) : k0_pay39 v y = k0_pay8 v y := rfl
theorem pay41_eq (v : IVec S56x1 1) (y : FVec Ideal S56 .f32) : k0_pay41 v y = k0_pay8 v y := rfl
theorem pay47_eq (v : IVec S56x1 1) (y : FVec Ideal S56 .f32) :
    k0_pay47 (k0_pay44 v y) (k0_pay45 v y) (Scalar.ofBits (F := Ideal) .f32 0x3F800000#32) = k0_pay8 v y := rfl
theorem pay49_eq (v : IVec S56x1 1) (y : FVec Ideal S56 .f32) : k0_pay49 v (k0_pay37 y) = k0_pay8 v y := rfl
theorem pay50_eq (m0 m1 m2 m3 : IVec S56x1 1) (y : FVec Ideal S56 .f32) (k : Ideal .f32) :
    k0_pay50 m2 m3 (k0_pay37 y) (k0_pay42 m0 m1 y) (k0_pay44 m2 y) (k0_pay45 m2 y) k
      = k0_pay19 m2 m3 (k0_pay6 y) (k0_pay11 m0 m1 y) (k0_pay13 m2 y) (k0_pay14 m2 y) k := rfl

/-- The global scale of every block. -/
theorem pay19_apply (m0 m1 m2 m3 : IVec S56x1 1) (y : FVec Ideal S56 .f32) (b : Fin 56) :
    k0_pay19 m2 m3 (k0_pay6 y) (k0_pay11 m0 m1 y) (k0_pay13 m2 y) (k0_pay14 m2 y) (Scalar.ofBits (F := Ideal) .f32 0x3F800000#32) (ix2 b 0)
      = Scalar.select (m3 (ix2 b 0)) (k0_pay8 m3 y) (Scalar.select (m2 (ix2 b 0)) (k0_pay8 m2 y)
          (Scalar.select (m1 (ix2 b 0)) (k0_pay8 m1 y) (Scalar.select (m0 (ix2 b 0)) (k0_pay8 m0 y) 1))) := by
  rw [← pay16_eq m2, ← pay10_eq m1, ← pay18_eq m3]
  pointwise [k0_pay19, k0_pay11, k0_pay8, k0_pay10, k0_pay16, k0_pay18]

/-- The code of a block. -/
theorem pay23_apply (g : FVec Ideal S56x1 .f32) (x : FVec Ideal S56x256 .f32) (i : S52x256.Idx) :
    k0_pay23 g x i = code (x (ix2 ⟨(i 0).val, by have := (i 0).isLt; simp at this; omega⟩ (i 1))) (g (ix2 ⟨(i 0).val, by have := (i 0).isLt; simp at this; omega⟩ 0)) := by
  pointwise [k0_pay23, code]
theorem pay35_apply (g : FVec Ideal S56x1 .f32) (x : FVec Ideal S56x64 .f32) (i : S52x64.Idx) :
    k0_pay35 g x i = code (x (ix2 ⟨(i 0).val, by have := (i 0).isLt; simp at this; omega⟩ (i 1))) (g (ix2 ⟨(i 0).val, by have := (i 0).isLt; simp at this; omega⟩ 0)) := by
  pointwise [k0_pay35, code]
theorem pay80_apply (g : FVec Ideal S56x1 .f32) (x : FVec Ideal S56x128 .f32) (i : S52x128.Idx) :
    k0_pay80 g x i = code (x (ix2 ⟨(i 0).val, by have := (i 0).isLt; simp at this; omega⟩ (i 1))) (g (ix2 ⟨(i 0).val, by have := (i 0).isLt; simp at this; omega⟩ 0)) := by
  pointwise [k0_pay80, code]

end Cert.Proof.Scales

end
-- ==== Proof.Scales.Value.lean ====
/- What the scales kernel leaves, over the extended reals, as the closed formulas of its arguments. -/
module

public import proofs.«01_k».proof.Proof.Scales.Run
public import proofs.«01_k».proof.Proof.Scales.Payload
public import Idealize.ShloMosaic.Lib.WholeRead

@[expose] public section

set_option maxRecDepth 16384

noncomputable section

namespace Cert.Proof.Scales

open Cert.ScalesIdeal Cert.ScalesIdeal.Gen Cert.Proof.Words
open Idealize.ShloMosaic

variable (c : Dev nD) (t : Fin cfg0.N) (x0 : Vec Ideal S4 .i32) (x1 : Vec Ideal S56x2880 .f32) (x2 : Vec Ideal S56x5760 .f32)

/-! ## The words and vectors the body reads -/

theorem r_eq : bodyRun.sl.r c (ms0_0 t) (hs0_0 t) x0 = x0 (ix1 0) := by
  unfold bodyRun.sl.r
  refine ((hs0_0 t).readAt_unread _ _ _).trans (congrArg x0 (funext fun a => ?_))
  fin_cases a; rfl
theorem r_1_eq : bodyRun.sl.r_1 c (ms0_0 t) (hs0_0 t) x0 = x0 (ix1 1) := by
  unfold bodyRun.sl.r_1
  refine ((hs0_0 t).readAt_unread _ _ _).trans (congrArg x0 (funext fun a => ?_))
  fin_cases a; rfl
theorem r_2_eq : bodyRun.sl.r_2 c (ms0_0 t) (hs0_0 t) x0 = x0 (ix1 2) := by
  unfold bodyRun.sl.r_2
  refine ((hs0_0 t).readAt_unread _ _ _).trans (congrArg x0 (funext fun a => ?_))
  fin_cases a; rfl
theorem r_3_eq : bodyRun.sl.r_3 c (ms0_0 t) (hs0_0 t) x0 = x0 (ix1 3) := by
  unfold bodyRun.sl.r_3
  refine ((hs0_0 t).readAt_unread _ _ _).trans (congrArg x0 (funext fun a => ?_))
  fin_cases a; rfl

/-- The operands' rows, each by its largest entry. -/
theorem r_8_eq : bodyRun.sl.r_8 c (ms0_1 t) (hs0_1 t) x1 = rowTop x1 := by
  unfold bodyRun.sl.r_8
  rw [pay5_eq]
  congr 1
  funext i
  refine ((hs0_1 t).readAt_unread _ _ _).trans (congrArg x1 (funext fun a => ?_))
  refine Fin.ext ?_
  have hz : ∀ k : ℕ, 0 + 1 * k = k := fun k => by omega
  fin_cases a <;> exact hz _
theorem r_22_eq : bodyRun.sl.r_22 c (ms0_2 t) (hs0_2 t) x2 = rowTop x2 := by
  unfold bodyRun.sl.r_22
  rw [pay36_eq]
  congr 1
  funext i
  refine ((hs0_2 t).readAt_unread _ _ _).trans (congrArg x2 (funext fun a => ?_))
  refine Fin.ext ?_
  have hz : ∀ k : ℕ, 0 + 1 * k = k := fun k => by omega
  fin_cases a <;> exact hz _

section
variable {x0} (h : Fit (x0 (ix1 0)) (x0 (ix1 1)) (x0 (ix1 2)) (x0 (ix1 3)))
include h

/-! ## The blocks of each expert -/

theorem r_4_apply (b : Fin 56) : bodyRun.sl.r_4 c (ms0_0 t) (hs0_0 t) x0 (ix2 b 0) = bitOf x0 0 b.val := by
  unfold bodyRun.sl.r_4; rw [r_eq]; exact pay1_apply h b
theorem r_5_apply (b : Fin 56) : bodyRun.sl.r_5 c (ms0_0 t) (hs0_0 t) x0 (ix2 b 0) = bitOf x0 1 b.val := by
  unfold bodyRun.sl.r_5; rw [r_eq, r_1_eq]; exact pay2_apply h b
theorem r_6_apply (b : Fin 56) : bodyRun.sl.r_6 c (ms0_0 t) (hs0_0 t) x0 (ix2 b 0) = bitOf x0 2 b.val := by
  unfold bodyRun.sl.r_6; rw [r_eq, r_1_eq, r_2_eq]; exact pay3_apply h b
theorem r_7_apply (b : Fin 56) : bodyRun.sl.r_7 c (ms0_0 t) (hs0_0 t) x0 (ix2 b 0) = bitOf x0 3 b.val := by
  unfold bodyRun.sl.r_7; rw [r_eq, r_1_eq, r_2_eq, r_3_eq]; exact pay4_apply h b

/-! ## The global scales -/

variable {n : ℕ} (x : FVec Ideal ⟨2, ![56, n]⟩ .f32)

/-- The four global scales of an operand. -/
def gOf (x0 : Vec Ideal S4 .i32) (x : FVec Ideal ⟨2, ![56, n]⟩ .f32) (e : Fin 4) : EReal := scale (top (bitOf x0 e) fun b j => x (ix2 b j))

theorem g0 : k0_pay8 (bodyRun.sl.r_4 c (ms0_0 t) (hs0_0 t) x0) (rowTop x) = gOf x0 x 0 := pay8_eq _ _ (r_4_apply c t h) x
theorem g1 : k0_pay8 (bodyRun.sl.r_5 c (ms0_0 t) (hs0_0 t) x0) (rowTop x) = gOf x0 x 1 := pay8_eq _ _ (r_5_apply c t h) x
theorem g2 : k0_pay8 (bodyRun.sl.r_6 c (ms0_0 t) (hs0_0 t) x0) (rowTop x) = gOf x0 x 2 := pay8_eq _ _ (r_6_apply c t h) x
theorem g3 : k0_pay8 (bodyRun.sl.r_7 c (ms0_0 t) (hs0_0 t) x0) (rowTop x) = gOf x0 x 3 := pay8_eq _ _ (r_7_apply c t h) x

/-- The global scale of every block, from the four. -/
theorem row_apply (b : Fin 56) :
    k0_pay19 (bodyRun.sl.r_6 c (ms0_0 t) (hs0_0 t) x0) (bodyRun.sl.r_7 c (ms0_0 t) (hs0_0 t) x0) (k0_pay6 (rowTop x))
        (k0_pay11 (bodyRun.sl.r_4 c (ms0_0 t) (hs0_0 t) x0) (bodyRun.sl.r_5 c (ms0_0 t) (hs0_0 t) x0) (rowTop x))
        (k0_pay13 (bodyRun.sl.r_6 c (ms0_0 t) (hs0_0 t) x0) (rowTop x)) (k0_pay14 (bodyRun.sl.r_6 c (ms0_0 t) (hs0_0 t) x0) (rowTop x))
        (Scalar.ofBits (F := Ideal) .f32 0x3F800000#32) (ix2 b 0)
      = rowScale (bitOf x0) (gOf x0 x) b.val := by
  rw [pay19_apply, g0 c t h, g1 c t h, g2 c t h, g3 c t h, r_4_apply c t h, r_5_apply c t h, r_6_apply c t h, r_7_apply c t h]
  rfl

theorem r_17_apply (b : Fin 56) : bodyRun.sl.r_17 c (ms0_0 t) (hs0_0 t) (ms0_1 t) (hs0_1 t) x0 x1 (ix2 b 0) = rowScale (bitOf x0) (gOf x0 x1) b.val := by
  rw [← row_apply c t h x1 b, ← r_8_eq c t x1]
  rfl
theorem r_31_apply (b : Fin 56) : bodyRun.sl.r_31 c (ms0_0 t) (hs0_0 t) (ms0_2 t) (hs0_2 t) x0 x2 (ix2 b 0) = rowScale (bitOf x0) (gOf x0 x2) b.val := by
  rw [← row_apply c t h x2 b, ← pay50_eq, ← r_22_eq c t x2]
  rfl

omit h in
theorem emb_word (k : ℕ) (e : Fin 4) (hk : k = e.val) (inb) (x : S1.Idx) : (Rect.unit (s := S4) ![k] S1.size inb).emb x 0 = e := by
  refine Fin.ext ?_
  show k + 1 * (x 0).val = _
  have : (x 0).val < 1 := (x 0).isLt
  omega

/-- A scale vector's four words. -/
theorem leftGx_eq : leftGx c t x0 x1 x2 = fun i => gOf x0 x1 (i 0) := by
  funext y
  unfold leftGx
  refine View.read_writes_apply_of_pieces VO0_3 _ (fun i => gOf x0 x1 (i 0)) _ ?_ y (cover_gx c t x0 x1 x2 y)
  unfold pieces bodyRun
  dsimp only
  have e3 := (pay18_eq _ _).trans ((r_8_eq c t x1).symm ▸ g3 c t h x1)
  have e2 := (pay16_eq _ _).trans ((r_8_eq c t x1).symm ▸ g2 c t h x1)
  have e1 := (pay10_eq _ _).trans ((r_8_eq c t x1).symm ▸ g1 c t h x1)
  have e0 := ((r_8_eq c t x1).symm ▸ g0 c t h x1)
  refine List.forall_mem_cons.2 ⟨fun x => e3.trans (congrArg (gOf x0 x1) (emb_word 3 3 rfl inb_S4_S1_3 x)).symm,
    List.forall_mem_cons.2 ⟨fun x => e2.trans (congrArg (gOf x0 x1) (emb_word 2 2 rfl inb_S4_S1_2 x)).symm,
    List.forall_mem_cons.2 ⟨fun x => e1.trans (congrArg (gOf x0 x1) (emb_word 1 1 rfl inb_S4_S1_1 x)).symm,
    List.forall_mem_cons.2 ⟨fun x => e0.trans (congrArg (gOf x0 x1) (emb_word 0 0 rfl inb_S4_S1_0 x)).symm,
      fun _ h => absurd h List.not_mem_nil⟩⟩⟩⟩
theorem leftGd_eq : leftGd c t x0 x1 x2 = fun i => gOf x0 x2 (i 0) := by
  funext y
  unfold leftGd
  refine View.read_writes_apply_of_pieces VO0_4 _ (fun i => gOf x0 x2 (i 0)) _ ?_ y (cover_gd c t x0 x1 x2 y)
  unfold pieces bodyRun
  dsimp only
  have e3 := (pay49_eq _ _).trans ((r_22_eq c t x2).symm ▸ g3 c t h x2)
  have e2 := (pay47_eq _ _).trans ((r_22_eq c t x2).symm ▸ g2 c t h x2)
  have e1 := (pay41_eq _ _).trans ((r_22_eq c t x2).symm ▸ g1 c t h x2)
  have e0 := (pay39_eq _ _).trans ((r_22_eq c t x2).symm ▸ g0 c t h x2)
  refine List.forall_mem_cons.2 ⟨fun x => e3.trans (congrArg (gOf x0 x2) (emb_word 3 3 rfl inb_S4_S1_3 x)).symm,
    List.forall_mem_cons.2 ⟨fun x => e2.trans (congrArg (gOf x0 x2) (emb_word 2 2 rfl inb_S4_S1_2 x)).symm,
    List.forall_mem_cons.2 ⟨fun x => e1.trans (congrArg (gOf x0 x2) (emb_word 1 1 rfl inb_S4_S1_1 x)).symm,
    List.forall_mem_cons.2 ⟨fun x => e0.trans (congrArg (gOf x0 x2) (emb_word 0 0 rfl inb_S4_S1_0 x)).symm,
      fun _ h => absurd h List.not_mem_nil⟩⟩⟩⟩

end

/-! ## The codes -/

/-- The codes of one operand, from its block maxima and the blocks' global scales. -/
def codesOf {n : ℕ} (g : FVec Ideal S56x1 .f32) (x : FVec Ideal ⟨2, ![56, n]⟩ .f32) (i : Shape.Idx ⟨2, ![52, n]⟩) : EReal :=
  code (x (ix2 ⟨(i 0).val, by have := (i 0).isLt; simp at this; omega⟩ (i 1))) (g (ix2 ⟨(i 0).val, by have := (i 0).isLt; simp at this; omega⟩ 0))

/-- A column tile of the codes, read from its tile of the operand. -/
theorem tile {n w : ℕ} {mm : Memref sig .tc .vmem ⟨2, ![56, n]⟩ .f32} (hm : mm.IsWhole) (x : FVec Ideal ⟨2, ![56, n]⟩ .f32) (g : FVec Ideal S56x1 .f32)
    (a : ℕ) (h56) (h52) (i : Shape.Idx ⟨2, ![52, w]⟩) (hi : (i 0).val < 56) :
    code (View.readAt (Elt Ideal) mm.view (Rect.unit (s := ⟨2, ![56, n]⟩) ![0, a] ![56, w] h56).toLoadRect (hm.unread x) (ix2 ⟨(i 0).val, hi⟩ (i 1)))
        (g (ix2 ⟨(i 0).val, hi⟩ 0))
      = codesOf g x ((Rect.unit (s := ⟨2, ![52, n]⟩) ![0, a] ![52, w] h52).emb i) := by
  rw [hm.readAt_unread]
  unfold codesOf
  refine congrArg₂ code (congrArg x (funext fun b => Fin.ext ?_)) (congrArg g (funext fun b => Fin.ext ?_))
  · fin_cases b <;> rfl
  · fin_cases b
    · show (i 0).val = 0 + 1 * (i 0).val
      omega
    · rfl

section Tiles
variable (g : FVec Ideal S56x1 .f32) (a : ℕ)

theorem tileX (h56) (h52) (i : S52x256.Idx) :
    k0_pay23 g (View.readAt (Elt Ideal) (ms0_1 t).view (Rect.unit (s := S56x2880) ![0, a] S56x256.size h56).toLoadRect ((hs0_1 t).unread x1)) i
      = codesOf g x1 ((Rect.unit (s := S52x2880) ![0, a] S52x256.size h52).emb i) :=
  (pay23_apply _ _ _).trans (tile (hs0_1 t) x1 g a h56 h52 i _)
theorem lastX (h56) (h52) (i : S52x64.Idx) :
    k0_pay35 g (View.readAt (Elt Ideal) (ms0_1 t).view (Rect.unit (s := S56x2880) ![0, a] S56x64.size h56).toLoadRect ((hs0_1 t).unread x1)) i
      = codesOf g x1 ((Rect.unit (s := S52x2880) ![0, a] S52x64.size h52).emb i) :=
  (pay35_apply _ _ _).trans (tile (hs0_1 t) x1 g a h56 h52 i _)
theorem tileD (h56) (h52) (i : S52x256.Idx) :
    k0_pay23 g (View.readAt (Elt Ideal) (ms0_2 t).view (Rect.unit (s := S56x5760) ![0, a] S56x256.size h56).toLoadRect ((hs0_2 t).unread x2)) i
      = codesOf g x2 ((Rect.unit (s := S52x5760) ![0, a] S52x256.size h52).emb i) :=
  (pay23_apply _ _ _).trans (tile (hs0_2 t) x2 g a h56 h52 i _)
theorem lastD (h56) (h52) (i : S52x128.Idx) :
    k0_pay80 g (View.readAt (Elt Ideal) (ms0_2 t).view (Rect.unit (s := S56x5760) ![0, a] S56x128.size h56).toLoadRect ((hs0_2 t).unread x2)) i
      = codesOf g x2 ((Rect.unit (s := S52x5760) ![0, a] S52x128.size h52).emb i) :=
  (pay80_apply _ _ _).trans (tile (hs0_2 t) x2 g a h56 h52 i _)

end Tiles

/-- Every tile the body stores is a tile of the codes. -/
theorem pieces_sx (p) (hp : p ∈ (pieces c t x0 x1 x2).2.2.1) (i : p.1.shape.Idx) :
    p.2 i = codesOf (bodyRun.sl.r_17 c (ms0_0 t) (hs0_0 t) (ms0_1 t) (hs0_1 t) x0 x1) x1 (p.1.emb i) := by
  revert p
  unfold pieces bodyRun
  dsimp only
  unfold bodyRun.sl.HS0_12
  refine List.forall_mem_cons.2 ⟨fun x => lastX t x1 _ _ (by decide) (by decide) x, ?_⟩
  repeat refine List.forall_mem_cons.2 ⟨fun x => tileX t x1 _ _ (by decide) (by decide) x, ?_⟩
  exact fun _ h => absurd h List.not_mem_nil

theorem pieces_sd (p) (hp : p ∈ (pieces c t x0 x1 x2).2.2.2.1) (i : p.1.shape.Idx) :
    p.2 i = codesOf (bodyRun.sl.r_31 c (ms0_0 t) (hs0_0 t) (ms0_2 t) (hs0_2 t) x0 x2) x2 (p.1.emb i) := by
  revert p
  unfold pieces bodyRun
  dsimp only
  unfold bodyRun.sl.HS1_23
  refine List.forall_mem_cons.2 ⟨fun x => lastD t x2 _ _ (by decide) (by decide) x, ?_⟩
  repeat refine List.forall_mem_cons.2 ⟨fun x => tileD t x2 _ _ (by decide) (by decide) x, ?_⟩
  exact fun _ h => absurd h List.not_mem_nil

section
variable {x0} (h : Fit (x0 (ix1 0)) (x0 (ix1 1)) (x0 (ix1 2)) (x0 (ix1 3)))
include h

/-- The codes, at an index. -/
theorem leftSx_apply (b : Fin 52) (j : Fin 2880) :
    leftSx c t x0 x1 x2 (ix2 b j) = code (x1 (ix2 ⟨b.val, by omega⟩ j)) (rowScale (bitOf x0) (gOf x0 x1) b.val) := by
  unfold leftSx
  rw [View.read_writes_apply_of_pieces scM0_0.view _ _ _ (pieces_sx c t x0 x1 x2) _ (cover_sx c t x0 x1 x2 _)]
  exact congrArg (code _) (r_17_apply c t x1 h ⟨b.val, by omega⟩)
theorem leftSd_apply (b : Fin 52) (j : Fin 5760) :
    leftSd c t x0 x1 x2 (ix2 b j) = code (x2 (ix2 ⟨b.val, by omega⟩ j)) (rowScale (bitOf x0) (gOf x0 x2) b.val) := by
  unfold leftSd
  rw [View.read_writes_apply_of_pieces scM0_1.view _ _ _ (pieces_sd c t x0 x1 x2) _ (cover_sd c t x0 x1 x2 _)]
  exact congrArg (code _) (r_31_apply c t x2 h ⟨b.val, by omega⟩)

end

end Cert.Proof.Scales

end
-- ==== Proof.Scales.Reference.lean ====
/- The reference's scales over the extended reals are the closed formulas. -/
module

public import proofs.«01_k».proof.Proof.Gen.ScalesReferenceIdeal.Run
public import proofs.«01_k».proof.Proof.Scales.Closed
public import Idealize.ShloMosaic.Lib.Pointwise
public import Idealize.ShloMosaic.Lib.Routing.Words

@[expose] public section

noncomputable section

namespace Cert.Proof.Scales

open Cert.ScalesReferenceIdeal Cert.ScalesReferenceIdeal.Gen Cert.ScalesReferenceIdeal.Facts Cert.Proof.Words
open Idealize.ShloMosaic

/-! ## The result terms, by their parts -/

variable (X0 : IVec S4 32)

/-- The number of blocks of every expert, -/
def blocksR : IVec S4 32 :=
  Routing.pyDiv bcast_S_S4 (addi X0 (broadcastInDim S4 ![] bcast_S_S4 (constantI S_ 32 15#32))) (id (constantI S_ 32 16#32))
/-- the block its blocks end before -/
def endR : IVec S4 32 := Host.reduceWindow IntOp.addi ![4] ![1] ![3] ![0] (blocksR X0) (broadcastInDim S_ ![] bcast_S_S_ (constantI S_ 32 0#32)) reduceWindows_S4_S4_w4s1p3_0 h_S_
/-- and the one they start at, -/
def startR : IVec S4 32 := subi (endR X0) (blocksR X0)
/-- the blocks of each expert, -/
def memR : IVec S4x52 1 := andi (cmpi .sge (broadcastInDim S4x52 ![0, 1] bcast_S1x52_S4x52_0_1 (broadcastInDim S1x52 ![1] bcast_S52_S1x52_1 (iotaInDim S52 32 0))) (broadcastInDim S4x52 ![0, 1] bcast_S4x1_S4x52_0_1 (broadcastInDim S4x1 ![0] bcast_S4_S4x1_0 (startR X0)))) (cmpi .slt (broadcastInDim S4x52 ![0, 1] bcast_S1x52_S4x52_0_1 (broadcastInDim S1x52 ![1] bcast_S52_S1x52_1 (iotaInDim S52 32 0))) (broadcastInDim S4x52 ![0, 1] bcast_S4x1_S4x52_0_1 (broadcastInDim S4x1 ![0] bcast_S4_S4x1_0 (endR X0))))
/-- an expert's largest block maximum of the first operand -/
def topX (X1 : FVec Ideal S56x2880 .f32) : FVec Ideal S4 .f32 := Host.reduce FloatOps.maximumf (select (broadcastInDim S4x52x2880 ![0, 1, 2] bcast_S4x52x1_S4x52x2880_0_1_2 (broadcastInDim S4x52x1 ![0, 1] bcast_S4x52_S4x52x1_0_1 (memR X0))) (broadcastInDim S4x52x2880 ![0, 1, 2] bcast_S1x52x2880_S4x52x2880_0_1_2 (broadcastInDim S1x52x2880 ![1, 2] bcast_S52x2880_S1x52x2880_1_2 (extractStridedSlice S52x2880 ![0, 0] X1 slices_S56x2880_S52x2880_0_0))) (broadcastInDim S4x52x2880 ![] bcast_S_S4x52x2880 (id (constant S_ .f32 0x00000000#32)))) (constant S_ .f32 0xFF800000#32) reducesTo_S4x52x2880_S4_d1_2 h_S_
/-- and of the second, -/
def topD (X2 : FVec Ideal S56x5760 .f32) : FVec Ideal S4 .f32 := Host.reduce FloatOps.maximumf (select (broadcastInDim S4x52x5760 ![0, 1, 2] bcast_S4x52x1_S4x52x5760_0_1_2 (broadcastInDim S4x52x1 ![0, 1] bcast_S4x52_S4x52x1_0_1 (memR X0))) (broadcastInDim S4x52x5760 ![0, 1, 2] bcast_S1x52x5760_S4x52x5760_0_1_2 (broadcastInDim S1x52x5760 ![1, 2] bcast_S52x5760_S1x52x5760_1_2 (extractStridedSlice S52x5760 ![0, 0] X2 slices_S56x5760_S52x5760_0_0))) (broadcastInDim S4x52x5760 ![] bcast_S_S4x52x5760 (id (constant S_ .f32 0x00000000#32)))) (constant S_ .f32 0xFF800000#32) reducesTo_S4x52x5760_S4_d1_2 h_S_
/-- the global scales, -/
def gR (t : FVec Ideal S4 .f32) : FVec Ideal S4 .f32 := select (cmpf .ogt t (broadcastInDim S4 ![] bcast_S_S4 (constant S_ .f32 0x00000000#32))) (Host.divf t (broadcastInDim S4 ![] bcast_S_S4 (constant S_ .f32 0x45280000#32))) (broadcastInDim S4 ![] bcast_S_S4 (id (constant S_ .f32 0x3F800000#32)))
/-- the global scale of every block -/
def rowR (g : FVec Ideal S4 .f32) : FVec Ideal S52 .f32 := select (shapeCast _ (extractStridedSlice S1x52 ![3, 0] (memR X0) slices_S4x52_S1x52_3_0) shapeCasts_S1x52_S52) (broadcastInDim S52 ![] bcast_S_S52 (shapeCast _ (extractStridedSlice S1 ![3] g slices_S4_S1_3) shapeCasts_S1_S_)) (select (shapeCast _ (extractStridedSlice S1x52 ![2, 0] (memR X0) slices_S4x52_S1x52_2_0) shapeCasts_S1x52_S52) (broadcastInDim S52 ![] bcast_S_S52 (shapeCast _ (extractStridedSlice S1 ![2] g slices_S4_S1_2) shapeCasts_S1_S_)) (select (shapeCast _ (extractStridedSlice S1x52 ![1, 0] (memR X0) slices_S4x52_S1x52_1_0) shapeCasts_S1x52_S52) (broadcastInDim S52 ![] bcast_S_S52 (shapeCast _ (extractStridedSlice S1 ![1] g slices_S4_S1_1) shapeCasts_S1_S_)) (select (shapeCast _ (extractStridedSlice S1x52 ![0, 0] (memR X0) slices_S4x52_S1x52_0_0) shapeCasts_S1x52_S52) (broadcastInDim S52 ![] bcast_S_S52 (shapeCast _ (extractStridedSlice S1 ![0] g slices_S4_S1_0) shapeCasts_S1_S_)) (broadcastInDim S52 ![] bcast_S_S52 (constant S_ .f32 0x3F800000#32)))))
/-- and the codes of either operand. -/
def codeX (X1 : FVec Ideal S56x2880 .f32) (b : FVec Ideal S52 .f32) : FVec Ideal S52x2880 .fp8e4m3 := Host.convertf .fp8e4m3 (minimumf (broadcastInDim S52x2880 ![] bcast_S_S52x2880 (id (constant S_ .f32 0x43E00000#32))) (maximumf (broadcastInDim S52x2880 ![] bcast_S_S52x2880 (id (constant S_ .f32 0x00000000#32))) (Host.divf (extractStridedSlice S52x2880 ![0, 0] X1 slices_S56x2880_S52x2880_0_0) (broadcastInDim S52x2880 ![0, 1] bcast_S52x1_S52x2880_0_1 (mulf (broadcastInDim S52x1 ![] bcast_S_S52x1 (constant S_ .f32 0x40C00000#32)) (broadcastInDim S52x1 ![0] bcast_S52_S52x1_0 b))))))
def codeD (X2 : FVec Ideal S56x5760 .f32) (b : FVec Ideal S52 .f32) : FVec Ideal S52x5760 .fp8e4m3 := Host.convertf .fp8e4m3 (minimumf (broadcastInDim S52x5760 ![] bcast_S_S52x5760 (id (constant S_ .f32 0x43E00000#32))) (maximumf (broadcastInDim S52x5760 ![] bcast_S_S52x5760 (id (constant S_ .f32 0x00000000#32))) (Host.divf (extractStridedSlice S52x5760 ![0, 0] X2 slices_S56x5760_S52x5760_0_0) (broadcastInDim S52x5760 ![0, 1] bcast_S52x1_S52x5760_0_1 (mulf (broadcastInDim S52x1 ![] bcast_S_S52x1 (constant S_ .f32 0x40C00000#32)) (broadcastInDim S52x1 ![0] bcast_S52_S52x1_0 b))))))

section
variable (m : (ℓ : Loc nD τ sig) → Buf (Elt Ideal) ℓ) (c : Dev nD)

theorem res_gx : Cert.ScalesReferenceIdeal.Value.res_main_v26 (F := Ideal) m c
    = gR (topX (m ((c.tc : Thread nD τ).loc main_arg0)) (m ((c.tc : Thread nD τ).loc main_arg1))) := rfl
theorem res_gd : Cert.ScalesReferenceIdeal.Value.res_main_v64 (F := Ideal) m c
    = gR (topD (m ((c.tc : Thread nD τ).loc main_arg0)) (m ((c.tc : Thread nD τ).loc main_arg2))) := rfl
theorem res_sx : Cert.ScalesReferenceIdeal.Value.res_main_v54 (F := Ideal) m c
    = codeX (m ((c.tc : Thread nD τ).loc main_arg1)) (rowR (m ((c.tc : Thread nD τ).loc main_arg0))
        (gR (topX (m ((c.tc : Thread nD τ).loc main_arg0)) (m ((c.tc : Thread nD τ).loc main_arg1))))) := rfl
theorem res_sd : Cert.ScalesReferenceIdeal.Value.res_main_v92 (F := Ideal) m c
    = codeD (m ((c.tc : Thread nD τ).loc main_arg2)) (rowR (m ((c.tc : Thread nD τ).loc main_arg0))
        (gR (topD (m ((c.tc : Thread nD τ).loc main_arg0)) (m ((c.tc : Thread nD τ).loc main_arg2))))) := rfl
end

/-! ## The words -/

theorem blocksR_apply (i : Fin 4) (h : (X0 (ix1 i)).toNat ≤ 768) : blocksR X0 (ix1 i) = BitVec.ofNat 32 (((X0 (ix1 i)).toNat + 15) / 16) := by
  refine Routing.pyDiv_ap _ _ _ _ (a := (X0 (ix1 i)).toNat + 15) (b := 16) ?_ rfl (by omega) (by decide) (by decide)
  show X0 (ix1 i) + 15#32 = _
  refine BitVec.eq_of_toNat_eq ?_
  rw [BitVec.toNat_add]; simp

variable {X0} (h : Fit (X0 (ix1 0)) (X0 (ix1 1)) (X0 (ix1 2)) (X0 (ix1 3)))
include h

theorem blocksR_nb (e : Fin 4) : blocksR X0 (ix1 e) = BitVec.ofNat 32 (nb (X0 (ix1 0)) (X0 (ix1 1)) (X0 (ix1 2)) (X0 (ix1 3)) e) := by
  have hs := h.sum
  rw [blocksR_apply X0 e (by fin_cases e <;> simp <;> omega)]
  fin_cases e <;> rfl

theorem endR_apply (e : Fin 4) : endR X0 (ix1 e)
    = BitVec.ofNat 32 (st (X0 (ix1 0)) (X0 (ix1 1)) (X0 (ix1 2)) (X0 (ix1 3)) e + nb (X0 (ix1 0)) (X0 (ix1 1)) (X0 (ix1 2)) (X0 (ix1 3)) e) := by
  let f : ℕ → ℕ := fun n => if hn : n < 4 then nb (X0 (ix1 0)) (X0 (ix1 1)) (X0 (ix1 2)) (X0 (ix1 3)) ⟨n, hn⟩ else 0
  have hix : ∀ i : Fin 4, (ValueIdx.ix1 i : S4.Idx) = ix1 i := fun i => funext fun a => by fin_cases a; rfl
  have hc := Routing.cumsum1 (N := 4) (Nm1 := 3) rfl (blocksR X0) f (fun i => by rw [hix, blocksR_nb h]; simp [f])
    (broadcastInDim S_ ![] bcast_S_S_ (constantI S_ 32 0#32)) rfl reduceWindows_S4_S4_w4s1p3_0 h_S_ e
  rw [hix] at hc
  refine hc.trans ?_
  congr 1
  fin_cases e <;> simp [List.range_succ, f, st, Fin.sum_univ_four] <;> omega

theorem startR_apply (e : Fin 4) : startR X0 (ix1 e) = BitVec.ofNat 32 (st (X0 (ix1 0)) (X0 (ix1 1)) (X0 (ix1 2)) (X0 (ix1 3)) e) := by
  have hl := h.st_nb e
  show endR X0 (ix1 e) - blocksR X0 (ix1 e) = _
  rw [endR_apply h, blocksR_nb h]
  refine BitVec.eq_of_toNat_eq ?_
  rw [BitVec.toNat_sub]; simp; omega

theorem memR_apply (e : Fin 4) (r : Fin 52) : memR X0 (ix2 e r) = bitOf X0 e r.val := by
  pointwise [memR]
  rw [startR_apply h, endR_apply h]
  rfl

/-! ## The scales -/

omit h in
theorem const_zero : id (constant (F := Ideal) S_ .f32 0#32) ix0 = 0 := by
  show Ideal.ofBits .f32 0#32 = 0
  simp [Ideal.ofBits, Ideal.ieee]

omit h in
theorem const_one : id (constant (F := Ideal) S_ .f32 1065353216#32) ix0 = 1 := by
  show Ideal.ofBits .f32 1065353216#32 = 1
  simp [Ideal.ofBits, Ideal.ieee, -EReal.coe_mul]; norm_num

theorem topX_apply (X1 : FVec Ideal S56x2880 .f32) (e : Fin 4) :
    topX X0 X1 (ix1 e) = top (bitOf X0 e) (fun b j => X1 (ix2 b j)) := by
  rw [← top_eq (by decide) (bitOf X0 e) (fun r => isIn_out h e r)]
  pointwise [topX]
  rw [neg_inf]
  simp only [memR_apply h]
  refine congrArg (fun f => Finset.fold max ⊥ f Finset.univ) (funext fun p => ?_)
  rw [const_zero]

theorem topD_apply (X2 : FVec Ideal S56x5760 .f32) (e : Fin 4) :
    topD X0 X2 (ix1 e) = top (bitOf X0 e) (fun b j => X2 (ix2 b j)) := by
  rw [← top_eq (by decide) (bitOf X0 e) (fun r => isIn_out h e r)]
  pointwise [topD]
  rw [neg_inf]
  simp only [memR_apply h]
  refine congrArg (fun f => Finset.fold max ⊥ f Finset.univ) (funext fun p => ?_)
  rw [const_zero]

omit h in
theorem gR_apply (t : FVec Ideal S4 .f32) (e : Fin 4) : gR t (ix1 e) = scale (t (ix1 e)) := by
  pointwise [gR, scale]
  rw [const_one]

theorem rowR_apply (g : FVec Ideal S4 .f32) (r : Fin 52) : rowR X0 g (ix1 r) = rowScale (bitOf X0) (fun e => g (ix1 e)) r.val := by
  pointwise [rowR, rowScale]
  simp only [memR_apply h]

omit h in
theorem codeX_apply (X1 : FVec Ideal S56x2880 .f32) (b : FVec Ideal S52 .f32) (r : Fin 52) (j : Fin 2880) :
    codeX X1 b (ix2 r j) = code (X1 (ix2 ⟨r.val, by omega⟩ j)) (b (ix1 r)) := by
  pointwise [codeX, code]
  rw [const_zero]
  rfl

omit h in
theorem codeD_apply (X2 : FVec Ideal S56x5760 .f32) (b : FVec Ideal S52 .f32) (r : Fin 52) (j : Fin 5760) :
    codeD X2 b (ix2 r j) = code (X2 (ix2 ⟨r.val, by omega⟩ j)) (b (ix1 r)) := by
  pointwise [codeD, code]
  rw [const_zero]
  rfl

end Cert.Proof.Scales

end
-- ==== Proof.Scales.Agree.lean ====
/- The scales call and its reference agree over the extended reals. -/
module

public import proofs.«01_k».proof.Defs
public import proofs.«01_k».proof.Proof.Pre
public import proofs.«01_k».proof.Proof.Gen.Pre_sized
public import proofs.«01_k».proof.Proof.Gen.ScalesIdeal.Value
public import proofs.«01_k».proof.Proof.Scales.Value
public import proofs.«01_k».proof.Proof.Scales.Reference

@[expose] public section

noncomputable section

namespace Cert.Proof.Scales

open Cert.ScalesIdeal Cert.ScalesIdeal.Gen Cert.Proof.Words
open Idealize.ShloMosaic Idealize.ShloMosaic.TcCoe
open Idealize.ShloMosaic.Pipeline (Dat)
open Idealize.SL.Sem

/-! ## The results of the run, from the arguments -/

section
variable {F : FTy → Type} [FloatOps F] (m : (ℓ : Loc nD τ sig) → Buf (Elt F) ℓ) (c : Dev nD)

theorem iblk_0 (t : Fin cfg0.N) : iblk m c 0 t = m ((c : Thread nD τ).loc main_arg0) := by
  show (win0_0.blk t).view.read (Elt F) (m ((c : Thread nD τ).loc main_arg0)) = _
  exact Memref.read_access_unit_zero (Elt F) main_arg0
    (show (fun a => (win0_0.index t) a * main_arg0.ty.shape.size a) = fun _ => 0 from funext fun a => Nat.zero_mul _)
    (fun a => le_of_eq (by show 0 * _ + _ = _; rw [Nat.zero_mul, Nat.zero_add])) _
theorem iblk_1 (t : Fin cfg0.N) : iblk m c 1 t = m ((c : Thread nD τ).loc main_arg1) := by
  show (win0_1.blk t).view.read (Elt F) (m ((c : Thread nD τ).loc main_arg1)) = _
  exact Memref.read_access_unit_zero (Elt F) main_arg1
    (show (fun a => (win0_1.index t) a * main_arg1.ty.shape.size a) = fun _ => 0 from funext fun a => by fin_cases a <;> exact Nat.zero_mul _)
    (fun a => le_of_eq (by fin_cases a <;> (show 0 * _ + _ = _; rw [Nat.zero_mul, Nat.zero_add]))) _
theorem iblk_2 (t : Fin cfg0.N) : iblk m c 2 t = m ((c : Thread nD τ).loc main_arg2) := by
  show (win0_2.blk t).view.read (Elt F) (m ((c : Thread nD τ).loc main_arg2)) = _
  exact Memref.read_access_unit_zero (Elt F) main_arg2
    (show (fun a => (win0_2.index t) a * main_arg2.ty.shape.size a) = fun _ => 0 from funext fun a => by fin_cases a <;> exact Nat.zero_mul _)
    (fun a => le_of_eq (by fin_cases a <;> (show 0 * _ + _ = _; rw [Nat.zero_mul, Nat.zero_add]))) _

/-- A scale vector is one block, written back whole. -/
theorem out_gx : (dats m 0 c).arrAt 3 cfg0.N = leftGx c t0_0 (iblk m c 0 t0_0) (iblk m c 1 t0_0) (iblk m c 2 t0_0) := by
  have hb := (dats m 0 c).read_blk_arrAt_eq_flushed 3 Cert.ScalesIdeal.Value.disjoint3 cfg0.N t0_0 t0_0.isLt (by decide)
  have hr : (win0_3.blk t0_0).view.read (Elt F) ((dats m 0 c).arrAt 3 cfg0.N) = (dats m 0 c).arrAt 3 cfg0.N :=
    Memref.read_access_unit_zero (Elt F) main_v0_1
      (show (fun a => (win0_3.index t0_0) a * main_v0_1.ty.shape.size a) = fun _ => 0 from funext fun a => Nat.zero_mul _)
      (fun a => le_of_eq (by show 0 * _ + _ = _; rw [Nat.zero_mul, Nat.zero_add])) _
  refine hr.symm.trans (hb.trans ?_)
  show (cfg0.win 3).cut (grid0.coords t0_0) ((dats m 0 c).after 3 t0_0) = _
  rw [after_3]
  rfl
theorem out_gd : (dats m 0 c).arrAt 4 cfg0.N = leftGd c t0_0 (iblk m c 0 t0_0) (iblk m c 1 t0_0) (iblk m c 2 t0_0) := by
  have hb := (dats m 0 c).read_blk_arrAt_eq_flushed 4 Cert.ScalesIdeal.Value.disjoint4 cfg0.N t0_0 t0_0.isLt (by decide)
  have hr : (win0_4.blk t0_0).view.read (Elt F) ((dats m 0 c).arrAt 4 cfg0.N) = (dats m 0 c).arrAt 4 cfg0.N :=
    Memref.read_access_unit_zero (Elt F) main_v0_3
      (show (fun a => (win0_4.index t0_0) a * main_v0_3.ty.shape.size a) = fun _ => 0 from funext fun a => Nat.zero_mul _)
      (fun a => le_of_eq (by show 0 * _ + _ = _; rw [Nat.zero_mul, Nat.zero_add])) _
  refine hr.symm.trans (hb.trans ?_)
  show (cfg0.win 4).cut (grid0.coords t0_0) ((dats m 0 c).after 4 t0_0) = _
  rw [after_4]
  rfl
end

/-! ## The agreement -/

/-- The precondition gives the four sizes a sum of at most 768. -/
theorem fit_of_sized (X : IVec S4 32) (a : FVec Ideal S56x2880 .f32) (b : FVec Ideal S56x5760 .f32)
    (h : Cert.Pre_sized.fn (F := Ideal) X a b = fun _ => 1#1) : Fit (X (ix1 0)) (X (ix1 1)) (X (ix1 2)) (X (ix1 3)) :=
  fit_of_pre (F := Ideal) X (fun _ => 0) (fun _ => 0) (fun _ => 0) (fun _ => 0) h (fun e => ix1 e) fun e a => by fin_cases a; rfl

section
variable (c : Dev nD) (X0 : IVec S4 32) (X1 : FVec Ideal S56x2880 .f32) (X2 : FVec Ideal S56x5760 .f32)
  (h : Fit (X0 (ix1 0)) (X0 (ix1 1)) (X0 (ix1 2)) (X0 (ix1 3)))
include h

theorem gX_eq (e : Fin 4) : gR (topX X0 X1) (ix1 e) = gOf X0 X1 e := by
  rw [gR_apply, topX_apply h]; rfl
theorem gD_eq (e : Fin 4) : gR (topD X0 X2) (ix1 e) = gOf X0 X2 e := by
  rw [gR_apply, topD_apply h]; rfl

theorem agree_gx : gR (topX X0 X1) = leftGx (F := Ideal) c t0_0 X0 X1 X2 := by
  rw [leftGx_eq c t0_0 X1 X2 h]
  funext i
  obtain ⟨e, rfl⟩ : ∃ e : Fin 4, i = ix1 e := ⟨i 0, funext fun a => by fin_cases a; rfl⟩
  exact gX_eq X0 X1 h e
theorem agree_gd : gR (topD X0 X2) = leftGd (F := Ideal) c t0_0 X0 X1 X2 := by
  rw [leftGd_eq c t0_0 X1 X2 h]
  funext i
  obtain ⟨e, rfl⟩ : ∃ e : Fin 4, i = ix1 e := ⟨i 0, funext fun a => by fin_cases a; rfl⟩
  exact gD_eq X0 X2 h e
theorem agree_sx : codeX X1 (rowR X0 (gR (topX X0 X1))) = leftSx (F := Ideal) c t0_0 X0 X1 X2 := by
  funext i
  obtain ⟨b, j, rfl⟩ : ∃ (b : Fin 52) (j : Fin 2880), i = ix2 b j := ⟨i 0, i 1, funext fun a => by fin_cases a <;> rfl⟩
  refine Eq.trans ?_ (leftSx_apply c t0_0 X1 X2 h b j).symm
  rw [codeX_apply, rowR_apply h]
  simp only [gX_eq X0 X1 h]
theorem agree_sd : codeD X2 (rowR X0 (gR (topD X0 X2))) = leftSd (F := Ideal) c t0_0 X0 X1 X2 := by
  funext i
  obtain ⟨b, j, rfl⟩ : ∃ (b : Fin 52) (j : Fin 5760), i = ix2 b j := ⟨i 0, i 1, funext fun a => by fin_cases a <;> rfl⟩
  refine Eq.trans ?_ (leftSd_apply c t0_0 X1 X2 h b j).symm
  rw [codeD_apply, rowR_apply h]
  simp only [gD_eq X0 X2 h]

end

theorem algebraic : Cert.algebraic_ScalesIdeal_ScalesReferenceIdeal_pre_sized := fun m ρ m' ρ' hpre hargs => by
  have hfit := fun c => fit_of_sized _ _ _ (hpre c)
  refine ⟨outSx m, fun c => (dats m 0 c).arrAt 3 cfg0.N, outSd m, fun c => (dats m 0 c).arrAt 4 cfg0.N, run m ρ,
    (θ_run Cert.ScalesReferenceIdeal.defs _ _).mono (fun _ h c => ?_) (Cert.ScalesReferenceIdeal.Value.run m' ρ')⟩
  obtain ⟨hsx, hgx, hsd, hgd, hk⟩ := h c
  obtain ⟨a0, a1, a2⟩ := hargs c
  refine ⟨hsx.trans ?_, hgx.trans ?_, hsd.trans ?_, hgd.trans ?_, hk⟩
  · rw [res_sx, a0, a1]; unfold outSx; rw [iblk_0, iblk_1, iblk_2]; exact agree_sx c _ _ _ (hfit c)
  · dsimp only; rw [res_gx, a0, a1, out_gx, iblk_0, iblk_1, iblk_2]; exact agree_gx c _ _ _ (hfit c)
  · rw [res_sd, a0, a2]; unfold outSd; rw [iblk_0, iblk_1, iblk_2]; exact agree_sd c _ _ _ (hfit c)
  · dsimp only; rw [res_gd, a0, a2, out_gd, iblk_0, iblk_1, iblk_2]; exact agree_gd c _ _ _ (hfit c)

end Cert.Proof.Scales

end
-- ==== Proof.lean ====
/- The claims, each from the module that proves it. -/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Pre
public import proofs.«01_k».proof.Proof.Value.Result
public import proofs.«01_k».proof.Proof.Value.Reference
public import Idealize.ShloMosaic.Lib.Bf16Pair
public import proofs.«01_k».proof.Proof.Gen.Scales
public import proofs.«01_k».proof.Proof.Gen.Scales.Value
public import proofs.«01_k».proof.Proof.Gen.ScalesIdeal.Value
public import proofs.«01_k».proof.Proof.Gen.Pre_sized
public import proofs.«01_k».proof.Proof.Scales.Agree
public import proofs.«01_k».proof.Proof.Gen.ScalesReferenceIdeal.Run

@[expose] public section

noncomputable section

namespace Cert.Proof

open Idealize.ShloMosaic Idealize.ShloMosaic.TcCoe
open Idealize.SL.Sem

/-- The precondition is what the kernel's run asks of the group sizes. -/
theorem fits_kernel (m : (ℓ : Loc Cert.Kernel.nD Cert.Kernel.τ Cert.Kernel.sig) → Buf (Elt Bits) ℓ) (h : Cert.Pre_Kernel m) : Kernel.Fits m := fun c =>
  fit_of_pre _ _ _ _ _ (h c) Kernel.ix4 fun _ _ => rfl
theorem fits_kernelIdeal (m : (ℓ : Loc Cert.KernelIdeal.nD Cert.KernelIdeal.τ Cert.KernelIdeal.sig) → Buf (Elt Ideal) ℓ) (h : Cert.Pre_KernelIdeal m) : KernelIdeal.Fits m := fun c =>
  fit_of_pre _ _ _ _ _ (h c) KernelIdeal.ix4 fun _ _ => rfl

/-- The kernel runs, leaves its arguments, and ends with its semaphores at rest; -/
theorem frame_kernel : Cert.quiescent_Kernel := fun m ρ hpre =>
  (θ_run Cert.Kernel.defs _ _).mono (fun _ h => ⟨fun c => (h.1 c).2, h.2⟩) (Kernel.run m ρ (fits_kernel m hpre))
/-- so does the idealized kernel; -/
theorem frame_kernelIdeal : Cert.quiescent_KernelIdeal := fun m ρ hpre =>
  (θ_run Cert.KernelIdeal.defs _ _).mono (fun _ h => ⟨fun c => (h.1 c).2, h.2⟩) (KernelIdeal.run m ρ (fits_kernelIdeal m hpre))
/-- and so does the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The rewrites of the idealization: at each depth of a slab the pairs of rows read as words, and the select of whole words. -/
theorem preserves : Cert.preserves_Kernel_KernelIdeal :=
  ⟨IdealRules.bf16_pair.statement _ _, IdealRules.bf16_pair.selectZeroStatement _, IdealRules.bf16_pair.statement _ _,
    IdealRules.bf16_pair.selectZeroStatement _, IdealRules.bf16_pair.statement _ _, IdealRules.bf16_pair.selectZeroStatement _⟩

/-- Over the extended reals the kernel's result is the reference's. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (hfit : KernelIdeal.Fits m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v29 (F := Ideal) m' c = KernelIdeal.out m c := by
  have hix : ∀ e, KernelIdeal.ix4 e = ix1 e := fun e => funext fun a => by fin_cases a; rfl
  have hf := hfit c
  rw [Value.res_eq, h0, h1, h2, h3, h4]
  funext y
  obtain ⟨e, p, q, rfl⟩ : ∃ (e : Fin 4) (p : Fin 2880) (q : Fin 5760), y = ix3 e p q := ⟨y 0, y 1, y 2, funext fun a => by fin_cases a <;> rfl⟩
  have hv := Value.result_value hf (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (ix3 e p q)
  refine Eq.trans ?_ hv.symm
  rw [show (ix3 e p q : Cert.KernelIdeal.S4x2880x5760.Idx) 0 = e from rfl]
  simp only [hix] at hf ⊢
  exact Value.rowsR_apply hf _ _ _ _ e p q

theorem algebraic : Cert.algebraic_KernelIdeal_ReferenceIdeal := fun m ρ m' ρ' hpre hargs =>
  ⟨KernelIdeal.out m, (θ_run Cert.KernelIdeal.defs _ _).mono (fun _ h => h.1) (KernelIdeal.run m ρ (fits_kernelIdeal m hpre)),
    (θ_run Cert.ReferenceIdeal.defs _ _).mono
      (fun _ h c => ⟨(h c).1.trans (out_eq m m' c (fits_kernelIdeal m hpre) (hargs c).1 (hargs c).2.1 (hargs c).2.2.1 (hargs c).2.2.2.1 (hargs c).2.2.2.2), (h c).2⟩)
      (Cert.ReferenceIdeal.Value.run m' ρ')⟩

/-- The reference of the scales leaves its arguments, and has no semaphore. -/
theorem frame_scalesReferenceIdeal : Cert.quiescent_ScalesReferenceIdeal := fun m ρ _ =>
  (θ_run Cert.ScalesReferenceIdeal.defs _ _).mono (fun r h => ⟨fun c => (h c).2.2.2.2, sem_eq_zero_of_no_sems (by decide) r.2⟩)
    (Cert.ScalesReferenceIdeal.Value.run m ρ)

theorem claim : Cert.Claim :=
  ⟨Cert.Kernel.Gen.facts, Cert.KernelIdeal.Gen.facts, Cert.ReferenceIdeal.Gen.facts, Cert.Scales.Gen.facts, Cert.ScalesIdeal.Gen.facts,
    Cert.ScalesReferenceIdeal.Gen.facts, Cert.Pre_fits.Gen.facts, Cert.Pre_sized.Gen.facts,
    frame_kernel, frame_kernelIdeal, frame_referenceIdeal,
    fun m ρ _ => Cert.Scales.Gen.frame m ρ, fun m ρ _ => Cert.ScalesIdeal.Gen.frame m ρ, fun m ρ _ => Cert.ScalesIdeal.Gen.frame m ρ,
    frame_scalesReferenceIdeal, fun m ρ _ => frame_scalesReferenceIdeal m ρ trivial,
    preserves, algebraic, trivial, Scales.algebraic⟩

end Cert.Proof

end
